-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def Pre_Kernel52 (m : (ℓ : Loc Cert.Kernel52.nD Cert.Kernel52.τ Cert.Kernel52.sig) → Buf (Elt Bits) ℓ) : Prop :=
  True

def Pre_Kernel52Ideal (m : (ℓ : Loc Cert.Kernel52Ideal.nD Cert.Kernel52Ideal.τ Cert.Kernel52Ideal.sig) → Buf (Elt Ideal) ℓ) : Prop :=
  True

def Pre_Reference52Ideal (m : (ℓ : Loc Cert.Reference52Ideal.nD Cert.Reference52Ideal.τ Cert.Reference52Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3)
      ∧ r.2.mem ((c.tc : Thread Cert.Kernel41.nD Cert.Kernel41.τ).loc Cert.Kernel41.main_arg4) = m ((c.tc : Thread Cert.Kernel41.nD Cert.Kernel41.τ).loc Cert.Kernel41.main_arg4))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
      ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3)
      ∧ r.2.mem ((c.tc : Thread Cert.Reference41Ideal.nD Cert.Reference41Ideal.τ).loc Cert.Reference41Ideal.main_arg4) = m ((c.tc : Thread Cert.Reference41Ideal.nD Cert.Reference41Ideal.τ).loc Cert.Reference41Ideal.main_arg4))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3)
      ∧ r.2.mem ((c.tc : Thread Cert.Kernel42.nD Cert.Kernel42.τ).loc Cert.Kernel42.main_arg4) = m ((c.tc : Thread Cert.Kernel42.nD Cert.Kernel42.τ).loc Cert.Kernel42.main_arg4))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
      ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3)
      ∧ r.2.mem ((c.tc : Thread Cert.Reference42Ideal.nD Cert.Reference42Ideal.τ).loc Cert.Reference42Ideal.main_arg4) = m ((c.tc : Thread Cert.Reference42Ideal.nD Cert.Reference42Ideal.τ).loc Cert.Reference42Ideal.main_arg4))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3)
      ∧ r.2.mem ((c.tc : Thread Cert.Kernel43.nD Cert.Kernel43.τ).loc Cert.Kernel43.main_arg4) = m ((c.tc : Thread Cert.Kernel43.nD Cert.Kernel43.τ).loc Cert.Kernel43.main_arg4))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
      ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3)
      ∧ r.2.mem ((c.tc : Thread Cert.Reference43Ideal.nD Cert.Reference43Ideal.τ).loc Cert.Reference43Ideal.main_arg4) = m ((c.tc : Thread Cert.Reference43Ideal.nD Cert.Reference43Ideal.τ).loc Cert.Reference43Ideal.main_arg4))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3)
      ∧ r.2.mem ((c.tc : Thread Cert.Kernel44.nD Cert.Kernel44.τ).loc Cert.Kernel44.main_arg4) = m ((c.tc : Thread Cert.Kernel44.nD Cert.Kernel44.τ).loc Cert.Kernel44.main_arg4))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
      ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3)
      ∧ r.2.mem ((c.tc : Thread Cert.Reference44Ideal.nD Cert.Reference44Ideal.τ).loc Cert.Reference44Ideal.main_arg4) = m ((c.tc : Thread Cert.Reference44Ideal.nD Cert.Reference44Ideal.τ).loc Cert.Reference44Ideal.main_arg4))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2)
      ∧ r.2.mem ((c.tc : Thread Cert.Kernel45.nD Cert.Kernel45.τ).loc Cert.Kernel45.main_arg3) = m ((c.tc : Thread Cert.Kernel45.nD Cert.Kernel45.τ).loc Cert.Kernel45.main_arg3)
      ∧ r.2.mem ((c.tc : Thread Cert.Kernel45.nD Cert.Kernel45.τ).loc Cert.Kernel45.main_arg4) = m ((c.tc : Thread Cert.Kernel45.nD Cert.Kernel45.τ).loc Cert.Kernel45.main_arg4))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
      ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
      ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2)
      ∧ r.2.mem ((c.tc : Thread Cert.Reference45Ideal.nD Cert.Reference45Ideal.τ).loc Cert.Reference45Ideal.main_arg3) = m ((c.tc : Thread Cert.Reference45Ideal.nD Cert.Reference45Ideal.τ).loc Cert.Reference45Ideal.main_arg3)
      ∧ r.2.mem ((c.tc : Thread Cert.Reference45Ideal.nD Cert.Reference45Ideal.τ).loc Cert.Reference45Ideal.main_arg4) = m ((c.tc : Thread Cert.Reference45Ideal.nD Cert.Reference45Ideal.τ).loc Cert.Reference45Ideal.main_arg4))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1)
      ∧ r.2.mem ((c.tc : Thread Cert.Kernel51.nD Cert.Kernel51.τ).loc Cert.Kernel51.main_arg2) = m ((c.tc : Thread Cert.Kernel51.nD Cert.Kernel51.τ).loc Cert.Kernel51.main_arg2)
      ∧ r.2.mem ((c.tc : Thread Cert.Kernel51.nD Cert.Kernel51.τ).loc Cert.Kernel51.main_arg3) = m ((c.tc : Thread Cert.Kernel51.nD Cert.Kernel51.τ).loc Cert.Kernel51.main_arg3)
      ∧ r.2.mem ((c.tc : Thread Cert.Kernel51.nD Cert.Kernel51.τ).loc Cert.Kernel51.main_arg4) = m ((c.tc : Thread Cert.Kernel51.nD Cert.Kernel51.τ).loc Cert.Kernel51.main_arg4)
      ∧ r.2.mem ((c.tc : Thread Cert.Kernel51.nD Cert.Kernel51.τ).loc Cert.Kernel51.main_arg5) = m ((c.tc : Thread Cert.Kernel51.nD Cert.Kernel51.τ).loc Cert.Kernel51.main_arg5))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
      ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
      ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3)
      ∧ r.2.mem ((c.tc : Thread Cert.Kernel51Ideal.nD Cert.Kernel51Ideal.τ).loc Cert.Kernel51Ideal.main_arg4) = m ((c.tc : Thread Cert.Kernel51Ideal.nD Cert.Kernel51Ideal.τ).loc Cert.Kernel51Ideal.main_arg4)
      ∧ r.2.mem ((c.tc : Thread Cert.Kernel51Ideal.nD Cert.Kernel51Ideal.τ).loc Cert.Kernel51Ideal.main_arg5) = m ((c.tc : Thread Cert.Kernel51Ideal.nD Cert.Kernel51Ideal.τ).loc Cert.Kernel51Ideal.main_arg5))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1)
      ∧ r.2.mem ((c.tc : Thread Cert.Reference51Ideal.nD Cert.Reference51Ideal.τ).loc Cert.Reference51Ideal.main_arg2) = m ((c.tc : Thread Cert.Reference51Ideal.nD Cert.Reference51Ideal.τ).loc Cert.Reference51Ideal.main_arg2)
      ∧ r.2.mem ((c.tc : Thread Cert.Reference51Ideal.nD Cert.Reference51Ideal.τ).loc Cert.Reference51Ideal.main_arg3) = m ((c.tc : Thread Cert.Reference51Ideal.nD Cert.Reference51Ideal.τ).loc Cert.Reference51Ideal.main_arg3)
      ∧ r.2.mem ((c.tc : Thread Cert.Reference51Ideal.nD Cert.Reference51Ideal.τ).loc Cert.Reference51Ideal.main_arg4) = m ((c.tc : Thread Cert.Reference51Ideal.nD Cert.Reference51Ideal.τ).loc Cert.Reference51Ideal.main_arg4)
      ∧ r.2.mem ((c.tc : Thread Cert.Reference51Ideal.nD Cert.Reference51Ideal.τ).loc Cert.Reference51Ideal.main_arg5) = m ((c.tc : Thread Cert.Reference51Ideal.nD Cert.Reference51Ideal.τ).loc Cert.Reference51Ideal.main_arg5))
      ∧ r.2.sem = fun _ => 0)

def quiescent_Kernel52 [hKernel52 : Cert.Kernel52.Facts] : Prop :=
  ∀ (m : (ℓ : Loc Cert.Kernel52.nD Cert.Kernel52.τ Cert.Kernel52.sig) → Buf (Elt Bits) ℓ) (g : Dev Cert.Kernel52.nD → PrngReg), Pre_Kernel52 m →
    θ_run (Cert.Kernel52.defs (F := Bits)) (onTc (τ := Cert.Kernel52.τ) (Cert.Kernel52.main (F := Bits))) ⟨m, fun _ => 0, g⟩ (fun r => (∀ c : Dev Cert.Kernel52.nD,
      r.2.mem ((c.tc : Thread Cert.Kernel52.nD Cert.Kernel52.τ).loc Cert.Kernel52.main_arg0) = m ((c.tc : Thread Cert.Kernel52.nD Cert.Kernel52.τ).loc Cert.Kernel52.main_arg0)
      ∧ r.2.mem ((c.tc : Thread Cert.Kernel52.nD Cert.Kernel52.τ).loc Cert.Kernel52.main_arg1) = m ((c.tc : Thread Cert.Kernel52.nD Cert.Kernel52.τ).loc Cert.Kernel52.main_arg1)
      ∧ r.2.mem ((c.tc : Thread Cert.Kernel52.nD Cert.Kernel52.τ).loc Cert.Kernel52.main_arg2) = m ((c.tc : Thread Cert.Kernel52.nD Cert.Kernel52.τ).loc Cert.Kernel52.main_arg2)
      ∧ r.2.mem ((c.tc : Thread Cert.Kernel52.nD Cert.Kernel52.τ).loc Cert.Kernel52.main_arg3) = m ((c.tc : Thread Cert.Kernel52.nD Cert.Kernel52.τ).loc Cert.Kernel52.main_arg3)
      ∧ r.2.mem ((c.tc : Thread Cert.Kernel52.nD Cert.Kernel52.τ).loc Cert.Kernel52.main_arg4) = m ((c.tc : Thread Cert.Kernel52.nD Cert.Kernel52.τ).loc Cert.Kernel52.main_arg4)
      ∧ r.2.mem ((c.tc : Thread Cert.Kernel52.nD Cert.Kernel52.τ).loc Cert.Kernel52.main_arg5) = m ((c.tc : Thread Cert.Kernel52.nD Cert.Kernel52.τ).loc Cert.Kernel52.main_arg5)
      ∧ r.2.mem ((c.tc : Thread Cert.Kernel52.nD Cert.Kernel52.τ).loc Cert.Kernel52.main_arg6) = m ((c.tc : Thread Cert.Kernel52.nD Cert.Kernel52.τ).loc Cert.Kernel52.main_arg6)
      ∧ r.2.mem ((c.tc : Thread Cert.Kernel52.nD Cert.Kernel52.τ).loc Cert.Kernel52.main_arg7) = m ((c.tc : Thread Cert.Kernel52.nD Cert.Kernel52.τ).loc Cert.Kernel52.main_arg7))
      ∧ r.2.sem = fun _ => 0)

def quiescent_Kernel52Ideal [hKernel52Ideal : Cert.Kernel52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg), Pre_Kernel52Ideal m →
    θ_run (Cert.Kernel52Ideal.defs (F := Ideal)) (onTc (τ := Cert.Kernel52Ideal.τ) (Cert.Kernel52Ideal.main (F := Ideal))) ⟨m, fun _ => 0, g⟩ (fun r => (∀ c : Dev Cert.Kernel52Ideal.nD,
      r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
      ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
      ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
      ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3)
      ∧ r.2.mem ((c.tc : Thread Cert.Kernel52Ideal.nD Cert.Kernel52Ideal.τ).loc Cert.Kernel52Ideal.main_arg4) = m ((c.tc : Thread Cert.Kernel52Ideal.nD Cert.Kernel52Ideal.τ).loc Cert.Kernel52Ideal.main_arg4)
      ∧ r.2.mem ((c.tc : Thread Cert.Kernel52Ideal.nD Cert.Kernel52Ideal.τ).loc Cert.Kernel52Ideal.main_arg5) = m ((c.tc : Thread Cert.Kernel52Ideal.nD Cert.Kernel52Ideal.τ).loc Cert.Kernel52Ideal.main_arg5)
      ∧ r.2.mem ((c.tc : Thread Cert.Kernel52Ideal.nD Cert.Kernel52Ideal.τ).loc Cert.Kernel52Ideal.main_arg6) = m ((c.tc : Thread Cert.Kernel52Ideal.nD Cert.Kernel52Ideal.τ).loc Cert.Kernel52Ideal.main_arg6)
      ∧ r.2.mem ((c.tc : Thread Cert.Kernel52Ideal.nD Cert.Kernel52Ideal.τ).loc Cert.Kernel52Ideal.main_arg7) = m ((c.tc : Thread Cert.Kernel52Ideal.nD Cert.Kernel52Ideal.τ).loc Cert.Kernel52Ideal.main_arg7))
      ∧ r.2.sem = fun _ => 0)

def quiescent_Reference52Ideal [hReference52Ideal : Cert.Reference52Ideal.Facts] : Prop :=
  ∀ (m : (ℓ : Loc Cert.Reference52Ideal.nD Cert.Reference52Ideal.τ Cert.Reference52Ideal.sig) → Buf (Elt Ideal) ℓ) (g : Dev Cert.Reference52Ideal.nD → PrngReg), Pre_Reference52Ideal m →
    θ_run (Cert.Reference52Ideal.defs (F := Ideal)) (onTc (τ := Cert.Reference52Ideal.τ) (Cert.Reference52Ideal.main (F := Ideal))) ⟨m, fun _ => 0, g⟩ (fun r => (∀ c : Dev Cert.Reference52Ideal.nD,
      r.2.mem ((c.tc : Thread Cert.Reference52Ideal.nD Cert.Reference52Ideal.τ).loc Cert.Reference52Ideal.main_arg0) = m ((c.tc : Thread Cert.Reference52Ideal.nD Cert.Reference52Ideal.τ).loc Cert.Reference52Ideal.main_arg0)
      ∧ r.2.mem ((c.tc : Thread Cert.Reference52Ideal.nD Cert.Reference52Ideal.τ).loc Cert.Reference52Ideal.main_arg1) = m ((c.tc : Thread Cert.Reference52Ideal.nD Cert.Reference52Ideal.τ).loc Cert.Reference52Ideal.main_arg1)
      ∧ r.2.mem ((c.tc : Thread Cert.Reference52Ideal.nD Cert.Reference52Ideal.τ).loc Cert.Reference52Ideal.main_arg2) = m ((c.tc : Thread Cert.Reference52Ideal.nD Cert.Reference52Ideal.τ).loc Cert.Reference52Ideal.main_arg2)
      ∧ r.2.mem ((c.tc : Thread Cert.Reference52Ideal.nD Cert.Reference52Ideal.τ).loc Cert.Reference52Ideal.main_arg3) = m ((c.tc : Thread Cert.Reference52Ideal.nD Cert.Reference52Ideal.τ).loc Cert.Reference52Ideal.main_arg3)
      ∧ r.2.mem ((c.tc : Thread Cert.Reference52Ideal.nD Cert.Reference52Ideal.τ).loc Cert.Reference52Ideal.main_arg4) = m ((c.tc : Thread Cert.Reference52Ideal.nD Cert.Reference52Ideal.τ).loc Cert.Reference52Ideal.main_arg4)
      ∧ r.2.mem ((c.tc : Thread Cert.Reference52Ideal.nD Cert.Reference52Ideal.τ).loc Cert.Reference52Ideal.main_arg5) = m ((c.tc : Thread Cert.Reference52Ideal.nD Cert.Reference52Ideal.τ).loc Cert.Reference52Ideal.main_arg5)
      ∧ r.2.mem ((c.tc : Thread Cert.Reference52Ideal.nD Cert.Reference52Ideal.τ).loc Cert.Reference52Ideal.main_arg6) = m ((c.tc : Thread Cert.Reference52Ideal.nD Cert.Reference52Ideal.τ).loc Cert.Reference52Ideal.main_arg6)
      ∧ r.2.mem ((c.tc : Thread Cert.Reference52Ideal.nD Cert.Reference52Ideal.τ).loc Cert.Reference52Ideal.main_arg7) = m ((c.tc : Thread Cert.Reference52Ideal.nD Cert.Reference52Ideal.τ).loc Cert.Reference52Ideal.main_arg7))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v17_0)) (v2 : (c : Dev Cert.KernelIdeal.nD) → Buf (Elt Ideal) ((c.tc : Thread Cert.KernelIdeal.nD Cert.KernelIdeal.τ).loc Cert.KernelIdeal.main_v17_1)) (v3 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v17_0) = v1 c
          ∧ r.2.mem ((c.tc : Thread Cert.KernelIdeal.nD Cert.KernelIdeal.τ).loc Cert.KernelIdeal.main_v17_1) = v2 c
          ∧ r.2.mem ((c.tc : Thread Cert.KernelIdeal.nD Cert.KernelIdeal.τ).loc Cert.KernelIdeal.main_v17_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v30) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v3_0)) (v1 : (c : Dev Cert.Kernel28Ideal.nD) → Buf (Elt Ideal) ((c.tc : Thread Cert.Kernel28Ideal.nD Cert.Kernel28Ideal.τ).loc Cert.Kernel28Ideal.main_v3_1)) (v2 : (c : Dev Cert.Kernel28Ideal.nD) → Buf (Elt Ideal) ((c.tc : Thread Cert.Kernel28Ideal.nD Cert.Kernel28Ideal.τ).loc Cert.Kernel28Ideal.main_v3_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v3_0) = v0 c
          ∧ r.2.mem ((c.tc : Thread Cert.Kernel28Ideal.nD Cert.Kernel28Ideal.τ).loc Cert.Kernel28Ideal.main_v3_1) = v1 c
          ∧ r.2.mem ((c.tc : Thread Cert.Kernel28Ideal.nD Cert.Kernel28Ideal.τ).loc Cert.Kernel28Ideal.main_v3_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v75) = v0 c
          ∧ r.2.mem ((c.tc : Thread Cert.Reference28Ideal.nD Cert.Reference28Ideal.τ).loc Cert.Reference28Ideal.main_v66) = v1 c
          ∧ r.2.mem ((c.tc : Thread Cert.Reference28Ideal.nD Cert.Reference28Ideal.τ).loc Cert.Reference28Ideal.main_v76) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v15) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)) →
    ∃ (v0 : (c : Dev Cert.Kernel32Ideal.nD) → Buf (Elt Ideal) ((c.tc : Thread Cert.Kernel32Ideal.nD Cert.Kernel32Ideal.τ).loc Cert.Kernel32Ideal.main_v5_0)) (v1 : (c : Dev Cert.Kernel32Ideal.nD) → Buf (Elt Ideal) ((c.tc : Thread Cert.Kernel32Ideal.nD Cert.Kernel32Ideal.τ).loc Cert.Kernel32Ideal.main_v5_1)) (v2 : (c : Dev Cert.Kernel32Ideal.nD) → Buf (Elt Ideal) ((c.tc : Thread Cert.Kernel32Ideal.nD Cert.Kernel32Ideal.τ).loc Cert.Kernel32Ideal.main_v5_2)) (v3 : (c : Dev Cert.Kernel32Ideal.nD) → Buf (Elt Ideal) ((c.tc : Thread Cert.Kernel32Ideal.nD Cert.Kernel32Ideal.τ).loc Cert.Kernel32Ideal.main_v5_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v5_0) = v0 c
          ∧ r.2.mem ((c.tc : Thread Cert.Kernel32Ideal.nD Cert.Kernel32Ideal.τ).loc Cert.Kernel32Ideal.main_v5_1) = v1 c
          ∧ r.2.mem ((c.tc : Thread Cert.Kernel32Ideal.nD Cert.Kernel32Ideal.τ).loc Cert.Kernel32Ideal.main_v5_2) = v2 c
          ∧ r.2.mem ((c.tc : Thread Cert.Kernel32Ideal.nD Cert.Kernel32Ideal.τ).loc Cert.Kernel32Ideal.main_v5_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v29) = v0 c
          ∧ r.2.mem ((c.tc : Thread Cert.Reference32Ideal.nD Cert.Reference32Ideal.τ).loc Cert.Reference32Ideal.main_v30) = v1 c
          ∧ r.2.mem ((c.tc : Thread Cert.Reference32Ideal.nD Cert.Reference32Ideal.τ).loc Cert.Reference32Ideal.main_v31) = v2 c
          ∧ r.2.mem ((c.tc : Thread Cert.Reference32Ideal.nD Cert.Reference32Ideal.τ).loc Cert.Reference32Ideal.main_v32) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v0) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v3) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v2) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)) →
    ∃ (v0 : (c : Dev Cert.Kernel40Ideal.nD) → Buf (Elt Ideal) ((c.tc : Thread Cert.Kernel40Ideal.nD Cert.Kernel40Ideal.τ).loc Cert.Kernel40Ideal.main_v5_0)) (v1 : (c : Dev Cert.Kernel40Ideal.nD) → Buf (Elt Ideal) ((c.tc : Thread Cert.Kernel40Ideal.nD Cert.Kernel40Ideal.τ).loc Cert.Kernel40Ideal.main_v5_1)) (v2 : (c : Dev Cert.Kernel40Ideal.nD) → Buf (Elt Ideal) ((c.tc : Thread Cert.Kernel40Ideal.nD Cert.Kernel40Ideal.τ).loc Cert.Kernel40Ideal.main_v5_2)) (v3 : (c : Dev Cert.Kernel40Ideal.nD) → Buf (Elt Ideal) ((c.tc : Thread Cert.Kernel40Ideal.nD Cert.Kernel40Ideal.τ).loc Cert.Kernel40Ideal.main_v5_3)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v5_0) = v0 c
          ∧ r.2.mem ((c.tc : Thread Cert.Kernel40Ideal.nD Cert.Kernel40Ideal.τ).loc Cert.Kernel40Ideal.main_v5_1) = v1 c
          ∧ r.2.mem ((c.tc : Thread Cert.Kernel40Ideal.nD Cert.Kernel40Ideal.τ).loc Cert.Kernel40Ideal.main_v5_2) = v2 c
          ∧ r.2.mem ((c.tc : Thread Cert.Kernel40Ideal.nD Cert.Kernel40Ideal.τ).loc Cert.Kernel40Ideal.main_v5_3) = v3 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v28) = v0 c
          ∧ r.2.mem ((c.tc : Thread Cert.Reference40Ideal.nD Cert.Reference40Ideal.τ).loc Cert.Reference40Ideal.main_v29) = v1 c
          ∧ r.2.mem ((c.tc : Thread Cert.Reference40Ideal.nD Cert.Reference40Ideal.τ).loc Cert.Reference40Ideal.main_v30) = v2 c
          ∧ r.2.mem ((c.tc : Thread Cert.Reference40Ideal.nD Cert.Reference40Ideal.τ).loc Cert.Reference40Ideal.main_v31) = v3 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)
      ∧ m' ((c.tc : Thread Cert.Reference41Ideal.nD Cert.Reference41Ideal.τ).loc Cert.Reference41Ideal.main_arg4) = m ((c.tc : Thread Cert.Kernel41Ideal.nD Cert.Kernel41Ideal.τ).loc Cert.Kernel41Ideal.main_arg4)) →
    ∃ (v0 : (c : Dev Cert.Kernel41Ideal.nD) → Buf (Elt Ideal) ((c.tc : Thread Cert.Kernel41Ideal.nD Cert.Kernel41Ideal.τ).loc Cert.Kernel41Ideal.main_v5_0)) (v1 : (c : Dev Cert.Kernel41Ideal.nD) → Buf (Elt Ideal) ((c.tc : Thread Cert.Kernel41Ideal.nD Cert.Kernel41Ideal.τ).loc Cert.Kernel41Ideal.main_v5_1)) (v2 : (c : Dev Cert.Kernel41Ideal.nD) → Buf (Elt Ideal) ((c.tc : Thread Cert.Kernel41Ideal.nD Cert.Kernel41Ideal.τ).loc Cert.Kernel41Ideal.main_v5_2)) (v3 : (c : Dev Cert.Kernel41Ideal.nD) → Buf (Elt Ideal) ((c.tc : Thread Cert.Kernel41Ideal.nD Cert.Kernel41Ideal.τ).loc Cert.Kernel41Ideal.main_v5_3)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v5_0) = v0 c
          ∧ r.2.mem ((c.tc : Thread Cert.Kernel41Ideal.nD Cert.Kernel41Ideal.τ).loc Cert.Kernel41Ideal.main_v5_1) = v1 c
          ∧ r.2.mem ((c.tc : Thread Cert.Kernel41Ideal.nD Cert.Kernel41Ideal.τ).loc Cert.Kernel41Ideal.main_v5_2) = v2 c
          ∧ r.2.mem ((c.tc : Thread Cert.Kernel41Ideal.nD Cert.Kernel41Ideal.τ).loc Cert.Kernel41Ideal.main_v5_3) = v3 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3)
          ∧ r.2.mem ((c.tc : Thread Cert.Kernel41Ideal.nD Cert.Kernel41Ideal.τ).loc Cert.Kernel41Ideal.main_arg4) = m ((c.tc : Thread Cert.Kernel41Ideal.nD Cert.Kernel41Ideal.τ).loc Cert.Kernel41Ideal.main_arg4))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v28) = v0 c
          ∧ r.2.mem ((c.tc : Thread Cert.Reference41Ideal.nD Cert.Reference41Ideal.τ).loc Cert.Reference41Ideal.main_v29) = v1 c
          ∧ r.2.mem ((c.tc : Thread Cert.Reference41Ideal.nD Cert.Reference41Ideal.τ).loc Cert.Reference41Ideal.main_v30) = v2 c
          ∧ r.2.mem ((c.tc : Thread Cert.Reference41Ideal.nD Cert.Reference41Ideal.τ).loc Cert.Reference41Ideal.main_v31) = v3 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3)
          ∧ r.2.mem ((c.tc : Thread Cert.Reference41Ideal.nD Cert.Reference41Ideal.τ).loc Cert.Reference41Ideal.main_arg4) = m' ((c.tc : Thread Cert.Reference41Ideal.nD Cert.Reference41Ideal.τ).loc Cert.Reference41Ideal.main_arg4))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)
      ∧ m' ((c.tc : Thread Cert.Reference42Ideal.nD Cert.Reference42Ideal.τ).loc Cert.Reference42Ideal.main_arg4) = m ((c.tc : Thread Cert.Kernel42Ideal.nD Cert.Kernel42Ideal.τ).loc Cert.Kernel42Ideal.main_arg4)) →
    ∃ (v0 : (c : Dev Cert.Kernel42Ideal.nD) → Buf (Elt Ideal) ((c.tc : Thread Cert.Kernel42Ideal.nD Cert.Kernel42Ideal.τ).loc Cert.Kernel42Ideal.main_v2_0)) (v1 : (c : Dev Cert.Kernel42Ideal.nD) → Buf (Elt Ideal) ((c.tc : Thread Cert.Kernel42Ideal.nD Cert.Kernel42Ideal.τ).loc Cert.Kernel42Ideal.main_v2_1)) (v2 : (c : Dev Cert.Kernel42Ideal.nD) → Buf (Elt Ideal) ((c.tc : Thread Cert.Kernel42Ideal.nD Cert.Kernel42Ideal.τ).loc Cert.Kernel42Ideal.main_v2_2)) (v3 : (c : Dev Cert.Kernel42Ideal.nD) → Buf (Elt Ideal) ((c.tc : Thread Cert.Kernel42Ideal.nD Cert.Kernel42Ideal.τ).loc Cert.Kernel42Ideal.main_v2_3)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v2_0) = v0 c
          ∧ r.2.mem ((c.tc : Thread Cert.Kernel42Ideal.nD Cert.Kernel42Ideal.τ).loc Cert.Kernel42Ideal.main_v2_1) = v1 c
          ∧ r.2.mem ((c.tc : Thread Cert.Kernel42Ideal.nD Cert.Kernel42Ideal.τ).loc Cert.Kernel42Ideal.main_v2_2) = v2 c
          ∧ r.2.mem ((c.tc : Thread Cert.Kernel42Ideal.nD Cert.Kernel42Ideal.τ).loc Cert.Kernel42Ideal.main_v2_3) = v3 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3)
          ∧ r.2.mem ((c.tc : Thread Cert.Kernel42Ideal.nD Cert.Kernel42Ideal.τ).loc Cert.Kernel42Ideal.main_arg4) = m ((c.tc : Thread Cert.Kernel42Ideal.nD Cert.Kernel42Ideal.τ).loc Cert.Kernel42Ideal.main_arg4))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v2) = v0 c
          ∧ r.2.mem ((c.tc : Thread Cert.Reference42Ideal.nD Cert.Reference42Ideal.τ).loc Cert.Reference42Ideal.main_v26) = v1 c
          ∧ r.2.mem ((c.tc : Thread Cert.Reference42Ideal.nD Cert.Reference42Ideal.τ).loc Cert.Reference42Ideal.main_v7) = v2 c
          ∧ r.2.mem ((c.tc : Thread Cert.Reference42Ideal.nD Cert.Reference42Ideal.τ).loc Cert.Reference42Ideal.main_v13) = v3 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3)
          ∧ r.2.mem ((c.tc : Thread Cert.Reference42Ideal.nD Cert.Reference42Ideal.τ).loc Cert.Reference42Ideal.main_arg4) = m' ((c.tc : Thread Cert.Reference42Ideal.nD Cert.Reference42Ideal.τ).loc Cert.Reference42Ideal.main_arg4))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)
      ∧ m' ((c.tc : Thread Cert.Reference43Ideal.nD Cert.Reference43Ideal.τ).loc Cert.Reference43Ideal.main_arg4) = m ((c.tc : Thread Cert.Kernel43Ideal.nD Cert.Kernel43Ideal.τ).loc Cert.Kernel43Ideal.main_arg4)) →
    ∃ (v0 : (c : Dev Cert.Kernel43Ideal.nD) → Buf (Elt Ideal) ((c.tc : Thread Cert.Kernel43Ideal.nD Cert.Kernel43Ideal.τ).loc Cert.Kernel43Ideal.main_v2_0)) (v1 : (c : Dev Cert.Kernel43Ideal.nD) → Buf (Elt Ideal) ((c.tc : Thread Cert.Kernel43Ideal.nD Cert.Kernel43Ideal.τ).loc Cert.Kernel43Ideal.main_v2_1)) (v2 : (c : Dev Cert.Kernel43Ideal.nD) → Buf (Elt Ideal) ((c.tc : Thread Cert.Kernel43Ideal.nD Cert.Kernel43Ideal.τ).loc Cert.Kernel43Ideal.main_v2_2)) (v3 : (c : Dev Cert.Kernel43Ideal.nD) → Buf (Elt Ideal) ((c.tc : Thread Cert.Kernel43Ideal.nD Cert.Kernel43Ideal.τ).loc Cert.Kernel43Ideal.main_v2_3)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v2_0) = v0 c
          ∧ r.2.mem ((c.tc : Thread Cert.Kernel43Ideal.nD Cert.Kernel43Ideal.τ).loc Cert.Kernel43Ideal.main_v2_1) = v1 c
          ∧ r.2.mem ((c.tc : Thread Cert.Kernel43Ideal.nD Cert.Kernel43Ideal.τ).loc Cert.Kernel43Ideal.main_v2_2) = v2 c
          ∧ r.2.mem ((c.tc : Thread Cert.Kernel43Ideal.nD Cert.Kernel43Ideal.τ).loc Cert.Kernel43Ideal.main_v2_3) = v3 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3)
          ∧ r.2.mem ((c.tc : Thread Cert.Kernel43Ideal.nD Cert.Kernel43Ideal.τ).loc Cert.Kernel43Ideal.main_arg4) = m ((c.tc : Thread Cert.Kernel43Ideal.nD Cert.Kernel43Ideal.τ).loc Cert.Kernel43Ideal.main_arg4))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v2) = v0 c
          ∧ r.2.mem ((c.tc : Thread Cert.Reference43Ideal.nD Cert.Reference43Ideal.τ).loc Cert.Reference43Ideal.main_v26) = v1 c
          ∧ r.2.mem ((c.tc : Thread Cert.Reference43Ideal.nD Cert.Reference43Ideal.τ).loc Cert.Reference43Ideal.main_v7) = v2 c
          ∧ r.2.mem ((c.tc : Thread Cert.Reference43Ideal.nD Cert.Reference43Ideal.τ).loc Cert.Reference43Ideal.main_v13) = v3 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3)
          ∧ r.2.mem ((c.tc : Thread Cert.Reference43Ideal.nD Cert.Reference43Ideal.τ).loc Cert.Reference43Ideal.main_arg4) = m' ((c.tc : Thread Cert.Reference43Ideal.nD Cert.Reference43Ideal.τ).loc Cert.Reference43Ideal.main_arg4))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)
      ∧ m' ((c.tc : Thread Cert.Reference44Ideal.nD Cert.Reference44Ideal.τ).loc Cert.Reference44Ideal.main_arg4) = m ((c.tc : Thread Cert.Kernel44Ideal.nD Cert.Kernel44Ideal.τ).loc Cert.Kernel44Ideal.main_arg4)) →
    ∃ (v0 : (c : Dev Cert.Kernel44Ideal.nD) → Buf (Elt Ideal) ((c.tc : Thread Cert.Kernel44Ideal.nD Cert.Kernel44Ideal.τ).loc Cert.Kernel44Ideal.main_v5_0)) (v1 : (c : Dev Cert.Kernel44Ideal.nD) → Buf (Elt Ideal) ((c.tc : Thread Cert.Kernel44Ideal.nD Cert.Kernel44Ideal.τ).loc Cert.Kernel44Ideal.main_v5_1)) (v2 : (c : Dev Cert.Kernel44Ideal.nD) → Buf (Elt Ideal) ((c.tc : Thread Cert.Kernel44Ideal.nD Cert.Kernel44Ideal.τ).loc Cert.Kernel44Ideal.main_v5_2)) (v3 : (c : Dev Cert.Kernel44Ideal.nD) → Buf (Elt Ideal) ((c.tc : Thread Cert.Kernel44Ideal.nD Cert.Kernel44Ideal.τ).loc Cert.Kernel44Ideal.main_v5_3)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v5_0) = v0 c
          ∧ r.2.mem ((c.tc : Thread Cert.Kernel44Ideal.nD Cert.Kernel44Ideal.τ).loc Cert.Kernel44Ideal.main_v5_1) = v1 c
          ∧ r.2.mem ((c.tc : Thread Cert.Kernel44Ideal.nD Cert.Kernel44Ideal.τ).loc Cert.Kernel44Ideal.main_v5_2) = v2 c
          ∧ r.2.mem ((c.tc : Thread Cert.Kernel44Ideal.nD Cert.Kernel44Ideal.τ).loc Cert.Kernel44Ideal.main_v5_3) = v3 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3)
          ∧ r.2.mem ((c.tc : Thread Cert.Kernel44Ideal.nD Cert.Kernel44Ideal.τ).loc Cert.Kernel44Ideal.main_arg4) = m ((c.tc : Thread Cert.Kernel44Ideal.nD Cert.Kernel44Ideal.τ).loc Cert.Kernel44Ideal.main_arg4))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v28) = v0 c
          ∧ r.2.mem ((c.tc : Thread Cert.Reference44Ideal.nD Cert.Reference44Ideal.τ).loc Cert.Reference44Ideal.main_v29) = v1 c
          ∧ r.2.mem ((c.tc : Thread Cert.Reference44Ideal.nD Cert.Reference44Ideal.τ).loc Cert.Reference44Ideal.main_v30) = v2 c
          ∧ r.2.mem ((c.tc : Thread Cert.Reference44Ideal.nD Cert.Reference44Ideal.τ).loc Cert.Reference44Ideal.main_v31) = v3 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3)
          ∧ r.2.mem ((c.tc : Thread Cert.Reference44Ideal.nD Cert.Reference44Ideal.τ).loc Cert.Reference44Ideal.main_arg4) = m' ((c.tc : Thread Cert.Reference44Ideal.nD Cert.Reference44Ideal.τ).loc Cert.Reference44Ideal.main_arg4))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)
      ∧ m' ((c.tc : Thread Cert.Reference45Ideal.nD Cert.Reference45Ideal.τ).loc Cert.Reference45Ideal.main_arg3) = m ((c.tc : Thread Cert.Kernel45Ideal.nD Cert.Kernel45Ideal.τ).loc Cert.Kernel45Ideal.main_arg3)
      ∧ m' ((c.tc : Thread Cert.Reference45Ideal.nD Cert.Reference45Ideal.τ).loc Cert.Reference45Ideal.main_arg4) = m ((c.tc : Thread Cert.Kernel45Ideal.nD Cert.Kernel45Ideal.τ).loc Cert.Kernel45Ideal.main_arg4)) →
    ∃ (v0 : (c : Dev Cert.Kernel45Ideal.nD) → Buf (Elt Ideal) ((c.tc : Thread Cert.Kernel45Ideal.nD Cert.Kernel45Ideal.τ).loc Cert.Kernel45Ideal.main_v2_0)) (v1 : (c : Dev Cert.Kernel45Ideal.nD) → Buf (Elt Ideal) ((c.tc : Thread Cert.Kernel45Ideal.nD Cert.Kernel45Ideal.τ).loc Cert.Kernel45Ideal.main_v2_1)) (v2 : (c : Dev Cert.Kernel45Ideal.nD) → Buf (Elt Ideal) ((c.tc : Thread Cert.Kernel45Ideal.nD Cert.Kernel45Ideal.τ).loc Cert.Kernel45Ideal.main_v2_2)) (v3 : (c : Dev Cert.Kernel45Ideal.nD) → Buf (Elt Ideal) ((c.tc : Thread Cert.Kernel45Ideal.nD Cert.Kernel45Ideal.τ).loc Cert.Kernel45Ideal.main_v2_3)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v2_0) = v0 c
          ∧ r.2.mem ((c.tc : Thread Cert.Kernel45Ideal.nD Cert.Kernel45Ideal.τ).loc Cert.Kernel45Ideal.main_v2_1) = v1 c
          ∧ r.2.mem ((c.tc : Thread Cert.Kernel45Ideal.nD Cert.Kernel45Ideal.τ).loc Cert.Kernel45Ideal.main_v2_2) = v2 c
          ∧ r.2.mem ((c.tc : Thread Cert.Kernel45Ideal.nD Cert.Kernel45Ideal.τ).loc Cert.Kernel45Ideal.main_v2_3) = v3 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2)
          ∧ r.2.mem ((c.tc : Thread Cert.Kernel45Ideal.nD Cert.Kernel45Ideal.τ).loc Cert.Kernel45Ideal.main_arg3) = m ((c.tc : Thread Cert.Kernel45Ideal.nD Cert.Kernel45Ideal.τ).loc Cert.Kernel45Ideal.main_arg3)
          ∧ r.2.mem ((c.tc : Thread Cert.Kernel45Ideal.nD Cert.Kernel45Ideal.τ).loc Cert.Kernel45Ideal.main_arg4) = m ((c.tc : Thread Cert.Kernel45Ideal.nD Cert.Kernel45Ideal.τ).loc Cert.Kernel45Ideal.main_arg4))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v2) = v0 c
          ∧ r.2.mem ((c.tc : Thread Cert.Reference45Ideal.nD Cert.Reference45Ideal.τ).loc Cert.Reference45Ideal.main_v26) = v1 c
          ∧ r.2.mem ((c.tc : Thread Cert.Reference45Ideal.nD Cert.Reference45Ideal.τ).loc Cert.Reference45Ideal.main_v7) = v2 c
          ∧ r.2.mem ((c.tc : Thread Cert.Reference45Ideal.nD Cert.Reference45Ideal.τ).loc Cert.Reference45Ideal.main_v13) = v3 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2)
          ∧ r.2.mem ((c.tc : Thread Cert.Reference45Ideal.nD Cert.Reference45Ideal.τ).loc Cert.Reference45Ideal.main_arg3) = m' ((c.tc : Thread Cert.Reference45Ideal.nD Cert.Reference45Ideal.τ).loc Cert.Reference45Ideal.main_arg3)
          ∧ r.2.mem ((c.tc : Thread Cert.Reference45Ideal.nD Cert.Reference45Ideal.τ).loc Cert.Reference45Ideal.main_arg4) = m' ((c.tc : Thread Cert.Reference45Ideal.nD Cert.Reference45Ideal.τ).loc Cert.Reference45Ideal.main_arg4))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v2)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v2) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v2) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v2)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v2) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v2) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)) →
    ∃ (v0 : (c : Dev Cert.Kernel48Ideal.nD) → Buf (Elt Ideal) ((c.tc : Thread Cert.Kernel48Ideal.nD Cert.Kernel48Ideal.τ).loc Cert.Kernel48Ideal.main_v0)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v0) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v0) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)) →
    ∃ (v0 : (c : Dev Cert.Kernel49Ideal.nD) → Buf (Elt Ideal) ((c.tc : Thread Cert.Kernel49Ideal.nD Cert.Kernel49Ideal.τ).loc Cert.Kernel49Ideal.main_v2)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v2) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v2) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)) →
    ∃ (v0 : (c : Dev Cert.Kernel50Ideal.nD) → Buf (Elt Ideal) ((c.tc : Thread Cert.Kernel50Ideal.nD Cert.Kernel50Ideal.τ).loc Cert.Kernel50Ideal.main_v2)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v2) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v2) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)
      ∧ m' ((c.tc : Thread Cert.Reference51Ideal.nD Cert.Reference51Ideal.τ).loc Cert.Reference51Ideal.main_arg2) = m ((c.tc : Thread Cert.Kernel51Ideal.nD Cert.Kernel51Ideal.τ).loc Cert.Kernel51Ideal.main_arg2)
      ∧ m' ((c.tc : Thread Cert.Reference51Ideal.nD Cert.Reference51Ideal.τ).loc Cert.Reference51Ideal.main_arg3) = m ((c.tc : Thread Cert.Kernel51Ideal.nD Cert.Kernel51Ideal.τ).loc Cert.Kernel51Ideal.main_arg3)
      ∧ m' ((c.tc : Thread Cert.Reference51Ideal.nD Cert.Reference51Ideal.τ).loc Cert.Reference51Ideal.main_arg4) = m ((c.tc : Thread Cert.Kernel51Ideal.nD Cert.Kernel51Ideal.τ).loc Cert.Kernel51Ideal.main_arg4)
      ∧ m' ((c.tc : Thread Cert.Reference51Ideal.nD Cert.Reference51Ideal.τ).loc Cert.Reference51Ideal.main_arg5) = m ((c.tc : Thread Cert.Kernel51Ideal.nD Cert.Kernel51Ideal.τ).loc Cert.Kernel51Ideal.main_arg5)) →
    ∃ (v0 : (c : Dev Cert.Kernel51Ideal.nD) → Buf (Elt Ideal) ((c.tc : Thread Cert.Kernel51Ideal.nD Cert.Kernel51Ideal.τ).loc Cert.Kernel51Ideal.main_v5_0)) (v1 : (c : Dev Cert.Kernel51Ideal.nD) → Buf (Elt Ideal) ((c.tc : Thread Cert.Kernel51Ideal.nD Cert.Kernel51Ideal.τ).loc Cert.Kernel51Ideal.main_v5_1)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v5_0) = v0 c
          ∧ r.2.mem ((c.tc : Thread Cert.Kernel51Ideal.nD Cert.Kernel51Ideal.τ).loc Cert.Kernel51Ideal.main_v5_1) = v1 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1)
          ∧ r.2.mem ((c.tc : Thread Cert.Kernel51Ideal.nD Cert.Kernel51Ideal.τ).loc Cert.Kernel51Ideal.main_arg2) = m ((c.tc : Thread Cert.Kernel51Ideal.nD Cert.Kernel51Ideal.τ).loc Cert.Kernel51Ideal.main_arg2)
          ∧ r.2.mem ((c.tc : Thread Cert.Kernel51Ideal.nD Cert.Kernel51Ideal.τ).loc Cert.Kernel51Ideal.main_arg3) = m ((c.tc : Thread Cert.Kernel51Ideal.nD Cert.Kernel51Ideal.τ).loc Cert.Kernel51Ideal.main_arg3)
          ∧ r.2.mem ((c.tc : Thread Cert.Kernel51Ideal.nD Cert.Kernel51Ideal.τ).loc Cert.Kernel51Ideal.main_arg4) = m ((c.tc : Thread Cert.Kernel51Ideal.nD Cert.Kernel51Ideal.τ).loc Cert.Kernel51Ideal.main_arg4)
          ∧ r.2.mem ((c.tc : Thread Cert.Kernel51Ideal.nD Cert.Kernel51Ideal.τ).loc Cert.Kernel51Ideal.main_arg5) = m ((c.tc : Thread Cert.Kernel51Ideal.nD Cert.Kernel51Ideal.τ).loc Cert.Kernel51Ideal.main_arg5))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v3) = v0 c
          ∧ r.2.mem ((c.tc : Thread Cert.Reference51Ideal.nD Cert.Reference51Ideal.τ).loc Cert.Reference51Ideal.main_v25) = v1 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1)
          ∧ r.2.mem ((c.tc : Thread Cert.Reference51Ideal.nD Cert.Reference51Ideal.τ).loc Cert.Reference51Ideal.main_arg2) = m' ((c.tc : Thread Cert.Reference51Ideal.nD Cert.Reference51Ideal.τ).loc Cert.Reference51Ideal.main_arg2)
          ∧ r.2.mem ((c.tc : Thread Cert.Reference51Ideal.nD Cert.Reference51Ideal.τ).loc Cert.Reference51Ideal.main_arg3) = m' ((c.tc : Thread Cert.Reference51Ideal.nD Cert.Reference51Ideal.τ).loc Cert.Reference51Ideal.main_arg3)
          ∧ r.2.mem ((c.tc : Thread Cert.Reference51Ideal.nD Cert.Reference51Ideal.τ).loc Cert.Reference51Ideal.main_arg4) = m' ((c.tc : Thread Cert.Reference51Ideal.nD Cert.Reference51Ideal.τ).loc Cert.Reference51Ideal.main_arg4)
          ∧ r.2.mem ((c.tc : Thread Cert.Reference51Ideal.nD Cert.Reference51Ideal.τ).loc Cert.Reference51Ideal.main_arg5) = m' ((c.tc : Thread Cert.Reference51Ideal.nD Cert.Reference51Ideal.τ).loc Cert.Reference51Ideal.main_arg5))

def preserves_Kernel52_Kernel52Ideal : Prop :=
  True

def algebraic_Kernel52Ideal_Reference52Ideal [hKernel52Ideal : Cert.Kernel52Ideal.Facts] [hReference52Ideal : Cert.Reference52Ideal.Facts] : Prop :=
  ∀ (m : (ℓ : Loc Cert.Kernel52Ideal.nD Cert.Kernel52Ideal.τ Cert.Kernel52Ideal.sig) → Buf (Elt Ideal) ℓ) (g : Dev Cert.Kernel52Ideal.nD → PrngReg)
    (m' : (ℓ : Loc Cert.Reference52Ideal.nD Cert.Reference52Ideal.τ Cert.Reference52Ideal.sig) → Buf (Elt Ideal) ℓ) (g' : Dev Cert.Reference52Ideal.nD → PrngReg), Pre_Kernel52Ideal m →
    (∀ c : Dev Cert.Kernel52Ideal.nD,
      m' ((c.tc : Thread Cert.Reference52Ideal.nD Cert.Reference52Ideal.τ).loc Cert.Reference52Ideal.main_arg0) = m ((c.tc : Thread Cert.Kernel52Ideal.nD Cert.Kernel52Ideal.τ).loc Cert.Kernel52Ideal.main_arg0)
      ∧ m' ((c.tc : Thread Cert.Reference52Ideal.nD Cert.Reference52Ideal.τ).loc Cert.Reference52Ideal.main_arg1) = m ((c.tc : Thread Cert.Kernel52Ideal.nD Cert.Kernel52Ideal.τ).loc Cert.Kernel52Ideal.main_arg1)
      ∧ m' ((c.tc : Thread Cert.Reference52Ideal.nD Cert.Reference52Ideal.τ).loc Cert.Reference52Ideal.main_arg2) = m ((c.tc : Thread Cert.Kernel52Ideal.nD Cert.Kernel52Ideal.τ).loc Cert.Kernel52Ideal.main_arg2)
      ∧ m' ((c.tc : Thread Cert.Reference52Ideal.nD Cert.Reference52Ideal.τ).loc Cert.Reference52Ideal.main_arg3) = m ((c.tc : Thread Cert.Kernel52Ideal.nD Cert.Kernel52Ideal.τ).loc Cert.Kernel52Ideal.main_arg3)
      ∧ m' ((c.tc : Thread Cert.Reference52Ideal.nD Cert.Reference52Ideal.τ).loc Cert.Reference52Ideal.main_arg4) = m ((c.tc : Thread Cert.Kernel52Ideal.nD Cert.Kernel52Ideal.τ).loc Cert.Kernel52Ideal.main_arg4)
      ∧ m' ((c.tc : Thread Cert.Reference52Ideal.nD Cert.Reference52Ideal.τ).loc Cert.Reference52Ideal.main_arg5) = m ((c.tc : Thread Cert.Kernel52Ideal.nD Cert.Kernel52Ideal.τ).loc Cert.Kernel52Ideal.main_arg5)
      ∧ m' ((c.tc : Thread Cert.Reference52Ideal.nD Cert.Reference52Ideal.τ).loc Cert.Reference52Ideal.main_arg6) = m ((c.tc : Thread Cert.Kernel52Ideal.nD Cert.Kernel52Ideal.τ).loc Cert.Kernel52Ideal.main_arg6)
      ∧ m' ((c.tc : Thread Cert.Reference52Ideal.nD Cert.Reference52Ideal.τ).loc Cert.Reference52Ideal.main_arg7) = m ((c.tc : Thread Cert.Kernel52Ideal.nD Cert.Kernel52Ideal.τ).loc Cert.Kernel52Ideal.main_arg7)) →
    ∃ (v0 : (c : Dev Cert.Kernel52Ideal.nD) → Buf (Elt Ideal) ((c.tc : Thread Cert.Kernel52Ideal.nD Cert.Kernel52Ideal.τ).loc Cert.Kernel52Ideal.main_v6_0)) (v1 : (c : Dev Cert.Kernel52Ideal.nD) → Buf (Elt Ideal) ((c.tc : Thread Cert.Kernel52Ideal.nD Cert.Kernel52Ideal.τ).loc Cert.Kernel52Ideal.main_v6_1)) (v2 : (c : Dev Cert.Kernel52Ideal.nD) → Buf (Elt Ideal) ((c.tc : Thread Cert.Kernel52Ideal.nD Cert.Kernel52Ideal.τ).loc Cert.Kernel52Ideal.main_v6_2)) (v3 : (c : Dev Cert.Kernel52Ideal.nD) → Buf (Elt Ideal) ((c.tc : Thread Cert.Kernel52Ideal.nD Cert.Kernel52Ideal.τ).loc Cert.Kernel52Ideal.main_v6_3)) (v4 : (c : Dev Cert.Kernel52Ideal.nD) → Buf (Elt Ideal) ((c.tc : Thread Cert.Kernel52Ideal.nD Cert.Kernel52Ideal.τ).loc Cert.Kernel52Ideal.main_v6_4)) (v5 : (c : Dev Cert.Kernel52Ideal.nD) → Buf (Elt Ideal) ((c.tc : Thread Cert.Kernel52Ideal.nD Cert.Kernel52Ideal.τ).loc Cert.Kernel52Ideal.main_v6_5)),
      θ_run (Cert.Kernel52Ideal.defs (F := Ideal)) (onTc (τ := Cert.Kernel52Ideal.τ) (Cert.Kernel52Ideal.main (F := Ideal))) ⟨m, fun _ => 0, g⟩ (fun r => ∀ c : Dev Cert.Kernel52Ideal.nD,
          r.2.mem ((c.tc : Thread Cert.Kernel52Ideal.nD Cert.Kernel52Ideal.τ).loc Cert.Kernel52Ideal.main_v6_0) = v0 c
          ∧ r.2.mem ((c.tc : Thread Cert.Kernel52Ideal.nD Cert.Kernel52Ideal.τ).loc Cert.Kernel52Ideal.main_v6_1) = v1 c
          ∧ r.2.mem ((c.tc : Thread Cert.Kernel52Ideal.nD Cert.Kernel52Ideal.τ).loc Cert.Kernel52Ideal.main_v6_2) = v2 c
          ∧ r.2.mem ((c.tc : Thread Cert.Kernel52Ideal.nD Cert.Kernel52Ideal.τ).loc Cert.Kernel52Ideal.main_v6_3) = v3 c
          ∧ r.2.mem ((c.tc : Thread Cert.Kernel52Ideal.nD Cert.Kernel52Ideal.τ).loc Cert.Kernel52Ideal.main_v6_4) = v4 c
          ∧ r.2.mem ((c.tc : Thread Cert.Kernel52Ideal.nD Cert.Kernel52Ideal.τ).loc Cert.Kernel52Ideal.main_v6_5) = v5 c
          ∧ r.2.mem ((c.tc : Thread Cert.Kernel52Ideal.nD Cert.Kernel52Ideal.τ).loc Cert.Kernel52Ideal.main_arg0) = m ((c.tc : Thread Cert.Kernel52Ideal.nD Cert.Kernel52Ideal.τ).loc Cert.Kernel52Ideal.main_arg0)
          ∧ r.2.mem ((c.tc : Thread Cert.Kernel52Ideal.nD Cert.Kernel52Ideal.τ).loc Cert.Kernel52Ideal.main_arg1) = m ((c.tc : Thread Cert.Kernel52Ideal.nD Cert.Kernel52Ideal.τ).loc Cert.Kernel52Ideal.main_arg1)
          ∧ r.2.mem ((c.tc : Thread Cert.Kernel52Ideal.nD Cert.Kernel52Ideal.τ).loc Cert.Kernel52Ideal.main_arg2) = m ((c.tc : Thread Cert.Kernel52Ideal.nD Cert.Kernel52Ideal.τ).loc Cert.Kernel52Ideal.main_arg2)
          ∧ r.2.mem ((c.tc : Thread Cert.Kernel52Ideal.nD Cert.Kernel52Ideal.τ).loc Cert.Kernel52Ideal.main_arg3) = m ((c.tc : Thread Cert.Kernel52Ideal.nD Cert.Kernel52Ideal.τ).loc Cert.Kernel52Ideal.main_arg3)
          ∧ r.2.mem ((c.tc : Thread Cert.Kernel52Ideal.nD Cert.Kernel52Ideal.τ).loc Cert.Kernel52Ideal.main_arg4) = m ((c.tc : Thread Cert.Kernel52Ideal.nD Cert.Kernel52Ideal.τ).loc Cert.Kernel52Ideal.main_arg4)
          ∧ r.2.mem ((c.tc : Thread Cert.Kernel52Ideal.nD Cert.Kernel52Ideal.τ).loc Cert.Kernel52Ideal.main_arg5) = m ((c.tc : Thread Cert.Kernel52Ideal.nD Cert.Kernel52Ideal.τ).loc Cert.Kernel52Ideal.main_arg5)
          ∧ r.2.mem ((c.tc : Thread Cert.Kernel52Ideal.nD Cert.Kernel52Ideal.τ).loc Cert.Kernel52Ideal.main_arg6) = m ((c.tc : Thread Cert.Kernel52Ideal.nD Cert.Kernel52Ideal.τ).loc Cert.Kernel52Ideal.main_arg6)
          ∧ r.2.mem ((c.tc : Thread Cert.Kernel52Ideal.nD Cert.Kernel52Ideal.τ).loc Cert.Kernel52Ideal.main_arg7) = m ((c.tc : Thread Cert.Kernel52Ideal.nD Cert.Kernel52Ideal.τ).loc Cert.Kernel52Ideal.main_arg7))
      ∧ θ_run (Cert.Reference52Ideal.defs (F := Ideal)) (onTc (τ := Cert.Reference52Ideal.τ) (Cert.Reference52Ideal.main (F := Ideal))) ⟨m', fun _ => 0, g'⟩ (fun r => ∀ c : Dev Cert.Reference52Ideal.nD,
          r.2.mem ((c.tc : Thread Cert.Reference52Ideal.nD Cert.Reference52Ideal.τ).loc Cert.Reference52Ideal.main_v58) = v0 c
          ∧ r.2.mem ((c.tc : Thread Cert.Reference52Ideal.nD Cert.Reference52Ideal.τ).loc Cert.Reference52Ideal.main_v66) = v1 c
          ∧ r.2.mem ((c.tc : Thread Cert.Reference52Ideal.nD Cert.Reference52Ideal.τ).loc Cert.Reference52Ideal.main_v67) = v2 c
          ∧ r.2.mem ((c.tc : Thread Cert.Reference52Ideal.nD Cert.Reference52Ideal.τ).loc Cert.Reference52Ideal.main_v68) = v3 c
          ∧ r.2.mem ((c.tc : Thread Cert.Reference52Ideal.nD Cert.Reference52Ideal.τ).loc Cert.Reference52Ideal.main_v69) = v4 c
          ∧ r.2.mem ((c.tc : Thread Cert.Reference52Ideal.nD Cert.Reference52Ideal.τ).loc Cert.Reference52Ideal.main_v70) = v5 c
          ∧ r.2.mem ((c.tc : Thread Cert.Reference52Ideal.nD Cert.Reference52Ideal.τ).loc Cert.Reference52Ideal.main_arg0) = m' ((c.tc : Thread Cert.Reference52Ideal.nD Cert.Reference52Ideal.τ).loc Cert.Reference52Ideal.main_arg0)
          ∧ r.2.mem ((c.tc : Thread Cert.Reference52Ideal.nD Cert.Reference52Ideal.τ).loc Cert.Reference52Ideal.main_arg1) = m' ((c.tc : Thread Cert.Reference52Ideal.nD Cert.Reference52Ideal.τ).loc Cert.Reference52Ideal.main_arg1)
          ∧ r.2.mem ((c.tc : Thread Cert.Reference52Ideal.nD Cert.Reference52Ideal.τ).loc Cert.Reference52Ideal.main_arg2) = m' ((c.tc : Thread Cert.Reference52Ideal.nD Cert.Reference52Ideal.τ).loc Cert.Reference52Ideal.main_arg2)
          ∧ r.2.mem ((c.tc : Thread Cert.Reference52Ideal.nD Cert.Reference52Ideal.τ).loc Cert.Reference52Ideal.main_arg3) = m' ((c.tc : Thread Cert.Reference52Ideal.nD Cert.Reference52Ideal.τ).loc Cert.Reference52Ideal.main_arg3)
          ∧ r.2.mem ((c.tc : Thread Cert.Reference52Ideal.nD Cert.Reference52Ideal.τ).loc Cert.Reference52Ideal.main_arg4) = m' ((c.tc : Thread Cert.Reference52Ideal.nD Cert.Reference52Ideal.τ).loc Cert.Reference52Ideal.main_arg4)
          ∧ r.2.mem ((c.tc : Thread Cert.Reference52Ideal.nD Cert.Reference52Ideal.τ).loc Cert.Reference52Ideal.main_arg5) = m' ((c.tc : Thread Cert.Reference52Ideal.nD Cert.Reference52Ideal.τ).loc Cert.Reference52Ideal.main_arg5)
          ∧ r.2.mem ((c.tc : Thread Cert.Reference52Ideal.nD Cert.Reference52Ideal.τ).loc Cert.Reference52Ideal.main_arg6) = m' ((c.tc : Thread Cert.Reference52Ideal.nD Cert.Reference52Ideal.τ).loc Cert.Reference52Ideal.main_arg6)
          ∧ r.2.mem ((c.tc : Thread Cert.Reference52Ideal.nD Cert.Reference52Ideal.τ).loc Cert.Reference52Ideal.main_arg7) = m' ((c.tc : Thread Cert.Reference52Ideal.nD Cert.Reference52Ideal.τ).loc Cert.Reference52Ideal.main_arg7))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hKernel52 : Cert.Kernel52.Facts) (hKernel52Ideal : Cert.Kernel52Ideal.Facts) (hReference52Ideal : Cert.Reference52Ideal.Facts) (hPre_finite : Cert.Pre_finite.Facts) (hPre_finite28 : Cert.Pre_finite28.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ quiescent_Kernel52 (hKernel52 := hKernel52)
    ∧ quiescent_Kernel52Ideal (hKernel52Ideal := hKernel52Ideal)
    ∧ quiescent_Reference52Ideal (hReference52Ideal := hReference52Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
    ∧ preserves_Kernel52_Kernel52Ideal
    ∧ algebraic_Kernel52Ideal_Reference52Ideal (hKernel52Ideal := hKernel52Ideal) (hReference52Ideal := hReference52Ideal)
-- ==== Pre_finite.lean ====
abbrev S4096x8x96 : Shape := ⟨3, ![4096, 8, 96]⟩
abbrev S4352x8x96 : Shape := ⟨3, ![4352, 8, 96]⟩
abbrev S4352x8x64 : Shape := ⟨3, ![4352, 8, 64]⟩
abbrev S4096x8x64 : Shape := ⟨3, ![4096, 8, 64]⟩
abbrev S_ : Shape := ⟨0, ![]⟩

class Facts : Prop where
  bcast_S_S4096x8x96 : S_.BroadcastsInDim S4096x8x96 (![] : Fin 0 → Fin S4096x8x96.rank)
  reducesTo_S4096x8x96_S_d0_1_2 : S4096x8x96.ReducesTo [0, 1, 2] S_
  h_S_ : 0 < S_.numel
  bcast_S_S4352x8x96 : S_.BroadcastsInDim S4352x8x96 (![] : Fin 0 → Fin S4352x8x96.rank)
  reducesTo_S4352x8x96_S_d0_1_2 : S4352x8x96.ReducesTo [0, 1, 2] S_
  bcast_S_S4352x8x64 : S_.BroadcastsInDim S4352x8x64 (![] : Fin 0 → Fin S4352x8x64.rank)
  reducesTo_S4352x8x64_S_d0_1_2 : S4352x8x64.ReducesTo [0, 1, 2] S_
  bcast_S_S4096x8x64 : S_.BroadcastsInDim S4096x8x64 (![] : Fin 0 → Fin S4096x8x64.rank)
  reducesTo_S4096x8x64_S_d0_1_2 : S4096x8x64.ReducesTo [0, 1, 2] S_

variable [Facts]

def fn_part1 {F : FTy → Type} [FloatOps F] (main_v13 : IVec S_ 1) (main_v16 : IVec S4096x8x64 1) : IVec S_ 1 :=
  let main_c_5 : IVec S_ 1 := constantI S_ 1 1#1
  let main_v17 : IVec S_ 1 := (fun x v => Host.reduce IntOp.andi x v reducesTo_S4096x8x64_S_d0_1_2 h_S_) main_v16 main_c_5
  let main_v18 : IVec S_ 1 := andi main_v13 main_v17
  main_v18

def fn {F : FTy → Type} [FloatOps F] (main_arg0 : FVec F S4096x8x96 .f32) (main_arg1 : FVec F S4352x8x96 .f32) (main_arg2 : FVec F S4352x8x64 .f32) (main_arg3 : FVec F S4096x8x64 .f32) : IVec S_ 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_c : IVec S_ 1 := constantI S_ 1 1#1
  let main_v3 : IVec S_ 1 := (fun x v => Host.reduce IntOp.andi x v reducesTo_S4096x8x96_S_d0_1_2 h_S_) main_v2 main_c
  let main_v4 : FVec F S4352x8x96 .f32 := Host.absf main_arg1
  let main_cst_0 : FVec F S_ .f32 := constant S_ .f32 0x7F800000#32
  let main_v5 : FVec F S4352x8x96 .f32 := broadcastInDim S4352x8x96 ![] bcast_S_S4352x8x96 main_cst_0
  let main_v6 : IVec S4352x8x96 1 := cmpf .olt main_v4 main_v5
  let main_c_1 : IVec S_ 1 := constantI S_ 1 1#1
  let main_v7 : IVec S_ 1 := (fun x v => Host.reduce IntOp.andi x v reducesTo_S4352x8x96_S_d0_1_2 h_S_) main_v6 main_c_1
  let main_v8 : IVec S_ 1 := andi main_v3 main_v7
  let main_v9 : FVec F S4352x8x64 .f32 := Host.absf main_arg2
  let main_cst_2 : FVec F S_ .f32 := constant S_ .f32 0x7F800000#32
  let main_v10 : FVec F S4352x8x64 .f32 := broadcastInDim S4352x8x64 ![] bcast_S_S4352x8x64 main_cst_2
  let main_v11 : IVec S4352x8x64 1 := cmpf .olt main_v9 main_v10
  let main_c_3 : IVec S_ 1 := constantI S_ 1 1#1
  let main_v12 : IVec S_ 1 := (fun x v => Host.reduce IntOp.andi x v reducesTo_S4352x8x64_S_d0_1_2 h_S_) main_v11 main_c_3
  let main_v13 : IVec S_ 1 := andi main_v8 main_v12
  let main_v14 : FVec F S4096x8x64 .f32 := Host.absf main_arg3
  let main_cst_4 : FVec F S_ .f32 := constant S_ .f32 0x7F800000#32
  let main_v15 : FVec F S4096x8x64 .f32 := broadcastInDim S4096x8x64 ![] bcast_S_S4096x8x64 main_cst_4
  let main_v16 : IVec S4096x8x64 1 := cmpf .olt main_v14 main_v15
  fn_part1 (F := F) main_v13 main_v16
-- ==== Pre_finite28.lean ====
abbrev S4096x5632 : Shape := ⟨2, ![4096, 5632]⟩
abbrev S3x2816 : Shape := ⟨2, ![3, 2816]⟩
abbrev S2816 : Shape := ⟨1, ![2816]⟩
abbrev S4096x2816 : Shape := ⟨2, ![4096, 2816]⟩
abbrev S_ : Shape := ⟨0, ![]⟩

class Facts : Prop where
  slices_S4096x5632_S4096x2816_0_2816 : S4096x5632.Slices ![0, 2816] S4096x2816
  bcast_S_S4096x2816 : S_.BroadcastsInDim S4096x2816 (![] : Fin 0 → Fin S4096x2816.rank)
  reducesTo_S4096x2816_S_d0_1 : S4096x2816.ReducesTo [0, 1] S_
  h_S_ : 0 < S_.numel

variable [Facts]

def fn {F : FTy → Type} [FloatOps F] (main_arg0 : FVec F S4096x5632 .f32) (main_arg1 : FVec F S3x2816 .f32) (main_arg2 : FVec F S2816 .f32) (main_arg3 : FVec F S4096x2816 .f32) : IVec S_ 1 :=
  let main_v0 : FVec F S4096x2816 .f32 := (extractStridedSlice S4096x2816 ![0, 2816] · slices_S4096x5632_S4096x2816_0_2816) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x2816 .f32 := Host.absf main_arg3
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_c_1 : IVec S_ 1 := constantI S_ 1 1#1
  let main_v8 : IVec S_ 1 := (fun x v => Host.reduce IntOp.andi x v reducesTo_S4096x2816_S_d0_1 h_S_) main_v7 main_c_1
  let main_v9 : IVec S_ 1 := andi main_v4 main_v8
  main_v9
-- ==== Kernel.lean ====
abbrev S4096x8x96 : Shape := ⟨3, ![4096, 8, 96]⟩
abbrev S4352x8x96 : Shape := ⟨3, ![4352, 8, 96]⟩
abbrev S4352x8x64 : Shape := ⟨3, ![4352, 8, 64]⟩
abbrev S4096x8x64 : Shape := ⟨3, ![4096, 8, 64]⟩
abbrev S_ : Shape := ⟨0, ![]⟩
abbrev S4096x8x128 : Shape := ⟨3, ![4096, 8, 128]⟩
abbrev S4096x1024 : Shape := ⟨2, ![4096, 1024]⟩
abbrev S4352x8x128 : Shape := ⟨3, ![4352, 8, 128]⟩
abbrev S4352x1024 : Shape := ⟨2, ![4352, 1024]⟩
abbrev S256x512 : Shape := ⟨2, ![256, 512]⟩
abbrev S4352x512 : Shape := ⟨2, ![4352, 512]⟩
abbrev S256x128 : Shape := ⟨2, ![256, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩
abbrev S1024x128 : Shape := ⟨2, ![1024, 128]⟩
abbrev S1024x1 : Shape := ⟨2, ![1024, 1]⟩
abbrev S1024 : Shape := ⟨1, ![1024]⟩
abbrev S1536x128 : Shape := ⟨2, ![1536, 128]⟩
abbrev S1024x1536 : Shape := ⟨2, ![1024, 1536]⟩
abbrev S1280x128 : Shape := ⟨2, ![1280, 128]⟩
abbrev S1024x1280 : Shape := ⟨2, ![1024, 1280]⟩

abbrev nBuf : Space → Nat
  | .hbm => 35
  | .vmem => 28
  | .smem => 0
  | _ => 0

abbrev bufTy : (tb : Table) → Fin (tcTables nBuf tb) → BufTy
  | .hbm, ⟨0, _⟩ => ⟨S4096x8x96, .f32⟩
  | .hbm, ⟨1, _⟩ => ⟨S4352x8x96, .f32⟩
  | .hbm, ⟨2, _⟩ => ⟨S4352x8x64, .f32⟩
  | .hbm, ⟨3, _⟩ => ⟨S4096x8x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S_, .f32⟩
  | .hbm, ⟨10, _⟩ => ⟨S4096x8x128, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S_, .i32⟩
  | .hbm, ⟨16, _⟩ => ⟨S_, .f32⟩
  | .hbm, ⟨17, _⟩ => ⟨S4352x8x128, .f32⟩
  | .hbm, ⟨18, _⟩ => ⟨S4352x1024, .f32⟩
  | .hbm, ⟨19, _⟩ => ⟨S4352x1024, .bf16⟩
  | .hbm, ⟨20, _⟩ => ⟨S_, .i32⟩
  | .hbm, ⟨21, _⟩ => ⟨S_, .f32⟩
  | .hbm, ⟨22, _⟩ => ⟨S4352x8x128, .f32⟩
  | .hbm, ⟨23, _⟩ => ⟨S4352x1024, .f32⟩
  | .hbm, ⟨24, _⟩ => ⟨S4352x1024, .bf16⟩
  | .hbm, ⟨25, _⟩ => ⟨S_, .i32⟩
  | .hbm, ⟨26, _⟩ => ⟨S_, .f32⟩
  | .hbm, ⟨27, _⟩ => ⟨S4096x8x128, .f32⟩
  | .hbm, ⟨28, _⟩ => ⟨S4096x1024, .f32⟩
  | .hbm, ⟨29, _⟩ => ⟨S4096x1024, .bf16⟩
  | .hbm, ⟨30, _⟩ => ⟨S4096x1024, .bf16⟩
  | .hbm, ⟨31, _⟩ => ⟨S4096x1024, .f32⟩
  | .hbm, ⟨32, _⟩ => ⟨S4096x1024, .bf16⟩
  | .hbm, ⟨33, _⟩ => ⟨S4352x1024, .f32⟩
  | .hbm, ⟨34, _⟩ => ⟨S4352x1024, .f32⟩
  | .local _ .vmem, ⟨0, _⟩ => ⟨S256x512, .bf16⟩
  | .local _ .vmem, ⟨1, _⟩ => ⟨S256x512, .bf16⟩
  | .local _ .vmem, ⟨2, _⟩ => ⟨S4352x512, .bf16⟩
  | .local _ .vmem, ⟨3, _⟩ => ⟨S4352x512, .bf16⟩
  | .local _ .vmem, ⟨4, _⟩ => ⟨S4352x512, .bf16⟩
  | .local _ .vmem, ⟨5, _⟩ => ⟨S4352x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S1024x128, .bf16⟩
  | .local _ .vmem, ⟨11, _⟩ => ⟨S1024x128, .bf16⟩
  | .local _ .vmem, ⟨12, _⟩ => ⟨S4352x128, .bf16⟩
  | .local _ .vmem, ⟨13, _⟩ => ⟨S4352x128, .bf16⟩
  | .local _ .vmem, ⟨14, _⟩ => ⟨S4352x128, .bf16⟩
  | .local _ .vmem, ⟨15, _⟩ => ⟨S4352x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .f32⟩
  | .local _ .vmem, ⟨21, _⟩ => ⟨S1024x128, .f32⟩
  | .local _ .vmem, ⟨22, _⟩ => ⟨S1024x128, .bf16⟩
  | .local _ .vmem, ⟨23, _⟩ => ⟨S1024x128, .bf16⟩
  | .local _ .vmem, ⟨24, _⟩ => ⟨S4352x128, .f32⟩
  | .local _ .vmem, ⟨25, _⟩ => ⟨S4352x128, .f32⟩
  | .local _ .vmem, ⟨26, _⟩ => ⟨S4352x128, .f32⟩
  | .local _ .vmem, ⟨27, _⟩ => ⟨S4352x128, .f32⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_call3_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4352x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4352x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4352x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S4352x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== KernelIdeal.lean ====
variable {F : FTy → Type} [FloatOps F] [Named F]
def κ : String → Option EReal := fun
  | "inv_ln2" => some (((Real.log 2)⁻¹ : ℝ) : EReal)
  | "ln2" => some ((Real.log 2 : ℝ) : EReal)
  | _ => none
-- ==== ReferenceIdeal.lean ====
abbrev S4096x8x96 : Shape := ⟨3, ![4096, 8, 96]⟩
abbrev S4352x8x96 : Shape := ⟨3, ![4352, 8, 96]⟩
abbrev S4352x8x64 : Shape := ⟨3, ![4352, 8, 64]⟩
abbrev S4096x8x64 : Shape := ⟨3, ![4096, 8, 64]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S8x64x4352 : Shape := ⟨3, ![8, 64, 4352]⟩
abbrev S8x4352x96 : Shape := ⟨3, ![8, 4352, 96]⟩
abbrev S8x4096x96 : Shape := ⟨3, ![8, 4096, 96]⟩
abbrev S4096x8x128 : Shape := ⟨3, ![4096, 8, 128]⟩
abbrev S4096x1024 : Shape := ⟨2, ![4096, 1024]⟩
abbrev S4352x8x128 : Shape := ⟨3, ![4352, 8, 128]⟩
abbrev S4352x1024 : Shape := ⟨2, ![4352, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4352x8x96, .f32⟩
  | .hbm, ⟨2, _⟩ => ⟨S4352x8x64, .f32⟩
  | .hbm, ⟨3, _⟩ => ⟨S4096x8x64, .f32⟩
  | .hbm, ⟨4, _⟩ => ⟨S8x4096x4352, .f32⟩
  | .hbm, ⟨5, _⟩ => ⟨S_, .f32⟩
  | .hbm, ⟨6, _⟩ => ⟨S8x4096x4352, .f32⟩
  | .hbm, ⟨7, _⟩ => ⟨S8x4096x4352, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S8x4096x4352, .f32⟩
  | .hbm, ⟨12, _⟩ => ⟨S8x4096x4352, .i1⟩
  | .hbm, ⟨13, _⟩ => ⟨S8x4096x4352, .f32⟩
  | .hbm, ⟨14, _⟩ => ⟨S_, .f32⟩
  | .hbm, ⟨15, _⟩ => ⟨S8x4096, .f32⟩
  | .hbm, ⟨16, _⟩ => ⟨S_, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .i1⟩
  | .hbm, ⟨22, _⟩ => ⟨S_, .f32⟩
  | .hbm, ⟨23, _⟩ => ⟨S8x4096, .f32⟩
  | .hbm, ⟨24, _⟩ => ⟨S8x4096, .i1⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096, .f32⟩
  | .hbm, ⟨33, _⟩ => ⟨S8x4096x1, .f32⟩
  | .hbm, ⟨34, _⟩ => ⟨S8x4096x4352, .f32⟩
  | .hbm, ⟨35, _⟩ => ⟨S8x4096x4352, .f32⟩
  | .hbm, ⟨36, _⟩ => ⟨S8x4096x4352, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4352, .f32⟩
  | .hbm, ⟨41, _⟩ => ⟨S8x4096x4352, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x64x4096, .f32⟩
  | .hbm, ⟨47, _⟩ => ⟨S4096x8x64, .f32⟩
  | .hbm, ⟨48, _⟩ => ⟨S8x64x4096, .f32⟩
  | .hbm, ⟨49, _⟩ => ⟨S8x4096x4352, .f32⟩
  | .hbm, ⟨50, _⟩ => ⟨S8x64x4352, .f32⟩
  | .hbm, ⟨51, _⟩ => ⟨S4352x8x64, .f32⟩
  | .hbm, ⟨52, _⟩ => ⟨S8x4096x4352, .f32⟩
  | .hbm, ⟨53, _⟩ => ⟨S8x4096x4352, .f32⟩
  | .hbm, ⟨54, _⟩ => ⟨S8x4096x4352, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S8x4096x1, .f32⟩
  | .hbm, ⟨59, _⟩ => ⟨S8x4096x4352, .f32⟩
  | .hbm, ⟨60, _⟩ => ⟨S8x4096x4352, .f32⟩
  | .hbm, ⟨61, _⟩ => ⟨S_, .f32⟩
  | .hbm, ⟨62, _⟩ => ⟨S8x4096, .f32⟩
  | .hbm, ⟨63, _⟩ => ⟨S8x4096x4352, .f32⟩
  | .hbm, ⟨64, _⟩ => ⟨S8x4096x4352, .f32⟩
  | .hbm, ⟨65, _⟩ => ⟨S8x4096x4352, .f32⟩
  | .hbm, ⟨66, _⟩ => ⟨S_, .f32⟩
  | .hbm, ⟨67, _⟩ => ⟨S8x4096x4352, .f32⟩
  | .hbm, ⟨68, _⟩ => ⟨S8x4096x4352, .f32⟩
  | .hbm, ⟨69, _⟩ => ⟨S8x4352x96, .f32⟩
  | .hbm, ⟨70, _⟩ => ⟨S4352x8x96, .f32⟩
  | .hbm, ⟨71, _⟩ => ⟨S8x4096x96, .f32⟩
  | .hbm, ⟨72, _⟩ => ⟨S4096x8x96, .f32⟩
  | .hbm, ⟨73, _⟩ => ⟨S_, .i32⟩
  | .hbm, ⟨74, _⟩ => ⟨S_, .f32⟩
  | .hbm, ⟨75, _⟩ => ⟨S4096x8x128, .f32⟩
  | .hbm, ⟨76, _⟩ => ⟨S4096x1024, .f32⟩
  | .hbm, ⟨77, _⟩ => ⟨S4096x1024, .bf16⟩
  | .hbm, ⟨78, _⟩ => ⟨S_, .i32⟩
  | .hbm, ⟨79, _⟩ => ⟨S_, .f32⟩
  | .hbm, ⟨80, _⟩ => ⟨S4096x8x128, .f32⟩
  | .hbm, ⟨81, _⟩ => ⟨S4096x1024, .f32⟩
  | .hbm, ⟨82, _⟩ => ⟨S4096x1024, .bf16⟩
  | .hbm, ⟨83, _⟩ => ⟨S_, .i32⟩
  | .hbm, ⟨84, _⟩ => ⟨S_, .f32⟩
  | .hbm, ⟨85, _⟩ => ⟨S4352x8x128, .f32⟩
  | .hbm, ⟨86, _⟩ => ⟨S4352x1024, .f32⟩
  | .hbm, ⟨87, _⟩ => ⟨S_, .i32⟩
  | .hbm, ⟨88, _⟩ => ⟨S_, .f32⟩
  | .hbm, ⟨89, _⟩ => ⟨S4352x8x128, .f32⟩
  | .hbm, ⟨90, _⟩ => ⟨S4352x1024, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c : Ref sig .tc := ⟨.hbm, 73, rfl⟩
abbrev main_call0_v0 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_13 : Ref sig .tc := ⟨.hbm, 78, rfl⟩
abbrev main_call1_v0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_14 : Ref sig .tc := ⟨.hbm, 83, rfl⟩
abbrev main_call2_v0 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_call3_v0 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S1024x5632 : Shape := ⟨2, ![1024, 5632]⟩
abbrev S2x4096x2816 : Shape := ⟨3, ![2, 4096, 2816]⟩
abbrev S5632x1024 : Shape := ⟨2, ![5632, 1024]⟩
abbrev S4096x1024 : Shape := ⟨2, ![4096, 1024]⟩
abbrev S1x1024x2816 : Shape := ⟨3, ![1, 1024, 2816]⟩
abbrev S2816x1024 : Shape := ⟨2, ![2816, 1024]⟩
abbrev S1024x1024 : Shape := ⟨2, ![1024, 1024]⟩
abbrev S1024x2816 : Shape := ⟨2, ![1024, 2816]⟩

abbrev nBuf : Space → Nat
  | .hbm => 6
  | .vmem => 7
  | .smem => 0
  | _ => 0

abbrev bufTy : (tb : Table) → Fin (tcTables nBuf tb) → BufTy
  | .hbm, ⟨0, _⟩ => ⟨S1024x5632, .f32⟩
  | .hbm, ⟨1, _⟩ => ⟨S2x4096x2816, .f32⟩
  | .hbm, ⟨2, _⟩ => ⟨S2x4096x2816, .bf16⟩
  | .hbm, ⟨3, _⟩ => ⟨S5632x1024, .f32⟩
  | .hbm, ⟨4, _⟩ => ⟨S5632x1024, .bf16⟩
  | .hbm, ⟨5, _⟩ => ⟨S4096x1024, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x5632 : Shape := ⟨2, ![1024, 5632]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S2x4096x2816, .f32⟩
  | .hbm, ⟨2, _⟩ => ⟨S1x4096x2816, .f32⟩
  | .hbm, ⟨3, _⟩ => ⟨S4096x2816, .f32⟩
  | .hbm, ⟨4, _⟩ => ⟨S1x4096x2816, .f32⟩
  | .hbm, ⟨5, _⟩ => ⟨S4096x2816, .f32⟩
  | .hbm, ⟨6, _⟩ => ⟨S4096x5632, .f32⟩
  | .hbm, ⟨7, _⟩ => ⟨S_, .f32⟩
  | .hbm, ⟨8, _⟩ => ⟨S4096x1024, .f32⟩
  | .hbm, ⟨9, _⟩ => ⟨S4096x5632, .f32⟩
  | .hbm, ⟨10, _⟩ => ⟨S4096x1024, .f32⟩
  | .hbm, ⟨11, _⟩ => ⟨S4096x1024, .bf16⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S2x4096x2816 : Shape := ⟨3, ![2, 4096, 2816]⟩
abbrev S5632x1024 : Shape := ⟨2, ![5632, 1024]⟩
abbrev S1x2048x1408 : Shape := ⟨3, ![1, 2048, 1408]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .f32⟩
  | .hbm, ⟨2, _⟩ => ⟨S2x4096x2816, .bf16⟩
  | .hbm, ⟨3, _⟩ => ⟨S4096x1024, .bf16⟩
  | .hbm, ⟨4, _⟩ => ⟨S5632x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x2816, .f32⟩
  | .hbm, ⟨2, _⟩ => ⟨S1x4096x2816, .f32⟩
  | .hbm, ⟨3, _⟩ => ⟨S4096x2816, .f32⟩
  | .hbm, ⟨4, _⟩ => ⟨S1x4096x2816, .f32⟩
  | .hbm, ⟨5, _⟩ => ⟨S4096x2816, .f32⟩
  | .hbm, ⟨6, _⟩ => ⟨S4096x5632, .f32⟩
  | .hbm, ⟨7, _⟩ => ⟨S_, .f32⟩
  | .hbm, ⟨8, _⟩ => ⟨S1024x5632, .f32⟩
  | .hbm, ⟨9, _⟩ => ⟨S4096x5632, .f32⟩
  | .hbm, ⟨10, _⟩ => ⟨S5632x1024, .f32⟩
  | .hbm, ⟨11, _⟩ => ⟨S1024x5632, .f32⟩
  | .hbm, ⟨12, _⟩ => ⟨S5632x1024, .f32⟩
  | .hbm, ⟨13, _⟩ => ⟨S5632x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S4352x1024 : Shape := ⟨2, ![4352, 1024]⟩
abbrev S4352x5376 : Shape := ⟨2, ![4352, 5376]⟩
abbrev S5376x1024 : Shape := ⟨2, ![5376, 1024]⟩
abbrev S2176x1792 : Shape := ⟨2, ![2176, 1792]⟩
abbrev S2176x512 : Shape := ⟨2, ![2176, 512]⟩
abbrev S1792x512 : Shape := ⟨2, ![1792, 512]⟩

abbrev nBuf : Space → Nat
  | .hbm => 5
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S4352x5376, .f32⟩
  | .hbm, ⟨2, _⟩ => ⟨S4352x5376, .bf16⟩
  | .hbm, ⟨3, _⟩ => ⟨S4352x1024, .bf16⟩
  | .hbm, ⟨4, _⟩ => ⟨S5376x1024, .bf16⟩
  | .local _ .vmem, ⟨0, _⟩ => ⟨S2176x1792, .bf16⟩
  | .local _ .vmem, ⟨1, _⟩ => ⟨S2176x1792, .bf16⟩
  | .local _ .vmem, ⟨2, _⟩ => ⟨S2176x512, .bf16⟩
  | .local _ .vmem, ⟨3, _⟩ => ⟨S2176x512, .bf16⟩
  | .local _ .vmem, ⟨4, _⟩ => ⟨S1792x512, .bf16⟩
  | .local _ .vmem, ⟨5, _⟩ => ⟨S1792x512, .bf16⟩
  | .local _ .vmem, ⟨6, _⟩ => ⟨S1792x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1792x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x1024 : Shape := ⟨2, ![4352, 1024]⟩
abbrev S4352x5376 : Shape := ⟨2, ![4352, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x5376, .f32⟩
  | .hbm, ⟨2, _⟩ => ⟨S_, .f32⟩
  | .hbm, ⟨3, _⟩ => ⟨S1024x5376, .f32⟩
  | .hbm, ⟨4, _⟩ => ⟨S4352x5376, .f32⟩
  | .hbm, ⟨5, _⟩ => ⟨S5376x1024, .f32⟩
  | .hbm, ⟨6, _⟩ => ⟨S1024x5376, .f32⟩
  | .hbm, ⟨7, _⟩ => ⟨S5376x1024, .f32⟩
  | .hbm, ⟨8, _⟩ => ⟨S5376x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S1024x5376 : Shape := ⟨2, ![1024, 5376]⟩
abbrev S4352x5376 : Shape := ⟨2, ![4352, 5376]⟩
abbrev S5376x1024 : Shape := ⟨2, ![5376, 1024]⟩
abbrev S4352x1024 : Shape := ⟨2, ![4352, 1024]⟩
abbrev S1088x1792 : Shape := ⟨2, ![1088, 1792]⟩
abbrev S1792x1024 : Shape := ⟨2, ![1792, 1024]⟩
abbrev S1088x1024 : Shape := ⟨2, ![1088, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x5376, .f32⟩
  | .hbm, ⟨1, _⟩ => ⟨S4352x5376, .f32⟩
  | .hbm, ⟨2, _⟩ => ⟨S4352x5376, .bf16⟩
  | .hbm, ⟨3, _⟩ => ⟨S5376x1024, .f32⟩
  | .hbm, ⟨4, _⟩ => ⟨S5376x1024, .bf16⟩
  | .hbm, ⟨5, _⟩ => ⟨S4352x1024, .bf16⟩
  | .local _ .vmem, ⟨0, _⟩ => ⟨S1088x1792, .bf16⟩
  | .local _ .vmem, ⟨1, _⟩ => ⟨S1088x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S1024x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x5376 : Shape := ⟨2, ![1024, 5376]⟩
abbrev S4352x5376 : Shape := ⟨2, ![4352, 5376]⟩
abbrev S_ : Shape := ⟨0, ![]⟩
abbrev S4352x1024 : Shape := ⟨2, ![4352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x5376, .f32⟩
  | .hbm, ⟨1, _⟩ => ⟨S4352x5376, .f32⟩
  | .hbm, ⟨2, _⟩ => ⟨S_, .f32⟩
  | .hbm, ⟨3, _⟩ => ⟨S4352x1024, .f32⟩
  | .hbm, ⟨4, _⟩ => ⟨S4352x5376, .f32⟩
  | .hbm, ⟨5, _⟩ => ⟨S4352x1024, .f32⟩
  | .hbm, ⟨6, _⟩ => ⟨S4352x1024, .bf16⟩
  | _, _ => ⟨S1024x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S1024x5632 : Shape := ⟨2, ![1024, 5632]⟩
abbrev S5632x1024 : Shape := ⟨2, ![5632, 1024]⟩
abbrev S4096x5632 : Shape := ⟨2, ![4096, 5632]⟩
abbrev S1024x1024 : Shape := ⟨2, ![1024, 1024]⟩
abbrev S2816x1024 : Shape := ⟨2, ![2816, 1024]⟩
abbrev S1024x2816 : Shape := ⟨2, ![1024, 2816]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S5632x1024, .f32⟩
  | .hbm, ⟨4, _⟩ => ⟨S5632x1024, .bf16⟩
  | .hbm, ⟨5, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x2816, .bf16⟩
  | .local _ .vmem, ⟨5, _⟩ => ⟨S1024x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S2816x1024 : Shape := ⟨2, ![2816, 1024]⟩
abbrev S4096x1024 : Shape := ⟨2, ![4096, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 5
  | .vmem => 5
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S4096x1024, .bf16⟩
  | .hbm, ⟨3, _⟩ => ⟨S2816x1024, .bf16⟩
  | .hbm, ⟨4, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4352x1024 : Shape := ⟨2, ![4352, 1024]⟩
abbrev S1024x5376 : Shape := ⟨2, ![1024, 5376]⟩
abbrev S5376x1024 : Shape := ⟨2, ![5376, 1024]⟩
abbrev S4352x5376 : Shape := ⟨2, ![4352, 5376]⟩
abbrev S1088x1024 : Shape := ⟨2, ![1088, 1024]⟩
abbrev S1792x1024 : Shape := ⟨2, ![1792, 1024]⟩
abbrev S1088x1792 : Shape := ⟨2, ![1088, 1792]⟩

abbrev nBuf : Space → Nat
  | .hbm => 6
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024x5376, .f32⟩
  | .hbm, ⟨2, _⟩ => ⟨S4352x1024, .bf16⟩
  | .hbm, ⟨3, _⟩ => ⟨S5376x1024, .f32⟩
  | .hbm, ⟨4, _⟩ => ⟨S5376x1024, .bf16⟩
  | .hbm, ⟨5, _⟩ => ⟨S4352x5376, .bf16⟩
  | .local _ .vmem, ⟨0, _⟩ => ⟨S1088x1024, .bf16⟩
  | .local _ .vmem, ⟨1, _⟩ => ⟨S1088x1024, .bf16⟩
  | .local _ .vmem, ⟨2, _⟩ => ⟨S1792x1024, .bf16⟩
  | .local _ .vmem, ⟨3, _⟩ => ⟨S1792x1024, .bf16⟩
  | .local _ .vmem, ⟨4, _⟩ => ⟨S1088x1792, .bf16⟩
  | .local _ .vmem, ⟨5, _⟩ => ⟨S1088x1792, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x1024 : Shape := ⟨2, ![4352, 1024]⟩
abbrev S1024x5376 : Shape := ⟨2, ![1024, 5376]⟩
abbrev S4352x5376 : Shape := ⟨2, ![4352, 5376]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x5376, .f32⟩
  | .hbm, ⟨2, _⟩ => ⟨S4352x5376, .f32⟩
  | .hbm, ⟨3, _⟩ => ⟨S4352x5376, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S4352x384 : Shape := ⟨2, ![4352, 384]⟩
abbrev S384x1024 : Shape := ⟨2, ![384, 1024]⟩
abbrev S1024x384 : Shape := ⟨2, ![1024, 384]⟩
abbrev S4352x1024 : Shape := ⟨2, ![4352, 1024]⟩
abbrev S1088x384 : Shape := ⟨2, ![1088, 384]⟩
abbrev S1088x1024 : Shape := ⟨2, ![1088, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4352x384, .f32⟩
  | .hbm, ⟨1, _⟩ => ⟨S384x1024, .f32⟩
  | .hbm, ⟨2, _⟩ => ⟨S4352x384, .bf16⟩
  | .hbm, ⟨3, _⟩ => ⟨S1024x384, .f32⟩
  | .hbm, ⟨4, _⟩ => ⟨S1024x384, .bf16⟩
  | .hbm, ⟨5, _⟩ => ⟨S4352x1024, .bf16⟩
  | .local _ .vmem, ⟨0, _⟩ => ⟨S1088x384, .bf16⟩
  | .local _ .vmem, ⟨1, _⟩ => ⟨S1088x384, .bf16⟩
  | .local _ .vmem, ⟨2, _⟩ => ⟨S1024x384, .bf16⟩
  | .local _ .vmem, ⟨3, _⟩ => ⟨S1088x1024, .bf16⟩
  | .local _ .vmem, ⟨4, _⟩ => ⟨S1088x1024, .bf16⟩
  | _, _ => ⟨S4352x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4352x384 : Shape := ⟨2, ![4352, 384]⟩
abbrev S384x1024 : Shape := ⟨2, ![384, 1024]⟩
abbrev S4352x1024 : Shape := ⟨2, ![4352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4352x384, .f32⟩
  | .hbm, ⟨1, _⟩ => ⟨S384x1024, .f32⟩
  | .hbm, ⟨2, _⟩ => ⟨S4352x1024, .f32⟩
  | .hbm, ⟨3, _⟩ => ⟨S4352x1024, .bf16⟩
  | _, _ => ⟨S4352x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S4352x256 : Shape := ⟨2, ![4352, 256]⟩
abbrev S256x2048 : Shape := ⟨2, ![256, 2048]⟩
abbrev S2048x256 : Shape := ⟨2, ![2048, 256]⟩
abbrev S4352x2048 : Shape := ⟨2, ![4352, 2048]⟩
abbrev S1088x256 : Shape := ⟨2, ![1088, 256]⟩
abbrev S1024x256 : Shape := ⟨2, ![1024, 256]⟩
abbrev S1088x1024 : Shape := ⟨2, ![1088, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4352x256, .f32⟩
  | .hbm, ⟨1, _⟩ => ⟨S256x2048, .f32⟩
  | .hbm, ⟨2, _⟩ => ⟨S4352x256, .bf16⟩
  | .hbm, ⟨3, _⟩ => ⟨S2048x256, .f32⟩
  | .hbm, ⟨4, _⟩ => ⟨S2048x256, .bf16⟩
  | .hbm, ⟨5, _⟩ => ⟨S4352x2048, .bf16⟩
  | .local _ .vmem, ⟨0, _⟩ => ⟨S1088x256, .bf16⟩
  | .local _ .vmem, ⟨1, _⟩ => ⟨S1088x256, .bf16⟩
  | .local _ .vmem, ⟨2, _⟩ => ⟨S1024x256, .bf16⟩
  | .local _ .vmem, ⟨3, _⟩ => ⟨S1024x256, .bf16⟩
  | .local _ .vmem, ⟨4, _⟩ => ⟨S1088x1024, .bf16⟩
  | .local _ .vmem, ⟨5, _⟩ => ⟨S1088x1024, .bf16⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4352x256 : Shape := ⟨2, ![4352, 256]⟩
abbrev S256x2048 : Shape := ⟨2, ![256, 2048]⟩
abbrev S4352x2048 : Shape := ⟨2, ![4352, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S256x2048, .f32⟩
  | .hbm, ⟨2, _⟩ => ⟨S4352x2048, .f32⟩
  | .hbm, ⟨3, _⟩ => ⟨S4352x2048, .bf16⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S4096x1280 : Shape := ⟨2, ![4096, 1280]⟩
abbrev S1280x1024 : Shape := ⟨2, ![1280, 1024]⟩
abbrev S4096x1024 : Shape := ⟨2, ![4096, 1024]⟩
abbrev S1024x1280 : Shape := ⟨2, ![1024, 1280]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1280, .f32⟩
  | .hbm, ⟨1, _⟩ => ⟨S1280x1024, .f32⟩
  | .hbm, ⟨2, _⟩ => ⟨S4096x1280, .bf16⟩
  | .hbm, ⟨3, _⟩ => ⟨S1280x1024, .bf16⟩
  | .hbm, ⟨4, _⟩ => ⟨S4096x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1280x1024, .bf16⟩
  | .local _ .vmem, ⟨3, _⟩ => ⟨S1024x1024, .bf16⟩
  | .local _ .vmem, ⟨4, _⟩ => ⟨S1024x1024, .bf16⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1280 : Shape := ⟨2, ![4096, 1280]⟩
abbrev S1280x1024 : Shape := ⟨2, ![1280, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S1280x1024, .f32⟩
  | .hbm, ⟨2, _⟩ => ⟨S4096x1024, .f32⟩
  | .hbm, ⟨3, _⟩ => ⟨S4096x1024, .bf16⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S1024x1024 : Shape := ⟨2, ![1024, 1024]⟩
abbrev S4096x1024 : Shape := ⟨2, ![4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S1024x1024 : Shape := ⟨2, ![1024, 1024]⟩
abbrev S4096x1024 : Shape := ⟨2, ![4096, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .hbm, ⟨4, _⟩ => ⟨S1024x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S1280x1024 : Shape := ⟨2, ![1280, 1024]⟩
abbrev S4096x1024 : Shape := ⟨2, ![4096, 1024]⟩
abbrev S4096x1280 : Shape := ⟨2, ![4096, 1280]⟩
abbrev S1024x1024 : Shape := ⟨2, ![1024, 1024]⟩
abbrev S1024x1280 : Shape := ⟨2, ![1024, 1280]⟩

abbrev nBuf : Space → Nat
  | .hbm => 5
  | .vmem => 5
  | .smem => 0
  | _ => 0

abbrev bufTy : (tb : Table) → Fin (tcTables nBuf tb) → BufTy
  | .hbm, ⟨0, _⟩ => ⟨S1280x1024, .f32⟩
  | .hbm, ⟨1, _⟩ => ⟨S4096x1024, .f32⟩
  | .hbm, ⟨2, _⟩ => ⟨S4096x1024, .bf16⟩
  | .hbm, ⟨3, _⟩ => ⟨S1280x1024, .bf16⟩
  | .hbm, ⟨4, _⟩ => ⟨S4096x1280, .bf16⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1024x1280, .bf16⟩
  | .local _ .vmem, ⟨4, _⟩ => ⟨S1024x1280, .bf16⟩
  | _, _ => ⟨S1280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S1280x1024 : Shape := ⟨2, ![1280, 1024]⟩
abbrev S4096x1024 : Shape := ⟨2, ![4096, 1024]⟩
abbrev S_ : Shape := ⟨0, ![]⟩
abbrev S4096x1280 : Shape := ⟨2, ![4096, 1280]⟩

abbrev nBuf : Space → Nat
  | .hbm => 7
  | .vmem => 0
  | .smem => 0
  | _ => 0

abbrev bufTy : (tb : Table) → Fin (tcTables nBuf tb) → BufTy
  | .hbm, ⟨0, _⟩ => ⟨S1280x1024, .f32⟩
  | .hbm, ⟨1, _⟩ => ⟨S4096x1024, .f32⟩
  | .hbm, ⟨2, _⟩ => ⟨S_, .f32⟩
  | .hbm, ⟨3, _⟩ => ⟨S4096x1280, .f32⟩
  | .hbm, ⟨4, _⟩ => ⟨S4096x1024, .f32⟩
  | .hbm, ⟨5, _⟩ => ⟨S4096x1280, .f32⟩
  | .hbm, ⟨6, _⟩ => ⟨S4096x1280, .bf16⟩
  | _, _ => ⟨S1280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S384x1024 : Shape := ⟨2, ![384, 1024]⟩
abbrev S4352x1024 : Shape := ⟨2, ![4352, 1024]⟩
abbrev S1024x384 : Shape := ⟨2, ![1024, 384]⟩
abbrev S4352x384 : Shape := ⟨2, ![4352, 384]⟩
abbrev S1088x1024 : Shape := ⟨2, ![1088, 1024]⟩
abbrev S1088x384 : Shape := ⟨2, ![1088, 384]⟩

abbrev nBuf : Space → Nat
  | .hbm => 6
  | .vmem => 5
  | .smem => 0
  | _ => 0

abbrev bufTy : (tb : Table) → Fin (tcTables nBuf tb) → BufTy
  | .hbm, ⟨0, _⟩ => ⟨S384x1024, .f32⟩
  | .hbm, ⟨1, _⟩ => ⟨S4352x1024, .f32⟩
  | .hbm, ⟨2, _⟩ => ⟨S4352x1024, .bf16⟩
  | .hbm, ⟨3, _⟩ => ⟨S1024x384, .f32⟩
  | .hbm, ⟨4, _⟩ => ⟨S1024x384, .bf16⟩
  | .hbm, ⟨5, _⟩ => ⟨S4352x384, .bf16⟩
  | .local _ .vmem, ⟨0, _⟩ => ⟨S1088x1024, .bf16⟩
  | .local _ .vmem, ⟨1, _⟩ => ⟨S1088x1024, .bf16⟩
  | .local _ .vmem, ⟨2, _⟩ => ⟨S1024x384, .bf16⟩
  | .local _ .vmem, ⟨3, _⟩ => ⟨S1088x384, .bf16⟩
  | .local _ .vmem, ⟨4, _⟩ => ⟨S1088x384, .bf16⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S384x1024 : Shape := ⟨2, ![384, 1024]⟩
abbrev S4352x1024 : Shape := ⟨2, ![4352, 1024]⟩
abbrev S_ : Shape := ⟨0, ![]⟩
abbrev S4352x384 : Shape := ⟨2, ![4352, 384]⟩

abbrev nBuf : Space → Nat
  | .hbm => 7
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S4352x1024, .f32⟩
  | .hbm, ⟨2, _⟩ => ⟨S_, .f32⟩
  | .hbm, ⟨3, _⟩ => ⟨S4352x384, .f32⟩
  | .hbm, ⟨4, _⟩ => ⟨S4352x1024, .f32⟩
  | .hbm, ⟨5, _⟩ => ⟨S4352x384, .f32⟩
  | .hbm, ⟨6, _⟩ => ⟨S4352x384, .bf16⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S4096x1280 : Shape := ⟨2, ![4096, 1280]⟩
abbrev S4096x1024 : Shape := ⟨2, ![4096, 1024]⟩
abbrev S1280x1024 : Shape := ⟨2, ![1280, 1024]⟩
abbrev S2048x1280 : Shape := ⟨2, ![2048, 1280]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1280, .f32⟩
  | .hbm, ⟨1, _⟩ => ⟨S4096x1024, .f32⟩
  | .hbm, ⟨2, _⟩ => ⟨S4096x1280, .bf16⟩
  | .hbm, ⟨3, _⟩ => ⟨S4096x1024, .bf16⟩
  | .hbm, ⟨4, _⟩ => ⟨S1280x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S4096x1280 : Shape := ⟨2, ![4096, 1280]⟩
abbrev S4096x1024 : Shape := ⟨2, ![4096, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 8
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S4096x1024, .f32⟩
  | .hbm, ⟨2, _⟩ => ⟨S_, .f32⟩
  | .hbm, ⟨3, _⟩ => ⟨S1280x1024, .f32⟩
  | .hbm, ⟨4, _⟩ => ⟨S4096x1024, .f32⟩
  | .hbm, ⟨5, _⟩ => ⟨S1024x1280, .f32⟩
  | .hbm, ⟨6, _⟩ => ⟨S1280x1024, .f32⟩
  | .hbm, ⟨7, _⟩ => ⟨S1280x1024, .bf16⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S4352x384 : Shape := ⟨2, ![4352, 384]⟩
abbrev S4352x1024 : Shape := ⟨2, ![4352, 1024]⟩
abbrev S1024x384 : Shape := ⟨2, ![1024, 384]⟩
abbrev S2176x1024 : Shape := ⟨2, ![2176, 1024]⟩
abbrev S2176x384 : Shape := ⟨2, ![2176, 384]⟩

abbrev nBuf : Space → Nat
  | .hbm => 5
  | .vmem => 6
  | .smem => 0
  | _ => 0

abbrev bufTy : (tb : Table) → Fin (tcTables nBuf tb) → BufTy
  | .hbm, ⟨0, _⟩ => ⟨S4352x384, .f32⟩
  | .hbm, ⟨1, _⟩ => ⟨S4352x1024, .f32⟩
  | .hbm, ⟨2, _⟩ => ⟨S4352x1024, .bf16⟩
  | .hbm, ⟨3, _⟩ => ⟨S4352x384, .bf16⟩
  | .hbm, ⟨4, _⟩ => ⟨S1024x384, .bf16⟩
  | .local _ .vmem, ⟨0, _⟩ => ⟨S2176x1024, .bf16⟩
  | .local _ .vmem, ⟨1, _⟩ => ⟨S2176x1024, .bf16⟩
  | .local _ .vmem, ⟨2, _⟩ => ⟨S2176x384, .bf16⟩
  | .local _ .vmem, ⟨3, _⟩ => ⟨S2176x384, .bf16⟩
  | .local _ .vmem, ⟨4, _⟩ => ⟨S1024x384, .bf16⟩
  | .local _ .vmem, ⟨5, _⟩ => ⟨S1024x384, .f32⟩
  | _, _ => ⟨S4352x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S4352x384 : Shape := ⟨2, ![4352, 384]⟩
abbrev S4352x1024 : Shape := ⟨2, ![4352, 1024]⟩
abbrev S_ : Shape := ⟨0, ![]⟩
abbrev S384x1024 : Shape := ⟨2, ![384, 1024]⟩
abbrev S1024x384 : Shape := ⟨2, ![1024, 384]⟩

abbrev nBuf : Space → Nat
  | .hbm => 9
  | .vmem => 0
  | .smem => 0
  | _ => 0

abbrev bufTy : (tb : Table) → Fin (tcTables nBuf tb) → BufTy
  | .hbm, ⟨0, _⟩ => ⟨S4352x384, .f32⟩
  | .hbm, ⟨1, _⟩ => ⟨S4352x1024, .f32⟩
  | .hbm, ⟨2, _⟩ => ⟨S_, .f32⟩
  | .hbm, ⟨3, _⟩ => ⟨S384x1024, .f32⟩
  | .hbm, ⟨4, _⟩ => ⟨S4352x1024, .f32⟩
  | .hbm, ⟨5, _⟩ => ⟨S1024x384, .f32⟩
  | .hbm, ⟨6, _⟩ => ⟨S384x1024, .f32⟩
  | .hbm, ⟨7, _⟩ => ⟨S1024x384, .f32⟩
  | .hbm, ⟨8, _⟩ => ⟨S1024x384, .bf16⟩
  | _, _ => ⟨S4352x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel25.lean ====
abbrev S256x2048 : Shape := ⟨2, ![256, 2048]⟩
abbrev S4352x2048 : Shape := ⟨2, ![4352, 2048]⟩
abbrev S2048x256 : Shape := ⟨2, ![2048, 256]⟩
abbrev S4352x256 : Shape := ⟨2, ![4352, 256]⟩
abbrev S1088x1024 : Shape := ⟨2, ![1088, 1024]⟩
abbrev S1024x256 : Shape := ⟨2, ![1024, 256]⟩
abbrev S1088x256 : Shape := ⟨2, ![1088, 256]⟩

abbrev nBuf : Space → Nat
  | .hbm => 6
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S4352x2048, .f32⟩
  | .hbm, ⟨2, _⟩ => ⟨S4352x2048, .bf16⟩
  | .hbm, ⟨3, _⟩ => ⟨S2048x256, .f32⟩
  | .hbm, ⟨4, _⟩ => ⟨S2048x256, .bf16⟩
  | .hbm, ⟨5, _⟩ => ⟨S4352x256, .bf16⟩
  | .local _ .vmem, ⟨0, _⟩ => ⟨S1088x1024, .bf16⟩
  | .local _ .vmem, ⟨1, _⟩ => ⟨S1088x1024, .bf16⟩
  | .local _ .vmem, ⟨2, _⟩ => ⟨S1024x256, .bf16⟩
  | .local _ .vmem, ⟨3, _⟩ => ⟨S1024x256, .bf16⟩
  | .local _ .vmem, ⟨4, _⟩ => ⟨S1088x256, .bf16⟩
  | .local _ .vmem, ⟨5, _⟩ => ⟨S1088x256, .bf16⟩
  | .local _ .vmem, ⟨6, _⟩ => ⟨S1088x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S256x2048 : Shape := ⟨2, ![256, 2048]⟩
abbrev S4352x2048 : Shape := ⟨2, ![4352, 2048]⟩
abbrev S_ : Shape := ⟨0, ![]⟩
abbrev S4352x256 : Shape := ⟨2, ![4352, 256]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4352x2048, .f32⟩
  | .hbm, ⟨2, _⟩ => ⟨S_, .f32⟩
  | .hbm, ⟨3, _⟩ => ⟨S4352x256, .f32⟩
  | .hbm, ⟨4, _⟩ => ⟨S4352x2048, .f32⟩
  | .hbm, ⟨5, _⟩ => ⟨S4352x256, .f32⟩
  | .hbm, ⟨6, _⟩ => ⟨S4352x256, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S4352x256 : Shape := ⟨2, ![4352, 256]⟩
abbrev S4352x2048 : Shape := ⟨2, ![4352, 2048]⟩
abbrev S2048x256 : Shape := ⟨2, ![2048, 256]⟩
abbrev S2176x1024 : Shape := ⟨2, ![2176, 1024]⟩
abbrev S2176x256 : Shape := ⟨2, ![2176, 256]⟩
abbrev S1024x256 : Shape := ⟨2, ![1024, 256]⟩

abbrev nBuf : Space → Nat
  | .hbm => 5
  | .vmem => 7
  | .smem => 0
  | _ => 0

abbrev bufTy : (tb : Table) → Fin (tcTables nBuf tb) → BufTy
  | .hbm, ⟨0, _⟩ => ⟨S4352x256, .f32⟩
  | .hbm, ⟨1, _⟩ => ⟨S4352x2048, .f32⟩
  | .hbm, ⟨2, _⟩ => ⟨S4352x2048, .bf16⟩
  | .hbm, ⟨3, _⟩ => ⟨S4352x256, .bf16⟩
  | .hbm, ⟨4, _⟩ => ⟨S2048x256, .bf16⟩
  | .local _ .vmem, ⟨0, _⟩ => ⟨S2176x1024, .bf16⟩
  | .local _ .vmem, ⟨1, _⟩ => ⟨S2176x1024, .bf16⟩
  | .local _ .vmem, ⟨2, _⟩ => ⟨S2176x256, .bf16⟩
  | .local _ .vmem, ⟨3, _⟩ => ⟨S2176x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | _, _ => ⟨S4352x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4352x256 : Shape := ⟨2, ![4352, 256]⟩
abbrev S4352x2048 : Shape := ⟨2, ![4352, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4352x256, .f32⟩
  | .hbm, ⟨1, _⟩ => ⟨S4352x2048, .f32⟩
  | .hbm, ⟨2, _⟩ => ⟨S_, .f32⟩
  | .hbm, ⟨3, _⟩ => ⟨S256x2048, .f32⟩
  | .hbm, ⟨4, _⟩ => ⟨S4352x2048, .f32⟩
  | .hbm, ⟨5, _⟩ => ⟨S2048x256, .f32⟩
  | .hbm, ⟨6, _⟩ => ⟨S256x2048, .f32⟩
  | .hbm, ⟨7, _⟩ => ⟨S2048x256, .f32⟩
  | .hbm, ⟨8, _⟩ => ⟨S2048x256, .bf16⟩
  | _, _ => ⟨S4352x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S4096x5632 : Shape := ⟨2, ![4096, 5632]⟩
abbrev S3x2816 : Shape := ⟨2, ![3, 2816]⟩
abbrev S2816 : Shape := ⟨1, ![2816]⟩
abbrev S1x2816 : Shape := ⟨2, ![1, 2816]⟩
abbrev S4096x2816 : Shape := ⟨2, ![4096, 2816]⟩
abbrev S4096x128 : Shape := ⟨2, ![4096, 128]⟩
abbrev S3x128 : Shape := ⟨2, ![3, 128]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S2816, .f32⟩
  | .hbm, ⟨3, _⟩ => ⟨S4096x5632, .bf16⟩
  | .hbm, ⟨4, _⟩ => ⟨S1x2816, .f32⟩
  | .hbm, ⟨5, _⟩ => ⟨S4096x2816, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S3x128, .f32⟩
  | .local _ .vmem, ⟨5, _⟩ => ⟨S3x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S4096x5632 : Shape := ⟨2, ![4096, 5632]⟩
abbrev S3x2816 : Shape := ⟨2, ![3, 2816]⟩
abbrev S2816 : Shape := ⟨1, ![2816]⟩
abbrev S4096x2816 : Shape := ⟨2, ![4096, 2816]⟩
abbrev S_ : Shape := ⟨0, ![]⟩
abbrev S1x2816 : Shape := ⟨2, ![1, 2816]⟩
abbrev S4098x2816 : Shape := ⟨2, ![4098, 2816]⟩

abbrev nBuf : Space → Nat
  | .hbm => 44
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S1x2816, .f32⟩
  | .hbm, ⟨7, _⟩ => ⟨S_, .f32⟩
  | .hbm, ⟨8, _⟩ => ⟨S1x2816, .f32⟩
  | .hbm, ⟨9, _⟩ => ⟨S4098x2816, .f32⟩
  | .hbm, ⟨10, _⟩ => ⟨S4096x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S4096x2816, .f32⟩
  | .hbm, ⟨15, _⟩ => ⟨S4096x2816, .f32⟩
  | .hbm, ⟨16, _⟩ => ⟨S1x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S1x2816, .f32⟩
  | .hbm, ⟨21, _⟩ => ⟨S2816, .f32⟩
  | .hbm, ⟨22, _⟩ => ⟨S1x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel28.lean ====
abbrev S4096x5632 : Shape := ⟨2, ![4096, 5632]⟩
abbrev S3x2816 : Shape := ⟨2, ![3, 2816]⟩
abbrev S2816 : Shape := ⟨1, ![2816]⟩
abbrev S4096x2816 : Shape := ⟨2, ![4096, 2816]⟩
abbrev S1x2816 : Shape := ⟨2, ![1, 2816]⟩
abbrev S2x4096x2816 : Shape := ⟨3, ![2, 4096, 2816]⟩
abbrev S4096x128 : Shape := ⟨2, ![4096, 128]⟩
abbrev S3x128 : Shape := ⟨2, ![3, 128]⟩
abbrev S1x128 : Shape := ⟨2, ![1, 128]⟩
abbrev S2x4096x128 : Shape := ⟨3, ![2, 4096, 128]⟩
abbrev S1x4096x128 : Shape := ⟨3, ![1, 4096, 128]⟩
abbrev S128 : Shape := ⟨1, ![128]⟩

abbrev nBuf : Space → Nat
  | .hbm => 10
  | .vmem => 16
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S2816, .f32⟩
  | .hbm, ⟨3, _⟩ => ⟨S4096x2816, .f32⟩
  | .hbm, ⟨4, _⟩ => ⟨S4096x5632, .bf16⟩
  | .hbm, ⟨5, _⟩ => ⟨S4096x2816, .bf16⟩
  | .hbm, ⟨6, _⟩ => ⟨S1x2816, .f32⟩
  | .hbm, ⟨7, _⟩ => ⟨S2x4096x2816, .bf16⟩
  | .hbm, ⟨8, _⟩ => ⟨S3x2816, .f32⟩
  | .hbm, ⟨9, _⟩ => ⟨S1x2816, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S2x4096x128, .bf16⟩
  | .local _ .vmem, ⟨11, _⟩ => ⟨S2x4096x128, .bf16⟩
  | .local _ .vmem, ⟨12, _⟩ => ⟨S3x128, .f32⟩
  | .local _ .vmem, ⟨13, _⟩ => ⟨S3x128, .f32⟩
  | .local _ .vmem, ⟨14, _⟩ => ⟨S1x128, .f32⟩
  | .local _ .vmem, ⟨15, _⟩ => ⟨S1x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S4096x5632 : Shape := ⟨2, ![4096, 5632]⟩
abbrev S3x2816 : Shape := ⟨2, ![3, 2816]⟩
abbrev S2816 : Shape := ⟨1, ![2816]⟩
abbrev S4096x2816 : Shape := ⟨2, ![4096, 2816]⟩
abbrev S_ : Shape := ⟨0, ![]⟩
abbrev S1x2816 : Shape := ⟨2, ![1, 2816]⟩
abbrev S4098x2816 : Shape := ⟨2, ![4098, 2816]⟩
abbrev S1x4096x2816 : Shape := ⟨3, ![1, 4096, 2816]⟩
abbrev S2x4096x2816 : Shape := ⟨3, ![2, 4096, 2816]⟩

abbrev nBuf : Space → Nat
  | .hbm => 114
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S1x2816, .f32⟩
  | .hbm, ⟨8, _⟩ => ⟨S_, .f32⟩
  | .hbm, ⟨9, _⟩ => ⟨S1x2816, .f32⟩
  | .hbm, ⟨10, _⟩ => ⟨S4098x2816, .f32⟩
  | .hbm, ⟨11, _⟩ => ⟨S_, .f32⟩
  | .hbm, ⟨12, _⟩ => ⟨S1x2816, .f32⟩
  | .hbm, ⟨13, _⟩ => ⟨S_, .f32⟩
  | .hbm, ⟨14, _⟩ => ⟨S1x2816, .f32⟩
  | .hbm, ⟨15, _⟩ => ⟨S4096x2816, .f32⟩
  | .hbm, ⟨16, _⟩ => ⟨S1x2816, .f32⟩
  | .hbm, ⟨17, _⟩ => ⟨S2816, .f32⟩
  | .hbm, ⟨18, _⟩ => ⟨S1x2816, .f32⟩
  | .hbm, ⟨19, _⟩ => ⟨S4096x2816, .f32⟩
  | .hbm, ⟨20, _⟩ => ⟨S4096x2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S1x2816, .f32⟩
  | .hbm, ⟨26, _⟩ => ⟨S2816, .f32⟩
  | .hbm, ⟨27, _⟩ => ⟨S1x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x2816, .f32⟩
  | .hbm, ⟨33, _⟩ => ⟨S2816, .f32⟩
  | .hbm, ⟨34, _⟩ => ⟨S1x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S_, .f32⟩
  | .hbm, ⟨60, _⟩ => ⟨S2816, .f32⟩
  | .hbm, ⟨61, _⟩ => ⟨S1x2816, .f32⟩
  | .hbm, ⟨62, _⟩ => ⟨S4096x2816, .f32⟩
  | .hbm, ⟨63, _⟩ => ⟨S4096x2816, .f32⟩
  | .hbm, ⟨64, _⟩ => ⟨S_, .f32⟩
  | .hbm, ⟨65, _⟩ => ⟨S2816, .f32⟩
  | .hbm, ⟨66, _⟩ => ⟨S1x2816, .f32⟩
  | .hbm, ⟨67, _⟩ => ⟨S_, .f32⟩
  | .hbm, ⟨68, _⟩ => ⟨S3x2816, .f32⟩
  | .hbm, ⟨69, _⟩ => ⟨S_, .f32⟩
  | .hbm, ⟨70, _⟩ => ⟨S4098x2816, .f32⟩
  | .hbm, ⟨71, _⟩ => ⟨S4096x2816, .f32⟩
  | .hbm, ⟨72, _⟩ => ⟨S_, .f32⟩
  | .hbm, ⟨73, _⟩ => ⟨S2816, .f32⟩
  | .hbm, ⟨74, _⟩ => ⟨S1x2816, .f32⟩
  | .hbm, ⟨75, _⟩ => ⟨S4096x2816, .f32⟩
  | .hbm, ⟨76, _⟩ => ⟨S4096x2816, .f32⟩
  | .hbm, ⟨77, _⟩ => ⟨S_, .f32⟩
  | .hbm, ⟨78, _⟩ => ⟨S2816, .f32⟩
  | .hbm, ⟨79, _⟩ => ⟨S1x2816, .f32⟩
  | .hbm, ⟨80, _⟩ => ⟨S_, .f32⟩
  | .hbm, ⟨81, _⟩ => ⟨S3x2816, .f32⟩
  | .hbm, ⟨82, _⟩ => ⟨S3x2816, .f32⟩
  | .hbm, ⟨83, _⟩ => ⟨S_, .f32⟩
  | .hbm, ⟨84, _⟩ => ⟨S4098x2816, .f32⟩
  | .hbm, ⟨85, _⟩ => ⟨S4098x2816, .f32⟩
  | .hbm, ⟨86, _⟩ => ⟨S_, .f32⟩
  | .hbm, ⟨87, _⟩ => ⟨S2816, .f32⟩
  | .hbm, ⟨88, _⟩ => ⟨S1x2816, .f32⟩
  | .hbm, ⟨89, _⟩ => ⟨S_, .f32⟩
  | .hbm, ⟨90, _⟩ => ⟨S2816, .f32⟩
  | .hbm, ⟨91, _⟩ => ⟨S4096x2816, .f32⟩
  | .hbm, ⟨92, _⟩ => ⟨S_, .f32⟩
  | .hbm, ⟨93, _⟩ => ⟨S2816, .f32⟩
  | .hbm, ⟨94, _⟩ => ⟨S1x2816, .f32⟩
  | .hbm, ⟨95, _⟩ => ⟨S4096x2816, .f32⟩
  | .hbm, ⟨96, _⟩ => ⟨S4096x2816, .f32⟩
  | .hbm, ⟨97, _⟩ => ⟨S_, .f32⟩
  | .hbm, ⟨98, _⟩ => ⟨S2816, .f32⟩
  | .hbm, ⟨99, _⟩ => ⟨S1x2816, .f32⟩
  | .hbm, ⟨100, _⟩ => ⟨S_, .f32⟩
  | .hbm, ⟨101, _⟩ => ⟨S3x2816, .f32⟩
  | .hbm, ⟨102, _⟩ => ⟨S3x2816, .f32⟩
  | .hbm, ⟨103, _⟩ => ⟨S_, .f32⟩
  | .hbm, ⟨104, _⟩ => ⟨S4098x2816, .f32⟩
  | .hbm, ⟨105, _⟩ => ⟨S4098x2816, .f32⟩
  | .hbm, ⟨106, _⟩ => ⟨S1x2816, .f32⟩
  | .hbm, ⟨107, _⟩ => ⟨S4096x2816, .f32⟩
  | .hbm, ⟨108, _⟩ => ⟨S1x2816, .f32⟩
  | .hbm, ⟨109, _⟩ => ⟨S1x4096x2816, .f32⟩
  | .hbm, ⟨110, _⟩ => ⟨S1x4096x2816, .f32⟩
  | .hbm, ⟨111, _⟩ => ⟨S2x4096x2816, .f32⟩
  | .hbm, ⟨112, _⟩ => ⟨S2x4096x2816, .bf16⟩
  | .hbm, ⟨113, _⟩ => ⟨S1x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Kernel31.lean ====
abbrev S4096x1024 : Shape := ⟨2, ![4096, 1024]⟩
abbrev S4352x5376 : Shape := ⟨2, ![4352, 5376]⟩
abbrev S2048 : Shape := ⟨1, ![2048]⟩
abbrev S1x2048 : Shape := ⟨2, ![1, 2048]⟩
abbrev S512x1024 : Shape := ⟨2, ![512, 1024]⟩
abbrev S512x256 : Shape := ⟨2, ![512, 256]⟩
abbrev S512x2048 : Shape := ⟨2, ![512, 2048]⟩

abbrev nBuf : Space → Nat
  | .hbm => 9
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4352x5376, .f32⟩
  | .hbm, ⟨3, _⟩ => ⟨S2048, .f32⟩
  | .hbm, ⟨4, _⟩ => ⟨S4096x1024, .bf16⟩
  | .hbm, ⟨5, _⟩ => ⟨S4096x1024, .bf16⟩
  | .hbm, ⟨6, _⟩ => ⟨S4352x5376, .bf16⟩
  | .hbm, ⟨7, _⟩ => ⟨S1x2048, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S1x2048, .f32⟩
  | .local _ .vmem, ⟨21, _⟩ => ⟨S512x1024, .bf16⟩
  | .local _ .vmem, ⟨22, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_7 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_8 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_9 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference31Ideal.lean ====
abbrev S4096x1024 : Shape := ⟨2, ![4096, 1024]⟩
abbrev S4352x5376 : Shape := ⟨2, ![4352, 5376]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4352x5376, .f32⟩
  | .hbm, ⟨3, _⟩ => ⟨S2048, .f32⟩
  | .hbm, ⟨4, _⟩ => ⟨S4096x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel32.lean ====
abbrev S4096x1024 : Shape := ⟨2, ![4096, 1024]⟩
abbrev S4352x5376 : Shape := ⟨2, ![4352, 5376]⟩
abbrev S2048 : Shape := ⟨1, ![2048]⟩
abbrev S1x2048 : Shape := ⟨2, ![1, 2048]⟩
abbrev S4096x2048 : Shape := ⟨2, ![4096, 2048]⟩
abbrev S512x1024 : Shape := ⟨2, ![512, 1024]⟩
abbrev S512x256 : Shape := ⟨2, ![512, 256]⟩
abbrev S512x2048 : Shape := ⟨2, ![512, 2048]⟩

abbrev nBuf : Space → Nat
  | .hbm => 14
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4352x5376, .f32⟩
  | .hbm, ⟨3, _⟩ => ⟨S2048, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4352x5376, .bf16⟩
  | .hbm, ⟨8, _⟩ => ⟨S4096x1024, .bf16⟩
  | .hbm, ⟨9, _⟩ => ⟨S1x2048, .f32⟩
  | .hbm, ⟨10, _⟩ => ⟨S4096x1024, .bf16⟩
  | .hbm, ⟨11, _⟩ => ⟨S4096x1024, .bf16⟩
  | .hbm, ⟨12, _⟩ => ⟨S4096x2048, .bf16⟩
  | .hbm, ⟨13, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x1024, .bf16⟩
  | .local _ .vmem, ⟨21, _⟩ => ⟨S512x1024, .bf16⟩
  | .local _ .vmem, ⟨22, _⟩ => ⟨S1x2048, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x2048, .bf16⟩
  | .local _ .vmem, ⟨28, _⟩ => ⟨S512x2048, .bf16⟩
  | .local _ .vmem, ⟨29, _⟩ => ⟨S1x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_4 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_5 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_6 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_7 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_8 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_9 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference32Ideal.lean ====
abbrev S4096x1024 : Shape := ⟨2, ![4096, 1024]⟩
abbrev S4352x5376 : Shape := ⟨2, ![4352, 5376]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4352x5376, .f32⟩
  | .hbm, ⟨3, _⟩ => ⟨S2048, .f32⟩
  | .hbm, ⟨4, _⟩ => ⟨S4096x1024, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S_, .f32⟩
  | .hbm, ⟨38, _⟩ => ⟨S2048, .f32⟩
  | .hbm, ⟨39, _⟩ => ⟨S4096x1024, .bf16⟩
  | .hbm, ⟨40, _⟩ => ⟨S4096x1024, .bf16⟩
  | .hbm, ⟨41, _⟩ => ⟨S4096x2048, .bf16⟩
  | .hbm, ⟨42, _⟩ => ⟨S1x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel34.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference34Ideal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference35Ideal.lean ====
abbrev S256x128 : Shape := ⟨2, ![256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S512x128 : Shape := ⟨2, ![512, 128]⟩

abbrev nBuf : Space → Nat
  | .hbm => 7
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference36Ideal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S16x1024 : Shape := ⟨2, ![16, 1024]⟩
abbrev S1024x768 : Shape := ⟨2, ![1024, 768]⟩
abbrev S16x768 : Shape := ⟨2, ![16, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference37Ideal.lean ====
abbrev S16x1024 : Shape := ⟨2, ![16, 1024]⟩
abbrev S1024x768 : Shape := ⟨2, ![1024, 768]⟩
abbrev S16x768 : Shape := ⟨2, ![16, 768]⟩

abbrev nBuf : Space → Nat
  | .hbm => 3
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel38.lean ====
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S1024x768, .f32⟩
  | .local _ .vmem, ⟨0, _⟩ => ⟨S16x1024, .f32⟩
  | .local _ .vmem, ⟨1, _⟩ => ⟨S16x768, .f32⟩
  | .local _ .vmem, ⟨2, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference38Ideal.lean ====
abbrev S16x1024 : Shape := ⟨2, ![16, 1024]⟩
abbrev S16x768 : Shape := ⟨2, ![16, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x768, .f32⟩
  | .hbm, ⟨2, _⟩ => ⟨S_, .f32⟩
  | .hbm, ⟨3, _⟩ => ⟨S1024x768, .f32⟩
  | .hbm, ⟨4, _⟩ => ⟨S16x768, .f32⟩
  | .hbm, ⟨5, _⟩ => ⟨S768x1024, .f32⟩
  | .hbm, ⟨6, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel39.lean ====
abbrev S1024x768 : Shape := ⟨2, ![1024, 768]⟩
abbrev S16x768 : Shape := ⟨2, ![16, 768]⟩
abbrev S16x1024 : Shape := ⟨2, ![16, 1024]⟩

abbrev nBuf : Space → Nat
  | .hbm => 3
  | .vmem => 3
  | .smem => 0
  | _ => 0

abbrev bufTy : (tb : Table) → Fin (tcTables nBuf tb) → BufTy
  | .hbm, ⟨0, _⟩ => ⟨S1024x768, .f32⟩
  | .hbm, ⟨1, _⟩ => ⟨S16x768, .f32⟩
  | .hbm, ⟨2, _⟩ => ⟨S16x1024, .f32⟩
  | .local _ .vmem, ⟨0, _⟩ => ⟨S16x768, .f32⟩
  | .local _ .vmem, ⟨1, _⟩ => ⟨S1024x768, .f32⟩
  | .local _ .vmem, ⟨2, _⟩ => ⟨S16x1024, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference39Ideal.lean ====
abbrev S1024x768 : Shape := ⟨2, ![1024, 768]⟩
abbrev S16x768 : Shape := ⟨2, ![16, 768]⟩
abbrev S_ : Shape := ⟨0, ![]⟩
abbrev S16x1024 : Shape := ⟨2, ![16, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S16x768, .f32⟩
  | .hbm, ⟨2, _⟩ => ⟨S_, .f32⟩
  | .hbm, ⟨3, _⟩ => ⟨S16x1024, .f32⟩
  | .hbm, ⟨4, _⟩ => ⟨S16x768, .f32⟩
  | .hbm, ⟨5, _⟩ => ⟨S16x1024, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel40.lean ====
abbrev S8x664x1024 : Shape := ⟨3, ![8, 664, 1024]⟩
abbrev S1x664x1024 : Shape := ⟨3, ![1, 664, 1024]⟩
abbrev S1024x664 : Shape := ⟨2, ![1024, 664]⟩
abbrev S664x1024 : Shape := ⟨2, ![664, 1024]⟩
abbrev S8x664x256 : Shape := ⟨3, ![8, 664, 256]⟩
abbrev S1x664x256 : Shape := ⟨3, ![1, 664, 256]⟩
abbrev S664x256 : Shape := ⟨2, ![664, 256]⟩

abbrev nBuf : Space → Nat
  | .hbm => 14
  | .vmem => 18
  | .smem => 0
  | _ => 0

abbrev bufTy : (tb : Table) → Fin (tcTables nBuf tb) → BufTy
  | .hbm, ⟨0, _⟩ => ⟨S8x664x1024, .f32⟩
  | .hbm, ⟨1, _⟩ => ⟨S1x664x1024, .f32⟩
  | .hbm, ⟨2, _⟩ => ⟨S1024x664, .f32⟩
  | .hbm, ⟨3, _⟩ => ⟨S1024x664, .f32⟩
  | .hbm, ⟨4, _⟩ => ⟨S1024x664, .f32⟩
  | .hbm, ⟨5, _⟩ => ⟨S8x664x1024, .bf16⟩
  | .hbm, ⟨6, _⟩ => ⟨S1x664x1024, .bf16⟩
  | .hbm, ⟨7, _⟩ => ⟨S664x1024, .f32⟩
  | .hbm, ⟨8, _⟩ => ⟨S664x1024, .f32⟩
  | .hbm, ⟨9, _⟩ => ⟨S664x1024, .f32⟩
  | .hbm, ⟨10, _⟩ => ⟨S664x1024, .f32⟩
  | .hbm, ⟨11, _⟩ => ⟨S664x1024, .f32⟩
  | .hbm, ⟨12, _⟩ => ⟨S664x1024, .f32⟩
  | .hbm, ⟨13, _⟩ => ⟨S664x1024, .f32⟩
  | .local _ .vmem, ⟨0, _⟩ => ⟨S8x664x256, .bf16⟩
  | .local _ .vmem, ⟨1, _⟩ => ⟨S8x664x256, .bf16⟩
  | .local _ .vmem, ⟨2, _⟩ => ⟨S1x664x256, .bf16⟩
  | .local _ .vmem, ⟨3, _⟩ => ⟨S1x664x256, .bf16⟩
  | .local _ .vmem, ⟨4, _⟩ => ⟨S664x256, .f32⟩
  | .local _ .vmem, ⟨5, _⟩ => ⟨S664x256, .f32⟩
  | .local _ .vmem, ⟨6, _⟩ => ⟨S664x256, .f32⟩
  | .local _ .vmem, ⟨7, _⟩ => ⟨S664x256, .f32⟩
  | .local _ .vmem, ⟨8, _⟩ => ⟨S664x256, .f32⟩
  | .local _ .vmem, ⟨9, _⟩ => ⟨S664x256, .f32⟩
  | .local _ .vmem, ⟨10, _⟩ => ⟨S664x256, .f32⟩
  | .local _ .vmem, ⟨11, _⟩ => ⟨S664x256, .f32⟩
  | .local _ .vmem, ⟨12, _⟩ => ⟨S664x256, .f32⟩
  | .local _ .vmem, ⟨13, _⟩ => ⟨S664x256, .f32⟩
  | .local _ .vmem, ⟨14, _⟩ => ⟨S664x256, .f32⟩
  | .local _ .vmem, ⟨15, _⟩ => ⟨S664x256, .f32⟩
  | .local _ .vmem, ⟨16, _⟩ => ⟨S664x256, .f32⟩
  | .local _ .vmem, ⟨17, _⟩ => ⟨S664x256, .f32⟩
  | _, _ => ⟨S8x664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x664x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x664x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S664x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S664x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S664x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S664x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S664x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S664x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S664x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference40Ideal.lean ====
abbrev S8x664x1024 : Shape := ⟨3, ![8, 664, 1024]⟩
abbrev S1x664x1024 : Shape := ⟨3, ![1, 664, 1024]⟩
abbrev S1024x664 : Shape := ⟨2, ![1024, 664]⟩
abbrev S7x664x1024 : Shape := ⟨3, ![7, 664, 1024]⟩
abbrev S_ : Shape := ⟨0, ![]⟩
abbrev S664x1024 : Shape := ⟨2, ![664, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x664x1024, .f32⟩
  | .hbm, ⟨1, _⟩ => ⟨S1x664x1024, .f32⟩
  | .hbm, ⟨2, _⟩ => ⟨S1024x664, .f32⟩
  | .hbm, ⟨3, _⟩ => ⟨S1024x664, .f32⟩
  | .hbm, ⟨4, _⟩ => ⟨S1024x664, .f32⟩
  | .hbm, ⟨5, _⟩ => ⟨S7x664x1024, .f32⟩
  | .hbm, ⟨6, _⟩ => ⟨S8x664x1024, .f32⟩
  | .hbm, ⟨7, _⟩ => ⟨S_, .f32⟩
  | .hbm, ⟨8, _⟩ => ⟨S664x1024, .f32⟩
  | .hbm, ⟨9, _⟩ => ⟨S1024x664, .f32⟩
  | .hbm, ⟨10, _⟩ => ⟨S_, .f32⟩
  | .hbm, ⟨11, _⟩ => ⟨S1024x664, .f32⟩
  | .hbm, ⟨12, _⟩ => ⟨S1024x664, .f32⟩
  | .hbm, ⟨13, _⟩ => ⟨S_, .f32⟩
  | .hbm, ⟨14, _⟩ => ⟨S1024x664, .f32⟩
  | .hbm, ⟨15, _⟩ => ⟨S1024x664, .f32⟩
  | .hbm, ⟨16, _⟩ => ⟨S1024x664, .f32⟩
  | .hbm, ⟨17, _⟩ => ⟨S_, .f32⟩
  | .hbm, ⟨18, _⟩ => ⟨S1024x664, .f32⟩
  | .hbm, ⟨19, _⟩ => ⟨S1024x664, .f32⟩
  | .hbm, ⟨20, _⟩ => ⟨S1024x664, .f32⟩
  | .hbm, ⟨21, _⟩ => ⟨S_, .f32⟩
  | .hbm, ⟨22, _⟩ => ⟨S1024x664, .f32⟩
  | .hbm, ⟨23, _⟩ => ⟨S1024x664, .f32⟩
  | .hbm, ⟨24, _⟩ => ⟨S1024x664, .f32⟩
  | .hbm, ⟨25, _⟩ => ⟨S_, .f32⟩
  | .hbm, ⟨26, _⟩ => ⟨S1024x664, .f32⟩
  | .hbm, ⟨27, _⟩ => ⟨S1024x664, .f32⟩
  | .hbm, ⟨28, _⟩ => ⟨S_, .f32⟩
  | .hbm, ⟨29, _⟩ => ⟨S1024x664, .f32⟩
  | .hbm, ⟨30, _⟩ => ⟨S1024x664, .f32⟩
  | .hbm, ⟨31, _⟩ => ⟨S1024x664, .f32⟩
  | .hbm, ⟨32, _⟩ => ⟨S_, .f32⟩
  | .hbm, ⟨33, _⟩ => ⟨S1024x664, .f32⟩
  | .hbm, ⟨34, _⟩ => ⟨S1024x664, .f32⟩
  | .hbm, ⟨35, _⟩ => ⟨S1024x664, .f32⟩
  | .hbm, ⟨36, _⟩ => ⟨S_, .f32⟩
  | .hbm, ⟨37, _⟩ => ⟨S1024x664, .f32⟩
  | .hbm, ⟨38, _⟩ => ⟨S1024x664, .f32⟩
  | .hbm, ⟨39, _⟩ => ⟨S1024x664, .f32⟩
  | .hbm, ⟨40, _⟩ => ⟨S_, .f32⟩
  | .hbm, ⟨41, _⟩ => ⟨S1024x664, .f32⟩
  | .hbm, ⟨42, _⟩ => ⟨S1024x664, .f32⟩
  | .hbm, ⟨43, _⟩ => ⟨S664x1024, .f32⟩
  | .hbm, ⟨44, _⟩ => ⟨S664x1024, .f32⟩
  | .hbm, ⟨45, _⟩ => ⟨S664x1024, .f32⟩
  | .hbm, ⟨46, _⟩ => ⟨S664x1024, .f32⟩
  | _, _ => ⟨S8x664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel41.lean ====
abbrev S8x96x384 : Shape := ⟨3, ![8, 96, 384]⟩
abbrev S1x96x384 : Shape := ⟨3, ![1, 96, 384]⟩
abbrev S384x96 : Shape := ⟨2, ![384, 96]⟩
abbrev S96x384 : Shape := ⟨2, ![96, 384]⟩
abbrev S8x96x128 : Shape := ⟨3, ![8, 96, 128]⟩
abbrev S1x96x128 : Shape := ⟨3, ![1, 96, 128]⟩
abbrev S96x128 : Shape := ⟨2, ![96, 128]⟩

abbrev nBuf : Space → Nat
  | .hbm => 14
  | .vmem => 18
  | .smem => 0
  | _ => 0

abbrev bufTy : (tb : Table) → Fin (tcTables nBuf tb) → BufTy
  | .hbm, ⟨0, _⟩ => ⟨S8x96x384, .f32⟩
  | .hbm, ⟨1, _⟩ => ⟨S1x96x384, .f32⟩
  | .hbm, ⟨2, _⟩ => ⟨S384x96, .f32⟩
  | .hbm, ⟨3, _⟩ => ⟨S384x96, .f32⟩
  | .hbm, ⟨4, _⟩ => ⟨S384x96, .f32⟩
  | .hbm, ⟨5, _⟩ => ⟨S8x96x384, .bf16⟩
  | .hbm, ⟨6, _⟩ => ⟨S1x96x384, .bf16⟩
  | .hbm, ⟨7, _⟩ => ⟨S96x384, .f32⟩
  | .hbm, ⟨8, _⟩ => ⟨S96x384, .f32⟩
  | .hbm, ⟨9, _⟩ => ⟨S96x384, .f32⟩
  | .hbm, ⟨10, _⟩ => ⟨S96x384, .f32⟩
  | .hbm, ⟨11, _⟩ => ⟨S96x384, .f32⟩
  | .hbm, ⟨12, _⟩ => ⟨S96x384, .f32⟩
  | .hbm, ⟨13, _⟩ => ⟨S96x384, .f32⟩
  | .local _ .vmem, ⟨0, _⟩ => ⟨S8x96x128, .bf16⟩
  | .local _ .vmem, ⟨1, _⟩ => ⟨S8x96x128, .bf16⟩
  | .local _ .vmem, ⟨2, _⟩ => ⟨S1x96x128, .bf16⟩
  | .local _ .vmem, ⟨3, _⟩ => ⟨S1x96x128, .bf16⟩
  | .local _ .vmem, ⟨4, _⟩ => ⟨S96x128, .f32⟩
  | .local _ .vmem, ⟨5, _⟩ => ⟨S96x128, .f32⟩
  | .local _ .vmem, ⟨6, _⟩ => ⟨S96x128, .f32⟩
  | .local _ .vmem, ⟨7, _⟩ => ⟨S96x128, .f32⟩
  | .local _ .vmem, ⟨8, _⟩ => ⟨S96x128, .f32⟩
  | .local _ .vmem, ⟨9, _⟩ => ⟨S96x128, .f32⟩
  | .local _ .vmem, ⟨10, _⟩ => ⟨S96x128, .f32⟩
  | .local _ .vmem, ⟨11, _⟩ => ⟨S96x128, .f32⟩
  | .local _ .vmem, ⟨12, _⟩ => ⟨S96x128, .f32⟩
  | .local _ .vmem, ⟨13, _⟩ => ⟨S96x128, .f32⟩
  | .local _ .vmem, ⟨14, _⟩ => ⟨S96x128, .f32⟩
  | .local _ .vmem, ⟨15, _⟩ => ⟨S96x128, .f32⟩
  | .local _ .vmem, ⟨16, _⟩ => ⟨S96x128, .f32⟩
  | .local _ .vmem, ⟨17, _⟩ => ⟨S96x128, .f32⟩
  | _, _ => ⟨S8x96x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x96x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S96x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference41Ideal.lean ====
abbrev S8x96x384 : Shape := ⟨3, ![8, 96, 384]⟩
abbrev S1x96x384 : Shape := ⟨3, ![1, 96, 384]⟩
abbrev S384x96 : Shape := ⟨2, ![384, 96]⟩
abbrev S7x96x384 : Shape := ⟨3, ![7, 96, 384]⟩
abbrev S_ : Shape := ⟨0, ![]⟩
abbrev S96x384 : Shape := ⟨2, ![96, 384]⟩

abbrev nBuf : Space → Nat
  | .hbm => 47
  | .vmem => 0
  | .smem => 0
  | _ => 0

abbrev bufTy : (tb : Table) → Fin (tcTables nBuf tb) → BufTy
  | .hbm, ⟨0, _⟩ => ⟨S8x96x384, .f32⟩
  | .hbm, ⟨1, _⟩ => ⟨S1x96x384, .f32⟩
  | .hbm, ⟨2, _⟩ => ⟨S384x96, .f32⟩
  | .hbm, ⟨3, _⟩ => ⟨S384x96, .f32⟩
  | .hbm, ⟨4, _⟩ => ⟨S384x96, .f32⟩
  | .hbm, ⟨5, _⟩ => ⟨S7x96x384, .f32⟩
  | .hbm, ⟨6, _⟩ => ⟨S8x96x384, .f32⟩
  | .hbm, ⟨7, _⟩ => ⟨S_, .f32⟩
  | .hbm, ⟨8, _⟩ => ⟨S96x384, .f32⟩
  | .hbm, ⟨9, _⟩ => ⟨S384x96, .f32⟩
  | .hbm, ⟨10, _⟩ => ⟨S_, .f32⟩
  | .hbm, ⟨11, _⟩ => ⟨S384x96, .f32⟩
  | .hbm, ⟨12, _⟩ => ⟨S384x96, .f32⟩
  | .hbm, ⟨13, _⟩ => ⟨S_, .f32⟩
  | .hbm, ⟨14, _⟩ => ⟨S384x96, .f32⟩
  | .hbm, ⟨15, _⟩ => ⟨S384x96, .f32⟩
  | .hbm, ⟨16, _⟩ => ⟨S384x96, .f32⟩
  | .hbm, ⟨17, _⟩ => ⟨S_, .f32⟩
  | .hbm, ⟨18, _⟩ => ⟨S384x96, .f32⟩
  | .hbm, ⟨19, _⟩ => ⟨S384x96, .f32⟩
  | .hbm, ⟨20, _⟩ => ⟨S384x96, .f32⟩
  | .hbm, ⟨21, _⟩ => ⟨S_, .f32⟩
  | .hbm, ⟨22, _⟩ => ⟨S384x96, .f32⟩
  | .hbm, ⟨23, _⟩ => ⟨S384x96, .f32⟩
  | .hbm, ⟨24, _⟩ => ⟨S384x96, .f32⟩
  | .hbm, ⟨25, _⟩ => ⟨S_, .f32⟩
  | .hbm, ⟨26, _⟩ => ⟨S384x96, .f32⟩
  | .hbm, ⟨27, _⟩ => ⟨S384x96, .f32⟩
  | .hbm, ⟨28, _⟩ => ⟨S_, .f32⟩
  | .hbm, ⟨29, _⟩ => ⟨S384x96, .f32⟩
  | .hbm, ⟨30, _⟩ => ⟨S384x96, .f32⟩
  | .hbm, ⟨31, _⟩ => ⟨S384x96, .f32⟩
  | .hbm, ⟨32, _⟩ => ⟨S_, .f32⟩
  | .hbm, ⟨33, _⟩ => ⟨S384x96, .f32⟩
  | .hbm, ⟨34, _⟩ => ⟨S384x96, .f32⟩
  | .hbm, ⟨35, _⟩ => ⟨S384x96, .f32⟩
  | .hbm, ⟨36, _⟩ => ⟨S_, .f32⟩
  | .hbm, ⟨37, _⟩ => ⟨S384x96, .f32⟩
  | .hbm, ⟨38, _⟩ => ⟨S384x96, .f32⟩
  | .hbm, ⟨39, _⟩ => ⟨S384x96, .f32⟩
  | .hbm, ⟨40, _⟩ => ⟨S_, .f32⟩
  | .hbm, ⟨41, _⟩ => ⟨S384x96, .f32⟩
  | .hbm, ⟨42, _⟩ => ⟨S384x96, .f32⟩
  | .hbm, ⟨43, _⟩ => ⟨S96x384, .f32⟩
  | .hbm, ⟨44, _⟩ => ⟨S96x384, .f32⟩
  | .hbm, ⟨45, _⟩ => ⟨S96x384, .f32⟩
  | .hbm, ⟨46, _⟩ => ⟨S96x384, .f32⟩
  | _, _ => ⟨S8x96x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel42.lean ====
abbrev S8x160x1024 : Shape := ⟨3, ![8, 160, 1024]⟩
abbrev S1x160x1024 : Shape := ⟨3, ![1, 160, 1024]⟩
abbrev S160x1024 : Shape := ⟨2, ![160, 1024]⟩
abbrev S8x160x256 : Shape := ⟨3, ![8, 160, 256]⟩
abbrev S1x160x256 : Shape := ⟨3, ![1, 160, 256]⟩
abbrev S160x256 : Shape := ⟨2, ![160, 256]⟩

abbrev nBuf : Space → Nat
  | .hbm => 11
  | .vmem => 18
  | .smem => 0
  | _ => 0

abbrev bufTy : (tb : Table) → Fin (tcTables nBuf tb) → BufTy
  | .hbm, ⟨0, _⟩ => ⟨S8x160x1024, .f32⟩
  | .hbm, ⟨1, _⟩ => ⟨S1x160x1024, .f32⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S8x160x1024, .bf16⟩
  | .hbm, ⟨6, _⟩ => ⟨S1x160x1024, .bf16⟩
  | .hbm, ⟨7, _⟩ => ⟨S160x1024, .f32⟩
  | .hbm, ⟨8, _⟩ => ⟨S160x1024, .f32⟩
  | .hbm, ⟨9, _⟩ => ⟨S160x1024, .f32⟩
  | .hbm, ⟨10, _⟩ => ⟨S160x1024, .f32⟩
  | .local _ .vmem, ⟨0, _⟩ => ⟨S8x160x256, .bf16⟩
  | .local _ .vmem, ⟨1, _⟩ => ⟨S8x160x256, .bf16⟩
  | .local _ .vmem, ⟨2, _⟩ => ⟨S1x160x256, .bf16⟩
  | .local _ .vmem, ⟨3, _⟩ => ⟨S1x160x256, .bf16⟩
  | .local _ .vmem, ⟨4, _⟩ => ⟨S160x256, .f32⟩
  | .local _ .vmem, ⟨5, _⟩ => ⟨S160x256, .f32⟩
  | .local _ .vmem, ⟨6, _⟩ => ⟨S160x256, .f32⟩
  | .local _ .vmem, ⟨7, _⟩ => ⟨S160x256, .f32⟩
  | .local _ .vmem, ⟨8, _⟩ => ⟨S160x256, .f32⟩
  | .local _ .vmem, ⟨9, _⟩ => ⟨S160x256, .f32⟩
  | .local _ .vmem, ⟨10, _⟩ => ⟨S160x256, .f32⟩
  | .local _ .vmem, ⟨11, _⟩ => ⟨S160x256, .f32⟩
  | .local _ .vmem, ⟨12, _⟩ => ⟨S160x256, .f32⟩
  | .local _ .vmem, ⟨13, _⟩ => ⟨S160x256, .f32⟩
  | .local _ .vmem, ⟨14, _⟩ => ⟨S160x256, .f32⟩
  | .local _ .vmem, ⟨15, _⟩ => ⟨S160x256, .f32⟩
  | .local _ .vmem, ⟨16, _⟩ => ⟨S160x256, .f32⟩
  | .local _ .vmem, ⟨17, _⟩ => ⟨S160x256, .f32⟩
  | _, _ => ⟨S8x160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x160x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x160x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference42Ideal.lean ====
abbrev S8x160x1024 : Shape := ⟨3, ![8, 160, 1024]⟩
abbrev S1x160x1024 : Shape := ⟨3, ![1, 160, 1024]⟩
abbrev S160x1024 : Shape := ⟨2, ![160, 1024]⟩
abbrev S7x160x1024 : Shape := ⟨3, ![7, 160, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x160x1024, .f32⟩
  | .hbm, ⟨1, _⟩ => ⟨S1x160x1024, .f32⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S7x160x1024, .f32⟩
  | .hbm, ⟨6, _⟩ => ⟨S8x160x1024, .f32⟩
  | .hbm, ⟨7, _⟩ => ⟨S_, .f32⟩
  | .hbm, ⟨8, _⟩ => ⟨S160x1024, .f32⟩
  | .hbm, ⟨9, _⟩ => ⟨S_, .f32⟩
  | .hbm, ⟨10, _⟩ => ⟨S160x1024, .f32⟩
  | .hbm, ⟨11, _⟩ => ⟨S160x1024, .f32⟩
  | .hbm, ⟨12, _⟩ => ⟨S_, .f32⟩
  | .hbm, ⟨13, _⟩ => ⟨S160x1024, .f32⟩
  | .hbm, ⟨14, _⟩ => ⟨S160x1024, .f32⟩
  | .hbm, ⟨15, _⟩ => ⟨S160x1024, .f32⟩
  | .hbm, ⟨16, _⟩ => ⟨S_, .f32⟩
  | .hbm, ⟨17, _⟩ => ⟨S160x1024, .f32⟩
  | .hbm, ⟨18, _⟩ => ⟨S160x1024, .f32⟩
  | .hbm, ⟨19, _⟩ => ⟨S160x1024, .f32⟩
  | .hbm, ⟨20, _⟩ => ⟨S_, .f32⟩
  | .hbm, ⟨21, _⟩ => ⟨S160x1024, .f32⟩
  | .hbm, ⟨22, _⟩ => ⟨S160x1024, .f32⟩
  | .hbm, ⟨23, _⟩ => ⟨S160x1024, .f32⟩
  | .hbm, ⟨24, _⟩ => ⟨S_, .f32⟩
  | .hbm, ⟨25, _⟩ => ⟨S160x1024, .f32⟩
  | .hbm, ⟨26, _⟩ => ⟨S160x1024, .f32⟩
  | .hbm, ⟨27, _⟩ => ⟨S_, .f32⟩
  | .hbm, ⟨28, _⟩ => ⟨S160x1024, .f32⟩
  | .hbm, ⟨29, _⟩ => ⟨S160x1024, .f32⟩
  | .hbm, ⟨30, _⟩ => ⟨S160x1024, .f32⟩
  | .hbm, ⟨31, _⟩ => ⟨S_, .f32⟩
  | .hbm, ⟨32, _⟩ => ⟨S160x1024, .f32⟩
  | .hbm, ⟨33, _⟩ => ⟨S160x1024, .f32⟩
  | .hbm, ⟨34, _⟩ => ⟨S160x1024, .f32⟩
  | .hbm, ⟨35, _⟩ => ⟨S_, .f32⟩
  | .hbm, ⟨36, _⟩ => ⟨S160x1024, .f32⟩
  | .hbm, ⟨37, _⟩ => ⟨S160x1024, .f32⟩
  | .hbm, ⟨38, _⟩ => ⟨S160x1024, .f32⟩
  | .hbm, ⟨39, _⟩ => ⟨S_, .f32⟩
  | .hbm, ⟨40, _⟩ => ⟨S160x1024, .f32⟩
  | .hbm, ⟨41, _⟩ => ⟨S160x1024, .f32⟩
  | _, _ => ⟨S8x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel43.lean ====
abbrev S8x128x1024 : Shape := ⟨3, ![8, 128, 1024]⟩
abbrev S1x128x1024 : Shape := ⟨3, ![1, 128, 1024]⟩
abbrev S128x1024 : Shape := ⟨2, ![128, 1024]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 11
  | .vmem => 18
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S8x128x1024, .bf16⟩
  | .hbm, ⟨6, _⟩ => ⟨S1x128x1024, .bf16⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S8x128x256, .bf16⟩
  | .local _ .vmem, ⟨1, _⟩ => ⟨S8x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference43Ideal.lean ====
abbrev S8x128x1024 : Shape := ⟨3, ![8, 128, 1024]⟩
abbrev S1x128x1024 : Shape := ⟨3, ![1, 128, 1024]⟩
abbrev S128x1024 : Shape := ⟨2, ![128, 1024]⟩
abbrev S7x128x1024 : Shape := ⟨3, ![7, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S7x128x1024, .f32⟩
  | .hbm, ⟨6, _⟩ => ⟨S8x128x1024, .f32⟩
  | .hbm, ⟨7, _⟩ => ⟨S_, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel44.lean ====
abbrev S8x704x1024 : Shape := ⟨3, ![8, 704, 1024]⟩
abbrev S1x704x1024 : Shape := ⟨3, ![1, 704, 1024]⟩
abbrev S1024x704 : Shape := ⟨2, ![1024, 704]⟩
abbrev S704x1024 : Shape := ⟨2, ![704, 1024]⟩
abbrev S8x704x256 : Shape := ⟨3, ![8, 704, 256]⟩
abbrev S1x704x256 : Shape := ⟨3, ![1, 704, 256]⟩
abbrev S704x256 : Shape := ⟨2, ![704, 256]⟩

abbrev nBuf : Space → Nat
  | .hbm => 14
  | .vmem => 18
  | .smem => 0
  | _ => 0

abbrev bufTy : (tb : Table) → Fin (tcTables nBuf tb) → BufTy
  | .hbm, ⟨0, _⟩ => ⟨S8x704x1024, .f32⟩
  | .hbm, ⟨1, _⟩ => ⟨S1x704x1024, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S8x704x1024, .bf16⟩
  | .hbm, ⟨6, _⟩ => ⟨S1x704x1024, .bf16⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .local _ .vmem, ⟨0, _⟩ => ⟨S8x704x256, .bf16⟩
  | .local _ .vmem, ⟨1, _⟩ => ⟨S8x704x256, .bf16⟩
  | .local _ .vmem, ⟨2, _⟩ => ⟨S1x704x256, .bf16⟩
  | .local _ .vmem, ⟨3, _⟩ => ⟨S1x704x256, .bf16⟩
  | .local _ .vmem, ⟨4, _⟩ => ⟨S704x256, .f32⟩
  | .local _ .vmem, ⟨5, _⟩ => ⟨S704x256, .f32⟩
  | .local _ .vmem, ⟨6, _⟩ => ⟨S704x256, .f32⟩
  | .local _ .vmem, ⟨7, _⟩ => ⟨S704x256, .f32⟩
  | .local _ .vmem, ⟨8, _⟩ => ⟨S704x256, .f32⟩
  | .local _ .vmem, ⟨9, _⟩ => ⟨S704x256, .f32⟩
  | .local _ .vmem, ⟨10, _⟩ => ⟨S704x256, .f32⟩
  | .local _ .vmem, ⟨11, _⟩ => ⟨S704x256, .f32⟩
  | .local _ .vmem, ⟨12, _⟩ => ⟨S704x256, .f32⟩
  | .local _ .vmem, ⟨13, _⟩ => ⟨S704x256, .f32⟩
  | .local _ .vmem, ⟨14, _⟩ => ⟨S704x256, .f32⟩
  | .local _ .vmem, ⟨15, _⟩ => ⟨S704x256, .f32⟩
  | .local _ .vmem, ⟨16, _⟩ => ⟨S704x256, .f32⟩
  | .local _ .vmem, ⟨17, _⟩ => ⟨S704x256, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x704x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x704x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S704x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference44Ideal.lean ====
abbrev S8x704x1024 : Shape := ⟨3, ![8, 704, 1024]⟩
abbrev S1x704x1024 : Shape := ⟨3, ![1, 704, 1024]⟩
abbrev S1024x704 : Shape := ⟨2, ![1024, 704]⟩
abbrev S7x704x1024 : Shape := ⟨3, ![7, 704, 1024]⟩
abbrev S_ : Shape := ⟨0, ![]⟩
abbrev S704x1024 : Shape := ⟨2, ![704, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S1x704x1024, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S7x704x1024, .f32⟩
  | .hbm, ⟨6, _⟩ => ⟨S8x704x1024, .f32⟩
  | .hbm, ⟨7, _⟩ => ⟨S_, .f32⟩
  | .hbm, ⟨8, _⟩ => ⟨S704x1024, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | .hbm, ⟨39, _⟩ => ⟨S1024x704, .f32⟩
  | .hbm, ⟨40, _⟩ => ⟨S_, .f32⟩
  | .hbm, ⟨41, _⟩ => ⟨S1024x704, .f32⟩
  | .hbm, ⟨42, _⟩ => ⟨S1024x704, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel45.lean ====
abbrev S8x352x1024 : Shape := ⟨3, ![8, 352, 1024]⟩
abbrev S1x352x1024 : Shape := ⟨3, ![1, 352, 1024]⟩
abbrev S352x1024 : Shape := ⟨2, ![352, 1024]⟩
abbrev S8x352x256 : Shape := ⟨3, ![8, 352, 256]⟩
abbrev S1x352x256 : Shape := ⟨3, ![1, 352, 256]⟩
abbrev S352x256 : Shape := ⟨2, ![352, 256]⟩

abbrev nBuf : Space → Nat
  | .hbm => 11
  | .vmem => 18
  | .smem => 0
  | _ => 0

abbrev bufTy : (tb : Table) → Fin (tcTables nBuf tb) → BufTy
  | .hbm, ⟨0, _⟩ => ⟨S8x352x1024, .f32⟩
  | .hbm, ⟨1, _⟩ => ⟨S1x352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S8x352x1024, .bf16⟩
  | .hbm, ⟨6, _⟩ => ⟨S1x352x1024, .bf16⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x352x256, .bf16⟩
  | .local _ .vmem, ⟨1, _⟩ => ⟨S8x352x256, .bf16⟩
  | .local _ .vmem, ⟨2, _⟩ => ⟨S1x352x256, .bf16⟩
  | .local _ .vmem, ⟨3, _⟩ => ⟨S1x352x256, .bf16⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | .local _ .vmem, ⟨16, _⟩ => ⟨S352x256, .f32⟩
  | .local _ .vmem, ⟨17, _⟩ => ⟨S352x256, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference45Ideal.lean ====
abbrev S8x352x1024 : Shape := ⟨3, ![8, 352, 1024]⟩
abbrev S1x352x1024 : Shape := ⟨3, ![1, 352, 1024]⟩
abbrev S352x1024 : Shape := ⟨2, ![352, 1024]⟩
abbrev S7x352x1024 : Shape := ⟨3, ![7, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S1x352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S7x352x1024, .f32⟩
  | .hbm, ⟨6, _⟩ => ⟨S8x352x1024, .f32⟩
  | .hbm, ⟨7, _⟩ => ⟨S_, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel46.lean ====
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 5
  | .vmem => 3
  | .smem => 0
  | _ => 0

abbrev bufTy : (tb : Table) → Fin (tcTables nBuf tb) → BufTy
  | .hbm, ⟨0, _⟩ => ⟨S8x128x256, .f32⟩
  | .hbm, ⟨1, _⟩ => ⟨S1x128x256, .f32⟩
  | .hbm, ⟨2, _⟩ => ⟨S8x128x256, .bf16⟩
  | .hbm, ⟨3, _⟩ => ⟨S1x128x256, .bf16⟩
  | .hbm, ⟨4, _⟩ => ⟨S128x256, .f32⟩
  | .local _ .vmem, ⟨0, _⟩ => ⟨S8x128x256, .bf16⟩
  | .local _ .vmem, ⟨1, _⟩ => ⟨S1x128x256, .bf16⟩
  | .local _ .vmem, ⟨2, _⟩ => ⟨S128x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference46Ideal.lean ====
abbrev S8x128x256 : Shape := ⟨3, ![8, 128, 256]⟩
abbrev S1x128x256 : Shape := ⟨3, ![1, 128, 256]⟩
abbrev S7x128x256 : Shape := ⟨3, ![7, 128, 256]⟩
abbrev S_ : Shape := ⟨0, ![]⟩
abbrev S128x256 : Shape := ⟨2, ![128, 256]⟩

abbrev nBuf : Space → Nat
  | .hbm => 6
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S1x128x256, .f32⟩
  | .hbm, ⟨2, _⟩ => ⟨S7x128x256, .f32⟩
  | .hbm, ⟨3, _⟩ => ⟨S8x128x256, .f32⟩
  | .hbm, ⟨4, _⟩ => ⟨S_, .f32⟩
  | .hbm, ⟨5, _⟩ => ⟨S128x256, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel47.lean ====
abbrev S8x128x512 : Shape := ⟨3, ![8, 128, 512]⟩
abbrev S1x128x512 : Shape := ⟨3, ![1, 128, 512]⟩
abbrev S128x512 : Shape := ⟨2, ![128, 512]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 5
  | .vmem => 6
  | .smem => 0
  | _ => 0

abbrev bufTy : (tb : Table) → Fin (tcTables nBuf tb) → BufTy
  | .hbm, ⟨0, _⟩ => ⟨S8x128x512, .f32⟩
  | .hbm, ⟨1, _⟩ => ⟨S1x128x512, .f32⟩
  | .hbm, ⟨2, _⟩ => ⟨S8x128x512, .bf16⟩
  | .hbm, ⟨3, _⟩ => ⟨S1x128x512, .bf16⟩
  | .hbm, ⟨4, _⟩ => ⟨S128x512, .f32⟩
  | .local _ .vmem, ⟨0, _⟩ => ⟨S8x128x256, .bf16⟩
  | .local _ .vmem, ⟨1, _⟩ => ⟨S8x128x256, .bf16⟩
  | .local _ .vmem, ⟨2, _⟩ => ⟨S1x128x256, .bf16⟩
  | .local _ .vmem, ⟨3, _⟩ => ⟨S1x128x256, .bf16⟩
  | .local _ .vmem, ⟨4, _⟩ => ⟨S128x256, .f32⟩
  | .local _ .vmem, ⟨5, _⟩ => ⟨S128x256, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference47Ideal.lean ====
abbrev S8x128x512 : Shape := ⟨3, ![8, 128, 512]⟩
abbrev S1x128x512 : Shape := ⟨3, ![1, 128, 512]⟩
abbrev S7x128x512 : Shape := ⟨3, ![7, 128, 512]⟩
abbrev S_ : Shape := ⟨0, ![]⟩
abbrev S128x512 : Shape := ⟨2, ![128, 512]⟩

abbrev nBuf : Space → Nat
  | .hbm => 6
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S1x128x512, .f32⟩
  | .hbm, ⟨2, _⟩ => ⟨S7x128x512, .f32⟩
  | .hbm, ⟨3, _⟩ => ⟨S8x128x512, .f32⟩
  | .hbm, ⟨4, _⟩ => ⟨S_, .f32⟩
  | .hbm, ⟨5, _⟩ => ⟨S128x512, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel48.lean ====
abbrev S8x80x512 : Shape := ⟨3, ![8, 80, 512]⟩
abbrev S80x512 : Shape := ⟨2, ![80, 512]⟩
abbrev S8x80x256 : Shape := ⟨3, ![8, 80, 256]⟩
abbrev S80x256 : Shape := ⟨2, ![80, 256]⟩
abbrev S1x80x256 : Shape := ⟨3, ![1, 80, 256]⟩

abbrev nBuf : Space → Nat
  | .hbm => 2
  | .vmem => 4
  | .smem => 0
  | _ => 0

abbrev bufTy : (tb : Table) → Fin (tcTables nBuf tb) → BufTy
  | .hbm, ⟨0, _⟩ => ⟨S8x80x512, .f32⟩
  | .hbm, ⟨1, _⟩ => ⟨S80x512, .f32⟩
  | .local _ .vmem, ⟨0, _⟩ => ⟨S8x80x256, .f32⟩
  | .local _ .vmem, ⟨1, _⟩ => ⟨S8x80x256, .f32⟩
  | .local _ .vmem, ⟨2, _⟩ => ⟨S80x256, .f32⟩
  | .local _ .vmem, ⟨3, _⟩ => ⟨S80x256, .f32⟩
  | _, _ => ⟨S8x80x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x80x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference48Ideal.lean ====
abbrev S8x80x512 : Shape := ⟨3, ![8, 80, 512]⟩
abbrev S_ : Shape := ⟨0, ![]⟩
abbrev S80x512 : Shape := ⟨2, ![80, 512]⟩

abbrev nBuf : Space → Nat
  | .hbm => 3
  | .vmem => 0
  | .smem => 0
  | _ => 0

abbrev bufTy : (tb : Table) → Fin (tcTables nBuf tb) → BufTy
  | .hbm, ⟨0, _⟩ => ⟨S8x80x512, .f32⟩
  | .hbm, ⟨1, _⟩ => ⟨S_, .f32⟩
  | .hbm, ⟨2, _⟩ => ⟨S80x512, .f32⟩
  | _, _ => ⟨S8x80x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel49.lean ====
abbrev S8x320x128 : Shape := ⟨3, ![8, 320, 128]⟩
abbrev S1x320x128 : Shape := ⟨3, ![1, 320, 128]⟩
abbrev S320x128 : Shape := ⟨2, ![320, 128]⟩

abbrev nBuf : Space → Nat
  | .hbm => 5
  | .vmem => 3
  | .smem => 0
  | _ => 0

abbrev bufTy : (tb : Table) → Fin (tcTables nBuf tb) → BufTy
  | .hbm, ⟨0, _⟩ => ⟨S8x320x128, .f32⟩
  | .hbm, ⟨1, _⟩ => ⟨S1x320x128, .f32⟩
  | .hbm, ⟨2, _⟩ => ⟨S8x320x128, .bf16⟩
  | .hbm, ⟨3, _⟩ => ⟨S1x320x128, .bf16⟩
  | .hbm, ⟨4, _⟩ => ⟨S320x128, .f32⟩
  | .local _ .vmem, ⟨0, _⟩ => ⟨S8x320x128, .bf16⟩
  | .local _ .vmem, ⟨1, _⟩ => ⟨S1x320x128, .bf16⟩
  | .local _ .vmem, ⟨2, _⟩ => ⟨S320x128, .f32⟩
  | _, _ => ⟨S8x320x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x320x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x320x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S320x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference49Ideal.lean ====
abbrev S8x320x128 : Shape := ⟨3, ![8, 320, 128]⟩
abbrev S1x320x128 : Shape := ⟨3, ![1, 320, 128]⟩
abbrev S7x320x128 : Shape := ⟨3, ![7, 320, 128]⟩
abbrev S_ : Shape := ⟨0, ![]⟩
abbrev S320x128 : Shape := ⟨2, ![320, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x320x128, .f32⟩
  | .hbm, ⟨1, _⟩ => ⟨S1x320x128, .f32⟩
  | .hbm, ⟨2, _⟩ => ⟨S7x320x128, .f32⟩
  | .hbm, ⟨3, _⟩ => ⟨S8x320x128, .f32⟩
  | .hbm, ⟨4, _⟩ => ⟨S_, .f32⟩
  | .hbm, ⟨5, _⟩ => ⟨S320x128, .f32⟩
  | _, _ => ⟨S8x320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel50.lean ====
abbrev S8x320x128 : Shape := ⟨3, ![8, 320, 128]⟩
abbrev S1x320x128 : Shape := ⟨3, ![1, 320, 128]⟩
abbrev S320x128 : Shape := ⟨2, ![320, 128]⟩

abbrev nBuf : Space → Nat
  | .hbm => 5
  | .vmem => 3
  | .smem => 0
  | _ => 0

abbrev bufTy : (tb : Table) → Fin (tcTables nBuf tb) → BufTy
  | .hbm, ⟨0, _⟩ => ⟨S8x320x128, .f32⟩
  | .hbm, ⟨1, _⟩ => ⟨S1x320x128, .f32⟩
  | .hbm, ⟨2, _⟩ => ⟨S8x320x128, .bf16⟩
  | .hbm, ⟨3, _⟩ => ⟨S1x320x128, .bf16⟩
  | .hbm, ⟨4, _⟩ => ⟨S320x128, .f32⟩
  | .local _ .vmem, ⟨0, _⟩ => ⟨S8x320x128, .bf16⟩
  | .local _ .vmem, ⟨1, _⟩ => ⟨S1x320x128, .bf16⟩
  | .local _ .vmem, ⟨2, _⟩ => ⟨S320x128, .f32⟩
  | _, _ => ⟨S8x320x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x320x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x320x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S320x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference50Ideal.lean ====
abbrev S8x320x128 : Shape := ⟨3, ![8, 320, 128]⟩
abbrev S1x320x128 : Shape := ⟨3, ![1, 320, 128]⟩
abbrev S7x320x128 : Shape := ⟨3, ![7, 320, 128]⟩
abbrev S_ : Shape := ⟨0, ![]⟩
abbrev S320x128 : Shape := ⟨2, ![320, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x320x128, .f32⟩
  | .hbm, ⟨1, _⟩ => ⟨S1x320x128, .f32⟩
  | .hbm, ⟨2, _⟩ => ⟨S7x320x128, .f32⟩
  | .hbm, ⟨3, _⟩ => ⟨S8x320x128, .f32⟩
  | .hbm, ⟨4, _⟩ => ⟨S_, .f32⟩
  | .hbm, ⟨5, _⟩ => ⟨S320x128, .f32⟩
  | _, _ => ⟨S8x320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel51.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference51Ideal.lean ====
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel52.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 20
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference52Ideal.lean ====
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S_, .f32⟩
  | .hbm, ⟨89, _⟩ => ⟨S1024, .f32⟩
  | .hbm, ⟨90, _⟩ => ⟨S4096x1024, .bf16⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Proof.Softmax.lean ====
/-
One row of a softmax over the reals. The weights do not change when every score is shifted by the same number, and
they are the same whether they are written with `exp` or with powers of two, dividing by the sum or subtracting its
logarithm in the exponent. The rest of the file carries such sums into the extended reals.
-/
module

public import Idealize.ShloMosaic.PureOps.Ideal.Laws

@[expose] public section

noncomputable section

open scoped BigOperators
open Idealize.ShloMosaic

namespace Cert.Proof.Softmax

variable {ι : Type} [Fintype ι]

/-- The softmax weight of entry `j` of a row of scores. -/
def prob (s : ι → ℝ) (j : ι) : ℝ := Real.exp (s j) / ∑ a, Real.exp (s a)

/-- A sum of exponentials over a row that is not empty is positive. -/
theorem sum_exp_pos [Nonempty ι] (s : ι → ℝ) : 0 < ∑ a, Real.exp (s a) :=
  Finset.sum_pos (fun _ _ => Real.exp_pos _) Finset.univ_nonempty

/-- Shifting every score by `m` divides the sum of the exponentials by `exp m`. -/
theorem sum_exp_shift (s : ι → ℝ) (m : ℝ) : ∑ a, Real.exp (s a - m) = (∑ a, Real.exp (s a)) * (Real.exp m)⁻¹ := by
  rw [Finset.sum_mul]; exact Finset.sum_congr rfl fun a _ => by rw [Real.exp_sub, div_eq_mul_inv]

/-- The weights do not depend on the shift. -/
theorem prob_shift (s : ι → ℝ) (m : ℝ) (j : ι) :
    Real.exp (s j - m) / ∑ a, Real.exp (s a - m) = prob s j := by
  rw [sum_exp_shift, Real.exp_sub, prob, div_eq_mul_inv (Real.exp (s j)) (Real.exp m)]
  exact mul_div_mul_right _ _ (inv_ne_zero (Real.exp_pos m).ne')

/-- The logarithm of two is not zero. -/
theorem log_two_ne_zero : Real.log 2 ≠ 0 := (Real.log_pos (by norm_num)).ne'

/-- A power of two is an exponential of the exponent times `log 2`. -/
theorem rpow_two (x : ℝ) : Real.rpow 2 x = Real.exp (Real.log 2 * x) :=
  Real.rpow_def_of_pos (by norm_num) x

/-- A power of two whose exponent is a score over `log 2`, shifted. -/
theorem rpow_two_score (x m : ℝ) : Real.rpow 2 (x / Real.log 2 - m) = Real.exp (x - m * Real.log 2) := by
  rw [rpow_two]; congr 1; field_simp [log_two_ne_zero]

/-- The weights written with powers of two. -/
theorem prob_rpow (s : ι → ℝ) (m : ℝ) (j : ι) :
    Real.rpow 2 (s j / Real.log 2 - m) / ∑ a, Real.rpow 2 (s a / Real.log 2 - m) = prob s j := by
  simp only [rpow_two_score]; exact prob_shift s _ j

/-- The sum of the powers of two of a row that is not empty is positive. -/
theorem sum_rpow_pos [Nonempty ι] (s : ι → ℝ) (m : ℝ) : 0 < ∑ a, Real.rpow 2 (s a / Real.log 2 - m) := by
  simp only [rpow_two_score]; exact sum_exp_pos fun a => s a - m * Real.log 2

/-- The weights as powers of two of the score less the row's base-two log-sum. -/
theorem prob_lse [Nonempty ι] (s : ι → ℝ) (m : ℝ) (j : ι) :
    Real.rpow 2 (s j / Real.log 2
      - (m + Real.log (∑ a, Real.rpow 2 (s a / Real.log 2 - m)) * (Real.log 2)⁻¹)) = prob s j := by
  have hl := sum_rpow_pos s m
  rw [← prob_rpow s m j, rpow_two_score, rpow_two_score, add_mul, mul_assoc,
    inv_mul_cancel₀ log_two_ne_zero, mul_one, ← sub_sub, Real.exp_sub, Real.exp_log hl]

/-- A softmax's weighted average of `x`, with the weights' common denominator taken out. -/
theorem sum_prob_mul (s : ι → ℝ) (x : ι → ℝ) :
    ∑ a, prob s a * x a = (∑ a, Real.exp (s a) * x a) / ∑ a, Real.exp (s a) := by
  rw [Finset.sum_div]; exact Finset.sum_congr rfl fun a _ => by rw [prob]; ring

/-! ## The extended reals -/

/-- A sum of real numbers, taken in the extended reals. -/
theorem sum_coe {κ : Type} (t : Finset κ) (f : κ → ℝ) : ∑ a ∈ t, ((f a : ℝ) : EReal) = ((∑ a ∈ t, f a : ℝ) : EReal) := by
  classical
  induction t using Finset.induction_on with
  | empty => simp
  | insert a t h ih => rw [Finset.sum_insert h, Finset.sum_insert h, ih, EReal.coe_add]

/-- The largest of finitely many real numbers, taken from `-∞`, is a real number when there is one. -/
theorem fold_max_coe [Nonempty ι] (f : ι → ℝ) :
    ∃ m : ℝ, (Finset.univ : Finset ι).fold max (⊥ : EReal) (fun a => ((f a : ℝ) : EReal)) = (m : EReal) := by
  classical
  have key : ∀ t : Finset ι, t.fold max (⊥ : EReal) (fun a => ((f a : ℝ) : EReal)) = ⊥ ∧ t = ∅
      ∨ ∃ m : ℝ, t.fold max (⊥ : EReal) (fun a => ((f a : ℝ) : EReal)) = (m : EReal) := by
    intro t
    induction t using Finset.induction_on with
    | empty => exact Or.inl ⟨rfl, rfl⟩
    | insert a t h ih =>
      refine Or.inr ?_
      rw [Finset.fold_insert h]
      rcases ih with ⟨e, _⟩ | ⟨m, e⟩
      · exact ⟨f a, by rw [e]; exact max_eq_left bot_le⟩
      · exact ⟨max (f a) m, by rw [e]; exact (EReal.coe_strictMono.monotone.map_max (a := f a) (b := m)).symm⟩
  rcases key Finset.univ with ⟨_, e⟩ | h
  · exact absurd e Finset.univ_nonempty.ne_empty
  · exact h

/-- The quotient of real numbers by one that is not zero. -/
theorem div_coe (x : ℝ) {y : ℝ} (h : y ≠ 0) : Ideal.div (x : EReal) (y : EReal) = ((x / y : ℝ) : EReal) := by
  rw [Ideal.div_coe h, ← EReal.coe_mul, mul_one_div]

/-- The logarithm of a positive real number. -/
theorem log_coe {x : ℝ} (h : 0 < x) : Ideal.log (x : EReal) = ((Real.log x : ℝ) : EReal) :=
  if_neg (not_le.mpr h)

end Cert.Proof.Softmax
-- ==== Proof.Spec.lean ====
/-
The attention of the training step and its gradient, over the real numbers: what both programs compute when their
arguments are real. Heads stand side by side in the results, 128 lanes to a head, the lanes past a head's width zero.
-/
module

public import proofs.«01_k».proof.Proof.Softmax
public import Idealize.ShloMosaic.Lib.Pointwise.Sums

@[expose] public section

noncomputable section

open scoped BigOperators
open Idealize.ShloMosaic

namespace Cert.Proof.Spec

/-- The arguments as real numbers: queries, keys, values and the cotangent of the output. -/
structure Args where
  q : Fin 4096 → Fin 8 → Fin 96 → ℝ
  k : Fin 4352 → Fin 8 → Fin 96 → ℝ
  v : Fin 4352 → Fin 8 → Fin 64 → ℝ
  g : Fin 4096 → Fin 8 → Fin 64 → ℝ

/-- The scale of the scores: the single-precision number nearest to one over the square root of 96. -/
def scale : ℝ := 13698540 / 134217728

variable (A : Args)

/-- The scaled score of query `i` against key `j` in head `h`. -/
def score (h : Fin 8) (i : Fin 4096) (j : Fin 4352) : ℝ := (∑ d, A.q i h d * A.k j h d) * scale

/-- The attention weight of key `j` for query `i`. -/
def wt (h : Fin 8) (i : Fin 4096) (j : Fin 4352) : ℝ := Softmax.prob (score A h i) j

/-- The output of the attention. -/
def out (i : Fin 4096) (h : Fin 8) (d : Fin 64) : ℝ := ∑ j, wt A h i j * A.v j h d

/-- The cotangent of the weights. -/
def dwt (h : Fin 8) (i : Fin 4096) (j : Fin 4352) : ℝ := ∑ d, A.g i h d * A.v j h d

/-- The weighted average of a row of the weights' cotangent. -/
def delta (h : Fin 8) (i : Fin 4096) : ℝ := ∑ j, wt A h i j * dwt A h i j

/-- The cotangent of the scores, before the scale. -/
def ds (h : Fin 8) (i : Fin 4096) (j : Fin 4352) : ℝ := wt A h i j * (dwt A h i j - delta A h i)

/-- The gradient of the queries. -/
def dq (i : Fin 4096) (h : Fin 8) (d : Fin 96) : ℝ := (∑ j, ds A h i j * A.k j h d) * scale

/-- The gradient of the keys. -/
def dk (j : Fin 4352) (h : Fin 8) (d : Fin 96) : ℝ := (∑ i, ds A h i j * A.q i h d) * scale

/-- The gradient of the values. -/
def dv (j : Fin 4352) (h : Fin 8) (d : Fin 64) : ℝ := ∑ i, wt A h i j * A.g i h d

/-- The rows' average of the weights' cotangent is the output against its cotangent. -/
theorem delta_eq (h : Fin 8) (i : Fin 4096) : delta A h i = ∑ d, A.g i h d * out A i h d := by
  unfold delta dwt out
  simp only [Finset.mul_sum]
  rw [Finset.sum_comm]
  exact Finset.sum_congr rfl fun d _ => Finset.sum_congr rfl fun j _ => by ring

/-- A head's row of width `w`, on 128 lanes: zeros past the width. -/
def lane {w : ℕ} (x : Fin w → ℝ) (l : Fin 128) : ℝ := if hl : l.val < w then x ⟨l.val, hl⟩ else 0

/-- A sum over the lanes of a product with a padded row is the sum over the row. -/
theorem sum_lane {w : ℕ} (hw : w ≤ 128) (x y : Fin w → ℝ) : ∑ l : Fin 128, lane x l * lane y l = ∑ d, x d * y d := by
  rw [Fin.sum_univ_two_halves w (128 - w) (by omega)]
  have h1 : ∀ k : Fin (128 - w), lane x ⟨w + k.val, by omega⟩ * lane y ⟨w + k.val, by omega⟩ = 0 := fun k => by
    rw [lane, dif_neg (by simp), zero_mul]
  have h2 : ∀ k : Fin w, lane x ⟨k.val, by omega⟩ * lane y ⟨k.val, by omega⟩ = x k * y k := fun k => by
    rw [lane, lane, dif_pos k.isLt, dif_pos k.isLt]
  rw [Finset.sum_congr rfl fun k _ => h1 k, Finset.sum_congr rfl fun k _ => h2 k, Finset.sum_const_zero, add_zero]

/-- The head of a lane of the row of all heads. -/
def headOf (l : Fin 1024) : Fin 8 := ⟨l.val / 128, by omega⟩

/-- The place of a lane within its head. -/
def laneOf (l : Fin 1024) : Fin 128 := ⟨l.val % 128, by omega⟩

/-- The row's log-sum in base two, by its first key: two to a score less it is the weight. -/
def lse (h : Fin 8) (i : Fin 4096) : ℝ := score A h i 0 / Real.log 2 - Real.log (wt A h i 0) / Real.log 2

/-- A number that turns a row's scores into its weights is the log-sum. -/
theorem eq_lse (h : Fin 8) (i : Fin 4096) (s : ℝ) (e : ∀ j, Real.rpow 2 (score A h i j / Real.log 2 - s) = wt A h i j) : s = lse A h i := by
  have e0 : Real.log (wt A h i 0) / Real.log 2 = score A h i 0 / Real.log 2 - s := by
    rw [← e 0, div_eq_iff Softmax.log_two_ne_zero]; exact Real.log_rpow (by norm_num) _
  rw [lse, e0]; ring

/-- Two to a score less the log-sum is the weight. -/
theorem rpow_lse (h : Fin 8) (i : Fin 4096) (j : Fin 4352) : Real.rpow 2 (score A h i j / Real.log 2 - lse A h i) = wt A h i j := by
  have e := fun j => Softmax.prob_lse (score A h i) 0 j
  rw [← eq_lse A h i _ e]
  exact e j

end Cert.Proof.Spec
-- ==== Proof.Consts.lean ====
/-
The literal constants of the two programs as extended real numbers, and the two constants known by name.
-/
module

public import proofs.«01_k».proof.Proof.Spec
public import proofs.«01_k».proof.KernelIdeal

@[expose] public section

noncomputable section

open Idealize.ShloMosaic

namespace Cert.Proof.Consts

/-- The scale of the scores. -/
theorem scale_bits : Ideal.ofBits .f32 0x3DD105EC#32 = ((Spec.scale : ℝ) : EReal) := by
  simp [Ideal.ofBits, Ideal.ieee, -EReal.coe_mul, Spec.scale]; norm_num

/-- The negative infinity a maximum starts from. -/
theorem neg_inf_bits : Ideal.ofBits .f32 0xFF800000#32 = (⊥ : EReal) := by
  simp [Ideal.ofBits, Ideal.ieee]

/-- The number two. -/
theorem two_bits : Ideal.ofBits .f32 0x40000000#32 = ((2 : ℝ) : EReal) := by
  simp [Ideal.ofBits, Ideal.ieee, -EReal.coe_mul]; norm_num

/-- The constant named `inv_ln2` is one over the logarithm of two. -/
theorem inv_ln2 (b : BitVec 32) :
    Named.named (F := Ideal) (φ := .f32) Cert.KernelIdeal.κ "inv_ln2" b = (((Real.log 2)⁻¹ : ℝ) : EReal) := rfl

/-- The constant named `ln2` is the logarithm of two. -/
theorem ln2 (b : BitVec 32) :
    Named.named (F := Ideal) (φ := .f32) Cert.KernelIdeal.κ "ln2" b = ((Real.log 2 : ℝ) : EReal) := rfl

end Cert.Proof.Consts
-- ==== Proof.FwdHead.lean ====
/-
One head of a query tile of the forward kernel: its output and its log-sum at real arguments.
-/
module

public import proofs.«01_k».proof.Proof.Consts
public import proofs.«01_k».proof.Proof.Gen.KernelIdeal.Skeleton
public import Idealize.ShloMosaic.Lib.Pointwise

@[expose] public section

noncomputable section

open scoped BigOperators
open Cert.KernelIdeal Cert.KernelIdeal.Gen Idealize.ShloMosaic Idealize.ShloMosaic.TcCoe

namespace Cert.Proof.Fwd

/-! ## The four heads' stores are one function of their strips -/

variable (x : Vec Ideal S256x128 .bf16) (y z : Vec Ideal S4352x128 .bf16)

theorem pay12_eq : k0_pay12 (k0_pay7 x y) (k0_pay9 x y) z = k0_pay5 x y z := rfl
theorem pay18_eq : k0_pay18 x y z = k0_pay5 x y z := rfl
theorem pay24_eq : k0_pay24 x y z = k0_pay5 x y z := rfl
theorem pay13_eq : k0_pay13 (k0_pay7 x y) (k0_pay8 x y) (k0_pay9 x y) = k0_pay6 x y := rfl
theorem pay19_eq : k0_pay19 (k0_pay15 x y) (k0_pay17 x y) = k0_pay6 x y := rfl
theorem pay25_eq : k0_pay25 x y = k0_pay6 x y := rfl

/-! ## The stages at an index -/

/-- A maximum over the second of two axes, at an index: the fold over that axis. -/
theorem reduce_max_at {n0 n1 : ℕ} (s : FVec Ideal ⟨2, ![n0, n1]⟩ .f32) (acc : BitVec 32)
    (h : (⟨2, ![n0, n1]⟩ : Shape).Reduces [1] ⟨1, ![n0]⟩) (hφ : FKind.Formats .f32) (hacc : acc = FKind.maximumf.neutral .f32 hφ) (a : Fin n0) :
    multiReduction .maximumf [1] ⟨1, ![n0]⟩ s acc h hφ hacc (ix1 a)
      = (Finset.univ : Finset (Fin n1)).fold max (Ideal.ofBits .f32 acc) fun k => s (ix2 a k) := by
  pointwise

/-- The scores of the tile: products of the rows. -/
theorem pay1_at (r : Fin 256) (j : Fin 4352) : k0_pay1 x y (ix2 r j) = ∑ l : Fin 128, x (ix2 r l) * y (ix2 j l) := by
  pointwise [k0_pay1]

theorem col_at (t : FVec Ideal S256 .f32) (r : Fin 256) : shapeCast S256x1 t shapeCasts_S256_S256x1 (ix2 r 0) = t (ix1 r) := by
  pointwise

theorem top_at (s : FVec Ideal S256x4352 .f32) (r : Fin 256) :
    multiReduction .maximumf [1] S256 s 0xFF800000#32 reduces_S256x4352_S256 (.inl rfl) rfl (ix1 r)
      = (Finset.univ : Finset (Fin 4352)).fold max (Ideal.ofBits .f32 0xFF800000#32) fun j => s (ix2 r j) :=
  reduce_max_at s _ reduces_S256x4352_S256 _ _ r

theorem pay2_at (r : Fin 256) : k0_pay2 x y (ix2 r 0)
    = (Finset.univ : Finset (Fin 4352)).fold max (Ideal.ofBits .f32 0xFF800000#32) fun j => k0_pay1 x y (ix2 r j) :=
  (col_at (multiReduction .maximumf [1] S256 (k0_pay1 x y) 0xFF800000#32 reduces_S256x4352_S256 (.inl rfl) rfl) r).trans
    (top_at (k0_pay1 x y) r)

theorem pay3_at (r : Fin 256) (j : Fin 4352) :
    k0_pay3 x y (ix2 r j) = Ideal.exp2 (k0_pay1 x y (ix2 r j) - k0_pay2 x y (ix2 r 0)) := by
  unfold k0_pay3
  generalize k0_pay1 x y = s
  generalize k0_pay2 x y = t
  pointwise
  rfl

theorem pay4_at (r : Fin 256) : k0_pay4 x y (ix2 r 0) = ∑ j, k0_pay3 x y (ix2 r j) := by
  unfold k0_pay4
  generalize k0_pay3 x y = s
  pointwise

theorem pay5_at (r : Fin 256) (l : Fin 128) :
    k0_pay5 x y z (ix2 r l) = Ideal.div (∑ j, k0_pay3 x y (ix2 r j) * z (ix2 j l)) (k0_pay4 x y (ix2 r 0)) := by
  unfold k0_pay5
  generalize k0_pay3 x y = s
  generalize k0_pay4 x y = t
  pointwise

theorem lanes_at (u : FVec Ideal S256x1 .f32) (r : Fin 256) (l : Fin 128) :
    broadcastTo S256x128 (shapeCast S256x1 u shapeCasts_S256x1_S256x1) broadcasts_S256x1_S256x128 (ix2 r l) = u (ix2 r 0) := by
  pointwise

theorem sum_at (s t : FVec Ideal S256x1 .f32) (n : EReal) (i : S256x1.Idx) :
    addf s (mulf (log t) (broadcast S256x1 n)) i = s i + Ideal.log (t i) * n := rfl

theorem pay6_at (r : Fin 256) (l : Fin 128) :
    k0_pay6 x y (ix2 r l)
      = k0_pay2 x y (ix2 r 0) + Ideal.log (k0_pay4 x y (ix2 r 0)) * Named.named (F := Ideal) (φ := .f32) Cert.KernelIdeal.κ "inv_ln2" 0x3FB8AA3B#32 := by
  unfold k0_pay6
  rw [lanes_at, sum_at]

/-! ## At real arguments -/

variable {x y z} (A : Spec.Args) (h : Fin 8) (row : Fin 256 → Fin 4096)
  (hx : ∀ r l, x (ix2 r l) = ((Spec.lane (fun d => A.q (row r) h d * (Spec.scale / Real.log 2)) l : ℝ) : EReal))
  (hy : ∀ j l, y (ix2 j l) = ((Spec.lane (A.k j h) l : ℝ) : EReal))
  (hz : ∀ j l, z (ix2 j l) = ((Spec.lane (A.v j h) l : ℝ) : EReal))

/-- The tile's score is the scaled score over the logarithm of two. -/
theorem lanes_score (i : Fin 4096) (j : Fin 4352) :
    ∑ l : Fin 128, Spec.lane (fun d => A.q i h d * (Spec.scale / Real.log 2)) l * Spec.lane (A.k j h) l
      = Spec.score A h i j / Real.log 2 := by
  rw [Spec.sum_lane (by norm_num), Spec.score, Finset.sum_mul, Finset.sum_div]
  exact Finset.sum_congr rfl fun d _ => by ring

include hx hy in
/-- One shift per row: the scores, the sum of the powers of two and the shift itself. -/
theorem row_at (r : Fin 256) : ∃ m : ℝ, k0_pay2 x y (ix2 r 0) = (m : EReal)
    ∧ (∀ j, k0_pay3 x y (ix2 r j) = ((Real.rpow 2 (Spec.score A h (row r) j / Real.log 2 - m) : ℝ) : EReal))
    ∧ k0_pay4 x y (ix2 r 0) = ((∑ j, Real.rpow 2 (Spec.score A h (row r) j / Real.log 2 - m) : ℝ) : EReal) := by
  have h1 : ∀ j, k0_pay1 x y (ix2 r j) = ((Spec.score A h (row r) j / Real.log 2 : ℝ) : EReal) := fun j => by
    rw [pay1_at]; simp only [hx, hy, ← EReal.coe_mul, Softmax.sum_coe, lanes_score]
  obtain ⟨m, hm⟩ := Softmax.fold_max_coe fun j => Spec.score A h (row r) j / Real.log 2
  have h2 : k0_pay2 x y (ix2 r 0) = (m : EReal) := by
    rw [pay2_at, Consts.neg_inf_bits]; simp only [h1]; exact hm
  have h3 : ∀ j, k0_pay3 x y (ix2 r j) = ((Real.rpow 2 (Spec.score A h (row r) j / Real.log 2 - m) : ℝ) : EReal) := fun j => by
    rw [pay3_at, h1, h2, ← EReal.coe_sub]; rfl
  refine ⟨m, h2, h3, ?_⟩
  rw [pay4_at]; simp only [h3, Softmax.sum_coe]

include hx hy hz in
/-- The head's output. -/
theorem out_at (r : Fin 256) (l : Fin 128) :
    k0_pay5 x y z (ix2 r l) = ((Spec.lane (Spec.out A (row r) h) l : ℝ) : EReal) := by
  obtain ⟨m, -, h3, h4⟩ := row_at A h row hx hy r
  rw [pay5_at, h4]
  simp only [h3, hz, ← EReal.coe_mul, Softmax.sum_coe]
  rw [Softmax.div_coe _ (Softmax.sum_rpow_pos (Spec.score A h (row r)) m).ne', Finset.sum_div]
  congr 1
  have e : ∀ j, Real.rpow 2 (Spec.score A h (row r) j / Real.log 2 - m) * Spec.lane (A.v j h) l
      / ∑ j, Real.rpow 2 (Spec.score A h (row r) j / Real.log 2 - m) = Spec.wt A h (row r) j * Spec.lane (A.v j h) l := fun j => by
    rw [Spec.wt, ← Softmax.prob_rpow _ m, div_mul_eq_mul_div]
  rw [Finset.sum_congr rfl fun j _ => e j]
  unfold Spec.lane Spec.out
  split_ifs
  · rfl
  · simp

include hx hy in
/-- The head's log-sum, the same on every lane. -/
theorem lse_at (r : Fin 256) (l : Fin 128) : k0_pay6 x y (ix2 r l) = ((Spec.lse A h (row r) : ℝ) : EReal) := by
  obtain ⟨m, h2, -, h4⟩ := row_at A h row hx hy r
  rw [← Spec.eq_lse A h (row r) _ fun j => Softmax.prob_lse (Spec.score A h (row r)) m j]
  rw [pay6_at, h2, h4, Softmax.log_coe (Softmax.sum_rpow_pos _ m), Consts.inv_ln2, ← EReal.coe_mul, ← EReal.coe_add]

end Cert.Proof.Fwd
-- ==== Proof.BwdStrip.lean ====
/-
The backward kernel's stages on one strip of keys, at an index: weights, score cotangents and the three products.
-/
module

public import proofs.«01_k».proof.Proof.FwdHead

@[expose] public section

noncomputable section

open scoped BigOperators
open Cert.KernelIdeal Cert.KernelIdeal.Gen Idealize.ShloMosaic Idealize.ShloMosaic.TcCoe

namespace Cert.Proof.Bwd

/-! ## The first strip's stages are the last strip's, at the first strip's rows -/

section
variable (x g o : Vec Ideal S1024x128 .bf16) (u : Vec Ideal S1024x1 .f32) (k v : Vec Ideal S1536x128 .bf16) (acc : Vec Ideal S1536x128 .f32)

theorem pay4_eq : k1_pay4 x = x := by unfold k1_pay4; exact shapeCast_self _ _
theorem pay5_eq : k1_pay5 x = x := by unfold k1_pay5; exact shapeCast_self _ _
theorem pay6_eq : k1_pay6 u = u := by unfold k1_pay6; exact shapeCast_self _ _
theorem pay9_eq : k1_pay9 k = k := by unfold k1_pay9; exact shapeCast_self _ _
theorem pay22_eq : k1_pay22 k = k := by unfold k1_pay22; exact shapeCast_self _ _
theorem pay16_eq (k : Vec Ideal S1280x128 .bf16) : k1_pay16 k = k := by unfold k1_pay16; exact shapeCast_self _ _

theorem pay10_eq : k1_pay10 x u k = k1_pay23 (k1_pay4 x) (k1_pay6 u) k := rfl
theorem pay11_eq : k1_pay11 x g u k acc = k1_pay24 (k1_pay4 x) (k1_pay5 g) (k1_pay6 u) k acc := rfl
theorem pay14_eq : k1_pay14 (k1_pay10 x u k) (k1_pay12 g v) (k1_pay13 g o)
    = k1_pay25 (k1_pay4 x) (k1_pay5 g) (k1_pay6 u) (k1_pay7 g o) k v := rfl
theorem pay15_eq : k1_pay15 (k1_pay4 x) (k1_pay10 x u k) (k1_pay12 g v) (k1_pay13 g o) acc
    = k1_pay26 (k1_pay4 x) (k1_pay5 g) (k1_pay6 u) (k1_pay7 g o) k v acc := rfl
end

/-! ## The stages at an index -/

theorem delta_at (g o : Vec Ideal S1024x128 .bf16) (r : Fin 1024) :
    k1_pay7 g o (ix2 r 0) = ∑ l : Fin 128, g (ix2 r l) * o (ix2 r l) := by
  unfold k1_pay7
  rw [pay5_eq]
  pointwise

theorem exp2_at {s : Shape} (t : FVec Ideal s .f32) (i : s.Idx) : exp2 t i = Ideal.exp2 (t i) := rfl

section
variable (x g : FVec Ideal S1024x128 .bf16) (u d : FVec Ideal S1024x1 .f32) (k v : Vec Ideal S1536x128 .bf16) (acc : Vec Ideal S1536x128 .f32)

theorem pay23_at (r : Fin 1024) (j : Fin 1536) :
    k1_pay23 x u k (ix2 r j) = Ideal.exp2 ((∑ l : Fin 128, x (ix2 r l) * k (ix2 j l)) - u (ix2 r 0)) := by
  unfold k1_pay23
  rw [pay22_eq]
  refine (exp2_at _ _).trans (congrArg Ideal.exp2 ?_)
  pointwise

theorem pay25_at (r : Fin 1024) (j : Fin 1536) : k1_pay25 x g u d k v (ix2 r j)
    = k1_pay23 x u k (ix2 r j) * ((∑ l : Fin 128, g (ix2 r l) * v (ix2 j l)) - d (ix2 r 0)) := by
  unfold k1_pay25
  generalize k1_pay23 x u k = p
  pointwise

theorem pay24_at (j : Fin 1536) (l : Fin 128) : k1_pay24 x g u k acc (ix2 j l)
    = acc (ix2 j l) + ∑ r : Fin 1024, k1_pay23 x u k (ix2 r j) * g (ix2 r l) := by
  unfold k1_pay24
  generalize k1_pay23 x u k = p
  pointwise

theorem pay26_at (j : Fin 1536) (l : Fin 128) : k1_pay26 x g u d k v acc (ix2 j l)
    = acc (ix2 j l) + ∑ r : Fin 1024, k1_pay25 x g u d k v (ix2 r j) * x (ix2 r l) := by
  unfold k1_pay26
  generalize k1_pay25 x g u d k v = p
  pointwise

theorem pay27_at (w : FVec Ideal S1024x128 .f32) (r : Fin 1024) (l : Fin 128) : k1_pay27 x g u d w k v (ix2 r l)
    = (w (ix2 r l) + ∑ j : Fin 1536, k1_pay25 x g u d k v (ix2 r j) * k (ix2 j l)) * Ideal.ofBits .f32 0x3DD105EC#32 := by
  unfold k1_pay27
  rw [pay22_eq]
  generalize k1_pay25 x g u d k v = p
  pointwise

end

section
variable (x g : FVec Ideal S1024x128 .bf16) (u d : FVec Ideal S1024x1 .f32) (k v : Vec Ideal S1280x128 .bf16) (acc : Vec Ideal S1280x128 .f32)

theorem pay17_at (r : Fin 1024) (j : Fin 1280) :
    k1_pay17 x u k (ix2 r j) = Ideal.exp2 ((∑ l : Fin 128, x (ix2 r l) * k (ix2 j l)) - u (ix2 r 0)) := by
  unfold k1_pay17
  rw [pay16_eq]
  refine (exp2_at _ _).trans (congrArg Ideal.exp2 ?_)
  pointwise

theorem pay19_at (r : Fin 1024) (j : Fin 1280) : k1_pay19 x g u d k v (ix2 r j)
    = k1_pay17 x u k (ix2 r j) * ((∑ l : Fin 128, g (ix2 r l) * v (ix2 j l)) - d (ix2 r 0)) := by
  unfold k1_pay19
  generalize k1_pay17 x u k = p
  pointwise

theorem pay18_at (j : Fin 1280) (l : Fin 128) : k1_pay18 x g u k acc (ix2 j l)
    = acc (ix2 j l) + ∑ r : Fin 1024, k1_pay17 x u k (ix2 r j) * g (ix2 r l) := by
  unfold k1_pay18
  generalize k1_pay17 x u k = p
  pointwise

theorem pay21_at (j : Fin 1280) (l : Fin 128) : k1_pay21 x g u d k v acc (ix2 j l)
    = acc (ix2 j l) + ∑ r : Fin 1024, k1_pay19 x g u d k v (ix2 r j) * x (ix2 r l) := by
  unfold k1_pay21
  generalize k1_pay19 x g u d k v = p
  pointwise

/-- The query gradient's sum over the first two strips. -/
theorem pay20_at (k1 : FVec Ideal S1536x128 .bf16) (p b c : FVec Ideal S1024x1536 .f32) (r : Fin 1024) (l : Fin 128) :
    k1_pay20 x g u d (k1_pay8 (F := Ideal)) k1 p b c k v (ix2 r l)
      = (0 + ∑ j : Fin 1536, k1_pay14 p b c (ix2 r j) * k1 (ix2 j l)) + ∑ j : Fin 1280, k1_pay19 x g u d k v (ix2 r j) * k (ix2 j l) := by
  unfold k1_pay20 k1_pay8
  rw [pay16_eq]
  generalize k1_pay19 x g u d k v = s
  generalize k1_pay14 p b c = s1
  pointwise

end

end Cert.Proof.Bwd
-- ==== Proof.BwdTile.lean ====
/-
The backward kernel on one tile of queries at real arguments: what its three strips of keys add to the gradients of the
keys and values, and the tile's gradient of the queries.
-/
module

public import proofs.«01_k».proof.Proof.BwdStrip
public import Idealize.ShloMosaic.Lib.Pipeline.ValueKit.Tiles
public import Idealize.ShloMosaic.Lib.Pipeline.ReadBack

@[expose] public section

noncomputable section

open scoped BigOperators
open Cert.KernelIdeal Cert.KernelIdeal.Gen Idealize.ShloMosaic Idealize.ShloMosaic.TcCoe

namespace Cert.Proof.Bwd

/-- The row of a head's queries as the kernel reads it: scaled for powers of two. -/
def qs (A : Spec.Args) (h : Fin 8) (i : Fin 4096) (l : Fin 128) : ℝ :=
  Spec.lane (fun d => A.q i h d * (Spec.scale / Real.log 2)) l

/-- What a tile of queries adds to the gradient of the keys, still over the logarithm of two. -/
def dkTile (A : Spec.Args) (h : Fin 8) (row : Fin 1024 → Fin 4096) (j : Fin 4352) (l : Fin 128) : ℝ :=
  ∑ r, Spec.ds A h (row r) j * qs A h (row r) l

/-- What a tile of queries adds to the gradient of the values. -/
def dvTile (A : Spec.Args) (h : Fin 8) (row : Fin 1024 → Fin 4096) (j : Fin 4352) (l : Fin 128) : ℝ :=
  ∑ r, Spec.wt A h (row r) j * Spec.lane (A.g (row r) h) l

/-- The power of two of a score less the log-sum. -/
theorem exp2_coe (x y : ℝ) : Ideal.exp2 ((x : EReal) - (y : EReal)) = ((Real.rpow 2 (x - y) : ℝ) : EReal) := by
  rw [← EReal.coe_sub]; rfl

section strip
variable (A : Spec.Args) (h : Fin 8) (row : Fin 1024 → Fin 4096) (x g : FVec Ideal S1024x128 .bf16) (u d : FVec Ideal S1024x1 .f32)
  (hx : ∀ r l, x (ix2 r l) = ((qs A h (row r) l : ℝ) : EReal))
  (hg : ∀ r l, g (ix2 r l) = ((Spec.lane (A.g (row r) h) l : ℝ) : EReal))
  (hu : ∀ r, u (ix2 r 0) = ((Spec.lse A h (row r) : ℝ) : EReal))
  (hd : ∀ r, d (ix2 r 0) = ((Spec.delta A h (row r) : ℝ) : EReal))

theorem lanes_dwt (i : Fin 4096) (j : Fin 4352) : ∑ l : Fin 128, Spec.lane (A.g i h) l * Spec.lane (A.v j h) l = Spec.dwt A h i j :=
  Spec.sum_lane (by norm_num) _ _

section
variable (key : Fin 1536 → Fin 4352) (k v : Vec Ideal S1536x128 .bf16) (acc : Vec Ideal S1536x128 .f32)
  (hk : ∀ j l, k (ix2 j l) = ((Spec.lane (A.k (key j) h) l : ℝ) : EReal))
  (hv : ∀ j l, v (ix2 j l) = ((Spec.lane (A.v (key j) h) l : ℝ) : EReal))

include hx hu hk in
theorem wt_long (r : Fin 1024) (j : Fin 1536) : k1_pay23 x u k (ix2 r j) = ((Spec.wt A h (row r) (key j) : ℝ) : EReal) := by
  rw [pay23_at]
  simp only [hx, hk, hu, ← EReal.coe_mul, Softmax.sum_coe, qs]
  rw [Fwd.lanes_score A h, exp2_coe, Spec.rpow_lse]

include hx hg hu hd hk hv in
theorem ds_long (r : Fin 1024) (j : Fin 1536) : k1_pay25 x g u d k v (ix2 r j) = ((Spec.ds A h (row r) (key j) : ℝ) : EReal) := by
  rw [pay25_at, wt_long A h row x u hx hu key k hk]
  simp only [hg, hv, hd, ← EReal.coe_mul, Softmax.sum_coe]
  rw [lanes_dwt, ← EReal.coe_sub, ← EReal.coe_mul]
  rfl

include hx hg hu hk in
theorem dv_long (j : Fin 1536) (l : Fin 128) :
    k1_pay24 x g u k acc (ix2 j l) = acc (ix2 j l) + ((dvTile A h row (key j) l : ℝ) : EReal) := by
  rw [pay24_at]
  simp only [wt_long A h row x u hx hu key k hk, hg, ← EReal.coe_mul, Softmax.sum_coe]
  rfl

include hx hg hu hd hk hv in
theorem dk_long (j : Fin 1536) (l : Fin 128) :
    k1_pay26 x g u d k v acc (ix2 j l) = acc (ix2 j l) + ((dkTile A h row (key j) l : ℝ) : EReal) := by
  rw [pay26_at]
  simp only [ds_long A h row x g u d hx hg hu hd key k v hk hv, hx, ← EReal.coe_mul, Softmax.sum_coe]
  rfl

end

section
variable (key : Fin 1280 → Fin 4352) (k v : Vec Ideal S1280x128 .bf16) (acc : Vec Ideal S1280x128 .f32)
  (hk : ∀ j l, k (ix2 j l) = ((Spec.lane (A.k (key j) h) l : ℝ) : EReal))
  (hv : ∀ j l, v (ix2 j l) = ((Spec.lane (A.v (key j) h) l : ℝ) : EReal))

include hx hu hk in
theorem wt_short (r : Fin 1024) (j : Fin 1280) : k1_pay17 x u k (ix2 r j) = ((Spec.wt A h (row r) (key j) : ℝ) : EReal) := by
  rw [pay17_at]
  simp only [hx, hk, hu, ← EReal.coe_mul, Softmax.sum_coe, qs]
  rw [Fwd.lanes_score A h, exp2_coe, Spec.rpow_lse]

include hx hg hu hd hk hv in
theorem ds_short (r : Fin 1024) (j : Fin 1280) : k1_pay19 x g u d k v (ix2 r j) = ((Spec.ds A h (row r) (key j) : ℝ) : EReal) := by
  rw [pay19_at, wt_short A h row x u hx hu key k hk]
  simp only [hg, hv, hd, ← EReal.coe_mul, Softmax.sum_coe]
  rw [lanes_dwt, ← EReal.coe_sub, ← EReal.coe_mul]
  rfl

include hx hg hu hk in
theorem dv_short (j : Fin 1280) (l : Fin 128) :
    k1_pay18 x g u k acc (ix2 j l) = acc (ix2 j l) + ((dvTile A h row (key j) l : ℝ) : EReal) := by
  rw [pay18_at]
  simp only [wt_short A h row x u hx hu key k hk, hg, ← EReal.coe_mul, Softmax.sum_coe]
  rfl

include hx hg hu hd hk hv in
theorem dk_short (j : Fin 1280) (l : Fin 128) :
    k1_pay21 x g u d k v acc (ix2 j l) = acc (ix2 j l) + ((dkTile A h row (key j) l : ℝ) : EReal) := by
  rw [pay21_at]
  simp only [ds_short A h row x g u d hx hg hu hd key k v hk hv, hx, ← EReal.coe_mul, Softmax.sum_coe]
  rfl

end

/-! ## The query gradient -/

/-- Row `j` of the strip of keys that starts at `o`. -/
def key (o : ℕ) {n : ℕ} (ho : o + n ≤ 4352) (j : Fin n) : Fin 4352 := ⟨o + j.val, by omega⟩

/-- A sum over the keys, strip by strip. -/
theorem sum_strips (f : Fin 4352 → ℝ) : ∑ j, f j
    = ∑ j : Fin 1536, f (key 0 (by norm_num) j) + ∑ j : Fin 1280, f (key 1536 (by norm_num) j) + ∑ j : Fin 1536, f (key 2816 (by norm_num) j) := by
  rw [Fin.sum_univ_two_halves 2816 1536 (by norm_num) f,
    Fin.sum_univ_two_halves 1536 1280 (by norm_num) fun k : Fin 2816 => f ⟨k.val, by omega⟩]
  have e : ∀ j : Fin 1536, key 0 (by norm_num) j = (⟨j.val, by omega⟩ : Fin 4352) := fun j => Fin.ext (Nat.zero_add _)
  simp only [e]
  rfl

/-- The gradient of a row of queries, on the lanes. -/
theorem lane_dq (i : Fin 4096) (l : Fin 128) :
    (∑ j, Spec.ds A h i j * Spec.lane (A.k j h) l) * Spec.scale = Spec.lane (Spec.dq A i h) l := by
  unfold Spec.lane Spec.dq
  split_ifs
  · rfl
  · simp

variable (k1 v1 : Vec Ideal S1536x128 .bf16) (k2 v2 : Vec Ideal S1280x128 .bf16) (k3 v3 : Vec Ideal S1536x128 .bf16)
  (hk1 : ∀ j l, k1 (ix2 j l) = ((Spec.lane (A.k (key 0 (by norm_num) j) h) l : ℝ) : EReal))
  (hv1 : ∀ j l, v1 (ix2 j l) = ((Spec.lane (A.v (key 0 (by norm_num) j) h) l : ℝ) : EReal))
  (hk2 : ∀ j l, k2 (ix2 j l) = ((Spec.lane (A.k (key 1536 (by norm_num) j) h) l : ℝ) : EReal))
  (hv2 : ∀ j l, v2 (ix2 j l) = ((Spec.lane (A.v (key 1536 (by norm_num) j) h) l : ℝ) : EReal))
  (hk3 : ∀ j l, k3 (ix2 j l) = ((Spec.lane (A.k (key 2816 (by norm_num) j) h) l : ℝ) : EReal))
  (hv3 : ∀ j l, v3 (ix2 j l) = ((Spec.lane (A.v (key 2816 (by norm_num) j) h) l : ℝ) : EReal))
  (p b c : FVec Ideal S1024x1536 .f32) (hp : k1_pay14 p b c = k1_pay25 x g u d k1 v1)

include hx hg hu hd hk1 hv1 hk2 hv2 hk3 hv3 hp in
theorem dq_tile (r : Fin 1024) (l : Fin 128) :
    k1_pay27 x g u d (k1_pay20 x g u d (k1_pay8 (F := Ideal)) k1 p b c k2 v2) k3 v3 (ix2 r l)
      = ((Spec.lane (Spec.dq A (row r) h) l : ℝ) : EReal) := by
  rw [pay27_at, pay20_at, hp, Consts.scale_bits]
  simp only [ds_long A h row x g u d hx hg hu hd (key 0 (by norm_num)) k1 v1 hk1 hv1,
    ds_short A h row x g u d hx hg hu hd (key 1536 (by norm_num)) k2 v2 hk2 hv2,
    ds_long A h row x g u d hx hg hu hd (key 2816 (by norm_num)) k3 v3 hk3 hv3, hk1, hk2, hk3, ← EReal.coe_mul, Softmax.sum_coe]
  rw [zero_add, ← EReal.coe_add, ← EReal.coe_add, ← EReal.coe_mul, ← lane_dq A h, sum_strips]

end strip

end Cert.Proof.Bwd
-- ==== Proof.BwdBlocks.lean ====
/-
The backward call's blocks: the query tile and the head of a grid point, and the blocks read off the arrays.
-/
module

public import proofs.«01_k».proof.Proof.Gen.KernelIdeal.Frame
public import Idealize.ShloMosaic.Lib.Pointwise

@[expose] public section

noncomputable section

open Cert.KernelIdeal Cert.KernelIdeal.Gen Idealize.ShloMosaic Idealize.ShloMosaic.TcCoe

namespace Cert.Proof.Bwd

/-- Point `t` is query tile `t % 4` of head `t / 4`. -/
theorem idx_0 : ∀ t : Fin cfg1.N, win1_0.index t 0 = t.val % 4 ∧ win1_0.index t 1 = t.val / 4 := by decide +kernel
theorem idx_1 : ∀ t : Fin cfg1.N, win1_1.index t 0 = 0 ∧ win1_1.index t 1 = t.val / 4 := by decide +kernel
theorem idx_2 : ∀ t : Fin cfg1.N, win1_2.index t 0 = 0 ∧ win1_2.index t 1 = t.val / 4 := by decide +kernel
theorem idx_3 : ∀ t : Fin cfg1.N, win1_3.index t 0 = t.val % 4 ∧ win1_3.index t 1 = t.val / 4 := by decide +kernel
theorem idx_4 : ∀ t : Fin cfg1.N, win1_4.index t 0 = t.val % 4 ∧ win1_4.index t 1 = t.val / 4 := by decide +kernel
theorem idx_5 : ∀ t : Fin cfg1.N, win1_5.index t 0 = t.val % 4 ∧ win1_5.index t 1 = t.val / 4 := by decide +kernel
theorem idx_6 : ∀ t : Fin cfg1.N, win1_6.index t 0 = t.val % 4 ∧ win1_6.index t 1 = t.val / 4 := by decide +kernel
theorem idx_7 : ∀ t : Fin cfg1.N, win1_7.index t 0 = 0 ∧ win1_7.index t 1 = t.val / 4 := by decide +kernel
theorem idx_8 : ∀ t : Fin cfg1.N, win1_8.index t 0 = 0 ∧ win1_8.index t 1 = t.val / 4 := by decide +kernel

theorem lt_N (t : Fin cfg1.N) : t.val < 32 := t.isLt

/-- The row of the array at row `r` of the point's tile. -/
def qrow (t : Fin cfg1.N) (r : Fin 1024) : Fin 4096 := ⟨t.val % 4 * 1024 + r.val, by omega⟩

/-- The lane of the array at lane `l` of the point's head. -/
def hlane (t : Fin cfg1.N) (l : Fin 128) : Fin 1024 := ⟨t.val / 4 * 128 + l.val, by have := lt_N t; omega⟩

variable (V : (c : Dev nD) → (b : Ref sig .tc) → Buf (Elt Ideal) ((c : Thread nD τ).loc b)) (c : Dev nD) (t : Fin cfg1.N)

theorem blk_q (r : Fin 1024) (l : Fin 128) : iblk1 V c 0 t (ix2 r l) = V c main_v6 (ix2 (qrow t r) (hlane t l)) := by
  unfold iblk1
  rw [View.read_apply]
  show V c main_v6 _ = V c main_v6 _
  congr 1
  funext a
  apply Fin.ext
  match a with
  | ⟨0, _⟩ => show win1_0.index t 0 * 1024 + 1 * r.val = t.val % 4 * 1024 + r.val; rw [(idx_0 t).1]; omega
  | ⟨1, _⟩ => show win1_0.index t 1 * 128 + 1 * l.val = t.val / 4 * 128 + l.val; rw [(idx_0 t).2]; omega

theorem blk_k (r : Fin 4352) (l : Fin 128) : iblk1 V c 1 t (ix2 r l) = V c main_v9 (ix2 r (hlane t l)) := by
  unfold iblk1
  rw [View.read_apply]
  show V c main_v9 _ = V c main_v9 _
  congr 1
  funext a
  apply Fin.ext
  match a with
  | ⟨0, _⟩ => show win1_1.index t 0 * 4352 + 1 * r.val = r.val; rw [(idx_1 t).1]; omega
  | ⟨1, _⟩ => show win1_1.index t 1 * 128 + 1 * l.val = t.val / 4 * 128 + l.val; rw [(idx_1 t).2]; omega

theorem blk_v (r : Fin 4352) (l : Fin 128) : iblk1 V c 2 t (ix2 r l) = V c main_v12 (ix2 r (hlane t l)) := by
  unfold iblk1
  rw [View.read_apply]
  show V c main_v12 _ = V c main_v12 _
  congr 1
  funext a
  apply Fin.ext
  match a with
  | ⟨0, _⟩ => show win1_2.index t 0 * 4352 + 1 * r.val = r.val; rw [(idx_2 t).1]; omega
  | ⟨1, _⟩ => show win1_2.index t 1 * 128 + 1 * l.val = t.val / 4 * 128 + l.val; rw [(idx_2 t).2]; omega

theorem blk_o (r : Fin 1024) (l : Fin 128) : iblk1 V c 3 t (ix2 r l) = V c main_v16_0 (ix2 (qrow t r) (hlane t l)) := by
  unfold iblk1
  rw [View.read_apply]
  show V c main_v16_0 _ = V c main_v16_0 _
  congr 1
  funext a
  apply Fin.ext
  match a with
  | ⟨0, _⟩ => show win1_3.index t 0 * 1024 + 1 * r.val = t.val % 4 * 1024 + r.val; rw [(idx_3 t).1]; omega
  | ⟨1, _⟩ => show win1_3.index t 1 * 128 + 1 * l.val = t.val / 4 * 128 + l.val; rw [(idx_3 t).2]; omega

theorem blk_g (r : Fin 1024) (l : Fin 128) : iblk1 V c 4 t (ix2 r l) = V c main_v15 (ix2 (qrow t r) (hlane t l)) := by
  unfold iblk1
  rw [View.read_apply]
  show V c main_v15 _ = V c main_v15 _
  congr 1
  funext a
  apply Fin.ext
  match a with
  | ⟨0, _⟩ => show win1_4.index t 0 * 1024 + 1 * r.val = t.val % 4 * 1024 + r.val; rw [(idx_4 t).1]; omega
  | ⟨1, _⟩ => show win1_4.index t 1 * 128 + 1 * l.val = t.val / 4 * 128 + l.val; rw [(idx_4 t).2]; omega

theorem blk_u (r : Fin 1024) (l : Fin 128) : iblk1 V c 5 t (ix2 r l) = V c main_v16_1 (ix2 (qrow t r) (hlane t l)) := by
  unfold iblk1
  rw [View.read_apply]
  show V c main_v16_1 _ = V c main_v16_1 _
  congr 1
  funext a
  apply Fin.ext
  match a with
  | ⟨0, _⟩ => show win1_5.index t 0 * 1024 + 1 * r.val = t.val % 4 * 1024 + r.val; rw [(idx_5 t).1]; omega
  | ⟨1, _⟩ => show win1_5.index t 1 * 128 + 1 * l.val = t.val / 4 * 128 + l.val; rw [(idx_5 t).2]; omega

theorem read_dq (G : Buf (Elt Ideal) ((c : Thread nD τ).loc main_v17_0)) (r : Fin 1024) (l : Fin 128) :
    ((cfg1.win 6).blk t).view.read (Elt Ideal) G (ix2 r l) = G (ix2 (qrow t r) (hlane t l)) := by
  rw [View.read_apply]
  show G _ = G _
  congr 1
  funext a
  apply Fin.ext
  match a with
  | ⟨0, _⟩ => show win1_6.index t 0 * 1024 + 1 * r.val = t.val % 4 * 1024 + r.val; rw [(idx_6 t).1]; omega
  | ⟨1, _⟩ => show win1_6.index t 1 * 128 + 1 * l.val = t.val / 4 * 128 + l.val; rw [(idx_6 t).2]; omega

theorem read_dk (G : Buf (Elt Ideal) ((c : Thread nD τ).loc main_v17_1)) (r : Fin 4352) (l : Fin 128) :
    ((cfg1.win 7).blk t).view.read (Elt Ideal) G (ix2 r l) = G (ix2 r (hlane t l)) := by
  rw [View.read_apply]
  show G _ = G _
  congr 1
  funext a
  apply Fin.ext
  match a with
  | ⟨0, _⟩ => show win1_7.index t 0 * 4352 + 1 * r.val = r.val; rw [(idx_7 t).1]; omega
  | ⟨1, _⟩ => show win1_7.index t 1 * 128 + 1 * l.val = t.val / 4 * 128 + l.val; rw [(idx_7 t).2]; omega

theorem read_dv (G : Buf (Elt Ideal) ((c : Thread nD τ).loc main_v17_2)) (r : Fin 4352) (l : Fin 128) :
    ((cfg1.win 8).blk t).view.read (Elt Ideal) G (ix2 r l) = G (ix2 r (hlane t l)) := by
  rw [View.read_apply]
  show G _ = G _
  congr 1
  funext a
  apply Fin.ext
  match a with
  | ⟨0, _⟩ => show win1_8.index t 0 * 4352 + 1 * r.val = r.val; rw [(idx_8 t).1]; omega
  | ⟨1, _⟩ => show win1_8.index t 1 * 128 + 1 * l.val = t.val / 4 * 128 + l.val; rw [(idx_8 t).2]; omega

/-- The point that writes row `i` of the queries' gradient, lane `l`. -/
def point (i : Fin 4096) (l : Fin 1024) : Fin cfg1.N := ⟨l.val / 128 * 4 + i.val / 1024, by show _ < 32; omega⟩

/-- The last point of the head of lane `l`. -/
def last (l : Fin 1024) : Fin cfg1.N := ⟨l.val / 128 * 4 + 3, by show _ < 32; omega⟩

theorem cover_dq (i : S4096x1024.Idx) : ∃ t : Fin cfg1.N, (cfg1.win 6).flush t = true ∧ i ∈ ((cfg1.win 6).blk t).view.set := by
  have h0 : (i 0 : Nat) < 4096 := (i 0).isLt
  have h1 : (i 1 : Nat) < 1024 := (i 1).isLt
  refine ⟨point (i 0) (i 1), flush1_6 _, ?_⟩
  show i ∈ ((View.whole main_v17_0).slice (win1_6.rect (point (i 0) (i 1)))).set
  rw [View.set_slice_whole, Rect.mem_set_unit]
  intro a
  match a with
  | ⟨0, _⟩ =>
    show win1_6.index (point (i 0) (i 1)) 0 * 1024 ≤ (i 0 : Nat) ∧ (i 0 : Nat) < win1_6.index (point (i 0) (i 1)) 0 * 1024 + 1024
    rw [(idx_6 _).1]; dsimp only [point]; omega
  | ⟨1, _⟩ =>
    show win1_6.index (point (i 0) (i 1)) 1 * 128 ≤ (i 1 : Nat) ∧ (i 1 : Nat) < win1_6.index (point (i 0) (i 1)) 1 * 128 + 128
    rw [(idx_6 _).2]; dsimp only [point]; omega

theorem cover_dk (i : S4352x1024.Idx) : ∃ t : Fin cfg1.N, (cfg1.win 7).flush t = true ∧ i ∈ ((cfg1.win 7).blk t).view.set := by
  have h0 : (i 0 : Nat) < 4352 := (i 0).isLt
  have h1 : (i 1 : Nat) < 1024 := (i 1).isLt
  refine ⟨last (i 1), (flush1_7 _).mpr (by dsimp only [last]; omega), ?_⟩
  show i ∈ ((View.whole main_v17_1).slice (win1_7.rect (last (i 1)))).set
  rw [View.set_slice_whole, Rect.mem_set_unit]
  intro a
  match a with
  | ⟨0, _⟩ =>
    show win1_7.index (last (i 1)) 0 * 4352 ≤ (i 0 : Nat) ∧ (i 0 : Nat) < win1_7.index (last (i 1)) 0 * 4352 + 4352
    rw [(idx_7 _).1]; dsimp only [last]; omega
  | ⟨1, _⟩ =>
    show win1_7.index (last (i 1)) 1 * 128 ≤ (i 1 : Nat) ∧ (i 1 : Nat) < win1_7.index (last (i 1)) 1 * 128 + 128
    rw [(idx_7 _).2]; dsimp only [last]; omega

theorem cover_dv (i : S4352x1024.Idx) : ∃ t : Fin cfg1.N, (cfg1.win 8).flush t = true ∧ i ∈ ((cfg1.win 8).blk t).view.set := by
  have h0 : (i 0 : Nat) < 4352 := (i 0).isLt
  have h1 : (i 1 : Nat) < 1024 := (i 1).isLt
  refine ⟨last (i 1), (flush1_8 _).mpr (by dsimp only [last]; omega), ?_⟩
  show i ∈ ((View.whole main_v17_2).slice (win1_8.rect (last (i 1)))).set
  rw [View.set_slice_whole, Rect.mem_set_unit]
  intro a
  match a with
  | ⟨0, _⟩ =>
    show win1_8.index (last (i 1)) 0 * 4352 ≤ (i 0 : Nat) ∧ (i 0 : Nat) < win1_8.index (last (i 1)) 0 * 4352 + 4352
    rw [(idx_8 _).1]; dsimp only [last]; omega
  | ⟨1, _⟩ =>
    show win1_8.index (last (i 1)) 1 * 128 ≤ (i 1 : Nat) ∧ (i 1 : Nat) < win1_8.index (last (i 1)) 1 * 128 + 128
    rw [(idx_8 _).2]; dsimp only [last]; omega

end Cert.Proof.Bwd
-- ==== Proof.BwdRun.lean ====
/-
The backward kernel's body at one grid point: what it leaves in its three results, at real arguments.
-/
module

public import proofs.«01_k».proof.Proof.BwdTile
public import proofs.«01_k».proof.Proof.BwdBlocks
public import Idealize.ShloMosaic.Lib.Pipeline.Value
public import Idealize.ShloMosaic.Lib.Tactic

@[expose] public section

noncomputable section

open scoped BigOperators
open Cert.KernelIdeal Cert.KernelIdeal.Gen Idealize.ShloMosaic Idealize.ShloMosaic.TcCoe

namespace Cert.Proof.Bwd

theorem hz : (![0, 0] : Fin 2 → Nat) = fun _ => 0 := funext fun a => by fin_cases a <;> rfl

/-- A load of the rows from `o` on. -/
theorem ld_rows {n m p : ℕ} {e : EltTy} (X : Vec Ideal ⟨2, ![n, p]⟩ e) (o : ℕ) (ho : o + m ≤ n) (j : Fin m) (l : Fin p)
    (inb : ∀ a, (![o, 0] : Fin 2 → ℕ) a + (⟨2, ![m, p]⟩ : Shape).size a ≤ (⟨2, ![n, p]⟩ : Shape).size a) :
    View.ld X (Rect.unit (s := ⟨2, ![n, p]⟩) ![o, 0] (⟨2, ![m, p]⟩ : Shape).size inb) (ix2 j l) = X (ix2 ⟨o + j.val, by omega⟩ l) := by
  refine View.ld_unit_apply_of X _ _ _ _ _ fun a => ?_
  match a with
  | ⟨0, _⟩ => rfl
  | ⟨1, _⟩ => exact (Nat.zero_add _).symm

/-- A load of the first column. -/
theorem ld_col (X : Vec Ideal S1024x128 .f32) (r : Fin 1024)
    (inb : ∀ a, (![0, 0] : Fin 2 → ℕ) a + S1024x1.size a ≤ S1024x128.size a) :
    View.ld X (Rect.unit (s := S1024x128) ![0, 0] S1024x1.size inb) (ix2 r 0) = X (ix2 r 0) := by
  refine View.ld_unit_apply_of X _ _ _ _ _ fun a => ?_
  match a with
  | ⟨0, _⟩ => exact (Nat.zero_add _).symm
  | ⟨1, _⟩ => rfl

/-! ## The three strips' stores -/

section pieces
variable (q : Vec Ideal S1024x128 .bf16) (k v : Vec Ideal S4352x128 .bf16) (o g : Vec Ideal S1024x128 .bf16) (u : Vec Ideal S1024x128 .f32)
  (Z : Vec Ideal S4352x128 .f32)

abbrev rA : Rect S4352x128 := Rect.unit (s := S4352x128) ![0, 0] S1536x128.size inb_S4352x128_S1536x128_0_0
abbrev rB : Rect S4352x128 := Rect.unit (s := S4352x128) ![1536, 0] S1280x128.size inb_S4352x128_S1280x128_1536_0
abbrev rC : Rect S4352x128 := Rect.unit (s := S4352x128) ![2816, 0] S1536x128.size inb_S4352x128_S1536x128_2816_0
abbrev rT : Rect S1024x128 := Rect.unit (s := S1024x128) ![0, 0] S1024x128.size inb_S1024x128_S1024x128_0_0
abbrev rU : Rect S1024x128 := Rect.unit (s := S1024x128) ![0, 0] S1024x1.size inb_S1024x128_S1024x1_0_0

/-- The stores to the keys' gradient, last first, over what stood there. -/
abbrev dkPieces : List (View.Piece (Elt Ideal) S4352x128 .f32) :=
  [⟨rC, k1_pay26 (k1_pay4 (View.ld q rT)) (k1_pay5 (View.ld g rT)) (k1_pay6 (View.ld u rU)) (k1_pay7 (View.ld g rT) (View.ld o rT))
      (View.ld k rC) (View.ld v rC) (View.ld Z rC)⟩,
   ⟨rB, k1_pay21 (k1_pay4 (View.ld q rT)) (k1_pay5 (View.ld g rT)) (k1_pay6 (View.ld u rU)) (k1_pay7 (View.ld g rT) (View.ld o rT))
      (View.ld k rB) (View.ld v rB) (View.ld Z rB)⟩,
   ⟨rA, k1_pay15 (k1_pay4 (View.ld q rT)) (k1_pay10 (View.ld q rT) (View.ld u rU) (View.ld k rA))
      (k1_pay12 (View.ld g rT) (View.ld v rA)) (k1_pay13 (View.ld g rT) (View.ld o rT)) (View.ld Z rA)⟩]

/-- The stores to the values' gradient, last first, over what stood there. -/
abbrev dvPieces : List (View.Piece (Elt Ideal) S4352x128 .f32) :=
  [⟨rC, k1_pay24 (k1_pay4 (View.ld q rT)) (k1_pay5 (View.ld g rT)) (k1_pay6 (View.ld u rU)) (View.ld k rC) (View.ld Z rC)⟩,
   ⟨rB, k1_pay18 (k1_pay4 (View.ld q rT)) (k1_pay5 (View.ld g rT)) (k1_pay6 (View.ld u rU)) (View.ld k rB) (View.ld Z rB)⟩,
   ⟨rA, k1_pay11 (View.ld q rT) (View.ld g rT) (View.ld u rU) (View.ld k rA) (View.ld Z rA)⟩]

/-- What the point stores to the queries' gradient. -/
abbrev dqVal : FVec Ideal S1024x128 .bf16 :=
  k1_pay27 (k1_pay4 (View.ld q rT)) (k1_pay5 (View.ld g rT)) (k1_pay6 (View.ld u rU)) (k1_pay7 (View.ld g rT) (View.ld o rT))
    (k1_pay20 (k1_pay4 (View.ld q rT)) (k1_pay5 (View.ld g rT)) (k1_pay6 (View.ld u rU)) (k1_pay7 (View.ld g rT) (View.ld o rT))
      (k1_pay8 (F := Ideal)) (k1_pay9 (View.ld k rA)) (k1_pay10 (View.ld q rT) (View.ld u rU) (View.ld k rA))
      (k1_pay12 (View.ld g rT) (View.ld v rA)) (k1_pay13 (View.ld g rT) (View.ld o rT)) (View.ld k rB) (View.ld v rB))
    (View.ld k rC) (View.ld v rC)

/-- The three strips cover the rows. -/
theorem strips_cover (wC : rC.shape.Idx → Elt Ideal .f32) (wB : rB.shape.Idx → Elt Ideal .f32) (wA : rA.shape.Idx → Elt Ideal .f32) (y : S4352x128.Idx) :
    ∃ p ∈ ([⟨rC, wC⟩, ⟨rB, wB⟩, ⟨rA, wA⟩] : List (View.Piece (Elt Ideal) S4352x128 .f32)), y ∈ p.1.set := by
  have h0 : (y 0 : Nat) < 4352 := (y 0).isLt
  have h1 : (y 1 : Nat) < 128 := (y 1).isLt
  rcases lt_or_ge (y 0 : Nat) 1536 with ha | ha
  · refine ⟨⟨rA, wA⟩, List.mem_cons_of_mem _ (List.mem_cons_of_mem _ List.mem_cons_self), ?_⟩
    show y ∈ rA.set
    rw [Rect.mem_set_unit]
    intro a
    match a with
    | ⟨0, _⟩ => show 0 ≤ (y 0 : Nat) ∧ (y 0 : Nat) < 0 + 1536; omega
    | ⟨1, _⟩ => show 0 ≤ (y 1 : Nat) ∧ (y 1 : Nat) < 0 + 128; omega
  · rcases lt_or_ge (y 0 : Nat) 2816 with hb | hb
    · refine ⟨⟨rB, wB⟩, List.mem_cons_of_mem _ List.mem_cons_self, ?_⟩
      show y ∈ rB.set
      rw [Rect.mem_set_unit]
      intro a
      match a with
      | ⟨0, _⟩ => show 1536 ≤ (y 0 : Nat) ∧ (y 0 : Nat) < 1536 + 1280; omega
      | ⟨1, _⟩ => show 0 ≤ (y 1 : Nat) ∧ (y 1 : Nat) < 0 + 128; omega
    · refine ⟨⟨rC, wC⟩, List.mem_cons_self, ?_⟩
      show y ∈ rC.set
      rw [Rect.mem_set_unit]
      intro a
      match a with
      | ⟨0, _⟩ => show 2816 ≤ (y 0 : Nat) ∧ (y 0 : Nat) < 2816 + 1536; omega
      | ⟨1, _⟩ => show 0 ≤ (y 1 : Nat) ∧ (y 1 : Nat) < 0 + 128; omega

/-- A row of a strip, as a row of the block. -/
theorem emb_rows {m : ℕ} (o : ℕ) (ho : o + m ≤ 4352) (j : Fin m) (l : Fin 128)
    (inb : ∀ a, (![o, 0] : Fin 2 → ℕ) a + (⟨2, ![m, 128]⟩ : Shape).size a ≤ S4352x128.size a) :
    (Rect.unit (s := S4352x128) ![o, 0] (⟨2, ![m, 128]⟩ : Shape).size inb).emb (ix2 j l) = ix2 (key o ho j) l := by
  funext a
  apply Fin.ext
  rw [Rect.emb_apply]
  match a with
  | ⟨0, _⟩ => show o + 1 * j.val = o + j.val; omega
  | ⟨1, _⟩ => show 0 + 1 * l.val = l.val; omega

variable (A : Spec.Args) (h : Fin 8) (row : Fin 1024 → Fin 4096)

/-- The six blocks of a point hold the head's rows. -/
structure Blocks : Prop where
  hq : ∀ r l, q (ix2 r l) = ((qs A h (row r) l : ℝ) : EReal)
  hk : ∀ j l, k (ix2 j l) = ((Spec.lane (A.k j h) l : ℝ) : EReal)
  hv : ∀ j l, v (ix2 j l) = ((Spec.lane (A.v j h) l : ℝ) : EReal)
  ho : ∀ r l, o (ix2 r l) = ((Spec.lane (Spec.out A (row r) h) l : ℝ) : EReal)
  hg : ∀ r l, g (ix2 r l) = ((Spec.lane (A.g (row r) h) l : ℝ) : EReal)
  hu : ∀ r l, u (ix2 r l) = ((Spec.lse A h (row r) : ℝ) : EReal)

variable {q k v o g u A h row} (H : Blocks q k v o g u A h row)

/-- A whole tile, loaded, is the tile. -/
theorem ld_tile (X : Vec Ideal S1024x128 .bf16) : View.ld X rT = X := View.ld_unit_zero (S := S1024x128) hz _ _

include H in
theorem q_tile (r : Fin 1024) (l : Fin 128) : k1_pay4 (View.ld q rT) (ix2 r l) = ((qs A h (row r) l : ℝ) : EReal) := by
  rw [pay4_eq, ld_tile, H.hq]

include H in
theorem g_tile (r : Fin 1024) (l : Fin 128) : k1_pay5 (View.ld g rT) (ix2 r l) = ((Spec.lane (A.g (row r) h) l : ℝ) : EReal) := by
  rw [pay5_eq, ld_tile, H.hg]

include H in
theorem u_tile (r : Fin 1024) : k1_pay6 (View.ld u rU) (ix2 r 0) = ((Spec.lse A h (row r) : ℝ) : EReal) := by
  rw [pay6_eq]
  exact (ld_col u r _).trans (H.hu r 0)

include H in
theorem d_tile (r : Fin 1024) : k1_pay7 (View.ld g rT) (View.ld o rT) (ix2 r 0) = ((Spec.delta A h (row r) : ℝ) : EReal) := by
  rw [delta_at, ld_tile, ld_tile]
  simp only [H.hg, H.ho, ← EReal.coe_mul, Softmax.sum_coe]
  rw [Spec.sum_lane (by norm_num), ← Spec.delta_eq]

include H in
theorem kA (j : Fin 1536) (l : Fin 128) : View.ld k rA (ix2 j l) = ((Spec.lane (A.k (key 0 (by norm_num) j) h) l : ℝ) : EReal) :=
  (ld_rows (e := .bf16) k 0 (by norm_num) j l _).trans (H.hk _ l)
include H in
theorem vA (j : Fin 1536) (l : Fin 128) : View.ld v rA (ix2 j l) = ((Spec.lane (A.v (key 0 (by norm_num) j) h) l : ℝ) : EReal) :=
  (ld_rows (e := .bf16) v 0 (by norm_num) j l _).trans (H.hv _ l)
include H in
theorem kB (j : Fin 1280) (l : Fin 128) : View.ld k rB (ix2 j l) = ((Spec.lane (A.k (key 1536 (by norm_num) j) h) l : ℝ) : EReal) :=
  (ld_rows (e := .bf16) k 1536 (by norm_num) j l _).trans (H.hk _ l)
include H in
theorem vB (j : Fin 1280) (l : Fin 128) : View.ld v rB (ix2 j l) = ((Spec.lane (A.v (key 1536 (by norm_num) j) h) l : ℝ) : EReal) :=
  (ld_rows (e := .bf16) v 1536 (by norm_num) j l _).trans (H.hv _ l)
include H in
theorem kC (j : Fin 1536) (l : Fin 128) : View.ld k rC (ix2 j l) = ((Spec.lane (A.k (key 2816 (by norm_num) j) h) l : ℝ) : EReal) :=
  (ld_rows (e := .bf16) k 2816 (by norm_num) j l _).trans (H.hk _ l)
include H in
theorem vC (j : Fin 1536) (l : Fin 128) : View.ld v rC (ix2 j l) = ((Spec.lane (A.v (key 2816 (by norm_num) j) h) l : ℝ) : EReal) :=
  (ld_rows (e := .bf16) v 2816 (by norm_num) j l _).trans (H.hv _ l)

/-- What stands in the keys' gradient after the point. -/
abbrev dkSum (Z : Vec Ideal S4352x128 .f32) (A : Spec.Args) (h : Fin 8) (row : Fin 1024 → Fin 4096) : S4352x128.Idx → Elt Ideal .f32 :=
  fun y => Z y + ((dkTile A h row (y 0) (y 1) : ℝ) : EReal)

/-- What stands in the values' gradient after the point. -/
abbrev dvSum (Z : Vec Ideal S4352x128 .f32) (A : Spec.Args) (h : Fin 8) (row : Fin 1024 → Fin 4096) : S4352x128.Idx → Elt Ideal .f32 :=
  fun y => Z y + ((dvTile A h row (y 0) (y 1) : ℝ) : EReal)

include H in
theorem dk_pieces : View.PiecesOf (dkSum Z A h row) (dkPieces q k v o g u Z) := by
  refine ⟨fun x => ?_, fun x => ?_, fun x => ?_, trivial⟩
  · obtain ⟨j, l, rfl⟩ : ∃ (j : Fin 1536) (l : Fin 128), x = ix2 j l := ⟨x 0, x 1, eq_ix2 (n0 := 1536) (n1 := 128) x⟩
    refine (dk_long A h row _ _ _ _ (q_tile H) (g_tile H) (u_tile H) (d_tile H) (key 2816 (by norm_num)) _ _ _ (kC H) (vC H) j l).trans ?_
    exact congrArg₂ (· + ·) (ld_rows (e := .f32) Z 2816 (by norm_num) j l _) rfl |>.trans (congrArg (dkSum Z A h row) (emb_rows 2816 (by norm_num) j l inb_S4352x128_S1536x128_2816_0).symm)
  · obtain ⟨j, l, rfl⟩ : ∃ (j : Fin 1280) (l : Fin 128), x = ix2 j l := ⟨x 0, x 1, eq_ix2 (n0 := 1280) (n1 := 128) x⟩
    refine (dk_short A h row _ _ _ _ (q_tile H) (g_tile H) (u_tile H) (d_tile H) (key 1536 (by norm_num)) _ _ _ (kB H) (vB H) j l).trans ?_
    exact congrArg₂ (· + ·) (ld_rows (e := .f32) Z 1536 (by norm_num) j l _) rfl |>.trans (congrArg (dkSum Z A h row) (emb_rows 1536 (by norm_num) j l inb_S4352x128_S1280x128_1536_0).symm)
  · obtain ⟨j, l, rfl⟩ : ∃ (j : Fin 1536) (l : Fin 128), x = ix2 j l := ⟨x 0, x 1, eq_ix2 (n0 := 1536) (n1 := 128) x⟩
    refine (congrFun (pay15_eq _ _ _ _ _ _ _) (ix2 j l)).trans ?_
    refine (dk_long A h row _ _ _ _ (q_tile H) (g_tile H) (u_tile H) (d_tile H) (key 0 (by norm_num)) _ _ _ (kA H) (vA H) j l).trans ?_
    exact congrArg₂ (· + ·) (ld_rows (e := .f32) Z 0 (by norm_num) j l _) rfl |>.trans (congrArg (dkSum Z A h row) (emb_rows 0 (by norm_num) j l inb_S4352x128_S1536x128_0_0).symm)

include H in
theorem dv_pieces : View.PiecesOf (dvSum Z A h row) (dvPieces q k g u Z) := by
  refine ⟨fun x => ?_, fun x => ?_, fun x => ?_, trivial⟩
  · obtain ⟨j, l, rfl⟩ : ∃ (j : Fin 1536) (l : Fin 128), x = ix2 j l := ⟨x 0, x 1, eq_ix2 (n0 := 1536) (n1 := 128) x⟩
    refine (dv_long A h row _ _ _ (q_tile H) (g_tile H) (u_tile H) (key 2816 (by norm_num)) _ _ (kC H) j l).trans ?_
    exact congrArg₂ (· + ·) (ld_rows (e := .f32) Z 2816 (by norm_num) j l _) rfl |>.trans (congrArg (dvSum Z A h row) (emb_rows 2816 (by norm_num) j l inb_S4352x128_S1536x128_2816_0).symm)
  · obtain ⟨j, l, rfl⟩ : ∃ (j : Fin 1280) (l : Fin 128), x = ix2 j l := ⟨x 0, x 1, eq_ix2 (n0 := 1280) (n1 := 128) x⟩
    refine (dv_short A h row _ _ _ (q_tile H) (g_tile H) (u_tile H) (key 1536 (by norm_num)) _ _ (kB H) j l).trans ?_
    exact congrArg₂ (· + ·) (ld_rows (e := .f32) Z 1536 (by norm_num) j l _) rfl |>.trans (congrArg (dvSum Z A h row) (emb_rows 1536 (by norm_num) j l inb_S4352x128_S1280x128_1536_0).symm)
  · obtain ⟨j, l, rfl⟩ : ∃ (j : Fin 1536) (l : Fin 128), x = ix2 j l := ⟨x 0, x 1, eq_ix2 (n0 := 1536) (n1 := 128) x⟩
    refine (congrFun (pay11_eq _ _ _ _ _) (ix2 j l)).trans ?_
    refine (dv_long A h row _ _ _ (q_tile H) (g_tile H) (u_tile H) (key 0 (by norm_num)) _ _ (kA H) j l).trans ?_
    exact congrArg₂ (· + ·) (ld_rows (e := .f32) Z 0 (by norm_num) j l _) rfl |>.trans (congrArg (dvSum Z A h row) (emb_rows 0 (by norm_num) j l inb_S4352x128_S1536x128_0_0).symm)

include H in
theorem dk_canon (L : List (View.Piece (Elt Ideal) S4352x128 .f32)) : View.canon (dkPieces q k v o g u Z ++ L) = dkSum Z A h row :=
  funext fun y => View.canon_append_of_piecesOf _ L _ (dk_pieces Z H) y (strips_cover _ _ _ y)

include H in
theorem dv_canon (L : List (View.Piece (Elt Ideal) S4352x128 .f32)) : View.canon (dvPieces q k g u Z ++ L) = dvSum Z A h row :=
  funext fun y => View.canon_append_of_piecesOf _ L _ (dv_pieces Z H) y (strips_cover _ _ _ y)

include H in
theorem dq_val (r : Fin 1024) (l : Fin 128) : dqVal q k v o g u (ix2 r l) = ((Spec.lane (Spec.dq A (row r) h) l : ℝ) : EReal) := by
  unfold dqVal
  rw [pay9_eq]
  exact dq_tile A h row _ _ _ _ (q_tile H) (g_tile H) (u_tile H) (d_tile H) _ _ _ _ _ _ (kA H) (vA H) (kB H) (vB H) (kC H) (vC H) _ _ _
    (pay14_eq _ _ _ _ _ _) r l

end pieces

end Cert.Proof.Bwd
-- ==== Proof.BwdPoint.lean ====
/-
The backward kernel's body at one grid point: the stores that the body's run found, read back as the point's sums.
-/
module

public import proofs.«01_k».proof.Proof.BwdRun

@[expose] public section

noncomputable section

open scoped BigOperators
open Cert.KernelIdeal Cert.KernelIdeal.Gen Idealize.ShloMosaic Idealize.ShloMosaic.TcCoe

namespace Cert.Proof.Bwd

variable (c : Dev nD) (i : grid1.Coords) (a2 : Memref sig .tc .vmem S1024x128 .bf16) (h2 : a2.IsWhole) (a3 : Memref sig .tc .vmem S4352x128 .bf16) (h3 : a3.IsWhole)
  (a4 : Memref sig .tc .vmem S4352x128 .bf16) (h4 : a4.IsWhole) (a5 : Memref sig .tc .vmem S1024x128 .bf16) (h5 : a5.IsWhole)
  (a6 : Memref sig .tc .vmem S1024x128 .bf16) (h6 : a6.IsWhole) (a7 : Memref sig .tc .vmem S1024x128 .f32) (h7 : a7.IsWhole)
  (a8 : Memref sig .tc .vmem S1024x128 .bf16) (h8 : a8.IsWhole) (a9 : Memref sig .tc .vmem S4352x128 .f32) (h9 : a9.IsWhole)
  (a10 : Memref sig .tc .vmem S4352x128 .f32) (h10 : a10.IsWhole)
  {q : Vec Ideal S1024x128 .bf16} {k v : Vec Ideal S4352x128 .bf16} {o g : Vec Ideal S1024x128 .bf16} {u : Vec Ideal S1024x128 .f32}
  (dk dv : Vec Ideal S4352x128 .f32)
  {A : Spec.Args} {h : Fin 8} {row : Fin 1024 → Fin 4096} (H : Blocks q k v o g u A h row)

/-- The zero block the first tile stores. -/
theorem zero_block (y : S4352x128.Idx) : k1_pay2 (F := Ideal) y = (0 : EReal) := by
  unfold k1_pay2; pointwise

theorem zero_block' (y : S4352x128.Idx) : k1_pay3 (F := Ideal) y = (0 : EReal) := by
  unfold k1_pay3; pointwise

theorem dq_A (hc0 : cond1_0 i) (hc1 : ¬cond1_1 i) :
    out1_A_6 c i a2 h2 a3 h3 a4 h4 a5 h5 a6 h6 a7 h7 a8 h8 a9 h9 a10 h10 hc0 hc1 q k v o g u = dqVal q k v o g u := by
  unfold out1_A_6
  rw [View.read_writes_junk_eq_canon]
  unfold kernelRun1_A
  dsimp only
  sl_unfold_words
  simp only [View.readAt_eq_ld, h2.read_unread, h3.read_unread, h4.read_unread, h5.read_unread, h6.read_unread, h7.read_unread, h9.read_unread, h10.read_unread]
  rw [View.canon_unit_zero (S := S1024x128) hz]

include H in
theorem dk_A (hc0 : cond1_0 i) (hc1 : ¬cond1_1 i) :
    out1_A_7 c i a2 h2 a3 h3 a4 h4 a5 h5 a6 h6 a7 h7 a8 h8 a9 h9 a10 h10 hc0 hc1 q k v o g u = dkSum (k1_pay2 (F := Ideal)) A h row := by
  unfold out1_A_7
  rw [View.read_writes_junk_eq_canon]
  unfold kernelRun1_A
  dsimp only
  sl_unfold_words
  simp (disch := decide) only [↓ View.readCov_skip, ↓ View.readCov_fill]
  simp only [View.readAt_eq_ld, h2.read_unread, h3.read_unread, h4.read_unread, h5.read_unread, h6.read_unread, h7.read_unread, h9.read_unread, h10.read_unread]
  exact dk_canon (k1_pay2 (F := Ideal)) H [_]

include H in
theorem dv_A (hc0 : cond1_0 i) (hc1 : ¬cond1_1 i) :
    out1_A_8 c i a2 h2 a3 h3 a4 h4 a5 h5 a6 h6 a7 h7 a8 h8 a9 h9 a10 h10 hc0 hc1 q k v o g u = dvSum (k1_pay3 (F := Ideal)) A h row := by
  unfold out1_A_8
  rw [View.read_writes_junk_eq_canon]
  unfold kernelRun1_A
  dsimp only
  sl_unfold_words
  simp (disch := decide) only [↓ View.readCov_skip, ↓ View.readCov_fill]
  simp only [View.readAt_eq_ld, h2.read_unread, h3.read_unread, h4.read_unread, h5.read_unread, h6.read_unread, h7.read_unread, h9.read_unread, h10.read_unread]
  exact dv_canon (k1_pay3 (F := Ideal)) H [_]

theorem dq_B (hc0 : ¬cond1_0 i) (hc1 : ¬cond1_1 i) :
    out1_B_6 c i a2 h2 a3 h3 a4 h4 a5 h5 a6 h6 a7 h7 a8 h8 a9 h9 a10 h10 hc0 hc1 q k v o g u dk dv = dqVal q k v o g u := by
  unfold out1_B_6
  rw [View.read_writes_junk_eq_canon]
  unfold kernelRun1_B
  dsimp only
  sl_unfold_words
  simp only [View.readAt_eq_ld, h2.read_unread, h3.read_unread, h4.read_unread, h5.read_unread, h6.read_unread, h7.read_unread, h9.read_unread, h10.read_unread]
  rw [View.canon_unit_zero (S := S1024x128) hz]

include H in
theorem dk_B (hc0 : ¬cond1_0 i) (hc1 : ¬cond1_1 i) :
    out1_B_7 c i a2 h2 a3 h3 a4 h4 a5 h5 a6 h6 a7 h7 a8 h8 a9 h9 a10 h10 hc0 hc1 q k v o g u dk dv = dkSum dk A h row := by
  unfold out1_B_7
  rw [View.read_writes_junk_eq_canon]
  unfold kernelRun1_B
  dsimp only
  sl_unfold_words
  simp only [View.readAt_eq_ld, h2.read_unread, h3.read_unread, h4.read_unread, h5.read_unread, h6.read_unread, h7.read_unread, h9.read_unread, h10.read_unread]
  exact dk_canon dk H []

include H in
theorem dv_B (hc0 : ¬cond1_0 i) (hc1 : ¬cond1_1 i) :
    out1_B_8 c i a2 h2 a3 h3 a4 h4 a5 h5 a6 h6 a7 h7 a8 h8 a9 h9 a10 h10 hc0 hc1 q k v o g u dk dv = dvSum dv A h row := by
  unfold out1_B_8
  rw [View.read_writes_junk_eq_canon]
  unfold kernelRun1_B
  dsimp only
  sl_unfold_words
  simp only [View.readAt_eq_ld, h2.read_unread, h3.read_unread, h4.read_unread, h5.read_unread, h6.read_unread, h7.read_unread, h9.read_unread, h10.read_unread]
  exact dv_canon dv H []

theorem dq_C (hc0 : ¬cond1_0 i) (hc1 : cond1_1 i) :
    out1_C_6 c i a2 h2 a3 h3 a4 h4 a5 h5 a6 h6 a7 h7 a8 h8 a9 h9 a10 h10 hc0 hc1 q k v o g u dk dv = dqVal q k v o g u := by
  unfold out1_C_6
  rw [View.read_writes_junk_eq_canon]
  unfold kernelRun1_C
  dsimp only
  sl_unfold_words
  simp only [View.readAt_eq_ld, h2.read_unread, h3.read_unread, h4.read_unread, h5.read_unread, h6.read_unread, h7.read_unread, h9.read_unread, h10.read_unread]
  rw [View.canon_unit_zero (S := S1024x128) hz]

include H in
theorem dk_C (hc0 : ¬cond1_0 i) (hc1 : cond1_1 i) :
    out1_C_7 c i a2 h2 a3 h3 a4 h4 a5 h5 a6 h6 a7 h7 a8 h8 a9 h9 a10 h10 hc0 hc1 q k v o g u dk dv = k1_pay1 (dkSum dk A h row) := by
  unfold out1_C_7
  rw [View.read_writes_junk_eq_canon]
  unfold kernelRun1_C
  dsimp only
  sl_unfold_words
  simp only [View.readAt_eq_ld, h2.read_unread, h3.read_unread, h4.read_unread, h5.read_unread, h6.read_unread, h7.read_unread, h9.read_unread, h10.read_unread]
  rw [View.canon_cons_unit_zero (S := S4352x128) hz, View.readCov_eq_canon_ld _ _ _ (strips_cover _ _ _), View.ld_unit_zero (S := S4352x128) hz]
  exact congrArg k1_pay1 (dk_canon dk H [])

include H in
theorem dv_C (hc0 : ¬cond1_0 i) (hc1 : cond1_1 i) :
    out1_C_8 c i a2 h2 a3 h3 a4 h4 a5 h5 a6 h6 a7 h7 a8 h8 a9 h9 a10 h10 hc0 hc1 q k v o g u dk dv = dvSum dv A h row := by
  unfold out1_C_8
  rw [View.read_writes_junk_eq_canon]
  unfold kernelRun1_C
  dsimp only
  sl_unfold_words
  simp only [View.readAt_eq_ld, h2.read_unread, h3.read_unread, h4.read_unread, h5.read_unread, h6.read_unread, h7.read_unread, h9.read_unread, h10.read_unread]
  exact dv_canon dv H []

end Cert.Proof.Bwd
-- ==== Proof.FwdBlocks.lean ====
/-
The forward call's blocks: the query tile and the head group of a grid point, and the blocks read off the arrays.
-/
module

public import proofs.«01_k».proof.Proof.Gen.KernelIdeal.Frame
public import Idealize.ShloMosaic.Lib.Pointwise

@[expose] public section

noncomputable section

open Cert.KernelIdeal Cert.KernelIdeal.Gen Idealize.ShloMosaic Idealize.ShloMosaic.TcCoe

namespace Cert.Proof.Fwd

/-- Point `t` is query tile `t % 16` of head group `t / 16`. -/
theorem idx_q : ∀ t : Fin cfg0.N, win0_0.index t 0 = t.val % 16 ∧ win0_0.index t 1 = t.val / 16 := by decide +kernel
theorem idx_k : ∀ t : Fin cfg0.N, win0_1.index t 0 = 0 ∧ win0_1.index t 1 = t.val / 16 := by decide +kernel
theorem idx_v : ∀ t : Fin cfg0.N, win0_2.index t 0 = 0 ∧ win0_2.index t 1 = t.val / 16 := by decide +kernel
theorem idx_o : ∀ t : Fin cfg0.N, win0_3.index t 0 = t.val % 16 ∧ win0_3.index t 1 = t.val / 16 := by decide +kernel
theorem idx_l : ∀ t : Fin cfg0.N, win0_4.index t 0 = t.val % 16 ∧ win0_4.index t 1 = t.val / 16 := by decide +kernel

theorem lt_N (t : Fin cfg0.N) : t.val < 32 := t.isLt

/-- The row of the array at row `r` of the point's tile. -/
def qrow (t : Fin cfg0.N) (r : Fin 256) : Fin 4096 := ⟨t.val % 16 * 256 + r.val, by omega⟩

/-- The lane of the array at lane `l` of the point's head group. -/
def glane (t : Fin cfg0.N) (l : Fin 512) : Fin 1024 := ⟨t.val / 16 * 512 + l.val, by have := lt_N t; omega⟩

variable (V : (c : Dev nD) → (b : Ref sig .tc) → Buf (Elt Ideal) ((c : Thread nD τ).loc b)) (c : Dev nD) (t : Fin cfg0.N)

theorem blk_q (r : Fin 256) (l : Fin 512) : iblk0 V c 0 t (ix2 r l) = V c main_v6 (ix2 (qrow t r) (glane t l)) := by
  unfold iblk0
  rw [View.read_apply]
  show V c main_v6 _ = V c main_v6 _
  congr 1
  funext a
  apply Fin.ext
  match a with
  | ⟨0, _⟩ => show win0_0.index t 0 * 256 + 1 * r.val = t.val % 16 * 256 + r.val; rw [(idx_q t).1]; omega
  | ⟨1, _⟩ => show win0_0.index t 1 * 512 + 1 * l.val = t.val / 16 * 512 + l.val; rw [(idx_q t).2]; omega

theorem blk_k (j : Fin 4352) (l : Fin 512) : iblk0 V c 1 t (ix2 j l) = V c main_v9 (ix2 j (glane t l)) := by
  unfold iblk0
  rw [View.read_apply]
  show V c main_v9 _ = V c main_v9 _
  congr 1
  funext a
  apply Fin.ext
  match a with
  | ⟨0, _⟩ => show win0_1.index t 0 * 4352 + 1 * j.val = j.val; rw [(idx_k t).1]; omega
  | ⟨1, _⟩ => show win0_1.index t 1 * 512 + 1 * l.val = t.val / 16 * 512 + l.val; rw [(idx_k t).2]; omega

theorem blk_v (j : Fin 4352) (l : Fin 512) : iblk0 V c 2 t (ix2 j l) = V c main_v12 (ix2 j (glane t l)) := by
  unfold iblk0
  rw [View.read_apply]
  show V c main_v12 _ = V c main_v12 _
  congr 1
  funext a
  apply Fin.ext
  match a with
  | ⟨0, _⟩ => show win0_2.index t 0 * 4352 + 1 * j.val = j.val; rw [(idx_v t).1]; omega
  | ⟨1, _⟩ => show win0_2.index t 1 * 512 + 1 * l.val = t.val / 16 * 512 + l.val; rw [(idx_v t).2]; omega

/-- The output's block at a point, read off an array. -/
theorem read_o (G : Buf (Elt Ideal) ((c : Thread nD τ).loc main_v16_0)) (r : Fin 256) (l : Fin 512) :
    ((cfg0.win 3).blk t).view.read (Elt Ideal) G (ix2 r l) = G (ix2 (qrow t r) (glane t l)) := by
  rw [View.read_apply]
  show G _ = G _
  congr 1
  funext a
  apply Fin.ext
  match a with
  | ⟨0, _⟩ => show win0_3.index t 0 * 256 + 1 * r.val = t.val % 16 * 256 + r.val; rw [(idx_o t).1]; omega
  | ⟨1, _⟩ => show win0_3.index t 1 * 512 + 1 * l.val = t.val / 16 * 512 + l.val; rw [(idx_o t).2]; omega

theorem read_l (G : Buf (Elt Ideal) ((c : Thread nD τ).loc main_v16_1)) (r : Fin 256) (l : Fin 512) :
    ((cfg0.win 4).blk t).view.read (Elt Ideal) G (ix2 r l) = G (ix2 (qrow t r) (glane t l)) := by
  rw [View.read_apply]
  show G _ = G _
  congr 1
  funext a
  apply Fin.ext
  match a with
  | ⟨0, _⟩ => show win0_4.index t 0 * 256 + 1 * r.val = t.val % 16 * 256 + r.val; rw [(idx_l t).1]; omega
  | ⟨1, _⟩ => show win0_4.index t 1 * 512 + 1 * l.val = t.val / 16 * 512 + l.val; rw [(idx_l t).2]; omega

/-- The point that writes row `i`, lane `l`. -/
def point (i : Fin 4096) (l : Fin 1024) : Fin cfg0.N := ⟨l.val / 512 * 16 + i.val / 256, by show _ < 32; omega⟩

theorem cover_o (i : S4096x1024.Idx) : ∃ t : Fin cfg0.N, (cfg0.win 3).flush t = true ∧ i ∈ ((cfg0.win 3).blk t).view.set := by
  have h0 : (i 0 : Nat) < 4096 := (i 0).isLt
  have h1 : (i 1 : Nat) < 1024 := (i 1).isLt
  refine ⟨point (i 0) (i 1), flush0_3 _, ?_⟩
  show i ∈ ((View.whole main_v16_0).slice (win0_3.rect (point (i 0) (i 1)))).set
  rw [View.set_slice_whole, Rect.mem_set_unit]
  intro a
  match a with
  | ⟨0, _⟩ =>
    show win0_3.index (point (i 0) (i 1)) 0 * 256 ≤ (i 0 : Nat) ∧ (i 0 : Nat) < win0_3.index (point (i 0) (i 1)) 0 * 256 + 256
    rw [(idx_o _).1]; dsimp only [point]; omega
  | ⟨1, _⟩ =>
    show win0_3.index (point (i 0) (i 1)) 1 * 512 ≤ (i 1 : Nat) ∧ (i 1 : Nat) < win0_3.index (point (i 0) (i 1)) 1 * 512 + 512
    rw [(idx_o _).2]; dsimp only [point]; omega

theorem cover_l (i : S4096x1024.Idx) : ∃ t : Fin cfg0.N, (cfg0.win 4).flush t = true ∧ i ∈ ((cfg0.win 4).blk t).view.set := by
  have h0 : (i 0 : Nat) < 4096 := (i 0).isLt
  have h1 : (i 1 : Nat) < 1024 := (i 1).isLt
  refine ⟨point (i 0) (i 1), flush0_4 _, ?_⟩
  show i ∈ ((View.whole main_v16_1).slice (win0_4.rect (point (i 0) (i 1)))).set
  rw [View.set_slice_whole, Rect.mem_set_unit]
  intro a
  match a with
  | ⟨0, _⟩ =>
    show win0_4.index (point (i 0) (i 1)) 0 * 256 ≤ (i 0 : Nat) ∧ (i 0 : Nat) < win0_4.index (point (i 0) (i 1)) 0 * 256 + 256
    rw [(idx_l _).1]; dsimp only [point]; omega
  | ⟨1, _⟩ =>
    show win0_4.index (point (i 0) (i 1)) 1 * 512 ≤ (i 1 : Nat) ∧ (i 1 : Nat) < win0_4.index (point (i 0) (i 1)) 1 * 512 + 512
    rw [(idx_l _).2]; dsimp only [point]; omega

end Cert.Proof.Fwd
-- ==== Proof.Fwd.lean ====
/-
The forward call's two arrays: the attention's output and its log-sums, at real arguments.
-/
module

public import proofs.«01_k».proof.Proof.FwdHead
public import proofs.«01_k».proof.Proof.FwdBlocks
public import Idealize.ShloMosaic.Lib.Pipeline.ValueKit.Tiles

@[expose] public section

noncomputable section

open Cert.KernelIdeal Cert.KernelIdeal.Gen Idealize.ShloMosaic Idealize.ShloMosaic.TcCoe

namespace Cert.Proof.Fwd

/-- The output, heads side by side. -/
def oArr (A : Spec.Args) : FVec Ideal S4096x1024 .bf16 :=
  fun i => ((Spec.lane (Spec.out A (i 0) (Spec.headOf (i 1))) (Spec.laneOf (i 1)) : ℝ) : EReal)

/-- The log-sums, a head's on all of its lanes. -/
def lArr (A : Spec.Args) : FVec Ideal S4096x1024 .f32 :=
  fun i => ((Spec.lse A (Spec.headOf (i 1)) (i 0) : ℝ) : EReal)

variable (V : (c : Dev nD) → (b : Ref sig .tc) → Buf (Elt Ideal) ((c : Thread nD τ).loc b)) (c : Dev nD) (A : Spec.Args)
  (hq : ∀ i l, V c main_v6 (ix2 i l)
    = ((Spec.lane (fun d => A.q i (Spec.headOf l) d * (Spec.scale / Real.log 2)) (Spec.laneOf l) : ℝ) : EReal))
  (hk : ∀ j l, V c main_v9 (ix2 j l) = ((Spec.lane (A.k j (Spec.headOf l)) (Spec.laneOf l) : ℝ) : EReal))
  (hv : ∀ j l, V c main_v12 (ix2 j l) = ((Spec.lane (A.v j (Spec.headOf l)) (Spec.laneOf l) : ℝ) : EReal))

/-- The head at place `b` of the point's group. -/
def head (t : Fin cfg0.N) (b : Fin 4) : Fin 8 := ⟨t.val / 16 * 4 + b.val, by have := lt_N t; omega⟩

theorem headOf_glane (t : Fin cfg0.N) (b : Fin 4) (l : Fin 128) (h : b.val * 128 + l.val < 512) :
    Spec.headOf (glane t ⟨b.val * 128 + l.val, h⟩) = head t b := by
  apply Fin.ext
  show (t.val / 16 * 512 + (b.val * 128 + l.val)) / 128 = t.val / 16 * 4 + b.val
  omega

theorem laneOf_glane (t : Fin cfg0.N) (b : Fin 4) (l : Fin 128) (h : b.val * 128 + l.val < 512) :
    Spec.laneOf (glane t ⟨b.val * 128 + l.val, h⟩) = l := by
  apply Fin.ext
  show (t.val / 16 * 512 + (b.val * 128 + l.val)) % 128 = l.val
  omega

/-- A load of the strip of 128 lanes at place `b`. -/
theorem ld_strip {n : ℕ} {e : EltTy} (X : Vec Ideal ⟨2, ![n, 512]⟩ e) (o : ℕ) (b : Fin 4) (ho : o = b.val * 128) (r : Fin n) (l : Fin 128)
    (inb : ∀ a, (![0, o] : Fin 2 → ℕ) a + (⟨2, ![n, 128]⟩ : Shape).size a ≤ (⟨2, ![n, 512]⟩ : Shape).size a) :
    View.ld X (Rect.unit (s := ⟨2, ![n, 512]⟩) ![0, o] (⟨2, ![n, 128]⟩ : Shape).size inb) (ix2 r l)
      = X (ix2 r ⟨b.val * 128 + l.val, by omega⟩) := by
  refine View.ld_unit_apply_of X _ _ _ _ _ fun a => ?_
  match a with
  | ⟨0, _⟩ => exact (Nat.zero_add _).symm
  | ⟨1, _⟩ => show b.val * 128 + l.val = o + l.val; rw [ho]

section
variable (t : Fin cfg0.N) (b : Fin 4) (o : ℕ) (ho : o = b.val * 128)
  (i1 : ∀ a, (![0, o] : Fin 2 → ℕ) a + S256x128.size a ≤ S256x512.size a)
  (i2 : ∀ a, (![0, o] : Fin 2 → ℕ) a + S4352x128.size a ≤ S4352x512.size a)

include hq ho in
theorem strip_q (r : Fin 256) (l : Fin 128) :
    View.ld (Val := Elt Ideal) (e' := .bf16) (iblk0 V c 0 t) (Rect.unit (s := S256x512) ![0, o] S256x128.size i1) (ix2 r l)
      = ((Spec.lane (fun d => A.q (qrow t r) (head t b) d * (Spec.scale / Real.log 2)) l : ℝ) : EReal) := by
  refine (ld_strip (e := .bf16) (iblk0 V c 0 t) o b ho r l i1).trans ?_
  rw [blk_q, hq, headOf_glane t b, laneOf_glane t b]

include hk ho in
theorem strip_k (j : Fin 4352) (l : Fin 128) :
    View.ld (Val := Elt Ideal) (e' := .bf16) (iblk0 V c 1 t) (Rect.unit (s := S4352x512) ![0, o] S4352x128.size i2) (ix2 j l)
      = ((Spec.lane (A.k j (head t b)) l : ℝ) : EReal) := by
  refine (ld_strip (e := .bf16) (iblk0 V c 1 t) o b ho j l i2).trans ?_
  rw [blk_k, hk, headOf_glane t b, laneOf_glane t b]

include hv ho in
theorem strip_v (j : Fin 4352) (l : Fin 128) :
    View.ld (Val := Elt Ideal) (e' := .bf16) (iblk0 V c 2 t) (Rect.unit (s := S4352x512) ![0, o] S4352x128.size i2) (ix2 j l)
      = ((Spec.lane (A.v j (head t b)) l : ℝ) : EReal) := by
  refine (ld_strip (e := .bf16) (iblk0 V c 2 t) o b ho j l i2).trans ?_
  rw [blk_v, hv, headOf_glane t b, laneOf_glane t b]

/-- An index of the tile's lanes in a strip, by its lane in the strip. -/
theorem in_strip (y : S256x512.Idx) (x : S256x128.Idx) (hx : ∀ a, (y a : ℕ) = (![0, o] : Fin 2 → ℕ) a + x a) :
    x 0 = y 0 ∧ (y 1 : ℕ) = o + (x 1 : ℕ) :=
  ⟨Fin.ext (by have := hx 0; simpa using this.symm), hx 1⟩

include hq hk hv ho in
theorem tile_o (y : S256x512.Idx) : View.TileAt (Val := Elt Ideal) (S := S256x512) (e := .bf16)
    y ![0, o] S256x128.size (k0_pay5 (View.ld (iblk0 V c 0 t) (Rect.unit (s := S256x512) ![0, o] S256x128.size i1))
      (View.ld (iblk0 V c 1 t) (Rect.unit (s := S4352x512) ![0, o] S4352x128.size i2))
      (View.ld (iblk0 V c 2 t) (Rect.unit (s := S4352x512) ![0, o] S4352x128.size i2)))
      (oArr A (ix2 (qrow t (y 0)) (glane t (y 1)))) := by
  intro x hx
  obtain ⟨h0, h1⟩ := in_strip o y x hx
  obtain ⟨r, l, rfl⟩ : ∃ (r : Fin 256) (l : Fin 128), x = ix2 r l := ⟨x 0, x 1, eq_ix2 x⟩
  have e1 : y 1 = (⟨b.val * 128 + l.val, by omega⟩ : Fin 512) := Fin.ext (h1.trans (congrArg (· + l.val) ho))
  rw [out_at A (head t b) (qrow t) (strip_q V c A hq t b o ho i1) (strip_k V c A hk t b o ho i2) (strip_v V c A hv t b o ho i2) r l]
  show _ = ((Spec.lane (Spec.out A (qrow t (y 0)) (Spec.headOf (glane t (y 1)))) (Spec.laneOf (glane t (y 1))) : ℝ) : EReal)
  rw [← h0, e1, headOf_glane, laneOf_glane]
  rfl

include hq hk ho in
theorem tile_l (y : S256x512.Idx) : View.TileAt (Val := Elt Ideal) (S := S256x512) (e := .f32)
    y ![0, o] S256x128.size (k0_pay6 (View.ld (iblk0 V c 0 t) (Rect.unit (s := S256x512) ![0, o] S256x128.size i1))
      (View.ld (iblk0 V c 1 t) (Rect.unit (s := S4352x512) ![0, o] S4352x128.size i2)))
      (lArr A (ix2 (qrow t (y 0)) (glane t (y 1)))) := by
  intro x hx
  obtain ⟨h0, h1⟩ := in_strip o y x hx
  obtain ⟨r, l, rfl⟩ : ∃ (r : Fin 256) (l : Fin 128), x = ix2 r l := ⟨x 0, x 1, eq_ix2 x⟩
  have e1 : y 1 = (⟨b.val * 128 + l.val, by omega⟩ : Fin 512) := Fin.ext (h1.trans (congrArg (· + l.val) ho))
  rw [lse_at A (head t b) (qrow t) (strip_q V c A hq t b o ho i1) (strip_k V c A hk t b o ho i2) r l]
  show _ = ((Spec.lse A (Spec.headOf (glane t (y 1))) (qrow t (y 0)) : ℝ) : EReal)
  rw [← h0, e1, headOf_glane]
  rfl

end

include hq hk hv in
theorem out_o (t : Fin cfg0.N) (y : S256x512.Idx) :
    out0_3 (iblk0 V c 0 t) (iblk0 V c 1 t) (iblk0 V c 2 t) y = oArr A (ix2 (qrow t (y 0)) (glane t (y 1))) := by
  unfold_out out0_3
  rw [pay12_eq, pay18_eq, pay24_eq]
  refine View.canon_eq_of_allAt _ _ _ (cover0_3 _ _ _ _ y) ?_
  refine View.allAt_cons_unit _ _ _ _ _ (tile_o V c A hq hk hv t 3 384 rfl _ _ y) ?_
  refine View.allAt_cons_unit _ _ _ _ _ (tile_o V c A hq hk hv t 2 256 rfl _ _ y) ?_
  refine View.allAt_cons_unit _ _ _ _ _ (tile_o V c A hq hk hv t 1 128 rfl _ _ y) ?_
  exact View.allAt_cons_unit _ _ _ _ _ (tile_o V c A hq hk hv t 0 0 rfl _ _ y) (View.allAt_nil _ _)

include hq hk in
theorem out_l (t : Fin cfg0.N) (y : S256x512.Idx) :
    out0_4 (iblk0 V c 0 t) (iblk0 V c 1 t) (iblk0 V c 2 t) y = lArr A (ix2 (qrow t (y 0)) (glane t (y 1))) := by
  unfold_out out0_4
  rw [pay13_eq, pay19_eq, pay25_eq]
  refine View.canon_eq_of_allAt _ _ _ (cover0_4 _ _ _ _ y) ?_
  refine View.allAt_cons_unit _ _ _ _ _ (tile_l V c A hq hk t 3 384 rfl _ _ y) ?_
  refine View.allAt_cons_unit _ _ _ _ _ (tile_l V c A hq hk t 2 256 rfl _ _ y) ?_
  refine View.allAt_cons_unit _ _ _ _ _ (tile_l V c A hq hk t 1 128 rfl _ _ y) ?_
  exact View.allAt_cons_unit _ _ _ _ _ (tile_l V c A hq hk t 0 0 rfl _ _ y) (View.allAt_nil _ _)

include hq hk hv in
/-- The output array after the call. -/
theorem final_o : (dat0 V c).arrAt 3 cfg0.N = oArr A :=
  (dat0 V c).arrAt_eq_of_cover 3 (oArr A) (fun t _ => by
    show (cfg0.win 3).cut (grid0.coords t) ((dat0 V c).after 3 t) = _
    rw [after0_3]
    funext y
    obtain ⟨r, l, rfl⟩ : ∃ (r : Fin 256) (l : Fin 512), y = ix2 r l := ⟨y 0, y 1, eq_ix2 (n0 := 256) (n1 := 512) y⟩
    exact (out_o V c A hq hk hv t (ix2 r l)).trans (read_o c t (oArr A) r l).symm) cover_o

include hq hk in
/-- The log-sum array after the call. -/
theorem final_l : (dat0 V c).arrAt 4 cfg0.N = lArr A :=
  (dat0 V c).arrAt_eq_of_cover 4 (lArr A) (fun t _ => by
    show (cfg0.win 4).cut (grid0.coords t) ((dat0 V c).after 4 t) = _
    rw [after0_4]
    funext y
    obtain ⟨r, l, rfl⟩ : ∃ (r : Fin 256) (l : Fin 512), y = ix2 r l := ⟨y 0, y 1, eq_ix2 (n0 := 256) (n1 := 512) y⟩
    exact (out_l V c A hq hk t (ix2 r l)).trans (read_l c t (lArr A) r l).symm) cover_l

end Cert.Proof.Fwd
-- ==== Proof.Bwd.lean ====
/-
The backward call's three arrays, at real arguments: the gradients of the queries, keys and values.
-/
module

public import proofs.«01_k».proof.Proof.BwdPoint
public import proofs.«01_k».proof.Proof.Fwd

@[expose] public section

noncomputable section

open scoped BigOperators
open Cert.KernelIdeal Cert.KernelIdeal.Gen Idealize.ShloMosaic Idealize.ShloMosaic.TcCoe

namespace Cert.Proof.Bwd

/-- The queries' gradient, heads side by side. -/
def dqArr (A : Spec.Args) : FVec Ideal S4096x1024 .bf16 :=
  fun i => ((Spec.lane (Spec.dq A (i 0) (Spec.headOf (i 1))) (Spec.laneOf (i 1)) : ℝ) : EReal)

/-- The keys' gradient, heads side by side. -/
def dkArr (A : Spec.Args) : FVec Ideal S4352x1024 .f32 :=
  fun i => ((Spec.lane (Spec.dk A (i 0) (Spec.headOf (i 1))) (Spec.laneOf (i 1)) : ℝ) : EReal)

/-- The values' gradient, heads side by side. -/
def dvArr (A : Spec.Args) : FVec Ideal S4352x1024 .f32 :=
  fun i => ((Spec.lane (Spec.dv A (i 0) (Spec.headOf (i 1))) (Spec.laneOf (i 1)) : ℝ) : EReal)

/-! ## The sums over a head's four tiles of queries -/

/-- Row `r` of the tile of queries at position `n` of the grid. -/
def tileRow (n : ℕ) (r : Fin 1024) : Fin 4096 := ⟨n % 4 * 1024 + r.val, by omega⟩

/-- A sum over the four tiles is the sum over the queries. -/
theorem sum_tiles (f : Fin 4096 → ℝ) : ∑ n ∈ Finset.range 4, ∑ r, f (tileRow n r) = ∑ i, f i := by
  rw [Finset.sum_range, Fin.sum_univ_tiles 4 1024 (by norm_num) f]
  refine Finset.sum_congr rfl fun n _ => Finset.sum_congr rfl fun r _ => congrArg f (Fin.ext ?_)
  show n.val % 4 * 1024 + r.val = _
  rw [Nat.mod_eq_of_lt n.isLt]

/-- The keys' gradient over the tiles up to position `n`, over the logarithm of two. -/
def dkTo (A : Spec.Args) (h : Fin 8) (n : ℕ) (j : Fin 4352) (l : Fin 128) : ℝ :=
  ∑ s ∈ Finset.range (n % 4 + 1), dkTile A h (tileRow s) j l

/-- The values' gradient over the tiles up to position `n`. -/
def dvTo (A : Spec.Args) (h : Fin 8) (n : ℕ) (j : Fin 4352) (l : Fin 128) : ℝ :=
  ∑ s ∈ Finset.range (n % 4 + 1), dvTile A h (tileRow s) j l

theorem tileRow_mod (n : ℕ) : tileRow (n % 4) = tileRow n :=
  funext fun r => Fin.ext (by show n % 4 % 4 * 1024 + r.val = n % 4 * 1024 + r.val; rw [Nat.mod_mod])

theorem dkTo_first (A : Spec.Args) (h : Fin 8) (n : ℕ) (h0 : n % 4 = 0) (j : Fin 4352) (l : Fin 128) :
    dkTo A h n j l = dkTile A h (tileRow n) j l := by
  rw [dkTo, Finset.sum_range_succ, tileRow_mod, h0, Finset.sum_range_zero, zero_add]

theorem dvTo_first (A : Spec.Args) (h : Fin 8) (n : ℕ) (h0 : n % 4 = 0) (j : Fin 4352) (l : Fin 128) :
    dvTo A h n j l = dvTile A h (tileRow n) j l := by
  rw [dvTo, Finset.sum_range_succ, tileRow_mod, h0, Finset.sum_range_zero, zero_add]

theorem dkTo_next (A : Spec.Args) (h : Fin 8) (n : ℕ) (h0 : ¬(n + 1) % 4 = 0) (j : Fin 4352) (l : Fin 128) :
    dkTo A h (n + 1) j l = dkTo A h n j l + dkTile A h (tileRow (n + 1)) j l := by
  have e : (n + 1) % 4 = n % 4 + 1 := by omega
  rw [dkTo, Finset.sum_range_succ, tileRow_mod, e, dkTo]

theorem dvTo_next (A : Spec.Args) (h : Fin 8) (n : ℕ) (h0 : ¬(n + 1) % 4 = 0) (j : Fin 4352) (l : Fin 128) :
    dvTo A h (n + 1) j l = dvTo A h n j l + dvTile A h (tileRow (n + 1)) j l := by
  have e : (n + 1) % 4 = n % 4 + 1 := by omega
  rw [dvTo, Finset.sum_range_succ, tileRow_mod, e, dvTo]

/-- All four tiles, times the logarithm of two: the keys' gradient. -/
theorem dkTo_last (A : Spec.Args) (h : Fin 8) (n : ℕ) (h3 : n % 4 = 3) (j : Fin 4352) (l : Fin 128) :
    dkTo A h n j l * Real.log 2 = Spec.lane (Spec.dk A j h) l := by
  rw [dkTo, h3]
  unfold dkTile
  rw [sum_tiles fun i => Spec.ds A h i j * qs A h i l]
  unfold qs Spec.lane Spec.dk
  have := Softmax.log_two_ne_zero
  split_ifs
  · rw [Finset.sum_mul, Finset.sum_mul]
    refine Finset.sum_congr rfl fun i _ => ?_
    field_simp
  · simp

/-- All four tiles: the values' gradient. -/
theorem dvTo_last (A : Spec.Args) (h : Fin 8) (n : ℕ) (h3 : n % 4 = 3) (j : Fin 4352) (l : Fin 128) :
    dvTo A h n j l = Spec.lane (Spec.dv A j h) l := by
  rw [dvTo, h3]
  unfold dvTile
  rw [sum_tiles fun i => Spec.wt A h i j * Spec.lane (A.g i h) l]
  unfold Spec.lane Spec.dv
  split_ifs
  · rfl
  · simp

/-! ## The blocks of a point -/

variable (V : (c : Dev nD) → (b : Ref sig .tc) → Buf (Elt Ideal) ((c : Thread nD τ).loc b)) (c : Dev nD) (A : Spec.Args)

/-- The arrays the call finds. -/
structure Arrays : Prop where
  hq : ∀ i l, V c main_v6 (ix2 i l) = ((Spec.lane (fun d => A.q i (Spec.headOf l) d * (Spec.scale / Real.log 2)) (Spec.laneOf l) : ℝ) : EReal)
  hk : ∀ j l, V c main_v9 (ix2 j l) = ((Spec.lane (A.k j (Spec.headOf l)) (Spec.laneOf l) : ℝ) : EReal)
  hv : ∀ j l, V c main_v12 (ix2 j l) = ((Spec.lane (A.v j (Spec.headOf l)) (Spec.laneOf l) : ℝ) : EReal)
  hg : ∀ i l, V c main_v15 (ix2 i l) = ((Spec.lane (A.g i (Spec.headOf l)) (Spec.laneOf l) : ℝ) : EReal)
  ho : V c main_v16_0 = Fwd.oArr A
  hu : V c main_v16_1 = Fwd.lArr A

/-- The head of a grid position. -/
def head (n : ℕ) (hn : n < cfg1.N) : Fin 8 := ⟨n / 4, by have : n < 32 := hn; omega⟩

theorem headOf_hlane (t : Fin cfg1.N) (l : Fin 128) : Spec.headOf (hlane t l) = head t.val t.isLt := by
  apply Fin.ext
  show (t.val / 4 * 128 + l.val) / 128 = t.val / 4
  omega

theorem laneOf_hlane (t : Fin cfg1.N) (l : Fin 128) : Spec.laneOf (hlane t l) = l := by
  apply Fin.ext
  show (t.val / 4 * 128 + l.val) % 128 = l.val
  omega

variable {V c A} (M : Arrays V c A)

include M in
theorem blocks (t : Fin cfg1.N) : Blocks (iblk1 V c 0 t) (iblk1 V c 1 t) (iblk1 V c 2 t) (iblk1 V c 3 t) (iblk1 V c 4 t) (iblk1 V c 5 t)
    A (head t.val t.isLt) (tileRow t.val) where
  hq r l := by rw [blk_q, M.hq, headOf_hlane, laneOf_hlane]; rfl
  hk j l := by rw [blk_k, M.hk, headOf_hlane, laneOf_hlane]
  hv j l := by rw [blk_v, M.hv, headOf_hlane, laneOf_hlane]
  ho r l := by
    rw [blk_o, M.ho]
    show ((Spec.lane (Spec.out A (qrow t r) (Spec.headOf (hlane t l))) (Spec.laneOf (hlane t l)) : ℝ) : EReal) = _
    rw [headOf_hlane, laneOf_hlane]; rfl
  hg r l := by rw [blk_g, M.hg, headOf_hlane, laneOf_hlane]; rfl
  hu r l := by
    rw [blk_u, M.hu]
    show ((Spec.lse A (Spec.headOf (hlane t l)) (qrow t r) : ℝ) : EReal) = _
    rw [headOf_hlane]; rfl

/-! ## What stands in the results after each point -/

/-- The keys' gradient times the logarithm of two, at an index. -/
theorem pay1_at (x : Vec Ideal S4352x128 .f32) (y : S4352x128.Idx) : k1_pay1 x y = x y * ((Real.log 2 : ℝ) : EReal) := by
  unfold k1_pay1
  rw [shapeCast_self]
  rfl

include M in
theorem dq_after (t : Fin cfg1.N) (r : Fin 1024) (l : Fin 128) :
    (outsAt1 V c t.val t.isLt).1 (ix2 r l) = ((Spec.lane (Spec.dq A (tileRow t.val r) (head t.val t.isLt)) l : ℝ) : EReal) := by
  by_cases h0 : t.val % 4 = 0
  · rw [outsAt1_A V c t h0 (by omega)]; dsimp only; rw [dq_A]; exact dq_val (blocks M t) r l
  · by_cases h3 : t.val % 4 = 3
    · rw [outsAt1_C V c t h0 h3]; dsimp only; rw [dq_C]; exact dq_val (blocks M t) r l
    · rw [outsAt1_B V c t h0 h3]; dsimp only; rw [dq_B]; exact dq_val (blocks M t) r l

include M in
theorem dv_after : ∀ (n : ℕ) (hn : n < cfg1.N) (j : Fin 4352) (l : Fin 128),
    (outsAt1 V c n hn).2.2 (ix2 j l) = ((dvTo A (head n hn) n j l : ℝ) : EReal) := by
  intro n
  induction n with
  | zero =>
    intro hn j l
    rw [outsAt1_A V c ⟨0, hn⟩ rfl (by norm_num)]
    dsimp only
    rw [dv_A (H := blocks M ⟨0, hn⟩)]
    show k1_pay3 (F := Ideal) (ix2 j l) + ((dvTile A (head (0) hn) (tileRow (0)) j l : ℝ) : EReal) = _
    rw [zero_block', zero_add, dvTo_first A _ 0 rfl]
  | succ n ih =>
    intro hn j l
    by_cases h0 : (n + 1) % 4 = 0
    · rw [outsAt1_A V c ⟨n + 1, hn⟩ h0 (by show ¬(n + 1) % 4 = 3; omega)]
      dsimp only
      rw [dv_A (H := blocks M ⟨n + 1, hn⟩)]
      show k1_pay3 (F := Ideal) (ix2 j l) + ((dvTile A (head (n + 1) hn) (tileRow (n + 1)) j l : ℝ) : EReal) = _
      rw [zero_block', zero_add, dvTo_first A _ (n + 1) h0]
    · have hh : head n (Nat.lt_of_succ_lt hn) = head (n + 1) hn := Fin.ext (by show n / 4 = (n + 1) / 4; omega)
      have e : (outsAt1 V c n (Nat.lt_of_succ_lt hn)).2.2 (ix2 j l) + ((dvTile A (head (n + 1) hn) (tileRow (n + 1)) j l : ℝ) : EReal)
          = ((dvTo A (head (n + 1) hn) (n + 1) j l : ℝ) : EReal) := by
        rw [ih (Nat.lt_of_succ_lt hn) j l, hh, ← EReal.coe_add, ← dvTo_next A _ n h0]
      by_cases h3 : (n + 1) % 4 = 3
      · rw [outsAt1_C V c ⟨n + 1, hn⟩ h0 h3]
        dsimp only
        rw [dv_C (H := blocks M ⟨n + 1, hn⟩)]
        exact e
      · rw [outsAt1_B V c ⟨n + 1, hn⟩ h0 h3]
        dsimp only
        rw [dv_B (H := blocks M ⟨n + 1, hn⟩)]
        exact e

include M in
theorem dk_before : ∀ (n : ℕ) (hn : n < cfg1.N) (_ : ¬n % 4 = 3) (j : Fin 4352) (l : Fin 128),
    (outsAt1 V c n hn).2.1 (ix2 j l) = ((dkTo A (head n hn) n j l : ℝ) : EReal) := by
  intro n
  induction n with
  | zero =>
    intro hn _ j l
    rw [outsAt1_A V c ⟨0, hn⟩ rfl (by norm_num)]
    dsimp only
    rw [dk_A (H := blocks M ⟨0, hn⟩)]
    show k1_pay2 (F := Ideal) (ix2 j l) + ((dkTile A (head (0) hn) (tileRow (0)) j l : ℝ) : EReal) = _
    rw [zero_block, zero_add, dkTo_first A _ 0 rfl]
  | succ n ih =>
    intro hn h3 j l
    by_cases h0 : (n + 1) % 4 = 0
    · rw [outsAt1_A V c ⟨n + 1, hn⟩ h0 h3]
      dsimp only
      rw [dk_A (H := blocks M ⟨n + 1, hn⟩)]
      show k1_pay2 (F := Ideal) (ix2 j l) + ((dkTile A (head (n + 1) hn) (tileRow (n + 1)) j l : ℝ) : EReal) = _
      rw [zero_block, zero_add, dkTo_first A _ (n + 1) h0]
    · have hh : head n (Nat.lt_of_succ_lt hn) = head (n + 1) hn := Fin.ext (by show n / 4 = (n + 1) / 4; omega)
      have e : (outsAt1 V c n (Nat.lt_of_succ_lt hn)).2.1 (ix2 j l) + ((dkTile A (head (n + 1) hn) (tileRow (n + 1)) j l : ℝ) : EReal)
          = ((dkTo A (head (n + 1) hn) (n + 1) j l : ℝ) : EReal) := by
        rw [ih (Nat.lt_of_succ_lt hn) (by omega) j l, hh, ← EReal.coe_add, ← dkTo_next A _ n h0]
      rw [outsAt1_B V c ⟨n + 1, hn⟩ h0 h3]
      dsimp only
      rw [dk_B (H := blocks M ⟨n + 1, hn⟩)]
      exact e

include M in
theorem dk_after (n : ℕ) (hn : n < cfg1.N) (h3 : n % 4 = 3) (j : Fin 4352) (l : Fin 128) :
    (outsAt1 V c n hn).2.1 (ix2 j l) = ((Spec.lane (Spec.dk A j (head n hn)) l : ℝ) : EReal) := by
  cases n with
  | zero => exact absurd h3 (by norm_num)
  | succ n =>
    have h0 : ¬(n + 1) % 4 = 0 := by omega
    have hh : head n (Nat.lt_of_succ_lt hn) = head (n + 1) hn := Fin.ext (by show n / 4 = (n + 1) / 4; omega)
    rw [outsAt1_C V c ⟨n + 1, hn⟩ h0 h3]
    dsimp only
    rw [dk_C (H := blocks M ⟨n + 1, hn⟩), pay1_at]
    show ((outsAt1 V c n (Nat.lt_of_succ_lt hn)).2.1 (ix2 j l) + ((dkTile A (head (n + 1) hn) (tileRow (n + 1)) j l : ℝ) : EReal)) * _ = _
    rw [dk_before M n (Nat.lt_of_succ_lt hn) (by omega) j l, hh, ← EReal.coe_add, ← dkTo_next A _ n h0, ← EReal.coe_mul, dkTo_last A _ (n + 1) h3]

/-! ## The arrays after the call -/

include M in
theorem final_dq : (dat1 V c).arrAt 6 cfg1.N = dqArr A :=
  (dat1 V c).arrAt_eq_of_cover 6 (dqArr A) (fun t _ => by
    show (cfg1.win 6).cut (grid1.coords t) ((dat1 V c).after 6 t) = _
    rw [after1_6]
    funext y
    obtain ⟨r, l, rfl⟩ : ∃ (r : Fin 1024) (l : Fin 128), y = ix2 r l := ⟨y 0, y 1, eq_ix2 (n0 := 1024) (n1 := 128) y⟩
    refine ((dq_after M t r l).trans ?_).trans (read_dq c t (dqArr A) r l).symm
    show _ = ((Spec.lane (Spec.dq A (qrow t r) (Spec.headOf (hlane t l))) (Spec.laneOf (hlane t l)) : ℝ) : EReal)
    rw [headOf_hlane, laneOf_hlane]; rfl) cover_dq

include M in
theorem final_dk : (dat1 V c).arrAt 7 cfg1.N = dkArr A :=
  (dat1 V c).arrAt_eq_of_cover 7 (dkArr A) (fun t hf => by
    show (cfg1.win 7).cut (grid1.coords t) ((dat1 V c).after 7 t) = _
    rw [after1_7]
    funext y
    obtain ⟨j, l, rfl⟩ : ∃ (j : Fin 4352) (l : Fin 128), y = ix2 j l := ⟨y 0, y 1, eq_ix2 (n0 := 4352) (n1 := 128) y⟩
    refine ((dk_after M t.val t.isLt ((flush1_7 t).mp hf) j l).trans ?_).trans (read_dk c t (dkArr A) j l).symm
    show _ = ((Spec.lane (Spec.dk A j (Spec.headOf (hlane t l))) (Spec.laneOf (hlane t l)) : ℝ) : EReal)
    rw [headOf_hlane, laneOf_hlane]) cover_dk

include M in
theorem final_dv : (dat1 V c).arrAt 8 cfg1.N = dvArr A :=
  (dat1 V c).arrAt_eq_of_cover 8 (dvArr A) (fun t hf => by
    show (cfg1.win 8).cut (grid1.coords t) ((dat1 V c).after 8 t) = _
    rw [after1_8]
    funext y
    obtain ⟨j, l, rfl⟩ : ∃ (j : Fin 4352) (l : Fin 128), y = ix2 j l := ⟨y 0, y 1, eq_ix2 (n0 := 4352) (n1 := 128) y⟩
    refine ((dv_after M t.val t.isLt j l).trans ?_).trans (read_dv c t (dvArr A) j l).symm
    rw [dvTo_last A _ t.val ((flush1_8 t).mp hf)]
    show _ = ((Spec.lane (Spec.dv A j (Spec.headOf (hlane t l))) (Spec.laneOf (hlane t l)) : ℝ) : EReal)
    rw [headOf_hlane, laneOf_hlane]) cover_dv

end Cert.Proof.Bwd
-- ==== Proof.RefTerm.lean ====
/-
The reference program's results as a chain of named stages.
-/
module

public import proofs.«01_k».proof.Proof.Spec
public import proofs.«01_k».proof.Proof.Gen.ReferenceIdeal.Run
public import Idealize.ShloMosaic.Lib.Pointwise

@[expose] public section

noncomputable section

open scoped BigOperators
open Cert.ReferenceIdeal Cert.ReferenceIdeal.Gen Idealize.ShloMosaic Idealize.ShloMosaic.TcCoe

namespace Cert.Proof.Ref

variable (q : FVec Ideal S4096x8x96 .f32) (k : FVec Ideal S4352x8x96 .f32) (v : FVec Ideal S4352x8x64 .f32)
  (g : FVec Ideal S4096x8x64 .f32)

/-- The scaled scores. -/
def score : FVec Ideal S8x4096x4352 .f32 :=
  mulf (Host.dotGeneral dot_S4096x8x96_S4352x8x96_S8x4096x4352_2_2_0_0_1_1 none q k)
    (broadcastInDim S8x4096x4352 ![] bcast_S_S8x4096x4352 (constant S_ .f32 0x3DD105EC#32))

/-- Each row's largest score. -/
def top (s : FVec Ideal S8x4096x4352 .f32) : FVec Ideal S8x4096 .f32 :=
  maximumf (broadcastInDim S8x4096 ![] bcast_S_S8x4096 (constant S_ .f32 0xFF800000#32))
    (Host.reduce FloatOps.maximumf s (constant S_ .f32 0xFF800000#32) reducesTo_S8x4096x4352_S8x4096_d2 h_S_)

/-- A row of values spread over the keys. -/
def spread (x : FVec Ideal S8x4096x1 .f32) : FVec Ideal S8x4096x4352 .f32 :=
  broadcastInDim S8x4096x4352 ![0, 1, 2] bcast_S8x4096x1_S8x4096x4352_0_1_2 x

/-- The same values with a unit axis. -/
def col (x : FVec Ideal S8x4096 .f32) : FVec Ideal S8x4096x1 .f32 :=
  broadcastInDim S8x4096x1 ![0, 1] bcast_S8x4096_S8x4096x1_0_1 x

/-- The shifted exponentials. -/
def expo (s : FVec Ideal S8x4096x4352 .f32) : FVec Ideal S8x4096x4352 .f32 := Host.exp (subf s (spread (col (top s))))

/-- The sum of each row's exponentials. -/
def total (e : FVec Ideal S8x4096x4352 .f32) : FVec Ideal S8x4096x1 .f32 :=
  col (Host.reduceAdd e (constant S_ .f32 0x00000000#32) reducesTo_S8x4096x4352_S8x4096_d2 h_S_)

/-- The weights. -/
def wt (e : FVec Ideal S8x4096x4352 .f32) : FVec Ideal S8x4096x4352 .f32 := Host.divf e (spread (total e))

/-- The weights' cotangent. -/
def dwt : FVec Ideal S8x4096x4352 .f32 :=
  Host.dotGeneral dot_S8x64x4096_S4352x8x64_S8x4096x4352_1_2_2_0_0_1 none
    (transpose S8x64x4096 [1, 2, 0] g transposes_S4096x8x64_S8x64x4096_1_2_0) v

/-- Each row's sum of the cotangent against the exponentials over the square of the row's total. -/
def drow (e p : FVec Ideal S8x4096x4352 .f32) : FVec Ideal S8x4096 .f32 :=
  Host.reduceAdd (mulf (mulf p (spread (Host.divf (broadcastInDim S8x4096x1 ![] bcast_S_S8x4096x1 (constant S_ .f32 0x3F800000#32))
      (mulf (total e) (total e))))) e)
    (constant S_ .f32 0x00000000#32) reducesTo_S8x4096x4352_S8x4096_d2 h_S_

/-- The scores' cotangent, scaled. -/
def ds (e p : FVec Ideal S8x4096x4352 .f32) : FVec Ideal S8x4096x4352 .f32 :=
  mulf (mulf (addf (Host.divf p (spread (total e)))
      (broadcastInDim S8x4096x4352 ![0, 1] bcast_S8x4096_S8x4096x4352_0_1
        (Host.reduceAdd (Host.negf (shapeCast S8x4096x1 (drow e p) shapeCasts_S8x4096_S8x4096x1))
          (constant S_ .f32 0x00000000#32) reducesTo_S8x4096x1_S8x4096_d2 h_S_))) e)
    (broadcastInDim S8x4096x4352 ![] bcast_S_S8x4096x4352 (constant S_ .f32 0x3DD105EC#32))

/-- The output. -/
def out : FVec Ideal S4096x1024 .bf16 :=
  truncf .bf16 (shapeCast S4096x1024 (pad S4096x8x128 ![0, 0, 0] ![0, 0, 64] ![0, 0, 0]
    (transpose S4096x8x64 [2, 0, 1] (Host.dotGeneral dot_S4352x8x64_S8x4096x4352_S8x64x4096_0_2_2_1_1_0 none v (wt (expo (score q k))))
      transposes_S8x64x4096_S4096x8x64_2_0_1) (sitofp .f32 (constantI S_ 32 0#32)) pads_S4096x8x64_S4096x8x128_000_000_0640 h_S_)
    shapeCasts_S4096x8x128_S4096x1024) bitsLt_bf16_f32

/-- The values' gradient. -/
def dv : FVec Ideal S4352x1024 .f32 :=
  shapeCast S4352x1024 (pad S4352x8x128 ![0, 0, 0] ![0, 0, 64] ![0, 0, 0]
    (transpose S4352x8x64 [2, 0, 1] (Host.dotGeneral dot_S8x64x4096_S8x4096x4352_S8x64x4352_2_1_1_2_0_0 none
      (transpose S8x64x4096 [1, 2, 0] g transposes_S4096x8x64_S8x64x4096_1_2_0) (wt (expo (score q k))))
      transposes_S8x64x4352_S4352x8x64_2_0_1) (sitofp .f32 (constantI S_ 32 0#32)) pads_S4352x8x64_S4352x8x128_000_000_0640 h_S_)
    shapeCasts_S4352x8x128_S4352x1024

/-- The keys' gradient. -/
def dk : FVec Ideal S4352x1024 .f32 :=
  shapeCast S4352x1024 (pad S4352x8x128 ![0, 0, 0] ![0, 0, 32] ![0, 0, 0]
    (transpose S4352x8x96 [1, 0, 2] (Host.dotGeneral dot_S8x4096x4352_S4096x8x96_S8x4352x96_1_0_2_2_0_1 none
      (ds (expo (score q k)) (dwt v g)) q)
      transposes_S8x4352x96_S4352x8x96_1_0_2) (sitofp .f32 (constantI S_ 32 0#32)) pads_S4352x8x96_S4352x8x128_000_000_0320 h_S_)
    shapeCasts_S4352x8x128_S4352x1024

/-- The queries' gradient. -/
def dq : FVec Ideal S4096x1024 .bf16 :=
  truncf .bf16 (shapeCast S4096x1024 (pad S4096x8x128 ![0, 0, 0] ![0, 0, 32] ![0, 0, 0]
    (transpose S4096x8x96 [1, 0, 2] (Host.dotGeneral dot_S8x4096x4352_S4352x8x96_S8x4096x96_2_0_1_2_0_1 none
      (ds (expo (score q k)) (dwt v g)) k)
      transposes_S8x4096x96_S4096x8x96_1_0_2) (sitofp .f32 (constantI S_ 32 0#32)) pads_S4096x8x96_S4096x8x128_000_000_0320 h_S_)
    shapeCasts_S4096x8x128_S4096x1024) bitsLt_bf16_f32

open Idealize.SL.Sem

set_option maxRecDepth 8192 in
/-- The reference's run: every result at its stage of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v57)
          = out (m ((c.tc : Thread nD τ).loc main_arg0)) (m ((c.tc : Thread nD τ).loc main_arg1)) (m ((c.tc : Thread nD τ).loc main_arg2))
        ∧ r.2.mem ((c.tc : Thread nD τ).loc main_v60)
          = dq (m ((c.tc : Thread nD τ).loc main_arg0)) (m ((c.tc : Thread nD τ).loc main_arg1)) (m ((c.tc : Thread nD τ).loc main_arg2))
              (m ((c.tc : Thread nD τ).loc main_arg3))
        ∧ r.2.mem ((c.tc : Thread nD τ).loc main_v62)
          = dk (m ((c.tc : Thread nD τ).loc main_arg0)) (m ((c.tc : Thread nD τ).loc main_arg1)) (m ((c.tc : Thread nD τ).loc main_arg2))
              (m ((c.tc : Thread nD τ).loc main_arg3))
        ∧ r.2.mem ((c.tc : Thread nD τ).loc main_v64)
          = dv (m ((c.tc : Thread nD τ).loc main_arg0)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨⟨(h c).1, (h c).2.1, (h c).2.2.1, (h c).2.2.2.1⟩, (h c).2.2.2.2⟩)
    (Cert.ReferenceIdeal.Value.run (F := Ideal) m ρ)

end Cert.Proof.Ref
-- ==== Proof.RefValue.lean ====
/-
The reference at real arguments: each stage at an index is the real number of the same name.
-/
module

public import proofs.«01_k».proof.Proof.RefTerm
public import proofs.«01_k».proof.Proof.Consts

@[expose] public section

noncomputable section

open scoped BigOperators
open Cert.ReferenceIdeal Cert.ReferenceIdeal.Gen Idealize.ShloMosaic Idealize.ShloMosaic.TcCoe

namespace Cert.Proof.Ref

/-- A maximum over the last of three axes, at an index: the fold over that axis. -/
theorem reduce_max_at {n0 n1 n2 : ℕ} {u : Shape} (x : FVec Ideal ⟨3, ![n0, n1, n2]⟩ .f32) (init : u.Idx → Ideal .f32)
    (h : (⟨3, ![n0, n1, n2]⟩ : Shape).ReducesTo [2] ⟨2, ![n0, n1]⟩) (hu : 0 < u.numel) (a : Fin n0) (b : Fin n1) :
    Host.reduce FloatOps.maximumf x init h hu (ix2 a b)
      = (Finset.univ : Finset (Fin n2)).fold max (init (Shape.Idx.first hu)) fun k => x (ix3 a b k) := by
  pointwise

/-- The integer zero as a float is zero. -/
theorem zero_int : FloatOps.sitofp (F := Ideal) (w := 32) .f32 0#32 = (0 : EReal) := by
  show (((0#32).toInt : ℝ) : EReal) = 0
  simp

variable (A : Spec.Args) {q : FVec Ideal S4096x8x96 .f32} {k : FVec Ideal S4352x8x96 .f32} {v : FVec Ideal S4352x8x64 .f32}
  {g : FVec Ideal S4096x8x64 .f32}

section
variable (hq : ∀ i h d, q (ix3 i h d) = ((A.q i h d : ℝ) : EReal)) (hk : ∀ j h d, k (ix3 j h d) = ((A.k j h d : ℝ) : EReal))
  (hv : ∀ j h d, v (ix3 j h d) = ((A.v j h d : ℝ) : EReal)) (hg : ∀ i h d, g (ix3 i h d) = ((A.g i h d : ℝ) : EReal))

include hq hk in
theorem score_at (h : Fin 8) (i : Fin 4096) (j : Fin 4352) : score q k (ix3 h i j) = ((Spec.score A h i j : ℝ) : EReal) := by
  have e : score q k (ix3 h i j) = (∑ x, q (ix3 i h x) * k (ix3 j h x)) * Ideal.ofBits FTy.f32 0x3DD105EC#32 := by
    pointwise [score]
  rw [e, Consts.scale_bits]
  simp only [hq, hk, ← EReal.coe_mul, Softmax.sum_coe]
  rfl

include hq hk in
theorem top_at (h : Fin 8) (i : Fin 4096) : ∃ m : ℝ, top (score q k) (ix2 h i) = (m : EReal) := by
  obtain ⟨m, hm⟩ := Softmax.fold_max_coe (Spec.score A h i)
  refine ⟨m, ?_⟩
  have e : ∀ t : FVec Ideal S8x4096 .f32,
      maximumf (broadcastInDim S8x4096 ![] bcast_S_S8x4096 (constant S_ .f32 0xFF800000#32)) t (ix2 h i)
        = max (Ideal.ofBits FTy.f32 0xFF800000#32) (t (ix2 h i)) := fun t => rfl
  unfold top
  rw [e, reduce_max_at (score q k) _ reducesTo_S8x4096x4352_S8x4096_d2 h_S_ h i]
  simp only [score_at A hq hk]
  have e2 : (constant (F := Ideal) S_ .f32 0xFF800000#32) (Shape.Idx.first h_S_) = (⊥ : EReal) := Consts.neg_inf_bits
  rw [e2, hm, Consts.neg_inf_bits]
  exact max_eq_right bot_le

include hq hk in
/-- The exponentials and their totals, for one shift per row. -/
theorem expo_at (h : Fin 8) (i : Fin 4096) : ∃ m : ℝ,
    (∀ j, expo (score q k) (ix3 h i j) = ((Real.exp (Spec.score A h i j - m) : ℝ) : EReal))
      ∧ total (expo (score q k)) (ix3 h i 0) = ((∑ j, Real.exp (Spec.score A h i j - m) : ℝ) : EReal) := by
  obtain ⟨m, hm⟩ := top_at A hq hk h i
  have h1 : ∀ j, expo (score q k) (ix3 h i j) = ((Real.exp (Spec.score A h i j - m) : ℝ) : EReal) := fun j => by
    have e : expo (score q k) (ix3 h i j) = Ideal.exp (score q k (ix3 h i j) - top (score q k) (ix2 h i)) := by
      generalize score q k = s
      pointwise [expo, spread, col]
    rw [e, hm, score_at A hq hk, ← EReal.coe_sub]; rfl
  refine ⟨m, h1, ?_⟩
  have e : total (expo (score q k)) (ix3 h i 0) = ∑ x, expo (score q k) (ix3 h i x) := by
    generalize expo (score q k) = s
    pointwise [total, col]
  rw [e]
  simp only [h1, Softmax.sum_coe]

include hq hk in
theorem wt_at (h : Fin 8) (i : Fin 4096) (j : Fin 4352) :
    wt (expo (score q k)) (ix3 h i j) = ((Spec.wt A h i j : ℝ) : EReal) := by
  obtain ⟨m, h1, h2⟩ := expo_at A hq hk h i
  have e : wt (expo (score q k)) (ix3 h i j) = Ideal.div (expo (score q k) (ix3 h i j)) (total (expo (score q k)) (ix3 h i 0)) := by
    generalize expo (score q k) = s
    pointwise [wt, spread]
  rw [e, h1, h2, Softmax.div_coe _ (Softmax.sum_exp_pos fun j => Spec.score A h i j - m).ne', Softmax.prob_shift]
  rfl

include hv hg in
theorem dwt_at (h : Fin 8) (i : Fin 4096) (j : Fin 4352) : dwt v g (ix3 h i j) = ((Spec.dwt A h i j : ℝ) : EReal) := by
  have e : dwt v g (ix3 h i j) = ∑ x, g (ix3 i h x) * v (ix3 j h x) := by pointwise [dwt]
  rw [e]
  simp only [hv, hg, ← EReal.coe_mul, Softmax.sum_coe]
  rfl

include hq hk hv hg in
theorem ds_at (h : Fin 8) (i : Fin 4096) (j : Fin 4352) :
    ds (expo (score q k)) (dwt v g) (ix3 h i j) = ((Spec.ds A h i j * Spec.scale : ℝ) : EReal) := by
  obtain ⟨m, h1, h2⟩ := expo_at A hq hk h i
  have hp := dwt_at A hv hg
  have e : drow (expo (score q k)) (dwt v g) (ix2 h i)
      = ∑ x, dwt v g (ix3 h i x) * Ideal.div 1 (total (expo (score q k)) (ix3 h i 0) * total (expo (score q k)) (ix3 h i 0))
          * expo (score q k) (ix3 h i x) := by
    generalize expo (score q k) = s
    generalize dwt v g = p
    pointwise [drow, spread]
  have e2 : ds (expo (score q k)) (dwt v g) (ix3 h i j)
      = (Ideal.div (dwt v g (ix3 h i j)) (total (expo (score q k)) (ix3 h i 0))
          + ∑ x : Fin 1, -drow (expo (score q k)) (dwt v g) (ix2 h i)) * expo (score q k) (ix3 h i j)
        * Ideal.ofBits FTy.f32 0x3DD105EC#32 := by
    generalize expo (score q k) = s
    generalize dwt v g = p
    pointwise [ds, spread]
  have hl := (Softmax.sum_exp_pos fun j => Spec.score A h i j - m)
  set l : ℝ := ∑ j, Real.exp (Spec.score A h i j - m) with hldef
  have hd : drow (expo (score q k)) (dwt v g) (ix2 h i) = ((Spec.delta A h i / l : ℝ) : EReal) := by
    rw [e]
    simp only [hp, h1, h2, ← EReal.coe_mul, ← EReal.coe_one, Softmax.div_coe 1 (mul_pos hl hl).ne', Softmax.sum_coe]
    congr 1
    rw [Spec.delta, Finset.sum_div]
    refine Finset.sum_congr rfl fun x _ => ?_
    rw [Spec.wt, ← Softmax.prob_shift _ m, ← hldef]
    field_simp
  rw [e2, hd, hp, h1, h2, Consts.scale_bits, Fin.sum_univ_one, Softmax.div_coe _ hl.ne', ← EReal.coe_neg, ← EReal.coe_add,
    ← EReal.coe_mul, ← EReal.coe_mul]
  congr 2
  rw [Spec.ds, Spec.wt, ← Softmax.prob_shift _ m, ← hldef]
  field_simp
  ring

/-- The value on a lane is a real number's when it is so within the width. -/
theorem lane_at {w : ℕ} (y : Fin w → ℝ) (l : Fin 1024) (x : (h : l.val / 128 < 8 ∧ l.val % 128 < w) → EReal)
    (e : ∀ h, x h = ((y ⟨l.val % 128, h.2⟩ : ℝ) : EReal)) :
    (if h : l.val / 128 < 8 ∧ l.val % 128 < w then x h else FloatOps.sitofp (F := Ideal) (w := 32) .f32 0#32)
      = ((Spec.lane y (Spec.laneOf l) : ℝ) : EReal) := by
  unfold Spec.lane Spec.laneOf
  by_cases hw : l.val % 128 < w
  · rw [dif_pos ⟨by omega, hw⟩, dif_pos hw, e]
  · rw [dif_neg (fun c => hw c.2), dif_neg hw, zero_int]; rfl

include hq hk hv in
theorem out_at (i : Fin 4096) (l : Fin 1024) :
    out q k v (ix2 i l) = ((Spec.lane (Spec.out A i (Spec.headOf l)) (Spec.laneOf l) : ℝ) : EReal) := by
  have e : out q k v (ix2 i l) = if h : l.val / 128 < 8 ∧ l.val % 128 < 64 then
      ∑ x, v (ix3 x ⟨l.val / 128, h.1⟩ ⟨l.val % 128, h.2⟩) * wt (expo (score q k)) (ix3 ⟨l.val / 128, h.1⟩ i x)
      else FloatOps.sitofp (F := Ideal) (w := 32) .f32 0#32 := by
    unfold out
    generalize wt (expo (score q k)) = p
    pointwise
  rw [e]
  refine lane_at _ l _ fun h => ?_
  simp only [hv, wt_at A hq hk, ← EReal.coe_mul, Softmax.sum_coe]
  congr 1
  exact Finset.sum_congr rfl fun x _ => mul_comm _ _

include hq hk hg in
theorem dv_at (j : Fin 4352) (l : Fin 1024) :
    dv q k g (ix2 j l) = ((Spec.lane (Spec.dv A j (Spec.headOf l)) (Spec.laneOf l) : ℝ) : EReal) := by
  have e : dv q k g (ix2 j l) = if h : l.val / 128 < 8 ∧ l.val % 128 < 64 then
      ∑ x, g (ix3 x ⟨l.val / 128, h.1⟩ ⟨l.val % 128, h.2⟩) * wt (expo (score q k)) (ix3 ⟨l.val / 128, h.1⟩ x j)
      else FloatOps.sitofp (F := Ideal) (w := 32) .f32 0#32 := by
    unfold dv
    generalize wt (expo (score q k)) = p
    pointwise
  rw [e]
  refine lane_at _ l _ fun h => ?_
  simp only [hg, wt_at A hq hk, ← EReal.coe_mul, Softmax.sum_coe]
  congr 1
  exact Finset.sum_congr rfl fun x _ => mul_comm _ _

include hq hk hv hg in
theorem dk_at (j : Fin 4352) (l : Fin 1024) :
    dk q k v g (ix2 j l) = ((Spec.lane (Spec.dk A j (Spec.headOf l)) (Spec.laneOf l) : ℝ) : EReal) := by
  have e : dk q k v g (ix2 j l) = if h : l.val / 128 < 8 ∧ l.val % 128 < 96 then
      ∑ x, ds (expo (score q k)) (dwt v g) (ix3 ⟨l.val / 128, h.1⟩ x j) * q (ix3 x ⟨l.val / 128, h.1⟩ ⟨l.val % 128, h.2⟩)
      else FloatOps.sitofp (F := Ideal) (w := 32) .f32 0#32 := by
    unfold dk
    generalize ds (expo (score q k)) (dwt v g) = p
    pointwise
  rw [e]
  refine lane_at _ l _ fun h => ?_
  simp only [hq, ds_at A hq hk hv hg, ← EReal.coe_mul, Softmax.sum_coe]
  congr 1
  rw [Spec.dk, Finset.sum_mul]
  exact Finset.sum_congr rfl fun x _ => mul_right_comm _ _ _

include hq hk hv hg in
theorem dq_at (i : Fin 4096) (l : Fin 1024) :
    dq q k v g (ix2 i l) = ((Spec.lane (Spec.dq A i (Spec.headOf l)) (Spec.laneOf l) : ℝ) : EReal) := by
  have e : dq q k v g (ix2 i l) = if h : l.val / 128 < 8 ∧ l.val % 128 < 96 then
      ∑ x, ds (expo (score q k)) (dwt v g) (ix3 ⟨l.val / 128, h.1⟩ i x) * k (ix3 x ⟨l.val / 128, h.1⟩ ⟨l.val % 128, h.2⟩)
      else FloatOps.sitofp (F := Ideal) (w := 32) .f32 0#32 := by
    unfold dq
    generalize ds (expo (score q k)) (dwt v g) = p
    pointwise
  rw [e]
  refine lane_at _ l _ fun h => ?_
  simp only [hk, ds_at A hq hk hv hg, ← EReal.coe_mul, Softmax.sum_coe]
  congr 1
  rw [Spec.dq, Finset.sum_mul]
  exact Finset.sum_congr rfl fun x _ => mul_right_comm _ _ _

end

end Cert.Proof.Ref
-- ==== Proof.KernelHost.lean ====
/-
The kernel calls' arguments: the host lines lay the heads side by side, 128 lanes each, and scale the queries.
-/
module

public import proofs.«01_k».proof.Proof.Spec
public import proofs.«01_k».proof.Proof.Consts
public import proofs.«01_k».proof.Proof.RefValue
public import proofs.«01_k».proof.Proof.Gen.KernelIdeal.Frame
public import Idealize.ShloMosaic.Lib.StableHlo.ReadAt

@[expose] public section

noncomputable section

open scoped BigOperators
open Cert.KernelIdeal Cert.KernelIdeal.Gen Idealize.ShloMosaic Idealize.ShloMosaic.TcCoe

namespace Cert.Proof.KHost

variable (m : (ℓ : Loc nD τ sig) → Buf (Elt Ideal) ℓ) (ρ : Dev nD → PrngReg) (c : Dev nD)

/-- The queries with its heads side by side. -/
def lanes4096x96 (x : FVec Ideal S4096x8x96 .f32) : FVec Ideal S4096x1024 .f32 :=
  shapeCast S4096x1024 (pad S4096x8x128 ![0, 0, 0] ![0, 0, 32] ![0, 0, 0] x (sitofp .f32 (constantI S_ 32 0#32))
    pads_S4096x8x96_S4096x8x128_000_000_0320 h_S_) shapeCasts_S4096x8x128_S4096x1024

theorem lanes4096x96_at {x : FVec Ideal S4096x8x96 .f32} (y : Fin 4096 → Fin 8 → Fin 96 → ℝ)
    (hx : ∀ i h d, x (ix3 i h d) = ((y i h d : ℝ) : EReal)) (i : Fin 4096) (l : Fin 1024) :
    lanes4096x96 x (ix2 i l) = ((Spec.lane (y i (Spec.headOf l)) (Spec.laneOf l) : ℝ) : EReal) := by
  have e : lanes4096x96 x (ix2 i l) = if h : l.val / 128 < 8 ∧ l.val % 128 < 96 then x (ix3 i ⟨l.val / 128, h.1⟩ ⟨l.val % 128, h.2⟩)
      else FloatOps.sitofp (F := Ideal) (w := 32) .f32 0#32 := by
    unfold lanes4096x96
    pointwise
  rw [e]
  exact Ref.lane_at _ l _ fun h => hx _ _ _

/-- The keys with its heads side by side. -/
def lanes4352x96 (x : FVec Ideal S4352x8x96 .f32) : FVec Ideal S4352x1024 .f32 :=
  shapeCast S4352x1024 (pad S4352x8x128 ![0, 0, 0] ![0, 0, 32] ![0, 0, 0] x (sitofp .f32 (constantI S_ 32 0#32))
    pads_S4352x8x96_S4352x8x128_000_000_0320 h_S_) shapeCasts_S4352x8x128_S4352x1024

theorem lanes4352x96_at {x : FVec Ideal S4352x8x96 .f32} (y : Fin 4352 → Fin 8 → Fin 96 → ℝ)
    (hx : ∀ i h d, x (ix3 i h d) = ((y i h d : ℝ) : EReal)) (i : Fin 4352) (l : Fin 1024) :
    lanes4352x96 x (ix2 i l) = ((Spec.lane (y i (Spec.headOf l)) (Spec.laneOf l) : ℝ) : EReal) := by
  have e : lanes4352x96 x (ix2 i l) = if h : l.val / 128 < 8 ∧ l.val % 128 < 96 then x (ix3 i ⟨l.val / 128, h.1⟩ ⟨l.val % 128, h.2⟩)
      else FloatOps.sitofp (F := Ideal) (w := 32) .f32 0#32 := by
    unfold lanes4352x96
    pointwise
  rw [e]
  exact Ref.lane_at _ l _ fun h => hx _ _ _

/-- The values with its heads side by side. -/
def lanes4352x64 (x : FVec Ideal S4352x8x64 .f32) : FVec Ideal S4352x1024 .f32 :=
  shapeCast S4352x1024 (pad S4352x8x128 ![0, 0, 0] ![0, 0, 64] ![0, 0, 0] x (sitofp .f32 (constantI S_ 32 0#32))
    pads_S4352x8x64_S4352x8x128_000_000_0640 h_S_) shapeCasts_S4352x8x128_S4352x1024

theorem lanes4352x64_at {x : FVec Ideal S4352x8x64 .f32} (y : Fin 4352 → Fin 8 → Fin 64 → ℝ)
    (hx : ∀ i h d, x (ix3 i h d) = ((y i h d : ℝ) : EReal)) (i : Fin 4352) (l : Fin 1024) :
    lanes4352x64 x (ix2 i l) = ((Spec.lane (y i (Spec.headOf l)) (Spec.laneOf l) : ℝ) : EReal) := by
  have e : lanes4352x64 x (ix2 i l) = if h : l.val / 128 < 8 ∧ l.val % 128 < 64 then x (ix3 i ⟨l.val / 128, h.1⟩ ⟨l.val % 128, h.2⟩)
      else FloatOps.sitofp (F := Ideal) (w := 32) .f32 0#32 := by
    unfold lanes4352x64
    pointwise
  rw [e]
  exact Ref.lane_at _ l _ fun h => hx _ _ _

/-- The output's cotangent with its heads side by side. -/
def lanes4096x64 (x : FVec Ideal S4096x8x64 .f32) : FVec Ideal S4096x1024 .f32 :=
  shapeCast S4096x1024 (pad S4096x8x128 ![0, 0, 0] ![0, 0, 64] ![0, 0, 0] x (sitofp .f32 (constantI S_ 32 0#32))
    pads_S4096x8x64_S4096x8x128_000_000_0640 h_S_) shapeCasts_S4096x8x128_S4096x1024

theorem lanes4096x64_at {x : FVec Ideal S4096x8x64 .f32} (y : Fin 4096 → Fin 8 → Fin 64 → ℝ)
    (hx : ∀ i h d, x (ix3 i h d) = ((y i h d : ℝ) : EReal)) (i : Fin 4096) (l : Fin 1024) :
    lanes4096x64 x (ix2 i l) = ((Spec.lane (y i (Spec.headOf l)) (Spec.laneOf l) : ℝ) : EReal) := by
  have e : lanes4096x64 x (ix2 i l) = if h : l.val / 128 < 8 ∧ l.val % 128 < 64 then x (ix3 i ⟨l.val / 128, h.1⟩ ⟨l.val % 128, h.2⟩)
      else FloatOps.sitofp (F := Ideal) (w := 32) .f32 0#32 := by
    unfold lanes4096x64
    pointwise
  rw [e]
  exact Ref.lane_at _ l _ fun h => hx _ _ _

theorem v15_read : W9 m ρ c (Proc.devRef .tc main_v15) = truncf .bf16 (lanes4096x64 (m ((c.tc : Thread nD τ).loc main_arg3))) bitsLt_bf16_f32 := by
  unfold W9 W8 W7 W6 W5 W4 W3 W2 W1
  after_reads_simp
  rfl

theorem v12_read : W9 m ρ c (Proc.devRef .tc main_v12) = truncf .bf16 (lanes4352x64 (m ((c.tc : Thread nD τ).loc main_arg2))) bitsLt_bf16_f32 := by
  unfold W9 W8 W7 W6 W5 W4 W3 W2 W1
  after_reads_simp
  rfl

theorem v9_read : W9 m ρ c (Proc.devRef .tc main_v9) = truncf .bf16 (lanes4352x96 (m ((c.tc : Thread nD τ).loc main_arg1))) bitsLt_bf16_f32 := by
  unfold W9 W8 W7 W6 W5 W4 W3 W2 W1
  after_reads_simp
  rfl

theorem v6_read : W9 m ρ c (Proc.devRef .tc main_v6) = truncf .bf16 (mulf (lanes4096x96 (m ((c.tc : Thread nD τ).loc main_arg0)))
    (broadcastInDim S4096x1024 ![] bcast_S_S4096x1024 (Host.divf (constant S_ .f32 0x3DD105EC#32) (Host.log (constant S_ .f32 0x40000000#32))))) bitsLt_bf16_f32 := by
  unfold W9 W8 W7 W6 W5 W4 W3 W2 W1
  after_reads_simp
  rfl

/-- The queries' scale over the logarithm of two. -/
theorem q_scale : Ideal.div (Ideal.ofBits .f32 0x3DD105EC#32) (Ideal.log (Ideal.ofBits .f32 0x40000000#32))
    = ((Spec.scale / Real.log 2 : ℝ) : EReal) := by
  rw [Consts.scale_bits, Consts.two_bits, Softmax.log_coe (by norm_num), Softmax.div_coe _ Softmax.log_two_ne_zero]

/-- A scaled row on lanes. -/
theorem lane_mul {w : ℕ} (y : Fin w → ℝ) (l : Fin 128) (t : ℝ) : Spec.lane y l * t = Spec.lane (fun d => y d * t) l := by
  unfold Spec.lane
  split <;> simp

variable (A : Spec.Args)

/-- The queries the calls read: on lanes, scaled. -/
theorem q_at (hq : ∀ i h d, m ((c.tc : Thread nD τ).loc main_arg0) (ix3 i h d) = ((A.q i h d : ℝ) : EReal)) (i : Fin 4096) (l : Fin 1024) :
    W9 m ρ c (Proc.devRef .tc main_v6) (ix2 i l)
      = ((Spec.lane (fun d => A.q i (Spec.headOf l) d * (Spec.scale / Real.log 2)) (Spec.laneOf l) : ℝ) : EReal) := by
  rw [v6_read]
  show lanes4096x96 (m ((c.tc : Thread nD τ).loc main_arg0)) (ix2 i l) * Ideal.div (Ideal.ofBits .f32 0x3DD105EC#32) (Ideal.log (Ideal.ofBits .f32 0x40000000#32)) = _
  rw [q_scale, lanes4096x96_at _ hq, ← EReal.coe_mul, lane_mul]

theorem k_at (h : ∀ i h d, m ((c.tc : Thread nD τ).loc main_arg1) (ix3 i h d) = ((A.k i h d : ℝ) : EReal)) (i : Fin 4352) (l : Fin 1024) :
    W9 m ρ c (Proc.devRef .tc main_v9) (ix2 i l) = ((Spec.lane (A.k i (Spec.headOf l)) (Spec.laneOf l) : ℝ) : EReal) := by
  rw [v9_read]
  exact lanes4352x96_at _ h i l

theorem v_at (h : ∀ i h d, m ((c.tc : Thread nD τ).loc main_arg2) (ix3 i h d) = ((A.v i h d : ℝ) : EReal)) (i : Fin 4352) (l : Fin 1024) :
    W9 m ρ c (Proc.devRef .tc main_v12) (ix2 i l) = ((Spec.lane (A.v i (Spec.headOf l)) (Spec.laneOf l) : ℝ) : EReal) := by
  rw [v12_read]
  exact lanes4352x64_at _ h i l

theorem g_at (h : ∀ i h d, m ((c.tc : Thread nD τ).loc main_arg3) (ix3 i h d) = ((A.g i h d : ℝ) : EReal)) (i : Fin 4096) (l : Fin 1024) :
    W9 m ρ c (Proc.devRef .tc main_v15) (ix2 i l) = ((Spec.lane (A.g i (Spec.headOf l)) (Spec.laneOf l) : ℝ) : EReal) := by
  rw [v15_read]
  exact lanes4096x64_at _ h i l

end Cert.Proof.KHost
-- ==== Proof.Run.lean ====
/-
The kernel's run, its results read: the attention and the three gradients of what the arguments hold.
-/
module

public import proofs.«01_k».proof.Proof.Bwd
public import proofs.«01_k».proof.Proof.KernelHost

@[expose] public section

set_option maxRecDepth 16384

noncomputable section

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.Run

local notation "𝕄" => MT nD τ sig Unit (Elt Ideal) ℕ (UR sig nD τ) ℕ

variable (m : (ℓ : Loc nD τ sig) → Buf (Elt Ideal) ℓ) (ρ : Dev nD → PrngReg)

/-- What a device's arguments hold, as real numbers. -/
structure Holds (c : Dev nD) (A : Spec.Args) : Prop where
  q : ∀ i h d, m (c.tc.loc main_arg0) (ix3 i h d) = ((A.q i h d : ℝ) : EReal)
  k : ∀ j h d, m (c.tc.loc main_arg1) (ix3 j h d) = ((A.k j h d : ℝ) : EReal)
  v : ∀ j h d, m (c.tc.loc main_arg2) (ix3 j h d) = ((A.v j h d : ℝ) : EReal)
  g : ∀ i h d, m (c.tc.loc main_arg3) (ix3 i h d) = ((A.g i h d : ℝ) : EReal)

variable {m} {c : Dev nD} {A : Spec.Args} (H : Holds m c A)

include H in
/-- The attention after the forward call. -/
theorem o_at : W10 m ρ c (Proc.devRef .tc main_v16_0) = Fwd.oArr A :=
  (W10_arr m ρ c 3).trans (Fwd.final_o (V9 m ρ) c A (KHost.q_at m ρ c A H.q) (KHost.k_at m ρ c A H.k) (KHost.v_at m ρ c A H.v))

include H in
/-- The saved logarithms after the forward call. -/
theorem l_at : W10 m ρ c (Proc.devRef .tc main_v16_1) = Fwd.lArr A :=
  (W10_arr m ρ c 4).trans (Fwd.final_l (V9 m ρ) c A (KHost.q_at m ρ c A H.q) (KHost.k_at m ρ c A H.k))

include H in
/-- The arrays the backward call finds. -/
theorem arrays : Bwd.Arrays (V10 m ρ) c A where
  hq i l := (congrFun (W10_of m ρ c main_v6 (by decide)) _).trans (KHost.q_at m ρ c A H.q i l)
  hk j l := (congrFun (W10_of m ρ c main_v9 (by decide)) _).trans (KHost.k_at m ρ c A H.k j l)
  hv j l := (congrFun (W10_of m ρ c main_v12 (by decide)) _).trans (KHost.v_at m ρ c A H.v j l)
  hg i l := (congrFun (W10_of m ρ c main_v15 (by decide)) _).trans (KHost.g_at m ρ c A H.g i l)
  ho := o_at ρ H
  hu := l_at ρ H

include H in
theorem out_end : W11 m ρ c (Proc.devRef .tc main_v16_0) = Fwd.oArr A :=
  (W11_of m ρ c main_v16_0 (by decide)).trans (o_at ρ H)

include H in
theorem dq_end : W11 m ρ c (Proc.devRef .tc main_v17_0) = Bwd.dqArr A :=
  (W11_arr m ρ c 6).trans (Bwd.final_dq (arrays ρ H))

include H in
theorem dk_end : W11 m ρ c (Proc.devRef .tc main_v17_1) = Bwd.dkArr A :=
  (W11_arr m ρ c 7).trans (Bwd.final_dk (arrays ρ H))

include H in
theorem dv_end : W11 m ρ c (Proc.devRef .tc main_v17_2) = Bwd.dvArr A :=
  (W11_arr m ρ c 8).trans (Bwd.final_dv (arrays ρ H))

variable (m)

-- the launch lemma's implicit arguments are found by unifying its conclusion with this one, which takes unfolding plain
-- definitions in a metavariable's type
set_option backward.isDefEq.respectTransparency.types false in
/-- The kernel ends with its four results at the attention and the gradients, and its arguments unchanged. -/
theorem run (A : Dev nD → Spec.Args) (H : ∀ c, Holds m c (A c)) :
    θ_run (defs (F := Ideal)) (onTc (τ := τ) (main (F := Ideal))) ⟨m, fun _ => 0, ρ⟩ (fun r => ∀ c : Dev nD,
      r.2.mem ((c.tc : Thread nD τ).loc main_v16_0) = Fwd.oArr (A c)
      ∧ r.2.mem ((c.tc : Thread nD τ).loc main_v17_0) = Bwd.dqArr (A c)
      ∧ r.2.mem ((c.tc : Thread nD τ).loc main_v17_1) = Bwd.dkArr (A c)
      ∧ r.2.mem ((c.tc : Thread nD τ).loc main_v17_2) = Bwd.dvArr (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨(h c _ (mem_uc main_v16_0 (by decide))).trans (out_end ρ (H c)),
       (h c _ (mem_uc main_v17_0 (by decide))).trans (dq_end ρ (H c)),
       (h c _ (mem_uc main_v17_1 (by decide))).trans (dk_end ρ (H c)),
       (h c _ (mem_uc main_v17_2 (by decide))).trans (dv_end ρ (H c)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.Proof.Run
-- ==== Proof.Pre.lean ====
/-
The precondition read back: every argument is a real number.
-/
module

public import proofs.«01_k».proof.Defs
public import proofs.«01_k».proof.Proof.Spec
public import Idealize.ShloMosaic.Lib.ReduceAll
public import Idealize.ShloMosaic.Lib.Pointwise

@[expose] public section

noncomputable section

open Idealize.ShloMosaic

namespace Cert.Proof.Pre

instance facts : Cert.Pre_finite.Facts where
  bcast_S_S4096x8x96 := by decide
  reducesTo_S4096x8x96_S_d0_1_2 := by decide
  h_S_ := by decide
  bcast_S_S4352x8x96 := by decide
  reducesTo_S4352x8x96_S_d0_1_2 := by decide
  bcast_S_S4352x8x64 := by decide
  reducesTo_S4352x8x64_S_d0_1_2 := by decide
  bcast_S_S4096x8x64 := by decide
  reducesTo_S4096x8x64_S_d0_1_2 := by decide

/-- Below plus infinity in absolute value is real. -/
theorem real_of_abs_lt (x : EReal) (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => exact ⟨r, rfl⟩

theorem all_real {s : Shape} {ax : List (Fin s.rank)} (x : FVec Ideal s .f32) (b : FVec Ideal s .f32)
    (hb : ∀ i, b i = Ideal.ofBits .f32 0x7F800000#32)
    (init : Cert.Pre_finite.S_.Idx → BitVec 1) (h : s.ReducesTo ax Cert.Pre_finite.S_) (hu : 0 < Cert.Pre_finite.S_.numel) (j : Cert.Pre_finite.S_.Idx)
    (e : Host.reduce IntOp.andi (cmpf .olt (Host.absf x) b) init h hu j = 1#1) (i : s.Idx) : ∃ r : ℝ, x i = r := by
  have h1 := Host.reduce_andi_all _ _ h hu _ e i
  refine real_of_abs_lt _ ?_
  rw [← hb i]
  exact h1

open Cert.Pre_finite in
/-- The four arguments are arrays of real numbers. -/
theorem reals (q : FVec Ideal S4096x8x96 .f32) (k : FVec Ideal S4352x8x96 .f32) (v : FVec Ideal S4352x8x64 .f32) (g : FVec Ideal S4096x8x64 .f32)
    (h : fn (F := Ideal) q k v g = fun _ => 1#1) :
    (∀ i, ∃ r : ℝ, q i = r) ∧ (∀ i, ∃ r : ℝ, k i = r) ∧ (∀ i, ∃ r : ℝ, v i = r) ∧ (∀ i, ∃ r : ℝ, g i = r) := by
  have h0 := congrFun h (Shape.Idx.first Facts.h_S_)
  unfold fn fn_part1 at h0
  obtain ⟨h1, h4⟩ := IntOp.andi_eq_one.1 h0
  obtain ⟨h1, h3⟩ := IntOp.andi_eq_one.1 h1
  obtain ⟨h1, h2⟩ := IntOp.andi_eq_one.1 h1
  exact ⟨all_real q _ (fun _ => rfl) _ _ _ _ h1, all_real k _ (fun _ => rfl) _ _ _ _ h2, all_real v _ (fun _ => rfl) _ _ _ _ h3,
    all_real g _ (fun _ => rfl) _ _ _ _ h4⟩

/-- The arguments as real numbers. -/
theorem args (q : FVec Ideal Cert.Pre_finite.S4096x8x96 .f32) (k : FVec Ideal Cert.Pre_finite.S4352x8x96 .f32)
    (v : FVec Ideal Cert.Pre_finite.S4352x8x64 .f32) (g : FVec Ideal Cert.Pre_finite.S4096x8x64 .f32)
    (h : Cert.Pre_finite.fn (F := Ideal) q k v g = fun _ => 1#1) :
    ∃ A : Spec.Args, (∀ i h d, q (ix3 i h d) = ((A.q i h d : ℝ) : EReal)) ∧ (∀ j h d, k (ix3 j h d) = ((A.k j h d : ℝ) : EReal))
      ∧ (∀ j h d, v (ix3 j h d) = ((A.v j h d : ℝ) : EReal)) ∧ (∀ i h d, g (ix3 i h d) = ((A.g i h d : ℝ) : EReal)) := by
  obtain ⟨hq, hk, hv, hg⟩ := reals q k v g h
  choose q' hq using hq
  choose k' hk using hk
  choose v' hv using hv
  choose g' hg using hg
  exact ⟨⟨fun i h d => q' (ix3 i h d), fun i h d => k' (ix3 i h d), fun i h d => v' (ix3 i h d), fun i h d => g' (ix3 i h d)⟩,
    fun _ _ _ => hq _, fun _ _ _ => hk _, fun _ _ _ => hv _, fun _ _ _ => hg _⟩

end Cert.Proof.Pre
-- ==== Proof.Algebra.lean ====
/-
The two ideal programs agree: at finite arguments each ends with the attention and its gradients.
-/
module

public import proofs.«01_k».proof.Defs
public import proofs.«01_k».proof.Proof.Run
public import proofs.«01_k».proof.Proof.RefValue
public import proofs.«01_k».proof.Proof.Pre

@[expose] public section

noncomputable section

open Idealize.ShloMosaic Idealize.ShloMosaic.TcCoe

namespace Cert.Proof

theorem algebraic : Cert.algebraic_KernelIdeal_ReferenceIdeal_pre_finite (hPre_finite := Pre.facts) := by
  intro m g m' g' hpre heq
  have hA : ∀ c : Dev Cert.KernelIdeal.nD, ∃ A : Spec.Args, Run.Holds m c A := fun c =>
    let ⟨A, hq, hk, hv, hg⟩ := Pre.args _ _ _ _ (hpre c)
    ⟨A, hq, hk, hv, hg⟩
  choose A H using hA
  refine ⟨fun c => Fwd.oArr (A c), fun c => Bwd.dqArr (A c), fun c => Bwd.dkArr (A c), fun c => Bwd.dvArr (A c), Run.run m g A H, ?_⟩
  refine (θ_run Cert.ReferenceIdeal.defs _ _).mono (fun r h c => ?_) (Ref.run m' g')
  obtain ⟨⟨ho, hdq, hdk, hdv⟩, ha⟩ := h c
  obtain ⟨e0, e1, e2, e3⟩ := heq c
  rw [e0, e1, e2] at ho
  rw [e0, e1, e2, e3] at hdq hdk
  rw [e0, e1, e3] at hdv
  refine ⟨ho.trans ?_, hdq.trans ?_, hdk.trans ?_, hdv.trans ?_, ha⟩
  · funext y
    obtain ⟨i, l, rfl⟩ : ∃ (i : Fin 4096) (l : Fin 1024), y = ix2 i l := ⟨y 0, y 1, eq_ix2 (n0 := 4096) (n1 := 1024) y⟩
    exact Ref.out_at (A c) (H c).q (H c).k (H c).v i l
  · funext y
    obtain ⟨i, l, rfl⟩ : ∃ (i : Fin 4096) (l : Fin 1024), y = ix2 i l := ⟨y 0, y 1, eq_ix2 (n0 := 4096) (n1 := 1024) y⟩
    exact Ref.dq_at (A c) (H c).q (H c).k (H c).v (H c).g i l
  · funext y
    obtain ⟨j, l, rfl⟩ : ∃ (j : Fin 4352) (l : Fin 1024), y = ix2 j l := ⟨y 0, y 1, eq_ix2 (n0 := 4352) (n1 := 1024) y⟩
    exact Ref.dk_at (A c) (H c).q (H c).k (H c).v (H c).g j l
  · funext y
    obtain ⟨j, l, rfl⟩ : ∃ (j : Fin 4352) (l : Fin 1024), y = ix2 j l := ⟨y 0, y 1, eq_ix2 (n0 := 4352) (n1 := 1024) y⟩
    exact Ref.dv_at (A c) (H c).q (H c).k (H c).g j l

end Cert.Proof
-- ==== Proof.RefFrame.lean ====
/-
The reference's frame: it ends, its arguments unchanged and every counter at zero.
-/
module

public import proofs.«01_k».proof.Proof.RefTerm
public import Idealize.ShloMosaic.Lib.Quiescent

@[expose] public section

noncomputable section

open Cert.ReferenceIdeal Idealize.ShloMosaic Idealize.ShloMosaic.TcCoe

namespace Cert.Proof.Ref

theorem frame (m : (l : Loc nD τ sig) → Buf (Elt Ideal) l) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, Idealize.ShloMosaic.sem_eq_zero_of_no_sems (by decide) r.2⟩) (run m ρ)

end Cert.Proof.Ref
-- ==== Proof.Products.lean ====
/-
What the calls share: a whole block's offsets are zero, a sum over the contraction is the sum over its steps, where an
element of a block lies in the array, and how a property of every block of rows is one of the whole array.
-/
module

public import proofs.«01_k».proof.Defs
public import Idealize.ShloMosaic.Lib.Pointwise
public import Idealize.ShloMosaic.Lib.Quiescent
public import Idealize.ShloMosaic.Lib.StableHlo.ReadAt
public import Idealize.ShloMosaic.Lib.Pipeline.ValueKit.Acc
public import Idealize.ShloMosaic.Lib.Pipeline.ValueKit.Tiles
public import Idealize.ShloMosaic.Lib.Pointwise.Sums

@[expose] public section

noncomputable section

open scoped BigOperators
open Idealize.ShloMosaic

namespace Cert.Proof.Products

theorem hz2 : (![0, 0] : Fin 2 → Nat) = fun _ => 0 := funext fun a => by fin_cases a <;> rfl
theorem hz3 : (![0, 0, 0] : Fin 3 → Nat) = fun _ => 0 := funext fun a => by fin_cases a <;> rfl

theorem sum_two {N : ℕ} (T : ℕ) (hN : 2 * T = N) (f : Fin N → EReal) :
    ∑ k, f k = (∑ k : Fin T, f ⟨k.val, by omega⟩) + ∑ k : Fin T, f ⟨T + k.val, by omega⟩ := by
  rw [Fin.sum_univ_tiles 2 T hN f, Fin.sum_univ_two]
  congr 1
  · exact Finset.sum_congr rfl fun k _ => congrArg f (Fin.ext (by show 0 * T + k.val = k.val; omega))
  · exact Finset.sum_congr rfl fun k _ => congrArg f (Fin.ext (by show 1 * T + k.val = T + k.val; omega))

theorem sum_three {N : ℕ} (T : ℕ) (hN : 3 * T = N) (f : Fin N → EReal) :
    ∑ k, f k = (∑ k : Fin T, f ⟨k.val, by omega⟩) + (∑ k : Fin T, f ⟨T + k.val, by omega⟩) + ∑ k : Fin T, f ⟨2 * T + k.val, by omega⟩ := by
  rw [Fin.sum_univ_tiles 3 T hN f, Fin.sum_univ_three]
  congr 1
  congr 1
  · exact Finset.sum_congr rfl fun k _ => congrArg f (Fin.ext (by show 0 * T + k.val = k.val; omega))
  · exact Finset.sum_congr rfl fun k _ => congrArg f (Fin.ext (by show 1 * T + k.val = T + k.val; omega))

/-- A block's coordinate in the array, where the block is the whole axis and where it is the block of a grid point. -/
theorem whole {q s i : Nat} (h : q = 0) : q * s + 1 * i = i := by
  subst h; omega
theorem moved {q t s l j : Nat} (h : q = t) (hj : j = t * s + l) : q * s + 1 * l = j := by
  subst h; omega

/-- An array at an index, from the index's coordinates. -/
theorem at2 {n0 n1 : Nat} {α : Type} (f : (⟨2, ![n0, n1]⟩ : Shape).Idx → α) (i : Fin n0) (j : Fin n1) (y : (⟨2, ![n0, n1]⟩ : Shape).Idx)
    (h0 : (y 0).val = i.val) (h1 : (y 1).val = j.val) : f y = f (ix2 i j) := by
  congr 1
  funext a
  match a with
  | ⟨0, _⟩ => exact Fin.ext h0
  | ⟨1, _⟩ => exact Fin.ext h1

theorem at3 {n0 n1 n2 : Nat} {α : Type} (f : (⟨3, ![n0, n1, n2]⟩ : Shape).Idx → α) (i : Fin n0) (j : Fin n1) (k : Fin n2)
    (y : (⟨3, ![n0, n1, n2]⟩ : Shape).Idx) (h0 : (y 0).val = i.val) (h1 : (y 1).val = j.val) (h2 : (y 2).val = k.val) : f y = f (ix3 i j k) := by
  congr 1
  funext a
  match a with
  | ⟨0, _⟩ => exact Fin.ext h0
  | ⟨1, _⟩ => exact Fin.ext h1
  | ⟨2, _⟩ => exact Fin.ext h2

/-- The coordinate in an array that is one block wide, named twice. -/
theorem same {q s l j : Nat} (h : q = 0) (hj : j = l) : q * s + 1 * l = j := by
  subst h; omega

/-- An index of a matrix is a row and a column. -/
theorem rowcol {n0 n1 : Nat} (y : (⟨2, ![n0, n1]⟩ : Shape).Idx) : ∃ (i : Fin n0) (j : Fin n1), y = ix2 i j := ⟨y 0, y 1, eq_ix2 y⟩

/-- What holds in every block of rows holds in the whole array. -/
theorem in_rows {R C N tr : Nat} (hN : R = N * tr) {P : Fin R → Fin C → Prop}
    (h : ∀ (t : Fin N) (r : Fin tr) (i : Fin R) (j : Fin C), i.val = t.val * tr + r.val → P i j) (i : Fin R) (j : Fin C) : P i j := by
  have hi : i.val < N * tr := hN ▸ i.isLt
  have htr : 0 < tr := Nat.pos_of_ne_zero fun h0 => by subst h0; omega
  exact h ⟨i.val / tr, Nat.div_lt_of_lt_mul (by rw [Nat.mul_comm]; exact hi)⟩ ⟨i.val % tr, Nat.mod_lt _ htr⟩ i j (Nat.div_add_mod' i.val tr).symm

end Cert.Proof.Products
-- ==== Proof.GWDown.lean ====
/-
The product `g_w_down`, the gradient of the down projection's weight: the steps over the contraction, each adding a block product to the carried sum, and the array the call leaves.
-/
module

public import proofs.«01_k».proof.Proof.Products
public import proofs.«01_k».proof.Proof.Gen.Kernel3Ideal.Value
public import proofs.«01_k».proof.Proof.Gen.Reference3Ideal.Run

@[expose] public section

noncomputable section

namespace Cert.Proof.GWDown

section Call

open Cert.Kernel3Ideal Cert.Kernel3Ideal.Gen Idealize.ShloMosaic Idealize.ShloMosaic.TcCoe Products

section Body

variable (c : Dev nD) (i : grid0.Coords) (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x0 : Vec Ideal S2048x1408 .bf16) (x1 : Vec Ideal S2048x1024 .bf16) (xs : Vec Ideal S1408x1024 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1408x1024) hz2, View.ld_unit_zero (S := S2048x1408) hz2, View.ld_unit_zero (S := S2048x1024) hz2,
    View.readCov_unit_zero (S := S1408x1024) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1408x1024) hz2, View.readCov_unit_zero (S := S1408x1024) _ hz2, View.ld_unit_zero (S := S2048x1408) hz2,
    View.ld_unit_zero (S := S2048x1024) hz2, View.ld_unit_zero (S := S1408x1024) hz2]

/-- One step's sum at an element. -/
theorem step_at (r : Fin 1408) (l : Fin 1024) :
    k0_pay2 (F := Ideal) xs x0 x1 (ix2 r l) = xs (ix2 r l) + ∑ k : Fin 2048, (x0 (ix2 k r) : EReal) * x1 (ix2 k l) := by
  unfold k0_pay2
  pointwise

theorem zero_at (r : Fin 1408) (l : Fin 1024) : k0_pay1 (F := Ideal) (ix2 r l) = (0 : EReal) := by
  unfold k0_pay1
  pointwise

/-- The written block holds the carried sum. -/
theorem out_at (r : Fin 1408) (l : Fin 1024) : k0_pay3 (F := Ideal) xs (ix2 r l) = xs (ix2 r l) := by
  unfold k0_pay3
  pointwise

end Body

/-- The blocks a grid point reads. -/
theorem idx_a : ∀ t : Fin cfg0.N, win0_0.index t 0 = t.val % 2 ∧ win0_0.index t 1 = t.val / 2 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S4096x2816 .f32 := m ((c : Thread nD τ).loc main_arg0)
abbrev argB : FVec Ideal S4096x1024 .f32 := m ((c : Thread nD τ).loc main_arg1)

/-- The product's element: the sum over the whole contraction. -/
def elt (x : FVec Ideal S4096x2816 .f32) (y : FVec Ideal S4096x1024 .f32) (i : Fin 2816) (j : Fin 1024) : EReal :=
  ∑ k : Fin 4096, (x (ix2 k i) : EReal) * y (ix2 k j)

theorem blk_a (t : Fin cfg0.N) (k : Fin 2048) (r : Fin 1408) (Q : Fin 4096) (R : Fin 2816) (hQ : Q.val = t.val % 2 * 2048 + k.val) (hR : R.val = t.val / 2 * 1408 + r.val) :
    iblk m c 0 t (ix2 k r) = argA m c (ix2 Q R) := by
  have e : V m c main_v0 = (truncf .bf16 (argA m c) bitsLt_bf16_f32 : FVec Ideal S4096x2816 .bf16) := by
    unfold V; after_reads_simp
  have e' : V m c main_v0 (ix2 Q R) = argA m c (ix2 Q R) := by
    rw [e]; pointwise
  rw [← e']
  unfold iblk
  rw [View.read_apply]
  exact at2 (V m c main_v0) _ _ _ (moved (idx_a t).1 hQ) (moved (idx_a t).2 hR)

theorem blk_b (t : Fin cfg0.N) (k : Fin 2048) (l : Fin 1024) (Q : Fin 4096) (T : Fin 1024) (hQ : Q.val = t.val % 2 * 2048 + k.val) (hT : T.val = l.val) :
    iblk m c 1 t (ix2 k l) = argB m c (ix2 Q T) := by
  have e : V m c main_v1 = (truncf .bf16 (argB m c) bitsLt_bf16_f32 : FVec Ideal S4096x1024 .bf16) := by
    unfold V; after_reads_simp
  have e' : V m c main_v1 (ix2 Q T) = argB m c (ix2 Q T) := by
    rw [e]; pointwise
  rw [← e']
  unfold iblk
  rw [View.read_apply]
  exact at2 (V m c main_v1) _ _ _ (moved (idx_b t).1 hQ) (same (idx_b t).2 hT)

/-- The block a tile's last step writes holds the sum over the whole contraction. -/
theorem outs_at (t : Fin cfg0.N) (ht : t.val % 2 = 1) (r : Fin 1408) (l : Fin 1024) (R : Fin 2816) (T : Fin 1024) (hR : R.val = t.val / 2 * 1408 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  rw [sum_two (N := 4096) 2048 (by norm_num)]
  congr 1
  · refine Finset.sum_congr rfl fun k _ => ?_
    rw [blk_a m c ⟨t.val - 1, h1⟩ k r ⟨k.val, by omega⟩ R (by show k.val = (t.val - 1) % 2 * 2048 + k.val; omega) (by show R.val = (t.val - 1) / 2 * 1408 + r.val; omega),
      blk_b m c ⟨t.val - 1, h1⟩ k l ⟨k.val, by omega⟩ T (by show k.val = (t.val - 1) % 2 * 2048 + k.val; omega) hT]
  · refine Finset.sum_congr rfl fun k _ => ?_
    rw [blk_a m c t k r ⟨2048 + k.val, by omega⟩ R (by show 2048 + k.val = t.val % 2 * 2048 + k.val; omega) hR,
      blk_b m c t k l ⟨2048 + k.val, by omega⟩ T (by show 2048 + k.val = t.val % 2 * 2048 + k.val; omega) hT]

/-- The array the call leaves. -/
theorem result_at (i : Fin 2816) (j : Fin 1024) : Value.G2 m c (ix2 i j) = elt (argA m c) (argB m c) i j := by
  have hN : Value.pt2Of (ix2 i j) < cfg0.N := by
    show 2 * (1 * (i.val / 1408 - 0) + 1 * (j.val / 1024 - 0)) + 1 < 4; omega
  unfold Value.G2
  rw [dif_pos hN, ← Value.outsAt0_sweep m c _ hN]
  have hl : Value.loc2Of (ix2 i j) = ix2 (⟨i.val % 1408, by omega⟩ : Fin 1408) (⟨j.val % 1024, by omega⟩ : Fin 1024) := by
    funext a; match a with | ⟨0, _⟩ => rfl | ⟨1, _⟩ => rfl
  rw [hl]
  refine outs_at m c ⟨_, hN⟩ ?_ _ _ i j ?_ ?_
  · show (2 * (1 * (i.val / 1408 - 0) + 1 * (j.val / 1024 - 0)) + 1) % 2 = 1; omega
  · show i.val = (2 * (1 * (i.val / 1408 - 0) + 1 * (j.val / 1024 - 0)) + 1) / 2 * 1408 + i.val % 1408; omega
  · show j.val = j.val % 1024; omega

end Call

section Reference

open Cert.Reference3Ideal Cert.Reference3Ideal.Gen Idealize.ShloMosaic Idealize.ShloMosaic.TcCoe

/-- The reference's result at an element. -/
theorem ref_at (x : FVec Ideal S4096x2816 .f32) (y : FVec Ideal S4096x1024 .f32) (i : Fin 2816) (j : Fin 1024) :
    (truncf .bf16 (transpose S2816x1024 [1, 0] (Host.dotGeneral dot_S4096x1024_S4096x2816_S1024x2816_0_0_1_1_n_n none y x) transposes_S1024x2816_S2816x1024_1_0) bitsLt_bf16_f32 : FVec Ideal S2816x1024 .bf16) (ix2 i j) = elt x y i j := by
  unfold elt
  pointwise
  exact Finset.sum_congr rfl fun k _ => mul_comm _ _

/-- The reference ends, its arguments unchanged and every counter at zero. -/
theorem ref_frame : Cert.quiescent_Reference3Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel3Ideal.Gen in
/-- The call and its reference end with the same array, at every argument. -/
theorem algebraic : Cert.algebraic_Kernel3Ideal_Reference3Ideal := by
  intro m g m' g' _ heq
  refine ⟨fun c => Cert.Kernel3Ideal.Value.G2 m c, Cert.Kernel3Ideal.Value.run m g,
    (θ_run Cert.Reference3Ideal.defs _ _).mono (fun r h c => ?_) (Cert.Reference3Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 2816) (n1 := 1024) y
  exact (ref_at _ _ i j).trans (result_at m c i j).symm

end Cert.Proof.GWDown
-- ==== Proof.DH2.lean ====
/-
The product `d_h2`, the cotangent of the up projection's input: the steps over the contraction, each adding a block product to the carried sum, and the array the call leaves.
-/
module

public import proofs.«01_k».proof.Proof.Products
public import proofs.«01_k».proof.Proof.Gen.Kernel4Ideal.Value
public import proofs.«01_k».proof.Proof.Gen.Reference4Ideal.Run

@[expose] public section

noncomputable section

namespace Cert.Proof.DH2

section Call

open Cert.Kernel4Ideal Cert.Kernel4Ideal.Gen Idealize.ShloMosaic Idealize.ShloMosaic.TcCoe Products

section Body

variable (c : Dev nD) (i : grid0.Coords) (a3 : Memref sig .tc .vmem S1x1024x2816 .bf16) (h3 : a3.IsWhole) (a4 : Memref sig .tc .vmem S2816x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1x1024x2816 .bf16) (x1 : Vec Ideal S2816x1024 .bf16) (xs : Vec Ideal S1024x1024 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1024x1024) hz2, View.ld_unit_zero (S := S1x1024x2816) hz3, View.ld_unit_zero (S := S2816x1024) hz2,
    View.readCov_unit_zero (S := S1024x1024) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1024x1024) hz2, View.readCov_unit_zero (S := S1024x1024) _ hz2, View.ld_unit_zero (S := S1x1024x2816) hz3,
    View.ld_unit_zero (S := S2816x1024) hz2, View.ld_unit_zero (S := S1024x1024) hz2]

/-- One step's sum at an element. -/
theorem step_at (r : Fin 1024) (l : Fin 1024) :
    k0_pay2 (F := Ideal) xs x0 x1 (ix2 r l) = xs (ix2 r l) + ∑ k : Fin 2816, (x0 (ix3 0 r k) : EReal) * x1 (ix2 k l) := by
  unfold k0_pay2
  pointwise

theorem zero_at (r : Fin 1024) (l : Fin 1024) : k0_pay1 (F := Ideal) (ix2 r l) = (0 : EReal) := by
  unfold k0_pay1
  pointwise

/-- The written block holds the carried sum. -/
theorem out_at (r : Fin 1024) (l : Fin 1024) : k0_pay3 (F := Ideal) xs (ix2 r l) = xs (ix2 r l) := by
  unfold k0_pay3
  pointwise

end Body

/-- The blocks a grid point reads. -/
theorem idx_a : ∀ t : Fin cfg0.N, win0_0.index t 0 = t.val % 2 ∧ win0_0.index t 1 = t.val / 2 ∧ win0_0.index t 2 = 0 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S2x4096x2816 .f32 := m ((c : Thread nD τ).loc main_arg1)
abbrev argB : FVec Ideal S1024x5632 .f32 := m ((c : Thread nD τ).loc main_arg0)

/-- The product's element: the sum over the whole contraction. -/
def elt (x : FVec Ideal S2x4096x2816 .f32) (y : FVec Ideal S1024x5632 .f32) (i : Fin 4096) (j : Fin 1024) : EReal :=
  (∑ k : Fin 2816, (x (ix3 0 i k) : EReal) * y (ix2 j ⟨k.val, by omega⟩)) + ∑ k : Fin 2816, (x (ix3 1 i k) : EReal) * y (ix2 j ⟨2816 + k.val, by omega⟩)

theorem blk_a (t : Fin cfg0.N) (r : Fin 1024) (k : Fin 2816) (R : Fin 4096) (Q : Fin 2816) (P : Fin 2) (hP : P.val = t.val % 2) (hR : R.val = t.val / 2 * 1024 + r.val) (hQ : Q.val = k.val) :
    iblk m c 0 t (ix3 0 r k) = argA m c (ix3 P R Q) := by
  have e : V m c main_v0 = (truncf .bf16 (argA m c) bitsLt_bf16_f32 : FVec Ideal S2x4096x2816 .bf16) := by
    unfold V; after_reads_simp
  have e' : V m c main_v0 (ix3 P R Q) = argA m c (ix3 P R Q) := by
    rw [e]; pointwise
  rw [← e']
  unfold iblk
  rw [View.read_apply]
  show V m c main_v0 _ = V m c main_v0 _
  congr 1
  funext a
  apply Fin.ext
  match a with
  | ⟨0, _⟩ => show win0_0.index t 0 * 1 + 1 * (0 : Fin 1).val = P.val; rw [(idx_a t).1]; omega
  | ⟨1, _⟩ => show win0_0.index t 1 * 1024 + 1 * r.val = R.val; rw [(idx_a t).2.1]; omega
  | ⟨2, _⟩ => show win0_0.index t 2 * 2816 + 1 * k.val = Q.val; rw [(idx_a t).2.2]; omega

theorem blk_b (t : Fin cfg0.N) (k : Fin 2816) (l : Fin 1024) (Q : Fin 5632) (T : Fin 1024) (hQ : Q.val = t.val % 2 * 2816 + k.val) (hT : T.val = l.val) :
    iblk m c 1 t (ix2 k l) = argB m c (ix2 T Q) := by
  have e : V m c main_v2 = (truncf .bf16 (transpose S5632x1024 [1, 0] (argB m c) transposes_S1024x5632_S5632x1024_1_0 : FVec Ideal S5632x1024 .f32) bitsLt_bf16_f32 : FVec Ideal S5632x1024 .bf16) := by
    unfold V; after_reads_simp
  have e' : V m c main_v2 (ix2 Q T) = argB m c (ix2 T Q) := by
    rw [e]; pointwise
  rw [← e']
  unfold iblk
  rw [View.read_apply]
  exact at2 (V m c main_v2) _ _ _ (moved (idx_b t).1 hQ) (same (idx_b t).2 hT)

/-- The block a tile's last step writes holds the sum over the whole contraction. -/
theorem outs_at (t : Fin cfg0.N) (ht : t.val % 2 = 1) (r : Fin 1024) (l : Fin 1024) (R : Fin 4096) (T : Fin 1024) (hR : R.val = t.val / 2 * 1024 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  congr 1
  · refine Finset.sum_congr rfl fun k _ => ?_
    rw [blk_a m c ⟨t.val - 1, h1⟩ r k R k 0 (by show 0 = (t.val - 1) % 2; omega) (by show R.val = (t.val - 1) / 2 * 1024 + r.val; omega) rfl,
      blk_b m c ⟨t.val - 1, h1⟩ k l ⟨k.val, by omega⟩ T (by show k.val = (t.val - 1) % 2 * 2816 + k.val; omega) hT]
  · refine Finset.sum_congr rfl fun k _ => ?_
    rw [blk_a m c t r k R k 1 (by show 1 = t.val % 2; omega) hR rfl,
      blk_b m c t k l ⟨2816 + k.val, by omega⟩ T (by show 2816 + k.val = t.val % 2 * 2816 + k.val; omega) hT]

/-- The array the call leaves. -/
theorem result_at (i : Fin 4096) (j : Fin 1024) : Value.G2 m c (ix2 i j) = elt (argA m c) (argB m c) i j := by
  have hN : Value.pt2Of (ix2 i j) < cfg0.N := by
    show 2 * (1 * (i.val / 1024 - 0) + 1 * (j.val / 1024 - 0)) + 1 < 8; omega
  unfold Value.G2
  rw [dif_pos hN, ← Value.outsAt0_sweep m c _ hN]
  have hl : Value.loc2Of (ix2 i j) = ix2 (⟨i.val % 1024, by omega⟩ : Fin 1024) (⟨j.val % 1024, by omega⟩ : Fin 1024) := by
    funext a; match a with | ⟨0, _⟩ => rfl | ⟨1, _⟩ => rfl
  rw [hl]
  refine outs_at m c ⟨_, hN⟩ ?_ _ _ i j ?_ ?_
  · show (2 * (1 * (i.val / 1024 - 0) + 1 * (j.val / 1024 - 0)) + 1) % 2 = 1; omega
  · show i.val = (2 * (1 * (i.val / 1024 - 0) + 1 * (j.val / 1024 - 0)) + 1) / 2 * 1024 + i.val % 1024; omega
  · show j.val = j.val % 1024; omega

end Call

section Reference

open Cert.Reference4Ideal Cert.Reference4Ideal.Gen Idealize.ShloMosaic Idealize.ShloMosaic.TcCoe

/-- The reference's result at an element. -/
theorem ref_at (x : FVec Ideal S2x4096x2816 .f32) (y : FVec Ideal S1024x5632 .f32) (i : Fin 4096) (j : Fin 1024) :
    (truncf .bf16 (Host.dotGeneral dot_S4096x5632_S1024x5632_S4096x1024_1_1_0_0_n_n none (concatenate S4096x5632 1 [⟨S4096x2816, (shapeCast _ (extractStridedSlice S1x4096x2816 ![0, 0, 0] x slices_S2x4096x2816_S1x4096x2816_0_0_0) shapeCasts_S1x4096x2816_S4096x2816)⟩, ⟨S4096x2816, (shapeCast _ (extractStridedSlice S1x4096x2816 ![1, 0, 0] x slices_S2x4096x2816_S1x4096x2816_1_0_0) shapeCasts_S1x4096x2816_S4096x2816)⟩] concatenates_S4096x2816_S4096x2816_S4096x5632_d1) y) bitsLt_bf16_f32 : FVec Ideal S4096x1024 .bf16) (ix2 i j) = elt x y i j := by
  unfold elt
  pointwise

/-- The reference ends, its arguments unchanged and every counter at zero. -/
theorem ref_frame : Cert.quiescent_Reference4Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel4Ideal.Gen in
/-- The call and its reference end with the same array, at every argument. -/
theorem algebraic : Cert.algebraic_Kernel4Ideal_Reference4Ideal := by
  intro m g m' g' _ heq
  refine ⟨fun c => Cert.Kernel4Ideal.Value.G2 m c, Cert.Kernel4Ideal.Value.run m g,
    (θ_run Cert.Reference4Ideal.defs _ _).mono (fun r h c => ?_) (Cert.Reference4Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 1024) y
  exact (ref_at _ _ i j).trans (result_at m c i j).symm

end Cert.Proof.DH2
-- ==== Proof.GWUp.lean ====
/-
The product `g_w_up`, the gradient of the up projection's weight: the steps over the contraction, each adding a block product to the carried sum, and the array the call leaves.
-/
module

public import proofs.«01_k».proof.Proof.Products
public import proofs.«01_k».proof.Proof.Gen.Kernel5Ideal.Value
public import proofs.«01_k».proof.Proof.Gen.Reference5Ideal.Run

@[expose] public section

noncomputable section

namespace Cert.Proof.GWUp

section Call

open Cert.Kernel5Ideal Cert.Kernel5Ideal.Gen Idealize.ShloMosaic Idealize.ShloMosaic.TcCoe Products

section Body

variable (c : Dev nD) (i : grid0.Coords) (a3 : Memref sig .tc .vmem S1x2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x0 : Vec Ideal S1x2048x1408 .bf16) (x1 : Vec Ideal S2048x1024 .bf16) (xs : Vec Ideal S1408x1024 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1408x1024) hz2, View.ld_unit_zero (S := S1x2048x1408) hz3, View.ld_unit_zero (S := S2048x1024) hz2,
    View.readCov_unit_zero (S := S1408x1024) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1408x1024) hz2, View.readCov_unit_zero (S := S1408x1024) _ hz2, View.ld_unit_zero (S := S1x2048x1408) hz3,
    View.ld_unit_zero (S := S2048x1024) hz2, View.ld_unit_zero (S := S1408x1024) hz2]

/-- One step's sum at an element. -/
theorem step_at (r : Fin 1408) (l : Fin 1024) :
    k0_pay2 (F := Ideal) xs x0 x1 (ix2 r l) = xs (ix2 r l) + ∑ k : Fin 2048, (x0 (ix3 0 k r) : EReal) * x1 (ix2 k l) := by
  unfold k0_pay2
  pointwise

theorem zero_at (r : Fin 1408) (l : Fin 1024) : k0_pay1 (F := Ideal) (ix2 r l) = (0 : EReal) := by
  unfold k0_pay1
  pointwise

/-- The written block holds the carried sum. -/
theorem out_at (r : Fin 1408) (l : Fin 1024) : k0_pay3 (F := Ideal) xs (ix2 r l) = xs (ix2 r l) := by
  unfold k0_pay3
  pointwise

end Body

/-- The blocks a grid point reads. -/
theorem idx_a : ∀ t : Fin cfg0.N, win0_0.index t 0 = t.val / 2 / 2 ∧ win0_0.index t 1 = t.val % 2 ∧ win0_0.index t 2 = t.val / 2 % 2 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S2x4096x2816 .f32 := m ((c : Thread nD τ).loc main_arg1)
abbrev argB : FVec Ideal S4096x1024 .f32 := m ((c : Thread nD τ).loc main_arg0)

/-- The product's element: the sum over the whole contraction. -/
def elt (x : FVec Ideal S2x4096x2816 .f32) (y : FVec Ideal S4096x1024 .f32) (i : Fin 5632) (j : Fin 1024) : EReal :=
  ∑ k : Fin 4096, (x (ix3 ⟨i.val / 2816, by omega⟩ k ⟨i.val % 2816, by omega⟩) : EReal) * y (ix2 k j)

theorem blk_a (t : Fin cfg0.N) (k : Fin 2048) (r : Fin 1408) (Q : Fin 4096) (R : Fin 2816) (P : Fin 2) (hP : P.val = t.val / 2 / 2) (hQ : Q.val = t.val % 2 * 2048 + k.val) (hR : R.val = t.val / 2 % 2 * 1408 + r.val) :
    iblk m c 0 t (ix3 0 k r) = argA m c (ix3 P Q R) := by
  have e : V m c main_v0 = (truncf .bf16 (argA m c) bitsLt_bf16_f32 : FVec Ideal S2x4096x2816 .bf16) := by
    unfold V; after_reads_simp
  have e' : V m c main_v0 (ix3 P Q R) = argA m c (ix3 P Q R) := by
    rw [e]; pointwise
  rw [← e']
  unfold iblk
  rw [View.read_apply]
  show V m c main_v0 _ = V m c main_v0 _
  congr 1
  funext a
  apply Fin.ext
  match a with
  | ⟨0, _⟩ => show win0_0.index t 0 * 1 + 1 * (0 : Fin 1).val = P.val; rw [(idx_a t).1]; omega
  | ⟨1, _⟩ => show win0_0.index t 1 * 2048 + 1 * k.val = Q.val; rw [(idx_a t).2.1]; omega
  | ⟨2, _⟩ => show win0_0.index t 2 * 1408 + 1 * r.val = R.val; rw [(idx_a t).2.2]; omega

theorem blk_b (t : Fin cfg0.N) (k : Fin 2048) (l : Fin 1024) (Q : Fin 4096) (T : Fin 1024) (hQ : Q.val = t.val % 2 * 2048 + k.val) (hT : T.val = l.val) :
    iblk m c 1 t (ix2 k l) = argB m c (ix2 Q T) := by
  have e : V m c main_v1 = (truncf .bf16 (argB m c) bitsLt_bf16_f32 : FVec Ideal S4096x1024 .bf16) := by
    unfold V; after_reads_simp
  have e' : V m c main_v1 (ix2 Q T) = argB m c (ix2 Q T) := by
    rw [e]; pointwise
  rw [← e']
  unfold iblk
  rw [View.read_apply]
  exact at2 (V m c main_v1) _ _ _ (moved (idx_b t).1 hQ) (same (idx_b t).2 hT)

/-- The block a tile's last step writes holds the sum over the whole contraction. -/
theorem outs_at (t : Fin cfg0.N) (ht : t.val % 2 = 1) (r : Fin 1408) (l : Fin 1024) (R : Fin 5632) (T : Fin 1024) (hR : R.val = t.val / 2 * 1408 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  rw [sum_two (N := 4096) 2048 (by norm_num)]
  congr 1
  · refine Finset.sum_congr rfl fun k _ => ?_
    rw [blk_a m c ⟨t.val - 1, h1⟩ k r ⟨k.val, by omega⟩ ⟨R.val % 2816, by omega⟩ ⟨R.val / 2816, by omega⟩ (by show R.val / 2816 = (t.val - 1) / 2 / 2; omega) (by show k.val = (t.val - 1) % 2 * 2048 + k.val; omega) (by show R.val % 2816 = (t.val - 1) / 2 % 2 * 1408 + r.val; omega),
      blk_b m c ⟨t.val - 1, h1⟩ k l ⟨k.val, by omega⟩ T (by show k.val = (t.val - 1) % 2 * 2048 + k.val; omega) hT]
  · refine Finset.sum_congr rfl fun k _ => ?_
    rw [blk_a m c t k r ⟨2048 + k.val, by omega⟩ ⟨R.val % 2816, by omega⟩ ⟨R.val / 2816, by omega⟩ (by show R.val / 2816 = t.val / 2 / 2; omega) (by show 2048 + k.val = t.val % 2 * 2048 + k.val; omega) (by show R.val % 2816 = t.val / 2 % 2 * 1408 + r.val; omega),
      blk_b m c t k l ⟨2048 + k.val, by omega⟩ T (by show 2048 + k.val = t.val % 2 * 2048 + k.val; omega) hT]

/-- The array the call leaves. -/
theorem result_at (i : Fin 5632) (j : Fin 1024) : Value.G2 m c (ix2 i j) = elt (argA m c) (argB m c) i j := by
  have hN : Value.pt2Of (ix2 i j) < cfg0.N := by
    show 2 * (1 * (i.val / 1408 - 0) + 1 * (j.val / 1024 - 0)) + 1 < 8; omega
  unfold Value.G2
  rw [dif_pos hN, ← Value.outsAt0_sweep m c _ hN]
  have hl : Value.loc2Of (ix2 i j) = ix2 (⟨i.val % 1408, by omega⟩ : Fin 1408) (⟨j.val % 1024, by omega⟩ : Fin 1024) := by
    funext a; match a with | ⟨0, _⟩ => rfl | ⟨1, _⟩ => rfl
  rw [hl]
  refine outs_at m c ⟨_, hN⟩ ?_ _ _ i j ?_ ?_
  · show (2 * (1 * (i.val / 1408 - 0) + 1 * (j.val / 1024 - 0)) + 1) % 2 = 1; omega
  · show i.val = (2 * (1 * (i.val / 1408 - 0) + 1 * (j.val / 1024 - 0)) + 1) / 2 * 1408 + i.val % 1408; omega
  · show j.val = j.val % 1024; omega

end Call

section Reference

open Cert.Reference5Ideal Cert.Reference5Ideal.Gen Idealize.ShloMosaic Idealize.ShloMosaic.TcCoe

/-- The reference's result at an element. -/
theorem ref_at (x : FVec Ideal S2x4096x2816 .f32) (y : FVec Ideal S4096x1024 .f32) (i : Fin 5632) (j : Fin 1024) :
    (truncf .bf16 (transpose S5632x1024 [1, 0] (transpose S1024x5632 [1, 0] (Host.dotGeneral dot_S4096x5632_S4096x1024_S5632x1024_0_0_1_1_n_n none (concatenate S4096x5632 1 [⟨S4096x2816, (shapeCast _ (extractStridedSlice S1x4096x2816 ![0, 0, 0] x slices_S2x4096x2816_S1x4096x2816_0_0_0) shapeCasts_S1x4096x2816_S4096x2816)⟩, ⟨S4096x2816, (shapeCast _ (extractStridedSlice S1x4096x2816 ![1, 0, 0] x slices_S2x4096x2816_S1x4096x2816_1_0_0) shapeCasts_S1x4096x2816_S4096x2816)⟩] concatenates_S4096x2816_S4096x2816_S4096x5632_d1) y) transposes_S5632x1024_S1024x5632_1_0) transposes_S1024x5632_S5632x1024_1_0) bitsLt_bf16_f32 : FVec Ideal S5632x1024 .bf16) (ix2 i j) = elt x y i j := by
  unfold elt
  pointwise
  refine Finset.sum_congr rfl fun k _ => ?_
  congr 1
  have hi := i.isLt
  by_cases h : i.val < 2816
  · rw [dif_pos h]
    congr 1
    funext a
    apply Fin.ext
    match a with
    | ⟨0, _⟩ => show 0 = i.val / 2816; omega
    | ⟨1, _⟩ => rfl
    | ⟨2, _⟩ => show i.val = i.val % 2816; omega
  · rw [dif_neg h]
    congr 1
    funext a
    apply Fin.ext
    match a with
    | ⟨0, _⟩ => show 1 = i.val / 2816; omega
    | ⟨1, _⟩ => rfl
    | ⟨2, _⟩ => show i.val - 2816 = i.val % 2816; omega

/-- The reference ends, its arguments unchanged and every counter at zero. -/
theorem ref_frame : Cert.quiescent_Reference5Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel5Ideal.Gen in
/-- The call and its reference end with the same array, at every argument. -/
theorem algebraic : Cert.algebraic_Kernel5Ideal_Reference5Ideal := by
  intro m g m' g' _ heq
  refine ⟨fun c => Cert.Kernel5Ideal.Value.G2 m c, Cert.Kernel5Ideal.Value.run m g,
    (θ_run Cert.Reference5Ideal.defs _ _).mono (fun r h c => ?_) (Cert.Reference5Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 5632) (n1 := 1024) y
  exact (ref_at _ _ i j).trans (result_at m c i j).symm

end Cert.Proof.GWUp
-- ==== Proof.GWIn.lean ====
/-
The product `g_w_in`, the gradient of the input projection's weight: the steps over the contraction, each adding a block product to the carried sum, and the array the call leaves.
-/
module

public import proofs.«01_k».proof.Proof.Products
public import proofs.«01_k».proof.Proof.Gen.Kernel6Ideal.Value
public import proofs.«01_k».proof.Proof.Gen.Reference6Ideal.Run

@[expose] public section

noncomputable section

namespace Cert.Proof.GWIn

section Call

open Cert.Kernel6Ideal Cert.Kernel6Ideal.Gen Idealize.ShloMosaic Idealize.ShloMosaic.TcCoe Products

section Body

variable (c : Dev nD) (i : grid0.Coords) (a3 : Memref sig .tc .vmem S2176x1792 .bf16) (h3 : a3.IsWhole) (a4 : Memref sig .tc .vmem S2176x512 .bf16) (h4 : a4.IsWhole)
  (a5 : Memref sig .tc .vmem S1792x512 .bf16) (h5 : a5.IsWhole) (a6 : Memref sig .tc .vmem S1792x512 .f32) (h6 : a6.IsWhole)
  (x0 : Vec Ideal S2176x1792 .bf16) (x1 : Vec Ideal S2176x512 .bf16) (xs : Vec Ideal S1792x512 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1792x512) hz2, View.ld_unit_zero (S := S2176x1792) hz2, View.ld_unit_zero (S := S2176x512) hz2,
    View.readCov_unit_zero (S := S1792x512) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1792x512) hz2, View.readCov_unit_zero (S := S1792x512) _ hz2, View.ld_unit_zero (S := S2176x1792) hz2,
    View.ld_unit_zero (S := S2176x512) hz2, View.ld_unit_zero (S := S1792x512) hz2]

/-- One step's sum at an element. -/
theorem step_at (r : Fin 1792) (l : Fin 512) :
    k0_pay2 (F := Ideal) xs x0 x1 (ix2 r l) = xs (ix2 r l) + ∑ k : Fin 2176, (x0 (ix2 k r) : EReal) * x1 (ix2 k l) := by
  unfold k0_pay2
  pointwise

theorem zero_at (r : Fin 1792) (l : Fin 512) : k0_pay1 (F := Ideal) (ix2 r l) = (0 : EReal) := by
  unfold k0_pay1
  pointwise

/-- The written block holds the carried sum. -/
theorem out_at (r : Fin 1792) (l : Fin 512) : k0_pay3 (F := Ideal) xs (ix2 r l) = xs (ix2 r l) := by
  unfold k0_pay3
  pointwise

end Body

/-- The blocks a grid point reads. -/
theorem idx_a : ∀ t : Fin cfg0.N, win0_0.index t 0 = t.val % 2 ∧ win0_0.index t 1 = t.val / 2 / 2 := by decide +kernel
theorem idx_b : ∀ t : Fin cfg0.N, win0_1.index t 0 = t.val % 2 ∧ win0_1.index t 1 = t.val / 2 % 2 := by decide +kernel

variable (m : (ℓ : Loc nD τ sig) → Buf (Elt Ideal) ℓ) (c : Dev nD)

/-- The two arguments. -/
abbrev argA : FVec Ideal S4352x5376 .f32 := m ((c : Thread nD τ).loc main_arg1)
abbrev argB : FVec Ideal S4352x1024 .f32 := m ((c : Thread nD τ).loc main_arg0)

/-- The product's element: the sum over the whole contraction. -/
def elt (x : FVec Ideal S4352x5376 .f32) (y : FVec Ideal S4352x1024 .f32) (i : Fin 5376) (j : Fin 1024) : EReal :=
  ∑ k : Fin 4352, (x (ix2 k i) : EReal) * y (ix2 k j)

theorem blk_a (t : Fin cfg0.N) (k : Fin 2176) (r : Fin 1792) (Q : Fin 4352) (R : Fin 5376) (hQ : Q.val = t.val % 2 * 2176 + k.val) (hR : R.val = t.val / 2 / 2 * 1792 + r.val) :
    iblk m c 0 t (ix2 k r) = argA m c (ix2 Q R) := by
  have e : V m c main_v0 = (truncf .bf16 (argA m c) bitsLt_bf16_f32 : FVec Ideal S4352x5376 .bf16) := by
    unfold V; after_reads_simp
  have e' : V m c main_v0 (ix2 Q R) = argA m c (ix2 Q R) := by
    rw [e]; pointwise
  rw [← e']
  unfold iblk
  rw [View.read_apply]
  exact at2 (V m c main_v0) _ _ _ (moved (idx_a t).1 hQ) (moved (idx_a t).2 hR)

theorem blk_b (t : Fin cfg0.N) (k : Fin 2176) (l : Fin 512) (Q : Fin 4352) (T : Fin 1024) (hQ : Q.val = t.val % 2 * 2176 + k.val) (hT : T.val = t.val / 2 % 2 * 512 + l.val) :
    iblk m c 1 t (ix2 k l) = argB m c (ix2 Q T) := by
  have e : V m c main_v1 = (truncf .bf16 (argB m c) bitsLt_bf16_f32 : FVec Ideal S4352x1024 .bf16) := by
    unfold V; after_reads_simp
  have e' : V m c main_v1 (ix2 Q T) = argB m c (ix2 Q T) := by
    rw [e]; pointwise
  rw [← e']
  unfold iblk
  rw [View.read_apply]
  exact at2 (V m c main_v1) _ _ _ (moved (idx_b t).1 hQ) (moved (idx_b t).2 hT)

/-- The block a tile's last step writes holds the sum over the whole contraction. -/
theorem outs_at (t : Fin cfg0.N) (ht : t.val % 2 = 1) (r : Fin 1792) (l : Fin 512) (R : Fin 5376) (T : Fin 1024) (hR : R.val = t.val / 2 / 2 * 1792 + r.val) (hT : T.val = t.val / 2 % 2 * 512 + l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  rw [sum_two (N := 4352) 2176 (by norm_num)]
  congr 1
  · refine Finset.sum_congr rfl fun k _ => ?_
    rw [blk_a m c ⟨t.val - 1, h1⟩ k r ⟨k.val, by omega⟩ R (by show k.val = (t.val - 1) % 2 * 2176 + k.val; omega) (by show R.val = (t.val - 1) / 2 / 2 * 1792 + r.val; omega),
      blk_b m c ⟨t.val - 1, h1⟩ k l ⟨k.val, by omega⟩ T (by show k.val = (t.val - 1) % 2 * 2176 + k.val; omega) (by show T.val = (t.val - 1) / 2 % 2 * 512 + l.val; omega)]
  · refine Finset.sum_congr rfl fun k _ => ?_
    rw [blk_a m c t k r ⟨2176 + k.val, by omega⟩ R (by show 2176 + k.val = t.val % 2 * 2176 + k.val; omega) hR,
      blk_b m c t k l ⟨2176 + k.val, by omega⟩ T (by show 2176 + k.val = t.val % 2 * 2176 + k.val; omega) hT]

/-- The array the call leaves. -/
theorem result_at (i : Fin 5376) (j : Fin 1024) : Value.G2 m c (ix2 i j) = elt (argA m c) (argB m c) i j := by
  have hN : Value.pt2Of (ix2 i j) < cfg0.N := by
    show 2 * (2 * (i.val / 1792 - 0) + 1 * (j.val / 512 - 0)) + 1 < 12; omega
  unfold Value.G2
  rw [dif_pos hN, ← Value.outsAt0_sweep m c _ hN]
  have hl : Value.loc2Of (ix2 i j) = ix2 (⟨i.val % 1792, by omega⟩ : Fin 1792) (⟨j.val % 512, by omega⟩ : Fin 512) := by
    funext a; match a with | ⟨0, _⟩ => rfl | ⟨1, _⟩ => rfl
  rw [hl]
  refine outs_at m c ⟨_, hN⟩ ?_ _ _ i j ?_ ?_
  · show (2 * (2 * (i.val / 1792 - 0) + 1 * (j.val / 512 - 0)) + 1) % 2 = 1; omega
  · show i.val = (2 * (2 * (i.val / 1792 - 0) + 1 * (j.val / 512 - 0)) + 1) / 2 / 2 * 1792 + i.val % 1792; omega
  · show j.val = (2 * (2 * (i.val / 1792 - 0) + 1 * (j.val / 512 - 0)) + 1) / 2 % 2 * 512 + j.val % 512; omega

end Call

section Reference

open Cert.Reference6Ideal Cert.Reference6Ideal.Gen Idealize.ShloMosaic Idealize.ShloMosaic.TcCoe

/-- The reference's result at an element. -/
theorem ref_at (x : FVec Ideal S4352x5376 .f32) (y : FVec Ideal S4352x1024 .f32) (i : Fin 5376) (j : Fin 1024) :
    (truncf .bf16 (transpose S5376x1024 [1, 0] (transpose S1024x5376 [1, 0] (Host.dotGeneral dot_S4352x5376_S4352x1024_S5376x1024_0_0_1_1_n_n none x y) transposes_S5376x1024_S1024x5376_1_0) transposes_S1024x5376_S5376x1024_1_0) bitsLt_bf16_f32 : FVec Ideal S5376x1024 .bf16) (ix2 i j) = elt x y i j := by
  unfold elt
  pointwise

/-- The reference ends, its arguments unchanged and every counter at zero. -/
theorem ref_frame : Cert.quiescent_Reference6Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel6Ideal.Gen in
/-- The call and its reference end with the same array, at every argument. -/
theorem algebraic : Cert.algebraic_Kernel6Ideal_Reference6Ideal := by
  intro m g m' g' _ heq
  refine ⟨fun c => Cert.Kernel6Ideal.Value.G2 m c, Cert.Kernel6Ideal.Value.run m g,
    (θ_run Cert.Reference6Ideal.defs _ _).mono (fun r h c => ?_) (Cert.Reference6Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 5376) (n1 := 1024) y
  exact (ref_at _ _ i j).trans (result_at m c i j).symm

end Cert.Proof.GWIn
-- ==== Proof.DH.lean ====
/-
The product `d_h`, the cotangent of the input projection's input: the steps over the contraction, each adding a block product to the carried sum, and the array the call leaves.
-/
module

public import proofs.«01_k».proof.Proof.Products
public import proofs.«01_k».proof.Proof.Gen.Kernel7Ideal.Value
public import proofs.«01_k».proof.Proof.Gen.Reference7Ideal.Run

@[expose] public section

noncomputable section

namespace Cert.Proof.DH

section Call

open Cert.Kernel7Ideal Cert.Kernel7Ideal.Gen Idealize.ShloMosaic Idealize.ShloMosaic.TcCoe Products

section Body

variable (c : Dev nD) (i : grid0.Coords) (a3 : Memref sig .tc .vmem S1088x1792 .bf16) (h3 : a3.IsWhole) (a4 : Memref sig .tc .vmem S1792x1024 .bf16) (h4 : a4.IsWhole)
  (a5 : Memref sig .tc .vmem S1088x1024 .bf16) (h5 : a5.IsWhole) (a6 : Memref sig .tc .vmem S1088x1024 .f32) (h6 : a6.IsWhole)
  (x0 : Vec Ideal S1088x1792 .bf16) (x1 : Vec Ideal S1792x1024 .bf16) (xs : Vec Ideal S1088x1024 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1088x1024) hz2, View.ld_unit_zero (S := S1088x1792) hz2, View.ld_unit_zero (S := S1792x1024) hz2,
    View.readCov_unit_zero (S := S1088x1024) _ hz2]

/-- The middle step adds its block product to the carried sum. -/
theorem middle (hc0 : ¬cond0_0 i) (hc1 : ¬cond0_1 i) :
    sout0_B_0 c i a3 h3 a4 h4 a5 h5 a6 h6 hc0 hc1 x0 x1 xs = k0_pay2 (F := Ideal) xs x0 x1 := by
  unfold sout0_B_0
  rw [View.read_writes_junk_eq_canon]
  unfold kernelRun0_B
  dsimp only
  sl_unfold_words
  simp only [View.readAt_eq_ld, h3.read_unread, h4.read_unread, h6.read_unread]
  rw [View.canon_unit_zero (S := S1088x1024) hz2, View.ld_unit_zero (S := S1088x1792) hz2, View.ld_unit_zero (S := S1792x1024) hz2, View.ld_unit_zero (S := S1088x1024) hz2]

/-- The last step adds its block product to the carried sum and writes the total, rounded. -/
theorem last (hc0 : ¬cond0_0 i) (hc1 : cond0_1 i) :
    out0_C_2 c i a3 h3 a4 h4 a5 h5 a6 h6 hc0 hc1 x0 x1 xs = k0_pay3 (F := Ideal) (k0_pay2 xs x0 x1) := by
  unfold out0_C_2
  rw [View.read_writes_junk_eq_canon]
  unfold kernelRun0_C
  dsimp only
  sl_unfold_words
  simp only [View.readAt_eq_ld, h3.read_unread, h4.read_unread, h6.read_unread]
  rw [View.canon_unit_zero (S := S1088x1024) hz2, View.readCov_unit_zero (S := S1088x1024) _ hz2, View.ld_unit_zero (S := S1088x1792) hz2,
    View.ld_unit_zero (S := S1792x1024) hz2, View.ld_unit_zero (S := S1088x1024) hz2]

/-- One step's sum at an element. -/
theorem step_at (r : Fin 1088) (l : Fin 1024) :
    k0_pay2 (F := Ideal) xs x0 x1 (ix2 r l) = xs (ix2 r l) + ∑ k : Fin 1792, (x0 (ix2 r k) : EReal) * x1 (ix2 k l) := by
  unfold k0_pay2
  pointwise

theorem zero_at (r : Fin 1088) (l : Fin 1024) : k0_pay1 (F := Ideal) (ix2 r l) = (0 : EReal) := by
  unfold k0_pay1
  pointwise

/-- The written block holds the carried sum. -/
theorem out_at (r : Fin 1088) (l : Fin 1024) : k0_pay3 (F := Ideal) xs (ix2 r l) = xs (ix2 r l) := by
  unfold k0_pay3
  pointwise

end Body

/-- The blocks a grid point reads. -/
theorem idx_a : ∀ t : Fin cfg0.N, win0_0.index t 0 = t.val / 3 ∧ win0_0.index t 1 = t.val % 3 := by decide +kernel
theorem idx_b : ∀ t : Fin cfg0.N, win0_1.index t 0 = t.val % 3 ∧ win0_1.index t 1 = 0 := by decide +kernel

variable (m : (ℓ : Loc nD τ sig) → Buf (Elt Ideal) ℓ) (c : Dev nD)

/-- The two arguments. -/
abbrev argA : FVec Ideal S4352x5376 .f32 := m ((c : Thread nD τ).loc main_arg1)
abbrev argB : FVec Ideal S1024x5376 .f32 := m ((c : Thread nD τ).loc main_arg0)

/-- The product's element: the sum over the whole contraction. -/
def elt (x : FVec Ideal S4352x5376 .f32) (y : FVec Ideal S1024x5376 .f32) (i : Fin 4352) (j : Fin 1024) : EReal :=
  ∑ k : Fin 5376, (x (ix2 i k) : EReal) * y (ix2 j k)

theorem blk_a (t : Fin cfg0.N) (r : Fin 1088) (k : Fin 1792) (R : Fin 4352) (Q : Fin 5376) (hR : R.val = t.val / 3 * 1088 + r.val) (hQ : Q.val = t.val % 3 * 1792 + k.val) :
    iblk m c 0 t (ix2 r k) = argA m c (ix2 R Q) := by
  have e : V m c main_v0 = (truncf .bf16 (argA m c) bitsLt_bf16_f32 : FVec Ideal S4352x5376 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (moved (idx_a t).2 hQ)

theorem blk_b (t : Fin cfg0.N) (k : Fin 1792) (l : Fin 1024) (Q : Fin 5376) (T : Fin 1024) (hQ : Q.val = t.val % 3 * 1792 + k.val) (hT : T.val = l.val) :
    iblk m c 1 t (ix2 k l) = argB m c (ix2 T Q) := by
  have e : V m c main_v2 = (truncf .bf16 (transpose S5376x1024 [1, 0] (argB m c) transposes_S1024x5376_S5376x1024_1_0 : FVec Ideal S5376x1024 .f32) bitsLt_bf16_f32 : FVec Ideal S5376x1024 .bf16) := by
    unfold V; after_reads_simp
  have e' : V m c main_v2 (ix2 Q T) = argB m c (ix2 T Q) := by
    rw [e]; pointwise
  rw [← e']
  unfold iblk
  rw [View.read_apply]
  exact at2 (V m c main_v2) _ _ _ (moved (idx_b t).1 hQ) (same (idx_b t).2 hT)

/-- The block a tile's last step writes holds the sum over the whole contraction. -/
theorem outs_at (t : Fin cfg0.N) (ht : t.val % 3 = 2) (r : Fin 1088) (l : Fin 1024) (R : Fin 4352) (T : Fin 1024) (hR : R.val = t.val / 3 * 1088 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  have h2 : t.val - 2 < cfg0.N := Nat.lt_of_le_of_lt (Nat.sub_le _ _) t.isLt
  rw [outsAt0_C m c t (by omega) ht, outsAt0_B m c ⟨t.val - 1, h1⟩ (by show ¬(t.val - 1) % 3 = 0; omega) (by show ¬(t.val - 1) % 3 = 2; omega)]
  dsimp only
  rw [show (outsAt0 m c (t.val - 1 - 1) (Nat.lt_of_le_of_lt (Nat.sub_le _ _) h1)) = outsAt0 m c (t.val - 2) h2 from rfl,
    outsAt0_A m c ⟨t.val - 2, h2⟩ (by show (t.val - 2) % 3 = 0; omega) (by show ¬(t.val - 2) % 3 = 2; omega)]
  dsimp only
  rw [last, middle, first, out_at, step_at, step_at, step_at, zero_at, zero_add]
  unfold elt
  rw [sum_three (N := 5376) 1792 (by norm_num)]
  congr 1
  congr 1
  · refine Finset.sum_congr rfl fun k _ => ?_
    rw [blk_a m c ⟨t.val - 2, h2⟩ r k R ⟨k.val, by omega⟩ (by show R.val = (t.val - 2) / 3 * 1088 + r.val; omega) (by show k.val = (t.val - 2) % 3 * 1792 + k.val; omega),
      blk_b m c ⟨t.val - 2, h2⟩ k l ⟨k.val, by omega⟩ T (by show k.val = (t.val - 2) % 3 * 1792 + k.val; omega) hT]
  · refine Finset.sum_congr rfl fun k _ => ?_
    rw [blk_a m c ⟨t.val - 1, h1⟩ r k R ⟨1792 + k.val, by omega⟩ (by show R.val = (t.val - 1) / 3 * 1088 + r.val; omega) (by show 1792 + k.val = (t.val - 1) % 3 * 1792 + k.val; omega),
      blk_b m c ⟨t.val - 1, h1⟩ k l ⟨1792 + k.val, by omega⟩ T (by show 1792 + k.val = (t.val - 1) % 3 * 1792 + k.val; omega) hT]
  · refine Finset.sum_congr rfl fun k _ => ?_
    rw [blk_a m c t r k R ⟨2 * 1792 + k.val, by omega⟩ hR (by show 2 * 1792 + k.val = t.val % 3 * 1792 + k.val; omega),
      blk_b m c t k l ⟨2 * 1792 + k.val, by omega⟩ T (by show 2 * 1792 + k.val = t.val % 3 * 1792 + k.val; omega) hT]

/-- The array the call leaves. -/
theorem result_at (i : Fin 4352) (j : Fin 1024) : Value.G2 m c (ix2 i j) = elt (argA m c) (argB m c) i j := by
  have hN : Value.pt2Of (ix2 i j) < cfg0.N := by
    show 3 * (1 * (i.val / 1088 - 0) + 1 * (j.val / 1024 - 0)) + 2 < 12; omega
  unfold Value.G2
  rw [dif_pos hN, ← Value.outsAt0_sweep m c _ hN]
  have hl : Value.loc2Of (ix2 i j) = ix2 (⟨i.val % 1088, by omega⟩ : Fin 1088) (⟨j.val % 1024, by omega⟩ : Fin 1024) := by
    funext a; match a with | ⟨0, _⟩ => rfl | ⟨1, _⟩ => rfl
  rw [hl]
  refine outs_at m c ⟨_, hN⟩ ?_ _ _ i j ?_ ?_
  · show (3 * (1 * (i.val / 1088 - 0) + 1 * (j.val / 1024 - 0)) + 2) % 3 = 2; omega
  · show i.val = (3 * (1 * (i.val / 1088 - 0) + 1 * (j.val / 1024 - 0)) + 2) / 3 * 1088 + i.val % 1088; omega
  · show j.val = j.val % 1024; omega

end Call

section Reference

open Cert.Reference7Ideal Cert.Reference7Ideal.Gen Idealize.ShloMosaic Idealize.ShloMosaic.TcCoe

/-- The reference's result at an element. -/
theorem ref_at (x : FVec Ideal S4352x5376 .f32) (y : FVec Ideal S1024x5376 .f32) (i : Fin 4352) (j : Fin 1024) :
    (truncf .bf16 (Host.dotGeneral dot_S4352x5376_S1024x5376_S4352x1024_1_1_0_0_n_n none x y) bitsLt_bf16_f32 : FVec Ideal S4352x1024 .bf16) (ix2 i j) = elt x y i j := by
  unfold elt
  pointwise

/-- The reference ends, its arguments unchanged and every counter at zero. -/
theorem ref_frame : Cert.quiescent_Reference7Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel7Ideal.Gen in
/-- The call and its reference end with the same array, at every argument. -/
theorem algebraic : Cert.algebraic_Kernel7Ideal_Reference7Ideal := by
  intro m g m' g' _ heq
  refine ⟨fun c => Cert.Kernel7Ideal.Value.G2 m c, Cert.Kernel7Ideal.Value.run m g,
    (θ_run Cert.Reference7Ideal.defs _ _).mono (fun r h c => ?_) (Cert.Reference7Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4352) (n1 := 1024) y
  exact (ref_at _ _ i j).trans (result_at m c i j).symm

end Cert.Proof.DH
-- ==== Proof.WUp.lean ====
/-
The product `w_up`, the up projection: each grid point's block product, and the array the call leaves.
-/
module

public import proofs.«01_k».proof.Proof.Products
public import proofs.«01_k».proof.Proof.Gen.Kernel8Ideal.Value
public import proofs.«01_k».proof.Proof.Gen.Reference8Ideal.Run

@[expose] public section

noncomputable section

namespace Cert.Proof.WUp

section Call

open Cert.Kernel8Ideal Cert.Kernel8Ideal.Gen Idealize.ShloMosaic Idealize.ShloMosaic.TcCoe Products

/-- A grid point's block: the product of its two blocks. -/
theorem block_at (x0 : Vec Ideal S1024x1024 .bf16) (x1 : Vec Ideal S2816x1024 .bf16) (r : Fin 1024) (l : Fin 2816) :
    out0_2 (F := Ideal) x0 x1 (ix2 r l) = ∑ k : Fin 1024, (x0 (ix2 r k) : EReal) * x1 (ix2 l k) := by
  unfold out0_2
  rw [View.canon_unit_zero (S := S1024x2816) hz2, View.ld_unit_zero (S := S1024x1024) hz2, View.ld_unit_zero (S := S2816x1024) hz2]
  unfold k0_pay1
  pointwise

/-- The blocks a grid point reads. -/
theorem idx_a : ∀ t : Fin cfg0.N, win0_0.index t 0 = t.val / 2 ∧ win0_0.index t 1 = 0 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S4096x1024 .f32 := m ((c : Thread nD τ).loc main_arg0)
abbrev argB : FVec Ideal S1024x5632 .f32 := m ((c : Thread nD τ).loc main_arg1)

/-- The product's element: the sum over the whole contraction. -/
def elt (x : FVec Ideal S4096x1024 .f32) (y : FVec Ideal S1024x5632 .f32) (i : Fin 4096) (j : Fin 5632) : EReal :=
  ∑ k : Fin 1024, (x (ix2 i k) : EReal) * y (ix2 k j)

theorem blk_a (t : Fin cfg0.N) (r : Fin 1024) (k : Fin 1024) (R : Fin 4096) (Q : Fin 1024) (hR : R.val = t.val / 2 * 1024 + r.val) (hQ : Q.val = k.val) :
    iblk m c 0 t (ix2 r k) = argA m c (ix2 R Q) := by
  have e : V m c main_v0 = (truncf .bf16 (argA m c) bitsLt_bf16_f32 : FVec Ideal S4096x1024 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (l : Fin 2816) (k : Fin 1024) (T : Fin 5632) (Q : Fin 1024) (hT : T.val = t.val % 2 * 2816 + l.val) (hQ : Q.val = k.val) :
    iblk m c 1 t (ix2 l k) = argB m c (ix2 Q T) := by
  have e : V m c main_v2 = (truncf .bf16 (transpose S5632x1024 [1, 0] (argB m c) transposes_S1024x5632_S5632x1024_1_0 : FVec Ideal S5632x1024 .f32) bitsLt_bf16_f32 : FVec Ideal S5632x1024 .bf16) := by
    unfold V; after_reads_simp
  have e' : V m c main_v2 (ix2 T Q) = argB m c (ix2 Q T) := by
    rw [e]; pointwise
  rw [← e']
  unfold iblk
  rw [View.read_apply]
  exact at2 (V m c main_v2) _ _ _ (moved (idx_b t).1 hT) (same (idx_b t).2 hQ)

/-- The block a grid point writes holds the array's elements. -/
theorem outs_at (t : Fin cfg0.N) (r : Fin 1024) (l : Fin 2816) (R : Fin 4096) (T : Fin 5632) (hR : R.val = t.val / 2 * 1024 + r.val) (hT : T.val = t.val % 2 * 2816 + l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t l k T ⟨k.val, by omega⟩ hT rfl]

theorem flush_o : ∀ t : Fin cfg0.N, (cfg0.win 2).flush t = true := by decide +kernel
theorem idx_o : ∀ t : Fin cfg0.N, win0_2.index t 0 = t.val / 2 ∧ win0_2.index t 1 = t.val % 2 := by decide +kernel

/-- The array the call leaves. -/
theorem result_at (i : Fin 4096) (j : Fin 5632) : (dats m 0 c).arrAt 2 cfg0.N (ix2 i j) = elt (argA m c) (argB m c) i j := by
  have hN : 2 * (i.val / 1024) + j.val / 2816 < cfg0.N := by show 2 * (i.val / 1024) + j.val / 2816 < 8; omega
  have hb := congrFun (Value.blocks2 m c ⟨2 * (i.val / 1024) + j.val / 2816, hN⟩ (flush_o _)) (ix2 (⟨i.val % 1024, by omega⟩ : Fin 1024) (⟨j.val % 2816, by omega⟩ : Fin 2816))
  rw [Value.flushed2] at hb
  have he : ((cfg0.win 2).blk ⟨2 * (i.val / 1024) + j.val / 2816, hN⟩).view.read (Elt Ideal) ((dats m 0 c).arrAt 2 cfg0.N) (ix2 (⟨i.val % 1024, by omega⟩ : Fin 1024) (⟨j.val % 2816, by omega⟩ : Fin 2816))
      = (dats m 0 c).arrAt 2 cfg0.N (ix2 i j) := by
    rw [View.read_apply]
    exact at2 ((dats m 0 c).arrAt 2 cfg0.N) _ _ _ (moved (idx_o _).1 (by show i.val = (2 * (i.val / 1024) + j.val / 2816) / 2 * 1024 + (i.val % 1024); omega)) (moved (idx_o _).2 (by show j.val = (2 * (i.val / 1024) + j.val / 2816) % 2 * 2816 + (j.val % 2816); omega))
  rw [← he]
  refine hb.trans ?_
  refine outs_at m c ⟨2 * (i.val / 1024) + j.val / 2816, hN⟩ _ _ i j ?_ ?_
  · show i.val = (2 * (i.val / 1024) + j.val / 2816) / 2 * 1024 + i.val % 1024; omega
  · show j.val = (2 * (i.val / 1024) + j.val / 2816) % 2 * 2816 + j.val % 2816; omega

end Call

section Reference

open Cert.Reference8Ideal Cert.Reference8Ideal.Gen Idealize.ShloMosaic Idealize.ShloMosaic.TcCoe

/-- The reference's result at an element. -/
theorem ref_at (x : FVec Ideal S4096x1024 .f32) (y : FVec Ideal S1024x5632 .f32) (i : Fin 4096) (j : Fin 5632) :
    (truncf .bf16 (Host.dotGeneral dot_S4096x1024_S1024x5632_S4096x5632_1_0_0_1_n_n none x y) bitsLt_bf16_f32 : FVec Ideal S4096x5632 .bf16) (ix2 i j) = elt x y i j := by
  unfold elt
  pointwise

/-- The reference ends, its arguments unchanged and every counter at zero. -/
theorem ref_frame : Cert.quiescent_Reference8Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel8Ideal.Gen in
/-- The call and its reference end with the same array, at every argument. -/
theorem algebraic : Cert.algebraic_Kernel8Ideal_Reference8Ideal := by
  intro m g m' g' _ heq
  refine ⟨fun c => (dats m 0 c).arrAt 2 Cert.Kernel8Ideal.cfg0.N, Cert.Kernel8Ideal.Value.run_blocks m g,
    (θ_run Cert.Reference8Ideal.defs _ _).mono (fun r h c => ?_) (Cert.Reference8Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 5632) y
  exact (ref_at _ _ i j).trans (result_at m c i j).symm

end Cert.Proof.WUp
-- ==== Proof.WDown.lean ====
/-
The product `w_down`, the down projection: each grid point's block product, and the array the call leaves.
-/
module

public import proofs.«01_k».proof.Proof.Products
public import proofs.«01_k».proof.Proof.Gen.Kernel9Ideal.Value
public import proofs.«01_k».proof.Proof.Gen.Reference9Ideal.Run

@[expose] public section

noncomputable section

namespace Cert.Proof.WDown

section Call

open Cert.Kernel9Ideal Cert.Kernel9Ideal.Gen Idealize.ShloMosaic Idealize.ShloMosaic.TcCoe Products

/-- A grid point's block: the product of its two blocks. -/
theorem block_at (x0 : Vec Ideal S1024x2816 .bf16) (x1 : Vec Ideal S2816x1024 .bf16) (r : Fin 1024) (l : Fin 1024) :
    out0_2 (F := Ideal) x0 x1 (ix2 r l) = ∑ k : Fin 2816, (x0 (ix2 r k) : EReal) * x1 (ix2 k l) := by
  unfold out0_2
  rw [View.canon_unit_zero (S := S1024x1024) hz2, View.ld_unit_zero (S := S1024x2816) hz2, View.ld_unit_zero (S := S2816x1024) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4096x2816 .f32 := m ((c : Thread nD τ).loc main_arg0)
abbrev argB : FVec Ideal S2816x1024 .f32 := m ((c : Thread nD τ).loc main_arg1)

/-- The product's element: the sum over the whole contraction. -/
def elt (x : FVec Ideal S4096x2816 .f32) (y : FVec Ideal S2816x1024 .f32) (i : Fin 4096) (j : Fin 1024) : EReal :=
  ∑ k : Fin 2816, (x (ix2 i k) : EReal) * y (ix2 k j)

theorem blk_a (t : Fin cfg0.N) (r : Fin 1024) (k : Fin 2816) (R : Fin 4096) (Q : Fin 2816) (hR : R.val = t.val * 1024 + r.val) (hQ : Q.val = k.val) :
    iblk m c 0 t (ix2 r k) = argA m c (ix2 R Q) := by
  have e : V m c main_v0 = (truncf .bf16 (argA m c) bitsLt_bf16_f32 : FVec Ideal S4096x2816 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (k : Fin 2816) (l : Fin 1024) (Q : Fin 2816) (T : Fin 1024) (hQ : Q.val = k.val) (hT : T.val = l.val) :
    iblk m c 1 t (ix2 k l) = argB m c (ix2 Q T) := by
  have e : V m c main_v1 = (truncf .bf16 (argB m c) bitsLt_bf16_f32 : FVec Ideal S2816x1024 .bf16) := by
    unfold V; after_reads_simp
  have e' : V m c main_v1 (ix2 Q T) = argB m c (ix2 Q T) := by
    rw [e]; pointwise
  rw [← e']
  unfold iblk
  rw [View.read_apply]
  exact at2 (V m c main_v1) _ _ _ (same (idx_b t).1 hQ) (same (idx_b t).2 hT)

/-- The block a grid point writes holds the array's elements. -/
theorem outs_at (t : Fin cfg0.N) (r : Fin 1024) (l : Fin 1024) (R : Fin 4096) (T : Fin 1024) (hR : R.val = t.val * 1024 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t k l ⟨k.val, by omega⟩ T rfl hT]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4096) (j : Fin 1024), (dats m 0 c).arrAt 2 cfg0.N (ix2 i j) = elt (argA m c) (argB m c) i j := by
  refine in_rows (N := cfg0.N) (tr := 1024) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference9Ideal Cert.Reference9Ideal.Gen Idealize.ShloMosaic Idealize.ShloMosaic.TcCoe

/-- The reference's result at an element. -/
theorem ref_at (x : FVec Ideal S4096x2816 .f32) (y : FVec Ideal S2816x1024 .f32) (i : Fin 4096) (j : Fin 1024) :
    (truncf .bf16 (Host.dotGeneral dot_S4096x2816_S2816x1024_S4096x1024_1_0_0_1_n_n none x y) bitsLt_bf16_f32 : FVec Ideal S4096x1024 .bf16) (ix2 i j) = elt x y i j := by
  unfold elt
  pointwise

/-- The reference ends, its arguments unchanged and every counter at zero. -/
theorem ref_frame : Cert.quiescent_Reference9Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel9Ideal.Gen in
/-- The call and its reference end with the same array, at every argument. -/
theorem algebraic : Cert.algebraic_Kernel9Ideal_Reference9Ideal := by
  intro m g m' g' _ heq
  refine ⟨fun c => (dats m 0 c).arrAt 2 Cert.Kernel9Ideal.cfg0.N, Cert.Kernel9Ideal.Value.run_blocks m g,
    (θ_run Cert.Reference9Ideal.defs _ _).mono (fun r h c => ?_) (Cert.Reference9Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 1024) y
  exact (ref_at _ _ i j).trans (result_at m c i j).symm

end Cert.Proof.WDown
-- ==== Proof.DF.lean ====
/-
The product `d_f`, the cotangent of the down projection's input: each grid point's block product, and the array the call leaves.
-/
module

public import proofs.«01_k».proof.Proof.Products
public import proofs.«01_k».proof.Proof.Gen.Kernel10Ideal.Value
public import proofs.«01_k».proof.Proof.Gen.Reference10Ideal.Run

@[expose] public section

noncomputable section

namespace Cert.Proof.DF

section Call

open Cert.Kernel10Ideal Cert.Kernel10Ideal.Gen Idealize.ShloMosaic Idealize.ShloMosaic.TcCoe Products

/-- A grid point's block: the product of its two blocks. -/
theorem block_at (x0 : Vec Ideal S1024x1024 .bf16) (x1 : Vec Ideal S2816x1024 .bf16) (r : Fin 1024) (l : Fin 2816) :
    out0_2 (F := Ideal) x0 x1 (ix2 r l) = ∑ k : Fin 1024, (x0 (ix2 r k) : EReal) * x1 (ix2 l k) := by
  unfold out0_2
  rw [View.canon_unit_zero (S := S1024x2816) hz2, View.ld_unit_zero (S := S1024x1024) hz2, View.ld_unit_zero (S := S2816x1024) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4096x1024 .f32 := m ((c : Thread nD τ).loc main_arg1)
abbrev argB : FVec Ideal S2816x1024 .f32 := m ((c : Thread nD τ).loc main_arg0)

/-- The product's element: the sum over the whole contraction. -/
def elt (x : FVec Ideal S4096x1024 .f32) (y : FVec Ideal S2816x1024 .f32) (i : Fin 4096) (j : Fin 2816) : EReal :=
  ∑ k : Fin 1024, (x (ix2 i k) : EReal) * y (ix2 j k)

theorem blk_a (t : Fin cfg0.N) (r : Fin 1024) (k : Fin 1024) (R : Fin 4096) (Q : Fin 1024) (hR : R.val = t.val * 1024 + r.val) (hQ : Q.val = k.val) :
    iblk m c 0 t (ix2 r k) = argA m c (ix2 R Q) := by
  have e : V m c main_v0 = (truncf .bf16 (argA m c) bitsLt_bf16_f32 : FVec Ideal S4096x1024 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (l : Fin 2816) (k : Fin 1024) (T : Fin 2816) (Q : Fin 1024) (hT : T.val = l.val) (hQ : Q.val = k.val) :
    iblk m c 1 t (ix2 l k) = argB m c (ix2 T Q) := by
  have e : V m c main_v1 = (truncf .bf16 (argB m c) bitsLt_bf16_f32 : FVec Ideal S2816x1024 .bf16) := by
    unfold V; after_reads_simp
  have e' : V m c main_v1 (ix2 T Q) = argB m c (ix2 T Q) := by
    rw [e]; pointwise
  rw [← e']
  unfold iblk
  rw [View.read_apply]
  exact at2 (V m c main_v1) _ _ _ (same (idx_b t).1 hT) (same (idx_b t).2 hQ)

/-- The block a grid point writes holds the array's elements. -/
theorem outs_at (t : Fin cfg0.N) (r : Fin 1024) (l : Fin 2816) (R : Fin 4096) (T : Fin 2816) (hR : R.val = t.val * 1024 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t l k T ⟨k.val, by omega⟩ hT rfl]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4096) (j : Fin 2816), (dats m 0 c).arrAt 2 cfg0.N (ix2 i j) = elt (argA m c) (argB m c) i j := by
  refine in_rows (N := cfg0.N) (tr := 1024) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference10Ideal Cert.Reference10Ideal.Gen Idealize.ShloMosaic Idealize.ShloMosaic.TcCoe

/-- The reference's result at an element. -/
theorem ref_at (x : FVec Ideal S4096x1024 .f32) (y : FVec Ideal S2816x1024 .f32) (i : Fin 4096) (j : Fin 2816) :
    (truncf .bf16 (Host.dotGeneral dot_S4096x1024_S2816x1024_S4096x2816_1_1_0_0_n_n none x y) bitsLt_bf16_f32 : FVec Ideal S4096x2816 .bf16) (ix2 i j) = elt x y i j := by
  unfold elt
  pointwise

/-- The reference ends, its arguments unchanged and every counter at zero. -/
theorem ref_frame : Cert.quiescent_Reference10Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel10Ideal.Gen in
/-- The call and its reference end with the same array, at every argument. -/
theorem algebraic : Cert.algebraic_Kernel10Ideal_Reference10Ideal := by
  intro m g m' g' _ heq
  refine ⟨fun c => (dats m 0 c).arrAt 2 Cert.Kernel10Ideal.cfg0.N, Cert.Kernel10Ideal.Value.run_blocks m g,
    (θ_run Cert.Reference10Ideal.defs _ _).mono (fun r h c => ?_) (Cert.Reference10Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 2816) y
  exact (ref_at _ _ i j).trans (result_at m c i j).symm

end Cert.Proof.DF
-- ==== Proof.WIn.lean ====
/-
The product `w_in`, the input projection: each grid point's block product, and the array the call leaves.
-/
module

public import proofs.«01_k».proof.Proof.Products
public import proofs.«01_k».proof.Proof.Gen.Kernel11Ideal.Value
public import proofs.«01_k».proof.Proof.Gen.Reference11Ideal.Run

@[expose] public section

noncomputable section

namespace Cert.Proof.WIn

section Call

open Cert.Kernel11Ideal Cert.Kernel11Ideal.Gen Idealize.ShloMosaic Idealize.ShloMosaic.TcCoe Products

/-- A grid point's block: the product of its two blocks. -/
theorem block_at (x0 : Vec Ideal S1088x1024 .bf16) (x1 : Vec Ideal S1792x1024 .bf16) (r : Fin 1088) (l : Fin 1792) :
    out0_2 (F := Ideal) x0 x1 (ix2 r l) = ∑ k : Fin 1024, (x0 (ix2 r k) : EReal) * x1 (ix2 l k) := by
  unfold out0_2
  rw [View.canon_unit_zero (S := S1088x1792) hz2, View.ld_unit_zero (S := S1088x1024) hz2, View.ld_unit_zero (S := S1792x1024) hz2]
  unfold k0_pay1
  pointwise

/-- The blocks a grid point reads. -/
theorem idx_a : ∀ t : Fin cfg0.N, win0_0.index t 0 = t.val / 3 ∧ win0_0.index t 1 = 0 := by decide +kernel
theorem idx_b : ∀ t : Fin cfg0.N, win0_1.index t 0 = t.val % 3 ∧ win0_1.index t 1 = 0 := by decide +kernel

variable (m : (ℓ : Loc nD τ sig) → Buf (Elt Ideal) ℓ) (c : Dev nD)

/-- The two arguments. -/
abbrev argA : FVec Ideal S4352x1024 .f32 := m ((c : Thread nD τ).loc main_arg0)
abbrev argB : FVec Ideal S1024x5376 .f32 := m ((c : Thread nD τ).loc main_arg1)

/-- The product's element: the sum over the whole contraction. -/
def elt (x : FVec Ideal S4352x1024 .f32) (y : FVec Ideal S1024x5376 .f32) (i : Fin 4352) (j : Fin 5376) : EReal :=
  ∑ k : Fin 1024, (x (ix2 i k) : EReal) * y (ix2 k j)

theorem blk_a (t : Fin cfg0.N) (r : Fin 1088) (k : Fin 1024) (R : Fin 4352) (Q : Fin 1024) (hR : R.val = t.val / 3 * 1088 + r.val) (hQ : Q.val = k.val) :
    iblk m c 0 t (ix2 r k) = argA m c (ix2 R Q) := by
  have e : V m c main_v0 = (truncf .bf16 (argA m c) bitsLt_bf16_f32 : FVec Ideal S4352x1024 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (l : Fin 1792) (k : Fin 1024) (T : Fin 5376) (Q : Fin 1024) (hT : T.val = t.val % 3 * 1792 + l.val) (hQ : Q.val = k.val) :
    iblk m c 1 t (ix2 l k) = argB m c (ix2 Q T) := by
  have e : V m c main_v2 = (truncf .bf16 (transpose S5376x1024 [1, 0] (argB m c) transposes_S1024x5376_S5376x1024_1_0 : FVec Ideal S5376x1024 .f32) bitsLt_bf16_f32 : FVec Ideal S5376x1024 .bf16) := by
    unfold V; after_reads_simp
  have e' : V m c main_v2 (ix2 T Q) = argB m c (ix2 Q T) := by
    rw [e]; pointwise
  rw [← e']
  unfold iblk
  rw [View.read_apply]
  exact at2 (V m c main_v2) _ _ _ (moved (idx_b t).1 hT) (same (idx_b t).2 hQ)

/-- The block a grid point writes holds the array's elements. -/
theorem outs_at (t : Fin cfg0.N) (r : Fin 1088) (l : Fin 1792) (R : Fin 4352) (T : Fin 5376) (hR : R.val = t.val / 3 * 1088 + r.val) (hT : T.val = t.val % 3 * 1792 + l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t l k T ⟨k.val, by omega⟩ hT rfl]

theorem flush_o : ∀ t : Fin cfg0.N, (cfg0.win 2).flush t = true := by decide +kernel
theorem idx_o : ∀ t : Fin cfg0.N, win0_2.index t 0 = t.val / 3 ∧ win0_2.index t 1 = t.val % 3 := by decide +kernel

/-- The array the call leaves. -/
theorem result_at (i : Fin 4352) (j : Fin 5376) : (dats m 0 c).arrAt 2 cfg0.N (ix2 i j) = elt (argA m c) (argB m c) i j := by
  have hN : 3 * (i.val / 1088) + j.val / 1792 < cfg0.N := by show 3 * (i.val / 1088) + j.val / 1792 < 12; omega
  have hb := congrFun (Value.blocks2 m c ⟨3 * (i.val / 1088) + j.val / 1792, hN⟩ (flush_o _)) (ix2 (⟨i.val % 1088, by omega⟩ : Fin 1088) (⟨j.val % 1792, by omega⟩ : Fin 1792))
  rw [Value.flushed2] at hb
  have he : ((cfg0.win 2).blk ⟨3 * (i.val / 1088) + j.val / 1792, hN⟩).view.read (Elt Ideal) ((dats m 0 c).arrAt 2 cfg0.N) (ix2 (⟨i.val % 1088, by omega⟩ : Fin 1088) (⟨j.val % 1792, by omega⟩ : Fin 1792))
      = (dats m 0 c).arrAt 2 cfg0.N (ix2 i j) := by
    rw [View.read_apply]
    exact at2 ((dats m 0 c).arrAt 2 cfg0.N) _ _ _ (moved (idx_o _).1 (by show i.val = (3 * (i.val / 1088) + j.val / 1792) / 3 * 1088 + (i.val % 1088); omega)) (moved (idx_o _).2 (by show j.val = (3 * (i.val / 1088) + j.val / 1792) % 3 * 1792 + (j.val % 1792); omega))
  rw [← he]
  refine hb.trans ?_
  refine outs_at m c ⟨3 * (i.val / 1088) + j.val / 1792, hN⟩ _ _ i j ?_ ?_
  · show i.val = (3 * (i.val / 1088) + j.val / 1792) / 3 * 1088 + i.val % 1088; omega
  · show j.val = (3 * (i.val / 1088) + j.val / 1792) % 3 * 1792 + j.val % 1792; omega

end Call

section Reference

open Cert.Reference11Ideal Cert.Reference11Ideal.Gen Idealize.ShloMosaic Idealize.ShloMosaic.TcCoe

/-- The reference's result at an element. -/
theorem ref_at (x : FVec Ideal S4352x1024 .f32) (y : FVec Ideal S1024x5376 .f32) (i : Fin 4352) (j : Fin 5376) :
    (truncf .bf16 (Host.dotGeneral dot_S4352x1024_S1024x5376_S4352x5376_1_0_0_1_n_n none x y) bitsLt_bf16_f32 : FVec Ideal S4352x5376 .bf16) (ix2 i j) = elt x y i j := by
  unfold elt
  pointwise

/-- The reference ends, its arguments unchanged and every counter at zero. -/
theorem ref_frame : Cert.quiescent_Reference11Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel11Ideal.Gen in
/-- The call and its reference end with the same array, at every argument. -/
theorem algebraic : Cert.algebraic_Kernel11Ideal_Reference11Ideal := by
  intro m g m' g' _ heq
  refine ⟨fun c => (dats m 0 c).arrAt 2 Cert.Kernel11Ideal.cfg0.N, Cert.Kernel11Ideal.Value.run_blocks m g,
    (θ_run Cert.Reference11Ideal.defs _ _).mono (fun r h c => ?_) (Cert.Reference11Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4352) (n1 := 5376) y
  exact (ref_at _ _ i j).trans (result_at m c i j).symm

end Cert.Proof.WIn
-- ==== Proof.WUq.lean ====
/-
The product `w_uq`, the query up-projection: each grid point's block product, and the array the call leaves.
-/
module

public import proofs.«01_k».proof.Proof.Products
public import proofs.«01_k».proof.Proof.Gen.Kernel12Ideal.Value
public import proofs.«01_k».proof.Proof.Gen.Reference12Ideal.Run

@[expose] public section

noncomputable section

namespace Cert.Proof.WUq

section Call

open Cert.Kernel12Ideal Cert.Kernel12Ideal.Gen Idealize.ShloMosaic Idealize.ShloMosaic.TcCoe Products

/-- A grid point's block: the product of its two blocks. -/
theorem block_at (x0 : Vec Ideal S1088x384 .bf16) (x1 : Vec Ideal S1024x384 .bf16) (r : Fin 1088) (l : Fin 1024) :
    out0_2 (F := Ideal) x0 x1 (ix2 r l) = ∑ k : Fin 384, (x0 (ix2 r k) : EReal) * x1 (ix2 l k) := by
  unfold out0_2
  rw [View.canon_unit_zero (S := S1088x1024) hz2, View.ld_unit_zero (S := S1088x384) hz2, View.ld_unit_zero (S := S1024x384) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4352x384 .f32 := m ((c : Thread nD τ).loc main_arg0)
abbrev argB : FVec Ideal S384x1024 .f32 := m ((c : Thread nD τ).loc main_arg1)

/-- The product's element: the sum over the whole contraction. -/
def elt (x : FVec Ideal S4352x384 .f32) (y : FVec Ideal S384x1024 .f32) (i : Fin 4352) (j : Fin 1024) : EReal :=
  ∑ k : Fin 384, (x (ix2 i k) : EReal) * y (ix2 k j)

theorem blk_a (t : Fin cfg0.N) (r : Fin 1088) (k : Fin 384) (R : Fin 4352) (Q : Fin 384) (hR : R.val = t.val * 1088 + r.val) (hQ : Q.val = k.val) :
    iblk m c 0 t (ix2 r k) = argA m c (ix2 R Q) := by
  have e : V m c main_v0 = (truncf .bf16 (argA m c) bitsLt_bf16_f32 : FVec Ideal S4352x384 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (l : Fin 1024) (k : Fin 384) (T : Fin 1024) (Q : Fin 384) (hT : T.val = l.val) (hQ : Q.val = k.val) :
    iblk m c 1 t (ix2 l k) = argB m c (ix2 Q T) := by
  have e : V m c main_v2 = (truncf .bf16 (transpose S1024x384 [1, 0] (argB m c) transposes_S384x1024_S1024x384_1_0 : FVec Ideal S1024x384 .f32) bitsLt_bf16_f32 : FVec Ideal S1024x384 .bf16) := by
    unfold V; after_reads_simp
  have e' : V m c main_v2 (ix2 T Q) = argB m c (ix2 Q T) := by
    rw [e]; pointwise
  rw [← e']
  unfold iblk
  rw [View.read_apply]
  exact at2 (V m c main_v2) _ _ _ (same (idx_b t).1 hT) (same (idx_b t).2 hQ)

/-- The block a grid point writes holds the array's elements. -/
theorem outs_at (t : Fin cfg0.N) (r : Fin 1088) (l : Fin 1024) (R : Fin 4352) (T : Fin 1024) (hR : R.val = t.val * 1088 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t l k T ⟨k.val, by omega⟩ hT rfl]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4352) (j : Fin 1024), (dats m 0 c).arrAt 2 cfg0.N (ix2 i j) = elt (argA m c) (argB m c) i j := by
  refine in_rows (N := cfg0.N) (tr := 1088) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference12Ideal Cert.Reference12Ideal.Gen Idealize.ShloMosaic Idealize.ShloMosaic.TcCoe

/-- The reference's result at an element. -/
theorem ref_at (x : FVec Ideal S4352x384 .f32) (y : FVec Ideal S384x1024 .f32) (i : Fin 4352) (j : Fin 1024) :
    (truncf .bf16 (Host.dotGeneral dot_S4352x384_S384x1024_S4352x1024_1_0_0_1_n_n none x y) bitsLt_bf16_f32 : FVec Ideal S4352x1024 .bf16) (ix2 i j) = elt x y i j := by
  unfold elt
  pointwise

/-- The reference ends, its arguments unchanged and every counter at zero. -/
theorem ref_frame : Cert.quiescent_Reference12Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel12Ideal.Gen in
/-- The call and its reference end with the same array, at every argument. -/
theorem algebraic : Cert.algebraic_Kernel12Ideal_Reference12Ideal := by
  intro m g m' g' _ heq
  refine ⟨fun c => (dats m 0 c).arrAt 2 Cert.Kernel12Ideal.cfg0.N, Cert.Kernel12Ideal.Value.run_blocks m g,
    (θ_run Cert.Reference12Ideal.defs _ _).mono (fun r h c => ?_) (Cert.Reference12Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4352) (n1 := 1024) y
  exact (ref_at _ _ i j).trans (result_at m c i j).symm

end Cert.Proof.WUq
-- ==== Proof.WUkv.lean ====
/-
The product `w_ukv`, the key and value up-projection: each grid point's block product, and the array the call leaves.
-/
module

public import proofs.«01_k».proof.Proof.Products
public import proofs.«01_k».proof.Proof.Gen.Kernel13Ideal.Value
public import proofs.«01_k».proof.Proof.Gen.Reference13Ideal.Run

@[expose] public section

noncomputable section

namespace Cert.Proof.WUkv

section Call

open Cert.Kernel13Ideal Cert.Kernel13Ideal.Gen Idealize.ShloMosaic Idealize.ShloMosaic.TcCoe Products

/-- A grid point's block: the product of its two blocks. -/
theorem block_at (x0 : Vec Ideal S1088x256 .bf16) (x1 : Vec Ideal S1024x256 .bf16) (r : Fin 1088) (l : Fin 1024) :
    out0_2 (F := Ideal) x0 x1 (ix2 r l) = ∑ k : Fin 256, (x0 (ix2 r k) : EReal) * x1 (ix2 l k) := by
  unfold out0_2
  rw [View.canon_unit_zero (S := S1088x1024) hz2, View.ld_unit_zero (S := S1088x256) hz2, View.ld_unit_zero (S := S1024x256) hz2]
  unfold k0_pay1
  pointwise

/-- The blocks a grid point reads. -/
theorem idx_a : ∀ t : Fin cfg0.N, win0_0.index t 0 = t.val / 2 ∧ win0_0.index t 1 = 0 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S4352x256 .f32 := m ((c : Thread nD τ).loc main_arg0)
abbrev argB : FVec Ideal S256x2048 .f32 := m ((c : Thread nD τ).loc main_arg1)

/-- The product's element: the sum over the whole contraction. -/
def elt (x : FVec Ideal S4352x256 .f32) (y : FVec Ideal S256x2048 .f32) (i : Fin 4352) (j : Fin 2048) : EReal :=
  ∑ k : Fin 256, (x (ix2 i k) : EReal) * y (ix2 k j)

theorem blk_a (t : Fin cfg0.N) (r : Fin 1088) (k : Fin 256) (R : Fin 4352) (Q : Fin 256) (hR : R.val = t.val / 2 * 1088 + r.val) (hQ : Q.val = k.val) :
    iblk m c 0 t (ix2 r k) = argA m c (ix2 R Q) := by
  have e : V m c main_v0 = (truncf .bf16 (argA m c) bitsLt_bf16_f32 : FVec Ideal S4352x256 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (l : Fin 1024) (k : Fin 256) (T : Fin 2048) (Q : Fin 256) (hT : T.val = t.val % 2 * 1024 + l.val) (hQ : Q.val = k.val) :
    iblk m c 1 t (ix2 l k) = argB m c (ix2 Q T) := by
  have e : V m c main_v2 = (truncf .bf16 (transpose S2048x256 [1, 0] (argB m c) transposes_S256x2048_S2048x256_1_0 : FVec Ideal S2048x256 .f32) bitsLt_bf16_f32 : FVec Ideal S2048x256 .bf16) := by
    unfold V; after_reads_simp
  have e' : V m c main_v2 (ix2 T Q) = argB m c (ix2 Q T) := by
    rw [e]; pointwise
  rw [← e']
  unfold iblk
  rw [View.read_apply]
  exact at2 (V m c main_v2) _ _ _ (moved (idx_b t).1 hT) (same (idx_b t).2 hQ)

/-- The block a grid point writes holds the array's elements. -/
theorem outs_at (t : Fin cfg0.N) (r : Fin 1088) (l : Fin 1024) (R : Fin 4352) (T : Fin 2048) (hR : R.val = t.val / 2 * 1088 + r.val) (hT : T.val = t.val % 2 * 1024 + l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t l k T ⟨k.val, by omega⟩ hT rfl]

theorem flush_o : ∀ t : Fin cfg0.N, (cfg0.win 2).flush t = true := by decide +kernel
theorem idx_o : ∀ t : Fin cfg0.N, win0_2.index t 0 = t.val / 2 ∧ win0_2.index t 1 = t.val % 2 := by decide +kernel

/-- The array the call leaves. -/
theorem result_at (i : Fin 4352) (j : Fin 2048) : (dats m 0 c).arrAt 2 cfg0.N (ix2 i j) = elt (argA m c) (argB m c) i j := by
  have hN : 2 * (i.val / 1088) + j.val / 1024 < cfg0.N := by show 2 * (i.val / 1088) + j.val / 1024 < 8; omega
  have hb := congrFun (Value.blocks2 m c ⟨2 * (i.val / 1088) + j.val / 1024, hN⟩ (flush_o _)) (ix2 (⟨i.val % 1088, by omega⟩ : Fin 1088) (⟨j.val % 1024, by omega⟩ : Fin 1024))
  rw [Value.flushed2] at hb
  have he : ((cfg0.win 2).blk ⟨2 * (i.val / 1088) + j.val / 1024, hN⟩).view.read (Elt Ideal) ((dats m 0 c).arrAt 2 cfg0.N) (ix2 (⟨i.val % 1088, by omega⟩ : Fin 1088) (⟨j.val % 1024, by omega⟩ : Fin 1024))
      = (dats m 0 c).arrAt 2 cfg0.N (ix2 i j) := by
    rw [View.read_apply]
    exact at2 ((dats m 0 c).arrAt 2 cfg0.N) _ _ _ (moved (idx_o _).1 (by show i.val = (2 * (i.val / 1088) + j.val / 1024) / 2 * 1088 + (i.val % 1088); omega)) (moved (idx_o _).2 (by show j.val = (2 * (i.val / 1088) + j.val / 1024) % 2 * 1024 + (j.val % 1024); omega))
  rw [← he]
  refine hb.trans ?_
  refine outs_at m c ⟨2 * (i.val / 1088) + j.val / 1024, hN⟩ _ _ i j ?_ ?_
  · show i.val = (2 * (i.val / 1088) + j.val / 1024) / 2 * 1088 + i.val % 1088; omega
  · show j.val = (2 * (i.val / 1088) + j.val / 1024) % 2 * 1024 + j.val % 1024; omega

end Call

section Reference

open Cert.Reference13Ideal Cert.Reference13Ideal.Gen Idealize.ShloMosaic Idealize.ShloMosaic.TcCoe

/-- The reference's result at an element. -/
theorem ref_at (x : FVec Ideal S4352x256 .f32) (y : FVec Ideal S256x2048 .f32) (i : Fin 4352) (j : Fin 2048) :
    (truncf .bf16 (Host.dotGeneral dot_S4352x256_S256x2048_S4352x2048_1_0_0_1_n_n none x y) bitsLt_bf16_f32 : FVec Ideal S4352x2048 .bf16) (ix2 i j) = elt x y i j := by
  unfold elt
  pointwise

/-- The reference ends, its arguments unchanged and every counter at zero. -/
theorem ref_frame : Cert.quiescent_Reference13Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel13Ideal.Gen in
/-- The call and its reference end with the same array, at every argument. -/
theorem algebraic : Cert.algebraic_Kernel13Ideal_Reference13Ideal := by
  intro m g m' g' _ heq
  refine ⟨fun c => (dats m 0 c).arrAt 2 Cert.Kernel13Ideal.cfg0.N, Cert.Kernel13Ideal.Value.run_blocks m g,
    (θ_run Cert.Reference13Ideal.defs _ _).mono (fun r h c => ?_) (Cert.Reference13Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4352) (n1 := 2048) y
  exact (ref_at _ _ i j).trans (result_at m c i j).symm

end Cert.Proof.WUkv
-- ==== Proof.WOAttn.lean ====
/-
The product `w_o_attn`, the attention's output projection: each grid point's block product, and the array the call leaves.
-/
module

public import proofs.«01_k».proof.Proof.Products
public import proofs.«01_k».proof.Proof.Gen.Kernel14Ideal.Value
public import proofs.«01_k».proof.Proof.Gen.Reference14Ideal.Run

@[expose] public section

noncomputable section

namespace Cert.Proof.WOAttn

section Call

open Cert.Kernel14Ideal Cert.Kernel14Ideal.Gen Idealize.ShloMosaic Idealize.ShloMosaic.TcCoe Products

/-- A grid point's block: the product of its two blocks. -/
theorem block_at (x0 : Vec Ideal S1024x1024 .bf16) (x1 : Vec Ideal S1024x1024 .bf16) (r : Fin 1024) (l : Fin 1024) :
    out0_2 (F := Ideal) x0 x1 (ix2 r l) = ∑ k : Fin 1024, (x0 (ix2 r k) : EReal) * x1 (ix2 l k) := by
  unfold out0_2
  rw [View.canon_unit_zero (S := S1024x1024) hz2, View.ld_unit_zero (S := S1024x1024) hz2, View.ld_unit_zero (S := S1024x1024) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4096x1024 .f32 := m ((c : Thread nD τ).loc main_arg0)
abbrev argB : FVec Ideal S1024x1024 .f32 := m ((c : Thread nD τ).loc main_arg1)

/-- The product's element: the sum over the whole contraction. -/
def elt (x : FVec Ideal S4096x1024 .f32) (y : FVec Ideal S1024x1024 .f32) (i : Fin 4096) (j : Fin 1024) : EReal :=
  ∑ k : Fin 1024, (x (ix2 i k) : EReal) * y (ix2 k j)

theorem blk_a (t : Fin cfg0.N) (r : Fin 1024) (k : Fin 1024) (R : Fin 4096) (Q : Fin 1024) (hR : R.val = t.val * 1024 + r.val) (hQ : Q.val = k.val) :
    iblk m c 0 t (ix2 r k) = argA m c (ix2 R Q) := by
  have e : V m c main_v0 = (truncf .bf16 (argA m c) bitsLt_bf16_f32 : FVec Ideal S4096x1024 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (l : Fin 1024) (k : Fin 1024) (T : Fin 1024) (Q : Fin 1024) (hT : T.val = l.val) (hQ : Q.val = k.val) :
    iblk m c 1 t (ix2 l k) = argB m c (ix2 Q T) := by
  have e : V m c main_v2 = (truncf .bf16 (transpose S1024x1024 [1, 0] (argB m c) transposes_S1024x1024_S1024x1024_1_0 : FVec Ideal S1024x1024 .f32) bitsLt_bf16_f32 : FVec Ideal S1024x1024 .bf16) := by
    unfold V; after_reads_simp
  have e' : V m c main_v2 (ix2 T Q) = argB m c (ix2 Q T) := by
    rw [e]; pointwise
  rw [← e']
  unfold iblk
  rw [View.read_apply]
  exact at2 (V m c main_v2) _ _ _ (same (idx_b t).1 hT) (same (idx_b t).2 hQ)

/-- The block a grid point writes holds the array's elements. -/
theorem outs_at (t : Fin cfg0.N) (r : Fin 1024) (l : Fin 1024) (R : Fin 4096) (T : Fin 1024) (hR : R.val = t.val * 1024 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t l k T ⟨k.val, by omega⟩ hT rfl]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4096) (j : Fin 1024), (dats m 0 c).arrAt 2 cfg0.N (ix2 i j) = elt (argA m c) (argB m c) i j := by
  refine in_rows (N := cfg0.N) (tr := 1024) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference14Ideal Cert.Reference14Ideal.Gen Idealize.ShloMosaic Idealize.ShloMosaic.TcCoe

/-- The reference's result at an element. -/
theorem ref_at (x : FVec Ideal S4096x1024 .f32) (y : FVec Ideal S1024x1024 .f32) (i : Fin 4096) (j : Fin 1024) :
    (truncf .bf16 (Host.dotGeneral dot_S4096x1024_S1024x1024_S4096x1024_1_0_0_1_n_n none x y) bitsLt_bf16_f32 : FVec Ideal S4096x1024 .bf16) (ix2 i j) = elt x y i j := by
  unfold elt
  pointwise

/-- The reference ends, its arguments unchanged and every counter at zero. -/
theorem ref_frame : Cert.quiescent_Reference14Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel14Ideal.Gen in
/-- The call and its reference end with the same array, at every argument. -/
theorem algebraic : Cert.algebraic_Kernel14Ideal_Reference14Ideal := by
  intro m g m' g' _ heq
  refine ⟨fun c => (dats m 0 c).arrAt 2 Cert.Kernel14Ideal.cfg0.N, Cert.Kernel14Ideal.Value.run_blocks m g,
    (θ_run Cert.Reference14Ideal.defs _ _).mono (fun r h c => ?_) (Cert.Reference14Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 1024) y
  exact (ref_at _ _ i j).trans (result_at m c i j).symm

end Cert.Proof.WOAttn
-- ==== Proof.WOLru.lean ====
/-
The product `w_o_lru`, the recurrence's output projection: each grid point's block product, and the array the call leaves.
-/
module

public import proofs.«01_k».proof.Proof.Products
public import proofs.«01_k».proof.Proof.Gen.Kernel15Ideal.Value
public import proofs.«01_k».proof.Proof.Gen.Reference15Ideal.Run

@[expose] public section

noncomputable section

namespace Cert.Proof.WOLru

section Call

open Cert.Kernel15Ideal Cert.Kernel15Ideal.Gen Idealize.ShloMosaic Idealize.ShloMosaic.TcCoe Products

/-- A grid point's block: the product of its two blocks. -/
theorem block_at (x0 : Vec Ideal S1024x1280 .bf16) (x1 : Vec Ideal S1280x1024 .bf16) (r : Fin 1024) (l : Fin 1024) :
    out0_2 (F := Ideal) x0 x1 (ix2 r l) = ∑ k : Fin 1280, (x0 (ix2 r k) : EReal) * x1 (ix2 k l) := by
  unfold out0_2
  rw [View.canon_unit_zero (S := S1024x1024) hz2, View.ld_unit_zero (S := S1024x1280) hz2, View.ld_unit_zero (S := S1280x1024) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4096x1280 .f32 := m ((c : Thread nD τ).loc main_arg0)
abbrev argB : FVec Ideal S1280x1024 .f32 := m ((c : Thread nD τ).loc main_arg1)

/-- The product's element: the sum over the whole contraction. -/
def elt (x : FVec Ideal S4096x1280 .f32) (y : FVec Ideal S1280x1024 .f32) (i : Fin 4096) (j : Fin 1024) : EReal :=
  ∑ k : Fin 1280, (x (ix2 i k) : EReal) * y (ix2 k j)

theorem blk_a (t : Fin cfg0.N) (r : Fin 1024) (k : Fin 1280) (R : Fin 4096) (Q : Fin 1280) (hR : R.val = t.val * 1024 + r.val) (hQ : Q.val = k.val) :
    iblk m c 0 t (ix2 r k) = argA m c (ix2 R Q) := by
  have e : V m c main_v0 = (truncf .bf16 (argA m c) bitsLt_bf16_f32 : FVec Ideal S4096x1280 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (k : Fin 1280) (l : Fin 1024) (Q : Fin 1280) (T : Fin 1024) (hQ : Q.val = k.val) (hT : T.val = l.val) :
    iblk m c 1 t (ix2 k l) = argB m c (ix2 Q T) := by
  have e : V m c main_v1 = (truncf .bf16 (argB m c) bitsLt_bf16_f32 : FVec Ideal S1280x1024 .bf16) := by
    unfold V; after_reads_simp
  have e' : V m c main_v1 (ix2 Q T) = argB m c (ix2 Q T) := by
    rw [e]; pointwise
  rw [← e']
  unfold iblk
  rw [View.read_apply]
  exact at2 (V m c main_v1) _ _ _ (same (idx_b t).1 hQ) (same (idx_b t).2 hT)

/-- The block a grid point writes holds the array's elements. -/
theorem outs_at (t : Fin cfg0.N) (r : Fin 1024) (l : Fin 1024) (R : Fin 4096) (T : Fin 1024) (hR : R.val = t.val * 1024 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t k l ⟨k.val, by omega⟩ T rfl hT]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4096) (j : Fin 1024), (dats m 0 c).arrAt 2 cfg0.N (ix2 i j) = elt (argA m c) (argB m c) i j := by
  refine in_rows (N := cfg0.N) (tr := 1024) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference15Ideal Cert.Reference15Ideal.Gen Idealize.ShloMosaic Idealize.ShloMosaic.TcCoe

/-- The reference's result at an element. -/
theorem ref_at (x : FVec Ideal S4096x1280 .f32) (y : FVec Ideal S1280x1024 .f32) (i : Fin 4096) (j : Fin 1024) :
    (truncf .bf16 (Host.dotGeneral dot_S4096x1280_S1280x1024_S4096x1024_1_0_0_1_n_n none x y) bitsLt_bf16_f32 : FVec Ideal S4096x1024 .bf16) (ix2 i j) = elt x y i j := by
  unfold elt
  pointwise

/-- The reference ends, its arguments unchanged and every counter at zero. -/
theorem ref_frame : Cert.quiescent_Reference15Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel15Ideal.Gen in
/-- The call and its reference end with the same array, at every argument. -/
theorem algebraic : Cert.algebraic_Kernel15Ideal_Reference15Ideal := by
  intro m g m' g' _ heq
  refine ⟨fun c => (dats m 0 c).arrAt 2 Cert.Kernel15Ideal.cfg0.N, Cert.Kernel15Ideal.Value.run_blocks m g,
    (θ_run Cert.Reference15Ideal.defs _ _).mono (fun r h c => ?_) (Cert.Reference15Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 1024) y
  exact (ref_at _ _ i j).trans (result_at m c i j).symm

end Cert.Proof.WOLru
-- ==== Proof.WOut.lean ====
/-
The product `w_out`, the merged branches' output projection: each grid point's block product, and the array the call leaves.
-/
module

public import proofs.«01_k».proof.Proof.Products
public import proofs.«01_k».proof.Proof.Gen.Kernel16Ideal.Value
public import proofs.«01_k».proof.Proof.Gen.Reference16Ideal.Run

@[expose] public section

noncomputable section

namespace Cert.Proof.WOut

section Call

open Cert.Kernel16Ideal Cert.Kernel16Ideal.Gen Idealize.ShloMosaic Idealize.ShloMosaic.TcCoe Products

/-- A grid point's block: the product of its two blocks. -/
theorem block_at (x0 : Vec Ideal S1024x1024 .bf16) (x1 : Vec Ideal S1024x1024 .bf16) (r : Fin 1024) (l : Fin 1024) :
    out0_2 (F := Ideal) x0 x1 (ix2 r l) = ∑ k : Fin 1024, (x0 (ix2 r k) : EReal) * x1 (ix2 k l) := by
  unfold out0_2
  rw [View.canon_unit_zero (S := S1024x1024) hz2, View.ld_unit_zero (S := S1024x1024) hz2, View.ld_unit_zero (S := S1024x1024) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4096x1024 .f32 := m ((c : Thread nD τ).loc main_arg0)
abbrev argB : FVec Ideal S1024x1024 .f32 := m ((c : Thread nD τ).loc main_arg1)

/-- The product's element: the sum over the whole contraction. -/
def elt (x : FVec Ideal S4096x1024 .f32) (y : FVec Ideal S1024x1024 .f32) (i : Fin 4096) (j : Fin 1024) : EReal :=
  ∑ k : Fin 1024, (x (ix2 i k) : EReal) * y (ix2 k j)

theorem blk_a (t : Fin cfg0.N) (r : Fin 1024) (k : Fin 1024) (R : Fin 4096) (Q : Fin 1024) (hR : R.val = t.val * 1024 + r.val) (hQ : Q.val = k.val) :
    iblk m c 0 t (ix2 r k) = argA m c (ix2 R Q) := by
  have e : V m c main_v0 = (truncf .bf16 (argA m c) bitsLt_bf16_f32 : FVec Ideal S4096x1024 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (k : Fin 1024) (l : Fin 1024) (Q : Fin 1024) (T : Fin 1024) (hQ : Q.val = k.val) (hT : T.val = l.val) :
    iblk m c 1 t (ix2 k l) = argB m c (ix2 Q T) := by
  have e : V m c main_v1 = (truncf .bf16 (argB m c) bitsLt_bf16_f32 : FVec Ideal S1024x1024 .bf16) := by
    unfold V; after_reads_simp
  have e' : V m c main_v1 (ix2 Q T) = argB m c (ix2 Q T) := by
    rw [e]; pointwise
  rw [← e']
  unfold iblk
  rw [View.read_apply]
  exact at2 (V m c main_v1) _ _ _ (same (idx_b t).1 hQ) (same (idx_b t).2 hT)

/-- The block a grid point writes holds the array's elements. -/
theorem outs_at (t : Fin cfg0.N) (r : Fin 1024) (l : Fin 1024) (R : Fin 4096) (T : Fin 1024) (hR : R.val = t.val * 1024 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t k l ⟨k.val, by omega⟩ T rfl hT]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4096) (j : Fin 1024), (dats m 0 c).arrAt 2 cfg0.N (ix2 i j) = elt (argA m c) (argB m c) i j := by
  refine in_rows (N := cfg0.N) (tr := 1024) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference16Ideal Cert.Reference16Ideal.Gen Idealize.ShloMosaic Idealize.ShloMosaic.TcCoe

/-- The reference's result at an element. -/
theorem ref_at (x : FVec Ideal S4096x1024 .f32) (y : FVec Ideal S1024x1024 .f32) (i : Fin 4096) (j : Fin 1024) :
    (truncf .bf16 (Host.dotGeneral dot_S4096x1024_S1024x1024_S4096x1024_1_0_0_1_n_n none x y) bitsLt_bf16_f32 : FVec Ideal S4096x1024 .bf16) (ix2 i j) = elt x y i j := by
  unfold elt
  pointwise

/-- The reference ends, its arguments unchanged and every counter at zero. -/
theorem ref_frame : Cert.quiescent_Reference16Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel16Ideal.Gen in
/-- The call and its reference end with the same array, at every argument. -/
theorem algebraic : Cert.algebraic_Kernel16Ideal_Reference16Ideal := by
  intro m g m' g' _ heq
  refine ⟨fun c => (dats m 0 c).arrAt 2 Cert.Kernel16Ideal.cfg0.N, Cert.Kernel16Ideal.Value.run_blocks m g,
    (θ_run Cert.Reference16Ideal.defs _ _).mono (fun r h c => ?_) (Cert.Reference16Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 1024) y
  exact (ref_at _ _ i j).trans (result_at m c i j).symm

end Cert.Proof.WOut
-- ==== Proof.DMerge.lean ====
/-
The product `d_merge`, the cotangent of the merged branches: each grid point's block product, and the array the call leaves.
-/
module

public import proofs.«01_k».proof.Proof.Products
public import proofs.«01_k».proof.Proof.Gen.Kernel17Ideal.Value
public import proofs.«01_k».proof.Proof.Gen.Reference17Ideal.Run

@[expose] public section

noncomputable section

namespace Cert.Proof.DMerge

section Call

open Cert.Kernel17Ideal Cert.Kernel17Ideal.Gen Idealize.ShloMosaic Idealize.ShloMosaic.TcCoe Products

/-- A grid point's block: the product of its two blocks. -/
theorem block_at (x0 : Vec Ideal S1024x1024 .bf16) (x1 : Vec Ideal S1024x1024 .bf16) (r : Fin 1024) (l : Fin 1024) :
    out0_2 (F := Ideal) x0 x1 (ix2 r l) = ∑ k : Fin 1024, (x0 (ix2 r k) : EReal) * x1 (ix2 l k) := by
  unfold out0_2
  rw [View.canon_unit_zero (S := S1024x1024) hz2, View.ld_unit_zero (S := S1024x1024) hz2, View.ld_unit_zero (S := S1024x1024) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4096x1024 .f32 := m ((c : Thread nD τ).loc main_arg1)
abbrev argB : FVec Ideal S1024x1024 .f32 := m ((c : Thread nD τ).loc main_arg0)

/-- The product's element: the sum over the whole contraction. -/
def elt (x : FVec Ideal S4096x1024 .f32) (y : FVec Ideal S1024x1024 .f32) (i : Fin 4096) (j : Fin 1024) : EReal :=
  ∑ k : Fin 1024, (x (ix2 i k) : EReal) * y (ix2 j k)

theorem blk_a (t : Fin cfg0.N) (r : Fin 1024) (k : Fin 1024) (R : Fin 4096) (Q : Fin 1024) (hR : R.val = t.val * 1024 + r.val) (hQ : Q.val = k.val) :
    iblk m c 0 t (ix2 r k) = argA m c (ix2 R Q) := by
  have e : V m c main_v0 = (truncf .bf16 (argA m c) bitsLt_bf16_f32 : FVec Ideal S4096x1024 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (l : Fin 1024) (k : Fin 1024) (T : Fin 1024) (Q : Fin 1024) (hT : T.val = l.val) (hQ : Q.val = k.val) :
    iblk m c 1 t (ix2 l k) = argB m c (ix2 T Q) := by
  have e : V m c main_v1 = (truncf .bf16 (argB m c) bitsLt_bf16_f32 : FVec Ideal S1024x1024 .bf16) := by
    unfold V; after_reads_simp
  have e' : V m c main_v1 (ix2 T Q) = argB m c (ix2 T Q) := by
    rw [e]; pointwise
  rw [← e']
  unfold iblk
  rw [View.read_apply]
  exact at2 (V m c main_v1) _ _ _ (same (idx_b t).1 hT) (same (idx_b t).2 hQ)

/-- The block a grid point writes holds the array's elements. -/
theorem outs_at (t : Fin cfg0.N) (r : Fin 1024) (l : Fin 1024) (R : Fin 4096) (T : Fin 1024) (hR : R.val = t.val * 1024 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t l k T ⟨k.val, by omega⟩ hT rfl]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4096) (j : Fin 1024), (dats m 0 c).arrAt 2 cfg0.N (ix2 i j) = elt (argA m c) (argB m c) i j := by
  refine in_rows (N := cfg0.N) (tr := 1024) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference17Ideal Cert.Reference17Ideal.Gen Idealize.ShloMosaic Idealize.ShloMosaic.TcCoe

/-- The reference's result at an element. -/
theorem ref_at (x : FVec Ideal S4096x1024 .f32) (y : FVec Ideal S1024x1024 .f32) (i : Fin 4096) (j : Fin 1024) :
    (truncf .bf16 (Host.dotGeneral dot_S4096x1024_S1024x1024_S4096x1024_1_1_0_0_n_n none x y) bitsLt_bf16_f32 : FVec Ideal S4096x1024 .bf16) (ix2 i j) = elt x y i j := by
  unfold elt
  pointwise

/-- The reference ends, its arguments unchanged and every counter at zero. -/
theorem ref_frame : Cert.quiescent_Reference17Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel17Ideal.Gen in
/-- The call and its reference end with the same array, at every argument. -/
theorem algebraic : Cert.algebraic_Kernel17Ideal_Reference17Ideal := by
  intro m g m' g' _ heq
  refine ⟨fun c => (dats m 0 c).arrAt 2 Cert.Kernel17Ideal.cfg0.N, Cert.Kernel17Ideal.Value.run_blocks m g,
    (θ_run Cert.Reference17Ideal.defs _ _).mono (fun r h c => ?_) (Cert.Reference17Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 1024) y
  exact (ref_at _ _ i j).trans (result_at m c i j).symm

end Cert.Proof.DMerge
-- ==== Proof.DAttn.lean ====
/-
The product `d_attn`, the cotangent of the attention's output: each grid point's block product, and the array the call leaves.
-/
module

public import proofs.«01_k».proof.Proof.Products
public import proofs.«01_k».proof.Proof.Gen.Kernel18Ideal.Value
public import proofs.«01_k».proof.Proof.Gen.Reference18Ideal.Run

@[expose] public section

noncomputable section

namespace Cert.Proof.DAttn

section Call

open Cert.Kernel18Ideal Cert.Kernel18Ideal.Gen Idealize.ShloMosaic Idealize.ShloMosaic.TcCoe Products

/-- A grid point's block: the product of its two blocks. -/
theorem block_at (x0 : Vec Ideal S1024x1024 .bf16) (x1 : Vec Ideal S1024x1024 .bf16) (r : Fin 1024) (l : Fin 1024) :
    out0_2 (F := Ideal) x0 x1 (ix2 r l) = ∑ k : Fin 1024, (x0 (ix2 r k) : EReal) * x1 (ix2 k l) := by
  unfold out0_2
  rw [View.canon_unit_zero (S := S1024x1024) hz2, View.ld_unit_zero (S := S1024x1024) hz2, View.ld_unit_zero (S := S1024x1024) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4096x1024 .f32 := m ((c : Thread nD τ).loc main_arg1)
abbrev argB : FVec Ideal S1024x1024 .f32 := m ((c : Thread nD τ).loc main_arg0)

/-- The product's element: the sum over the whole contraction. -/
def elt (x : FVec Ideal S4096x1024 .f32) (y : FVec Ideal S1024x1024 .f32) (i : Fin 4096) (j : Fin 1024) : EReal :=
  ∑ k : Fin 1024, (x (ix2 i k) : EReal) * y (ix2 j k)

theorem blk_a (t : Fin cfg0.N) (r : Fin 1024) (k : Fin 1024) (R : Fin 4096) (Q : Fin 1024) (hR : R.val = t.val * 1024 + r.val) (hQ : Q.val = k.val) :
    iblk m c 0 t (ix2 r k) = argA m c (ix2 R Q) := by
  have e : V m c main_v0 = (truncf .bf16 (argA m c) bitsLt_bf16_f32 : FVec Ideal S4096x1024 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (k : Fin 1024) (l : Fin 1024) (Q : Fin 1024) (T : Fin 1024) (hQ : Q.val = k.val) (hT : T.val = l.val) :
    iblk m c 1 t (ix2 k l) = argB m c (ix2 T Q) := by
  have e : V m c main_v2 = (truncf .bf16 (transpose S1024x1024 [1, 0] (argB m c) transposes_S1024x1024_S1024x1024_1_0 : FVec Ideal S1024x1024 .f32) bitsLt_bf16_f32 : FVec Ideal S1024x1024 .bf16) := by
    unfold V; after_reads_simp
  have e' : V m c main_v2 (ix2 Q T) = argB m c (ix2 T Q) := by
    rw [e]; pointwise
  rw [← e']
  unfold iblk
  rw [View.read_apply]
  exact at2 (V m c main_v2) _ _ _ (same (idx_b t).1 hQ) (same (idx_b t).2 hT)

/-- The block a grid point writes holds the array's elements. -/
theorem outs_at (t : Fin cfg0.N) (r : Fin 1024) (l : Fin 1024) (R : Fin 4096) (T : Fin 1024) (hR : R.val = t.val * 1024 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t k l ⟨k.val, by omega⟩ T rfl hT]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4096) (j : Fin 1024), (dats m 0 c).arrAt 2 cfg0.N (ix2 i j) = elt (argA m c) (argB m c) i j := by
  refine in_rows (N := cfg0.N) (tr := 1024) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference18Ideal Cert.Reference18Ideal.Gen Idealize.ShloMosaic Idealize.ShloMosaic.TcCoe

/-- The reference's result at an element. -/
theorem ref_at (x : FVec Ideal S4096x1024 .f32) (y : FVec Ideal S1024x1024 .f32) (i : Fin 4096) (j : Fin 1024) :
    (truncf .bf16 (Host.dotGeneral dot_S4096x1024_S1024x1024_S4096x1024_1_1_0_0_n_n none x y) bitsLt_bf16_f32 : FVec Ideal S4096x1024 .bf16) (ix2 i j) = elt x y i j := by
  unfold elt
  pointwise

/-- The reference ends, its arguments unchanged and every counter at zero. -/
theorem ref_frame : Cert.quiescent_Reference18Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel18Ideal.Gen in
/-- The call and its reference end with the same array, at every argument. -/
theorem algebraic : Cert.algebraic_Kernel18Ideal_Reference18Ideal := by
  intro m g m' g' _ heq
  refine ⟨fun c => (dats m 0 c).arrAt 2 Cert.Kernel18Ideal.cfg0.N, Cert.Kernel18Ideal.Value.run_blocks m g,
    (θ_run Cert.Reference18Ideal.defs _ _).mono (fun r h c => ?_) (Cert.Reference18Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 1024) y
  exact (ref_at _ _ i j).trans (result_at m c i j).symm

end Cert.Proof.DAttn
-- ==== Proof.DLruOut.lean ====
/-
The product `d_lru_out`, the cotangent of the recurrence's output: each grid point's block product, and the array the call leaves.
-/
module

public import proofs.«01_k».proof.Proof.Products
public import proofs.«01_k».proof.Proof.Gen.Kernel19Ideal.Value
public import proofs.«01_k».proof.Proof.Gen.Reference19Ideal.Run

@[expose] public section

noncomputable section

namespace Cert.Proof.DLruOut

section Call

open Cert.Kernel19Ideal Cert.Kernel19Ideal.Gen Idealize.ShloMosaic Idealize.ShloMosaic.TcCoe Products

/-- A grid point's block: the product of its two blocks. -/
theorem block_at (x0 : Vec Ideal S1024x1024 .bf16) (x1 : Vec Ideal S1280x1024 .bf16) (r : Fin 1024) (l : Fin 1280) :
    out0_2 (F := Ideal) x0 x1 (ix2 r l) = ∑ k : Fin 1024, (x0 (ix2 r k) : EReal) * x1 (ix2 l k) := by
  unfold out0_2
  rw [View.canon_unit_zero (S := S1024x1280) hz2, View.ld_unit_zero (S := S1024x1024) hz2, View.ld_unit_zero (S := S1280x1024) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4096x1024 .f32 := m ((c : Thread nD τ).loc main_arg1)
abbrev argB : FVec Ideal S1280x1024 .f32 := m ((c : Thread nD τ).loc main_arg0)

/-- The product's element: the sum over the whole contraction. -/
def elt (x : FVec Ideal S4096x1024 .f32) (y : FVec Ideal S1280x1024 .f32) (i : Fin 4096) (j : Fin 1280) : EReal :=
  ∑ k : Fin 1024, (x (ix2 i k) : EReal) * y (ix2 j k)

theorem blk_a (t : Fin cfg0.N) (r : Fin 1024) (k : Fin 1024) (R : Fin 4096) (Q : Fin 1024) (hR : R.val = t.val * 1024 + r.val) (hQ : Q.val = k.val) :
    iblk m c 0 t (ix2 r k) = argA m c (ix2 R Q) := by
  have e : V m c main_v0 = (truncf .bf16 (argA m c) bitsLt_bf16_f32 : FVec Ideal S4096x1024 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (l : Fin 1280) (k : Fin 1024) (T : Fin 1280) (Q : Fin 1024) (hT : T.val = l.val) (hQ : Q.val = k.val) :
    iblk m c 1 t (ix2 l k) = argB m c (ix2 T Q) := by
  have e : V m c main_v1 = (truncf .bf16 (argB m c) bitsLt_bf16_f32 : FVec Ideal S1280x1024 .bf16) := by
    unfold V; after_reads_simp
  have e' : V m c main_v1 (ix2 T Q) = argB m c (ix2 T Q) := by
    rw [e]; pointwise
  rw [← e']
  unfold iblk
  rw [View.read_apply]
  exact at2 (V m c main_v1) _ _ _ (same (idx_b t).1 hT) (same (idx_b t).2 hQ)

/-- The block a grid point writes holds the array's elements. -/
theorem outs_at (t : Fin cfg0.N) (r : Fin 1024) (l : Fin 1280) (R : Fin 4096) (T : Fin 1280) (hR : R.val = t.val * 1024 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t l k T ⟨k.val, by omega⟩ hT rfl]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4096) (j : Fin 1280), (dats m 0 c).arrAt 2 cfg0.N (ix2 i j) = elt (argA m c) (argB m c) i j := by
  refine in_rows (N := cfg0.N) (tr := 1024) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference19Ideal Cert.Reference19Ideal.Gen Idealize.ShloMosaic Idealize.ShloMosaic.TcCoe

/-- The reference's result at an element. -/
theorem ref_at (x : FVec Ideal S4096x1024 .f32) (y : FVec Ideal S1280x1024 .f32) (i : Fin 4096) (j : Fin 1280) :
    (truncf .bf16 (Host.dotGeneral dot_S4096x1024_S1280x1024_S4096x1280_1_1_0_0_n_n none x y) bitsLt_bf16_f32 : FVec Ideal S4096x1280 .bf16) (ix2 i j) = elt x y i j := by
  unfold elt
  pointwise

/-- The reference ends, its arguments unchanged and every counter at zero. -/
theorem ref_frame : Cert.quiescent_Reference19Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel19Ideal.Gen in
/-- The call and its reference end with the same array, at every argument. -/
theorem algebraic : Cert.algebraic_Kernel19Ideal_Reference19Ideal := by
  intro m g m' g' _ heq
  refine ⟨fun c => (dats m 0 c).arrAt 2 Cert.Kernel19Ideal.cfg0.N, Cert.Kernel19Ideal.Value.run_blocks m g,
    (θ_run Cert.Reference19Ideal.defs _ _).mono (fun r h c => ?_) (Cert.Reference19Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4096) (n1 := 1280) y
  exact (ref_at _ _ i j).trans (result_at m c i j).symm

end Cert.Proof.DLruOut
-- ==== Proof.DQn.lean ====
/-
The product `d_qn`, the cotangent of the normalised query latent: each grid point's block product, and the array the call leaves.
-/
module

public import proofs.«01_k».proof.Proof.Products
public import proofs.«01_k».proof.Proof.Gen.Kernel20Ideal.Value
public import proofs.«01_k».proof.Proof.Gen.Reference20Ideal.Run

@[expose] public section

noncomputable section

namespace Cert.Proof.DQn

section Call

open Cert.Kernel20Ideal Cert.Kernel20Ideal.Gen Idealize.ShloMosaic Idealize.ShloMosaic.TcCoe Products

/-- A grid point's block: the product of its two blocks. -/
theorem block_at (x0 : Vec Ideal S1088x1024 .bf16) (x1 : Vec Ideal S1024x384 .bf16) (r : Fin 1088) (l : Fin 384) :
    out0_2 (F := Ideal) x0 x1 (ix2 r l) = ∑ k : Fin 1024, (x0 (ix2 r k) : EReal) * x1 (ix2 k l) := by
  unfold out0_2
  rw [View.canon_unit_zero (S := S1088x384) hz2, View.ld_unit_zero (S := S1088x1024) hz2, View.ld_unit_zero (S := S1024x384) hz2]
  unfold k0_pay1
  pointwise

/-- The blocks a grid point reads. -/
theorem idx_a : ∀ t : Fin cfg0.N, win0_0.index t 0 = t.val ∧ win0_0.index t 1 = 0 := by decide +kernel
theorem idx_b : ∀ t : Fin cfg0.N, win0_1.index t 0 = 0 ∧ win0_1.index t 1 = 0 := by decide +kernel

variable (m : (ℓ : Loc nD τ sig) → Buf (Elt Ideal) ℓ) (c : Dev nD)

/-- The two arguments. -/
abbrev argA : FVec Ideal S4352x1024 .f32 := m ((c : Thread nD τ).loc main_arg1)
abbrev argB : FVec Ideal S384x1024 .f32 := m ((c : Thread nD τ).loc main_arg0)

/-- The product's element: the sum over the whole contraction. -/
def elt (x : FVec Ideal S4352x1024 .f32) (y : FVec Ideal S384x1024 .f32) (i : Fin 4352) (j : Fin 384) : EReal :=
  ∑ k : Fin 1024, (x (ix2 i k) : EReal) * y (ix2 j k)

theorem blk_a (t : Fin cfg0.N) (r : Fin 1088) (k : Fin 1024) (R : Fin 4352) (Q : Fin 1024) (hR : R.val = t.val * 1088 + r.val) (hQ : Q.val = k.val) :
    iblk m c 0 t (ix2 r k) = argA m c (ix2 R Q) := by
  have e : V m c main_v0 = (truncf .bf16 (argA m c) bitsLt_bf16_f32 : FVec Ideal S4352x1024 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (same (idx_a t).2 hQ)

theorem blk_b (t : Fin cfg0.N) (k : Fin 1024) (l : Fin 384) (Q : Fin 1024) (T : Fin 384) (hQ : Q.val = k.val) (hT : T.val = l.val) :
    iblk m c 1 t (ix2 k l) = argB m c (ix2 T Q) := by
  have e : V m c main_v2 = (truncf .bf16 (transpose S1024x384 [1, 0] (argB m c) transposes_S384x1024_S1024x384_1_0 : FVec Ideal S1024x384 .f32) bitsLt_bf16_f32 : FVec Ideal S1024x384 .bf16) := by
    unfold V; after_reads_simp
  have e' : V m c main_v2 (ix2 Q T) = argB m c (ix2 T Q) := by
    rw [e]; pointwise
  rw [← e']
  unfold iblk
  rw [View.read_apply]
  exact at2 (V m c main_v2) _ _ _ (same (idx_b t).1 hQ) (same (idx_b t).2 hT)

/-- The block a grid point writes holds the array's elements. -/
theorem outs_at (t : Fin cfg0.N) (r : Fin 1088) (l : Fin 384) (R : Fin 4352) (T : Fin 384) (hR : R.val = t.val * 1088 + r.val) (hT : T.val = l.val) :
    out0_2 (F := Ideal) (iblk m c 0 t) (iblk m c 1 t) (ix2 r l) = elt (argA m c) (argB m c) R T := by
  rw [block_at]
  unfold elt
  refine Finset.sum_congr rfl fun k _ => ?_
  rw [blk_a m c t r k R ⟨k.val, by omega⟩ hR rfl,
    blk_b m c t k l ⟨k.val, by omega⟩ T rfl hT]

theorem flush_o : ∀ t : Fin cfg0.N, (cfg0.win 2).flush t = true := by decide +kernel
theorem idx_o : ∀ t : Fin cfg0.N, win0_2.index t 0 = t.val ∧ win0_2.index t 1 = 0 := by decide +kernel

/-- The array the call leaves. -/
theorem result_at : ∀ (i : Fin 4352) (j : Fin 384), (dats m 0 c).arrAt 2 cfg0.N (ix2 i j) = elt (argA m c) (argB m c) i j := by
  refine in_rows (N := cfg0.N) (tr := 1088) (by decide) fun t r i j hi => ?_
  have hb := congrFun (Value.blocks2 m c t (flush_o t)) (ix2 r j)
  rw [Value.flushed2, View.read_apply] at hb
  exact (at2 ((dats m 0 c).arrAt 2 cfg0.N) i j _ (moved (idx_o t).1 hi) (whole (idx_o t).2)).symm.trans (hb.trans (outs_at m c t r j i j hi rfl))

end Call

section Reference

open Cert.Reference20Ideal Cert.Reference20Ideal.Gen Idealize.ShloMosaic Idealize.ShloMosaic.TcCoe

/-- The reference's result at an element. -/
theorem ref_at (x : FVec Ideal S4352x1024 .f32) (y : FVec Ideal S384x1024 .f32) (i : Fin 4352) (j : Fin 384) :
    (truncf .bf16 (Host.dotGeneral dot_S4352x1024_S384x1024_S4352x384_1_1_0_0_n_n none x y) bitsLt_bf16_f32 : FVec Ideal S4352x384 .bf16) (ix2 i j) = elt x y i j := by
  unfold elt
  pointwise

/-- The reference ends, its arguments unchanged and every counter at zero. -/
theorem ref_frame : Cert.quiescent_Reference20Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel20Ideal.Gen in
/-- The call and its reference end with the same array, at every argument. -/
theorem algebraic : Cert.algebraic_Kernel20Ideal_Reference20Ideal := by
  intro m g m' g' _ heq
  refine ⟨fun c => (dats m 0 c).arrAt 2 Cert.Kernel20Ideal.cfg0.N, Cert.Kernel20Ideal.Value.run_blocks m g,
    (θ_run Cert.Reference20Ideal.defs _ _).mono (fun r h c => ?_) (Cert.Reference20Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4352) (n1 := 384) y
  exact (ref_at _ _ i j).trans (result_at m c i j).symm

end Cert.Proof.DQn
-- ==== Proof.GWOut.lean ====
/-
The product `g_w_out`, the gradient of the output projection's weight: the steps over the contraction, each adding a block product to the carried sum, and the array the call leaves.
-/
module

public import proofs.«01_k».proof.Proof.Products
public import proofs.«01_k».proof.Proof.Gen.Kernel21Ideal.Value
public import proofs.«01_k».proof.Proof.Gen.Reference21Ideal.Run

@[expose] public section

noncomputable section

namespace Cert.Proof.GWOut

section Call

open Cert.Kernel21Ideal Cert.Kernel21Ideal.Gen Idealize.ShloMosaic Idealize.ShloMosaic.TcCoe Products

section Body

variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S2048x1024 .bf16) (x1 : Vec Ideal S2048x1024 .bf16) (xs : Vec Ideal S1024x1024 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1024x1024) hz2, View.ld_unit_zero (S := S2048x1024) hz2, View.ld_unit_zero (S := S2048x1024) hz2,
    View.readCov_unit_zero (S := S1024x1024) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1024x1024) hz2, View.readCov_unit_zero (S := S1024x1024) _ hz2, View.ld_unit_zero (S := S2048x1024) hz2,
    View.ld_unit_zero (S := S2048x1024) hz2, View.ld_unit_zero (S := S1024x1024) hz2]

/-- One step's sum at an element. -/
theorem step_at (r : Fin 1024) (l : Fin 1024) :
    k0_pay2 (F := Ideal) xs x0 x1 (ix2 r l) = xs (ix2 r l) + ∑ k : Fin 2048, (x0 (ix2 k r) : EReal) * x1 (ix2 k l) := by
  unfold k0_pay2
  pointwise

theorem zero_at (r : Fin 1024) (l : Fin 1024) : k0_pay1 (F := Ideal) (ix2 r l) = (0 : EReal) := by
  unfold k0_pay1
  pointwise

/-- The written block holds the carried sum. -/
theorem out_at (r : Fin 1024) (l : Fin 1024) : k0_pay3 (F := Ideal) xs (ix2 r l) = xs (ix2 r l) := by
  unfold k0_pay3
  pointwise

end Body

/-- The blocks a grid point reads. -/
theorem idx_a : ∀ t : Fin cfg0.N, win0_0.index t 0 = t.val % 2 ∧ win0_0.index t 1 = t.val / 2 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S4096x1024 .f32 := m ((c : Thread nD τ).loc main_arg0)
abbrev argB : FVec Ideal S4096x1024 .f32 := m ((c : Thread nD τ).loc main_arg1)

/-- The product's element: the sum over the whole contraction. -/
def elt (x : FVec Ideal S4096x1024 .f32) (y : FVec Ideal S4096x1024 .f32) (i : Fin 1024) (j : Fin 1024) : EReal :=
  ∑ k : Fin 4096, (x (ix2 k i) : EReal) * y (ix2 k j)

theorem blk_a (t : Fin cfg0.N) (k : Fin 2048) (r : Fin 1024) (Q : Fin 4096) (R : Fin 1024) (hQ : Q.val = t.val % 2 * 2048 + k.val) (hR : R.val = t.val / 2 * 1024 + r.val) :
    iblk m c 0 t (ix2 k r) = argA m c (ix2 Q R) := by
  have e : V m c main_v0 = (truncf .bf16 (argA m c) bitsLt_bf16_f32 : FVec Ideal S4096x1024 .bf16) := by
    unfold V; after_reads_simp
  have e' : V m c main_v0 (ix2 Q R) = argA m c (ix2 Q R) := by
    rw [e]; pointwise
  rw [← e']
  unfold iblk
  rw [View.read_apply]
  exact at2 (V m c main_v0) _ _ _ (moved (idx_a t).1 hQ) (moved (idx_a t).2 hR)

theorem blk_b (t : Fin cfg0.N) (k : Fin 2048) (l : Fin 1024) (Q : Fin 4096) (T : Fin 1024) (hQ : Q.val = t.val % 2 * 2048 + k.val) (hT : T.val = l.val) :
    iblk m c 1 t (ix2 k l) = argB m c (ix2 Q T) := by
  have e : V m c main_v1 = (truncf .bf16 (argB m c) bitsLt_bf16_f32 : FVec Ideal S4096x1024 .bf16) := by
    unfold V; after_reads_simp
  have e' : V m c main_v1 (ix2 Q T) = argB m c (ix2 Q T) := by
    rw [e]; pointwise
  rw [← e']
  unfold iblk
  rw [View.read_apply]
  exact at2 (V m c main_v1) _ _ _ (moved (idx_b t).1 hQ) (same (idx_b t).2 hT)

/-- The block a tile's last step writes holds the sum over the whole contraction. -/
theorem outs_at (t : Fin cfg0.N) (ht : t.val % 2 = 1) (r : Fin 1024) (l : Fin 1024) (R : Fin 1024) (T : Fin 1024) (hR : R.val = t.val / 2 * 1024 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  rw [sum_two (N := 4096) 2048 (by norm_num)]
  congr 1
  · refine Finset.sum_congr rfl fun k _ => ?_
    rw [blk_a m c ⟨t.val - 1, h1⟩ k r ⟨k.val, by omega⟩ R (by show k.val = (t.val - 1) % 2 * 2048 + k.val; omega) (by show R.val = (t.val - 1) / 2 * 1024 + r.val; omega),
      blk_b m c ⟨t.val - 1, h1⟩ k l ⟨k.val, by omega⟩ T (by show k.val = (t.val - 1) % 2 * 2048 + k.val; omega) hT]
  · refine Finset.sum_congr rfl fun k _ => ?_
    rw [blk_a m c t k r ⟨2048 + k.val, by omega⟩ R (by show 2048 + k.val = t.val % 2 * 2048 + k.val; omega) hR,
      blk_b m c t k l ⟨2048 + k.val, by omega⟩ T (by show 2048 + k.val = t.val % 2 * 2048 + k.val; omega) hT]

/-- The array the call leaves. -/
theorem result_at (i : Fin 1024) (j : Fin 1024) : Value.G2 m c (ix2 i j) = elt (argA m c) (argB m c) i j := by
  have hN : Value.pt2Of (ix2 i j) < cfg0.N := by
    show 2 * (1 * (i.val / 1024 - 0) + 1 * (j.val / 1024 - 0)) + 1 < 2; omega
  unfold Value.G2
  rw [dif_pos hN, ← Value.outsAt0_sweep m c _ hN]
  have hl : Value.loc2Of (ix2 i j) = ix2 (⟨i.val % 1024, by omega⟩ : Fin 1024) (⟨j.val % 1024, by omega⟩ : Fin 1024) := by
    funext a; match a with | ⟨0, _⟩ => rfl | ⟨1, _⟩ => rfl
  rw [hl]
  refine outs_at m c ⟨_, hN⟩ ?_ _ _ i j ?_ ?_
  · show (2 * (1 * (i.val / 1024 - 0) + 1 * (j.val / 1024 - 0)) + 1) % 2 = 1; omega
  · show i.val = (2 * (1 * (i.val / 1024 - 0) + 1 * (j.val / 1024 - 0)) + 1) / 2 * 1024 + i.val % 1024; omega
  · show j.val = j.val % 1024; omega

end Call

section Reference

open Cert.Reference21Ideal Cert.Reference21Ideal.Gen Idealize.ShloMosaic Idealize.ShloMosaic.TcCoe

/-- The reference's result at an element. -/
theorem ref_at (x : FVec Ideal S4096x1024 .f32) (y : FVec Ideal S4096x1024 .f32) (i : Fin 1024) (j : Fin 1024) :
    (truncf .bf16 (transpose S1024x1024 [1, 0] (Host.dotGeneral dot_S4096x1024_S4096x1024_S1024x1024_0_0_1_1_n_n none y x) transposes_S1024x1024_S1024x1024_1_0) bitsLt_bf16_f32 : FVec Ideal S1024x1024 .bf16) (ix2 i j) = elt x y i j := by
  unfold elt
  pointwise
  exact Finset.sum_congr rfl fun k _ => mul_comm _ _

/-- The reference ends, its arguments unchanged and every counter at zero. -/
theorem ref_frame : Cert.quiescent_Reference21Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel21Ideal.Gen in
/-- The call and its reference end with the same array, at every argument. -/
theorem algebraic : Cert.algebraic_Kernel21Ideal_Reference21Ideal := by
  intro m g m' g' _ heq
  refine ⟨fun c => Cert.Kernel21Ideal.Value.G2 m c, Cert.Kernel21Ideal.Value.run m g,
    (θ_run Cert.Reference21Ideal.defs _ _).mono (fun r h c => ?_) (Cert.Reference21Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 1024) (n1 := 1024) y
  exact (ref_at _ _ i j).trans (result_at m c i j).symm

end Cert.Proof.GWOut
-- ==== Proof.GWOAttn.lean ====
/-
The product `g_w_o_attn`, the gradient of the attention's output weight: the steps over the contraction, each adding a block product to the carried sum, and the array the call leaves.
-/
module

public import proofs.«01_k».proof.Proof.Products
public import proofs.«01_k».proof.Proof.Gen.Kernel22Ideal.Value
public import proofs.«01_k».proof.Proof.Gen.Reference22Ideal.Run

@[expose] public section

noncomputable section

namespace Cert.Proof.GWOAttn

section Call

open Cert.Kernel22Ideal Cert.Kernel22Ideal.Gen Idealize.ShloMosaic Idealize.ShloMosaic.TcCoe Products

section Body

variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S2048x1024 .bf16) (x1 : Vec Ideal S2048x1024 .bf16) (xs : Vec Ideal S1024x1024 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1024x1024) hz2, View.ld_unit_zero (S := S2048x1024) hz2, View.ld_unit_zero (S := S2048x1024) hz2,
    View.readCov_unit_zero (S := S1024x1024) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1024x1024) hz2, View.readCov_unit_zero (S := S1024x1024) _ hz2, View.ld_unit_zero (S := S2048x1024) hz2,
    View.ld_unit_zero (S := S2048x1024) hz2, View.ld_unit_zero (S := S1024x1024) hz2]

/-- One step's sum at an element. -/
theorem step_at (r : Fin 1024) (l : Fin 1024) :
    k0_pay2 (F := Ideal) xs x0 x1 (ix2 r l) = xs (ix2 r l) + ∑ k : Fin 2048, (x0 (ix2 k r) : EReal) * x1 (ix2 k l) := by
  unfold k0_pay2
  pointwise

theorem zero_at (r : Fin 1024) (l : Fin 1024) : k0_pay1 (F := Ideal) (ix2 r l) = (0 : EReal) := by
  unfold k0_pay1
  pointwise

/-- The written block holds the carried sum. -/
theorem out_at (r : Fin 1024) (l : Fin 1024) : k0_pay3 (F := Ideal) xs (ix2 r l) = xs (ix2 r l) := by
  unfold k0_pay3
  pointwise

end Body

/-- The blocks a grid point reads. -/
theorem idx_a : ∀ t : Fin cfg0.N, win0_0.index t 0 = t.val % 2 ∧ win0_0.index t 1 = t.val / 2 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S4096x1024 .f32 := m ((c : Thread nD τ).loc main_arg1)
abbrev argB : FVec Ideal S4096x1024 .f32 := m ((c : Thread nD τ).loc main_arg0)

/-- The product's element: the sum over the whole contraction. -/
def elt (x : FVec Ideal S4096x1024 .f32) (y : FVec Ideal S4096x1024 .f32) (i : Fin 1024) (j : Fin 1024) : EReal :=
  ∑ k : Fin 4096, (x (ix2 k i) : EReal) * y (ix2 k j)

theorem blk_a (t : Fin cfg0.N) (k : Fin 2048) (r : Fin 1024) (Q : Fin 4096) (R : Fin 1024) (hQ : Q.val = t.val % 2 * 2048 + k.val) (hR : R.val = t.val / 2 * 1024 + r.val) :
    iblk m c 0 t (ix2 k r) = argA m c (ix2 Q R) := by
  have e : V m c main_v0 = (truncf .bf16 (argA m c) bitsLt_bf16_f32 : FVec Ideal S4096x1024 .bf16) := by
    unfold V; after_reads_simp
  have e' : V m c main_v0 (ix2 Q R) = argA m c (ix2 Q R) := by
    rw [e]; pointwise
  rw [← e']
  unfold iblk
  rw [View.read_apply]
  exact at2 (V m c main_v0) _ _ _ (moved (idx_a t).1 hQ) (moved (idx_a t).2 hR)

theorem blk_b (t : Fin cfg0.N) (k : Fin 2048) (l : Fin 1024) (Q : Fin 4096) (T : Fin 1024) (hQ : Q.val = t.val % 2 * 2048 + k.val) (hT : T.val = l.val) :
    iblk m c 1 t (ix2 k l) = argB m c (ix2 Q T) := by
  have e : V m c main_v1 = (truncf .bf16 (argB m c) bitsLt_bf16_f32 : FVec Ideal S4096x1024 .bf16) := by
    unfold V; after_reads_simp
  have e' : V m c main_v1 (ix2 Q T) = argB m c (ix2 Q T) := by
    rw [e]; pointwise
  rw [← e']
  unfold iblk
  rw [View.read_apply]
  exact at2 (V m c main_v1) _ _ _ (moved (idx_b t).1 hQ) (same (idx_b t).2 hT)

/-- The block a tile's last step writes holds the sum over the whole contraction. -/
theorem outs_at (t : Fin cfg0.N) (ht : t.val % 2 = 1) (r : Fin 1024) (l : Fin 1024) (R : Fin 1024) (T : Fin 1024) (hR : R.val = t.val / 2 * 1024 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  rw [sum_two (N := 4096) 2048 (by norm_num)]
  congr 1
  · refine Finset.sum_congr rfl fun k _ => ?_
    rw [blk_a m c ⟨t.val - 1, h1⟩ k r ⟨k.val, by omega⟩ R (by show k.val = (t.val - 1) % 2 * 2048 + k.val; omega) (by show R.val = (t.val - 1) / 2 * 1024 + r.val; omega),
      blk_b m c ⟨t.val - 1, h1⟩ k l ⟨k.val, by omega⟩ T (by show k.val = (t.val - 1) % 2 * 2048 + k.val; omega) hT]
  · refine Finset.sum_congr rfl fun k _ => ?_
    rw [blk_a m c t k r ⟨2048 + k.val, by omega⟩ R (by show 2048 + k.val = t.val % 2 * 2048 + k.val; omega) hR,
      blk_b m c t k l ⟨2048 + k.val, by omega⟩ T (by show 2048 + k.val = t.val % 2 * 2048 + k.val; omega) hT]

/-- The array the call leaves. -/
theorem result_at (i : Fin 1024) (j : Fin 1024) : Value.G2 m c (ix2 i j) = elt (argA m c) (argB m c) i j := by
  have hN : Value.pt2Of (ix2 i j) < cfg0.N := by
    show 2 * (1 * (i.val / 1024 - 0) + 1 * (j.val / 1024 - 0)) + 1 < 2; omega
  unfold Value.G2
  rw [dif_pos hN, ← Value.outsAt0_sweep m c _ hN]
  have hl : Value.loc2Of (ix2 i j) = ix2 (⟨i.val % 1024, by omega⟩ : Fin 1024) (⟨j.val % 1024, by omega⟩ : Fin 1024) := by
    funext a; match a with | ⟨0, _⟩ => rfl | ⟨1, _⟩ => rfl
  rw [hl]
  refine outs_at m c ⟨_, hN⟩ ?_ _ _ i j ?_ ?_
  · show (2 * (1 * (i.val / 1024 - 0) + 1 * (j.val / 1024 - 0)) + 1) % 2 = 1; omega
  · show i.val = (2 * (1 * (i.val / 1024 - 0) + 1 * (j.val / 1024 - 0)) + 1) / 2 * 1024 + i.val % 1024; omega
  · show j.val = j.val % 1024; omega

end Call

section Reference

open Cert.Reference22Ideal Cert.Reference22Ideal.Gen Idealize.ShloMosaic Idealize.ShloMosaic.TcCoe

/-- The reference's result at an element. -/
theorem ref_at (x : FVec Ideal S4096x1024 .f32) (y : FVec Ideal S4096x1024 .f32) (i : Fin 1024) (j : Fin 1024) :
    (truncf .bf16 (transpose S1024x1024 [1, 0] (transpose S1024x1024 [1, 0] (Host.dotGeneral dot_S4096x1024_S4096x1024_S1024x1024_0_0_1_1_n_n none x y) transposes_S1024x1024_S1024x1024_1_0) transposes_S1024x1024_S1024x1024_1_0) bitsLt_bf16_f32 : FVec Ideal S1024x1024 .bf16) (ix2 i j) = elt x y i j := by
  unfold elt
  pointwise

/-- The reference ends, its arguments unchanged and every counter at zero. -/
theorem ref_frame : Cert.quiescent_Reference22Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel22Ideal.Gen in
/-- The call and its reference end with the same array, at every argument. -/
theorem algebraic : Cert.algebraic_Kernel22Ideal_Reference22Ideal := by
  intro m g m' g' _ heq
  refine ⟨fun c => Cert.Kernel22Ideal.Value.G2 m c, Cert.Kernel22Ideal.Value.run m g,
    (θ_run Cert.Reference22Ideal.defs _ _).mono (fun r h c => ?_) (Cert.Reference22Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 1024) (n1 := 1024) y
  exact (ref_at _ _ i j).trans (result_at m c i j).symm

end Cert.Proof.GWOAttn
-- ==== Proof.GWOLru.lean ====
/-
The product `g_w_o_lru`, the gradient of the recurrence's output weight: the steps over the contraction, each adding a block product to the carried sum, and the array the call leaves.
-/
module

public import proofs.«01_k».proof.Proof.Products
public import proofs.«01_k».proof.Proof.Gen.Kernel23Ideal.Value
public import proofs.«01_k».proof.Proof.Gen.Reference23Ideal.Run

@[expose] public section

noncomputable section

namespace Cert.Proof.GWOLru

section Call

open Cert.Kernel23Ideal Cert.Kernel23Ideal.Gen Idealize.ShloMosaic Idealize.ShloMosaic.TcCoe Products

section Body

variable (c : Dev nD) (i : grid0.Coords) (a3 : Memref sig .tc .vmem S2048x1280 .bf16) (h3 : a3.IsWhole) (a4 : Memref sig .tc .vmem S2048x1024 .bf16) (h4 : a4.IsWhole)
  (a5 : Memref sig .tc .vmem S1280x1024 .bf16) (h5 : a5.IsWhole) (a6 : Memref sig .tc .vmem S1280x1024 .f32) (h6 : a6.IsWhole)
  (x0 : Vec Ideal S2048x1280 .bf16) (x1 : Vec Ideal S2048x1024 .bf16) (xs : Vec Ideal S1280x1024 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1280x1024) hz2, View.ld_unit_zero (S := S2048x1280) hz2, View.ld_unit_zero (S := S2048x1024) hz2,
    View.readCov_unit_zero (S := S1280x1024) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1280x1024) hz2, View.readCov_unit_zero (S := S1280x1024) _ hz2, View.ld_unit_zero (S := S2048x1280) hz2,
    View.ld_unit_zero (S := S2048x1024) hz2, View.ld_unit_zero (S := S1280x1024) hz2]

/-- One step's sum at an element. -/
theorem step_at (r : Fin 1280) (l : Fin 1024) :
    k0_pay2 (F := Ideal) xs x0 x1 (ix2 r l) = xs (ix2 r l) + ∑ k : Fin 2048, (x0 (ix2 k r) : EReal) * x1 (ix2 k l) := by
  unfold k0_pay2
  pointwise

theorem zero_at (r : Fin 1280) (l : Fin 1024) : k0_pay1 (F := Ideal) (ix2 r l) = (0 : EReal) := by
  unfold k0_pay1
  pointwise

/-- The written block holds the carried sum. -/
theorem out_at (r : Fin 1280) (l : Fin 1024) : k0_pay3 (F := Ideal) xs (ix2 r l) = xs (ix2 r l) := by
  unfold k0_pay3
  pointwise

end Body

/-- The blocks a grid point reads. -/
theorem idx_a : ∀ t : Fin cfg0.N, win0_0.index t 0 = t.val % 2 ∧ win0_0.index t 1 = t.val / 2 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S4096x1280 .f32 := m ((c : Thread nD τ).loc main_arg0)
abbrev argB : FVec Ideal S4096x1024 .f32 := m ((c : Thread nD τ).loc main_arg1)

/-- The product's element: the sum over the whole contraction. -/
def elt (x : FVec Ideal S4096x1280 .f32) (y : FVec Ideal S4096x1024 .f32) (i : Fin 1280) (j : Fin 1024) : EReal :=
  ∑ k : Fin 4096, (x (ix2 k i) : EReal) * y (ix2 k j)

theorem blk_a (t : Fin cfg0.N) (k : Fin 2048) (r : Fin 1280) (Q : Fin 4096) (R : Fin 1280) (hQ : Q.val = t.val % 2 * 2048 + k.val) (hR : R.val = t.val / 2 * 1280 + r.val) :
    iblk m c 0 t (ix2 k r) = argA m c (ix2 Q R) := by
  have e : V m c main_v0 = (truncf .bf16 (argA m c) bitsLt_bf16_f32 : FVec Ideal S4096x1280 .bf16) := by
    unfold V; after_reads_simp
  have e' : V m c main_v0 (ix2 Q R) = argA m c (ix2 Q R) := by
    rw [e]; pointwise
  rw [← e']
  unfold iblk
  rw [View.read_apply]
  exact at2 (V m c main_v0) _ _ _ (moved (idx_a t).1 hQ) (moved (idx_a t).2 hR)

theorem blk_b (t : Fin cfg0.N) (k : Fin 2048) (l : Fin 1024) (Q : Fin 4096) (T : Fin 1024) (hQ : Q.val = t.val % 2 * 2048 + k.val) (hT : T.val = l.val) :
    iblk m c 1 t (ix2 k l) = argB m c (ix2 Q T) := by
  have e : V m c main_v1 = (truncf .bf16 (argB m c) bitsLt_bf16_f32 : FVec Ideal S4096x1024 .bf16) := by
    unfold V; after_reads_simp
  have e' : V m c main_v1 (ix2 Q T) = argB m c (ix2 Q T) := by
    rw [e]; pointwise
  rw [← e']
  unfold iblk
  rw [View.read_apply]
  exact at2 (V m c main_v1) _ _ _ (moved (idx_b t).1 hQ) (same (idx_b t).2 hT)

/-- The block a tile's last step writes holds the sum over the whole contraction. -/
theorem outs_at (t : Fin cfg0.N) (ht : t.val % 2 = 1) (r : Fin 1280) (l : Fin 1024) (R : Fin 1280) (T : Fin 1024) (hR : R.val = t.val / 2 * 1280 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  rw [sum_two (N := 4096) 2048 (by norm_num)]
  congr 1
  · refine Finset.sum_congr rfl fun k _ => ?_
    rw [blk_a m c ⟨t.val - 1, h1⟩ k r ⟨k.val, by omega⟩ R (by show k.val = (t.val - 1) % 2 * 2048 + k.val; omega) (by show R.val = (t.val - 1) / 2 * 1280 + r.val; omega),
      blk_b m c ⟨t.val - 1, h1⟩ k l ⟨k.val, by omega⟩ T (by show k.val = (t.val - 1) % 2 * 2048 + k.val; omega) hT]
  · refine Finset.sum_congr rfl fun k _ => ?_
    rw [blk_a m c t k r ⟨2048 + k.val, by omega⟩ R (by show 2048 + k.val = t.val % 2 * 2048 + k.val; omega) hR,
      blk_b m c t k l ⟨2048 + k.val, by omega⟩ T (by show 2048 + k.val = t.val % 2 * 2048 + k.val; omega) hT]

/-- The array the call leaves. -/
theorem result_at (i : Fin 1280) (j : Fin 1024) : Value.G2 m c (ix2 i j) = elt (argA m c) (argB m c) i j := by
  have hN : Value.pt2Of (ix2 i j) < cfg0.N := by
    show 2 * (1 * (i.val / 1280 - 0) + 1 * (j.val / 1024 - 0)) + 1 < 2; omega
  unfold Value.G2
  rw [dif_pos hN, ← Value.outsAt0_sweep m c _ hN]
  have hl : Value.loc2Of (ix2 i j) = ix2 (⟨i.val % 1280, by omega⟩ : Fin 1280) (⟨j.val % 1024, by omega⟩ : Fin 1024) := by
    funext a; match a with | ⟨0, _⟩ => rfl | ⟨1, _⟩ => rfl
  rw [hl]
  refine outs_at m c ⟨_, hN⟩ ?_ _ _ i j ?_ ?_
  · show (2 * (1 * (i.val / 1280 - 0) + 1 * (j.val / 1024 - 0)) + 1) % 2 = 1; omega
  · show i.val = (2 * (1 * (i.val / 1280 - 0) + 1 * (j.val / 1024 - 0)) + 1) / 2 * 1280 + i.val % 1280; omega
  · show j.val = j.val % 1024; omega

end Call

section Reference

open Cert.Reference23Ideal Cert.Reference23Ideal.Gen Idealize.ShloMosaic Idealize.ShloMosaic.TcCoe

/-- The reference's result at an element. -/
theorem ref_at (x : FVec Ideal S4096x1280 .f32) (y : FVec Ideal S4096x1024 .f32) (i : Fin 1280) (j : Fin 1024) :
    (truncf .bf16 (transpose S1280x1024 [1, 0] (Host.dotGeneral dot_S4096x1024_S4096x1280_S1024x1280_0_0_1_1_n_n none y x) transposes_S1024x1280_S1280x1024_1_0) bitsLt_bf16_f32 : FVec Ideal S1280x1024 .bf16) (ix2 i j) = elt x y i j := by
  unfold elt
  pointwise
  exact Finset.sum_congr rfl fun k _ => mul_comm _ _

/-- The reference ends, its arguments unchanged and every counter at zero. -/
theorem ref_frame : Cert.quiescent_Reference23Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel23Ideal.Gen in
/-- The call and its reference end with the same array, at every argument. -/
theorem algebraic : Cert.algebraic_Kernel23Ideal_Reference23Ideal := by
  intro m g m' g' _ heq
  refine ⟨fun c => Cert.Kernel23Ideal.Value.G2 m c, Cert.Kernel23Ideal.Value.run m g,
    (θ_run Cert.Reference23Ideal.defs _ _).mono (fun r h c => ?_) (Cert.Reference23Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 1280) (n1 := 1024) y
  exact (ref_at _ _ i j).trans (result_at m c i j).symm

end Cert.Proof.GWOLru
-- ==== Proof.GWUq.lean ====
/-
The product `g_w_uq`, the gradient of the query up-projection's weight: the steps over the contraction, each adding a block product to the carried sum, and the array the call leaves.
-/
module

public import proofs.«01_k».proof.Proof.Products
public import proofs.«01_k».proof.Proof.Gen.Kernel24Ideal.Value
public import proofs.«01_k».proof.Proof.Gen.Reference24Ideal.Run

@[expose] public section

noncomputable section

namespace Cert.Proof.GWUq

section Call

open Cert.Kernel24Ideal Cert.Kernel24Ideal.Gen Idealize.ShloMosaic Idealize.ShloMosaic.TcCoe Products

section Body

variable (c : Dev nD) (i : grid0.Coords) (a3 : Memref sig .tc .vmem S2176x1024 .bf16) (h3 : a3.IsWhole) (a4 : Memref sig .tc .vmem S2176x384 .bf16) (h4 : a4.IsWhole)
  (a5 : Memref sig .tc .vmem S1024x384 .bf16) (h5 : a5.IsWhole) (a6 : Memref sig .tc .vmem S1024x384 .f32) (h6 : a6.IsWhole)
  (x0 : Vec Ideal S2176x1024 .bf16) (x1 : Vec Ideal S2176x384 .bf16) (xs : Vec Ideal S1024x384 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1024x384) hz2, View.ld_unit_zero (S := S2176x1024) hz2, View.ld_unit_zero (S := S2176x384) hz2,
    View.readCov_unit_zero (S := S1024x384) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1024x384) hz2, View.readCov_unit_zero (S := S1024x384) _ hz2, View.ld_unit_zero (S := S2176x1024) hz2,
    View.ld_unit_zero (S := S2176x384) hz2, View.ld_unit_zero (S := S1024x384) hz2]

/-- One step's sum at an element. -/
theorem step_at (r : Fin 1024) (l : Fin 384) :
    k0_pay2 (F := Ideal) xs x0 x1 (ix2 r l) = xs (ix2 r l) + ∑ k : Fin 2176, (x0 (ix2 k r) : EReal) * x1 (ix2 k l) := by
  unfold k0_pay2
  pointwise

theorem zero_at (r : Fin 1024) (l : Fin 384) : k0_pay1 (F := Ideal) (ix2 r l) = (0 : EReal) := by
  unfold k0_pay1
  pointwise

/-- The written block holds the carried sum. -/
theorem out_at (r : Fin 1024) (l : Fin 384) : k0_pay3 (F := Ideal) xs (ix2 r l) = xs (ix2 r l) := by
  unfold k0_pay3
  pointwise

end Body

/-- The blocks a grid point reads. -/
theorem idx_a : ∀ t : Fin cfg0.N, win0_0.index t 0 = t.val % 2 ∧ win0_0.index t 1 = t.val / 2 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S4352x1024 .f32 := m ((c : Thread nD τ).loc main_arg1)
abbrev argB : FVec Ideal S4352x384 .f32 := m ((c : Thread nD τ).loc main_arg0)

/-- The product's element: the sum over the whole contraction. -/
def elt (x : FVec Ideal S4352x1024 .f32) (y : FVec Ideal S4352x384 .f32) (i : Fin 1024) (j : Fin 384) : EReal :=
  ∑ k : Fin 4352, (x (ix2 k i) : EReal) * y (ix2 k j)

theorem blk_a (t : Fin cfg0.N) (k : Fin 2176) (r : Fin 1024) (Q : Fin 4352) (R : Fin 1024) (hQ : Q.val = t.val % 2 * 2176 + k.val) (hR : R.val = t.val / 2 * 1024 + r.val) :
    iblk m c 0 t (ix2 k r) = argA m c (ix2 Q R) := by
  have e : V m c main_v0 = (truncf .bf16 (argA m c) bitsLt_bf16_f32 : FVec Ideal S4352x1024 .bf16) := by
    unfold V; after_reads_simp
  have e' : V m c main_v0 (ix2 Q R) = argA m c (ix2 Q R) := by
    rw [e]; pointwise
  rw [← e']
  unfold iblk
  rw [View.read_apply]
  exact at2 (V m c main_v0) _ _ _ (moved (idx_a t).1 hQ) (moved (idx_a t).2 hR)

theorem blk_b (t : Fin cfg0.N) (k : Fin 2176) (l : Fin 384) (Q : Fin 4352) (T : Fin 384) (hQ : Q.val = t.val % 2 * 2176 + k.val) (hT : T.val = l.val) :
    iblk m c 1 t (ix2 k l) = argB m c (ix2 Q T) := by
  have e : V m c main_v1 = (truncf .bf16 (argB m c) bitsLt_bf16_f32 : FVec Ideal S4352x384 .bf16) := by
    unfold V; after_reads_simp
  have e' : V m c main_v1 (ix2 Q T) = argB m c (ix2 Q T) := by
    rw [e]; pointwise
  rw [← e']
  unfold iblk
  rw [View.read_apply]
  exact at2 (V m c main_v1) _ _ _ (moved (idx_b t).1 hQ) (same (idx_b t).2 hT)

/-- The block a tile's last step writes holds the sum over the whole contraction. -/
theorem outs_at (t : Fin cfg0.N) (ht : t.val % 2 = 1) (r : Fin 1024) (l : Fin 384) (R : Fin 1024) (T : Fin 384) (hR : R.val = t.val / 2 * 1024 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  rw [sum_two (N := 4352) 2176 (by norm_num)]
  congr 1
  · refine Finset.sum_congr rfl fun k _ => ?_
    rw [blk_a m c ⟨t.val - 1, h1⟩ k r ⟨k.val, by omega⟩ R (by show k.val = (t.val - 1) % 2 * 2176 + k.val; omega) (by show R.val = (t.val - 1) / 2 * 1024 + r.val; omega),
      blk_b m c ⟨t.val - 1, h1⟩ k l ⟨k.val, by omega⟩ T (by show k.val = (t.val - 1) % 2 * 2176 + k.val; omega) hT]
  · refine Finset.sum_congr rfl fun k _ => ?_
    rw [blk_a m c t k r ⟨2176 + k.val, by omega⟩ R (by show 2176 + k.val = t.val % 2 * 2176 + k.val; omega) hR,
      blk_b m c t k l ⟨2176 + k.val, by omega⟩ T (by show 2176 + k.val = t.val % 2 * 2176 + k.val; omega) hT]

/-- The array the call leaves. -/
theorem result_at (i : Fin 1024) (j : Fin 384) : Value.G2 m c (ix2 i j) = elt (argA m c) (argB m c) i j := by
  have hN : Value.pt2Of (ix2 i j) < cfg0.N := by
    show 2 * (1 * (i.val / 1024 - 0) + 1 * (j.val / 384 - 0)) + 1 < 2; omega
  unfold Value.G2
  rw [dif_pos hN, ← Value.outsAt0_sweep m c _ hN]
  have hl : Value.loc2Of (ix2 i j) = ix2 (⟨i.val % 1024, by omega⟩ : Fin 1024) (⟨j.val % 384, by omega⟩ : Fin 384) := by
    funext a; match a with | ⟨0, _⟩ => rfl | ⟨1, _⟩ => rfl
  rw [hl]
  refine outs_at m c ⟨_, hN⟩ ?_ _ _ i j ?_ ?_
  · show (2 * (1 * (i.val / 1024 - 0) + 1 * (j.val / 384 - 0)) + 1) % 2 = 1; omega
  · show i.val = (2 * (1 * (i.val / 1024 - 0) + 1 * (j.val / 384 - 0)) + 1) / 2 * 1024 + i.val % 1024; omega
  · show j.val = j.val % 384; omega

end Call

section Reference

open Cert.Reference24Ideal Cert.Reference24Ideal.Gen Idealize.ShloMosaic Idealize.ShloMosaic.TcCoe

/-- The reference's result at an element. -/
theorem ref_at (x : FVec Ideal S4352x1024 .f32) (y : FVec Ideal S4352x384 .f32) (i : Fin 1024) (j : Fin 384) :
    (truncf .bf16 (transpose S1024x384 [1, 0] (transpose S384x1024 [1, 0] (Host.dotGeneral dot_S4352x1024_S4352x384_S1024x384_0_0_1_1_n_n none x y) transposes_S1024x384_S384x1024_1_0) transposes_S384x1024_S1024x384_1_0) bitsLt_bf16_f32 : FVec Ideal S1024x384 .bf16) (ix2 i j) = elt x y i j := by
  unfold elt
  pointwise

/-- The reference ends, its arguments unchanged and every counter at zero. -/
theorem ref_frame : Cert.quiescent_Reference24Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel24Ideal.Gen in
/-- The call and its reference end with the same array, at every argument. -/
theorem algebraic : Cert.algebraic_Kernel24Ideal_Reference24Ideal := by
  intro m g m' g' _ heq
  refine ⟨fun c => Cert.Kernel24Ideal.Value.G2 m c, Cert.Kernel24Ideal.Value.run m g,
    (θ_run Cert.Reference24Ideal.defs _ _).mono (fun r h c => ?_) (Cert.Reference24Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 1024) (n1 := 384) y
  exact (ref_at _ _ i j).trans (result_at m c i j).symm

end Cert.Proof.GWUq
-- ==== Proof.DKvn.lean ====
/-
The product `d_kvn`, the cotangent of the normalised key and value latent: the steps over the contraction, each adding a block product to the carried sum, and the array the call leaves.
-/
module

public import proofs.«01_k».proof.Proof.Products
public import proofs.«01_k».proof.Proof.Gen.Kernel25Ideal.Value
public import proofs.«01_k».proof.Proof.Gen.Reference25Ideal.Run

@[expose] public section

noncomputable section

namespace Cert.Proof.DKvn

section Call

open Cert.Kernel25Ideal Cert.Kernel25Ideal.Gen Idealize.ShloMosaic Idealize.ShloMosaic.TcCoe Products

section Body

variable (c : Dev nD) (i : grid0.Coords) (a3 : Memref sig .tc .vmem S1088x1024 .bf16) (h3 : a3.IsWhole) (a4 : Memref sig .tc .vmem S1024x256 .bf16) (h4 : a4.IsWhole)
  (a5 : Memref sig .tc .vmem S1088x256 .bf16) (h5 : a5.IsWhole) (a6 : Memref sig .tc .vmem S1088x256 .f32) (h6 : a6.IsWhole)
  (x0 : Vec Ideal S1088x1024 .bf16) (x1 : Vec Ideal S1024x256 .bf16) (xs : Vec Ideal S1088x256 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1088x256) hz2, View.ld_unit_zero (S := S1088x1024) hz2, View.ld_unit_zero (S := S1024x256) hz2,
    View.readCov_unit_zero (S := S1088x256) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1088x256) hz2, View.readCov_unit_zero (S := S1088x256) _ hz2, View.ld_unit_zero (S := S1088x1024) hz2,
    View.ld_unit_zero (S := S1024x256) hz2, View.ld_unit_zero (S := S1088x256) hz2]

/-- One step's sum at an element. -/
theorem step_at (r : Fin 1088) (l : Fin 256) :
    k0_pay2 (F := Ideal) xs x0 x1 (ix2 r l) = xs (ix2 r l) + ∑ k : Fin 1024, (x0 (ix2 r k) : EReal) * x1 (ix2 k l) := by
  unfold k0_pay2
  pointwise

theorem zero_at (r : Fin 1088) (l : Fin 256) : k0_pay1 (F := Ideal) (ix2 r l) = (0 : EReal) := by
  unfold k0_pay1
  pointwise

/-- The written block holds the carried sum. -/
theorem out_at (r : Fin 1088) (l : Fin 256) : k0_pay3 (F := Ideal) xs (ix2 r l) = xs (ix2 r l) := by
  unfold k0_pay3
  pointwise

end Body

/-- The blocks a grid point reads. -/
theorem idx_a : ∀ t : Fin cfg0.N, win0_0.index t 0 = t.val / 2 ∧ win0_0.index t 1 = t.val % 2 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S4352x2048 .f32 := m ((c : Thread nD τ).loc main_arg1)
abbrev argB : FVec Ideal S256x2048 .f32 := m ((c : Thread nD τ).loc main_arg0)

/-- The product's element: the sum over the whole contraction. -/
def elt (x : FVec Ideal S4352x2048 .f32) (y : FVec Ideal S256x2048 .f32) (i : Fin 4352) (j : Fin 256) : EReal :=
  ∑ k : Fin 2048, (x (ix2 i k) : EReal) * y (ix2 j k)

theorem blk_a (t : Fin cfg0.N) (r : Fin 1088) (k : Fin 1024) (R : Fin 4352) (Q : Fin 2048) (hR : R.val = t.val / 2 * 1088 + r.val) (hQ : Q.val = t.val % 2 * 1024 + k.val) :
    iblk m c 0 t (ix2 r k) = argA m c (ix2 R Q) := by
  have e : V m c main_v0 = (truncf .bf16 (argA m c) bitsLt_bf16_f32 : FVec Ideal S4352x2048 .bf16) := by
    unfold V; after_reads_simp
  have e' : V m c main_v0 (ix2 R Q) = argA m c (ix2 R Q) := by
    rw [e]; pointwise
  rw [← e']
  unfold iblk
  rw [View.read_apply]
  exact at2 (V m c main_v0) _ _ _ (moved (idx_a t).1 hR) (moved (idx_a t).2 hQ)

theorem blk_b (t : Fin cfg0.N) (k : Fin 1024) (l : Fin 256) (Q : Fin 2048) (T : Fin 256) (hQ : Q.val = t.val % 2 * 1024 + k.val) (hT : T.val = l.val) :
    iblk m c 1 t (ix2 k l) = argB m c (ix2 T Q) := by
  have e : V m c main_v2 = (truncf .bf16 (transpose S2048x256 [1, 0] (argB m c) transposes_S256x2048_S2048x256_1_0 : FVec Ideal S2048x256 .f32) bitsLt_bf16_f32 : FVec Ideal S2048x256 .bf16) := by
    unfold V; after_reads_simp
  have e' : V m c main_v2 (ix2 Q T) = argB m c (ix2 T Q) := by
    rw [e]; pointwise
  rw [← e']
  unfold iblk
  rw [View.read_apply]
  exact at2 (V m c main_v2) _ _ _ (moved (idx_b t).1 hQ) (same (idx_b t).2 hT)

/-- The block a tile's last step writes holds the sum over the whole contraction. -/
theorem outs_at (t : Fin cfg0.N) (ht : t.val % 2 = 1) (r : Fin 1088) (l : Fin 256) (R : Fin 4352) (T : Fin 256) (hR : R.val = t.val / 2 * 1088 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  rw [sum_two (N := 2048) 1024 (by norm_num)]
  congr 1
  · refine Finset.sum_congr rfl fun k _ => ?_
    rw [blk_a m c ⟨t.val - 1, h1⟩ r k R ⟨k.val, by omega⟩ (by show R.val = (t.val - 1) / 2 * 1088 + r.val; omega) (by show k.val = (t.val - 1) % 2 * 1024 + k.val; omega),
      blk_b m c ⟨t.val - 1, h1⟩ k l ⟨k.val, by omega⟩ T (by show k.val = (t.val - 1) % 2 * 1024 + k.val; omega) hT]
  · refine Finset.sum_congr rfl fun k _ => ?_
    rw [blk_a m c t r k R ⟨1024 + k.val, by omega⟩ hR (by show 1024 + k.val = t.val % 2 * 1024 + k.val; omega),
      blk_b m c t k l ⟨1024 + k.val, by omega⟩ T (by show 1024 + k.val = t.val % 2 * 1024 + k.val; omega) hT]

/-- The array the call leaves. -/
theorem result_at (i : Fin 4352) (j : Fin 256) : Value.G2 m c (ix2 i j) = elt (argA m c) (argB m c) i j := by
  have hN : Value.pt2Of (ix2 i j) < cfg0.N := by
    show 2 * (1 * (i.val / 1088 - 0) + 1 * (j.val / 256 - 0)) + 1 < 8; omega
  unfold Value.G2
  rw [dif_pos hN, ← Value.outsAt0_sweep m c _ hN]
  have hl : Value.loc2Of (ix2 i j) = ix2 (⟨i.val % 1088, by omega⟩ : Fin 1088) (⟨j.val % 256, by omega⟩ : Fin 256) := by
    funext a; match a with | ⟨0, _⟩ => rfl | ⟨1, _⟩ => rfl
  rw [hl]
  refine outs_at m c ⟨_, hN⟩ ?_ _ _ i j ?_ ?_
  · show (2 * (1 * (i.val / 1088 - 0) + 1 * (j.val / 256 - 0)) + 1) % 2 = 1; omega
  · show i.val = (2 * (1 * (i.val / 1088 - 0) + 1 * (j.val / 256 - 0)) + 1) / 2 * 1088 + i.val % 1088; omega
  · show j.val = j.val % 256; omega

end Call

section Reference

open Cert.Reference25Ideal Cert.Reference25Ideal.Gen Idealize.ShloMosaic Idealize.ShloMosaic.TcCoe

/-- The reference's result at an element. -/
theorem ref_at (x : FVec Ideal S4352x2048 .f32) (y : FVec Ideal S256x2048 .f32) (i : Fin 4352) (j : Fin 256) :
    (truncf .bf16 (Host.dotGeneral dot_S4352x2048_S256x2048_S4352x256_1_1_0_0_n_n none x y) bitsLt_bf16_f32 : FVec Ideal S4352x256 .bf16) (ix2 i j) = elt x y i j := by
  unfold elt
  pointwise

/-- The reference ends, its arguments unchanged and every counter at zero. -/
theorem ref_frame : Cert.quiescent_Reference25Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel25Ideal.Gen in
/-- The call and its reference end with the same array, at every argument. -/
theorem algebraic : Cert.algebraic_Kernel25Ideal_Reference25Ideal := by
  intro m g m' g' _ heq
  refine ⟨fun c => Cert.Kernel25Ideal.Value.G2 m c, Cert.Kernel25Ideal.Value.run m g,
    (θ_run Cert.Reference25Ideal.defs _ _).mono (fun r h c => ?_) (Cert.Reference25Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 4352) (n1 := 256) y
  exact (ref_at _ _ i j).trans (result_at m c i j).symm

end Cert.Proof.DKvn
-- ==== Proof.GWUkv.lean ====
/-
The product `g_w_ukv`, the gradient of the key and value up-projection's weight: the steps over the contraction, each adding a block product to the carried sum, and the array the call leaves.
-/
module

public import proofs.«01_k».proof.Proof.Products
public import proofs.«01_k».proof.Proof.Gen.Kernel26Ideal.Value
public import proofs.«01_k».proof.Proof.Gen.Reference26Ideal.Run

@[expose] public section

noncomputable section

namespace Cert.Proof.GWUkv

section Call

open Cert.Kernel26Ideal Cert.Kernel26Ideal.Gen Idealize.ShloMosaic Idealize.ShloMosaic.TcCoe Products

section Body

variable (c : Dev nD) (i : grid0.Coords) (a3 : Memref sig .tc .vmem S2176x1024 .bf16) (h3 : a3.IsWhole) (a4 : Memref sig .tc .vmem S2176x256 .bf16) (h4 : a4.IsWhole)
  (a5 : Memref sig .tc .vmem S1024x256 .bf16) (h5 : a5.IsWhole) (a6 : Memref sig .tc .vmem S1024x256 .f32) (h6 : a6.IsWhole)
  (x0 : Vec Ideal S2176x1024 .bf16) (x1 : Vec Ideal S2176x256 .bf16) (xs : Vec Ideal S1024x256 .f32)

/-- The first step leaves its block product in the carried sum. -/
theorem first (hc0 : cond0_0 i) (hc1 : ¬cond0_1 i) :
    sout0_A_0 c i a3 h3 a4 h4 a5 h5 a6 h6 hc0 hc1 x0 x1 = k0_pay2 (k0_pay1 (F := Ideal)) x0 x1 := by
  unfold sout0_A_0
  rw [View.read_writes_junk_eq_canon]
  unfold kernelRun0_A
  dsimp only
  sl_unfold_words
  simp only [View.readAt_eq_ld, h3.read_unread, h4.read_unread, h6.read_unread]
  rw [View.canon_cons_unit_zero (S := S1024x256) hz2, View.ld_unit_zero (S := S2176x1024) hz2, View.ld_unit_zero (S := S2176x256) hz2,
    View.readCov_unit_zero (S := S1024x256) _ hz2]

/-- The last step adds its block product to the carried sum and writes the total, rounded. -/
theorem last (hc0 : ¬cond0_0 i) (hc1 : cond0_1 i) :
    out0_B_2 c i a3 h3 a4 h4 a5 h5 a6 h6 hc0 hc1 x0 x1 xs = k0_pay3 (F := Ideal) (k0_pay2 xs x0 x1) := by
  unfold out0_B_2
  rw [View.read_writes_junk_eq_canon]
  unfold kernelRun0_B
  dsimp only
  sl_unfold_words
  simp only [View.readAt_eq_ld, h3.read_unread, h4.read_unread, h6.read_unread]
  rw [View.canon_unit_zero (S := S1024x256) hz2, View.readCov_unit_zero (S := S1024x256) _ hz2, View.ld_unit_zero (S := S2176x1024) hz2,
    View.ld_unit_zero (S := S2176x256) hz2, View.ld_unit_zero (S := S1024x256) hz2]

/-- One step's sum at an element. -/
theorem step_at (r : Fin 1024) (l : Fin 256) :
    k0_pay2 (F := Ideal) xs x0 x1 (ix2 r l) = xs (ix2 r l) + ∑ k : Fin 2176, (x0 (ix2 k r) : EReal) * x1 (ix2 k l) := by
  unfold k0_pay2
  pointwise

theorem zero_at (r : Fin 1024) (l : Fin 256) : k0_pay1 (F := Ideal) (ix2 r l) = (0 : EReal) := by
  unfold k0_pay1
  pointwise

/-- The written block holds the carried sum. -/
theorem out_at (r : Fin 1024) (l : Fin 256) : k0_pay3 (F := Ideal) xs (ix2 r l) = xs (ix2 r l) := by
  unfold k0_pay3
  pointwise

end Body

/-- The blocks a grid point reads. -/
theorem idx_a : ∀ t : Fin cfg0.N, win0_0.index t 0 = t.val % 2 ∧ win0_0.index t 1 = t.val / 2 := by decide +kernel
theorem idx_b : ∀ t : Fin cfg0.N, win0_1.index t 0 = t.val % 2 ∧ win0_1.index t 1 = 0 := by decide +kernel

variable (m : (ℓ : Loc nD τ sig) → Buf (Elt Ideal) ℓ) (c : Dev nD)

/-- The two arguments. -/
abbrev argA : FVec Ideal S4352x2048 .f32 := m ((c : Thread nD τ).loc main_arg1)
abbrev argB : FVec Ideal S4352x256 .f32 := m ((c : Thread nD τ).loc main_arg0)

/-- The product's element: the sum over the whole contraction. -/
def elt (x : FVec Ideal S4352x2048 .f32) (y : FVec Ideal S4352x256 .f32) (i : Fin 2048) (j : Fin 256) : EReal :=
  ∑ k : Fin 4352, (x (ix2 k i) : EReal) * y (ix2 k j)

theorem blk_a (t : Fin cfg0.N) (k : Fin 2176) (r : Fin 1024) (Q : Fin 4352) (R : Fin 2048) (hQ : Q.val = t.val % 2 * 2176 + k.val) (hR : R.val = t.val / 2 * 1024 + r.val) :
    iblk m c 0 t (ix2 k r) = argA m c (ix2 Q R) := by
  have e : V m c main_v0 = (truncf .bf16 (argA m c) bitsLt_bf16_f32 : FVec Ideal S4352x2048 .bf16) := by
    unfold V; after_reads_simp
  have e' : V m c main_v0 (ix2 Q R) = argA m c (ix2 Q R) := by
    rw [e]; pointwise
  rw [← e']
  unfold iblk
  rw [View.read_apply]
  exact at2 (V m c main_v0) _ _ _ (moved (idx_a t).1 hQ) (moved (idx_a t).2 hR)

theorem blk_b (t : Fin cfg0.N) (k : Fin 2176) (l : Fin 256) (Q : Fin 4352) (T : Fin 256) (hQ : Q.val = t.val % 2 * 2176 + k.val) (hT : T.val = l.val) :
    iblk m c 1 t (ix2 k l) = argB m c (ix2 Q T) := by
  have e : V m c main_v1 = (truncf .bf16 (argB m c) bitsLt_bf16_f32 : FVec Ideal S4352x256 .bf16) := by
    unfold V; after_reads_simp
  have e' : V m c main_v1 (ix2 Q T) = argB m c (ix2 Q T) := by
    rw [e]; pointwise
  rw [← e']
  unfold iblk
  rw [View.read_apply]
  exact at2 (V m c main_v1) _ _ _ (moved (idx_b t).1 hQ) (same (idx_b t).2 hT)

/-- The block a tile's last step writes holds the sum over the whole contraction. -/
theorem outs_at (t : Fin cfg0.N) (ht : t.val % 2 = 1) (r : Fin 1024) (l : Fin 256) (R : Fin 2048) (T : Fin 256) (hR : R.val = t.val / 2 * 1024 + r.val) (hT : T.val = l.val) :
    (outsAt0 m c t.val t.isLt).1 (ix2 r l) = elt (argA m c) (argB m c) R T := by
  have h1 : t.val - 1 < cfg0.N := Nat.lt_of_le_of_lt (Nat.sub_le _ _) t.isLt
  rw [outsAt0_B m c t (by omega) ht, outsAt0_A m c ⟨t.val - 1, h1⟩ (by show (t.val - 1) % 2 = 0; omega) (by show ¬(t.val - 1) % 2 = 1; omega)]
  dsimp only
  rw [last, first, out_at, step_at, step_at, zero_at, zero_add]
  unfold elt
  rw [sum_two (N := 4352) 2176 (by norm_num)]
  congr 1
  · refine Finset.sum_congr rfl fun k _ => ?_
    rw [blk_a m c ⟨t.val - 1, h1⟩ k r ⟨k.val, by omega⟩ R (by show k.val = (t.val - 1) % 2 * 2176 + k.val; omega) (by show R.val = (t.val - 1) / 2 * 1024 + r.val; omega),
      blk_b m c ⟨t.val - 1, h1⟩ k l ⟨k.val, by omega⟩ T (by show k.val = (t.val - 1) % 2 * 2176 + k.val; omega) hT]
  · refine Finset.sum_congr rfl fun k _ => ?_
    rw [blk_a m c t k r ⟨2176 + k.val, by omega⟩ R (by show 2176 + k.val = t.val % 2 * 2176 + k.val; omega) hR,
      blk_b m c t k l ⟨2176 + k.val, by omega⟩ T (by show 2176 + k.val = t.val % 2 * 2176 + k.val; omega) hT]

/-- The array the call leaves. -/
theorem result_at (i : Fin 2048) (j : Fin 256) : Value.G2 m c (ix2 i j) = elt (argA m c) (argB m c) i j := by
  have hN : Value.pt2Of (ix2 i j) < cfg0.N := by
    show 2 * (1 * (i.val / 1024 - 0) + 1 * (j.val / 256 - 0)) + 1 < 4; omega
  unfold Value.G2
  rw [dif_pos hN, ← Value.outsAt0_sweep m c _ hN]
  have hl : Value.loc2Of (ix2 i j) = ix2 (⟨i.val % 1024, by omega⟩ : Fin 1024) (⟨j.val % 256, by omega⟩ : Fin 256) := by
    funext a; match a with | ⟨0, _⟩ => rfl | ⟨1, _⟩ => rfl
  rw [hl]
  refine outs_at m c ⟨_, hN⟩ ?_ _ _ i j ?_ ?_
  · show (2 * (1 * (i.val / 1024 - 0) + 1 * (j.val / 256 - 0)) + 1) % 2 = 1; omega
  · show i.val = (2 * (1 * (i.val / 1024 - 0) + 1 * (j.val / 256 - 0)) + 1) / 2 * 1024 + i.val % 1024; omega
  · show j.val = j.val % 256; omega

end Call

section Reference

open Cert.Reference26Ideal Cert.Reference26Ideal.Gen Idealize.ShloMosaic Idealize.ShloMosaic.TcCoe

/-- The reference's result at an element. -/
theorem ref_at (x : FVec Ideal S4352x2048 .f32) (y : FVec Ideal S4352x256 .f32) (i : Fin 2048) (j : Fin 256) :
    (truncf .bf16 (transpose S2048x256 [1, 0] (transpose S256x2048 [1, 0] (Host.dotGeneral dot_S4352x2048_S4352x256_S2048x256_0_0_1_1_n_n none x y) transposes_S2048x256_S256x2048_1_0) transposes_S256x2048_S2048x256_1_0) bitsLt_bf16_f32 : FVec Ideal S2048x256 .bf16) (ix2 i j) = elt x y i j := by
  unfold elt
  pointwise

/-- The reference ends, its arguments unchanged and every counter at zero. -/
theorem ref_frame : Cert.quiescent_Reference26Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel26Ideal.Gen in
/-- The call and its reference end with the same array, at every argument. -/
theorem algebraic : Cert.algebraic_Kernel26Ideal_Reference26Ideal := by
  intro m g m' g' _ heq
  refine ⟨fun c => Cert.Kernel26Ideal.Value.G2 m c, Cert.Kernel26Ideal.Value.run m g,
    (θ_run Cert.Reference26Ideal.defs _ _).mono (fun r h c => ?_) (Cert.Reference26Ideal.Value.run m' g')⟩
  obtain ⟨h0, ha⟩ := h c
  obtain ⟨e0, e1⟩ := heq c
  rw [e0, e1] at h0
  refine ⟨h0.trans ?_, ha⟩
  funext y
  obtain ⟨i, j, rfl⟩ := Products.rowcol (n0 := 2048) (n1 := 256) y
  exact (ref_at _ _ i j).trans (result_at m c i j).symm

end Cert.Proof.GWUkv
-- ==== Proof.Rows.lean ====
/-
What the pointwise layers share: the gate written by a hyperbolic tangent is the logistic function, the numbers the
programs name, and a shifted row with zeros past the end.
-/
module

public import Idealize.ShloMosaic.Lib.Pointwise
public import Idealize.ShloMosaic.Lib.KernelVsHost
public import Idealize.ShloMosaic.Lib.IdealHost
public import Idealize.ShloMosaic.Lib.WordCmp
public import Idealize.ShloMosaic.Lib.Pipeline.Value

@[expose] public section

noncomputable section

open Idealize.ShloMosaic

namespace Cert.Proof.Rows

/-- One half. -/
theorem half_bits : Ideal.ofBits .f32 0x3F000000#32 = ((1 / 2 : ℝ) : EReal) := by
  simp [Ideal.ofBits, Ideal.ieee, -EReal.coe_mul]; norm_num

/-- The gate written by a hyperbolic tangent, at a real number. -/
theorem half_tanh_real (x : ℝ) : 1 / 2 * Real.tanh (1 / 2 * x) + 1 / 2 = (1 + Real.exp (-x))⁻¹ := by
  have e : Real.exp (-x) = Real.exp (-(1 / 2 * x)) * Real.exp (-(1 / 2 * x)) := by
    rw [← Real.exp_add]; congr 1; ring
  have p := Real.exp_pos (1 / 2 * x)
  rw [Real.tanh_eq, e, Real.exp_neg]
  field_simp
  ring

/-- The gate written by a hyperbolic tangent is the logistic function, at every extended real number. -/
theorem half_tanh (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one, ← EReal.coe_add]
    norm_num
  | coe x =>
    rw [← EReal.coe_mul, Ideal.tanh_coe, ← EReal.coe_mul, ← EReal.coe_add, half_tanh_real, Ideal.logistic_coe]

section Shift

variable {n w : ℕ}

/-- The row `k` of an array, and zero where there is no such row. -/
def row (x : (⟨2, ![n, w]⟩ : Shape).Idx → EReal) (k : ℕ) (j : Fin w) : EReal := if h : k < n then x (ix2 (⟨k, h⟩ : Fin n) j) else 0

/-- A row number compared with a constant. -/
theorem ge_at (hi : (⟨2, ![n, w]⟩ : Shape).Iotas .tc 32 [0]) (c : ℕ) (hn : n < 2 ^ 31) (hc : c < 2 ^ 31) (i : Fin n) (j : Fin w) :
    cmpi .sge (iota .tc ⟨2, ![n, w]⟩ 32 [0] hi) (broadcast ⟨2, ![n, w]⟩ (BitVec.ofNat 32 c)) (ix2 i j) = BitVec.ofBool (decide (c ≤ i.val)) := by
  show IntOp.cmpi .sge (iota .tc ⟨2, ![n, w]⟩ 32 [0] hi (ix2 i j)) (BitVec.ofNat 32 c) = _
  rw [iota_single_apply]
  exact WordCmp.cmpi_sge_ofNat (lt_of_lt_of_le i.isLt (by omega)) hc

theorem lt_at (hi : (⟨2, ![n, w]⟩ : Shape).Iotas .tc 32 [0]) (c : ℕ) (hn : n < 2 ^ 31) (hc : c < 2 ^ 31) (i : Fin n) (j : Fin w) :
    cmpi .slt (iota .tc ⟨2, ![n, w]⟩ 32 [0] hi) (broadcast ⟨2, ![n, w]⟩ (BitVec.ofNat 32 c)) (ix2 i j) = BitVec.ofBool (decide (i.val < c)) := by
  show IntOp.cmpi .slt (iota .tc ⟨2, ![n, w]⟩ 32 [0] hi (ix2 i j)) (BitVec.ofNat 32 c) = _
  rw [iota_single_apply]
  exact WordCmp.cmpi_slt_ofNat (lt_of_lt_of_le i.isLt (by omega)) hc

/-- A rotation, masked. -/
theorem shift_at (x z : (⟨2, ![n, w]⟩ : Shape).Idx → EReal) (m : IVec ⟨2, ![n, w]⟩ 1) (p : Prop) [Decidable p] (s : BitVec 32)
    (h : (⟨2, ![n, w]⟩ : Shape).Rotates 0 none) (i : Fin n) (j : Fin w) (k : ℕ) (hm : m (ix2 i j) = BitVec.ofBool (decide p))
    (hz : z (ix2 i j) = 0) (hk : p → k < n ∧ k = (i.val + n - s.toNat % n) % n) :
    select m (dynamicRotate 0 s none x h) z (ix2 i j) = if p then row x k j else 0 := by
  rw [ValueIdx.select_apply, hm]
  by_cases hp : p
  · rw [if_pos hp, decide_eq_true hp, row, dif_pos (hk hp).1]
    refine Eq.trans (b := dynamicRotate 0 s none x h (ix2 i j)) rfl ?_
    refine dynamicRotate_apply 0 s x h _ _ fun b => ?_
    match b with
    | ⟨0, _⟩ => exact (hk hp).2
    | ⟨1, _⟩ => rfl
  · rw [if_neg hp, decide_eq_false hp]
    exact hz

/-- The row before, and zero before the first. -/
theorem prev_at (hi : (⟨2, ![n, w]⟩ : Shape).Iotas .tc 32 [0]) (x z : (⟨2, ![n, w]⟩ : Shape).Idx → EReal) (h : (⟨2, ![n, w]⟩ : Shape).Rotates 0 none)
    (hn : 1 < n ∧ n < 2 ^ 31) (i : Fin n) (j : Fin w) (hz : z (ix2 i j) = 0) :
    select (cmpi .sge (iota .tc ⟨2, ![n, w]⟩ 32 [0] hi) (broadcast ⟨2, ![n, w]⟩ 1#32)) (dynamicRotate 0 1#32 none x h) z (ix2 i j)
      = if 1 ≤ i.val then row x (i.val - 1) j else 0 := by
  refine shift_at x z _ _ 1#32 h i j _ (ge_at hi 1 hn.2 (by norm_num) i j) hz fun hp => ⟨by omega, ?_⟩
  have e : (1#32 : BitVec 32).toNat = 1 := rfl
  rw [e, Nat.mod_eq_of_lt hn.1, show i.val + n - 1 = (i.val - 1) + n by omega, Nat.add_mod_right, Nat.mod_eq_of_lt (by omega)]

/-- The row after, and zero after the last. -/
theorem next_at (hi : (⟨2, ![n, w]⟩ : Shape).Iotas .tc 32 [0]) (x z : (⟨2, ![n, w]⟩ : Shape).Idx → EReal) (h : (⟨2, ![n, w]⟩ : Shape).Rotates 0 none)
    (q : ℕ) (hq : q + 1 = n) (hn : 1 < n ∧ n < 2 ^ 31) (i : Fin n) (j : Fin w) (hz : z (ix2 i j) = 0) :
    select (cmpi .slt (iota .tc ⟨2, ![n, w]⟩ 32 [0] hi) (broadcast ⟨2, ![n, w]⟩ (BitVec.ofNat 32 q))) (dynamicRotate 0 (BitVec.ofNat 32 q) none x h) z (ix2 i j)
      = row x (i.val + 1) j := by
  rw [shift_at x z _ (i.val < q) _ h i j (i.val + 1) (lt_at hi q hn.2 (by omega) i j) hz fun hp => ⟨by omega, ?_⟩]
  · by_cases hp : i.val < q
    · rw [if_pos hp]
    · rw [if_neg hp, row, dif_neg (by omega)]
  · have e : (BitVec.ofNat 32 q).toNat = q := by rw [BitVec.toNat_ofNat, Nat.mod_eq_of_lt (by omega)]
    rw [e, Nat.mod_eq_of_lt (show q < n by omega), show i.val + n - q = i.val + 1 by omega, Nat.mod_eq_of_lt (by omega)]

end Shift

end Cert.Proof.Rows
-- ==== Proof.ConvGate.lean ====
/-
The short convolution and its gate: each grid point's block of columns, and the array the call leaves.
-/
module

public import proofs.«01_k».proof.Proof.Products
public import proofs.«01_k».proof.Proof.Rows
public import proofs.«01_k».proof.Proof.Gen.Kernel27Ideal.Value
public import proofs.«01_k».proof.Proof.Gen.Reference27Ideal.Run

@[expose] public section

noncomputable section

namespace Cert.Proof.ConvGate

section Call

open Cert.Kernel27Ideal Cert.Kernel27Ideal.Gen Idealize.ShloMosaic Idealize.ShloMosaic.TcCoe Products Rows

/-- The three taps' sum over a block: the bias, the row before, the row and the row after. -/
def acv (x : FVec Ideal S4096x128 .bf16) (b w0 w1 w2 : FVec Ideal S1x128 .f32) (i : Fin 4096) (j : Fin 128) : EReal :=
  b (ix2 0 j) + (if 1 ≤ i.val then row (n := 4096) (w := 128) x (i.val - 1) j else 0) * w0 (ix2 0 j) + x (ix2 i j) * w1 (ix2 0 j)
    + row (n := 4096) (w := 128) x (i.val + 1) j * w2 (ix2 0 j)

theorem zero_at (r : Fin 4096) (l : Fin 128) : (broadcast S4096x128 (Scalar.ofBits .f32 0x00000000#32 : Ideal .f32)) (ix2 r l) = (0 : EReal) := by
  pointwise

/-- Widening changes no number. -/
theorem wide_eq (v0 : FVec Ideal S4096x128 .bf16) :
    (extf .f32 (shapeCast S4096x128 v0 shapeCasts_S4096x128_S4096x128) bitsLt_bf16_f32 : FVec Ideal S4096x128 .f32) = v0 := by
  funext y
  obtain ⟨i, j, rfl⟩ := Products.rowcol (n0 := 4096) (n1 := 128) y
  pointwise

/-- The convolution through its gate. -/
theorem pay2_at (v0 : FVec Ideal S4096x128 .bf16) (v15 v19 v23 v27 : FVec Ideal S1x128 .f32) (r : Fin 4096) (l : Fin 128) :
    k0_pay2 (F := Ideal) v0 v15 v19 v23 v27 (ix2 r l) = acv v0 v15 v19 v23 v27 r l * Ideal.logistic (acv v0 v15 v19 v23 v27 r l) := by
  have hp := prev_at (n := 4096) (w := 128) iota_S4096x128_d0_w32 v0 (broadcast S4096x128 (Scalar.ofBits .f32 0x00000000#32 : Ideal .f32)) rotates_S4096x128_d0 (by norm_num) r l (zero_at r l)
  have hn := next_at (n := 4096) (w := 128) iota_S4096x128_d0_w32 v0 (broadcast S4096x128 (Scalar.ofBits .f32 0x00000000#32 : Ideal .f32)) rotates_S4096x128_d0 4095 (by norm_num) (by norm_num) r l (zero_at r l)
  rw [← half_tanh]
  unfold k0_pay2 acv
  rw [← hp, ← hn, ← half_bits]
  dsimp only
  rw [wide_eq]
  generalize select (cmpi .sge (iota .tc S4096x128 32 [0] iota_S4096x128_d0_w32) _) (dynamicRotate 0 1#32 none v0 _) _ = P
  generalize select (cmpi .slt (iota .tc S4096x128 32 [0] iota_S4096x128_d0_w32) _) (dynamicRotate 0 4095#32 none v0 _) _ = N
  pointwise

/-- The three taps' sum, of the whole array's column. -/
def ac (u : FVec Ideal S4096x5632 .f32) (w : FVec Ideal S3x2816 .f32) (b : FVec Ideal S2816 .f32) (i : Fin 4096) (j : Fin 2816) : EReal :=
  b (ix1 j) + (if 1 ≤ i.val then row (n := 4096) (w := 5632) u (i.val - 1) ⟨j.val, by omega⟩ else 0) * w (ix2 0 j)
    + u (ix2 i (⟨j.val, by omega⟩ : Fin 5632)) * w (ix2 1 j) + row (n := 4096) (w := 5632) u (i.val + 1) ⟨j.val, by omega⟩ * w (ix2 2 j)

/-- An element of the result. -/
def elt (u : FVec Ideal S4096x5632 .f32) (w : FVec Ideal S3x2816 .f32) (b : FVec Ideal S2816 .f32) (i : Fin 4096) (j : Fin 2816) : EReal :=
  ac u w b i j * Ideal.logistic (ac u w b i j) * u (ix2 i (⟨2816 + j.val, by omega⟩ : Fin 5632))

/-- The blocks a grid point reads. -/
theorem idx_a : ∀ t : Fin cfg0.N, win0_0.index t 0 = 0 ∧ win0_0.index t 1 = t.val := by decide +kernel
theorem idx_g : ∀ t : Fin cfg0.N, win0_1.index t 0 = 0 ∧ win0_1.index t 1 = 22 + t.val := by decide +kernel
theorem idx_w : ∀ t : Fin cfg0.N, win0_2.index t 0 = 0 ∧ win0_2.index t 1 = t.val := by decide +kernel
theorem idx_b : ∀ t : Fin cfg0.N, win0_3.index t 0 = 0 ∧ win0_3.index t 1 = t.val := by decide +kernel

variable (m : (ℓ : Loc nD τ sig) → Buf (Elt Ideal) ℓ) (c : Dev nD)

/-- The three arguments. -/
abbrev argU : FVec Ideal S4096x5632 .f32 := m ((c : Thread nD τ).loc main_arg0)
abbrev argW : FVec Ideal S3x2816 .f32 := m ((c : Thread nD τ).loc main_arg1)
abbrev argB : FVec Ideal S2816 .f32 := m ((c : Thread nD τ).loc main_arg2)

theorem u_at (i : Fin 4096) (j : Fin 5632) : V m c main_v0 (ix2 i j) = argU m c (ix2 i j) := by
  have e : V m c main_v0 = (truncf .bf16 (argU m c) bitsLt_bf16_f32 : FVec Ideal S4096x5632 .bf16) := by
    unfold V; after_reads_simp
  rw [e]; pointwise

theorem b_at (j : Fin 2816) : V m c main_v1 (ix2 0 j) = argB m c (ix1 j) := by
  have e : V m c main_v1 = (shapeCast S1x2816 (argB m c) shapeCasts_S2816_S1x2816 : FVec Ideal S1x2816 .f32) := by
    unfold V; after_reads_simp; rfl
  rw [e]; pointwise

theorem blk_a (t : Fin cfg0.N) (r : Fin 4096) (l : Fin 128) (Q : Fin 5632) (hQ : Q.val = t.val * 128 + l.val) :
    iblk m c 0 t (ix2 r l) = argU m c (ix2 r Q) := by
  rw [← u_at]
  unfold iblk
  rw [View.read_apply]
  exact at2 (V m c main_v0) _ _ _ (whole (idx_a t).1) (moved (idx_a t).2 hQ)

theorem blk_g (t : Fin cfg0.N) (r : Fin 4096) (l : Fin 128) (Q : Fin 5632) (hQ : Q.val = 2816 + t.val * 128 + l.val) :
    iblk m c 1 t (ix2 r l) = argU m c (ix2 r Q) := by
  rw [← u_at]
  unfold iblk
  rw [View.read_apply]
  exact at2 (V m c main_v0) _ _ _ (whole (idx_g t).1) (moved (idx_g t).2 (by show Q.val = (22 + t.val) * 128 + l.val; omega))

theorem blk_w (t : Fin cfg0.N) (k : Fin 3) (l : Fin 128) (Q : Fin 2816) (hQ : Q.val = t.val * 128 + l.val) :
    iblk m c 2 t (ix2 k l) = argW m c (ix2 k Q) := by
  unfold iblk
  rw [View.read_apply]
  show V m c main_arg1 _ = _
  rw [V_main_arg1]
  exact at2 (argW m c) _ _ _ (whole (idx_w t).1) (moved (idx_w t).2 hQ)

theorem blk_b (t : Fin cfg0.N) (l : Fin 128) (Q : Fin 2816) (hQ : Q.val = t.val * 128 + l.val) :
    iblk m c 3 t (ix2 0 l) = argB m c (ix1 Q) := by
  rw [← b_at]
  unfold iblk
  rw [View.read_apply]
  exact at2 (V m c main_v1) _ _ _ (whole (idx_b t).1) (moved (idx_b t).2 hQ)

/-- A row of a block is the row of the array. -/
theorem row_a (t : Fin cfg0.N) (k : ℕ) (l : Fin 128) (Q : Fin 5632) (hQ : Q.val = t.val * 128 + l.val) :
    row (n := 4096) (w := 128) (iblk m c 0 t) k l = row (n := 4096) (w := 5632) (argU m c) k Q := by
  unfold row
  by_cases h : k < 4096
  · rw [dif_pos h, dif_pos h]; exact blk_a m c t ⟨k, h⟩ l Q hQ
  · rw [dif_neg h, dif_neg h]

/-- One row of the taps' block. -/
theorem tap0 (x : Vec Ideal S3x128 .f32) (l : Fin 128) : (View.ld x r0_2 : Vec Ideal S1x128 .f32) (ix2 0 l) = x (ix2 0 l) :=
  View.ld_unit_apply_of (Val := Elt Ideal) (e := .f32) x ![0, 0] S1x128.size inb_S3x128_S1x128_0_0 (ix2 0 l) (ix2 0 l) fun a => by match a with | ⟨0, _⟩ => rfl | ⟨1, _⟩ => show l.val = 0 + l.val; omega
theorem tap1 (x : Vec Ideal S3x128 .f32) (l : Fin 128) : (View.ld x r0_3 : Vec Ideal S1x128 .f32) (ix2 0 l) = x (ix2 1 l) :=
  View.ld_unit_apply_of (Val := Elt Ideal) (e := .f32) x ![1, 0] S1x128.size inb_S3x128_S1x128_1_0 (ix2 0 l) (ix2 1 l) fun a => by match a with | ⟨0, _⟩ => rfl | ⟨1, _⟩ => show l.val = 0 + l.val; omega
theorem tap2 (x : Vec Ideal S3x128 .f32) (l : Fin 128) : (View.ld x r0_4 : Vec Ideal S1x128 .f32) (ix2 0 l) = x (ix2 2 l) :=
  View.ld_unit_apply_of (Val := Elt Ideal) (e := .f32) x ![2, 0] S1x128.size inb_S3x128_S1x128_2_0 (ix2 0 l) (ix2 2 l) fun a => by match a with | ⟨0, _⟩ => rfl | ⟨1, _⟩ => show l.val = 0 + l.val; omega

/-- The taps' sum of a block is the array's. -/
theorem acv_eq (t : Fin cfg0.N) (r : Fin 4096) (l : Fin 128) (T : Fin 2816) (hT : T.val = t.val * 128 + l.val) :
    acv (iblk m c 0 t) (iblk m c 3 t) (View.ld (iblk m c 2 t) r0_2) (View.ld (iblk m c 2 t) r0_3) (View.ld (iblk m c 2 t) r0_4) r l
      = ac (argU m c) (argW m c) (argB m c) r T := by
  unfold acv ac
  rw [blk_b m c t l T hT, row_a m c t _ l ⟨T.val, by omega⟩ hT, row_a m c t _ l ⟨T.val, by omega⟩ hT, blk_a m c t r l ⟨T.val, by omega⟩ hT]
  refine congrArg₂ (· + ·) (congrArg₂ (· + ·) (congrArg₂ (· + ·) rfl (congrArg₂ (· * ·) rfl ?_)) (congrArg₂ (· * ·) rfl ?_)) (congrArg₂ (· * ·) rfl ?_)
  · exact (tap0 (iblk m c 2 t) l).trans (blk_w m c t 0 l T hT)
  · exact (tap1 (iblk m c 2 t) l).trans (blk_w m c t 1 l T hT)
  · exact (tap2 (iblk m c 2 t) l).trans (blk_w m c t 2 l T hT)

/-- The block a grid point writes holds the array's elements. -/
theorem outs_at (t : Fin cfg0.N) (r : Fin 4096) (l : Fin 128) (T : Fin 2816) (hT : T.val = t.val * 128 + l.val) :
    out0_4 (F := Ideal) (iblk m c 0 t) (iblk m c 1 t) (iblk m c 2 t) (iblk m c 3 t) (ix2 r l) = elt (argU m c) (argW m c) (argB m c) r T := by
  unfold out0_4
  rw [View.canon_unit_zero (S := S4096x128) hz2, View.ld_unit_zero (S := S4096x128) hz2, View.ld_unit_zero (S := S4096x128) hz2, View.ld_unit_zero (S := S1x128) hz2]
  have e := pay2_at (iblk m c 0 t) (iblk m c 3 t) (View.ld (iblk m c 2 t) r0_2) (View.ld (iblk m c 2 t) r0_3) (View.ld (iblk m c 2 t) r0_4) r l
  rw [acv_eq m c t r l T hT] at e
  unfold elt
  rw [← e, ← blk_g m c t r l ⟨2816 + T.val, by omega⟩ (by show 2816 + T.val = 2816 + t.val * 128 + l.val; omega)]
  unfold k0_pay1
  generalize k0_pay2 (F := Ideal) _ _ _ _ _ = P
  pointwise

theorem flush_o : ∀ t : Fin cfg0.N, (cfg0.win 4).flush t = true := by decide +kernel
theorem idx_o : ∀ t : Fin cfg0.N, win0_4.index t 0 = 0 ∧ win0_4.index t 1 = t.val := by decide +kernel

/-- The array the call leaves. -/
theorem result_at (i : Fin 4096) (j : Fin 2816) : (dats m 0 c).arrAt 4 cfg0.N (ix2 i j) = elt (argU m c) (argW m c) (argB m c) i j := by
  have hN : j.val / 128 < cfg0.N := by show j.val / 128 < 22; omega
  have hb := congrFun (Value.blocks4 m c ⟨j.val / 128, hN⟩ (flush_o _)) (ix2 i (⟨j.val % 128, by omega⟩ : Fin 128))
  rw [Value.flushed4] at hb
  have he : ((cfg0.win 4).blk ⟨j.val / 128, hN⟩).view.read (Elt Ideal) ((dats m 0 c).arrAt 4 cfg0.N) (ix2 i (⟨j.val % 128, by omega⟩ : Fin 128))
      = (dats m 0 c).arrAt 4 cfg0.N (ix2 i j) := by
    rw [View.read_apply]
    exact at2 ((dats m 0 c).arrAt 4 cfg0.N) _ _ _ (whole (idx_o _).1) (moved (idx_o _).2 (by show j.val = j.val / 128 * 128 + (j.val % 128); omega))
  rw [← he]
  refine hb.trans ?_
  exact outs_at m c ⟨j.val / 128, hN⟩ _ _ j (by show j.val = j.val / 128 * 128 + j.val % 128; omega)

end Call

section Reference

open Cert.Reference27Ideal Cert.Reference27Ideal.Gen Idealize.ShloMosaic Idealize.ShloMosaic.TcCoe Rows

/-- The reference's result at an element. -/
theorem ref_at (m : (l : Loc nD τ sig) → Buf (Elt Ideal) l) (c : Dev nD) (i : Fin 4096) (j : Fin 2816) :
    (Value.res_main_v30 m c : FVec Ideal S4096x2816 .bf16) (ix2 i j)
      = elt (m ((c.tc : Thread nD τ).loc main_arg0)) (m ((c.tc : Thread nD τ).loc main_arg1)) (m ((c.tc : Thread nD τ).loc main_arg2)) i j := by
  have hp : ∀ x : FVec Ideal S4096x5632 .f32, (if h : i.val < 1 then (0 : EReal) else if h : i.val - 1 < 4096 then x (ix2 (⟨i.val - 1, h⟩ : Fin 4096) (⟨j.val, by omega⟩ : Fin 5632)) else 0)
      = if 1 ≤ i.val then row (n := 4096) (w := 5632) x (i.val - 1) ⟨j.val, by omega⟩ else 0 := fun x => by
    unfold row
    by_cases h : i.val < 1
    · rw [dif_pos h, if_neg (by omega)]
    · rw [dif_neg h, if_pos (by omega)]
  have hn : ∀ x : FVec Ideal S4096x5632 .f32, (if h : 2 + i.val < 1 then (0 : EReal) else if h : 2 + i.val - 1 < 4096 then x (ix2 (⟨2 + i.val - 1, h⟩ : Fin 4096) (⟨j.val, by omega⟩ : Fin 5632)) else 0)
      = row (n := 4096) (w := 5632) x (i.val + 1) ⟨j.val, by omega⟩ := fun x => by
    unfold row
    rw [dif_neg (by omega)]
    by_cases h : i.val + 1 < 4096
    · rw [dif_pos h, dif_pos (by omega)]; congr 3; omega
    · rw [dif_neg h, dif_neg (by omega)]
  unfold elt ac
  rw [← hp, ← hn]
  unfold Value.res_main_v30 Ideal.logistic
  pointwise

/-- The reference ends, its arguments unchanged and every counter at zero. -/
theorem ref_frame : Cert.quiescent_Reference27Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel27Ideal.Gen in
/-- The call and its reference end with the same array, at every argument. -/
theorem algebraic : Cert.algebraic_Kernel27Ideal_Reference27Ideal := by
  intro m g m' g' _ heq
  refine ⟨fun c => (dats m 0 c).arrAt 4 Cert.Kernel27Ideal.cfg0.N, Cert.Kernel27Ideal.Value.run_blocks m g,
    (θ_run Cert.Reference27Ideal.defs _ _).mono (fun r h c => ?_) (Cert.Reference27Ideal.Value.run m' g')⟩
  obtain ⟨h0, ha⟩ := h c
  obtain ⟨e0, e1, e2⟩ := heq c
  refine ⟨h0.trans ?_, ha⟩
  funext y
  obtain ⟨i, j, rfl⟩ := Products.rowcol (n0 := 4096) (n1 := 2816) y
  refine (ref_at m' c i j).trans ?_
  rw [e0, e1, e2]
  exact (result_at m c i j).symm

end Cert.Proof.ConvGate
-- ==== Proof.ConvGateBwd.lean ====
/-
The backward pass of the short convolution and its gate: each grid point's blocks, and the three arrays the call leaves.
-/
module

public import proofs.«01_k».proof.Proof.Products
public import proofs.«01_k».proof.Proof.Rows
public import proofs.«01_k».proof.Proof.ConvGate
public import proofs.«01_k».proof.Proof.Pre
public import proofs.«01_k».proof.Proof.Gen.Kernel28Ideal.Value
public import proofs.«01_k».proof.Proof.Gen.Reference28Ideal.Run

@[expose] public section

noncomputable section

namespace Cert.Proof.ConvGateBwd

open Idealize.ShloMosaic in
instance facts : Cert.Pre_finite28.Facts where
  slices_S4096x5632_S4096x2816_0_2816 := by decide
  bcast_S_S4096x2816 := by decide
  reducesTo_S4096x2816_S_d0_1 := by decide
  h_S_ := by decide

open Cert.Pre_finite28 Idealize.ShloMosaic in
/-- The gate's half of the first argument and the incoming gradient are real numbers. -/
theorem reals (u : FVec Ideal S4096x5632 .f32) (w : FVec Ideal S3x2816 .f32) (b : FVec Ideal S2816 .f32) (d : FVec Ideal S4096x2816 .f32)
    (h : fn (F := Ideal) u w b d = fun _ => 1#1) (i : Fin 4096) (j : Fin 2816) :
    (∃ r : ℝ, u (ix2 i (⟨2816 + j.val, by omega⟩ : Fin 5632)) = r) ∧ ∃ r : ℝ, d (ix2 i j) = r := by
  have h0 := congrFun h (Shape.Idx.first Facts.h_S_)
  unfold fn at h0
  obtain ⟨h1, h2⟩ := IntOp.andi_eq_one.1 h0
  refine ⟨?_, Pre.all_real d _ (fun _ => rfl) _ _ _ _ h2 (ix2 i j)⟩
  obtain ⟨r, hr⟩ := Pre.all_real _ _ (fun _ => rfl) _ _ _ _ h1 (ix2 i j)
  refine ⟨r, Eq.trans ?_ hr⟩
  pointwise

open Idealize.ShloMosaic in
/-- Two ways of writing the gate's slope, the incoming number real. -/
theorem slope (D : ℝ) (z : EReal) :
    (D : EReal) * Ideal.logistic z + z * D * (Ideal.logistic z * (1 - Ideal.logistic z)) = D * (Ideal.logistic z * (1 + z * (1 - Ideal.logistic z))) := by
  induction z using EReal.rec with
  | bot =>
    rw [Ideal.logistic_bot]; simp
  | top =>
    rw [Ideal.logistic_top]
    have e : (1 : EReal) - 1 = 0 := by rw [← EReal.coe_one, ← EReal.coe_sub, sub_self, EReal.coe_zero]
    rw [e]; simp
  | coe x =>
    rw [Ideal.logistic_coe, ← EReal.coe_one]
    simp only [← EReal.coe_mul, ← EReal.coe_sub, ← EReal.coe_add]
    congr 1; ring

section Call

open Cert.Kernel28Ideal Cert.Kernel28Ideal.Gen Idealize.ShloMosaic Idealize.ShloMosaic.TcCoe Products Rows

theorem pay4_at (v0 : FVec Ideal S4096x128 .bf16) : k0_pay4 (F := Ideal) v0 = v0 := ConvGate.wide_eq v0

theorem pay5_at (v0 : FVec Ideal S4096x128 .bf16) (r : Fin 4096) (l : Fin 128) :
    k0_pay5 (F := Ideal) v0 (ix2 r l) = if 1 ≤ r.val then row (n := 4096) (w := 128) v0 (r.val - 1) l else 0 := by
  unfold k0_pay5
  rw [pay4_at]
  exact prev_at (n := 4096) (w := 128) iota_S4096x128_d0_w32 v0 _ rotates_S4096x128_d0 (by norm_num) r l (ConvGate.zero_at r l)

theorem pay6_at (v0 : FVec Ideal S4096x128 .bf16) (r : Fin 4096) (l : Fin 128) :
    k0_pay6 (F := Ideal) v0 (ix2 r l) = row (n := 4096) (w := 128) v0 (r.val + 1) l := by
  unfold k0_pay6
  rw [pay4_at]
  exact next_at (n := 4096) (w := 128) iota_S4096x128_d0_w32 v0 _ rotates_S4096x128_d0 4095 (by norm_num) (by norm_num) r l (ConvGate.zero_at r l)

theorem pay7_at (v0 : FVec Ideal S4096x128 .bf16) (v15 v19 v23 v27 : FVec Ideal S1x128 .f32) (r : Fin 4096) (l : Fin 128) :
    k0_pay7 (F := Ideal) v0 v15 v19 v23 v27 (ix2 r l) = ConvGate.acv v0 v15 v19 v23 v27 r l := by
  have hp := pay5_at v0 r l
  have hn := pay6_at v0 r l
  unfold k0_pay7 ConvGate.acv
  rw [← hp, ← hn, pay4_at]
  generalize k0_pay5 (F := Ideal) v0 = P
  generalize k0_pay6 (F := Ideal) v0 = N
  pointwise

/-- The gate. -/
theorem gate_at (v0 : FVec Ideal S4096x128 .bf16) (v15 v19 v23 v27 : FVec Ideal S1x128 .f32) (r : Fin 4096) (l : Fin 128) :
    k0_pay10 (k0_pay9 (F := Ideal) v0 v15 v19 v23 v27) (ix2 r l) = Ideal.logistic (ConvGate.acv v0 v15 v19 v23 v27 r l) := by
  rw [← half_tanh, ← pay7_at, ← half_bits]
  unfold k0_pay10 k0_pay9
  dsimp only
  generalize k0_pay7 (F := Ideal) v0 v15 v19 v23 v27 = A
  pointwise

theorem pay8_at (v0 : FVec Ideal S4096x128 .bf16) : k0_pay8 (F := Ideal) v0 = v0 := ConvGate.wide_eq v0

/-- The gradient of the taps' sum, of a block. -/
def tv (x : FVec Ideal S4096x128 .bf16) (b w0 w1 w2 : FVec Ideal S1x128 .f32) (g d : FVec Ideal S4096x128 .bf16) (i : Fin 4096) (j : Fin 128) : EReal :=
  d (ix2 i j) * g (ix2 i j) * (Ideal.logistic (ConvGate.acv x b w0 w1 w2 i j) * (1 + ConvGate.acv x b w0 w1 w2 i j * (1 - Ideal.logistic (ConvGate.acv x b w0 w1 w2 i j))))

theorem pay12_at (v0 : FVec Ideal S4096x128 .bf16) (v15 v19 v23 v27 : FVec Ideal S1x128 .f32) (g d : FVec Ideal S4096x128 .bf16) (r : Fin 4096) (l : Fin 128) :
    k0_pay12 (F := Ideal) (k0_pay7 v0 v15 v19 v23 v27) (k0_pay8 d) (k0_pay9 v0 v15 v19 v23 v27) g (ix2 r l) = tv v0 v15 v19 v23 v27 g d r l := by
  unfold tv
  rw [← gate_at, ← pay7_at, pay8_at]
  unfold k0_pay12
  generalize k0_pay10 (F := Ideal) _ = S
  generalize k0_pay7 (F := Ideal) v0 v15 v19 v23 v27 = A
  pointwise

theorem pay11_at (v0 : FVec Ideal S4096x128 .bf16) (v15 v19 v23 v27 : FVec Ideal S1x128 .f32) (d : FVec Ideal S4096x128 .bf16) (r : Fin 4096) (l : Fin 128) :
    k0_pay11 (F := Ideal) (k0_pay7 v0 v15 v19 v23 v27) (k0_pay8 d) (k0_pay9 v0 v15 v19 v23 v27) (ix3 0 r l)
      = d (ix2 r l) * (ConvGate.acv v0 v15 v19 v23 v27 r l * Ideal.logistic (ConvGate.acv v0 v15 v19 v23 v27 r l)) := by
  rw [← gate_at, ← pay7_at, pay8_at]
  unfold k0_pay11
  generalize k0_pay10 (F := Ideal) _ = S
  generalize k0_pay7 (F := Ideal) v0 v15 v19 v23 v27 = A
  pointwise

/-- The gradient of the convolved half, from the gradient of the taps' sum. -/
theorem da_at (v30 v33 v38 : FVec Ideal S4096x128 .f32) (v47 : FVec Ideal S4096x128 .bf16) (w0 w1 w2 : FVec Ideal S1x128 .f32) (r : Fin 4096) (l : Fin 128) :
    k0_pay1 (F := Ideal) (k0_pay13 v30 v33 v38 v47 w0 w1) (k0_pay14 v30 v33 v38 v47) w2 (ix3 0 r l)
      = row (n := 4096) (w := 128) (k0_pay12 (F := Ideal) v30 v33 v38 v47) (r.val + 1) l * w0 (ix2 0 l)
        + k0_pay12 (F := Ideal) v30 v33 v38 v47 (ix2 r l) * w1 (ix2 0 l)
        + (if 1 ≤ r.val then row (n := 4096) (w := 128) (k0_pay12 (F := Ideal) v30 v33 v38 v47) (r.val - 1) l else 0) * w2 (ix2 0 l) := by
  unfold k0_pay1 k0_pay13 k0_pay14
  dsimp only
  generalize k0_pay12 (F := Ideal) v30 v33 v38 v47 = T
  rw [← prev_at (n := 4096) (w := 128) iota_S4096x128_d0_w32 T (broadcast S4096x128 (Scalar.ofBits .f32 0x00000000#32 : Ideal .f32)) rotates_S4096x128_d0 (by norm_num) r l (ConvGate.zero_at r l),
    ← next_at (n := 4096) (w := 128) iota_S4096x128_d0_w32 T (broadcast S4096x128 (Scalar.ofBits .f32 0x00000000#32 : Ideal .f32)) rotates_S4096x128_d0 4095 (by norm_num) (by norm_num) r l (ConvGate.zero_at r l)]
  generalize select (cmpi .sge (iota .tc S4096x128 32 [0] iota_S4096x128_d0_w32) _) (dynamicRotate 0 1#32 none T _) _ = P
  generalize select (cmpi .slt (iota .tc S4096x128 32 [0] iota_S4096x128_d0_w32) _) (dynamicRotate 0 4095#32 none T _) _ = N
  trans 0 + N (ix2 r l) * w0 (ix2 0 l) + T (ix2 r l) * w1 (ix2 0 l) + P (ix2 r l) * w2 (ix2 0 l)
  · pointwise
  · rw [zero_add]

/-- A column's sum. -/
theorem pay3_at (T : FVec Ideal S4096x128 .f32) (l : Fin 128) :
    k0_pay3 (F := Ideal) T (ix2 0 l) = ∑ k : Fin 4096, T (ix2 k l) := by
  unfold k0_pay3
  pointwise

/-- The three columns' sums. -/
theorem pay2_at (A P N T : FVec Ideal S4096x128 .f32) (l : Fin 128) (q : Fin 3) :
    k0_pay2 (F := Ideal) A P N T (ix2 q l) = ∑ k : Fin 4096, T (ix2 k l) * (if q.val = 0 then P (ix2 k l) else if q.val = 1 then A (ix2 k l) else N (ix2 k l)) := by
  unfold k0_pay2
  fin_cases q
  · pointwise
  · pointwise
  · pointwise

/-- The gradient of the taps' sum, of the whole array. -/
def te (u : FVec Ideal S4096x5632 .f32) (w : FVec Ideal S3x2816 .f32) (b : FVec Ideal S2816 .f32) (d : FVec Ideal S4096x2816 .f32) (i : Fin 4096) (j : Fin 2816) : EReal :=
  d (ix2 i j) * u (ix2 i (⟨2816 + j.val, by omega⟩ : Fin 5632))
    * (Ideal.logistic (ConvGate.ac u w b i j) * (1 + ConvGate.ac u w b i j * (1 - Ideal.logistic (ConvGate.ac u w b i j))))

/-- The same as an array. -/
def ta (u : FVec Ideal S4096x5632 .f32) (w : FVec Ideal S3x2816 .f32) (b : FVec Ideal S2816 .f32) (d : FVec Ideal S4096x2816 .f32) : FVec Ideal S4096x2816 .f32 :=
  fun y => te u w b d (y 0) (y 1)

/-- The two halves of the first result. -/
def da (u : FVec Ideal S4096x5632 .f32) (w : FVec Ideal S3x2816 .f32) (b : FVec Ideal S2816 .f32) (d : FVec Ideal S4096x2816 .f32) (i : Fin 4096) (j : Fin 2816) : EReal :=
  row (n := 4096) (w := 2816) (ta u w b d) (i.val + 1) j * w (ix2 0 j) + ta u w b d (ix2 i j) * w (ix2 1 j)
    + (if 1 ≤ i.val then row (n := 4096) (w := 2816) (ta u w b d) (i.val - 1) j else 0) * w (ix2 2 j)
def dg (u : FVec Ideal S4096x5632 .f32) (w : FVec Ideal S3x2816 .f32) (b : FVec Ideal S2816 .f32) (d : FVec Ideal S4096x2816 .f32) (i : Fin 4096) (j : Fin 2816) : EReal :=
  d (ix2 i j) * (ConvGate.ac u w b i j * Ideal.logistic (ConvGate.ac u w b i j))

/-- The taps' gradient. -/
def dw (u : FVec Ideal S4096x5632 .f32) (w : FVec Ideal S3x2816 .f32) (b : FVec Ideal S2816 .f32) (d : FVec Ideal S4096x2816 .f32) (q : Fin 3) (j : Fin 2816) : EReal :=
  ∑ k : Fin 4096, ta u w b d (ix2 k j) * (if q.val = 0 then (if 1 ≤ k.val then row (n := 4096) (w := 5632) u (k.val - 1) ⟨j.val, by omega⟩ else 0)
    else if q.val = 1 then u (ix2 k (⟨j.val, by omega⟩ : Fin 5632)) else row (n := 4096) (w := 5632) u (k.val + 1) ⟨j.val, by omega⟩)

/-- The bias's gradient. -/
def db (u : FVec Ideal S4096x5632 .f32) (w : FVec Ideal S3x2816 .f32) (b : FVec Ideal S2816 .f32) (d : FVec Ideal S4096x2816 .f32) (j : Fin 2816) : EReal :=
  ∑ k : Fin 4096, ta u w b d (ix2 k j)

/-- The blocks a grid point reads. -/
theorem idx_a : ∀ t : Fin cfg0.N, win0_0.index t 0 = 0 ∧ win0_0.index t 1 = t.val := by decide +kernel
theorem idx_g : ∀ t : Fin cfg0.N, win0_1.index t 0 = 0 ∧ win0_1.index t 1 = 22 + t.val := by decide +kernel
theorem idx_d : ∀ t : Fin cfg0.N, win0_2.index t 0 = 0 ∧ win0_2.index t 1 = t.val := by decide +kernel
theorem idx_w : ∀ t : Fin cfg0.N, win0_3.index t 0 = 0 ∧ win0_3.index t 1 = t.val := by decide +kernel
theorem idx_b : ∀ t : Fin cfg0.N, win0_4.index t 0 = 0 ∧ win0_4.index t 1 = t.val := by decide +kernel

variable (m : (ℓ : Loc nD τ sig) → Buf (Elt Ideal) ℓ) (c : Dev nD)

/-- The four arguments. -/
abbrev argU : FVec Ideal S4096x5632 .f32 := m ((c : Thread nD τ).loc main_arg0)
abbrev argW : FVec Ideal S3x2816 .f32 := m ((c : Thread nD τ).loc main_arg1)
abbrev argB : FVec Ideal S2816 .f32 := m ((c : Thread nD τ).loc main_arg2)
abbrev argD : FVec Ideal S4096x2816 .f32 := m ((c : Thread nD τ).loc main_arg3)

theorem u_at (i : Fin 4096) (j : Fin 5632) : V m c main_v0 (ix2 i j) = argU m c (ix2 i j) := by
  have e : V m c main_v0 = (truncf .bf16 (argU m c) bitsLt_bf16_f32 : FVec Ideal S4096x5632 .bf16) := by
    unfold V; after_reads_simp
  rw [e]; pointwise

theorem d_at (i : Fin 4096) (j : Fin 2816) : V m c main_v1 (ix2 i j) = argD m c (ix2 i j) := by
  have e : V m c main_v1 = (truncf .bf16 (argD m c) bitsLt_bf16_f32 : FVec Ideal S4096x2816 .bf16) := by
    unfold V; after_reads_simp
  rw [e]; pointwise

theorem b_at (j : Fin 2816) : V m c main_v2 (ix2 0 j) = argB m c (ix1 j) := by
  have e : V m c main_v2 = (shapeCast S1x2816 (argB m c) shapeCasts_S2816_S1x2816 : FVec Ideal S1x2816 .f32) := by
    unfold V; after_reads_simp; rfl
  rw [e]; pointwise

theorem blk_a (t : Fin cfg0.N) (r : Fin 4096) (l : Fin 128) (Q : Fin 5632) (hQ : Q.val = t.val * 128 + l.val) :
    iblk m c 0 t (ix2 r l) = argU m c (ix2 r Q) := by
  rw [← u_at]
  unfold iblk
  rw [View.read_apply]
  exact at2 (V m c main_v0) _ _ _ (whole (idx_a t).1) (moved (idx_a t).2 hQ)

theorem blk_g (t : Fin cfg0.N) (r : Fin 4096) (l : Fin 128) (Q : Fin 5632) (hQ : Q.val = 2816 + t.val * 128 + l.val) :
    iblk m c 1 t (ix2 r l) = argU m c (ix2 r Q) := by
  rw [← u_at]
  unfold iblk
  rw [View.read_apply]
  exact at2 (V m c main_v0) _ _ _ (whole (idx_g t).1) (moved (idx_g t).2 (by show Q.val = (22 + t.val) * 128 + l.val; omega))

theorem blk_d (t : Fin cfg0.N) (r : Fin 4096) (l : Fin 128) (Q : Fin 2816) (hQ : Q.val = t.val * 128 + l.val) :
    iblk m c 2 t (ix2 r l) = argD m c (ix2 r Q) := by
  rw [← d_at]
  unfold iblk
  rw [View.read_apply]
  exact at2 (V m c main_v1) _ _ _ (whole (idx_d t).1) (moved (idx_d t).2 hQ)

theorem blk_w (t : Fin cfg0.N) (k : Fin 3) (l : Fin 128) (Q : Fin 2816) (hQ : Q.val = t.val * 128 + l.val) :
    iblk m c 3 t (ix2 k l) = argW m c (ix2 k Q) := by
  unfold iblk
  rw [View.read_apply]
  show V m c main_arg1 _ = _
  rw [V_main_arg1]
  exact at2 (argW m c) _ _ _ (whole (idx_w t).1) (moved (idx_w t).2 hQ)

theorem blk_b (t : Fin cfg0.N) (l : Fin 128) (Q : Fin 2816) (hQ : Q.val = t.val * 128 + l.val) :
    iblk m c 4 t (ix2 0 l) = argB m c (ix1 Q) := by
  rw [← b_at]
  unfold iblk
  rw [View.read_apply]
  exact at2 (V m c main_v2) _ _ _ (whole (idx_b t).1) (moved (idx_b t).2 hQ)

/-- A row of a block is the row of the array. -/
theorem row_a (t : Fin cfg0.N) (k : ℕ) (l : Fin 128) (Q : Fin 5632) (hQ : Q.val = t.val * 128 + l.val) :
    row (n := 4096) (w := 128) (iblk m c 0 t) k l = row (n := 4096) (w := 5632) (argU m c) k Q := by
  unfold row
  by_cases h : k < 4096
  · rw [dif_pos h, dif_pos h]; exact blk_a m c t ⟨k, h⟩ l Q hQ
  · rw [dif_neg h, dif_neg h]

/-- One row of the taps' block. -/
theorem tap0 (x : Vec Ideal S3x128 .f32) (l : Fin 128) : (View.ld x r0_2 : Vec Ideal S1x128 .f32) (ix2 0 l) = x (ix2 0 l) :=
  View.ld_unit_apply_of (Val := Elt Ideal) (e := .f32) x ![0, 0] S1x128.size inb_S3x128_S1x128_0_0 (ix2 0 l) (ix2 0 l) fun a => by match a with | ⟨0, _⟩ => rfl | ⟨1, _⟩ => show l.val = 0 + l.val; omega
theorem tap1 (x : Vec Ideal S3x128 .f32) (l : Fin 128) : (View.ld x r0_3 : Vec Ideal S1x128 .f32) (ix2 0 l) = x (ix2 1 l) :=
  View.ld_unit_apply_of (Val := Elt Ideal) (e := .f32) x ![1, 0] S1x128.size inb_S3x128_S1x128_1_0 (ix2 0 l) (ix2 1 l) fun a => by match a with | ⟨0, _⟩ => rfl | ⟨1, _⟩ => show l.val = 0 + l.val; omega
theorem tap2 (x : Vec Ideal S3x128 .f32) (l : Fin 128) : (View.ld x r0_4 : Vec Ideal S1x128 .f32) (ix2 0 l) = x (ix2 2 l) :=
  View.ld_unit_apply_of (Val := Elt Ideal) (e := .f32) x ![2, 0] S1x128.size inb_S3x128_S1x128_2_0 (ix2 0 l) (ix2 2 l) fun a => by match a with | ⟨0, _⟩ => rfl | ⟨1, _⟩ => show l.val = 0 + l.val; omega

section Block

variable (t : Fin cfg0.N) (l : Fin 128) (T : Fin 2816) (hT : T.val = t.val * 128 + l.val)
include hT

theorem w0_eq : (View.ld (iblk m c 3 t) r0_2 : Vec Ideal S1x128 .f32) (ix2 0 l) = argW m c (ix2 0 T) := (tap0 (iblk m c 3 t) l).trans (blk_w m c t 0 l T hT)
theorem w1_eq : (View.ld (iblk m c 3 t) r0_3 : Vec Ideal S1x128 .f32) (ix2 0 l) = argW m c (ix2 1 T) := (tap1 (iblk m c 3 t) l).trans (blk_w m c t 1 l T hT)
theorem w2_eq : (View.ld (iblk m c 3 t) r0_4 : Vec Ideal S1x128 .f32) (ix2 0 l) = argW m c (ix2 2 T) := (tap2 (iblk m c 3 t) l).trans (blk_w m c t 2 l T hT)

/-- The taps' sum of a block is the array's. -/
theorem acv_eq (r : Fin 4096) :
    ConvGate.acv (iblk m c 0 t) (iblk m c 4 t) (View.ld (iblk m c 3 t) r0_2) (View.ld (iblk m c 3 t) r0_3) (View.ld (iblk m c 3 t) r0_4) r l
      = ConvGate.ac (argU m c) (argW m c) (argB m c) r T := by
  unfold ConvGate.acv ConvGate.ac
  rw [blk_b m c t l T hT, row_a m c t _ l ⟨T.val, by omega⟩ hT, row_a m c t _ l ⟨T.val, by omega⟩ hT, blk_a m c t r l ⟨T.val, by omega⟩ hT]
  exact congrArg₂ (· + ·) (congrArg₂ (· + ·) (congrArg₂ (· + ·) rfl (congrArg₂ (· * ·) rfl (w0_eq m c t l T hT))) (congrArg₂ (· * ·) rfl (w1_eq m c t l T hT)))
    (congrArg₂ (· * ·) rfl (w2_eq m c t l T hT))

/-- The gradient of the taps' sum, of a block, is the array's. -/
theorem p18_at (r : Fin 4096) :
    k0_pay18 (F := Ideal) (iblk m c 0 t) (iblk m c 1 t) (iblk m c 2 t) (iblk m c 3 t) (iblk m c 4 t) (ix2 r l)
      = ta (argU m c) (argW m c) (argB m c) (argD m c) (ix2 r T) := by
  unfold k0_pay18 k0_pay17 k0_pay16 k0_pay15
  rw [View.ld_unit_zero (S := S4096x128) hz2, View.ld_unit_zero (S := S4096x128) hz2, View.ld_unit_zero (S := S4096x128) hz2, View.ld_unit_zero (S := S1x128) hz2]
  refine (pay12_at (iblk m c 0 t) (iblk m c 4 t) (View.ld (iblk m c 3 t) r0_2) (View.ld (iblk m c 3 t) r0_3) (View.ld (iblk m c 3 t) r0_4) (iblk m c 1 t) (iblk m c 2 t) r l).trans ?_
  unfold tv
  rw [acv_eq m c t l T hT r, blk_d m c t r l T hT, blk_g m c t r l ⟨2816 + T.val, by omega⟩ (by show 2816 + T.val = 2816 + t.val * 128 + l.val; omega)]
  rfl

/-- Its rows. -/
theorem row_p (k : ℕ) :
    row (n := 4096) (w := 128) (k0_pay18 (F := Ideal) (iblk m c 0 t) (iblk m c 1 t) (iblk m c 2 t) (iblk m c 3 t) (iblk m c 4 t)) k l
      = row (n := 4096) (w := 2816) (ta (argU m c) (argW m c) (argB m c) (argD m c)) k T := by
  unfold row
  by_cases h : k < 4096
  · rw [dif_pos h, dif_pos h]; exact p18_at m c t l T hT ⟨k, h⟩
  · rw [dif_neg h, dif_neg h]

/-- The convolved half's block. -/
theorem outs_a (r : Fin 4096) :
    k0_pay1 (F := Ideal) (k0_pay13 (k0_pay15 (iblk m c 0 t) (iblk m c 1 t) (iblk m c 2 t) (iblk m c 3 t) (iblk m c 4 t)) (k0_pay16 (iblk m c 0 t) (iblk m c 1 t) (iblk m c 2 t) (iblk m c 3 t) (iblk m c 4 t)) (k0_pay17 (iblk m c 0 t) (iblk m c 1 t) (iblk m c 2 t) (iblk m c 3 t) (iblk m c 4 t)) (View.ld (iblk m c 1 t) r0_0) (View.ld (iblk m c 3 t) r0_2) (View.ld (iblk m c 3 t) r0_3)) (k0_pay14 (k0_pay15 (iblk m c 0 t) (iblk m c 1 t) (iblk m c 2 t) (iblk m c 3 t) (iblk m c 4 t)) (k0_pay16 (iblk m c 0 t) (iblk m c 1 t) (iblk m c 2 t) (iblk m c 3 t) (iblk m c 4 t)) (k0_pay17 (iblk m c 0 t) (iblk m c 1 t) (iblk m c 2 t) (iblk m c 3 t) (iblk m c 4 t)) (View.ld (iblk m c 1 t) r0_0)) (View.ld (iblk m c 3 t) r0_4) (ix3 0 r l)
      = da (argU m c) (argW m c) (argB m c) (argD m c) r T := by
  refine (da_at _ _ _ _ _ _ _ r l).trans ?_
  change row (n := 4096) (w := 128) (k0_pay18 (F := Ideal) (iblk m c 0 t) (iblk m c 1 t) (iblk m c 2 t) (iblk m c 3 t) (iblk m c 4 t)) (r.val + 1) l * _
    + k0_pay18 (F := Ideal) (iblk m c 0 t) (iblk m c 1 t) (iblk m c 2 t) (iblk m c 3 t) (iblk m c 4 t) (ix2 r l) * _
    + (if 1 ≤ r.val then row (n := 4096) (w := 128) (k0_pay18 (F := Ideal) (iblk m c 0 t) (iblk m c 1 t) (iblk m c 2 t) (iblk m c 3 t) (iblk m c 4 t)) (r.val - 1) l else 0) * _ = _
  rw [row_p m c t l T hT, row_p m c t l T hT, p18_at m c t l T hT]
  exact congrArg₂ (· + ·) (congrArg₂ (· + ·) (congrArg₂ (· * ·) rfl (w0_eq m c t l T hT)) (congrArg₂ (· * ·) rfl (w1_eq m c t l T hT)))
    (congrArg₂ (· * ·) rfl (w2_eq m c t l T hT))

/-- The gating half's block. -/
theorem outs_g (r : Fin 4096) :
    k0_pay11 (F := Ideal) (k0_pay15 (iblk m c 0 t) (iblk m c 1 t) (iblk m c 2 t) (iblk m c 3 t) (iblk m c 4 t)) (k0_pay16 (iblk m c 0 t) (iblk m c 1 t) (iblk m c 2 t) (iblk m c 3 t) (iblk m c 4 t)) (k0_pay17 (iblk m c 0 t) (iblk m c 1 t) (iblk m c 2 t) (iblk m c 3 t) (iblk m c 4 t)) (ix3 0 r l)
      = dg (argU m c) (argW m c) (argB m c) (argD m c) r T := by
  unfold k0_pay17 k0_pay16 k0_pay15
  rw [View.ld_unit_zero (S := S4096x128) hz2, View.ld_unit_zero (S := S4096x128) hz2, View.ld_unit_zero (S := S1x128) hz2]
  refine (pay11_at (iblk m c 0 t) (iblk m c 4 t) (View.ld (iblk m c 3 t) r0_2) (View.ld (iblk m c 3 t) r0_3) (View.ld (iblk m c 3 t) r0_4) (iblk m c 2 t) r l).trans ?_
  rw [acv_eq m c t l T hT r, blk_d m c t r l T hT]
  rfl

/-- The first result's block: the two halves, one after the other. -/
theorem outs5_at (h : Fin 2) (r : Fin 4096) :
    out0_5 (F := Ideal) (iblk m c 0 t) (iblk m c 1 t) (iblk m c 2 t) (iblk m c 3 t) (iblk m c 4 t) (ix3 h r l)
      = if h.val = 0 then da (argU m c) (argW m c) (argB m c) (argD m c) r T else dg (argU m c) (argW m c) (argB m c) (argD m c) r T := by
  unfold out0_5
  match h with
  | ⟨0, _⟩ =>
    rw [if_pos rfl, ← outs_a m c t l T hT r]
    have e : (ix3 (⟨0, by norm_num⟩ : Fin 2) r l : S2x4096x128.Idx) = r0_6.emb (ix3 0 r l) := by
      funext a; apply Fin.ext
      match a with
      | ⟨0, _⟩ => rfl
      | ⟨1, _⟩ => show r.val = 0 + 1 * r.val; omega
      | ⟨2, _⟩ => show l.val = 0 + 1 * l.val; omega
    rw [e]
    exact View.canon_cons_emb _ _ _ _
  | ⟨1, _⟩ =>
    rw [if_neg (show ¬ (1 : ℕ) = 0 by norm_num), ← outs_g m c t l T hT r]
    have e : (ix3 (⟨1, by norm_num⟩ : Fin 2) r l : S2x4096x128.Idx) = r0_5.emb (ix3 0 r l) := by
      funext a; apply Fin.ext
      match a with
      | ⟨0, _⟩ => rfl
      | ⟨1, _⟩ => show r.val = 0 + 1 * r.val; omega
      | ⟨2, _⟩ => show l.val = 0 + 1 * l.val; omega
    refine (View.canon_cons_of_not_mem _ _ ?_).trans ?_
    · exact Rect.not_mem_set_of_axis r0_6 _ 0 0 1 rfl rfl rfl (Or.inr (by show 0 + 1 ≤ 1; omega))
    · rw [e]; exact View.canon_cons_emb _ _ _ _

/-- The taps' gradient's block. -/
theorem outs6_at (q : Fin 3) :
    out0_6 (F := Ideal) (iblk m c 0 t) (iblk m c 1 t) (iblk m c 2 t) (iblk m c 3 t) (iblk m c 4 t) (ix2 q l)
      = dw (argU m c) (argW m c) (argB m c) (argD m c) q T := by
  unfold out0_6
  rw [View.canon_unit_zero (S := S3x128) hz2, View.ld_unit_zero (S := S4096x128) hz2]
  refine (pay2_at _ _ _ _ l q).trans ?_
  unfold dw
  refine Finset.sum_congr rfl fun k _ => ?_
  rw [p18_at m c t l T hT k, pay4_at, pay5_at, pay6_at, row_a m c t _ l ⟨T.val, by omega⟩ hT, row_a m c t _ l ⟨T.val, by omega⟩ hT, blk_a m c t k l ⟨T.val, by omega⟩ hT]

/-- The bias's gradient's block. -/
theorem outs7_at :
    out0_7 (F := Ideal) (iblk m c 0 t) (iblk m c 1 t) (iblk m c 2 t) (iblk m c 3 t) (iblk m c 4 t) (ix2 0 l)
      = db (argU m c) (argW m c) (argB m c) (argD m c) T := by
  unfold out0_7
  rw [View.canon_unit_zero (S := S1x128) hz2]
  refine (pay3_at _ l).trans ?_
  unfold db
  exact Finset.sum_congr rfl fun k _ => p18_at m c t l T hT k

end Block

theorem flush_5 : ∀ t : Fin cfg0.N, (cfg0.win 5).flush t = true := by decide +kernel
theorem flush_6 : ∀ t : Fin cfg0.N, (cfg0.win 6).flush t = true := by decide +kernel
theorem flush_7 : ∀ t : Fin cfg0.N, (cfg0.win 7).flush t = true := by decide +kernel
theorem idx_5 : ∀ t : Fin cfg0.N, win0_5.index t 0 = 0 ∧ win0_5.index t 1 = 0 ∧ win0_5.index t 2 = t.val := by decide +kernel
theorem idx_6 : ∀ t : Fin cfg0.N, win0_6.index t 0 = 0 ∧ win0_6.index t 1 = t.val := by decide +kernel
theorem idx_7 : ∀ t : Fin cfg0.N, win0_7.index t 0 = 0 ∧ win0_7.index t 1 = t.val := by decide +kernel

/-- The arrays the call leaves. -/
theorem result5_at (h : Fin 2) (i : Fin 4096) (j : Fin 2816) : (dats m 0 c).arrAt 5 cfg0.N (ix3 h i j)
    = if h.val = 0 then da (argU m c) (argW m c) (argB m c) (argD m c) i j else dg (argU m c) (argW m c) (argB m c) (argD m c) i j := by
  have hN : j.val / 128 < cfg0.N := by show j.val / 128 < 22; omega
  have hb := congrFun (Value.blocks5 m c ⟨j.val / 128, hN⟩ (flush_5 _)) (ix3 h i (⟨j.val % 128, by omega⟩ : Fin 128))
  rw [Value.flushed5] at hb
  have he : ((cfg0.win 5).blk ⟨j.val / 128, hN⟩).view.read (Elt Ideal) ((dats m 0 c).arrAt 5 cfg0.N) (ix3 h i (⟨j.val % 128, by omega⟩ : Fin 128))
      = (dats m 0 c).arrAt 5 cfg0.N (ix3 h i j) := by
    rw [View.read_apply]
    exact at3 ((dats m 0 c).arrAt 5 cfg0.N) _ _ _ _ (whole (idx_5 _).1) (whole (idx_5 _).2.1) (moved (idx_5 _).2.2 (by show j.val = j.val / 128 * 128 + (j.val % 128); omega))
  rw [← he]
  refine hb.trans ?_
  exact outs5_at m c ⟨j.val / 128, hN⟩ _ j (by show j.val = j.val / 128 * 128 + j.val % 128; omega) h i

theorem result6_at (q : Fin 3) (j : Fin 2816) : (dats m 0 c).arrAt 6 cfg0.N (ix2 q j) = dw (argU m c) (argW m c) (argB m c) (argD m c) q j := by
  have hN : j.val / 128 < cfg0.N := by show j.val / 128 < 22; omega
  have hb := congrFun (Value.blocks6 m c ⟨j.val / 128, hN⟩ (flush_6 _)) (ix2 q (⟨j.val % 128, by omega⟩ : Fin 128))
  rw [Value.flushed6] at hb
  have he : ((cfg0.win 6).blk ⟨j.val / 128, hN⟩).view.read (Elt Ideal) ((dats m 0 c).arrAt 6 cfg0.N) (ix2 q (⟨j.val % 128, by omega⟩ : Fin 128))
      = (dats m 0 c).arrAt 6 cfg0.N (ix2 q j) := by
    rw [View.read_apply]
    exact at2 ((dats m 0 c).arrAt 6 cfg0.N) _ _ _ (whole (idx_6 _).1) (moved (idx_6 _).2 (by show j.val = j.val / 128 * 128 + (j.val % 128); omega))
  rw [← he]
  refine hb.trans ?_
  exact outs6_at m c ⟨j.val / 128, hN⟩ _ j (by show j.val = j.val / 128 * 128 + j.val % 128; omega) q

theorem result7_at (j : Fin 2816) : (dats m 0 c).arrAt 7 cfg0.N (ix2 0 j) = db (argU m c) (argW m c) (argB m c) (argD m c) j := by
  have hN : j.val / 128 < cfg0.N := by show j.val / 128 < 22; omega
  have hb := congrFun (Value.blocks7 m c ⟨j.val / 128, hN⟩ (flush_7 _)) (ix2 0 (⟨j.val % 128, by omega⟩ : Fin 128))
  rw [Value.flushed7] at hb
  have he : ((cfg0.win 7).blk ⟨j.val / 128, hN⟩).view.read (Elt Ideal) ((dats m 0 c).arrAt 7 cfg0.N) (ix2 0 (⟨j.val % 128, by omega⟩ : Fin 128))
      = (dats m 0 c).arrAt 7 cfg0.N (ix2 0 j) := by
    rw [View.read_apply]
    exact at2 ((dats m 0 c).arrAt 7 cfg0.N) _ _ _ (whole (idx_7 _).1) (moved (idx_7 _).2 (by show j.val = j.val / 128 * 128 + (j.val % 128); omega))
  rw [← he]
  refine hb.trans ?_
  exact outs7_at m c ⟨j.val / 128, hN⟩ _ j (by show j.val = j.val / 128 * 128 + j.val % 128; omega)

end Call

section Reference

open Cert.Reference28Ideal Cert.Reference28Ideal.Gen Idealize.ShloMosaic Idealize.ShloMosaic.TcCoe Rows

theorem prev_form {w : ℕ} (x : (⟨2, ![4096, w]⟩ : Shape).Idx → EReal) (i : Fin 4096) (j : Fin w) :
    (if h : i.val < 1 then (0 : EReal) else if h : i.val - 1 < 4096 then x (ix2 (⟨i.val - 1, h⟩ : Fin 4096) j) else 0)
      = if 1 ≤ i.val then row (n := 4096) (w := w) x (i.val - 1) j else 0 := by
  unfold row
  by_cases h : i.val < 1
  · rw [dif_pos h, if_neg (by omega)]
  · rw [dif_neg h, if_pos (by omega)]

theorem next_form {w : ℕ} (x : (⟨2, ![4096, w]⟩ : Shape).Idx → EReal) (i : Fin 4096) (j : Fin w) :
    (if h : 2 + i.val < 1 then (0 : EReal) else if h : 2 + i.val - 1 < 4096 then x (ix2 (⟨2 + i.val - 1, h⟩ : Fin 4096) j) else 0)
      = row (n := 4096) (w := w) x (i.val + 1) j := by
  unfold row
  rw [dif_neg (by omega)]
  by_cases h : i.val + 1 < 4096
  · rw [dif_pos h, dif_pos (by omega)]; congr 3; omega
  · rw [dif_neg h, dif_neg (by omega)]

theorem three (a b c : EReal) : c + b + a = a + b + c := by abel

theorem one_sum (f : Fin 4096 → EReal) : ∑ _x : Fin 1, ∑ k : Fin 4096, f k = ∑ k : Fin 4096, f k := Fin.sum_univ_one _
theorem turn (f g : Fin 4096 → EReal) : ∑ _x : Fin 1, ∑ k : Fin 4096, f k * g k = ∑ k : Fin 4096, g k * f k :=
  (one_sum _).trans (Finset.sum_congr rfl fun k _ => mul_comm _ _)

set_option maxHeartbeats 1000000 in
/-- The reference's results at their elements. -/
theorem ref_at (m : (l : Loc nD τ sig) → Buf (Elt Ideal) l) (c : Dev nD) (U : FVec Ideal S4096x5632 .f32) (W : FVec Ideal S3x2816 .f32) (B : FVec Ideal S2816 .f32) (D : FVec Ideal S4096x2816 .f32)
    (hU : m ((c.tc : Thread nD τ).loc main_arg0) = U) (hW : m ((c.tc : Thread nD τ).loc main_arg1) = W) (hB : m ((c.tc : Thread nD τ).loc main_arg2) = B) (hD : m ((c.tc : Thread nD τ).loc main_arg3) = D)
    (hr : ∀ (i : Fin 4096) (j : Fin 2816), (∃ r : ℝ, U (ix2 i (⟨2816 + j.val, by omega⟩ : Fin 5632)) = r) ∧ ∃ r : ℝ, D (ix2 i j) = r) :
    (∀ (h : Fin 2) (i : Fin 4096) (j : Fin 2816), (Value.res_main_v75 m c : FVec Ideal S2x4096x2816 .bf16) (ix3 h i j) = if h.val = 0 then da U W B D i j else dg U W B D i j)
    ∧ (∀ (q : Fin 3) (j : Fin 2816), (Value.res_main_v66 m c : FVec Ideal S3x2816 .f32) (ix2 q j) = dw U W B D q j)
    ∧ (∀ j : Fin 2816, (Value.res_main_v76 m c : FVec Ideal S1x2816 .f32) (ix2 0 j) = db U W B D j) := by
  unfold Value.res_main_v75 Value.res_main_v66 Value.res_main_v76
  rw [hU, hW, hB, hD]
  generalize hC : (addf (addf (addf (broadcastInDim _ _ _ (broadcastInDim _ _ _ _)) (mulf _ _)) (mulf _ _)) (mulf _ _) : FVec Ideal S4096x2816 .f32) = C
  have hc : ∀ (i : Fin 4096) (j : Fin 2816), (C : FVec Ideal S4096x2816 .f32) (ix2 i j) = ConvGate.ac U W B i j := fun i j => by
    unfold ConvGate.ac
    rw [← prev_form (w := 5632), ← next_form (w := 5632), ← hC]
    pointwise
  clear hC
  generalize hT : (addf (mulf (mulf _ _) (Host.divf _ _)) (mulf (mulf _ _) (mulf _ (subf _ _))) : FVec Ideal S4096x2816 .f32) = T
  have ht : (T : FVec Ideal S4096x2816 .f32) = ta U W B D := by
    funext y
    obtain ⟨i, j, rfl⟩ := Products.rowcol (n0 := 4096) (n1 := 2816) y
    show _ = te U W B D i j
    obtain ⟨⟨g, hg⟩, ⟨d, hd⟩⟩ := hr i j
    unfold te
    rw [hg, hd, ← EReal.coe_mul, ← slope, EReal.coe_mul, ← hg, ← hd, ← hc, ← hT]
    unfold Ideal.logistic
    pointwise
  clear hT
  rw [ht]
  generalize hTA : ta U W B D = A
  refine ⟨fun h i j => ?_, fun q j => ?_, fun j => ?_⟩
  · unfold da dg
    rw [hTA]
    match h with
    | ⟨0, _⟩ =>
      rw [if_pos rfl, ← prev_form (w := 2816), ← next_form (w := 2816), ← three]
      clear hr hc ht
      pointwise
      refine congrArg₂ (· + ·) (congrArg₂ (· + ·) ?_ ?_) ?_
      · by_cases h : i.val < 1
        · rw [dif_pos h, zero_mul]
          refine dif_neg fun hh => ?_
          have := (hh 0).1
          change 2 ≤ 1 + i.val at this
          omega
        · rw [dif_neg h, dif_pos (show i.val - 1 < 4096 by omega)]
          refine (dif_pos fun a => ?_).trans ?_
          · match a with
            | ⟨0, _⟩ => exact ⟨by show 2 ≤ 1 + i.val; omega, Nat.mod_one _, by show (1 + i.val - 2) / 1 < 4096; omega⟩
            | ⟨1, _⟩ => exact ⟨Nat.zero_le _, Nat.mod_one _, by show (j.val - 0) / 1 < 2816; omega⟩
          · congr 4; omega
      · refine dif_pos fun a => ?_
        match a with
        | ⟨0, _⟩ => exact ⟨by show 1 ≤ 1 + i.val; omega, Nat.mod_one _, by show (1 + i.val - 1) / 1 < 4096; omega⟩
        | ⟨1, _⟩ => exact ⟨Nat.zero_le _, Nat.mod_one _, by show (j.val - 0) / 1 < 2816; omega⟩
      · rw [dif_neg (show ¬ 2 + i.val < 1 by omega)]
        by_cases h : 2 + i.val - 1 < 4096
        · rw [dif_pos h]
          refine (dif_pos fun a => ?_).trans ?_
          · match a with
            | ⟨0, _⟩ => exact ⟨Nat.zero_le _, Nat.mod_one _, by show (1 + i.val - 0) / 1 < 4096; omega⟩
            | ⟨1, _⟩ => exact ⟨Nat.zero_le _, Nat.mod_one _, by show (j.val - 0) / 1 < 2816; omega⟩
          · congr 4; omega
        · rw [dif_neg h, zero_mul]
          refine dif_neg fun hh => ?_
          have := (hh 0).2.2
          change (1 + i.val - 0) / 1 < 4096 at this
          omega
    | ⟨1, _⟩ =>
      rw [if_neg (show ¬ (1 : ℕ) = 0 by norm_num), ← hc, mul_comm]
      unfold Ideal.logistic
      pointwise
  · unfold dw
    rw [hTA]
    clear hr hc ht
    simp only [← prev_form (w := 5632), ← next_form (w := 5632)]
    fin_cases q
    · pointwise
      exact turn _ _
    · pointwise
      exact turn _ _
    · pointwise
      exact turn _ _
  · unfold db
    rw [hTA]
    pointwise
    exact one_sum _

/-- The reference ends, its arguments unchanged and every counter at zero. -/
theorem ref_frame (m : (l : Loc nD τ sig) → Buf (Elt Ideal) l) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, Idealize.ShloMosaic.sem_eq_zero_of_no_sems (by decide) r.2⟩) (Value.run m ρ)

end Reference

open Idealize.ShloMosaic Idealize.ShloMosaic.TcCoe Cert.Kernel28Ideal.Gen in
/-- The call and its reference end with the same arrays, the gate's half and the incoming gradient being real. -/
theorem algebraic : Cert.algebraic_Kernel28Ideal_Reference28Ideal_pre_finite28 := by
  intro m g m' g' hpre heq
  refine ⟨fun c => (dats m 0 c).arrAt 5 Cert.Kernel28Ideal.cfg0.N, fun c => (dats m 0 c).arrAt 6 Cert.Kernel28Ideal.cfg0.N, fun c => (dats m 0 c).arrAt 7 Cert.Kernel28Ideal.cfg0.N,
    Cert.Kernel28Ideal.Value.run_blocks m g,
    (θ_run Cert.Reference28Ideal.defs _ _).mono (fun r h c => ?_) (Cert.Reference28Ideal.Value.run m' g')⟩
  obtain ⟨h0, h1, h2, ha⟩ := h c
  obtain ⟨e0, e1, e2, e3⟩ := heq c
  obtain ⟨r0, r1, r2⟩ := ref_at m' c _ _ _ _ e0 e1 e2 e3 (reals _ _ _ _ (hpre c))
  refine ⟨h0.trans ?_, h1.trans ?_, h2.trans ?_, ha⟩
  · funext y
    obtain ⟨h, i, j, rfl⟩ : ∃ (h : Fin 2) (i : Fin 4096) (j : Fin 2816), y = ix3 h i j := ⟨y 0, y 1, y 2, eq_ix3 (n0 := 2) (n1 := 4096) (n2 := 2816) y⟩
    exact (r0 h i j).trans (result5_at m c h i j).symm
  · funext y
    obtain ⟨i, j, rfl⟩ := Products.rowcol (n0 := 3) (n1 := 2816) y
    exact (r1 i j).trans (result6_at m c i j).symm
  · funext y
    obtain ⟨i, j, rfl⟩ := Products.rowcol (n0 := 1) (n1 := 2816) y
    obtain rfl : i = 0 := Subsingleton.elim _ _
    exact (r2 j).trans (result7_at m c j).symm

end Cert.Proof.ConvGateBwd
-- ==== Proof.Merge.lean ====
/-
The merge of the two halves through their gates: each grid point's block of rows, and the array the call leaves.
-/
module

public import proofs.«01_k».proof.Proof.Products
public import proofs.«01_k».proof.Proof.Rows
public import proofs.«01_k».proof.Proof.Gen.Kernel31Ideal.Value
public import proofs.«01_k».proof.Proof.Gen.Reference31Ideal.Run

@[expose] public section

noncomputable section

namespace Cert.Proof.Merge

section Call

open Cert.Kernel31Ideal Cert.Kernel31Ideal.Gen Idealize.ShloMosaic Idealize.ShloMosaic.TcCoe Products Rows

/-- Eight blocks of columns side by side, and the bias. -/
theorem glue_at (v0 v1 v2 v3 v4 v5 v6 v7 : FVec Ideal S512x256 .bf16) (b : FVec Ideal S1x2048 .f32) (r : Fin 512) (q : Fin 2048) (f : Fin 2048 → EReal)
    (h0 : ∀ (l : Fin 256) (q : Fin 2048), q.val = 0 + l.val → v0 (ix2 r l) = f q)
    (h1 : ∀ (l : Fin 256) (q : Fin 2048), q.val = 256 + l.val → v1 (ix2 r l) = f q)
    (h2 : ∀ (l : Fin 256) (q : Fin 2048), q.val = 512 + l.val → v2 (ix2 r l) = f q)
    (h3 : ∀ (l : Fin 256) (q : Fin 2048), q.val = 768 + l.val → v3 (ix2 r l) = f q)
    (h4 : ∀ (l : Fin 256) (q : Fin 2048), q.val = 1024 + l.val → v4 (ix2 r l) = f q)
    (h5 : ∀ (l : Fin 256) (q : Fin 2048), q.val = 1280 + l.val → v5 (ix2 r l) = f q)
    (h6 : ∀ (l : Fin 256) (q : Fin 2048), q.val = 1536 + l.val → v6 (ix2 r l) = f q)
    (h7 : ∀ (l : Fin 256) (q : Fin 2048), q.val = 1792 + l.val → v7 (ix2 r l) = f q) :
    k0_pay4 (F := Ideal) v0 v1 v2 v3 v4 v5 v6 v7 b (ix2 r q) = f q + b (ix2 0 q) := by
  unfold k0_pay4
  pointwise
  congr 1
  by_cases e0 : q.val < 256
  · rw [dif_pos e0]; exact h0 _ q (by dsimp only; omega)
  rw [dif_neg e0]
  by_cases e1 : q.val - 256 < 256
  · rw [dif_pos e1]; exact h1 _ q (by dsimp only; omega)
  rw [dif_neg e1]
  by_cases e2 : q.val - 256 - 256 < 256
  · rw [dif_pos e2]; exact h2 _ q (by dsimp only; omega)
  rw [dif_neg e2]
  by_cases e3 : q.val - 256 - 256 - 256 < 256
  · rw [dif_pos e3]; exact h3 _ q (by dsimp only; omega)
  rw [dif_neg e3]
  by_cases e4 : q.val - 256 - 256 - 256 - 256 < 256
  · rw [dif_pos e4]; exact h4 _ q (by dsimp only; omega)
  rw [dif_neg e4]
  by_cases e5 : q.val - 256 - 256 - 256 - 256 - 256 < 256
  · rw [dif_pos e5]; exact h5 _ q (by dsimp only; omega)
  rw [dif_neg e5]
  by_cases e6 : q.val - 256 - 256 - 256 - 256 - 256 - 256 < 256
  · rw [dif_pos e6]; exact h6 _ q (by dsimp only; omega)
  rw [dif_neg e6]
  exact h7 _ q (by dsimp only; omega)

/-- The gated sum of the two halves. -/
theorem gate_at (x y : FVec Ideal S512x1024 .bf16) (P : FVec Ideal S512x2048 .f32) (r : Fin 512) (l : Fin 1024) :
    k0_pay1 (F := Ideal) (k0_pay2 x) (k0_pay3 y) P k0_pay5 (ix2 r l)
      = Ideal.logistic (P (ix2 r (⟨l.val, by omega⟩ : Fin 2048))) * x (ix2 r l) + Ideal.logistic (P (ix2 r (⟨1024 + l.val, by omega⟩ : Fin 2048))) * y (ix2 r l) := by
  rw [← half_tanh, ← half_tanh, ← half_bits]
  unfold k0_pay1 k0_pay2 k0_pay3 k0_pay5
  pointwise

/-- What the body leaves in its block. -/
theorem body (c : Dev nD) (i : grid0.Coords) (a1 : Memref sig .tc .vmem S512x1024 .bf16) (h1 : a1.IsWhole) (a2 : Memref sig .tc .vmem S512x1024 .bf16) (h2 : a2.IsWhole)
    (a3 : Memref sig .tc .vmem S512x256 .bf16) (h3 : a3.IsWhole) (a4 : Memref sig .tc .vmem S512x256 .bf16) (h4 : a4.IsWhole) (a5 : Memref sig .tc .vmem S512x256 .bf16) (h5 : a5.IsWhole)
    (a6 : Memref sig .tc .vmem S512x256 .bf16) (h6 : a6.IsWhole) (a7 : Memref sig .tc .vmem S512x256 .bf16) (h7 : a7.IsWhole) (a8 : Memref sig .tc .vmem S512x256 .bf16) (h8 : a8.IsWhole)
    (a9 : Memref sig .tc .vmem S512x256 .bf16) (h9 : a9.IsWhole) (a10 : Memref sig .tc .vmem S512x256 .bf16) (h10 : a10.IsWhole) (a11 : Memref sig .tc .vmem S1x2048 .f32) (h11 : a11.IsWhole)
    (a12 : Memref sig .tc .vmem S512x1024 .bf16) (h12 : a12.IsWhole)
    (x y : Vec Ideal S512x1024 .bf16) (z0 z1 z2 z3 z4 z5 z6 z7 : Vec Ideal S512x256 .bf16) (b : Vec Ideal S1x2048 .f32) :
    out0_A_11 c i a1 h1 a2 h2 a3 h3 a4 h4 a5 h5 a6 h6 a7 h7 a8 h8 a9 h9 a10 h10 a11 h11 a12 h12 x y z0 z1 z2 z3 z4 z5 z6 z7 b
      = k0_pay1 (F := Ideal) (k0_pay2 x) (k0_pay3 y) (k0_pay4 z0 z1 z2 z3 z4 z5 z6 z7 b) k0_pay5 := by
  unfold out0_A_11
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread,
    h10.read_unread, h11.read_unread]
  rw [View.canon_unit_zero (S := S512x1024) hz2]
  simp only [View.ld_unit_zero (S := S512x1024) hz2, View.ld_unit_zero (S := S512x256) hz2, View.ld_unit_zero (S := S1x2048) hz2]

/-- One gate before its sigmoid. -/
def pre (z : FVec Ideal S4352x5376 .f32) (b : FVec Ideal S2048 .f32) (i : Fin 4096) (q : Fin 2048) : EReal :=
  z (ix2 (⟨i.val, by omega⟩ : Fin 4352) (⟨3328 + q.val, by omega⟩ : Fin 5376)) + b (ix1 q)

/-- An element of the result. -/
def elt (ya yb : FVec Ideal S4096x1024 .f32) (z : FVec Ideal S4352x5376 .f32) (b : FVec Ideal S2048 .f32) (i : Fin 4096) (j : Fin 1024) : EReal :=
  Ideal.logistic (pre z b i ⟨j.val, by omega⟩) * ya (ix2 i j) + Ideal.logistic (pre z b i ⟨1024 + j.val, by omega⟩) * yb (ix2 i j)

/-- The blocks a grid point reads. -/
theorem idx_a : ∀ t : Fin cfg0.N, win0_0.index t 0 = t.val ∧ win0_0.index t 1 = 0 := by decide +kernel
theorem idx_c : ∀ t : Fin cfg0.N, win0_1.index t 0 = t.val ∧ win0_1.index t 1 = 0 := by decide +kernel
theorem idx_b : ∀ t : Fin cfg0.N, win0_10.index t 0 = 0 ∧ win0_10.index t 1 = 0 := by decide +kernel
theorem idx_z0 : ∀ t : Fin cfg0.N, win0_2.index t 0 = t.val ∧ win0_2.index t 1 = 13 := by decide +kernel
theorem idx_z1 : ∀ t : Fin cfg0.N, win0_3.index t 0 = t.val ∧ win0_3.index t 1 = 14 := by decide +kernel
theorem idx_z2 : ∀ t : Fin cfg0.N, win0_4.index t 0 = t.val ∧ win0_4.index t 1 = 15 := by decide +kernel
theorem idx_z3 : ∀ t : Fin cfg0.N, win0_5.index t 0 = t.val ∧ win0_5.index t 1 = 16 := by decide +kernel
theorem idx_z4 : ∀ t : Fin cfg0.N, win0_6.index t 0 = t.val ∧ win0_6.index t 1 = 17 := by decide +kernel
theorem idx_z5 : ∀ t : Fin cfg0.N, win0_7.index t 0 = t.val ∧ win0_7.index t 1 = 18 := by decide +kernel
theorem idx_z6 : ∀ t : Fin cfg0.N, win0_8.index t 0 = t.val ∧ win0_8.index t 1 = 19 := by decide +kernel
theorem idx_z7 : ∀ t : Fin cfg0.N, win0_9.index t 0 = t.val ∧ win0_9.index t 1 = 20 := by decide +kernel

variable (m : (ℓ : Loc nD τ sig) → Buf (Elt Ideal) ℓ) (c : Dev nD)

/-- The four arguments. -/
abbrev argA : FVec Ideal S4096x1024 .f32 := m ((c : Thread nD τ).loc main_arg0)
abbrev argC : FVec Ideal S4096x1024 .f32 := m ((c : Thread nD τ).loc main_arg1)
abbrev argZ : FVec Ideal S4352x5376 .f32 := m ((c : Thread nD τ).loc main_arg2)
abbrev argB : FVec Ideal S2048 .f32 := m ((c : Thread nD τ).loc main_arg3)

theorem a_at (i : Fin 4096) (j : Fin 1024) : V m c main_v0 (ix2 i j) = argA m c (ix2 i j) := by
  have e : V m c main_v0 = (truncf .bf16 (argA m c) bitsLt_bf16_f32 : FVec Ideal S4096x1024 .bf16) := by
    unfold V; after_reads_simp
  rw [e]; pointwise

theorem c_at (i : Fin 4096) (j : Fin 1024) : V m c main_v1 (ix2 i j) = argC m c (ix2 i j) := by
  have e : V m c main_v1 = (truncf .bf16 (argC m c) bitsLt_bf16_f32 : FVec Ideal S4096x1024 .bf16) := by
    unfold V; after_reads_simp
  rw [e]; pointwise

theorem z_at (i : Fin 4352) (j : Fin 5376) : V m c main_v2 (ix2 i j) = argZ m c (ix2 i j) := by
  have e : V m c main_v2 = (truncf .bf16 (argZ m c) bitsLt_bf16_f32 : FVec Ideal S4352x5376 .bf16) := by
    unfold V; after_reads_simp
  rw [e]; pointwise

theorem b_at (j : Fin 2048) : V m c main_v3 (ix2 0 j) = argB m c (ix1 j) := by
  have e : V m c main_v3 = (shapeCast S1x2048 (argB m c) shapeCasts_S2048_S1x2048 : FVec Ideal S1x2048 .f32) := by
    unfold V; after_reads_simp; rfl
  rw [e]; pointwise

theorem blk_a (t : Fin cfg0.N) (r : Fin 512) (l : Fin 1024) (Q : Fin 4096) (hQ : Q.val = t.val * 512 + r.val) :
    iblk m c 0 t (ix2 r l) = argA m c (ix2 Q l) := by
  rw [← a_at]
  unfold iblk
  rw [View.read_apply]
  exact at2 (V m c main_v0) _ _ _ (moved (idx_a t).1 hQ) (whole (idx_a t).2)

theorem blk_c (t : Fin cfg0.N) (r : Fin 512) (l : Fin 1024) (Q : Fin 4096) (hQ : Q.val = t.val * 512 + r.val) :
    iblk m c 1 t (ix2 r l) = argC m c (ix2 Q l) := by
  rw [← c_at]
  unfold iblk
  rw [View.read_apply]
  exact at2 (V m c main_v1) _ _ _ (moved (idx_c t).1 hQ) (whole (idx_c t).2)

theorem blk_b (t : Fin cfg0.N) (l : Fin 2048) : iblk m c 10 t (ix2 0 l) = argB m c (ix1 l) := by
  rw [← b_at]
  unfold iblk
  rw [View.read_apply]
  exact at2 (V m c main_v3) _ _ _ (whole (idx_b t).1) (whole (idx_b t).2)

theorem blk_z0 (t : Fin cfg0.N) (r : Fin 512) (l : Fin 256) (Q : Fin 4352) (q : Fin 2048) (hQ : Q.val = t.val * 512 + r.val) (hq : q.val = 0 + l.val) :
    X0_2 m c t (ix2 r l) = argZ m c (ix2 Q (⟨3328 + q.val, by omega⟩ : Fin 5376)) := by
  rw [← z_at]
  unfold X0_2 Pipeline.Window.fill
  rw [dif_pos (moved0_2 t _)]
  unfold iblk
  rw [View.read_apply]
  show V m c main_v2 _ = V m c main_v2 _
  congr 1
  funext a
  apply Fin.ext
  match a with
  | ⟨0, _⟩ => show win0_2.index t 0 * 512 + 1 * r.val = Q.val; rw [(idx_z0 t).1]; omega
  | ⟨1, _⟩ => show win0_2.index t 1 * 256 + 1 * l.val = 3328 + q.val; rw [(idx_z0 t).2]; omega

theorem blk_z1 (t : Fin cfg0.N) (r : Fin 512) (l : Fin 256) (Q : Fin 4352) (q : Fin 2048) (hQ : Q.val = t.val * 512 + r.val) (hq : q.val = 256 + l.val) :
    X0_3 m c t (ix2 r l) = argZ m c (ix2 Q (⟨3328 + q.val, by omega⟩ : Fin 5376)) := by
  rw [← z_at]
  unfold X0_3 Pipeline.Window.fill
  rw [dif_pos (moved0_3 t _)]
  unfold iblk
  rw [View.read_apply]
  show V m c main_v2 _ = V m c main_v2 _
  congr 1
  funext a
  apply Fin.ext
  match a with
  | ⟨0, _⟩ => show win0_3.index t 0 * 512 + 1 * r.val = Q.val; rw [(idx_z1 t).1]; omega
  | ⟨1, _⟩ => show win0_3.index t 1 * 256 + 1 * l.val = 3328 + q.val; rw [(idx_z1 t).2]; omega

theorem blk_z2 (t : Fin cfg0.N) (r : Fin 512) (l : Fin 256) (Q : Fin 4352) (q : Fin 2048) (hQ : Q.val = t.val * 512 + r.val) (hq : q.val = 512 + l.val) :
    X0_4 m c t (ix2 r l) = argZ m c (ix2 Q (⟨3328 + q.val, by omega⟩ : Fin 5376)) := by
  rw [← z_at]
  unfold X0_4 Pipeline.Window.fill
  rw [dif_pos (moved0_4 t _)]
  unfold iblk
  rw [View.read_apply]
  show V m c main_v2 _ = V m c main_v2 _
  congr 1
  funext a
  apply Fin.ext
  match a with
  | ⟨0, _⟩ => show win0_4.index t 0 * 512 + 1 * r.val = Q.val; rw [(idx_z2 t).1]; omega
  | ⟨1, _⟩ => show win0_4.index t 1 * 256 + 1 * l.val = 3328 + q.val; rw [(idx_z2 t).2]; omega

theorem blk_z3 (t : Fin cfg0.N) (r : Fin 512) (l : Fin 256) (Q : Fin 4352) (q : Fin 2048) (hQ : Q.val = t.val * 512 + r.val) (hq : q.val = 768 + l.val) :
    X0_5 m c t (ix2 r l) = argZ m c (ix2 Q (⟨3328 + q.val, by omega⟩ : Fin 5376)) := by
  rw [← z_at]
  unfold X0_5 Pipeline.Window.fill
  rw [dif_pos (moved0_5 t _)]
  unfold iblk
  rw [View.read_apply]
  show V m c main_v2 _ = V m c main_v2 _
  congr 1
  funext a
  apply Fin.ext
  match a with
  | ⟨0, _⟩ => show win0_5.index t 0 * 512 + 1 * r.val = Q.val; rw [(idx_z3 t).1]; omega
  | ⟨1, _⟩ => show win0_5.index t 1 * 256 + 1 * l.val = 3328 + q.val; rw [(idx_z3 t).2]; omega

theorem blk_z4 (t : Fin cfg0.N) (r : Fin 512) (l : Fin 256) (Q : Fin 4352) (q : Fin 2048) (hQ : Q.val = t.val * 512 + r.val) (hq : q.val = 1024 + l.val) :
    X0_6 m c t (ix2 r l) = argZ m c (ix2 Q (⟨3328 + q.val, by omega⟩ : Fin 5376)) := by
  rw [← z_at]
  unfold X0_6 Pipeline.Window.fill
  rw [dif_pos (moved0_6 t _)]
  unfold iblk
  rw [View.read_apply]
  show V m c main_v2 _ = V m c main_v2 _
  congr 1
  funext a
  apply Fin.ext
  match a with
  | ⟨0, _⟩ => show win0_6.index t 0 * 512 + 1 * r.val = Q.val; rw [(idx_z4 t).1]; omega
  | ⟨1, _⟩ => show win0_6.index t 1 * 256 + 1 * l.val = 3328 + q.val; rw [(idx_z4 t).2]; omega

theorem blk_z5 (t : Fin cfg0.N) (r : Fin 512) (l : Fin 256) (Q : Fin 4352) (q : Fin 2048) (hQ : Q.val = t.val * 512 + r.val) (hq : q.val = 1280 + l.val) :
    X0_7 m c t (ix2 r l) = argZ m c (ix2 Q (⟨3328 + q.val, by omega⟩ : Fin 5376)) := by
  rw [← z_at]
  unfold X0_7 Pipeline.Window.fill
  rw [dif_pos (moved0_7 t _)]
  unfold iblk
  rw [View.read_apply]
  show V m c main_v2 _ = V m c main_v2 _
  congr 1
  funext a
  apply Fin.ext
  match a with
  | ⟨0, _⟩ => show win0_7.index t 0 * 512 + 1 * r.val = Q.val; rw [(idx_z5 t).1]; omega
  | ⟨1, _⟩ => show win0_7.index t 1 * 256 + 1 * l.val = 3328 + q.val; rw [(idx_z5 t).2]; omega

theorem blk_z6 (t : Fin cfg0.N) (r : Fin 512) (l : Fin 256) (Q : Fin 4352) (q : Fin 2048) (hQ : Q.val = t.val * 512 + r.val) (hq : q.val = 1536 + l.val) :
    X0_8 m c t (ix2 r l) = argZ m c (ix2 Q (⟨3328 + q.val, by omega⟩ : Fin 5376)) := by
  rw [← z_at]
  unfold X0_8 Pipeline.Window.fill
  rw [dif_pos (moved0_8 t _)]
  unfold iblk
  rw [View.read_apply]
  show V m c main_v2 _ = V m c main_v2 _
  congr 1
  funext a
  apply Fin.ext
  match a with
  | ⟨0, _⟩ => show win0_8.index t 0 * 512 + 1 * r.val = Q.val; rw [(idx_z6 t).1]; omega
  | ⟨1, _⟩ => show win0_8.index t 1 * 256 + 1 * l.val = 3328 + q.val; rw [(idx_z6 t).2]; omega

theorem blk_z7 (t : Fin cfg0.N) (r : Fin 512) (l : Fin 256) (Q : Fin 4352) (q : Fin 2048) (hQ : Q.val = t.val * 512 + r.val) (hq : q.val = 1792 + l.val) :
    X0_9 m c t (ix2 r l) = argZ m c (ix2 Q (⟨3328 + q.val, by omega⟩ : Fin 5376)) := by
  rw [← z_at]
  unfold X0_9 Pipeline.Window.fill
  rw [dif_pos (moved0_9 t _)]
  unfold iblk
  rw [View.read_apply]
  show V m c main_v2 _ = V m c main_v2 _
  congr 1
  funext a
  apply Fin.ext
  match a with
  | ⟨0, _⟩ => show win0_9.index t 0 * 512 + 1 * r.val = Q.val; rw [(idx_z7 t).1]; omega
  | ⟨1, _⟩ => show win0_9.index t 1 * 256 + 1 * l.val = 3328 + q.val; rw [(idx_z7 t).2]; omega

/-- The gates' columns of a point's rows. -/
theorem pre_at (t : Fin cfg0.N) (r : Fin 512) (q : Fin 2048) (Q : Fin 4096) (hQ : Q.val = t.val * 512 + r.val) :
    k0_pay4 (F := Ideal) (X0_2 m c t) (X0_3 m c t) (X0_4 m c t) (X0_5 m c t) (X0_6 m c t) (X0_7 m c t) (X0_8 m c t) (X0_9 m c t) (iblk m c 10 t) (ix2 r q)
      = pre (argZ m c) (argB m c) Q q := by
  rw [glue_at _ _ _ _ _ _ _ _ _ r q (fun q => argZ m c (ix2 (⟨Q.val, by omega⟩ : Fin 4352) (⟨3328 + q.val, by omega⟩ : Fin 5376)))
    (fun l q hq => blk_z0 m c t r l ⟨Q.val, by omega⟩ q hQ hq)
    (fun l q hq => blk_z1 m c t r l ⟨Q.val, by omega⟩ q hQ hq)
    (fun l q hq => blk_z2 m c t r l ⟨Q.val, by omega⟩ q hQ hq)
    (fun l q hq => blk_z3 m c t r l ⟨Q.val, by omega⟩ q hQ hq)
    (fun l q hq => blk_z4 m c t r l ⟨Q.val, by omega⟩ q hQ hq)
    (fun l q hq => blk_z5 m c t r l ⟨Q.val, by omega⟩ q hQ hq)
    (fun l q hq => blk_z6 m c t r l ⟨Q.val, by omega⟩ q hQ hq)
    (fun l q hq => blk_z7 m c t r l ⟨Q.val, by omega⟩ q hQ hq), blk_b m c t q]
  rfl

/-- The block a grid point writes holds the array's elements. -/
theorem outs_at (t : Fin cfg0.N) (r : Fin 512) (l : Fin 1024) (Q : Fin 4096) (hQ : Q.val = t.val * 512 + r.val) :
    outsAt0 m c t (ix2 r l) = elt (argA m c) (argC m c) (argZ m c) (argB m c) Q l := by
  unfold outsAt0
  rw [body, gate_at, pre_at m c t r _ Q hQ, pre_at m c t r _ Q hQ, blk_a m c t r l Q hQ, blk_c m c t r l Q hQ]
  rfl

theorem flush_o : ∀ t : Fin cfg0.N, (cfg0.win 11).flush t = true := by decide +kernel
theorem idx_o : ∀ t : Fin cfg0.N, win0_11.index t 0 = t.val ∧ win0_11.index t 1 = 0 := by decide +kernel

/-- The array the call leaves. -/
theorem result_at (i : Fin 4096) (j : Fin 1024) : (dats m 0 c).arrAt 11 cfg0.N (ix2 i j) = elt (argA m c) (argC m c) (argZ m c) (argB m c) i j := by
  have hN : i.val / 512 < cfg0.N := by show i.val / 512 < 8; omega
  have hb := congrFun (Value.blocks11 m c ⟨i.val / 512, hN⟩ (flush_o _)) (ix2 (⟨i.val % 512, by omega⟩ : Fin 512) j)
  rw [Value.flushed11] at hb
  have he : ((cfg0.win 11).blk ⟨i.val / 512, hN⟩).view.read (Elt Ideal) ((dats m 0 c).arrAt 11 cfg0.N) (ix2 (⟨i.val % 512, by omega⟩ : Fin 512) j)
      = (dats m 0 c).arrAt 11 cfg0.N (ix2 i j) := by
    rw [View.read_apply]
    exact at2 ((dats m 0 c).arrAt 11 cfg0.N) _ _ _ (moved (idx_o _).1 (by show i.val = i.val / 512 * 512 + (i.val % 512); omega)) (whole (idx_o _).2)
  rw [← he]
  refine hb.trans ?_
  exact outs_at m c ⟨i.val / 512, hN⟩ _ _ i (by show i.val = i.val / 512 * 512 + i.val % 512; omega)

end Call

section Reference

open Cert.Reference31Ideal Cert.Reference31Ideal.Gen Idealize.ShloMosaic Idealize.ShloMosaic.TcCoe Rows

/-- The reference's result at an element. -/
theorem ref_at (ya yb : FVec Ideal S4096x1024 .f32) (z : FVec Ideal S4352x5376 .f32) (b : FVec Ideal S2048 .f32) (i : Fin 4096) (j : Fin 1024) :
    (truncf .bf16 (addf (mulf (extractStridedSlice S4096x1024 ![0, 0] (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (extractStridedSlice S4096x2048 ![0, 3328] z slices_S4352x5376_S4096x2048_0_3328) (broadcastInDim S4096x2048 ![0, 1] bcast_S1x2048_S4096x2048_0_1 (broadcastInDim S1x2048 ![1] bcast_S2048_S1x2048_1 b))))))) slices_S4096x2048_S4096x1024_0_0) ya) (mulf (extractStridedSlice S4096x1024 ![0, 1024] (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (extractStridedSlice S4096x2048 ![0, 3328] z slices_S4352x5376_S4096x2048_0_3328) (broadcastInDim S4096x2048 ![0, 1] bcast_S1x2048_S4096x2048_0_1 (broadcastInDim S1x2048 ![1] bcast_S2048_S1x2048_1 b))))))) slices_S4096x2048_S4096x1024_0_1024) yb)) bitsLt_bf16_f32 : FVec Ideal S4096x1024 .bf16) (ix2 i j) = elt ya yb z b i j := by
  unfold elt pre Ideal.logistic
  pointwise

/-- The reference ends, its arguments unchanged and every counter at zero. -/
theorem ref_frame : Cert.quiescent_Reference31Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel31Ideal.Gen in
/-- The call and its reference end with the same array, at every argument. -/
theorem algebraic : Cert.algebraic_Kernel31Ideal_Reference31Ideal := by
  intro m g m' g' _ heq
  refine ⟨fun c => (dats m 0 c).arrAt 11 Cert.Kernel31Ideal.cfg0.N, Cert.Kernel31Ideal.Value.run_blocks m g,
    (θ_run Cert.Reference31Ideal.defs _ _).mono (fun r h c => ?_) (Cert.Reference31Ideal.Value.run m' g')⟩
  obtain ⟨h0, ha⟩ := h c
  obtain ⟨e0, e1, e2, e3⟩ := heq c
  rw [e0, e1, e2, e3] at h0
  refine ⟨h0.trans ?_, ha⟩
  funext y
  obtain ⟨i, j, rfl⟩ := Products.rowcol (n0 := 4096) (n1 := 1024) y
  exact (ref_at _ _ _ _ i j).trans (result_at m c i j).symm

end Cert.Proof.Merge
-- ==== Proof.MergeBwd.lean ====
/-
The merge's gradient: each grid point's block of rows, the bias's gradient summed over the points, and the four arrays the call leaves.
-/
module

public import proofs.«01_k».proof.Proof.Products
public import proofs.«01_k».proof.Proof.Rows
public import proofs.«01_k».proof.Proof.Gen.Kernel32Ideal.Value
public import proofs.«01_k».proof.Proof.Gen.Reference32Ideal.Run

@[expose] public section

noncomputable section

namespace Cert.Proof.MergeBwd

section Call

open Cert.Kernel32Ideal Cert.Kernel32Ideal.Gen Idealize.ShloMosaic Idealize.ShloMosaic.TcCoe Products Rows

/-- Eight blocks of columns side by side. -/
theorem glue_at (v0 v1 v2 v3 v4 v5 v6 v7 : FVec Ideal S512x256 .bf16) (r : Fin 512) (q : Fin 2048) (f : Fin 2048 → EReal)
    (h0 : ∀ (l : Fin 256) (q : Fin 2048), q.val = 0 + l.val → v0 (ix2 r l) = f q)
    (h1 : ∀ (l : Fin 256) (q : Fin 2048), q.val = 256 + l.val → v1 (ix2 r l) = f q)
    (h2 : ∀ (l : Fin 256) (q : Fin 2048), q.val = 512 + l.val → v2 (ix2 r l) = f q)
    (h3 : ∀ (l : Fin 256) (q : Fin 2048), q.val = 768 + l.val → v3 (ix2 r l) = f q)
    (h4 : ∀ (l : Fin 256) (q : Fin 2048), q.val = 1024 + l.val → v4 (ix2 r l) = f q)
    (h5 : ∀ (l : Fin 256) (q : Fin 2048), q.val = 1280 + l.val → v5 (ix2 r l) = f q)
    (h6 : ∀ (l : Fin 256) (q : Fin 2048), q.val = 1536 + l.val → v6 (ix2 r l) = f q)
    (h7 : ∀ (l : Fin 256) (q : Fin 2048), q.val = 1792 + l.val → v7 (ix2 r l) = f q) :
    k0_pay5 (F := Ideal) v0 v1 v2 v3 v4 v5 v6 v7 (ix2 r q) = f q := by
  unfold k0_pay5
  pointwise
  by_cases e0 : q.val < 256
  · rw [dif_pos e0]; exact h0 _ q (by dsimp only; omega)
  rw [dif_neg e0]
  by_cases e1 : q.val - 256 < 256
  · rw [dif_pos e1]; exact h1 _ q (by dsimp only; omega)
  rw [dif_neg e1]
  by_cases e2 : q.val - 256 - 256 < 256
  · rw [dif_pos e2]; exact h2 _ q (by dsimp only; omega)
  rw [dif_neg e2]
  by_cases e3 : q.val - 256 - 256 - 256 < 256
  · rw [dif_pos e3]; exact h3 _ q (by dsimp only; omega)
  rw [dif_neg e3]
  by_cases e4 : q.val - 256 - 256 - 256 - 256 < 256
  · rw [dif_pos e4]; exact h4 _ q (by dsimp only; omega)
  rw [dif_neg e4]
  by_cases e5 : q.val - 256 - 256 - 256 - 256 - 256 < 256
  · rw [dif_pos e5]; exact h5 _ q (by dsimp only; omega)
  rw [dif_neg e5]
  by_cases e6 : q.val - 256 - 256 - 256 - 256 - 256 - 256 < 256
  · rw [dif_pos e6]; exact h6 _ q (by dsimp only; omega)
  rw [dif_neg e6]
  exact h7 _ q (by dsimp only; omega)

/-- The hyperbolic tangent is a real number everywhere. -/
theorem tanh_real (x : EReal) : ∃ t : ℝ, Ideal.tanh x = t := by
  induction x using EReal.rec with
  | bot => exact ⟨-1, by rw [Ideal.tanh_bot]; norm_num⟩
  | top => exact ⟨1, by rw [Ideal.tanh_top]; norm_num⟩
  | coe x => exact ⟨_, Ideal.tanh_coe x⟩

/-- The sigmoid's slope, from the hyperbolic tangent of half the argument. -/
theorem slope (D x : EReal) :
    ((1 / 2 : ℝ) : EReal) * (((1 / 2 : ℝ) : EReal) * D * ((1 + Ideal.tanh (((1 / 2 : ℝ) : EReal) * x)) * (1 - Ideal.tanh (((1 / 2 : ℝ) : EReal) * x))))
      = D * (Ideal.logistic x * (1 - Ideal.logistic x)) := by
  rw [← half_tanh]
  obtain ⟨t, ht⟩ := tanh_real (((1 / 2 : ℝ) : EReal) * x)
  rw [ht]
  have e : (((1 / 2 : ℝ) : EReal) * t + ((1 / 2 : ℝ) : EReal)) * (1 - (((1 / 2 : ℝ) : EReal) * t + ((1 / 2 : ℝ) : EReal)))
      = ((1 / 2 : ℝ) : EReal) * (((1 / 2 : ℝ) : EReal) * ((1 + (t : EReal)) * (1 - (t : EReal)))) := by
    rw [← EReal.coe_one]
    simp only [← EReal.coe_mul, ← EReal.coe_add, ← EReal.coe_sub]
    congr 1
    ring
  rw [e]
  ac_rfl

theorem one_bits : Ideal.ofBits .f32 0x3F800000#32 = (1 : EReal) := by
  simp [Ideal.ofBits, Ideal.ieee, -EReal.coe_mul]; norm_num

section Body

variable (x y d : Vec Ideal S512x1024 .bf16) (Z : FVec Ideal S512x2048 .f32) (b : Vec Ideal S1x2048 .f32)

/-- A block's gradient of the gates' products. -/
def catv (r : Fin 512) (q : Fin 2048) : EReal :=
  if h : q.val < 1024 then d (ix2 r (⟨q.val, h⟩ : Fin 1024)) * x (ix2 r (⟨q.val, h⟩ : Fin 1024))
  else d (ix2 r (⟨q.val - 1024, by omega⟩ : Fin 1024)) * y (ix2 r (⟨q.val - 1024, by omega⟩ : Fin 1024))

/-- A block's gates before their sigmoids. -/
def prev (r : Fin 512) (q : Fin 2048) : EReal := Z (ix2 r q) + b (ix2 0 q)

theorem pay9_at (r : Fin 512) (q : Fin 2048) :
    k0_pay9 (F := Ideal) (k0_pay3 x) (k0_pay4 y) Z (k0_pay6 d) b (ix2 r q)
      = catv x y d r q * (Ideal.logistic (prev Z b r q) * (1 - Ideal.logistic (prev Z b r q))) := by
  rw [← slope]
  unfold prev catv
  by_cases h : q.val < 1024
  · rw [dif_pos h, ← half_bits, ← one_bits]
    unfold k0_pay9 k0_pay7 k0_pay3 k0_pay4 k0_pay6
    pointwise
    rw [dif_pos h, dif_pos h, zero_add]
  · rw [dif_neg h, ← half_bits, ← one_bits]
    unfold k0_pay9 k0_pay7 k0_pay3 k0_pay4 k0_pay6
    pointwise
    rw [dif_neg h, dif_neg h, add_zero]

theorem pay10_at (q : Fin 2048) :
    k0_pay10 (F := Ideal) (k0_pay3 x) (k0_pay4 y) Z (k0_pay6 d) b (ix2 0 q)
      = ∑ r : Fin 512, catv x y d r q * (Ideal.logistic (prev Z b r q) * (1 - Ideal.logistic (prev Z b r q))) := by
  rw [← Finset.sum_congr rfl fun r _ => pay9_at x y d Z b r q]
  unfold k0_pay10
  generalize k0_pay9 (F := Ideal) _ _ _ _ _ = P
  pointwise

theorem pay13_at (r : Fin 512) (q : Fin 2048) :
    k0_pay13 (F := Ideal) (k0_pay3 x) (k0_pay4 y) Z (k0_pay6 d) b (ix2 r q)
      = catv x y d r q * (Ideal.logistic (prev Z b r q) * (1 - Ideal.logistic (prev Z b r q))) := by
  rw [← pay9_at x y d Z b r q]
  unfold k0_pay13
  generalize k0_pay9 (F := Ideal) _ _ _ _ _ = P
  pointwise

theorem pay11_at (r : Fin 512) (l : Fin 1024) :
    k0_pay11 (F := Ideal) Z (k0_pay6 d) b (ix2 r l) = Ideal.logistic (prev Z b r (⟨l.val, by omega⟩ : Fin 2048)) * d (ix2 r l) := by
  rw [← half_tanh, ← half_bits]
  unfold k0_pay11 k0_pay8 k0_pay7 k0_pay6 prev
  pointwise

theorem pay12_at (r : Fin 512) (l : Fin 1024) :
    k0_pay12 (F := Ideal) Z (k0_pay6 d) b (ix2 r l) = Ideal.logistic (prev Z b r (⟨1024 + l.val, by omega⟩ : Fin 2048)) * d (ix2 r l) := by
  rw [← half_tanh, ← half_bits]
  unfold k0_pay12 k0_pay8 k0_pay7 k0_pay6 prev
  pointwise

theorem pay2_at (v w : FVec Ideal S1x2048 .f32) (q : Fin 2048) : k0_pay2 (F := Ideal) v w (ix2 0 q) = w (ix2 0 q) + v (ix2 0 q) := by
  unfold k0_pay2
  pointwise

theorem zero_at (q : Fin 2048) : k0_pay1 (F := Ideal) (ix2 0 q) = (0 : EReal) := by
  unfold k0_pay1
  pointwise

variable (c : Dev nD) (i : grid0.Coords)
  (a1 : Memref sig .tc .vmem S512x1024 .bf16) (h1 : a1.IsWhole)
  (a2 : Memref sig .tc .vmem S512x1024 .bf16) (h2 : a2.IsWhole)
  (a3 : Memref sig .tc .vmem S512x256 .bf16) (h3 : a3.IsWhole)
  (a4 : Memref sig .tc .vmem S512x256 .bf16) (h4 : a4.IsWhole)
  (a5 : Memref sig .tc .vmem S512x256 .bf16) (h5 : a5.IsWhole)
  (a6 : Memref sig .tc .vmem S512x256 .bf16) (h6 : a6.IsWhole)
  (a7 : Memref sig .tc .vmem S512x256 .bf16) (h7 : a7.IsWhole)
  (a8 : Memref sig .tc .vmem S512x256 .bf16) (h8 : a8.IsWhole)
  (a9 : Memref sig .tc .vmem S512x256 .bf16) (h9 : a9.IsWhole)
  (a10 : Memref sig .tc .vmem S512x256 .bf16) (h10 : a10.IsWhole)
  (a11 : Memref sig .tc .vmem S512x1024 .bf16) (h11 : a11.IsWhole)
  (a12 : Memref sig .tc .vmem S1x2048 .f32) (h12 : a12.IsWhole)
  (a13 : Memref sig .tc .vmem S512x1024 .bf16) (h13 : a13.IsWhole)
  (a14 : Memref sig .tc .vmem S512x1024 .bf16) (h14 : a14.IsWhole)
  (a15 : Memref sig .tc .vmem S512x2048 .bf16) (h15 : a15.IsWhole)
  (a16 : Memref sig .tc .vmem S1x2048 .f32) (h16 : a16.IsWhole)
  (z0 z1 z2 z3 z4 z5 z6 z7 : Vec Ideal S512x256 .bf16) (xs : Vec Ideal S1x2048 .f32)

theorem out12_A (hc : cond0_0 i) : out0_A_12 c i a1 h1 a2 h2 a3 h3 a4 h4 a5 h5 a6 h6 a7 h7 a8 h8 a9 h9 a10 h10 a11 h11 a12 h12 a13 h13 a14 h14 a15 h15 a16 h16 hc x y z0 z1 z2 z3 z4 z5 z6 z7 d b
    = k0_pay11 (F := Ideal) (k0_pay5 z0 z1 z2 z3 z4 z5 z6 z7) (k0_pay6 d) b := by
  unfold out0_A_12
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h16.read_unread]
  rw [View.canon_unit_zero (S := S512x1024) hz2]
  simp only [View.ld_unit_zero (S := S512x1024) hz2, View.ld_unit_zero (S := S512x256) hz2, View.ld_unit_zero (S := S1x2048) hz2]

theorem out13_A (hc : cond0_0 i) : out0_A_13 c i a1 h1 a2 h2 a3 h3 a4 h4 a5 h5 a6 h6 a7 h7 a8 h8 a9 h9 a10 h10 a11 h11 a12 h12 a13 h13 a14 h14 a15 h15 a16 h16 hc x y z0 z1 z2 z3 z4 z5 z6 z7 d b
    = k0_pay12 (F := Ideal) (k0_pay5 z0 z1 z2 z3 z4 z5 z6 z7) (k0_pay6 d) b := by
  unfold out0_A_13
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h16.read_unread]
  rw [View.canon_unit_zero (S := S512x1024) hz2]
  simp only [View.ld_unit_zero (S := S512x1024) hz2, View.ld_unit_zero (S := S512x256) hz2, View.ld_unit_zero (S := S1x2048) hz2]

theorem out14_A (hc : cond0_0 i) : out0_A_14 c i a1 h1 a2 h2 a3 h3 a4 h4 a5 h5 a6 h6 a7 h7 a8 h8 a9 h9 a10 h10 a11 h11 a12 h12 a13 h13 a14 h14 a15 h15 a16 h16 hc x y z0 z1 z2 z3 z4 z5 z6 z7 d b
    = k0_pay13 (F := Ideal) (k0_pay3 x) (k0_pay4 y) (k0_pay5 z0 z1 z2 z3 z4 z5 z6 z7) (k0_pay6 d) b := by
  unfold out0_A_14
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h16.read_unread]
  rw [View.canon_unit_zero (S := S512x2048) hz2]
  simp only [View.ld_unit_zero (S := S512x1024) hz2, View.ld_unit_zero (S := S512x256) hz2, View.ld_unit_zero (S := S1x2048) hz2]

theorem out15_A (hc : cond0_0 i) : out0_A_15 c i a1 h1 a2 h2 a3 h3 a4 h4 a5 h5 a6 h6 a7 h7 a8 h8 a9 h9 a10 h10 a11 h11 a12 h12 a13 h13 a14 h14 a15 h15 a16 h16 hc x y z0 z1 z2 z3 z4 z5 z6 z7 d b
    = k0_pay2 (F := Ideal) (k0_pay10 (k0_pay3 x) (k0_pay4 y) (k0_pay5 z0 z1 z2 z3 z4 z5 z6 z7) (k0_pay6 d) b) (k0_pay1 (F := Ideal)) := by
  unfold out0_A_15
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h16.read_unread]
  rw [View.canon_cons_unit_zero (S := S1x2048) hz2]
  simp only [View.readCov_unit_zero (S := S1x2048) _ hz2, View.ld_unit_zero (S := S512x1024) hz2, View.ld_unit_zero (S := S512x256) hz2, View.ld_unit_zero (S := S1x2048) hz2]

theorem out12_B (hc : ¬cond0_0 i) : out0_B_12 c i a1 h1 a2 h2 a3 h3 a4 h4 a5 h5 a6 h6 a7 h7 a8 h8 a9 h9 a10 h10 a11 h11 a12 h12 a13 h13 a14 h14 a15 h15 a16 h16 hc x y z0 z1 z2 z3 z4 z5 z6 z7 d b xs
    = k0_pay11 (F := Ideal) (k0_pay5 z0 z1 z2 z3 z4 z5 z6 z7) (k0_pay6 d) b := by
  unfold out0_B_12
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h16.read_unread]
  rw [View.canon_unit_zero (S := S512x1024) hz2]
  simp only [View.ld_unit_zero (S := S512x1024) hz2, View.ld_unit_zero (S := S512x256) hz2, View.ld_unit_zero (S := S1x2048) hz2]

theorem out13_B (hc : ¬cond0_0 i) : out0_B_13 c i a1 h1 a2 h2 a3 h3 a4 h4 a5 h5 a6 h6 a7 h7 a8 h8 a9 h9 a10 h10 a11 h11 a12 h12 a13 h13 a14 h14 a15 h15 a16 h16 hc x y z0 z1 z2 z3 z4 z5 z6 z7 d b xs
    = k0_pay12 (F := Ideal) (k0_pay5 z0 z1 z2 z3 z4 z5 z6 z7) (k0_pay6 d) b := by
  unfold out0_B_13
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h16.read_unread]
  rw [View.canon_unit_zero (S := S512x1024) hz2]
  simp only [View.ld_unit_zero (S := S512x1024) hz2, View.ld_unit_zero (S := S512x256) hz2, View.ld_unit_zero (S := S1x2048) hz2]

theorem out14_B (hc : ¬cond0_0 i) : out0_B_14 c i a1 h1 a2 h2 a3 h3 a4 h4 a5 h5 a6 h6 a7 h7 a8 h8 a9 h9 a10 h10 a11 h11 a12 h12 a13 h13 a14 h14 a15 h15 a16 h16 hc x y z0 z1 z2 z3 z4 z5 z6 z7 d b xs
    = k0_pay13 (F := Ideal) (k0_pay3 x) (k0_pay4 y) (k0_pay5 z0 z1 z2 z3 z4 z5 z6 z7) (k0_pay6 d) b := by
  unfold out0_B_14
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h16.read_unread]
  rw [View.canon_unit_zero (S := S512x2048) hz2]
  simp only [View.ld_unit_zero (S := S512x1024) hz2, View.ld_unit_zero (S := S512x256) hz2, View.ld_unit_zero (S := S1x2048) hz2]

theorem out15_B (hc : ¬cond0_0 i) : out0_B_15 c i a1 h1 a2 h2 a3 h3 a4 h4 a5 h5 a6 h6 a7 h7 a8 h8 a9 h9 a10 h10 a11 h11 a12 h12 a13 h13 a14 h14 a15 h15 a16 h16 hc x y z0 z1 z2 z3 z4 z5 z6 z7 d b xs
    = k0_pay2 (F := Ideal) (k0_pay10 (k0_pay3 x) (k0_pay4 y) (k0_pay5 z0 z1 z2 z3 z4 z5 z6 z7) (k0_pay6 d) b) xs := by
  unfold out0_B_15
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h16.read_unread]
  rw [View.canon_unit_zero (S := S1x2048) hz2]
  simp only [View.ld_unit_zero (S := S512x1024) hz2, View.ld_unit_zero (S := S512x256) hz2, View.ld_unit_zero (S := S1x2048) hz2]

end Body

/-- One gate before its sigmoid. -/
def pre (z : FVec Ideal S4352x5376 .f32) (b : FVec Ideal S2048 .f32) (i : Fin 4096) (q : Fin 2048) : EReal :=
  z (ix2 (⟨i.val, by omega⟩ : Fin 4352) (⟨3328 + q.val, by omega⟩ : Fin 5376)) + b (ix1 q)

/-- The gradient of one gate. -/
def cat (ya yb dm : FVec Ideal S4096x1024 .f32) (i : Fin 4096) (q : Fin 2048) : EReal :=
  if h : q.val < 1024 then dm (ix2 i (⟨q.val, h⟩ : Fin 1024)) * ya (ix2 i (⟨q.val, h⟩ : Fin 1024))
  else dm (ix2 i (⟨q.val - 1024, by omega⟩ : Fin 1024)) * yb (ix2 i (⟨q.val - 1024, by omega⟩ : Fin 1024))

/-- The gradient of one gate's argument. -/
def dgl (ya yb dm : FVec Ideal S4096x1024 .f32) (z : FVec Ideal S4352x5376 .f32) (b : FVec Ideal S2048 .f32) (i : Fin 4096) (q : Fin 2048) : EReal :=
  cat ya yb dm i q * (Ideal.logistic (pre z b i q) * (1 - Ideal.logistic (pre z b i q)))

/-- The gradients of the two halves. -/
def dya (dm : FVec Ideal S4096x1024 .f32) (z : FVec Ideal S4352x5376 .f32) (b : FVec Ideal S2048 .f32) (i : Fin 4096) (j : Fin 1024) : EReal :=
  Ideal.logistic (pre z b i ⟨j.val, by omega⟩) * dm (ix2 i j)
def dyb (dm : FVec Ideal S4096x1024 .f32) (z : FVec Ideal S4352x5376 .f32) (b : FVec Ideal S2048 .f32) (i : Fin 4096) (j : Fin 1024) : EReal :=
  Ideal.logistic (pre z b i ⟨1024 + j.val, by omega⟩) * dm (ix2 i j)

/-- The blocks a grid point reads and writes. -/
theorem idx_a : ∀ t : Fin cfg0.N, win0_0.index t 0 = t.val ∧ win0_0.index t 1 = 0 := by decide +kernel
theorem idx_c : ∀ t : Fin cfg0.N, win0_1.index t 0 = t.val ∧ win0_1.index t 1 = 0 := by decide +kernel
theorem idx_d : ∀ t : Fin cfg0.N, win0_10.index t 0 = t.val ∧ win0_10.index t 1 = 0 := by decide +kernel
theorem idx_b : ∀ t : Fin cfg0.N, win0_11.index t 0 = 0 ∧ win0_11.index t 1 = 0 := by decide +kernel
theorem idx_z0 : ∀ t : Fin cfg0.N, win0_2.index t 0 = t.val ∧ win0_2.index t 1 = 13 := by decide +kernel
theorem idx_z1 : ∀ t : Fin cfg0.N, win0_3.index t 0 = t.val ∧ win0_3.index t 1 = 14 := by decide +kernel
theorem idx_z2 : ∀ t : Fin cfg0.N, win0_4.index t 0 = t.val ∧ win0_4.index t 1 = 15 := by decide +kernel
theorem idx_z3 : ∀ t : Fin cfg0.N, win0_5.index t 0 = t.val ∧ win0_5.index t 1 = 16 := by decide +kernel
theorem idx_z4 : ∀ t : Fin cfg0.N, win0_6.index t 0 = t.val ∧ win0_6.index t 1 = 17 := by decide +kernel
theorem idx_z5 : ∀ t : Fin cfg0.N, win0_7.index t 0 = t.val ∧ win0_7.index t 1 = 18 := by decide +kernel
theorem idx_z6 : ∀ t : Fin cfg0.N, win0_8.index t 0 = t.val ∧ win0_8.index t 1 = 19 := by decide +kernel
theorem idx_z7 : ∀ t : Fin cfg0.N, win0_9.index t 0 = t.val ∧ win0_9.index t 1 = 20 := by decide +kernel
theorem idx_o12 : ∀ t : Fin cfg0.N, win0_12.index t 0 = t.val ∧ win0_12.index t 1 = 0 := by decide +kernel
theorem idx_o13 : ∀ t : Fin cfg0.N, win0_13.index t 0 = t.val ∧ win0_13.index t 1 = 0 := by decide +kernel
theorem idx_o14 : ∀ t : Fin cfg0.N, win0_14.index t 0 = t.val ∧ win0_14.index t 1 = 0 := by decide +kernel
theorem idx_o15 : ∀ t : Fin cfg0.N, win0_15.index t 0 = 0 ∧ win0_15.index t 1 = 0 := by decide +kernel
theorem flush_o12 : ∀ t : Fin cfg0.N, (cfg0.win 12).flush t = true := by decide +kernel
theorem flush_o13 : ∀ t : Fin cfg0.N, (cfg0.win 13).flush t = true := by decide +kernel
theorem flush_o14 : ∀ t : Fin cfg0.N, (cfg0.win 14).flush t = true := by decide +kernel
theorem flush_o15 : ∀ t : Fin cfg0.N, (cfg0.win 15).flush t = decide (t.val = 7) := by decide +kernel

variable (m : (ℓ : Loc nD τ sig) → Buf (Elt Ideal) ℓ) (c : Dev nD)

/-- The five arguments. -/
abbrev argA : FVec Ideal S4096x1024 .f32 := m ((c : Thread nD τ).loc main_arg0)
abbrev argC : FVec Ideal S4096x1024 .f32 := m ((c : Thread nD τ).loc main_arg1)
abbrev argZ : FVec Ideal S4352x5376 .f32 := m ((c : Thread nD τ).loc main_arg2)
abbrev argB : FVec Ideal S2048 .f32 := m ((c : Thread nD τ).loc main_arg3)
abbrev argD : FVec Ideal S4096x1024 .f32 := m ((c : Thread nD τ).loc main_arg4)

theorem a_at (i : Fin 4096) (j : Fin 1024) : V m c main_v0 (ix2 i j) = argA m c (ix2 i j) := by
  have e : V m c main_v0 = (truncf .bf16 (argA m c) bitsLt_bf16_f32 : FVec Ideal S4096x1024 .bf16) := by
    unfold V; after_reads_simp
  rw [e]; pointwise

theorem c_at (i : Fin 4096) (j : Fin 1024) : V m c main_v1 (ix2 i j) = argC m c (ix2 i j) := by
  have e : V m c main_v1 = (truncf .bf16 (argC m c) bitsLt_bf16_f32 : FVec Ideal S4096x1024 .bf16) := by
    unfold V; after_reads_simp
  rw [e]; pointwise

theorem z_at (i : Fin 4352) (j : Fin 5376) : V m c main_v2 (ix2 i j) = argZ m c (ix2 i j) := by
  have e : V m c main_v2 = (truncf .bf16 (argZ m c) bitsLt_bf16_f32 : FVec Ideal S4352x5376 .bf16) := by
    unfold V; after_reads_simp
  rw [e]; pointwise

theorem d_at (i : Fin 4096) (j : Fin 1024) : V m c main_v3 (ix2 i j) = argD m c (ix2 i j) := by
  have e : V m c main_v3 = (truncf .bf16 (argD m c) bitsLt_bf16_f32 : FVec Ideal S4096x1024 .bf16) := by
    unfold V; after_reads_simp
  rw [e]; pointwise

theorem b_at (j : Fin 2048) : V m c main_v4 (ix2 0 j) = argB m c (ix1 j) := by
  have e : V m c main_v4 = (shapeCast S1x2048 (argB m c) shapeCasts_S2048_S1x2048 : FVec Ideal S1x2048 .f32) := by
    unfold V; after_reads_simp; rfl
  rw [e]; pointwise

theorem blk_a (t : Fin cfg0.N) (r : Fin 512) (l : Fin 1024) (Q : Fin 4096) (hQ : Q.val = t.val * 512 + r.val) :
    iblk m c 0 t (ix2 r l) = argA m c (ix2 Q l) := by
  rw [← a_at]
  unfold iblk
  rw [View.read_apply]
  exact at2 (V m c main_v0) _ _ _ (moved (idx_a t).1 hQ) (whole (idx_a t).2)

theorem blk_c (t : Fin cfg0.N) (r : Fin 512) (l : Fin 1024) (Q : Fin 4096) (hQ : Q.val = t.val * 512 + r.val) :
    iblk m c 1 t (ix2 r l) = argC m c (ix2 Q l) := by
  rw [← c_at]
  unfold iblk
  rw [View.read_apply]
  exact at2 (V m c main_v1) _ _ _ (moved (idx_c t).1 hQ) (whole (idx_c t).2)

theorem blk_d (t : Fin cfg0.N) (r : Fin 512) (l : Fin 1024) (Q : Fin 4096) (hQ : Q.val = t.val * 512 + r.val) :
    iblk m c 10 t (ix2 r l) = argD m c (ix2 Q l) := by
  rw [← d_at]
  unfold iblk
  rw [View.read_apply]
  exact at2 (V m c main_v3) _ _ _ (moved (idx_d t).1 hQ) (whole (idx_d t).2)

theorem blk_b (t : Fin cfg0.N) (l : Fin 2048) : iblk m c 11 t (ix2 0 l) = argB m c (ix1 l) := by
  rw [← b_at]
  unfold iblk
  rw [View.read_apply]
  exact at2 (V m c main_v4) _ _ _ (whole (idx_b t).1) (whole (idx_b t).2)

theorem blk_z0 (t : Fin cfg0.N) (r : Fin 512) (l : Fin 256) (Q : Fin 4352) (q : Fin 2048) (hQ : Q.val = t.val * 512 + r.val) (hq : q.val = 0 + l.val) :
    X0_2 m c t (ix2 r l) = argZ m c (ix2 Q (⟨3328 + q.val, by omega⟩ : Fin 5376)) := by
  rw [← z_at]
  unfold X0_2 Pipeline.Window.fill
  rw [dif_pos (moved0_2 t _)]
  unfold iblk
  rw [View.read_apply]
  show V m c main_v2 _ = V m c main_v2 _
  congr 1
  funext a
  apply Fin.ext
  match a with
  | ⟨0, _⟩ => show win0_2.index t 0 * 512 + 1 * r.val = Q.val; rw [(idx_z0 t).1]; omega
  | ⟨1, _⟩ => show win0_2.index t 1 * 256 + 1 * l.val = 3328 + q.val; rw [(idx_z0 t).2]; omega

theorem blk_z1 (t : Fin cfg0.N) (r : Fin 512) (l : Fin 256) (Q : Fin 4352) (q : Fin 2048) (hQ : Q.val = t.val * 512 + r.val) (hq : q.val = 256 + l.val) :
    X0_3 m c t (ix2 r l) = argZ m c (ix2 Q (⟨3328 + q.val, by omega⟩ : Fin 5376)) := by
  rw [← z_at]
  unfold X0_3 Pipeline.Window.fill
  rw [dif_pos (moved0_3 t _)]
  unfold iblk
  rw [View.read_apply]
  show V m c main_v2 _ = V m c main_v2 _
  congr 1
  funext a
  apply Fin.ext
  match a with
  | ⟨0, _⟩ => show win0_3.index t 0 * 512 + 1 * r.val = Q.val; rw [(idx_z1 t).1]; omega
  | ⟨1, _⟩ => show win0_3.index t 1 * 256 + 1 * l.val = 3328 + q.val; rw [(idx_z1 t).2]; omega

theorem blk_z2 (t : Fin cfg0.N) (r : Fin 512) (l : Fin 256) (Q : Fin 4352) (q : Fin 2048) (hQ : Q.val = t.val * 512 + r.val) (hq : q.val = 512 + l.val) :
    X0_4 m c t (ix2 r l) = argZ m c (ix2 Q (⟨3328 + q.val, by omega⟩ : Fin 5376)) := by
  rw [← z_at]
  unfold X0_4 Pipeline.Window.fill
  rw [dif_pos (moved0_4 t _)]
  unfold iblk
  rw [View.read_apply]
  show V m c main_v2 _ = V m c main_v2 _
  congr 1
  funext a
  apply Fin.ext
  match a with
  | ⟨0, _⟩ => show win0_4.index t 0 * 512 + 1 * r.val = Q.val; rw [(idx_z2 t).1]; omega
  | ⟨1, _⟩ => show win0_4.index t 1 * 256 + 1 * l.val = 3328 + q.val; rw [(idx_z2 t).2]; omega

theorem blk_z3 (t : Fin cfg0.N) (r : Fin 512) (l : Fin 256) (Q : Fin 4352) (q : Fin 2048) (hQ : Q.val = t.val * 512 + r.val) (hq : q.val = 768 + l.val) :
    X0_5 m c t (ix2 r l) = argZ m c (ix2 Q (⟨3328 + q.val, by omega⟩ : Fin 5376)) := by
  rw [← z_at]
  unfold X0_5 Pipeline.Window.fill
  rw [dif_pos (moved0_5 t _)]
  unfold iblk
  rw [View.read_apply]
  show V m c main_v2 _ = V m c main_v2 _
  congr 1
  funext a
  apply Fin.ext
  match a with
  | ⟨0, _⟩ => show win0_5.index t 0 * 512 + 1 * r.val = Q.val; rw [(idx_z3 t).1]; omega
  | ⟨1, _⟩ => show win0_5.index t 1 * 256 + 1 * l.val = 3328 + q.val; rw [(idx_z3 t).2]; omega

theorem blk_z4 (t : Fin cfg0.N) (r : Fin 512) (l : Fin 256) (Q : Fin 4352) (q : Fin 2048) (hQ : Q.val = t.val * 512 + r.val) (hq : q.val = 1024 + l.val) :
    X0_6 m c t (ix2 r l) = argZ m c (ix2 Q (⟨3328 + q.val, by omega⟩ : Fin 5376)) := by
  rw [← z_at]
  unfold X0_6 Pipeline.Window.fill
  rw [dif_pos (moved0_6 t _)]
  unfold iblk
  rw [View.read_apply]
  show V m c main_v2 _ = V m c main_v2 _
  congr 1
  funext a
  apply Fin.ext
  match a with
  | ⟨0, _⟩ => show win0_6.index t 0 * 512 + 1 * r.val = Q.val; rw [(idx_z4 t).1]; omega
  | ⟨1, _⟩ => show win0_6.index t 1 * 256 + 1 * l.val = 3328 + q.val; rw [(idx_z4 t).2]; omega

theorem blk_z5 (t : Fin cfg0.N) (r : Fin 512) (l : Fin 256) (Q : Fin 4352) (q : Fin 2048) (hQ : Q.val = t.val * 512 + r.val) (hq : q.val = 1280 + l.val) :
    X0_7 m c t (ix2 r l) = argZ m c (ix2 Q (⟨3328 + q.val, by omega⟩ : Fin 5376)) := by
  rw [← z_at]
  unfold X0_7 Pipeline.Window.fill
  rw [dif_pos (moved0_7 t _)]
  unfold iblk
  rw [View.read_apply]
  show V m c main_v2 _ = V m c main_v2 _
  congr 1
  funext a
  apply Fin.ext
  match a with
  | ⟨0, _⟩ => show win0_7.index t 0 * 512 + 1 * r.val = Q.val; rw [(idx_z5 t).1]; omega
  | ⟨1, _⟩ => show win0_7.index t 1 * 256 + 1 * l.val = 3328 + q.val; rw [(idx_z5 t).2]; omega

theorem blk_z6 (t : Fin cfg0.N) (r : Fin 512) (l : Fin 256) (Q : Fin 4352) (q : Fin 2048) (hQ : Q.val = t.val * 512 + r.val) (hq : q.val = 1536 + l.val) :
    X0_8 m c t (ix2 r l) = argZ m c (ix2 Q (⟨3328 + q.val, by omega⟩ : Fin 5376)) := by
  rw [← z_at]
  unfold X0_8 Pipeline.Window.fill
  rw [dif_pos (moved0_8 t _)]
  unfold iblk
  rw [View.read_apply]
  show V m c main_v2 _ = V m c main_v2 _
  congr 1
  funext a
  apply Fin.ext
  match a with
  | ⟨0, _⟩ => show win0_8.index t 0 * 512 + 1 * r.val = Q.val; rw [(idx_z6 t).1]; omega
  | ⟨1, _⟩ => show win0_8.index t 1 * 256 + 1 * l.val = 3328 + q.val; rw [(idx_z6 t).2]; omega

theorem blk_z7 (t : Fin cfg0.N) (r : Fin 512) (l : Fin 256) (Q : Fin 4352) (q : Fin 2048) (hQ : Q.val = t.val * 512 + r.val) (hq : q.val = 1792 + l.val) :
    X0_9 m c t (ix2 r l) = argZ m c (ix2 Q (⟨3328 + q.val, by omega⟩ : Fin 5376)) := by
  rw [← z_at]
  unfold X0_9 Pipeline.Window.fill
  rw [dif_pos (moved0_9 t _)]
  unfold iblk
  rw [View.read_apply]
  show V m c main_v2 _ = V m c main_v2 _
  congr 1
  funext a
  apply Fin.ext
  match a with
  | ⟨0, _⟩ => show win0_9.index t 0 * 512 + 1 * r.val = Q.val; rw [(idx_z7 t).1]; omega
  | ⟨1, _⟩ => show win0_9.index t 1 * 256 + 1 * l.val = 3328 + q.val; rw [(idx_z7 t).2]; omega

/-- The gates' columns of a point's rows. -/
theorem pre_at (t : Fin cfg0.N) (r : Fin 512) (q : Fin 2048) (Q : Fin 4096) (hQ : Q.val = t.val * 512 + r.val) :
    prev (k0_pay5 (F := Ideal) (X0_2 m c t) (X0_3 m c t) (X0_4 m c t) (X0_5 m c t) (X0_6 m c t) (X0_7 m c t) (X0_8 m c t) (X0_9 m c t)) (iblk m c 11 t) r q = pre (argZ m c) (argB m c) Q q := by
  unfold prev
  rw [glue_at _ _ _ _ _ _ _ _ r q (fun q => argZ m c (ix2 (⟨Q.val, by omega⟩ : Fin 4352) (⟨3328 + q.val, by omega⟩ : Fin 5376)))
    (fun l q hq => blk_z0 m c t r l ⟨Q.val, by omega⟩ q hQ hq)
    (fun l q hq => blk_z1 m c t r l ⟨Q.val, by omega⟩ q hQ hq)
    (fun l q hq => blk_z2 m c t r l ⟨Q.val, by omega⟩ q hQ hq)
    (fun l q hq => blk_z3 m c t r l ⟨Q.val, by omega⟩ q hQ hq)
    (fun l q hq => blk_z4 m c t r l ⟨Q.val, by omega⟩ q hQ hq)
    (fun l q hq => blk_z5 m c t r l ⟨Q.val, by omega⟩ q hQ hq)
    (fun l q hq => blk_z6 m c t r l ⟨Q.val, by omega⟩ q hQ hq)
    (fun l q hq => blk_z7 m c t r l ⟨Q.val, by omega⟩ q hQ hq), blk_b m c t q]
  rfl

theorem cat_at (t : Fin cfg0.N) (r : Fin 512) (q : Fin 2048) (Q : Fin 4096) (hQ : Q.val = t.val * 512 + r.val) :
    catv (iblk m c 0 t) (iblk m c 1 t) (iblk m c 10 t) r q = cat (argA m c) (argC m c) (argD m c) Q q := by
  unfold catv cat
  by_cases h : q.val < 1024
  · rw [dif_pos h, dif_pos h, blk_d m c t r _ Q hQ, blk_a m c t r _ Q hQ]
  · rw [dif_neg h, dif_neg h, blk_d m c t r _ Q hQ, blk_c m c t r _ Q hQ]

theorem outs12_at (t : Fin cfg0.N) (r : Fin 512) (l : Fin 1024) (Q : Fin 4096) (hQ : Q.val = t.val * 512 + r.val) :
    (outsAt0 m c t.val t.isLt).1 (ix2 r l) = dya (argD m c) (argZ m c) (argB m c) Q l := by
  by_cases h : t.val % 8 = 0
  · rw [outsAt0_A m c t h]
    dsimp only
    rw [out12_A, pay11_at, pre_at m c t r _ Q hQ, blk_d m c t r l Q hQ]
    rfl
  · rw [outsAt0_B m c t h]
    dsimp only
    rw [out12_B, pay11_at, pre_at m c t r _ Q hQ, blk_d m c t r l Q hQ]
    rfl

theorem outs13_at (t : Fin cfg0.N) (r : Fin 512) (l : Fin 1024) (Q : Fin 4096) (hQ : Q.val = t.val * 512 + r.val) :
    (outsAt0 m c t.val t.isLt).2.1 (ix2 r l) = dyb (argD m c) (argZ m c) (argB m c) Q l := by
  by_cases h : t.val % 8 = 0
  · rw [outsAt0_A m c t h]
    dsimp only
    rw [out13_A, pay12_at, pre_at m c t r _ Q hQ, blk_d m c t r l Q hQ]
    rfl
  · rw [outsAt0_B m c t h]
    dsimp only
    rw [out13_B, pay12_at, pre_at m c t r _ Q hQ, blk_d m c t r l Q hQ]
    rfl

theorem outs14_at (t : Fin cfg0.N) (r : Fin 512) (l : Fin 2048) (Q : Fin 4096) (hQ : Q.val = t.val * 512 + r.val) :
    (outsAt0 m c t.val t.isLt).2.2.1 (ix2 r l) = dgl (argA m c) (argC m c) (argD m c) (argZ m c) (argB m c) Q l := by
  by_cases h : t.val % 8 = 0
  · rw [outsAt0_A m c t h]
    dsimp only
    rw [out14_A, pay13_at, pre_at m c t r _ Q hQ, cat_at m c t r _ Q hQ]
    rfl
  · rw [outsAt0_B m c t h]
    dsimp only
    rw [out14_B, pay13_at, pre_at m c t r _ Q hQ, cat_at m c t r _ Q hQ]
    rfl

/-- A row of the gates' gradient, at a row number. -/
def grow (q : Fin 2048) (k : ℕ) : EReal := if h : k < 4096 then dgl (argA m c) (argC m c) (argD m c) (argZ m c) (argB m c) ⟨k, h⟩ q else 0

/-- What one point adds to the bias's gradient. -/
theorem part_at (t : Fin cfg0.N) (q : Fin 2048) :
    k0_pay10 (F := Ideal) (k0_pay3 (iblk m c 0 t)) (k0_pay4 (iblk m c 1 t)) (k0_pay5 (F := Ideal) (X0_2 m c t) (X0_3 m c t) (X0_4 m c t) (X0_5 m c t) (X0_6 m c t) (X0_7 m c t) (X0_8 m c t) (X0_9 m c t)) (k0_pay6 (iblk m c 10 t)) (iblk m c 11 t) (ix2 0 q)
      = ∑ r ∈ Finset.range 512, grow m c q (t.val * 512 + r) := by
  rw [pay10_at, Finset.sum_range]
  refine Finset.sum_congr rfl fun r _ => ?_
  have ht : t.val < 8 := t.isLt
  have hQ : t.val * 512 + r.val < 4096 := by omega
  unfold grow
  rw [dif_pos hQ, pre_at m c t r q ⟨_, hQ⟩ rfl, cat_at m c t r q ⟨_, hQ⟩ rfl]
  rfl

/-- The bias's gradient after a point: the sum over the rows so far. -/
theorem acc_at (q : Fin 2048) : ∀ (n : ℕ) (hn : n < cfg0.N),
    (outsAt0 m c n hn).2.2.2 (ix2 0 q) = ∑ k ∈ Finset.range (n * 512 + 512), grow m c q k
  | 0, hn => by
    rw [outsAt0_A m c ⟨0, hn⟩ rfl]
    dsimp only
    rw [out15_A, pay2_at, zero_at, zero_add, part_at m c ⟨0, hn⟩ q]
    simp only [Nat.zero_mul, Nat.zero_add]
  | n + 1, hn => by
    have h8 : n + 1 < 8 := hn
    rw [outsAt0_B m c ⟨n + 1, hn⟩ (by show ¬(n + 1) % 8 = 0; omega)]
    dsimp only
    rw [out15_B, pay2_at, part_at m c ⟨n + 1, hn⟩ q, Finset.sum_range_add _ ((n + 1) * 512) 512]
    refine congrArg₂ (· + ·) ?_ rfl
    refine (acc_at q n (Nat.lt_of_succ_lt hn)).trans ?_
    rw [show n * 512 + 512 = (n + 1) * 512 by omega]

theorem result12_at (i : Fin 4096) (j : Fin 1024) : (dats m 0 c).arrAt 12 cfg0.N (ix2 i j) = dya (argD m c) (argZ m c) (argB m c) i j := by
  have hN : i.val / 512 < cfg0.N := by show i.val / 512 < 8; omega
  have hb := congrFun (Value.blocks12 m c ⟨i.val / 512, hN⟩ (flush_o12 _)) (ix2 (⟨i.val % 512, by omega⟩ : Fin 512) j)
  rw [Value.flushed12] at hb
  have he : ((cfg0.win 12).blk ⟨i.val / 512, hN⟩).view.read (Elt Ideal) ((dats m 0 c).arrAt 12 cfg0.N) (ix2 (⟨i.val % 512, by omega⟩ : Fin 512) j)
      = (dats m 0 c).arrAt 12 cfg0.N (ix2 i j) := by
    rw [View.read_apply]
    exact at2 ((dats m 0 c).arrAt 12 cfg0.N) _ _ _ (moved (idx_o12 _).1 (by show i.val = i.val / 512 * 512 + (i.val % 512); omega)) (whole (idx_o12 _).2)
  rw [← he]
  refine hb.trans ?_
  exact outs12_at m c ⟨i.val / 512, hN⟩ _ _ i (by show i.val = i.val / 512 * 512 + i.val % 512; omega)

theorem result13_at (i : Fin 4096) (j : Fin 1024) : (dats m 0 c).arrAt 13 cfg0.N (ix2 i j) = dyb (argD m c) (argZ m c) (argB m c) i j := by
  have hN : i.val / 512 < cfg0.N := by show i.val / 512 < 8; omega
  have hb := congrFun (Value.blocks13 m c ⟨i.val / 512, hN⟩ (flush_o13 _)) (ix2 (⟨i.val % 512, by omega⟩ : Fin 512) j)
  rw [Value.flushed13] at hb
  have he : ((cfg0.win 13).blk ⟨i.val / 512, hN⟩).view.read (Elt Ideal) ((dats m 0 c).arrAt 13 cfg0.N) (ix2 (⟨i.val % 512, by omega⟩ : Fin 512) j)
      = (dats m 0 c).arrAt 13 cfg0.N (ix2 i j) := by
    rw [View.read_apply]
    exact at2 ((dats m 0 c).arrAt 13 cfg0.N) _ _ _ (moved (idx_o13 _).1 (by show i.val = i.val / 512 * 512 + (i.val % 512); omega)) (whole (idx_o13 _).2)
  rw [← he]
  refine hb.trans ?_
  exact outs13_at m c ⟨i.val / 512, hN⟩ _ _ i (by show i.val = i.val / 512 * 512 + i.val % 512; omega)

theorem result14_at (i : Fin 4096) (j : Fin 2048) : (dats m 0 c).arrAt 14 cfg0.N (ix2 i j) = dgl (argA m c) (argC m c) (argD m c) (argZ m c) (argB m c) i j := by
  have hN : i.val / 512 < cfg0.N := by show i.val / 512 < 8; omega
  have hb := congrFun (Value.blocks14 m c ⟨i.val / 512, hN⟩ (flush_o14 _)) (ix2 (⟨i.val % 512, by omega⟩ : Fin 512) j)
  rw [Value.flushed14] at hb
  have he : ((cfg0.win 14).blk ⟨i.val / 512, hN⟩).view.read (Elt Ideal) ((dats m 0 c).arrAt 14 cfg0.N) (ix2 (⟨i.val % 512, by omega⟩ : Fin 512) j)
      = (dats m 0 c).arrAt 14 cfg0.N (ix2 i j) := by
    rw [View.read_apply]
    exact at2 ((dats m 0 c).arrAt 14 cfg0.N) _ _ _ (moved (idx_o14 _).1 (by show i.val = i.val / 512 * 512 + (i.val % 512); omega)) (whole (idx_o14 _).2)
  rw [← he]
  refine hb.trans ?_
  exact outs14_at m c ⟨i.val / 512, hN⟩ _ _ i (by show i.val = i.val / 512 * 512 + i.val % 512; omega)

theorem result15_at (q : Fin 2048) : (dats m 0 c).arrAt 15 cfg0.N (ix2 0 q) = ∑ k : Fin 4096, dgl (argA m c) (argC m c) (argD m c) (argZ m c) (argB m c) k q := by
  have hN : 7 < cfg0.N := by show 7 < 8; omega
  have hb := congrFun ((dats m 0 c).read_blk_arrAt_eq_flushed 15 (fun t t' h h' hne => absurd (Fin.ext (by
    rw [flush_o15, decide_eq_true_eq] at h h'; omega)) hne) cfg0.N ⟨7, hN⟩ hN (by rw [flush_o15]; rfl)) (ix2 0 q)
  rw [Value.flushed15] at hb
  have he : ((cfg0.win 15).blk ⟨7, hN⟩).view.read (Elt Ideal) ((dats m 0 c).arrAt 15 cfg0.N) (ix2 0 q) = (dats m 0 c).arrAt 15 cfg0.N (ix2 0 q) := by
    rw [View.read_apply]
    exact at2 ((dats m 0 c).arrAt 15 cfg0.N) _ _ _ (whole (idx_o15 _).1) (whole (idx_o15 _).2)
  rw [← he]
  refine hb.trans ?_
  refine (acc_at m c q 7 hN).trans ?_
  rw [show 7 * 512 + 512 = 4096 from rfl, Finset.sum_range]
  refine Finset.sum_congr rfl fun k _ => ?_
  unfold grow
  rw [dif_pos k.isLt]

end Call

section Reference

open Cert.Reference32Ideal Cert.Reference32Ideal.Gen Idealize.ShloMosaic Idealize.ShloMosaic.TcCoe Rows

theorem one_sum (f : Fin 4096 → EReal) : ∑ _x : Fin 1, ∑ k : Fin 4096, f k = ∑ k : Fin 4096, f k := Fin.sum_univ_one _

variable (ya yb : FVec Ideal S4096x1024 .f32) (z : FVec Ideal S4352x5376 .f32) (b : FVec Ideal S2048 .f32) (dm : FVec Ideal S4096x1024 .f32)

/-- The reference's results at their elements. -/
theorem ref29_at (i : Fin 4096) (j : Fin 1024) : (truncf .bf16 (mulf (extractStridedSlice S4096x1024 ![0, 0] (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (extractStridedSlice S4096x2048 ![0, 3328] z slices_S4352x5376_S4096x2048_0_3328) (broadcastInDim S4096x2048 ![0, 1] bcast_S1x2048_S4096x2048_0_1 (broadcastInDim S1x2048 ![1] bcast_S2048_S1x2048_1 b))))))) slices_S4096x2048_S4096x1024_0_0) (shapeCast _ dm shapeCasts_S4096x1024_S4096x1024)) bitsLt_bf16_f32 : FVec Ideal S4096x1024 .bf16) (ix2 i j) = dya dm z b i j := by
  unfold dya pre Ideal.logistic
  pointwise

theorem ref30_at (i : Fin 4096) (j : Fin 1024) : (truncf .bf16 (mulf (extractStridedSlice S4096x1024 ![0, 1024] (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (extractStridedSlice S4096x2048 ![0, 3328] z slices_S4352x5376_S4096x2048_0_3328) (broadcastInDim S4096x2048 ![0, 1] bcast_S1x2048_S4096x2048_0_1 (broadcastInDim S1x2048 ![1] bcast_S2048_S1x2048_1 b))))))) slices_S4096x2048_S4096x1024_0_1024) (shapeCast _ dm shapeCasts_S4096x1024_S4096x1024)) bitsLt_bf16_f32 : FVec Ideal S4096x1024 .bf16) (ix2 i j) = dyb dm z b i j := by
  unfold dyb pre Ideal.logistic
  pointwise

theorem ref31_at (i : Fin 4096) (q : Fin 2048) : (truncf .bf16 (mulf (concatenate S4096x2048 1 [⟨S4096x1024, (mulf (shapeCast _ dm shapeCasts_S4096x1024_S4096x1024) ya)⟩, ⟨S4096x1024, (mulf (shapeCast _ dm shapeCasts_S4096x1024_S4096x1024) yb)⟩] concatenates_S4096x1024_S4096x1024_S4096x2048_d1) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (extractStridedSlice S4096x2048 ![0, 3328] z slices_S4352x5376_S4096x2048_0_3328) (broadcastInDim S4096x2048 ![0, 1] bcast_S1x2048_S4096x2048_0_1 (broadcastInDim S1x2048 ![1] bcast_S2048_S1x2048_1 b))))))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (extractStridedSlice S4096x2048 ![0, 3328] z slices_S4352x5376_S4096x2048_0_3328) (broadcastInDim S4096x2048 ![0, 1] bcast_S1x2048_S4096x2048_0_1 (broadcastInDim S1x2048 ![1] bcast_S2048_S1x2048_1 b)))))))))) bitsLt_bf16_f32 : FVec Ideal S4096x2048 .bf16) (ix2 i q) = dgl ya yb dm z b i q := by
  unfold dgl pre Ideal.logistic cat
  pointwise

theorem ref32_at (q : Fin 2048) : (shapeCast _ (Host.reduceAdd (shapeCast _ (Host.reduceAdd (mulf (concatenate S4096x2048 1 [⟨S4096x1024, (mulf (shapeCast _ dm shapeCasts_S4096x1024_S4096x1024) ya)⟩, ⟨S4096x1024, (mulf (shapeCast _ dm shapeCasts_S4096x1024_S4096x1024) yb)⟩] concatenates_S4096x1024_S4096x1024_S4096x2048_d1) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (extractStridedSlice S4096x2048 ![0, 3328] z slices_S4352x5376_S4096x2048_0_3328) (broadcastInDim S4096x2048 ![0, 1] bcast_S1x2048_S4096x2048_0_1 (broadcastInDim S1x2048 ![1] bcast_S2048_S1x2048_1 b))))))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (extractStridedSlice S4096x2048 ![0, 3328] z slices_S4352x5376_S4096x2048_0_3328) (broadcastInDim S4096x2048 ![0, 1] bcast_S1x2048_S4096x2048_0_1 (broadcastInDim S1x2048 ![1] bcast_S2048_S1x2048_1 b)))))))))) (constant S_ .f32 0x00000000#32) reducesTo_S4096x2048_S2048_d0 h_S_) shapeCasts_S2048_S1x2048) (constant S_ .f32 0x00000000#32) reducesTo_S1x2048_S2048_d0 h_S_) shapeCasts_S2048_S1x2048 : FVec Ideal S1x2048 .f32) (ix2 0 q) = ∑ k : Fin 4096, dgl ya yb dm z b k q := by
  rw [← one_sum]
  unfold dgl pre Ideal.logistic cat
  pointwise

/-- The reference ends, its arguments unchanged and every counter at zero. -/
theorem ref_frame : Cert.quiescent_Reference32Ideal := fun m ρ _ =>
  (θ_run defs _ _).mono (fun r h => ⟨fun c => (h c).2.2.2.2, Idealize.ShloMosaic.sem_eq_zero_of_no_sems (by decide) r.2⟩) (Value.run m ρ)

end Reference

open Idealize.ShloMosaic Idealize.ShloMosaic.TcCoe Cert.Kernel32Ideal.Gen in
/-- The call and its reference end with the same arrays, at every argument. -/
theorem algebraic : Cert.algebraic_Kernel32Ideal_Reference32Ideal := by
  intro m g m' g' _ heq
  refine ⟨fun c => (dats m 0 c).arrAt 12 Cert.Kernel32Ideal.cfg0.N, fun c => (dats m 0 c).arrAt 13 Cert.Kernel32Ideal.cfg0.N,
    fun c => (dats m 0 c).arrAt 14 Cert.Kernel32Ideal.cfg0.N, fun c => (dats m 0 c).arrAt 15 Cert.Kernel32Ideal.cfg0.N, Cert.Kernel32Ideal.Value.run_blocks m g,
    (θ_run Cert.Reference32Ideal.defs _ _).mono (fun r h c => ?_) (Cert.Reference32Ideal.Value.run m' g')⟩
  obtain ⟨h0, h1, h2, h3, ha⟩ := h c
  obtain ⟨e0, e1, e2, e3, e4⟩ := heq c
  rw [e2, e3, e4] at h0 h1
  rw [e0, e1, e2, e3, e4] at h2 h3
  refine ⟨h0.trans ?_, h1.trans ?_, h2.trans ?_, h3.trans ?_, ha⟩
  · funext y
    obtain ⟨i, j, rfl⟩ := Products.rowcol (n0 := 4096) (n1 := 1024) y
    exact (ref29_at _ _ _ i j).trans (result12_at m c i j).symm
  · funext y
    obtain ⟨i, j, rfl⟩ := Products.rowcol (n0 := 4096) (n1 := 1024) y
    exact (ref30_at _ _ _ i j).trans (result13_at m c i j).symm
  · funext y
    obtain ⟨i, j, rfl⟩ := Products.rowcol (n0 := 4096) (n1 := 2048) y
    exact (ref31_at _ _ _ _ _ i j).trans (result14_at m c i j).symm
  · funext y
    obtain ⟨k, q, rfl⟩ : ∃ (k : Fin 1) (q : Fin 2048), y = ix2 k q := ⟨y 0, y 1, eq_ix2 (n0 := 1) (n1 := 2048) y⟩
    obtain rfl : k = 0 := Subsingleton.elim _ _
    exact (ref32_at _ _ _ _ _ q).trans (result15_at m c q).symm

end Cert.Proof.MergeBwd
-- ==== Proof.AdamWMod.lean ====
/-
The optimiser's update of the modulation weight: the call's three arrays are the reference's, element by element.
-/
module

public import proofs.«01_k».proof.Defs
public import proofs.«01_k».proof.Proof.Gen.Kernel34Ideal.Value
public import proofs.«01_k».proof.Proof.Gen.Reference34Ideal.Run
public import Idealize.ShloMosaic.Lib.Pointwise
public import Idealize.ShloMosaic.Lib.Quiescent

@[expose] public section

noncomputable section

namespace Cert.Proof.AdamWMod

open Cert.Reference34Ideal Idealize.ShloMosaic Idealize.ShloMosaic.TcCoe in
/-- The reference ends, its arguments unchanged and every counter at zero. -/
theorem ref_frame : Cert.quiescent_Reference34Ideal := fun m ρ _ =>
  (θ_run defs _ _).mono (fun r h => ⟨fun c => (h c).2.2.2, Idealize.ShloMosaic.sem_eq_zero_of_no_sems (by decide) r.2⟩) (Value.run m ρ)

open Idealize.ShloMosaic Idealize.ShloMosaic.TcCoe Cert.Kernel34Ideal.Gen in
/-- The call and its reference end with the same arrays, at every argument. -/
theorem algebraic : Cert.algebraic_Kernel34Ideal_Reference34Ideal := by
  intro m g m' g' _ heq
  refine ⟨_, _, _, Cert.Kernel34Ideal.Value.run m g,
    (θ_run Cert.Reference34Ideal.defs _ _).mono (fun r h c => ?_) (Cert.Reference34Ideal.Value.run m' g')⟩
  obtain ⟨h0, h1, h2, ha⟩ := h c
  obtain ⟨e0, e1, e2, e3⟩ := heq c
  rw [e0, e1, e2, e3] at h0
  rw [e1, e2] at h1
  rw [e1, e3] at h2
  refine ⟨h0.trans ?_, h1.trans ?_, h2.trans ?_, ha⟩
  · funext y
    obtain ⟨i, j, rfl⟩ : ∃ (i : Fin 1024) (j : Fin 768), y = ix2 i j := ⟨y 0, y 1, eq_ix2 (n0 := 1024) (n1 := 768) y⟩
    pointwise
  · funext y
    obtain ⟨i, j, rfl⟩ : ∃ (i : Fin 1024) (j : Fin 768), y = ix2 i j := ⟨y 0, y 1, eq_ix2 (n0 := 1024) (n1 := 768) y⟩
    pointwise
  · funext y
    obtain ⟨i, j, rfl⟩ : ∃ (i : Fin 1024) (j : Fin 768), y = ix2 i j := ⟨y 0, y 1, eq_ix2 (n0 := 1024) (n1 := 768) y⟩
    pointwise

end Cert.Proof.AdamWMod
-- ==== Proof.AdamWUkv.lean ====
/-
The optimiser's update of the key-value weight: the call's three arrays are the reference's, element by element.
-/
module

public import proofs.«01_k».proof.Defs
public import proofs.«01_k».proof.Proof.Gen.Kernel35Ideal.Value
public import proofs.«01_k».proof.Proof.Gen.Reference35Ideal.Run
public import Idealize.ShloMosaic.Lib.Pointwise
public import Idealize.ShloMosaic.Lib.Quiescent

@[expose] public section

noncomputable section

namespace Cert.Proof.AdamWUkv

open Cert.Reference35Ideal Idealize.ShloMosaic Idealize.ShloMosaic.TcCoe in
/-- The reference ends, its arguments unchanged and every counter at zero. -/
theorem ref_frame : Cert.quiescent_Reference35Ideal := fun m ρ _ =>
  (θ_run defs _ _).mono (fun r h => ⟨fun c => (h c).2.2.2, Idealize.ShloMosaic.sem_eq_zero_of_no_sems (by decide) r.2⟩) (Value.run m ρ)

open Idealize.ShloMosaic Idealize.ShloMosaic.TcCoe Cert.Kernel35Ideal.Gen in
/-- The call and its reference end with the same arrays, at every argument. -/
theorem algebraic : Cert.algebraic_Kernel35Ideal_Reference35Ideal := by
  intro m g m' g' _ heq
  refine ⟨_, _, _, Cert.Kernel35Ideal.Value.run m g,
    (θ_run Cert.Reference35Ideal.defs _ _).mono (fun r h c => ?_) (Cert.Reference35Ideal.Value.run m' g')⟩
  obtain ⟨h0, h1, h2, ha⟩ := h c
  obtain ⟨e0, e1, e2, e3⟩ := heq c
  rw [e0, e1, e2, e3] at h0
  rw [e1, e2] at h1
  rw [e1, e3] at h2
  refine ⟨h0.trans ?_, h1.trans ?_, h2.trans ?_, ha⟩
  · funext y
    obtain ⟨i, j, rfl⟩ : ∃ (i : Fin 256) (j : Fin 128), y = ix2 i j := ⟨y 0, y 1, eq_ix2 (n0 := 256) (n1 := 128) y⟩
    pointwise
  · funext y
    obtain ⟨i, j, rfl⟩ : ∃ (i : Fin 256) (j : Fin 128), y = ix2 i j := ⟨y 0, y 1, eq_ix2 (n0 := 256) (n1 := 128) y⟩
    pointwise
  · funext y
    obtain ⟨i, j, rfl⟩ : ∃ (i : Fin 256) (j : Fin 128), y = ix2 i j := ⟨y 0, y 1, eq_ix2 (n0 := 256) (n1 := 128) y⟩
    pointwise

end Cert.Proof.AdamWUkv
-- ==== Proof.AdamWOAttn.lean ====
/-
The optimiser's update of the attention output weight: the call's three arrays are the reference's, element by element.
-/
module

public import proofs.«01_k».proof.Defs
public import proofs.«01_k».proof.Proof.Gen.Kernel36Ideal.Value
public import proofs.«01_k».proof.Proof.Gen.Reference36Ideal.Run
public import Idealize.ShloMosaic.Lib.Pointwise
public import Idealize.ShloMosaic.Lib.Quiescent

@[expose] public section

noncomputable section

namespace Cert.Proof.AdamWOAttn

open Cert.Reference36Ideal Idealize.ShloMosaic Idealize.ShloMosaic.TcCoe in
/-- The reference ends, its arguments unchanged and every counter at zero. -/
theorem ref_frame : Cert.quiescent_Reference36Ideal := fun m ρ _ =>
  (θ_run defs _ _).mono (fun r h => ⟨fun c => (h c).2.2.2, Idealize.ShloMosaic.sem_eq_zero_of_no_sems (by decide) r.2⟩) (Value.run m ρ)

open Idealize.ShloMosaic Idealize.ShloMosaic.TcCoe Cert.Kernel36Ideal.Gen in
/-- The call and its reference end with the same arrays, at every argument. -/
theorem algebraic : Cert.algebraic_Kernel36Ideal_Reference36Ideal := by
  intro m g m' g' _ heq
  refine ⟨_, _, _, Cert.Kernel36Ideal.Value.run m g,
    (θ_run Cert.Reference36Ideal.defs _ _).mono (fun r h c => ?_) (Cert.Reference36Ideal.Value.run m' g')⟩
  obtain ⟨h0, h1, h2, ha⟩ := h c
  obtain ⟨e0, e1, e2, e3⟩ := heq c
  rw [e0, e1, e2, e3] at h0
  rw [e1, e2] at h1
  rw [e1, e3] at h2
  refine ⟨h0.trans ?_, h1.trans ?_, h2.trans ?_, ha⟩
  · funext y
    obtain ⟨i, j, rfl⟩ : ∃ (i : Fin 512) (j : Fin 128), y = ix2 i j := ⟨y 0, y 1, eq_ix2 (n0 := 512) (n1 := 128) y⟩
    pointwise
  · funext y
    obtain ⟨i, j, rfl⟩ : ∃ (i : Fin 512) (j : Fin 128), y = ix2 i j := ⟨y 0, y 1, eq_ix2 (n0 := 512) (n1 := 128) y⟩
    pointwise
  · funext y
    obtain ⟨i, j, rfl⟩ : ∃ (i : Fin 512) (j : Fin 128), y = ix2 i j := ⟨y 0, y 1, eq_ix2 (n0 := 512) (n1 := 128) y⟩
    pointwise

end Cert.Proof.AdamWOAttn
-- ==== Proof.ModProj.lean ====
/-
The product of the modulation, `mod_proj`: the call's array is the reference's, element by element.
-/
module

public import proofs.«01_k».proof.Defs
public import proofs.«01_k».proof.Proof.Gen.Kernel37Ideal.Value
public import proofs.«01_k».proof.Proof.Gen.Reference37Ideal.Run
public import Idealize.ShloMosaic.Lib.Pointwise
public import Idealize.ShloMosaic.Lib.Quiescent

@[expose] public section

noncomputable section

namespace Cert.Proof.ModProj

open Cert.Reference37Ideal Idealize.ShloMosaic Idealize.ShloMosaic.TcCoe in
/-- The reference ends, its arguments unchanged and every counter at zero. -/
theorem ref_frame : Cert.quiescent_Reference37Ideal := fun m ρ _ =>
  (θ_run defs _ _).mono (fun r h => ⟨fun c => (h c).2, Idealize.ShloMosaic.sem_eq_zero_of_no_sems (by decide) r.2⟩) (Value.run m ρ)

open Idealize.ShloMosaic Idealize.ShloMosaic.TcCoe Cert.Kernel37Ideal.Gen in
/-- The call and its reference end with the same array, at every argument. -/
theorem algebraic : Cert.algebraic_Kernel37Ideal_Reference37Ideal := by
  intro m g m' g' _ heq
  refine ⟨_, Cert.Kernel37Ideal.Value.run m g,
    (θ_run Cert.Reference37Ideal.defs _ _).mono (fun r h c => ?_) (Cert.Reference37Ideal.Value.run m' g')⟩
  obtain ⟨h0, ha⟩ := h c
  obtain ⟨e0, e1⟩ := heq c
  rw [e0, e1] at h0
  refine ⟨h0.trans ?_, ha⟩
  funext y
  obtain ⟨i, j, rfl⟩ : ∃ (i : Fin 16) (j : Fin 768), y = ix2 i j := ⟨y 0, y 1, eq_ix2 (n0 := 16) (n1 := 768) y⟩
  unfold Cert.Kernel37Ideal.Value.G2
  unfold k0_pay1
  pointwise

end Cert.Proof.ModProj
-- ==== Proof.GWMod.lean ====
/-
The gradient of the modulation weight, `g_w_mod`: the call's array is the reference's, element by element.
-/
module

public import proofs.«01_k».proof.Defs
public import proofs.«01_k».proof.Proof.Gen.Kernel38Ideal.Value
public import proofs.«01_k».proof.Proof.Gen.Reference38Ideal.Run
public import Idealize.ShloMosaic.Lib.Pointwise
public import Idealize.ShloMosaic.Lib.Quiescent

@[expose] public section

noncomputable section

namespace Cert.Proof.GWMod

open Cert.Reference38Ideal Idealize.ShloMosaic Idealize.ShloMosaic.TcCoe in
/-- The reference ends, its arguments unchanged and every counter at zero. -/
theorem ref_frame : Cert.quiescent_Reference38Ideal := fun m ρ _ =>
  (θ_run defs _ _).mono (fun r h => ⟨fun c => (h c).2, Idealize.ShloMosaic.sem_eq_zero_of_no_sems (by decide) r.2⟩) (Value.run m ρ)

open Idealize.ShloMosaic Idealize.ShloMosaic.TcCoe Cert.Kernel38Ideal.Gen in
/-- The call and its reference end with the same array, at every argument. -/
theorem algebraic : Cert.algebraic_Kernel38Ideal_Reference38Ideal := by
  intro m g m' g' _ heq
  refine ⟨_, Cert.Kernel38Ideal.Value.run m g,
    (θ_run Cert.Reference38Ideal.defs _ _).mono (fun r h c => ?_) (Cert.Reference38Ideal.Value.run m' g')⟩
  obtain ⟨h0, ha⟩ := h c
  obtain ⟨e0, e1⟩ := heq c
  rw [e0, e1] at h0
  refine ⟨h0.trans ?_, ha⟩
  funext y
  obtain ⟨i, j, rfl⟩ : ∃ (i : Fin 1024) (j : Fin 768), y = ix2 i j := ⟨y 0, y 1, eq_ix2 (n0 := 1024) (n1 := 768) y⟩
  unfold Cert.Kernel38Ideal.Value.G2
  unfold k0_pay1
  pointwise
  exact Finset.sum_congr rfl fun k _ => mul_comm _ _

end Cert.Proof.GWMod
-- ==== Proof.DCond.lean ====
/-
The cotangent of the modulation's input, `d_cond`: the call's array is the reference's, element by element.
-/
module

public import proofs.«01_k».proof.Defs
public import proofs.«01_k».proof.Proof.Gen.Kernel39Ideal.Value
public import proofs.«01_k».proof.Proof.Gen.Reference39Ideal.Run
public import Idealize.ShloMosaic.Lib.Pointwise
public import Idealize.ShloMosaic.Lib.Quiescent

@[expose] public section

noncomputable section

namespace Cert.Proof.DCond

open Cert.Reference39Ideal Idealize.ShloMosaic Idealize.ShloMosaic.TcCoe in
/-- The reference ends, its arguments unchanged and every counter at zero. -/
theorem ref_frame : Cert.quiescent_Reference39Ideal := fun m ρ _ =>
  (θ_run defs _ _).mono (fun r h => ⟨fun c => (h c).2, Idealize.ShloMosaic.sem_eq_zero_of_no_sems (by decide) r.2⟩) (Value.run m ρ)

open Idealize.ShloMosaic Idealize.ShloMosaic.TcCoe Cert.Kernel39Ideal.Gen in
/-- The call and its reference end with the same array, at every argument. -/
theorem algebraic : Cert.algebraic_Kernel39Ideal_Reference39Ideal := by
  intro m g m' g' _ heq
  refine ⟨_, Cert.Kernel39Ideal.Value.run m g,
    (θ_run Cert.Reference39Ideal.defs _ _).mono (fun r h c => ?_) (Cert.Reference39Ideal.Value.run m' g')⟩
  obtain ⟨h0, ha⟩ := h c
  obtain ⟨e0, e1⟩ := heq c
  rw [e0, e1] at h0
  refine ⟨h0.trans ?_, ha⟩
  funext y
  obtain ⟨i, j, rfl⟩ : ∃ (i : Fin 16) (j : Fin 1024), y = ix2 i j := ⟨y 0, y 1, eq_ix2 (n0 := 16) (n1 := 1024) y⟩
  unfold Cert.Kernel39Ideal.Value.G2
  unfold k0_pay1
  pointwise

end Cert.Proof.DCond
-- ==== Proof.Steps.lean ====
/-
The optimiser's step of one weight, written over the extended reals, and the sum of eight slots.
-/
module

public import proofs.«01_k».proof.Defs
public import Idealize.ShloMosaic.Lib.Pointwise

@[expose] public section

noncomputable section

open scoped BigOperators

namespace Cert.Proof.Steps

open Idealize.ShloMosaic

/-- The first moment after the step. -/
def newM (m g : EReal) : EReal := Ideal.ofBits .f32 0x3F666666#32 * m + Ideal.ofBits .f32 0x3DCCCCCD#32 * g

/-- The second moment after the step. -/
def newV (v g : EReal) : EReal := Ideal.ofBits .f32 0x3F7FBE77#32 * v + Ideal.ofBits .f32 0x3A83126F#32 * (g * g)

/-- The weight's change. -/
def delta (w m v g : EReal) : EReal :=
  Ideal.ofBits .f32 0xBA83126F#32 *
    (Ideal.div (Ideal.div (newM m g) (Ideal.ofBits .f32 0x3F26BD02#32))
        (Ideal.sqrt (Ideal.div (newV v g) (Ideal.ofBits .f32 0x3C231ACC#32)) + Ideal.ofBits .f32 0x322BCC77#32)
      + Ideal.ofBits .f32 0x3C23D70A#32 * w)

/-- The sum of the device's own slot and the seven others, in order. -/
def eight (o : EReal) (s : Fin 8 → EReal) : EReal := o + s 1 + s 2 + s 3 + s 4 + s 5 + s 6 + s 7

/-- The device's own term and the sum of the seven others. -/
theorem eight_of (o : EReal) (s : Fin 8 → EReal) : (∑ _x : Fin 1, o) + ∑ x : Fin 7, s ⟨1 + x.val, by omega⟩ = eight o s := by
  unfold eight
  rw [Finset.sum_const, Finset.card_univ, Fintype.card_fin, one_nsmul, Fin.sum_univ_seven]
  simp only [← add_assoc]
  rfl

/-- What holds in every block of columns holds in the whole array. -/
theorem by_columns {R C N tc : Nat} (hN : C = N * tc) {P : Fin R → Fin C → Prop}
    (h : ∀ (t : Fin N) (r : Fin R) (l : Fin tc) (j : Fin C), j.val = t.val * tc + l.val → P r j) (i : Fin R) (j : Fin C) : P i j := by
  have hj : j.val < N * tc := hN ▸ j.isLt
  have htc : 0 < tc := Nat.pos_of_ne_zero fun h0 => by subst h0; omega
  exact h ⟨j.val / tc, Nat.div_lt_of_lt_mul (by rw [Nat.mul_comm]; exact hj)⟩ i ⟨j.val % tc, Nat.mod_lt _ htc⟩ j (Nat.div_add_mod' j.val tc).symm

/-- A choice on a constant bit. -/
theorem pick_one {T : Type} (a b : T) : Scalar.select 1#1 a b = a := rfl
theorem pick_zero {T : Type} (a b : T) : Scalar.select 0#1 a b = b := rfl

end Cert.Proof.Steps
-- ==== Proof.StepWIn.lean ====
/-
The call `step_w_in`: the sum of the devices' gradients and the optimiser’s step on it, block by block, and the arrays the call leaves.
-/
module

public import proofs.«01_k».proof.Proof.Products
public import proofs.«01_k».proof.Proof.Steps
public import proofs.«01_k».proof.Proof.Gen.Kernel40Ideal.Value
public import proofs.«01_k».proof.Proof.Gen.Reference40Ideal.Run

@[expose] public section

noncomputable section

namespace Cert.Proof.StepWIn

section Call

open Cert.Kernel40Ideal Cert.Kernel40Ideal.Gen Idealize.ShloMosaic Idealize.ShloMosaic.TcCoe Products Steps

section Body

variable (x0 : Vec Ideal S8x664x256 .bf16) (x1 : Vec Ideal S1x664x256 .bf16) (x2 x3 x4 : Vec Ideal S664x256 .f32) (r : Fin 664) (l : Fin 256)

/-- The block's sum over the slots. -/
theorem sum_at : out0_5 (F := Ideal) x0 x1 x2 x3 x4 (ix2 r l) = eight (x1 (ix3 0 r l)) (fun p => x0 (ix3 p r l)) := by
  unfold out0_5
  rw [View.canon_unit_zero (S := S664x256) hz2]
  unfold k0_pay7 k0_pay5 k0_pay4 eight
  simp only [pick_one, pick_zero]
  pointwise

/-- The block's first moment. -/
theorem m_at : out0_7 (F := Ideal) x0 x1 x2 x3 x4 (ix2 r l) = newM (x3 (ix2 r l)) (eight (x1 (ix3 0 r l)) (fun p => x0 (ix3 p r l))) := by
  rw [← sum_at x0 x1 x2 x3 x4 r l]
  unfold out0_7 out0_5
  rw [View.canon_unit_zero (S := S664x256) hz2, View.canon_unit_zero (S := S664x256) hz2]
  generalize k0_pay7 (F := Ideal) x0 x1 x2 x3 x4 = G
  unfold k0_pay1 k0_pay8 k0_pay6 newM
  try simp only [View.ld_unit_zero (S := S664x256) hz2]
  pointwise

/-- The block's second moment. -/
theorem v_at : out0_8 (F := Ideal) x0 x1 x2 x3 x4 (ix2 r l) = newV (x4 (ix2 r l)) (eight (x1 (ix3 0 r l)) (fun p => x0 (ix3 p r l))) := by
  rw [← sum_at x0 x1 x2 x3 x4 r l]
  unfold out0_8 out0_5
  rw [View.canon_unit_zero (S := S664x256) hz2, View.canon_unit_zero (S := S664x256) hz2]
  generalize k0_pay7 (F := Ideal) x0 x1 x2 x3 x4 = G
  unfold k0_pay2 newV
  try simp only [View.ld_unit_zero (S := S664x256) hz2]
  pointwise

/-- The block's weight's change. -/
theorem d_at : out0_6 (F := Ideal) x0 x1 x2 x3 x4 (ix2 r l) = delta (x2 (ix2 r l)) (x3 (ix2 r l)) (x4 (ix2 r l)) (eight (x1 (ix3 0 r l)) (fun p => x0 (ix3 p r l))) := by
  rw [← sum_at x0 x1 x2 x3 x4 r l]
  unfold out0_6 out0_5
  rw [View.canon_unit_zero (S := S664x256) hz2, View.canon_unit_zero (S := S664x256) hz2]
  generalize k0_pay7 (F := Ideal) x0 x1 x2 x3 x4 = G
  unfold k0_pay3 k0_pay8 k0_pay1 k0_pay2 k0_pay6 delta newM newV
  try simp only [View.ld_unit_zero (S := S664x256) hz2]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val := by decide +kernel
theorem idx5 : ∀ t : Fin cfg0.N, win0_5.index t 0 = 0 ∧ win0_5.index t 1 = t.val := by decide +kernel
theorem idx6 : ∀ t : Fin cfg0.N, win0_6.index t 0 = 0 ∧ win0_6.index t 1 = t.val := by decide +kernel
theorem idx7 : ∀ t : Fin cfg0.N, win0_7.index t 0 = 0 ∧ win0_7.index t 1 = t.val := by decide +kernel
theorem idx8 : ∀ t : Fin cfg0.N, win0_8.index t 0 = 0 ∧ win0_8.index t 1 = t.val := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel
theorem flush8 : ∀ t : Fin cfg0.N, (cfg0.win 8).flush t = true := by decide +kernel

variable (m : (ℓ : Loc nD τ sig) → Buf (Elt Ideal) ℓ) (c : Dev nD)

/-- The arguments. -/
abbrev argS : FVec Ideal S8x664x1024 .f32 := m ((c : Thread nD τ).loc main_arg0)
abbrev argO : FVec Ideal S1x664x1024 .f32 := m ((c : Thread nD τ).loc main_arg1)
abbrev argW : FVec Ideal S1024x664 .f32 := m ((c : Thread nD τ).loc main_arg2)
abbrev argM : FVec Ideal S1024x664 .f32 := m ((c : Thread nD τ).loc main_arg3)
abbrev argV : FVec Ideal S1024x664 .f32 := m ((c : Thread nD τ).loc main_arg4)

/-- The whole sum at an element. -/
def elt (s : FVec Ideal S8x664x1024 .f32) (o : FVec Ideal S1x664x1024 .f32) (i : Fin 664) (j : Fin 1024) : EReal :=
  eight (o (ix3 0 i j)) (fun p => s (ix3 p i j))

theorem blk0 (t : Fin cfg0.N) (p : Fin 8) (r : Fin 664) (l : Fin 256) (j : Fin 1024) (hj : j.val = t.val * 256 + l.val) :
    iblk m c 0 t (ix3 p r l) = argS m c (ix3 p r j) := by
  have e : V m c main_v0 = (truncf .bf16 (argS m c) bitsLt_bf16_f32 : FVec Ideal S8x664x1024 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 664) (l : Fin 256) (j : Fin 1024) (hj : j.val = t.val * 256 + l.val) :
    iblk m c 1 t (ix3 0 r l) = argO m c (ix3 0 r j) := by
  have e : V m c main_v1 = (truncf .bf16 (argO m c) bitsLt_bf16_f32 : FVec Ideal S1x664x1024 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem blk2 (t : Fin cfg0.N) (r : Fin 664) (l : Fin 256) (j : Fin 1024) (hj : j.val = t.val * 256 + l.val) :
    iblk m c 2 t (ix2 r l) = argW m c (ix2 j r) := by
  have e : V m c main_v2 = (transpose S664x1024 [1, 0] (argW m c) transposes_S1024x664_S664x1024_1_0 : FVec Ideal S664x1024 .f32) := by
    unfold V; after_reads_simp
  have e' : V m c main_v2 (ix2 r j) = argW m c (ix2 j r) := by
    rw [e]; pointwise
  rw [← e']
  unfold iblk
  rw [View.read_apply]
  exact at2 (V m c main_v2) r j _ (whole (idx2 t).1) (moved (idx2 t).2 hj)

theorem blk3 (t : Fin cfg0.N) (r : Fin 664) (l : Fin 256) (j : Fin 1024) (hj : j.val = t.val * 256 + l.val) :
    iblk m c 3 t (ix2 r l) = argM m c (ix2 j r) := by
  have e : V m c main_v3 = (transpose S664x1024 [1, 0] (argM m c) transposes_S1024x664_S664x1024_1_0 : FVec Ideal S664x1024 .f32) := by
    unfold V; after_reads_simp
  have e' : V m c main_v3 (ix2 r j) = argM m c (ix2 j r) := by
    rw [e]; pointwise
  rw [← e']
  unfold iblk
  rw [View.read_apply]
  exact at2 (V m c main_v3) r j _ (whole (idx3 t).1) (moved (idx3 t).2 hj)

theorem blk4 (t : Fin cfg0.N) (r : Fin 664) (l : Fin 256) (j : Fin 1024) (hj : j.val = t.val * 256 + l.val) :
    iblk m c 4 t (ix2 r l) = argV m c (ix2 j r) := by
  have e : V m c main_v4 = (transpose S664x1024 [1, 0] (argV m c) transposes_S1024x664_S664x1024_1_0 : FVec Ideal S664x1024 .f32) := by
    unfold V; after_reads_simp
  have e' : V m c main_v4 (ix2 r j) = argV m c (ix2 j r) := by
    rw [e]; pointwise
  rw [← e']
  unfold iblk
  rw [View.read_apply]
  exact at2 (V m c main_v4) r j _ (whole (idx4 t).1) (moved (idx4 t).2 hj)

theorem slots_at (t : Fin cfg0.N) (r : Fin 664) (l : Fin 256) (j : Fin 1024) (hj : j.val = t.val * 256 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result5 : ∀ (i : Fin 664) (j : Fin 1024), (dats m 0 c).arrAt 5 cfg0.N (ix2 i j) = elt (argS m c) (argO m c) i j := by
  refine by_columns (N := cfg0.N) (tc := 256) (by decide) fun t i l j hj => ?_
  have hb := congrFun (Value.blocks5 m c t (flush5 t)) (ix2 i l)
  rw [Value.flushed5, View.read_apply] at hb
  refine (at2 ((dats m 0 c).arrAt 5 cfg0.N) i j _ (whole (idx5 t).1) (moved (idx5 t).2 hj)).symm.trans (hb.trans ((sum_at (iblk m c 0 t) (iblk m c 1 t) (iblk m c 2 t) (iblk m c 3 t) (iblk m c 4 t) i l).trans ?_))
  rw [slots_at m c t i l j hj]

/-- The array of the weight's change. -/
theorem result6 : ∀ (i : Fin 664) (j : Fin 1024), (dats m 0 c).arrAt 6 cfg0.N (ix2 i j) = delta (argW m c (ix2 j i)) (argM m c (ix2 j i)) (argV m c (ix2 j i)) (elt (argS m c) (argO m c) i j) := by
  refine by_columns (N := cfg0.N) (tc := 256) (by decide) fun t i l j hj => ?_
  have hb := congrFun (Value.blocks6 m c t (flush6 t)) (ix2 i l)
  rw [Value.flushed6, View.read_apply] at hb
  refine (at2 ((dats m 0 c).arrAt 6 cfg0.N) i j _ (whole (idx6 t).1) (moved (idx6 t).2 hj)).symm.trans (hb.trans ((d_at (iblk m c 0 t) (iblk m c 1 t) (iblk m c 2 t) (iblk m c 3 t) (iblk m c 4 t) i l).trans ?_))
  rw [slots_at m c t i l j hj, blk2 m c t i l j hj, blk3 m c t i l j hj, blk4 m c t i l j hj]

/-- The array of the first moment. -/
theorem result7 : ∀ (i : Fin 664) (j : Fin 1024), (dats m 0 c).arrAt 7 cfg0.N (ix2 i j) = newM (argM m c (ix2 j i)) (elt (argS m c) (argO m c) i j) := by
  refine by_columns (N := cfg0.N) (tc := 256) (by decide) fun t i l j hj => ?_
  have hb := congrFun (Value.blocks7 m c t (flush7 t)) (ix2 i l)
  rw [Value.flushed7, View.read_apply] at hb
  refine (at2 ((dats m 0 c).arrAt 7 cfg0.N) i j _ (whole (idx7 t).1) (moved (idx7 t).2 hj)).symm.trans (hb.trans ((m_at (iblk m c 0 t) (iblk m c 1 t) (iblk m c 2 t) (iblk m c 3 t) (iblk m c 4 t) i l).trans ?_))
  rw [slots_at m c t i l j hj, blk3 m c t i l j hj]

/-- The array of the second moment. -/
theorem result8 : ∀ (i : Fin 664) (j : Fin 1024), (dats m 0 c).arrAt 8 cfg0.N (ix2 i j) = newV (argV m c (ix2 j i)) (elt (argS m c) (argO m c) i j) := by
  refine by_columns (N := cfg0.N) (tc := 256) (by decide) fun t i l j hj => ?_
  have hb := congrFun (Value.blocks8 m c t (flush8 t)) (ix2 i l)
  rw [Value.flushed8, View.read_apply] at hb
  refine (at2 ((dats m 0 c).arrAt 8 cfg0.N) i j _ (whole (idx8 t).1) (moved (idx8 t).2 hj)).symm.trans (hb.trans ((v_at (iblk m c 0 t) (iblk m c 1 t) (iblk m c 2 t) (iblk m c 3 t) (iblk m c 4 t) i l).trans ?_))
  rw [slots_at m c t i l j hj, blk4 m c t i l j hj]

end Call

section Reference

open Cert.Reference40Ideal Cert.Reference40Ideal.Gen Idealize.ShloMosaic Idealize.ShloMosaic.TcCoe Steps

/-- The reference's sum at an element. -/
theorem total_at (s : FVec Ideal S8x664x1024 .f32) (o : FVec Ideal S1x664x1024 .f32) (i : Fin 664) (j : Fin 1024) :
    (Host.reduceAdd (concatenate S8x664x1024 0 [⟨S1x664x1024, o⟩, ⟨S7x664x1024, (extractStridedSlice S7x664x1024 ![1, 0, 0] s slices_S8x664x1024_S7x664x1024_1_0_0)⟩] concatenates_S1x664x1024_S7x664x1024_S8x664x1024_d0) (constant S_ .f32 0x00000000#32) reducesTo_S8x664x1024_S664x1024_d0 h_S_ : FVec Ideal S664x1024 .f32) (ix2 i j) = elt s o i j := by
  unfold elt
  pointwise
  exact eight_of (o (ix3 0 i j)) (fun p => s (ix3 p i j))

/-- The reference ends, its arguments unchanged and every counter at zero. -/
theorem ref_frame : Cert.quiescent_Reference40Ideal := fun m ρ _ =>
  (θ_run defs _ _).mono (fun r h => ⟨fun c => (h c).2.2.2.2, Idealize.ShloMosaic.sem_eq_zero_of_no_sems (by decide) r.2⟩) (Value.run m ρ)

end Reference

open Idealize.ShloMosaic Idealize.ShloMosaic.TcCoe Cert.Kernel40Ideal.Gen in
/-- The call and its reference end with the same arrays, at every argument. -/
theorem algebraic : Cert.algebraic_Kernel40Ideal_Reference40Ideal := by
  intro m g m' g' _ heq
  refine ⟨fun c => (dats m 0 c).arrAt 5 Cert.Kernel40Ideal.cfg0.N, fun c => (dats m 0 c).arrAt 6 Cert.Kernel40Ideal.cfg0.N, fun c => (dats m 0 c).arrAt 7 Cert.Kernel40Ideal.cfg0.N, fun c => (dats m 0 c).arrAt 8 Cert.Kernel40Ideal.cfg0.N, Cert.Kernel40Ideal.Value.run_blocks m g,
    (θ_run Cert.Reference40Ideal.defs _ _).mono (fun r h c => ?_) (Cert.Reference40Ideal.Value.run m' g')⟩
  obtain ⟨h0, h1, h2, h3, ha⟩ := h c
  obtain ⟨e0, e1, e2, e3, e4⟩ := heq c
  rw [e0, e1] at h0
  rw [e0, e1, e2, e3, e4] at h1
  rw [e0, e1, e3] at h2
  rw [e0, e1, e4] at h3
  refine ⟨h0.trans ?_, h1.trans ?_, h2.trans ?_, h3.trans ?_, ha⟩
  · funext y
    obtain ⟨i, j, rfl⟩ := Products.rowcol (n0 := 664) (n1 := 1024) y
    refine Eq.trans ?_ (result5 m c i j).symm
    rw [← total_at]
    generalize (Host.reduceAdd _ _ _ _ : FVec Ideal Cert.Reference40Ideal.S664x1024 .f32) = T
    pointwise
  · funext y
    obtain ⟨i, j, rfl⟩ := Products.rowcol (n0 := 664) (n1 := 1024) y
    refine Eq.trans ?_ (result6 m c i j).symm
    rw [← total_at]
    generalize (Host.reduceAdd _ _ _ _ : FVec Ideal Cert.Reference40Ideal.S664x1024 .f32) = T
    unfold Steps.delta Steps.newM Steps.newV
    pointwise
  · funext y
    obtain ⟨i, j, rfl⟩ := Products.rowcol (n0 := 664) (n1 := 1024) y
    refine Eq.trans ?_ (result7 m c i j).symm
    rw [← total_at]
    generalize (Host.reduceAdd _ _ _ _ : FVec Ideal Cert.Reference40Ideal.S664x1024 .f32) = T
    unfold Steps.newM
    pointwise
  · funext y
    obtain ⟨i, j, rfl⟩ := Products.rowcol (n0 := 664) (n1 := 1024) y
    refine Eq.trans ?_ (result8 m c i j).symm
    rw [← total_at]
    generalize (Host.reduceAdd _ _ _ _ : FVec Ideal Cert.Reference40Ideal.S664x1024 .f32) = T
    unfold Steps.newV
    pointwise

end Cert.Proof.StepWIn
-- ==== Proof.StepWUq.lean ====
/-
The call `step_w_uq`: the sum of the devices' gradients and the optimiser’s step on it, block by block, and the arrays the call leaves.
-/
module

public import proofs.«01_k».proof.Proof.Products
public import proofs.«01_k».proof.Proof.Steps
public import proofs.«01_k».proof.Proof.Gen.Kernel41Ideal.Value
public import proofs.«01_k».proof.Proof.Gen.Reference41Ideal.Run

@[expose] public section

noncomputable section

namespace Cert.Proof.StepWUq

section Call

open Cert.Kernel41Ideal Cert.Kernel41Ideal.Gen Idealize.ShloMosaic Idealize.ShloMosaic.TcCoe Products Steps

section Body

variable (x0 : Vec Ideal S8x96x128 .bf16) (x1 : Vec Ideal S1x96x128 .bf16) (x2 x3 x4 : Vec Ideal S96x128 .f32) (r : Fin 96) (l : Fin 128)

/-- The block's sum over the slots. -/
theorem sum_at : out0_5 (F := Ideal) x0 x1 x2 x3 x4 (ix2 r l) = eight (x1 (ix3 0 r l)) (fun p => x0 (ix3 p r l)) := by
  unfold out0_5
  rw [View.canon_unit_zero (S := S96x128) hz2]
  unfold k0_pay7 k0_pay5 k0_pay4 eight
  simp only [pick_one, pick_zero]
  pointwise

/-- The block's first moment. -/
theorem m_at : out0_7 (F := Ideal) x0 x1 x2 x3 x4 (ix2 r l) = newM (x3 (ix2 r l)) (eight (x1 (ix3 0 r l)) (fun p => x0 (ix3 p r l))) := by
  rw [← sum_at x0 x1 x2 x3 x4 r l]
  unfold out0_7 out0_5
  rw [View.canon_unit_zero (S := S96x128) hz2, View.canon_unit_zero (S := S96x128) hz2]
  generalize k0_pay7 (F := Ideal) x0 x1 x2 x3 x4 = G
  unfold k0_pay1 k0_pay8 k0_pay6 newM
  try simp only [View.ld_unit_zero (S := S96x128) hz2]
  pointwise

/-- The block's second moment. -/
theorem v_at : out0_8 (F := Ideal) x0 x1 x2 x3 x4 (ix2 r l) = newV (x4 (ix2 r l)) (eight (x1 (ix3 0 r l)) (fun p => x0 (ix3 p r l))) := by
  rw [← sum_at x0 x1 x2 x3 x4 r l]
  unfold out0_8 out0_5
  rw [View.canon_unit_zero (S := S96x128) hz2, View.canon_unit_zero (S := S96x128) hz2]
  generalize k0_pay7 (F := Ideal) x0 x1 x2 x3 x4 = G
  unfold k0_pay2 newV
  try simp only [View.ld_unit_zero (S := S96x128) hz2]
  pointwise

/-- The block's weight's change. -/
theorem d_at : out0_6 (F := Ideal) x0 x1 x2 x3 x4 (ix2 r l) = delta (x2 (ix2 r l)) (x3 (ix2 r l)) (x4 (ix2 r l)) (eight (x1 (ix3 0 r l)) (fun p => x0 (ix3 p r l))) := by
  rw [← sum_at x0 x1 x2 x3 x4 r l]
  unfold out0_6 out0_5
  rw [View.canon_unit_zero (S := S96x128) hz2, View.canon_unit_zero (S := S96x128) hz2]
  generalize k0_pay7 (F := Ideal) x0 x1 x2 x3 x4 = G
  unfold k0_pay3 k0_pay8 k0_pay1 k0_pay2 k0_pay6 delta newM newV
  try simp only [View.ld_unit_zero (S := S96x128) hz2]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val := by decide +kernel
theorem idx5 : ∀ t : Fin cfg0.N, win0_5.index t 0 = 0 ∧ win0_5.index t 1 = t.val := by decide +kernel
theorem idx6 : ∀ t : Fin cfg0.N, win0_6.index t 0 = 0 ∧ win0_6.index t 1 = t.val := by decide +kernel
theorem idx7 : ∀ t : Fin cfg0.N, win0_7.index t 0 = 0 ∧ win0_7.index t 1 = t.val := by decide +kernel
theorem idx8 : ∀ t : Fin cfg0.N, win0_8.index t 0 = 0 ∧ win0_8.index t 1 = t.val := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel
theorem flush8 : ∀ t : Fin cfg0.N, (cfg0.win 8).flush t = true := by decide +kernel

variable (m : (ℓ : Loc nD τ sig) → Buf (Elt Ideal) ℓ) (c : Dev nD)

/-- The arguments. -/
abbrev argS : FVec Ideal S8x96x384 .f32 := m ((c : Thread nD τ).loc main_arg0)
abbrev argO : FVec Ideal S1x96x384 .f32 := m ((c : Thread nD τ).loc main_arg1)
abbrev argW : FVec Ideal S384x96 .f32 := m ((c : Thread nD τ).loc main_arg2)
abbrev argM : FVec Ideal S384x96 .f32 := m ((c : Thread nD τ).loc main_arg3)
abbrev argV : FVec Ideal S384x96 .f32 := m ((c : Thread nD τ).loc main_arg4)

/-- The whole sum at an element. -/
def elt (s : FVec Ideal S8x96x384 .f32) (o : FVec Ideal S1x96x384 .f32) (i : Fin 96) (j : Fin 384) : EReal :=
  eight (o (ix3 0 i j)) (fun p => s (ix3 p i j))

theorem blk0 (t : Fin cfg0.N) (p : Fin 8) (r : Fin 96) (l : Fin 128) (j : Fin 384) (hj : j.val = t.val * 128 + l.val) :
    iblk m c 0 t (ix3 p r l) = argS m c (ix3 p r j) := by
  have e : V m c main_v0 = (truncf .bf16 (argS m c) bitsLt_bf16_f32 : FVec Ideal S8x96x384 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 96) (l : Fin 128) (j : Fin 384) (hj : j.val = t.val * 128 + l.val) :
    iblk m c 1 t (ix3 0 r l) = argO m c (ix3 0 r j) := by
  have e : V m c main_v1 = (truncf .bf16 (argO m c) bitsLt_bf16_f32 : FVec Ideal S1x96x384 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem blk2 (t : Fin cfg0.N) (r : Fin 96) (l : Fin 128) (j : Fin 384) (hj : j.val = t.val * 128 + l.val) :
    iblk m c 2 t (ix2 r l) = argW m c (ix2 j r) := by
  have e : V m c main_v2 = (transpose S96x384 [1, 0] (argW m c) transposes_S384x96_S96x384_1_0 : FVec Ideal S96x384 .f32) := by
    unfold V; after_reads_simp
  have e' : V m c main_v2 (ix2 r j) = argW m c (ix2 j r) := by
    rw [e]; pointwise
  rw [← e']
  unfold iblk
  rw [View.read_apply]
  exact at2 (V m c main_v2) r j _ (whole (idx2 t).1) (moved (idx2 t).2 hj)

theorem blk3 (t : Fin cfg0.N) (r : Fin 96) (l : Fin 128) (j : Fin 384) (hj : j.val = t.val * 128 + l.val) :
    iblk m c 3 t (ix2 r l) = argM m c (ix2 j r) := by
  have e : V m c main_v3 = (transpose S96x384 [1, 0] (argM m c) transposes_S384x96_S96x384_1_0 : FVec Ideal S96x384 .f32) := by
    unfold V; after_reads_simp
  have e' : V m c main_v3 (ix2 r j) = argM m c (ix2 j r) := by
    rw [e]; pointwise
  rw [← e']
  unfold iblk
  rw [View.read_apply]
  exact at2 (V m c main_v3) r j _ (whole (idx3 t).1) (moved (idx3 t).2 hj)

theorem blk4 (t : Fin cfg0.N) (r : Fin 96) (l : Fin 128) (j : Fin 384) (hj : j.val = t.val * 128 + l.val) :
    iblk m c 4 t (ix2 r l) = argV m c (ix2 j r) := by
  have e : V m c main_v4 = (transpose S96x384 [1, 0] (argV m c) transposes_S384x96_S96x384_1_0 : FVec Ideal S96x384 .f32) := by
    unfold V; after_reads_simp
  have e' : V m c main_v4 (ix2 r j) = argV m c (ix2 j r) := by
    rw [e]; pointwise
  rw [← e']
  unfold iblk
  rw [View.read_apply]
  exact at2 (V m c main_v4) r j _ (whole (idx4 t).1) (moved (idx4 t).2 hj)

theorem slots_at (t : Fin cfg0.N) (r : Fin 96) (l : Fin 128) (j : Fin 384) (hj : j.val = t.val * 128 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result5 : ∀ (i : Fin 96) (j : Fin 384), (dats m 0 c).arrAt 5 cfg0.N (ix2 i j) = elt (argS m c) (argO m c) i j := by
  refine by_columns (N := cfg0.N) (tc := 128) (by decide) fun t i l j hj => ?_
  have hb := congrFun (Value.blocks5 m c t (flush5 t)) (ix2 i l)
  rw [Value.flushed5, View.read_apply] at hb
  refine (at2 ((dats m 0 c).arrAt 5 cfg0.N) i j _ (whole (idx5 t).1) (moved (idx5 t).2 hj)).symm.trans (hb.trans ((sum_at (iblk m c 0 t) (iblk m c 1 t) (iblk m c 2 t) (iblk m c 3 t) (iblk m c 4 t) i l).trans ?_))
  rw [slots_at m c t i l j hj]

/-- The array of the weight's change. -/
theorem result6 : ∀ (i : Fin 96) (j : Fin 384), (dats m 0 c).arrAt 6 cfg0.N (ix2 i j) = delta (argW m c (ix2 j i)) (argM m c (ix2 j i)) (argV m c (ix2 j i)) (elt (argS m c) (argO m c) i j) := by
  refine by_columns (N := cfg0.N) (tc := 128) (by decide) fun t i l j hj => ?_
  have hb := congrFun (Value.blocks6 m c t (flush6 t)) (ix2 i l)
  rw [Value.flushed6, View.read_apply] at hb
  refine (at2 ((dats m 0 c).arrAt 6 cfg0.N) i j _ (whole (idx6 t).1) (moved (idx6 t).2 hj)).symm.trans (hb.trans ((d_at (iblk m c 0 t) (iblk m c 1 t) (iblk m c 2 t) (iblk m c 3 t) (iblk m c 4 t) i l).trans ?_))
  rw [slots_at m c t i l j hj, blk2 m c t i l j hj, blk3 m c t i l j hj, blk4 m c t i l j hj]

/-- The array of the first moment. -/
theorem result7 : ∀ (i : Fin 96) (j : Fin 384), (dats m 0 c).arrAt 7 cfg0.N (ix2 i j) = newM (argM m c (ix2 j i)) (elt (argS m c) (argO m c) i j) := by
  refine by_columns (N := cfg0.N) (tc := 128) (by decide) fun t i l j hj => ?_
  have hb := congrFun (Value.blocks7 m c t (flush7 t)) (ix2 i l)
  rw [Value.flushed7, View.read_apply] at hb
  refine (at2 ((dats m 0 c).arrAt 7 cfg0.N) i j _ (whole (idx7 t).1) (moved (idx7 t).2 hj)).symm.trans (hb.trans ((m_at (iblk m c 0 t) (iblk m c 1 t) (iblk m c 2 t) (iblk m c 3 t) (iblk m c 4 t) i l).trans ?_))
  rw [slots_at m c t i l j hj, blk3 m c t i l j hj]

/-- The array of the second moment. -/
theorem result8 : ∀ (i : Fin 96) (j : Fin 384), (dats m 0 c).arrAt 8 cfg0.N (ix2 i j) = newV (argV m c (ix2 j i)) (elt (argS m c) (argO m c) i j) := by
  refine by_columns (N := cfg0.N) (tc := 128) (by decide) fun t i l j hj => ?_
  have hb := congrFun (Value.blocks8 m c t (flush8 t)) (ix2 i l)
  rw [Value.flushed8, View.read_apply] at hb
  refine (at2 ((dats m 0 c).arrAt 8 cfg0.N) i j _ (whole (idx8 t).1) (moved (idx8 t).2 hj)).symm.trans (hb.trans ((v_at (iblk m c 0 t) (iblk m c 1 t) (iblk m c 2 t) (iblk m c 3 t) (iblk m c 4 t) i l).trans ?_))
  rw [slots_at m c t i l j hj, blk4 m c t i l j hj]

end Call

section Reference

open Cert.Reference41Ideal Cert.Reference41Ideal.Gen Idealize.ShloMosaic Idealize.ShloMosaic.TcCoe Steps

/-- The reference's sum at an element. -/
theorem total_at (s : FVec Ideal S8x96x384 .f32) (o : FVec Ideal S1x96x384 .f32) (i : Fin 96) (j : Fin 384) :
    (Host.reduceAdd (concatenate S8x96x384 0 [⟨S1x96x384, o⟩, ⟨S7x96x384, (extractStridedSlice S7x96x384 ![1, 0, 0] s slices_S8x96x384_S7x96x384_1_0_0)⟩] concatenates_S1x96x384_S7x96x384_S8x96x384_d0) (constant S_ .f32 0x00000000#32) reducesTo_S8x96x384_S96x384_d0 h_S_ : FVec Ideal S96x384 .f32) (ix2 i j) = elt s o i j := by
  unfold elt
  pointwise
  exact eight_of (o (ix3 0 i j)) (fun p => s (ix3 p i j))

/-- The reference ends, its arguments unchanged and every counter at zero. -/
theorem ref_frame : Cert.quiescent_Reference41Ideal := fun m ρ _ =>
  (θ_run defs _ _).mono (fun r h => ⟨fun c => (h c).2.2.2.2, Idealize.ShloMosaic.sem_eq_zero_of_no_sems (by decide) r.2⟩) (Value.run m ρ)

end Reference

open Idealize.ShloMosaic Idealize.ShloMosaic.TcCoe Cert.Kernel41Ideal.Gen in
/-- The call and its reference end with the same arrays, at every argument. -/
theorem algebraic : Cert.algebraic_Kernel41Ideal_Reference41Ideal := by
  intro m g m' g' _ heq
  refine ⟨fun c => (dats m 0 c).arrAt 5 Cert.Kernel41Ideal.cfg0.N, fun c => (dats m 0 c).arrAt 6 Cert.Kernel41Ideal.cfg0.N, fun c => (dats m 0 c).arrAt 7 Cert.Kernel41Ideal.cfg0.N, fun c => (dats m 0 c).arrAt 8 Cert.Kernel41Ideal.cfg0.N, Cert.Kernel41Ideal.Value.run_blocks m g,
    (θ_run Cert.Reference41Ideal.defs _ _).mono (fun r h c => ?_) (Cert.Reference41Ideal.Value.run m' g')⟩
  obtain ⟨h0, h1, h2, h3, ha⟩ := h c
  obtain ⟨e0, e1, e2, e3, e4⟩ := heq c
  rw [e0, e1] at h0
  rw [e0, e1, e2, e3, e4] at h1
  rw [e0, e1, e3] at h2
  rw [e0, e1, e4] at h3
  refine ⟨h0.trans ?_, h1.trans ?_, h2.trans ?_, h3.trans ?_, ha⟩
  · funext y
    obtain ⟨i, j, rfl⟩ := Products.rowcol (n0 := 96) (n1 := 384) y
    refine Eq.trans ?_ (result5 m c i j).symm
    rw [← total_at]
    generalize (Host.reduceAdd _ _ _ _ : FVec Ideal Cert.Reference41Ideal.S96x384 .f32) = T
    pointwise
  · funext y
    obtain ⟨i, j, rfl⟩ := Products.rowcol (n0 := 96) (n1 := 384) y
    refine Eq.trans ?_ (result6 m c i j).symm
    rw [← total_at]
    generalize (Host.reduceAdd _ _ _ _ : FVec Ideal Cert.Reference41Ideal.S96x384 .f32) = T
    unfold Steps.delta Steps.newM Steps.newV
    pointwise
  · funext y
    obtain ⟨i, j, rfl⟩ := Products.rowcol (n0 := 96) (n1 := 384) y
    refine Eq.trans ?_ (result7 m c i j).symm
    rw [← total_at]
    generalize (Host.reduceAdd _ _ _ _ : FVec Ideal Cert.Reference41Ideal.S96x384 .f32) = T
    unfold Steps.newM
    pointwise
  · funext y
    obtain ⟨i, j, rfl⟩ := Products.rowcol (n0 := 96) (n1 := 384) y
    refine Eq.trans ?_ (result8 m c i j).symm
    rw [← total_at]
    generalize (Host.reduceAdd _ _ _ _ : FVec Ideal Cert.Reference41Ideal.S96x384 .f32) = T
    unfold Steps.newV
    pointwise

end Cert.Proof.StepWUq
-- ==== Proof.StepWOLru.lean ====
/-
The call `step_w_o_lru`: the sum of the devices' gradients and the optimiser’s step on it, block by block, and the arrays the call leaves.
-/
module

public import proofs.«01_k».proof.Proof.Products
public import proofs.«01_k».proof.Proof.Steps
public import proofs.«01_k».proof.Proof.Gen.Kernel42Ideal.Value
public import proofs.«01_k».proof.Proof.Gen.Reference42Ideal.Run

@[expose] public section

noncomputable section

namespace Cert.Proof.StepWOLru

section Call

open Cert.Kernel42Ideal Cert.Kernel42Ideal.Gen Idealize.ShloMosaic Idealize.ShloMosaic.TcCoe Products Steps

section Body

variable (x0 : Vec Ideal S8x160x256 .bf16) (x1 : Vec Ideal S1x160x256 .bf16) (x2 x3 x4 : Vec Ideal S160x256 .f32) (r : Fin 160) (l : Fin 256)

/-- The block's sum over the slots. -/
theorem sum_at : out0_5 (F := Ideal) x0 x1 x2 x3 x4 (ix2 r l) = eight (x1 (ix3 0 r l)) (fun p => x0 (ix3 p r l)) := by
  unfold out0_5
  rw [View.canon_unit_zero (S := S160x256) hz2]
  unfold k0_pay8 k0_pay5 k0_pay4 eight
  simp only [pick_one, pick_zero]
  pointwise

/-- The block's first moment. -/
theorem m_at : out0_7 (F := Ideal) x0 x1 x2 x3 x4 (ix2 r l) = newM (x3 (ix2 r l)) (eight (x1 (ix3 0 r l)) (fun p => x0 (ix3 p r l))) := by
  rw [← sum_at x0 x1 x2 x3 x4 r l]
  unfold out0_7 out0_5
  rw [View.canon_unit_zero (S := S160x256) hz2, View.canon_unit_zero (S := S160x256) hz2]
  generalize k0_pay8 (F := Ideal) x0 x1 x2 x3 x4 = G
  unfold k0_pay1 k0_pay9 k0_pay10 k0_pay6 k0_pay7 newM
  try simp only [View.ld_unit_zero (S := S160x256) hz2]
  pointwise

/-- The block's second moment. -/
theorem v_at : out0_8 (F := Ideal) x0 x1 x2 x3 x4 (ix2 r l) = newV (x4 (ix2 r l)) (eight (x1 (ix3 0 r l)) (fun p => x0 (ix3 p r l))) := by
  rw [← sum_at x0 x1 x2 x3 x4 r l]
  unfold out0_8 out0_5
  rw [View.canon_unit_zero (S := S160x256) hz2, View.canon_unit_zero (S := S160x256) hz2]
  generalize k0_pay8 (F := Ideal) x0 x1 x2 x3 x4 = G
  unfold k0_pay2 newV
  try simp only [View.ld_unit_zero (S := S160x256) hz2]
  pointwise

/-- The block's weight's change. -/
theorem d_at : out0_6 (F := Ideal) x0 x1 x2 x3 x4 (ix2 r l) = delta (x2 (ix2 r l)) (x3 (ix2 r l)) (x4 (ix2 r l)) (eight (x1 (ix3 0 r l)) (fun p => x0 (ix3 p r l))) := by
  rw [← sum_at x0 x1 x2 x3 x4 r l]
  unfold out0_6 out0_5
  rw [View.canon_unit_zero (S := S160x256) hz2, View.canon_unit_zero (S := S160x256) hz2]
  generalize k0_pay8 (F := Ideal) x0 x1 x2 x3 x4 = G
  unfold k0_pay3 k0_pay9 k0_pay10 k0_pay1 k0_pay2 k0_pay6 k0_pay7 delta newM newV
  try simp only [View.ld_unit_zero (S := S160x256) hz2]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val := by decide +kernel
theorem idx5 : ∀ t : Fin cfg0.N, win0_5.index t 0 = 0 ∧ win0_5.index t 1 = t.val := by decide +kernel
theorem idx6 : ∀ t : Fin cfg0.N, win0_6.index t 0 = 0 ∧ win0_6.index t 1 = t.val := by decide +kernel
theorem idx7 : ∀ t : Fin cfg0.N, win0_7.index t 0 = 0 ∧ win0_7.index t 1 = t.val := by decide +kernel
theorem idx8 : ∀ t : Fin cfg0.N, win0_8.index t 0 = 0 ∧ win0_8.index t 1 = t.val := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel
theorem flush8 : ∀ t : Fin cfg0.N, (cfg0.win 8).flush t = true := by decide +kernel

variable (m : (ℓ : Loc nD τ sig) → Buf (Elt Ideal) ℓ) (c : Dev nD)

/-- The arguments. -/
abbrev argS : FVec Ideal S8x160x1024 .f32 := m ((c : Thread nD τ).loc main_arg0)
abbrev argO : FVec Ideal S1x160x1024 .f32 := m ((c : Thread nD τ).loc main_arg1)
abbrev argW : FVec Ideal S160x1024 .f32 := m ((c : Thread nD τ).loc main_arg2)
abbrev argM : FVec Ideal S160x1024 .f32 := m ((c : Thread nD τ).loc main_arg3)
abbrev argV : FVec Ideal S160x1024 .f32 := m ((c : Thread nD τ).loc main_arg4)

/-- The whole sum at an element. -/
def elt (s : FVec Ideal S8x160x1024 .f32) (o : FVec Ideal S1x160x1024 .f32) (i : Fin 160) (j : Fin 1024) : EReal :=
  eight (o (ix3 0 i j)) (fun p => s (ix3 p i j))

theorem blk0 (t : Fin cfg0.N) (p : Fin 8) (r : Fin 160) (l : Fin 256) (j : Fin 1024) (hj : j.val = t.val * 256 + l.val) :
    iblk m c 0 t (ix3 p r l) = argS m c (ix3 p r j) := by
  have e : V m c main_v0 = (truncf .bf16 (argS m c) bitsLt_bf16_f32 : FVec Ideal S8x160x1024 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 160) (l : Fin 256) (j : Fin 1024) (hj : j.val = t.val * 256 + l.val) :
    iblk m c 1 t (ix3 0 r l) = argO m c (ix3 0 r j) := by
  have e : V m c main_v1 = (truncf .bf16 (argO m c) bitsLt_bf16_f32 : FVec Ideal S1x160x1024 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem blk2 (t : Fin cfg0.N) (r : Fin 160) (l : Fin 256) (j : Fin 1024) (hj : j.val = t.val * 256 + l.val) :
    iblk m c 2 t (ix2 r l) = argW m c (ix2 r j) := by
  have e' : V m c main_arg2 (ix2 r j) = argW m c (ix2 r j) := by
    rw [V_main_arg2]
  rw [← e']
  unfold iblk
  rw [View.read_apply]
  exact at2 (V m c main_arg2) r j _ (whole (idx2 t).1) (moved (idx2 t).2 hj)

theorem blk3 (t : Fin cfg0.N) (r : Fin 160) (l : Fin 256) (j : Fin 1024) (hj : j.val = t.val * 256 + l.val) :
    iblk m c 3 t (ix2 r l) = argM m c (ix2 r j) := by
  have e' : V m c main_arg3 (ix2 r j) = argM m c (ix2 r j) := by
    rw [V_main_arg3]
  rw [← e']
  unfold iblk
  rw [View.read_apply]
  exact at2 (V m c main_arg3) r j _ (whole (idx3 t).1) (moved (idx3 t).2 hj)

theorem blk4 (t : Fin cfg0.N) (r : Fin 160) (l : Fin 256) (j : Fin 1024) (hj : j.val = t.val * 256 + l.val) :
    iblk m c 4 t (ix2 r l) = argV m c (ix2 r j) := by
  have e' : V m c main_arg4 (ix2 r j) = argV m c (ix2 r j) := by
    rw [V_main_arg4]
  rw [← e']
  unfold iblk
  rw [View.read_apply]
  exact at2 (V m c main_arg4) r j _ (whole (idx4 t).1) (moved (idx4 t).2 hj)

theorem slots_at (t : Fin cfg0.N) (r : Fin 160) (l : Fin 256) (j : Fin 1024) (hj : j.val = t.val * 256 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result5 : ∀ (i : Fin 160) (j : Fin 1024), (dats m 0 c).arrAt 5 cfg0.N (ix2 i j) = elt (argS m c) (argO m c) i j := by
  refine by_columns (N := cfg0.N) (tc := 256) (by decide) fun t i l j hj => ?_
  have hb := congrFun (Value.blocks5 m c t (flush5 t)) (ix2 i l)
  rw [Value.flushed5, View.read_apply] at hb
  refine (at2 ((dats m 0 c).arrAt 5 cfg0.N) i j _ (whole (idx5 t).1) (moved (idx5 t).2 hj)).symm.trans (hb.trans ((sum_at (iblk m c 0 t) (iblk m c 1 t) (iblk m c 2 t) (iblk m c 3 t) (iblk m c 4 t) i l).trans ?_))
  rw [slots_at m c t i l j hj]

/-- The array of the weight's change. -/
theorem result6 : ∀ (i : Fin 160) (j : Fin 1024), (dats m 0 c).arrAt 6 cfg0.N (ix2 i j) = delta (argW m c (ix2 i j)) (argM m c (ix2 i j)) (argV m c (ix2 i j)) (elt (argS m c) (argO m c) i j) := by
  refine by_columns (N := cfg0.N) (tc := 256) (by decide) fun t i l j hj => ?_
  have hb := congrFun (Value.blocks6 m c t (flush6 t)) (ix2 i l)
  rw [Value.flushed6, View.read_apply] at hb
  refine (at2 ((dats m 0 c).arrAt 6 cfg0.N) i j _ (whole (idx6 t).1) (moved (idx6 t).2 hj)).symm.trans (hb.trans ((d_at (iblk m c 0 t) (iblk m c 1 t) (iblk m c 2 t) (iblk m c 3 t) (iblk m c 4 t) i l).trans ?_))
  rw [slots_at m c t i l j hj, blk2 m c t i l j hj, blk3 m c t i l j hj, blk4 m c t i l j hj]

/-- The array of the first moment. -/
theorem result7 : ∀ (i : Fin 160) (j : Fin 1024), (dats m 0 c).arrAt 7 cfg0.N (ix2 i j) = newM (argM m c (ix2 i j)) (elt (argS m c) (argO m c) i j) := by
  refine by_columns (N := cfg0.N) (tc := 256) (by decide) fun t i l j hj => ?_
  have hb := congrFun (Value.blocks7 m c t (flush7 t)) (ix2 i l)
  rw [Value.flushed7, View.read_apply] at hb
  refine (at2 ((dats m 0 c).arrAt 7 cfg0.N) i j _ (whole (idx7 t).1) (moved (idx7 t).2 hj)).symm.trans (hb.trans ((m_at (iblk m c 0 t) (iblk m c 1 t) (iblk m c 2 t) (iblk m c 3 t) (iblk m c 4 t) i l).trans ?_))
  rw [slots_at m c t i l j hj, blk3 m c t i l j hj]

/-- The array of the second moment. -/
theorem result8 : ∀ (i : Fin 160) (j : Fin 1024), (dats m 0 c).arrAt 8 cfg0.N (ix2 i j) = newV (argV m c (ix2 i j)) (elt (argS m c) (argO m c) i j) := by
  refine by_columns (N := cfg0.N) (tc := 256) (by decide) fun t i l j hj => ?_
  have hb := congrFun (Value.blocks8 m c t (flush8 t)) (ix2 i l)
  rw [Value.flushed8, View.read_apply] at hb
  refine (at2 ((dats m 0 c).arrAt 8 cfg0.N) i j _ (whole (idx8 t).1) (moved (idx8 t).2 hj)).symm.trans (hb.trans ((v_at (iblk m c 0 t) (iblk m c 1 t) (iblk m c 2 t) (iblk m c 3 t) (iblk m c 4 t) i l).trans ?_))
  rw [slots_at m c t i l j hj, blk4 m c t i l j hj]

end Call

section Reference

open Cert.Reference42Ideal Cert.Reference42Ideal.Gen Idealize.ShloMosaic Idealize.ShloMosaic.TcCoe Steps

/-- The reference's sum at an element. -/
theorem total_at (s : FVec Ideal S8x160x1024 .f32) (o : FVec Ideal S1x160x1024 .f32) (i : Fin 160) (j : Fin 1024) :
    (Host.reduceAdd (concatenate S8x160x1024 0 [⟨S1x160x1024, o⟩, ⟨S7x160x1024, (extractStridedSlice S7x160x1024 ![1, 0, 0] s slices_S8x160x1024_S7x160x1024_1_0_0)⟩] concatenates_S1x160x1024_S7x160x1024_S8x160x1024_d0) (constant S_ .f32 0x00000000#32) reducesTo_S8x160x1024_S160x1024_d0 h_S_ : FVec Ideal S160x1024 .f32) (ix2 i j) = elt s o i j := by
  unfold elt
  pointwise
  exact eight_of (o (ix3 0 i j)) (fun p => s (ix3 p i j))

/-- The reference ends, its arguments unchanged and every counter at zero. -/
theorem ref_frame : Cert.quiescent_Reference42Ideal := fun m ρ _ =>
  (θ_run defs _ _).mono (fun r h => ⟨fun c => (h c).2.2.2.2, Idealize.ShloMosaic.sem_eq_zero_of_no_sems (by decide) r.2⟩) (Value.run m ρ)

end Reference

open Idealize.ShloMosaic Idealize.ShloMosaic.TcCoe Cert.Kernel42Ideal.Gen in
/-- The call and its reference end with the same arrays, at every argument. -/
theorem algebraic : Cert.algebraic_Kernel42Ideal_Reference42Ideal := by
  intro m g m' g' _ heq
  refine ⟨fun c => (dats m 0 c).arrAt 5 Cert.Kernel42Ideal.cfg0.N, fun c => (dats m 0 c).arrAt 6 Cert.Kernel42Ideal.cfg0.N, fun c => (dats m 0 c).arrAt 7 Cert.Kernel42Ideal.cfg0.N, fun c => (dats m 0 c).arrAt 8 Cert.Kernel42Ideal.cfg0.N, Cert.Kernel42Ideal.Value.run_blocks m g,
    (θ_run Cert.Reference42Ideal.defs _ _).mono (fun r h c => ?_) (Cert.Reference42Ideal.Value.run m' g')⟩
  obtain ⟨h0, h1, h2, h3, ha⟩ := h c
  obtain ⟨e0, e1, e2, e3, e4⟩ := heq c
  rw [e0, e1] at h0
  rw [e0, e1, e2, e3, e4] at h1
  rw [e0, e1, e3] at h2
  rw [e0, e1, e4] at h3
  refine ⟨h0.trans ?_, h1.trans ?_, h2.trans ?_, h3.trans ?_, ha⟩
  · funext y
    obtain ⟨i, j, rfl⟩ := Products.rowcol (n0 := 160) (n1 := 1024) y
    refine Eq.trans ?_ (result5 m c i j).symm
    exact total_at _ _ i j
  · funext y
    obtain ⟨i, j, rfl⟩ := Products.rowcol (n0 := 160) (n1 := 1024) y
    refine Eq.trans ?_ (result6 m c i j).symm
    rw [← total_at]
    generalize (Host.reduceAdd _ _ _ _ : FVec Ideal Cert.Reference42Ideal.S160x1024 .f32) = T
    unfold Steps.delta Steps.newM Steps.newV
    pointwise
  · funext y
    obtain ⟨i, j, rfl⟩ := Products.rowcol (n0 := 160) (n1 := 1024) y
    refine Eq.trans ?_ (result7 m c i j).symm
    rw [← total_at]
    generalize (Host.reduceAdd _ _ _ _ : FVec Ideal Cert.Reference42Ideal.S160x1024 .f32) = T
    unfold Steps.newM
    pointwise
  · funext y
    obtain ⟨i, j, rfl⟩ := Products.rowcol (n0 := 160) (n1 := 1024) y
    refine Eq.trans ?_ (result8 m c i j).symm
    rw [← total_at]
    generalize (Host.reduceAdd _ _ _ _ : FVec Ideal Cert.Reference42Ideal.S160x1024 .f32) = T
    unfold Steps.newV
    pointwise

end Cert.Proof.StepWOLru
-- ==== Proof.StepWOut.lean ====
/-
The call `step_w_out`: the sum of the devices' gradients and the optimiser’s step on it, block by block, and the arrays the call leaves.
-/
module

public import proofs.«01_k».proof.Proof.Products
public import proofs.«01_k».proof.Proof.Steps
public import proofs.«01_k».proof.Proof.Gen.Kernel43Ideal.Value
public import proofs.«01_k».proof.Proof.Gen.Reference43Ideal.Run

@[expose] public section

noncomputable section

namespace Cert.Proof.StepWOut

section Call

open Cert.Kernel43Ideal Cert.Kernel43Ideal.Gen Idealize.ShloMosaic Idealize.ShloMosaic.TcCoe Products Steps

section Body

variable (x0 : Vec Ideal S8x128x256 .bf16) (x1 : Vec Ideal S1x128x256 .bf16) (x2 x3 x4 : Vec Ideal S128x256 .f32) (r : Fin 128) (l : Fin 256)

/-- The block's sum over the slots. -/
theorem sum_at : out0_5 (F := Ideal) x0 x1 x2 x3 x4 (ix2 r l) = eight (x1 (ix3 0 r l)) (fun p => x0 (ix3 p r l)) := by
  unfold out0_5
  rw [View.canon_unit_zero (S := S128x256) hz2]
  unfold k0_pay8 k0_pay5 k0_pay4 eight
  simp only [pick_one, pick_zero]
  pointwise

/-- The block's first moment. -/
theorem m_at : out0_7 (F := Ideal) x0 x1 x2 x3 x4 (ix2 r l) = newM (x3 (ix2 r l)) (eight (x1 (ix3 0 r l)) (fun p => x0 (ix3 p r l))) := by
  rw [← sum_at x0 x1 x2 x3 x4 r l]
  unfold out0_7 out0_5
  rw [View.canon_unit_zero (S := S128x256) hz2, View.canon_unit_zero (S := S128x256) hz2]
  generalize k0_pay8 (F := Ideal) x0 x1 x2 x3 x4 = G
  unfold k0_pay1 k0_pay9 k0_pay10 k0_pay6 k0_pay7 newM
  try simp only [View.ld_unit_zero (S := S128x256) hz2]
  pointwise

/-- The block's second moment. -/
theorem v_at : out0_8 (F := Ideal) x0 x1 x2 x3 x4 (ix2 r l) = newV (x4 (ix2 r l)) (eight (x1 (ix3 0 r l)) (fun p => x0 (ix3 p r l))) := by
  rw [← sum_at x0 x1 x2 x3 x4 r l]
  unfold out0_8 out0_5
  rw [View.canon_unit_zero (S := S128x256) hz2, View.canon_unit_zero (S := S128x256) hz2]
  generalize k0_pay8 (F := Ideal) x0 x1 x2 x3 x4 = G
  unfold k0_pay2 newV
  try simp only [View.ld_unit_zero (S := S128x256) hz2]
  pointwise

/-- The block's weight's change. -/
theorem d_at : out0_6 (F := Ideal) x0 x1 x2 x3 x4 (ix2 r l) = delta (x2 (ix2 r l)) (x3 (ix2 r l)) (x4 (ix2 r l)) (eight (x1 (ix3 0 r l)) (fun p => x0 (ix3 p r l))) := by
  rw [← sum_at x0 x1 x2 x3 x4 r l]
  unfold out0_6 out0_5
  rw [View.canon_unit_zero (S := S128x256) hz2, View.canon_unit_zero (S := S128x256) hz2]
  generalize k0_pay8 (F := Ideal) x0 x1 x2 x3 x4 = G
  unfold k0_pay3 k0_pay9 k0_pay10 k0_pay1 k0_pay2 k0_pay6 k0_pay7 delta newM newV
  try simp only [View.ld_unit_zero (S := S128x256) hz2]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val := by decide +kernel
theorem idx5 : ∀ t : Fin cfg0.N, win0_5.index t 0 = 0 ∧ win0_5.index t 1 = t.val := by decide +kernel
theorem idx6 : ∀ t : Fin cfg0.N, win0_6.index t 0 = 0 ∧ win0_6.index t 1 = t.val := by decide +kernel
theorem idx7 : ∀ t : Fin cfg0.N, win0_7.index t 0 = 0 ∧ win0_7.index t 1 = t.val := by decide +kernel
theorem idx8 : ∀ t : Fin cfg0.N, win0_8.index t 0 = 0 ∧ win0_8.index t 1 = t.val := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel
theorem flush8 : ∀ t : Fin cfg0.N, (cfg0.win 8).flush t = true := by decide +kernel

variable (m : (ℓ : Loc nD τ sig) → Buf (Elt Ideal) ℓ) (c : Dev nD)

/-- The arguments. -/
abbrev argS : FVec Ideal S8x128x1024 .f32 := m ((c : Thread nD τ).loc main_arg0)
abbrev argO : FVec Ideal S1x128x1024 .f32 := m ((c : Thread nD τ).loc main_arg1)
abbrev argW : FVec Ideal S128x1024 .f32 := m ((c : Thread nD τ).loc main_arg2)
abbrev argM : FVec Ideal S128x1024 .f32 := m ((c : Thread nD τ).loc main_arg3)
abbrev argV : FVec Ideal S128x1024 .f32 := m ((c : Thread nD τ).loc main_arg4)

/-- The whole sum at an element. -/
def elt (s : FVec Ideal S8x128x1024 .f32) (o : FVec Ideal S1x128x1024 .f32) (i : Fin 128) (j : Fin 1024) : EReal :=
  eight (o (ix3 0 i j)) (fun p => s (ix3 p i j))

theorem blk0 (t : Fin cfg0.N) (p : Fin 8) (r : Fin 128) (l : Fin 256) (j : Fin 1024) (hj : j.val = t.val * 256 + l.val) :
    iblk m c 0 t (ix3 p r l) = argS m c (ix3 p r j) := by
  have e : V m c main_v0 = (truncf .bf16 (argS m c) bitsLt_bf16_f32 : FVec Ideal S8x128x1024 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 128) (l : Fin 256) (j : Fin 1024) (hj : j.val = t.val * 256 + l.val) :
    iblk m c 1 t (ix3 0 r l) = argO m c (ix3 0 r j) := by
  have e : V m c main_v1 = (truncf .bf16 (argO m c) bitsLt_bf16_f32 : FVec Ideal S1x128x1024 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem blk2 (t : Fin cfg0.N) (r : Fin 128) (l : Fin 256) (j : Fin 1024) (hj : j.val = t.val * 256 + l.val) :
    iblk m c 2 t (ix2 r l) = argW m c (ix2 r j) := by
  have e' : V m c main_arg2 (ix2 r j) = argW m c (ix2 r j) := by
    rw [V_main_arg2]
  rw [← e']
  unfold iblk
  rw [View.read_apply]
  exact at2 (V m c main_arg2) r j _ (whole (idx2 t).1) (moved (idx2 t).2 hj)

theorem blk3 (t : Fin cfg0.N) (r : Fin 128) (l : Fin 256) (j : Fin 1024) (hj : j.val = t.val * 256 + l.val) :
    iblk m c 3 t (ix2 r l) = argM m c (ix2 r j) := by
  have e' : V m c main_arg3 (ix2 r j) = argM m c (ix2 r j) := by
    rw [V_main_arg3]
  rw [← e']
  unfold iblk
  rw [View.read_apply]
  exact at2 (V m c main_arg3) r j _ (whole (idx3 t).1) (moved (idx3 t).2 hj)

theorem blk4 (t : Fin cfg0.N) (r : Fin 128) (l : Fin 256) (j : Fin 1024) (hj : j.val = t.val * 256 + l.val) :
    iblk m c 4 t (ix2 r l) = argV m c (ix2 r j) := by
  have e' : V m c main_arg4 (ix2 r j) = argV m c (ix2 r j) := by
    rw [V_main_arg4]
  rw [← e']
  unfold iblk
  rw [View.read_apply]
  exact at2 (V m c main_arg4) r j _ (whole (idx4 t).1) (moved (idx4 t).2 hj)

theorem slots_at (t : Fin cfg0.N) (r : Fin 128) (l : Fin 256) (j : Fin 1024) (hj : j.val = t.val * 256 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result5 : ∀ (i : Fin 128) (j : Fin 1024), (dats m 0 c).arrAt 5 cfg0.N (ix2 i j) = elt (argS m c) (argO m c) i j := by
  refine by_columns (N := cfg0.N) (tc := 256) (by decide) fun t i l j hj => ?_
  have hb := congrFun (Value.blocks5 m c t (flush5 t)) (ix2 i l)
  rw [Value.flushed5, View.read_apply] at hb
  refine (at2 ((dats m 0 c).arrAt 5 cfg0.N) i j _ (whole (idx5 t).1) (moved (idx5 t).2 hj)).symm.trans (hb.trans ((sum_at (iblk m c 0 t) (iblk m c 1 t) (iblk m c 2 t) (iblk m c 3 t) (iblk m c 4 t) i l).trans ?_))
  rw [slots_at m c t i l j hj]

/-- The array of the weight's change. -/
theorem result6 : ∀ (i : Fin 128) (j : Fin 1024), (dats m 0 c).arrAt 6 cfg0.N (ix2 i j) = delta (argW m c (ix2 i j)) (argM m c (ix2 i j)) (argV m c (ix2 i j)) (elt (argS m c) (argO m c) i j) := by
  refine by_columns (N := cfg0.N) (tc := 256) (by decide) fun t i l j hj => ?_
  have hb := congrFun (Value.blocks6 m c t (flush6 t)) (ix2 i l)
  rw [Value.flushed6, View.read_apply] at hb
  refine (at2 ((dats m 0 c).arrAt 6 cfg0.N) i j _ (whole (idx6 t).1) (moved (idx6 t).2 hj)).symm.trans (hb.trans ((d_at (iblk m c 0 t) (iblk m c 1 t) (iblk m c 2 t) (iblk m c 3 t) (iblk m c 4 t) i l).trans ?_))
  rw [slots_at m c t i l j hj, blk2 m c t i l j hj, blk3 m c t i l j hj, blk4 m c t i l j hj]

/-- The array of the first moment. -/
theorem result7 : ∀ (i : Fin 128) (j : Fin 1024), (dats m 0 c).arrAt 7 cfg0.N (ix2 i j) = newM (argM m c (ix2 i j)) (elt (argS m c) (argO m c) i j) := by
  refine by_columns (N := cfg0.N) (tc := 256) (by decide) fun t i l j hj => ?_
  have hb := congrFun (Value.blocks7 m c t (flush7 t)) (ix2 i l)
  rw [Value.flushed7, View.read_apply] at hb
  refine (at2 ((dats m 0 c).arrAt 7 cfg0.N) i j _ (whole (idx7 t).1) (moved (idx7 t).2 hj)).symm.trans (hb.trans ((m_at (iblk m c 0 t) (iblk m c 1 t) (iblk m c 2 t) (iblk m c 3 t) (iblk m c 4 t) i l).trans ?_))
  rw [slots_at m c t i l j hj, blk3 m c t i l j hj]

/-- The array of the second moment. -/
theorem result8 : ∀ (i : Fin 128) (j : Fin 1024), (dats m 0 c).arrAt 8 cfg0.N (ix2 i j) = newV (argV m c (ix2 i j)) (elt (argS m c) (argO m c) i j) := by
  refine by_columns (N := cfg0.N) (tc := 256) (by decide) fun t i l j hj => ?_
  have hb := congrFun (Value.blocks8 m c t (flush8 t)) (ix2 i l)
  rw [Value.flushed8, View.read_apply] at hb
  refine (at2 ((dats m 0 c).arrAt 8 cfg0.N) i j _ (whole (idx8 t).1) (moved (idx8 t).2 hj)).symm.trans (hb.trans ((v_at (iblk m c 0 t) (iblk m c 1 t) (iblk m c 2 t) (iblk m c 3 t) (iblk m c 4 t) i l).trans ?_))
  rw [slots_at m c t i l j hj, blk4 m c t i l j hj]

end Call

section Reference

open Cert.Reference43Ideal Cert.Reference43Ideal.Gen Idealize.ShloMosaic Idealize.ShloMosaic.TcCoe Steps

/-- The reference's sum at an element. -/
theorem total_at (s : FVec Ideal S8x128x1024 .f32) (o : FVec Ideal S1x128x1024 .f32) (i : Fin 128) (j : Fin 1024) :
    (Host.reduceAdd (concatenate S8x128x1024 0 [⟨S1x128x1024, o⟩, ⟨S7x128x1024, (extractStridedSlice S7x128x1024 ![1, 0, 0] s slices_S8x128x1024_S7x128x1024_1_0_0)⟩] concatenates_S1x128x1024_S7x128x1024_S8x128x1024_d0) (constant S_ .f32 0x00000000#32) reducesTo_S8x128x1024_S128x1024_d0 h_S_ : FVec Ideal S128x1024 .f32) (ix2 i j) = elt s o i j := by
  unfold elt
  pointwise
  exact eight_of (o (ix3 0 i j)) (fun p => s (ix3 p i j))

/-- The reference ends, its arguments unchanged and every counter at zero. -/
theorem ref_frame : Cert.quiescent_Reference43Ideal := fun m ρ _ =>
  (θ_run defs _ _).mono (fun r h => ⟨fun c => (h c).2.2.2.2, Idealize.ShloMosaic.sem_eq_zero_of_no_sems (by decide) r.2⟩) (Value.run m ρ)

end Reference

open Idealize.ShloMosaic Idealize.ShloMosaic.TcCoe Cert.Kernel43Ideal.Gen in
/-- The call and its reference end with the same arrays, at every argument. -/
theorem algebraic : Cert.algebraic_Kernel43Ideal_Reference43Ideal := by
  intro m g m' g' _ heq
  refine ⟨fun c => (dats m 0 c).arrAt 5 Cert.Kernel43Ideal.cfg0.N, fun c => (dats m 0 c).arrAt 6 Cert.Kernel43Ideal.cfg0.N, fun c => (dats m 0 c).arrAt 7 Cert.Kernel43Ideal.cfg0.N, fun c => (dats m 0 c).arrAt 8 Cert.Kernel43Ideal.cfg0.N, Cert.Kernel43Ideal.Value.run_blocks m g,
    (θ_run Cert.Reference43Ideal.defs _ _).mono (fun r h c => ?_) (Cert.Reference43Ideal.Value.run m' g')⟩
  obtain ⟨h0, h1, h2, h3, ha⟩ := h c
  obtain ⟨e0, e1, e2, e3, e4⟩ := heq c
  rw [e0, e1] at h0
  rw [e0, e1, e2, e3, e4] at h1
  rw [e0, e1, e3] at h2
  rw [e0, e1, e4] at h3
  refine ⟨h0.trans ?_, h1.trans ?_, h2.trans ?_, h3.trans ?_, ha⟩
  · funext y
    obtain ⟨i, j, rfl⟩ := Products.rowcol (n0 := 128) (n1 := 1024) y
    refine Eq.trans ?_ (result5 m c i j).symm
    exact total_at _ _ i j
  · funext y
    obtain ⟨i, j, rfl⟩ := Products.rowcol (n0 := 128) (n1 := 1024) y
    refine Eq.trans ?_ (result6 m c i j).symm
    rw [← total_at]
    generalize (Host.reduceAdd _ _ _ _ : FVec Ideal Cert.Reference43Ideal.S128x1024 .f32) = T
    unfold Steps.delta Steps.newM Steps.newV
    pointwise
  · funext y
    obtain ⟨i, j, rfl⟩ := Products.rowcol (n0 := 128) (n1 := 1024) y
    refine Eq.trans ?_ (result7 m c i j).symm
    rw [← total_at]
    generalize (Host.reduceAdd _ _ _ _ : FVec Ideal Cert.Reference43Ideal.S128x1024 .f32) = T
    unfold Steps.newM
    pointwise
  · funext y
    obtain ⟨i, j, rfl⟩ := Products.rowcol (n0 := 128) (n1 := 1024) y
    refine Eq.trans ?_ (result8 m c i j).symm
    rw [← total_at]
    generalize (Host.reduceAdd _ _ _ _ : FVec Ideal Cert.Reference43Ideal.S128x1024 .f32) = T
    unfold Steps.newV
    pointwise

end Cert.Proof.StepWOut
-- ==== Proof.StepWUp.lean ====
/-
The call `step_w_up`: the sum of the devices' gradients and the optimiser’s step on it, block by block, and the arrays the call leaves.
-/
module

public import proofs.«01_k».proof.Proof.Products
public import proofs.«01_k».proof.Proof.Steps
public import proofs.«01_k».proof.Proof.Gen.Kernel44Ideal.Value
public import proofs.«01_k».proof.Proof.Gen.Reference44Ideal.Run

@[expose] public section

noncomputable section

namespace Cert.Proof.StepWUp

section Call

open Cert.Kernel44Ideal Cert.Kernel44Ideal.Gen Idealize.ShloMosaic Idealize.ShloMosaic.TcCoe Products Steps

section Body

variable (x0 : Vec Ideal S8x704x256 .bf16) (x1 : Vec Ideal S1x704x256 .bf16) (x2 x3 x4 : Vec Ideal S704x256 .f32) (r : Fin 704) (l : Fin 256)

/-- The block's sum over the slots. -/
theorem sum_at : out0_5 (F := Ideal) x0 x1 x2 x3 x4 (ix2 r l) = eight (x1 (ix3 0 r l)) (fun p => x0 (ix3 p r l)) := by
  unfold out0_5
  rw [View.canon_unit_zero (S := S704x256) hz2]
  unfold k0_pay7 k0_pay5 k0_pay4 eight
  simp only [pick_one, pick_zero]
  pointwise

/-- The block's first moment. -/
theorem m_at : out0_7 (F := Ideal) x0 x1 x2 x3 x4 (ix2 r l) = newM (x3 (ix2 r l)) (eight (x1 (ix3 0 r l)) (fun p => x0 (ix3 p r l))) := by
  rw [← sum_at x0 x1 x2 x3 x4 r l]
  unfold out0_7 out0_5
  rw [View.canon_unit_zero (S := S704x256) hz2, View.canon_unit_zero (S := S704x256) hz2]
  generalize k0_pay7 (F := Ideal) x0 x1 x2 x3 x4 = G
  unfold k0_pay1 k0_pay8 k0_pay6 newM
  try simp only [View.ld_unit_zero (S := S704x256) hz2]
  pointwise

/-- The block's second moment. -/
theorem v_at : out0_8 (F := Ideal) x0 x1 x2 x3 x4 (ix2 r l) = newV (x4 (ix2 r l)) (eight (x1 (ix3 0 r l)) (fun p => x0 (ix3 p r l))) := by
  rw [← sum_at x0 x1 x2 x3 x4 r l]
  unfold out0_8 out0_5
  rw [View.canon_unit_zero (S := S704x256) hz2, View.canon_unit_zero (S := S704x256) hz2]
  generalize k0_pay7 (F := Ideal) x0 x1 x2 x3 x4 = G
  unfold k0_pay2 newV
  try simp only [View.ld_unit_zero (S := S704x256) hz2]
  pointwise

/-- The block's weight's change. -/
theorem d_at : out0_6 (F := Ideal) x0 x1 x2 x3 x4 (ix2 r l) = delta (x2 (ix2 r l)) (x3 (ix2 r l)) (x4 (ix2 r l)) (eight (x1 (ix3 0 r l)) (fun p => x0 (ix3 p r l))) := by
  rw [← sum_at x0 x1 x2 x3 x4 r l]
  unfold out0_6 out0_5
  rw [View.canon_unit_zero (S := S704x256) hz2, View.canon_unit_zero (S := S704x256) hz2]
  generalize k0_pay7 (F := Ideal) x0 x1 x2 x3 x4 = G
  unfold k0_pay3 k0_pay8 k0_pay1 k0_pay2 k0_pay6 delta newM newV
  try simp only [View.ld_unit_zero (S := S704x256) hz2]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val := by decide +kernel
theorem idx5 : ∀ t : Fin cfg0.N, win0_5.index t 0 = 0 ∧ win0_5.index t 1 = t.val := by decide +kernel
theorem idx6 : ∀ t : Fin cfg0.N, win0_6.index t 0 = 0 ∧ win0_6.index t 1 = t.val := by decide +kernel
theorem idx7 : ∀ t : Fin cfg0.N, win0_7.index t 0 = 0 ∧ win0_7.index t 1 = t.val := by decide +kernel
theorem idx8 : ∀ t : Fin cfg0.N, win0_8.index t 0 = 0 ∧ win0_8.index t 1 = t.val := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel
theorem flush8 : ∀ t : Fin cfg0.N, (cfg0.win 8).flush t = true := by decide +kernel

variable (m : (ℓ : Loc nD τ sig) → Buf (Elt Ideal) ℓ) (c : Dev nD)

/-- The arguments. -/
abbrev argS : FVec Ideal S8x704x1024 .f32 := m ((c : Thread nD τ).loc main_arg0)
abbrev argO : FVec Ideal S1x704x1024 .f32 := m ((c : Thread nD τ).loc main_arg1)
abbrev argW : FVec Ideal S1024x704 .f32 := m ((c : Thread nD τ).loc main_arg2)
abbrev argM : FVec Ideal S1024x704 .f32 := m ((c : Thread nD τ).loc main_arg3)
abbrev argV : FVec Ideal S1024x704 .f32 := m ((c : Thread nD τ).loc main_arg4)

/-- The whole sum at an element. -/
def elt (s : FVec Ideal S8x704x1024 .f32) (o : FVec Ideal S1x704x1024 .f32) (i : Fin 704) (j : Fin 1024) : EReal :=
  eight (o (ix3 0 i j)) (fun p => s (ix3 p i j))

theorem blk0 (t : Fin cfg0.N) (p : Fin 8) (r : Fin 704) (l : Fin 256) (j : Fin 1024) (hj : j.val = t.val * 256 + l.val) :
    iblk m c 0 t (ix3 p r l) = argS m c (ix3 p r j) := by
  have e : V m c main_v0 = (truncf .bf16 (argS m c) bitsLt_bf16_f32 : FVec Ideal S8x704x1024 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 704) (l : Fin 256) (j : Fin 1024) (hj : j.val = t.val * 256 + l.val) :
    iblk m c 1 t (ix3 0 r l) = argO m c (ix3 0 r j) := by
  have e : V m c main_v1 = (truncf .bf16 (argO m c) bitsLt_bf16_f32 : FVec Ideal S1x704x1024 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem blk2 (t : Fin cfg0.N) (r : Fin 704) (l : Fin 256) (j : Fin 1024) (hj : j.val = t.val * 256 + l.val) :
    iblk m c 2 t (ix2 r l) = argW m c (ix2 j r) := by
  have e : V m c main_v2 = (transpose S704x1024 [1, 0] (argW m c) transposes_S1024x704_S704x1024_1_0 : FVec Ideal S704x1024 .f32) := by
    unfold V; after_reads_simp
  have e' : V m c main_v2 (ix2 r j) = argW m c (ix2 j r) := by
    rw [e]; pointwise
  rw [← e']
  unfold iblk
  rw [View.read_apply]
  exact at2 (V m c main_v2) r j _ (whole (idx2 t).1) (moved (idx2 t).2 hj)

theorem blk3 (t : Fin cfg0.N) (r : Fin 704) (l : Fin 256) (j : Fin 1024) (hj : j.val = t.val * 256 + l.val) :
    iblk m c 3 t (ix2 r l) = argM m c (ix2 j r) := by
  have e : V m c main_v3 = (transpose S704x1024 [1, 0] (argM m c) transposes_S1024x704_S704x1024_1_0 : FVec Ideal S704x1024 .f32) := by
    unfold V; after_reads_simp
  have e' : V m c main_v3 (ix2 r j) = argM m c (ix2 j r) := by
    rw [e]; pointwise
  rw [← e']
  unfold iblk
  rw [View.read_apply]
  exact at2 (V m c main_v3) r j _ (whole (idx3 t).1) (moved (idx3 t).2 hj)

theorem blk4 (t : Fin cfg0.N) (r : Fin 704) (l : Fin 256) (j : Fin 1024) (hj : j.val = t.val * 256 + l.val) :
    iblk m c 4 t (ix2 r l) = argV m c (ix2 j r) := by
  have e : V m c main_v4 = (transpose S704x1024 [1, 0] (argV m c) transposes_S1024x704_S704x1024_1_0 : FVec Ideal S704x1024 .f32) := by
    unfold V; after_reads_simp
  have e' : V m c main_v4 (ix2 r j) = argV m c (ix2 j r) := by
    rw [e]; pointwise
  rw [← e']
  unfold iblk
  rw [View.read_apply]
  exact at2 (V m c main_v4) r j _ (whole (idx4 t).1) (moved (idx4 t).2 hj)

theorem slots_at (t : Fin cfg0.N) (r : Fin 704) (l : Fin 256) (j : Fin 1024) (hj : j.val = t.val * 256 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result5 : ∀ (i : Fin 704) (j : Fin 1024), (dats m 0 c).arrAt 5 cfg0.N (ix2 i j) = elt (argS m c) (argO m c) i j := by
  refine by_columns (N := cfg0.N) (tc := 256) (by decide) fun t i l j hj => ?_
  have hb := congrFun (Value.blocks5 m c t (flush5 t)) (ix2 i l)
  rw [Value.flushed5, View.read_apply] at hb
  refine (at2 ((dats m 0 c).arrAt 5 cfg0.N) i j _ (whole (idx5 t).1) (moved (idx5 t).2 hj)).symm.trans (hb.trans ((sum_at (iblk m c 0 t) (iblk m c 1 t) (iblk m c 2 t) (iblk m c 3 t) (iblk m c 4 t) i l).trans ?_))
  rw [slots_at m c t i l j hj]

/-- The array of the weight's change. -/
theorem result6 : ∀ (i : Fin 704) (j : Fin 1024), (dats m 0 c).arrAt 6 cfg0.N (ix2 i j) = delta (argW m c (ix2 j i)) (argM m c (ix2 j i)) (argV m c (ix2 j i)) (elt (argS m c) (argO m c) i j) := by
  refine by_columns (N := cfg0.N) (tc := 256) (by decide) fun t i l j hj => ?_
  have hb := congrFun (Value.blocks6 m c t (flush6 t)) (ix2 i l)
  rw [Value.flushed6, View.read_apply] at hb
  refine (at2 ((dats m 0 c).arrAt 6 cfg0.N) i j _ (whole (idx6 t).1) (moved (idx6 t).2 hj)).symm.trans (hb.trans ((d_at (iblk m c 0 t) (iblk m c 1 t) (iblk m c 2 t) (iblk m c 3 t) (iblk m c 4 t) i l).trans ?_))
  rw [slots_at m c t i l j hj, blk2 m c t i l j hj, blk3 m c t i l j hj, blk4 m c t i l j hj]

/-- The array of the first moment. -/
theorem result7 : ∀ (i : Fin 704) (j : Fin 1024), (dats m 0 c).arrAt 7 cfg0.N (ix2 i j) = newM (argM m c (ix2 j i)) (elt (argS m c) (argO m c) i j) := by
  refine by_columns (N := cfg0.N) (tc := 256) (by decide) fun t i l j hj => ?_
  have hb := congrFun (Value.blocks7 m c t (flush7 t)) (ix2 i l)
  rw [Value.flushed7, View.read_apply] at hb
  refine (at2 ((dats m 0 c).arrAt 7 cfg0.N) i j _ (whole (idx7 t).1) (moved (idx7 t).2 hj)).symm.trans (hb.trans ((m_at (iblk m c 0 t) (iblk m c 1 t) (iblk m c 2 t) (iblk m c 3 t) (iblk m c 4 t) i l).trans ?_))
  rw [slots_at m c t i l j hj, blk3 m c t i l j hj]

/-- The array of the second moment. -/
theorem result8 : ∀ (i : Fin 704) (j : Fin 1024), (dats m 0 c).arrAt 8 cfg0.N (ix2 i j) = newV (argV m c (ix2 j i)) (elt (argS m c) (argO m c) i j) := by
  refine by_columns (N := cfg0.N) (tc := 256) (by decide) fun t i l j hj => ?_
  have hb := congrFun (Value.blocks8 m c t (flush8 t)) (ix2 i l)
  rw [Value.flushed8, View.read_apply] at hb
  refine (at2 ((dats m 0 c).arrAt 8 cfg0.N) i j _ (whole (idx8 t).1) (moved (idx8 t).2 hj)).symm.trans (hb.trans ((v_at (iblk m c 0 t) (iblk m c 1 t) (iblk m c 2 t) (iblk m c 3 t) (iblk m c 4 t) i l).trans ?_))
  rw [slots_at m c t i l j hj, blk4 m c t i l j hj]

end Call

section Reference

open Cert.Reference44Ideal Cert.Reference44Ideal.Gen Idealize.ShloMosaic Idealize.ShloMosaic.TcCoe Steps

/-- The reference's sum at an element. -/
theorem total_at (s : FVec Ideal S8x704x1024 .f32) (o : FVec Ideal S1x704x1024 .f32) (i : Fin 704) (j : Fin 1024) :
    (Host.reduceAdd (concatenate S8x704x1024 0 [⟨S1x704x1024, o⟩, ⟨S7x704x1024, (extractStridedSlice S7x704x1024 ![1, 0, 0] s slices_S8x704x1024_S7x704x1024_1_0_0)⟩] concatenates_S1x704x1024_S7x704x1024_S8x704x1024_d0) (constant S_ .f32 0x00000000#32) reducesTo_S8x704x1024_S704x1024_d0 h_S_ : FVec Ideal S704x1024 .f32) (ix2 i j) = elt s o i j := by
  unfold elt
  pointwise
  exact eight_of (o (ix3 0 i j)) (fun p => s (ix3 p i j))

/-- The reference ends, its arguments unchanged and every counter at zero. -/
theorem ref_frame : Cert.quiescent_Reference44Ideal := fun m ρ _ =>
  (θ_run defs _ _).mono (fun r h => ⟨fun c => (h c).2.2.2.2, Idealize.ShloMosaic.sem_eq_zero_of_no_sems (by decide) r.2⟩) (Value.run m ρ)

end Reference

open Idealize.ShloMosaic Idealize.ShloMosaic.TcCoe Cert.Kernel44Ideal.Gen in
/-- The call and its reference end with the same arrays, at every argument. -/
theorem algebraic : Cert.algebraic_Kernel44Ideal_Reference44Ideal := by
  intro m g m' g' _ heq
  refine ⟨fun c => (dats m 0 c).arrAt 5 Cert.Kernel44Ideal.cfg0.N, fun c => (dats m 0 c).arrAt 6 Cert.Kernel44Ideal.cfg0.N, fun c => (dats m 0 c).arrAt 7 Cert.Kernel44Ideal.cfg0.N, fun c => (dats m 0 c).arrAt 8 Cert.Kernel44Ideal.cfg0.N, Cert.Kernel44Ideal.Value.run_blocks m g,
    (θ_run Cert.Reference44Ideal.defs _ _).mono (fun r h c => ?_) (Cert.Reference44Ideal.Value.run m' g')⟩
  obtain ⟨h0, h1, h2, h3, ha⟩ := h c
  obtain ⟨e0, e1, e2, e3, e4⟩ := heq c
  rw [e0, e1] at h0
  rw [e0, e1, e2, e3, e4] at h1
  rw [e0, e1, e3] at h2
  rw [e0, e1, e4] at h3
  refine ⟨h0.trans ?_, h1.trans ?_, h2.trans ?_, h3.trans ?_, ha⟩
  · funext y
    obtain ⟨i, j, rfl⟩ := Products.rowcol (n0 := 704) (n1 := 1024) y
    refine Eq.trans ?_ (result5 m c i j).symm
    rw [← total_at]
    generalize (Host.reduceAdd _ _ _ _ : FVec Ideal Cert.Reference44Ideal.S704x1024 .f32) = T
    pointwise
  · funext y
    obtain ⟨i, j, rfl⟩ := Products.rowcol (n0 := 704) (n1 := 1024) y
    refine Eq.trans ?_ (result6 m c i j).symm
    rw [← total_at]
    generalize (Host.reduceAdd _ _ _ _ : FVec Ideal Cert.Reference44Ideal.S704x1024 .f32) = T
    unfold Steps.delta Steps.newM Steps.newV
    pointwise
  · funext y
    obtain ⟨i, j, rfl⟩ := Products.rowcol (n0 := 704) (n1 := 1024) y
    refine Eq.trans ?_ (result7 m c i j).symm
    rw [← total_at]
    generalize (Host.reduceAdd _ _ _ _ : FVec Ideal Cert.Reference44Ideal.S704x1024 .f32) = T
    unfold Steps.newM
    pointwise
  · funext y
    obtain ⟨i, j, rfl⟩ := Products.rowcol (n0 := 704) (n1 := 1024) y
    refine Eq.trans ?_ (result8 m c i j).symm
    rw [← total_at]
    generalize (Host.reduceAdd _ _ _ _ : FVec Ideal Cert.Reference44Ideal.S704x1024 .f32) = T
    unfold Steps.newV
    pointwise

end Cert.Proof.StepWUp
-- ==== Proof.StepWDown.lean ====
/-
The call `step_w_down`: the sum of the devices' gradients and the optimiser’s step on it, block by block, and the arrays the call leaves.
-/
module

public import proofs.«01_k».proof.Proof.Products
public import proofs.«01_k».proof.Proof.Steps
public import proofs.«01_k».proof.Proof.Gen.Kernel45Ideal.Value
public import proofs.«01_k».proof.Proof.Gen.Reference45Ideal.Run

@[expose] public section

noncomputable section

namespace Cert.Proof.StepWDown

section Call

open Cert.Kernel45Ideal Cert.Kernel45Ideal.Gen Idealize.ShloMosaic Idealize.ShloMosaic.TcCoe Products Steps

section Body

variable (x0 : Vec Ideal S8x352x256 .bf16) (x1 : Vec Ideal S1x352x256 .bf16) (x2 x3 x4 : Vec Ideal S352x256 .f32) (r : Fin 352) (l : Fin 256)

/-- The block's sum over the slots. -/
theorem sum_at : out0_5 (F := Ideal) x0 x1 x2 x3 x4 (ix2 r l) = eight (x1 (ix3 0 r l)) (fun p => x0 (ix3 p r l)) := by
  unfold out0_5
  rw [View.canon_unit_zero (S := S352x256) hz2]
  unfold k0_pay8 k0_pay5 k0_pay4 eight
  simp only [pick_one, pick_zero]
  pointwise

/-- The block's first moment. -/
theorem m_at : out0_7 (F := Ideal) x0 x1 x2 x3 x4 (ix2 r l) = newM (x3 (ix2 r l)) (eight (x1 (ix3 0 r l)) (fun p => x0 (ix3 p r l))) := by
  rw [← sum_at x0 x1 x2 x3 x4 r l]
  unfold out0_7 out0_5
  rw [View.canon_unit_zero (S := S352x256) hz2, View.canon_unit_zero (S := S352x256) hz2]
  generalize k0_pay8 (F := Ideal) x0 x1 x2 x3 x4 = G
  unfold k0_pay1 k0_pay9 k0_pay10 k0_pay6 k0_pay7 newM
  try simp only [View.ld_unit_zero (S := S352x256) hz2]
  pointwise

/-- The block's second moment. -/
theorem v_at : out0_8 (F := Ideal) x0 x1 x2 x3 x4 (ix2 r l) = newV (x4 (ix2 r l)) (eight (x1 (ix3 0 r l)) (fun p => x0 (ix3 p r l))) := by
  rw [← sum_at x0 x1 x2 x3 x4 r l]
  unfold out0_8 out0_5
  rw [View.canon_unit_zero (S := S352x256) hz2, View.canon_unit_zero (S := S352x256) hz2]
  generalize k0_pay8 (F := Ideal) x0 x1 x2 x3 x4 = G
  unfold k0_pay2 newV
  try simp only [View.ld_unit_zero (S := S352x256) hz2]
  pointwise

/-- The block's weight's change. -/
theorem d_at : out0_6 (F := Ideal) x0 x1 x2 x3 x4 (ix2 r l) = delta (x2 (ix2 r l)) (x3 (ix2 r l)) (x4 (ix2 r l)) (eight (x1 (ix3 0 r l)) (fun p => x0 (ix3 p r l))) := by
  rw [← sum_at x0 x1 x2 x3 x4 r l]
  unfold out0_6 out0_5
  rw [View.canon_unit_zero (S := S352x256) hz2, View.canon_unit_zero (S := S352x256) hz2]
  generalize k0_pay8 (F := Ideal) x0 x1 x2 x3 x4 = G
  unfold k0_pay3 k0_pay9 k0_pay10 k0_pay1 k0_pay2 k0_pay6 k0_pay7 delta newM newV
  try simp only [View.ld_unit_zero (S := S352x256) hz2]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel
theorem idx4 : ∀ t : Fin cfg0.N, win0_4.index t 0 = 0 ∧ win0_4.index t 1 = t.val := by decide +kernel
theorem idx5 : ∀ t : Fin cfg0.N, win0_5.index t 0 = 0 ∧ win0_5.index t 1 = t.val := by decide +kernel
theorem idx6 : ∀ t : Fin cfg0.N, win0_6.index t 0 = 0 ∧ win0_6.index t 1 = t.val := by decide +kernel
theorem idx7 : ∀ t : Fin cfg0.N, win0_7.index t 0 = 0 ∧ win0_7.index t 1 = t.val := by decide +kernel
theorem idx8 : ∀ t : Fin cfg0.N, win0_8.index t 0 = 0 ∧ win0_8.index t 1 = t.val := by decide +kernel
theorem flush5 : ∀ t : Fin cfg0.N, (cfg0.win 5).flush t = true := by decide +kernel
theorem flush6 : ∀ t : Fin cfg0.N, (cfg0.win 6).flush t = true := by decide +kernel
theorem flush7 : ∀ t : Fin cfg0.N, (cfg0.win 7).flush t = true := by decide +kernel
theorem flush8 : ∀ t : Fin cfg0.N, (cfg0.win 8).flush t = true := by decide +kernel

variable (m : (ℓ : Loc nD τ sig) → Buf (Elt Ideal) ℓ) (c : Dev nD)

/-- The arguments. -/
abbrev argS : FVec Ideal S8x352x1024 .f32 := m ((c : Thread nD τ).loc main_arg0)
abbrev argO : FVec Ideal S1x352x1024 .f32 := m ((c : Thread nD τ).loc main_arg1)
abbrev argW : FVec Ideal S352x1024 .f32 := m ((c : Thread nD τ).loc main_arg2)
abbrev argM : FVec Ideal S352x1024 .f32 := m ((c : Thread nD τ).loc main_arg3)
abbrev argV : FVec Ideal S352x1024 .f32 := m ((c : Thread nD τ).loc main_arg4)

/-- The whole sum at an element. -/
def elt (s : FVec Ideal S8x352x1024 .f32) (o : FVec Ideal S1x352x1024 .f32) (i : Fin 352) (j : Fin 1024) : EReal :=
  eight (o (ix3 0 i j)) (fun p => s (ix3 p i j))

theorem blk0 (t : Fin cfg0.N) (p : Fin 8) (r : Fin 352) (l : Fin 256) (j : Fin 1024) (hj : j.val = t.val * 256 + l.val) :
    iblk m c 0 t (ix3 p r l) = argS m c (ix3 p r j) := by
  have e : V m c main_v0 = (truncf .bf16 (argS m c) bitsLt_bf16_f32 : FVec Ideal S8x352x1024 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 352) (l : Fin 256) (j : Fin 1024) (hj : j.val = t.val * 256 + l.val) :
    iblk m c 1 t (ix3 0 r l) = argO m c (ix3 0 r j) := by
  have e : V m c main_v1 = (truncf .bf16 (argO m c) bitsLt_bf16_f32 : FVec Ideal S1x352x1024 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem blk2 (t : Fin cfg0.N) (r : Fin 352) (l : Fin 256) (j : Fin 1024) (hj : j.val = t.val * 256 + l.val) :
    iblk m c 2 t (ix2 r l) = argW m c (ix2 r j) := by
  have e' : V m c main_arg2 (ix2 r j) = argW m c (ix2 r j) := by
    rw [V_main_arg2]
  rw [← e']
  unfold iblk
  rw [View.read_apply]
  exact at2 (V m c main_arg2) r j _ (whole (idx2 t).1) (moved (idx2 t).2 hj)

theorem blk3 (t : Fin cfg0.N) (r : Fin 352) (l : Fin 256) (j : Fin 1024) (hj : j.val = t.val * 256 + l.val) :
    iblk m c 3 t (ix2 r l) = argM m c (ix2 r j) := by
  have e' : V m c main_arg3 (ix2 r j) = argM m c (ix2 r j) := by
    rw [V_main_arg3]
  rw [← e']
  unfold iblk
  rw [View.read_apply]
  exact at2 (V m c main_arg3) r j _ (whole (idx3 t).1) (moved (idx3 t).2 hj)

theorem blk4 (t : Fin cfg0.N) (r : Fin 352) (l : Fin 256) (j : Fin 1024) (hj : j.val = t.val * 256 + l.val) :
    iblk m c 4 t (ix2 r l) = argV m c (ix2 r j) := by
  have e' : V m c main_arg4 (ix2 r j) = argV m c (ix2 r j) := by
    rw [V_main_arg4]
  rw [← e']
  unfold iblk
  rw [View.read_apply]
  exact at2 (V m c main_arg4) r j _ (whole (idx4 t).1) (moved (idx4 t).2 hj)

theorem slots_at (t : Fin cfg0.N) (r : Fin 352) (l : Fin 256) (j : Fin 1024) (hj : j.val = t.val * 256 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result5 : ∀ (i : Fin 352) (j : Fin 1024), (dats m 0 c).arrAt 5 cfg0.N (ix2 i j) = elt (argS m c) (argO m c) i j := by
  refine by_columns (N := cfg0.N) (tc := 256) (by decide) fun t i l j hj => ?_
  have hb := congrFun (Value.blocks5 m c t (flush5 t)) (ix2 i l)
  rw [Value.flushed5, View.read_apply] at hb
  refine (at2 ((dats m 0 c).arrAt 5 cfg0.N) i j _ (whole (idx5 t).1) (moved (idx5 t).2 hj)).symm.trans (hb.trans ((sum_at (iblk m c 0 t) (iblk m c 1 t) (iblk m c 2 t) (iblk m c 3 t) (iblk m c 4 t) i l).trans ?_))
  rw [slots_at m c t i l j hj]

/-- The array of the weight's change. -/
theorem result6 : ∀ (i : Fin 352) (j : Fin 1024), (dats m 0 c).arrAt 6 cfg0.N (ix2 i j) = delta (argW m c (ix2 i j)) (argM m c (ix2 i j)) (argV m c (ix2 i j)) (elt (argS m c) (argO m c) i j) := by
  refine by_columns (N := cfg0.N) (tc := 256) (by decide) fun t i l j hj => ?_
  have hb := congrFun (Value.blocks6 m c t (flush6 t)) (ix2 i l)
  rw [Value.flushed6, View.read_apply] at hb
  refine (at2 ((dats m 0 c).arrAt 6 cfg0.N) i j _ (whole (idx6 t).1) (moved (idx6 t).2 hj)).symm.trans (hb.trans ((d_at (iblk m c 0 t) (iblk m c 1 t) (iblk m c 2 t) (iblk m c 3 t) (iblk m c 4 t) i l).trans ?_))
  rw [slots_at m c t i l j hj, blk2 m c t i l j hj, blk3 m c t i l j hj, blk4 m c t i l j hj]

/-- The array of the first moment. -/
theorem result7 : ∀ (i : Fin 352) (j : Fin 1024), (dats m 0 c).arrAt 7 cfg0.N (ix2 i j) = newM (argM m c (ix2 i j)) (elt (argS m c) (argO m c) i j) := by
  refine by_columns (N := cfg0.N) (tc := 256) (by decide) fun t i l j hj => ?_
  have hb := congrFun (Value.blocks7 m c t (flush7 t)) (ix2 i l)
  rw [Value.flushed7, View.read_apply] at hb
  refine (at2 ((dats m 0 c).arrAt 7 cfg0.N) i j _ (whole (idx7 t).1) (moved (idx7 t).2 hj)).symm.trans (hb.trans ((m_at (iblk m c 0 t) (iblk m c 1 t) (iblk m c 2 t) (iblk m c 3 t) (iblk m c 4 t) i l).trans ?_))
  rw [slots_at m c t i l j hj, blk3 m c t i l j hj]

/-- The array of the second moment. -/
theorem result8 : ∀ (i : Fin 352) (j : Fin 1024), (dats m 0 c).arrAt 8 cfg0.N (ix2 i j) = newV (argV m c (ix2 i j)) (elt (argS m c) (argO m c) i j) := by
  refine by_columns (N := cfg0.N) (tc := 256) (by decide) fun t i l j hj => ?_
  have hb := congrFun (Value.blocks8 m c t (flush8 t)) (ix2 i l)
  rw [Value.flushed8, View.read_apply] at hb
  refine (at2 ((dats m 0 c).arrAt 8 cfg0.N) i j _ (whole (idx8 t).1) (moved (idx8 t).2 hj)).symm.trans (hb.trans ((v_at (iblk m c 0 t) (iblk m c 1 t) (iblk m c 2 t) (iblk m c 3 t) (iblk m c 4 t) i l).trans ?_))
  rw [slots_at m c t i l j hj, blk4 m c t i l j hj]

end Call

section Reference

open Cert.Reference45Ideal Cert.Reference45Ideal.Gen Idealize.ShloMosaic Idealize.ShloMosaic.TcCoe Steps

/-- The reference's sum at an element. -/
theorem total_at (s : FVec Ideal S8x352x1024 .f32) (o : FVec Ideal S1x352x1024 .f32) (i : Fin 352) (j : Fin 1024) :
    (Host.reduceAdd (concatenate S8x352x1024 0 [⟨S1x352x1024, o⟩, ⟨S7x352x1024, (extractStridedSlice S7x352x1024 ![1, 0, 0] s slices_S8x352x1024_S7x352x1024_1_0_0)⟩] concatenates_S1x352x1024_S7x352x1024_S8x352x1024_d0) (constant S_ .f32 0x00000000#32) reducesTo_S8x352x1024_S352x1024_d0 h_S_ : FVec Ideal S352x1024 .f32) (ix2 i j) = elt s o i j := by
  unfold elt
  pointwise
  exact eight_of (o (ix3 0 i j)) (fun p => s (ix3 p i j))

/-- The reference ends, its arguments unchanged and every counter at zero. -/
theorem ref_frame : Cert.quiescent_Reference45Ideal := fun m ρ _ =>
  (θ_run defs _ _).mono (fun r h => ⟨fun c => (h c).2.2.2.2, Idealize.ShloMosaic.sem_eq_zero_of_no_sems (by decide) r.2⟩) (Value.run m ρ)

end Reference

open Idealize.ShloMosaic Idealize.ShloMosaic.TcCoe Cert.Kernel45Ideal.Gen in
/-- The call and its reference end with the same arrays, at every argument. -/
theorem algebraic : Cert.algebraic_Kernel45Ideal_Reference45Ideal := by
  intro m g m' g' _ heq
  refine ⟨fun c => (dats m 0 c).arrAt 5 Cert.Kernel45Ideal.cfg0.N, fun c => (dats m 0 c).arrAt 6 Cert.Kernel45Ideal.cfg0.N, fun c => (dats m 0 c).arrAt 7 Cert.Kernel45Ideal.cfg0.N, fun c => (dats m 0 c).arrAt 8 Cert.Kernel45Ideal.cfg0.N, Cert.Kernel45Ideal.Value.run_blocks m g,
    (θ_run Cert.Reference45Ideal.defs _ _).mono (fun r h c => ?_) (Cert.Reference45Ideal.Value.run m' g')⟩
  obtain ⟨h0, h1, h2, h3, ha⟩ := h c
  obtain ⟨e0, e1, e2, e3, e4⟩ := heq c
  rw [e0, e1] at h0
  rw [e0, e1, e2, e3, e4] at h1
  rw [e0, e1, e3] at h2
  rw [e0, e1, e4] at h3
  refine ⟨h0.trans ?_, h1.trans ?_, h2.trans ?_, h3.trans ?_, ha⟩
  · funext y
    obtain ⟨i, j, rfl⟩ := Products.rowcol (n0 := 352) (n1 := 1024) y
    refine Eq.trans ?_ (result5 m c i j).symm
    exact total_at _ _ i j
  · funext y
    obtain ⟨i, j, rfl⟩ := Products.rowcol (n0 := 352) (n1 := 1024) y
    refine Eq.trans ?_ (result6 m c i j).symm
    rw [← total_at]
    generalize (Host.reduceAdd _ _ _ _ : FVec Ideal Cert.Reference45Ideal.S352x1024 .f32) = T
    unfold Steps.delta Steps.newM Steps.newV
    pointwise
  · funext y
    obtain ⟨i, j, rfl⟩ := Products.rowcol (n0 := 352) (n1 := 1024) y
    refine Eq.trans ?_ (result7 m c i j).symm
    rw [← total_at]
    generalize (Host.reduceAdd _ _ _ _ : FVec Ideal Cert.Reference45Ideal.S352x1024 .f32) = T
    unfold Steps.newM
    pointwise
  · funext y
    obtain ⟨i, j, rfl⟩ := Products.rowcol (n0 := 352) (n1 := 1024) y
    refine Eq.trans ?_ (result8 m c i j).symm
    rw [← total_at]
    generalize (Host.reduceAdd _ _ _ _ : FVec Ideal Cert.Reference45Ideal.S352x1024 .f32) = T
    unfold Steps.newV
    pointwise

end Cert.Proof.StepWDown
-- ==== Proof.SumWUkv.lean ====
/-
The call `sum_w_ukv`: the sum of the devices' gradients, block by block, and the array the call leaves.
-/
module

public import proofs.«01_k».proof.Proof.Products
public import proofs.«01_k».proof.Proof.Steps
public import proofs.«01_k».proof.Proof.Gen.Kernel46Ideal.Value
public import proofs.«01_k».proof.Proof.Gen.Reference46Ideal.Run

@[expose] public section

noncomputable section

namespace Cert.Proof.SumWUkv

section Call

open Cert.Kernel46Ideal Cert.Kernel46Ideal.Gen Idealize.ShloMosaic Idealize.ShloMosaic.TcCoe Products Steps

section Body

variable (x0 : Vec Ideal S8x128x256 .bf16) (x1 : Vec Ideal S1x128x256 .bf16) (r : Fin 128) (l : Fin 256)

/-- The block's sum over the slots. -/
theorem sum_at : out0_2 (F := Ideal) x0 x1 (ix2 r l) = eight (x1 (ix3 0 r l)) (fun p => x0 (ix3 p r l)) := by
  unfold out0_2
  rw [View.canon_unit_zero (S := S128x256) hz2]
  unfold k0_pay1 k0_pay2 eight
  simp only [pick_one, pick_zero]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem flush2 : ∀ t : Fin cfg0.N, (cfg0.win 2).flush t = true := by decide +kernel

variable (m : (ℓ : Loc nD τ sig) → Buf (Elt Ideal) ℓ) (c : Dev nD)

/-- The arguments. -/
abbrev argS : FVec Ideal S8x128x256 .f32 := m ((c : Thread nD τ).loc main_arg0)
abbrev argO : FVec Ideal S1x128x256 .f32 := m ((c : Thread nD τ).loc main_arg1)

/-- The whole sum at an element. -/
def elt (s : FVec Ideal S8x128x256 .f32) (o : FVec Ideal S1x128x256 .f32) (i : Fin 128) (j : Fin 256) : EReal :=
  eight (o (ix3 0 i j)) (fun p => s (ix3 p i j))

theorem blk0 (t : Fin cfg0.N) (p : Fin 8) (r : Fin 128) (l : Fin 256) (j : Fin 256) (hj : j.val = t.val * 256 + l.val) :
    iblk m c 0 t (ix3 p r l) = argS m c (ix3 p r j) := by
  have e : V m c main_v0 = (truncf .bf16 (argS m c) bitsLt_bf16_f32 : FVec Ideal S8x128x256 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 128) (l : Fin 256) (j : Fin 256) (hj : j.val = t.val * 256 + l.val) :
    iblk m c 1 t (ix3 0 r l) = argO m c (ix3 0 r j) := by
  have e : V m c main_v1 = (truncf .bf16 (argO m c) bitsLt_bf16_f32 : FVec Ideal S1x128x256 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem slots_at (t : Fin cfg0.N) (r : Fin 128) (l : Fin 256) (j : Fin 256) (hj : j.val = t.val * 256 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result2 : ∀ (i : Fin 128) (j : Fin 256), (dats m 0 c).arrAt 2 cfg0.N (ix2 i j) = elt (argS m c) (argO m c) i j := by
  refine by_columns (N := cfg0.N) (tc := 256) (by decide) fun t i l j hj => ?_
  have hb := congrFun (Value.blocks2 m c t (flush2 t)) (ix2 i l)
  rw [Value.flushed2, View.read_apply] at hb
  refine (at2 ((dats m 0 c).arrAt 2 cfg0.N) i j _ (whole (idx2 t).1) (moved (idx2 t).2 hj)).symm.trans (hb.trans ((sum_at (iblk m c 0 t) (iblk m c 1 t) i l).trans ?_))
  rw [slots_at m c t i l j hj]

end Call

section Reference

open Cert.Reference46Ideal Cert.Reference46Ideal.Gen Idealize.ShloMosaic Idealize.ShloMosaic.TcCoe Steps

/-- The reference's sum at an element. -/
theorem total_at (s : FVec Ideal S8x128x256 .f32) (o : FVec Ideal S1x128x256 .f32) (i : Fin 128) (j : Fin 256) :
    (Host.reduceAdd (concatenate S8x128x256 0 [⟨S1x128x256, o⟩, ⟨S7x128x256, (extractStridedSlice S7x128x256 ![1, 0, 0] s slices_S8x128x256_S7x128x256_1_0_0)⟩] concatenates_S1x128x256_S7x128x256_S8x128x256_d0) (constant S_ .f32 0x00000000#32) reducesTo_S8x128x256_S128x256_d0 h_S_ : FVec Ideal S128x256 .f32) (ix2 i j) = elt s o i j := by
  unfold elt
  pointwise
  exact eight_of (o (ix3 0 i j)) (fun p => s (ix3 p i j))

/-- The reference ends, its arguments unchanged and every counter at zero. -/
theorem ref_frame : Cert.quiescent_Reference46Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel46Ideal.Gen in
/-- The call and its reference end with the same arrays, at every argument. -/
theorem algebraic : Cert.algebraic_Kernel46Ideal_Reference46Ideal := by
  intro m g m' g' _ heq
  refine ⟨fun c => (dats m 0 c).arrAt 2 Cert.Kernel46Ideal.cfg0.N, Cert.Kernel46Ideal.Value.run_blocks m g,
    (θ_run Cert.Reference46Ideal.defs _ _).mono (fun r h c => ?_) (Cert.Reference46Ideal.Value.run m' g')⟩
  obtain ⟨h0, ha⟩ := h c
  obtain ⟨e0, e1⟩ := heq c
  rw [e0, e1] at h0
  refine ⟨h0.trans ?_, ha⟩
  · funext y
    obtain ⟨i, j, rfl⟩ := Products.rowcol (n0 := 128) (n1 := 256) y
    refine Eq.trans ?_ (result2 m c i j).symm
    exact total_at _ _ i j

end Cert.Proof.SumWUkv
-- ==== Proof.SumWOAttn.lean ====
/-
The call `sum_w_o_attn`: the sum of the devices' gradients, block by block, and the array the call leaves.
-/
module

public import proofs.«01_k».proof.Proof.Products
public import proofs.«01_k».proof.Proof.Steps
public import proofs.«01_k».proof.Proof.Gen.Kernel47Ideal.Value
public import proofs.«01_k».proof.Proof.Gen.Reference47Ideal.Run

@[expose] public section

noncomputable section

namespace Cert.Proof.SumWOAttn

section Call

open Cert.Kernel47Ideal Cert.Kernel47Ideal.Gen Idealize.ShloMosaic Idealize.ShloMosaic.TcCoe Products Steps

section Body

variable (x0 : Vec Ideal S8x128x256 .bf16) (x1 : Vec Ideal S1x128x256 .bf16) (r : Fin 128) (l : Fin 256)

/-- The block's sum over the slots. -/
theorem sum_at : out0_2 (F := Ideal) x0 x1 (ix2 r l) = eight (x1 (ix3 0 r l)) (fun p => x0 (ix3 p r l)) := by
  unfold out0_2
  rw [View.canon_unit_zero (S := S128x256) hz2]
  unfold k0_pay1 k0_pay2 eight
  simp only [pick_one, pick_zero]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem flush2 : ∀ t : Fin cfg0.N, (cfg0.win 2).flush t = true := by decide +kernel

variable (m : (ℓ : Loc nD τ sig) → Buf (Elt Ideal) ℓ) (c : Dev nD)

/-- The arguments. -/
abbrev argS : FVec Ideal S8x128x512 .f32 := m ((c : Thread nD τ).loc main_arg0)
abbrev argO : FVec Ideal S1x128x512 .f32 := m ((c : Thread nD τ).loc main_arg1)

/-- The whole sum at an element. -/
def elt (s : FVec Ideal S8x128x512 .f32) (o : FVec Ideal S1x128x512 .f32) (i : Fin 128) (j : Fin 512) : EReal :=
  eight (o (ix3 0 i j)) (fun p => s (ix3 p i j))

theorem blk0 (t : Fin cfg0.N) (p : Fin 8) (r : Fin 128) (l : Fin 256) (j : Fin 512) (hj : j.val = t.val * 256 + l.val) :
    iblk m c 0 t (ix3 p r l) = argS m c (ix3 p r j) := by
  have e : V m c main_v0 = (truncf .bf16 (argS m c) bitsLt_bf16_f32 : FVec Ideal S8x128x512 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 128) (l : Fin 256) (j : Fin 512) (hj : j.val = t.val * 256 + l.val) :
    iblk m c 1 t (ix3 0 r l) = argO m c (ix3 0 r j) := by
  have e : V m c main_v1 = (truncf .bf16 (argO m c) bitsLt_bf16_f32 : FVec Ideal S1x128x512 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem slots_at (t : Fin cfg0.N) (r : Fin 128) (l : Fin 256) (j : Fin 512) (hj : j.val = t.val * 256 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result2 : ∀ (i : Fin 128) (j : Fin 512), (dats m 0 c).arrAt 2 cfg0.N (ix2 i j) = elt (argS m c) (argO m c) i j := by
  refine by_columns (N := cfg0.N) (tc := 256) (by decide) fun t i l j hj => ?_
  have hb := congrFun (Value.blocks2 m c t (flush2 t)) (ix2 i l)
  rw [Value.flushed2, View.read_apply] at hb
  refine (at2 ((dats m 0 c).arrAt 2 cfg0.N) i j _ (whole (idx2 t).1) (moved (idx2 t).2 hj)).symm.trans (hb.trans ((sum_at (iblk m c 0 t) (iblk m c 1 t) i l).trans ?_))
  rw [slots_at m c t i l j hj]

end Call

section Reference

open Cert.Reference47Ideal Cert.Reference47Ideal.Gen Idealize.ShloMosaic Idealize.ShloMosaic.TcCoe Steps

/-- The reference's sum at an element. -/
theorem total_at (s : FVec Ideal S8x128x512 .f32) (o : FVec Ideal S1x128x512 .f32) (i : Fin 128) (j : Fin 512) :
    (Host.reduceAdd (concatenate S8x128x512 0 [⟨S1x128x512, o⟩, ⟨S7x128x512, (extractStridedSlice S7x128x512 ![1, 0, 0] s slices_S8x128x512_S7x128x512_1_0_0)⟩] concatenates_S1x128x512_S7x128x512_S8x128x512_d0) (constant S_ .f32 0x00000000#32) reducesTo_S8x128x512_S128x512_d0 h_S_ : FVec Ideal S128x512 .f32) (ix2 i j) = elt s o i j := by
  unfold elt
  pointwise
  exact eight_of (o (ix3 0 i j)) (fun p => s (ix3 p i j))

/-- The reference ends, its arguments unchanged and every counter at zero. -/
theorem ref_frame : Cert.quiescent_Reference47Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel47Ideal.Gen in
/-- The call and its reference end with the same arrays, at every argument. -/
theorem algebraic : Cert.algebraic_Kernel47Ideal_Reference47Ideal := by
  intro m g m' g' _ heq
  refine ⟨fun c => (dats m 0 c).arrAt 2 Cert.Kernel47Ideal.cfg0.N, Cert.Kernel47Ideal.Value.run_blocks m g,
    (θ_run Cert.Reference47Ideal.defs _ _).mono (fun r h c => ?_) (Cert.Reference47Ideal.Value.run m' g')⟩
  obtain ⟨h0, ha⟩ := h c
  obtain ⟨e0, e1⟩ := heq c
  rw [e0, e1] at h0
  refine ⟨h0.trans ?_, ha⟩
  · funext y
    obtain ⟨i, j, rfl⟩ := Products.rowcol (n0 := 128) (n1 := 512) y
    refine Eq.trans ?_ (result2 m c i j).symm
    exact total_at _ _ i j

end Cert.Proof.SumWOAttn
-- ==== Proof.SumSmall.lean ====
/-
The call `sum_small`: the sum of the devices' small gradients and losses, block by block, and the array the call leaves.
-/
module

public import proofs.«01_k».proof.Proof.Products
public import proofs.«01_k».proof.Proof.Steps
public import proofs.«01_k».proof.Proof.Gen.Kernel48Ideal.Value
public import proofs.«01_k».proof.Proof.Gen.Reference48Ideal.Run

@[expose] public section

noncomputable section

namespace Cert.Proof.SumSmall

section Call

open Cert.Kernel48Ideal Cert.Kernel48Ideal.Gen Idealize.ShloMosaic Idealize.ShloMosaic.TcCoe Products Steps

/-- The block's sum over the slots. -/
theorem sum_at (x0 : Vec Ideal S8x80x256 .f32) (r : Fin 80) (l : Fin 256) :
    out0_1 (F := Ideal) x0 (ix2 r l) = ∑ p : Fin 8, (x0 (ix3 p r l) : EReal) := by
  unfold out0_1
  rw [View.canon_unit_zero (S := S80x256) hz2, Fin.sum_univ_eight]
  unfold k0_pay1
  pointwise

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = t.val := by decide +kernel
theorem flush1 : ∀ t : Fin cfg0.N, (cfg0.win 1).flush t = true := by decide +kernel

variable (m : (ℓ : Loc nD τ sig) → Buf (Elt Ideal) ℓ) (c : Dev nD)

/-- The argument. -/
abbrev argS : FVec Ideal S8x80x512 .f32 := m ((c : Thread nD τ).loc main_arg0)

theorem blk0 (t : Fin cfg0.N) (p : Fin 8) (r : Fin 80) (l : Fin 256) (j : Fin 512) (hj : j.val = t.val * 256 + l.val) :
    iblk m c 0 t (ix3 p r l) = argS m c (ix3 p r j) := by
  have e' : V m c main_arg0 (ix3 p r j) = argS m c (ix3 p r j) := by
    rw [V_main_arg0]
  rw [← e']
  unfold iblk
  rw [View.read_apply]
  exact at3 (V m c main_arg0) p r j _ (whole (idx0 t).1) (whole (idx0 t).2.1) (moved (idx0 t).2.2 hj)

/-- The array the call leaves. -/
theorem result_at : ∀ (i : Fin 80) (j : Fin 512), (dats m 0 c).arrAt 1 cfg0.N (ix2 i j) = ∑ p : Fin 8, (argS m c (ix3 p i j) : EReal) := by
  refine by_columns (N := cfg0.N) (tc := 256) (by decide) fun t i l j hj => ?_
  have hb := congrFun (Value.blocks1 m c t (flush1 t)) (ix2 i l)
  rw [Value.flushed1, View.read_apply] at hb
  refine (at2 ((dats m 0 c).arrAt 1 cfg0.N) i j _ (whole (idx1 t).1) (moved (idx1 t).2 hj)).symm.trans (hb.trans ((sum_at (iblk m c 0 t) i l).trans ?_))
  exact Finset.sum_congr rfl fun p _ => blk0 m c t p i l j hj

end Call

section Reference

open Cert.Reference48Ideal Cert.Reference48Ideal.Gen Idealize.ShloMosaic Idealize.ShloMosaic.TcCoe

/-- The reference ends, its argument unchanged and every counter at zero. -/
theorem ref_frame : Cert.quiescent_Reference48Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel48Ideal.Gen in
/-- The call and its reference end with the same array, at every argument. -/
theorem algebraic : Cert.algebraic_Kernel48Ideal_Reference48Ideal := by
  intro m g m' g' _ heq
  refine ⟨fun c => (dats m 0 c).arrAt 1 Cert.Kernel48Ideal.cfg0.N, Cert.Kernel48Ideal.Value.run_blocks m g,
    (θ_run Cert.Reference48Ideal.defs _ _).mono (fun r h c => ?_) (Cert.Reference48Ideal.Value.run m' g')⟩
  obtain ⟨h0, ha⟩ := h c
  have e0 := heq c
  rw [e0] at h0
  refine ⟨h0.trans ?_, ha⟩
  funext y
  obtain ⟨i, j, rfl⟩ := Products.rowcol (n0 := 80) (n1 := 512) y
  refine Eq.trans ?_ (result_at m c i j).symm
  pointwise

end Cert.Proof.SumSmall
-- ==== Proof.SumLruWA.lean ====
/-
The call `sum_lru_w_a`: the sum of the devices' gradients, block by block, and the array the call leaves.
-/
module

public import proofs.«01_k».proof.Proof.Products
public import proofs.«01_k».proof.Proof.Steps
public import proofs.«01_k».proof.Proof.Gen.Kernel49Ideal.Value
public import proofs.«01_k».proof.Proof.Gen.Reference49Ideal.Run

@[expose] public section

noncomputable section

namespace Cert.Proof.SumLruWA

section Call

open Cert.Kernel49Ideal Cert.Kernel49Ideal.Gen Idealize.ShloMosaic Idealize.ShloMosaic.TcCoe Products Steps

section Body

variable (x0 : Vec Ideal S8x320x128 .bf16) (x1 : Vec Ideal S1x320x128 .bf16) (r : Fin 320) (l : Fin 128)

/-- The block's sum over the slots. -/
theorem sum_at : out0_2 (F := Ideal) x0 x1 (ix2 r l) = eight (x1 (ix3 0 r l)) (fun p => x0 (ix3 p r l)) := by
  unfold out0_2
  rw [View.canon_unit_zero (S := S320x128) hz2]
  unfold k0_pay1 k0_pay2 eight
  simp only [pick_one, pick_zero]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem flush2 : ∀ t : Fin cfg0.N, (cfg0.win 2).flush t = true := by decide +kernel

variable (m : (ℓ : Loc nD τ sig) → Buf (Elt Ideal) ℓ) (c : Dev nD)

/-- The arguments. -/
abbrev argS : FVec Ideal S8x320x128 .f32 := m ((c : Thread nD τ).loc main_arg0)
abbrev argO : FVec Ideal S1x320x128 .f32 := m ((c : Thread nD τ).loc main_arg1)

/-- The whole sum at an element. -/
def elt (s : FVec Ideal S8x320x128 .f32) (o : FVec Ideal S1x320x128 .f32) (i : Fin 320) (j : Fin 128) : EReal :=
  eight (o (ix3 0 i j)) (fun p => s (ix3 p i j))

theorem blk0 (t : Fin cfg0.N) (p : Fin 8) (r : Fin 320) (l : Fin 128) (j : Fin 128) (hj : j.val = t.val * 128 + l.val) :
    iblk m c 0 t (ix3 p r l) = argS m c (ix3 p r j) := by
  have e : V m c main_v0 = (truncf .bf16 (argS m c) bitsLt_bf16_f32 : FVec Ideal S8x320x128 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 320) (l : Fin 128) (j : Fin 128) (hj : j.val = t.val * 128 + l.val) :
    iblk m c 1 t (ix3 0 r l) = argO m c (ix3 0 r j) := by
  have e : V m c main_v1 = (truncf .bf16 (argO m c) bitsLt_bf16_f32 : FVec Ideal S1x320x128 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem slots_at (t : Fin cfg0.N) (r : Fin 320) (l : Fin 128) (j : Fin 128) (hj : j.val = t.val * 128 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result2 : ∀ (i : Fin 320) (j : Fin 128), (dats m 0 c).arrAt 2 cfg0.N (ix2 i j) = elt (argS m c) (argO m c) i j := by
  refine by_columns (N := cfg0.N) (tc := 128) (by decide) fun t i l j hj => ?_
  have hb := congrFun (Value.blocks2 m c t (flush2 t)) (ix2 i l)
  rw [Value.flushed2, View.read_apply] at hb
  refine (at2 ((dats m 0 c).arrAt 2 cfg0.N) i j _ (whole (idx2 t).1) (moved (idx2 t).2 hj)).symm.trans (hb.trans ((sum_at (iblk m c 0 t) (iblk m c 1 t) i l).trans ?_))
  rw [slots_at m c t i l j hj]

end Call

section Reference

open Cert.Reference49Ideal Cert.Reference49Ideal.Gen Idealize.ShloMosaic Idealize.ShloMosaic.TcCoe Steps

/-- The reference's sum at an element. -/
theorem total_at (s : FVec Ideal S8x320x128 .f32) (o : FVec Ideal S1x320x128 .f32) (i : Fin 320) (j : Fin 128) :
    (Host.reduceAdd (concatenate S8x320x128 0 [⟨S1x320x128, o⟩, ⟨S7x320x128, (extractStridedSlice S7x320x128 ![1, 0, 0] s slices_S8x320x128_S7x320x128_1_0_0)⟩] concatenates_S1x320x128_S7x320x128_S8x320x128_d0) (constant S_ .f32 0x00000000#32) reducesTo_S8x320x128_S320x128_d0 h_S_ : FVec Ideal S320x128 .f32) (ix2 i j) = elt s o i j := by
  unfold elt
  pointwise
  exact eight_of (o (ix3 0 i j)) (fun p => s (ix3 p i j))

/-- The reference ends, its arguments unchanged and every counter at zero. -/
theorem ref_frame : Cert.quiescent_Reference49Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel49Ideal.Gen in
/-- The call and its reference end with the same arrays, at every argument. -/
theorem algebraic : Cert.algebraic_Kernel49Ideal_Reference49Ideal := by
  intro m g m' g' _ heq
  refine ⟨fun c => (dats m 0 c).arrAt 2 Cert.Kernel49Ideal.cfg0.N, Cert.Kernel49Ideal.Value.run_blocks m g,
    (θ_run Cert.Reference49Ideal.defs _ _).mono (fun r h c => ?_) (Cert.Reference49Ideal.Value.run m' g')⟩
  obtain ⟨h0, ha⟩ := h c
  obtain ⟨e0, e1⟩ := heq c
  rw [e0, e1] at h0
  refine ⟨h0.trans ?_, ha⟩
  · funext y
    obtain ⟨i, j, rfl⟩ := Products.rowcol (n0 := 320) (n1 := 128) y
    refine Eq.trans ?_ (result2 m c i j).symm
    exact total_at _ _ i j

end Cert.Proof.SumLruWA
-- ==== Proof.SumLruWX.lean ====
/-
The call `sum_lru_w_x`: the sum of the devices' gradients, block by block, and the array the call leaves.
-/
module

public import proofs.«01_k».proof.Proof.Products
public import proofs.«01_k».proof.Proof.Steps
public import proofs.«01_k».proof.Proof.Gen.Kernel50Ideal.Value
public import proofs.«01_k».proof.Proof.Gen.Reference50Ideal.Run

@[expose] public section

noncomputable section

namespace Cert.Proof.SumLruWX

section Call

open Cert.Kernel50Ideal Cert.Kernel50Ideal.Gen Idealize.ShloMosaic Idealize.ShloMosaic.TcCoe Products Steps

section Body

variable (x0 : Vec Ideal S8x320x128 .bf16) (x1 : Vec Ideal S1x320x128 .bf16) (r : Fin 320) (l : Fin 128)

/-- The block's sum over the slots. -/
theorem sum_at : out0_2 (F := Ideal) x0 x1 (ix2 r l) = eight (x1 (ix3 0 r l)) (fun p => x0 (ix3 p r l)) := by
  unfold out0_2
  rw [View.canon_unit_zero (S := S320x128) hz2]
  unfold k0_pay1 k0_pay2 eight
  simp only [pick_one, pick_zero]
  pointwise

end Body

/-- The blocks a grid point reads and writes. -/
theorem idx0 : ∀ t : Fin cfg0.N, win0_0.index t 0 = 0 ∧ win0_0.index t 1 = 0 ∧ win0_0.index t 2 = t.val := by decide +kernel
theorem idx1 : ∀ t : Fin cfg0.N, win0_1.index t 0 = 0 ∧ win0_1.index t 1 = 0 ∧ win0_1.index t 2 = t.val := by decide +kernel
theorem idx2 : ∀ t : Fin cfg0.N, win0_2.index t 0 = 0 ∧ win0_2.index t 1 = t.val := by decide +kernel
theorem flush2 : ∀ t : Fin cfg0.N, (cfg0.win 2).flush t = true := by decide +kernel

variable (m : (ℓ : Loc nD τ sig) → Buf (Elt Ideal) ℓ) (c : Dev nD)

/-- The arguments. -/
abbrev argS : FVec Ideal S8x320x128 .f32 := m ((c : Thread nD τ).loc main_arg0)
abbrev argO : FVec Ideal S1x320x128 .f32 := m ((c : Thread nD τ).loc main_arg1)

/-- The whole sum at an element. -/
def elt (s : FVec Ideal S8x320x128 .f32) (o : FVec Ideal S1x320x128 .f32) (i : Fin 320) (j : Fin 128) : EReal :=
  eight (o (ix3 0 i j)) (fun p => s (ix3 p i j))

theorem blk0 (t : Fin cfg0.N) (p : Fin 8) (r : Fin 320) (l : Fin 128) (j : Fin 128) (hj : j.val = t.val * 128 + l.val) :
    iblk m c 0 t (ix3 p r l) = argS m c (ix3 p r j) := by
  have e : V m c main_v0 = (truncf .bf16 (argS m c) bitsLt_bf16_f32 : FVec Ideal S8x320x128 .bf16) := by
    unfold V; after_reads_simp
  have e' : V m c main_v0 (ix3 p r j) = argS m c (ix3 p r j) := by
    rw [e]; pointwise
  rw [← e']
  unfold iblk
  rw [View.read_apply]
  exact at3 (V m c main_v0) p r j _ (whole (idx0 t).1) (whole (idx0 t).2.1) (moved (idx0 t).2.2 hj)

theorem blk1 (t : Fin cfg0.N) (r : Fin 320) (l : Fin 128) (j : Fin 128) (hj : j.val = t.val * 128 + l.val) :
    iblk m c 1 t (ix3 0 r l) = argO m c (ix3 0 r j) := by
  have e : V m c main_v1 = (truncf .bf16 (argO m c) bitsLt_bf16_f32 : FVec Ideal S1x320x128 .bf16) := by
    unfold V; after_reads_simp
  have e' : V m c main_v1 (ix3 0 r j) = argO m c (ix3 0 r j) := by
    rw [e]; pointwise
  rw [← e']
  unfold iblk
  rw [View.read_apply]
  exact at3 (V m c main_v1) 0 r j _ (whole (idx1 t).1) (whole (idx1 t).2.1) (moved (idx1 t).2.2 hj)

theorem slots_at (t : Fin cfg0.N) (r : Fin 320) (l : Fin 128) (j : Fin 128) (hj : j.val = t.val * 128 + l.val) :
    eight (iblk m c 1 t (ix3 0 r l)) (fun p => iblk m c 0 t (ix3 p r l)) = elt (argS m c) (argO m c) r j := by
  unfold elt
  rw [blk1 m c t r l j hj]
  congr 1
  funext p
  exact blk0 m c t p r l j hj

/-- The array of the sum. -/
theorem result2 : ∀ (i : Fin 320) (j : Fin 128), (dats m 0 c).arrAt 2 cfg0.N (ix2 i j) = elt (argS m c) (argO m c) i j := by
  refine by_columns (N := cfg0.N) (tc := 128) (by decide) fun t i l j hj => ?_
  have hb := congrFun (Value.blocks2 m c t (flush2 t)) (ix2 i l)
  rw [Value.flushed2, View.read_apply] at hb
  refine (at2 ((dats m 0 c).arrAt 2 cfg0.N) i j _ (whole (idx2 t).1) (moved (idx2 t).2 hj)).symm.trans (hb.trans ((sum_at (iblk m c 0 t) (iblk m c 1 t) i l).trans ?_))
  rw [slots_at m c t i l j hj]

end Call

section Reference

open Cert.Reference50Ideal Cert.Reference50Ideal.Gen Idealize.ShloMosaic Idealize.ShloMosaic.TcCoe Steps

/-- The reference's sum at an element. -/
theorem total_at (s : FVec Ideal S8x320x128 .f32) (o : FVec Ideal S1x320x128 .f32) (i : Fin 320) (j : Fin 128) :
    (Host.reduceAdd (concatenate S8x320x128 0 [⟨S1x320x128, o⟩, ⟨S7x320x128, (extractStridedSlice S7x320x128 ![1, 0, 0] s slices_S8x320x128_S7x320x128_1_0_0)⟩] concatenates_S1x320x128_S7x320x128_S8x320x128_d0) (constant S_ .f32 0x00000000#32) reducesTo_S8x320x128_S320x128_d0 h_S_ : FVec Ideal S320x128 .f32) (ix2 i j) = elt s o i j := by
  unfold elt
  pointwise
  exact eight_of (o (ix3 0 i j)) (fun p => s (ix3 p i j))

/-- The reference ends, its arguments unchanged and every counter at zero. -/
theorem ref_frame : Cert.quiescent_Reference50Ideal := fun m ρ _ =>
  (θ_run defs _ _).mono (fun r h => ⟨fun c => (h c).2, Idealize.ShloMosaic.sem_eq_zero_of_no_sems (by decide) r.2⟩) (Value.run m ρ)

end Reference

open Idealize.ShloMosaic Idealize.ShloMosaic.TcCoe Cert.Kernel50Ideal.Gen in
/-- The call and its reference end with the same arrays, at every argument. -/
theorem algebraic : Cert.algebraic_Kernel50Ideal_Reference50Ideal := by
  intro m g m' g' _ heq
  refine ⟨fun c => (dats m 0 c).arrAt 2 Cert.Kernel50Ideal.cfg0.N, Cert.Kernel50Ideal.Value.run_blocks m g,
    (θ_run Cert.Reference50Ideal.defs _ _).mono (fun r h c => ?_) (Cert.Reference50Ideal.Value.run m' g')⟩
  obtain ⟨h0, ha⟩ := h c
  obtain ⟨e0, e1⟩ := heq c
  rw [e0, e1] at h0
  refine ⟨h0.trans ?_, ha⟩
  · funext y
    obtain ⟨i, j, rfl⟩ := Products.rowcol (n0 := 320) (n1 := 128) y
    refine Eq.trans ?_ (result2 m c i j).symm
    exact total_at _ _ i j

end Cert.Proof.SumLruWX
-- ==== Proof.Norm.lean ====
/-
The residual, the root-mean-square norm and its modulation, on one row, with their gradient.
-/
module

public import Idealize.ShloMosaic.Lib.Pointwise
public import Idealize.ShloMosaic.Lib.Pointwise.Sums

@[expose] public section

noncomputable section

open scoped BigOperators

namespace Cert.Proof.Norm

open Idealize.ShloMosaic

/-- The residual: the input and the gated output. -/
def res (x o g : Fin 1024 → EReal) (j : Fin 1024) : EReal := x j + g j * o j

/-- The mean square and the small number beside it. -/
def msq (u : Fin 1024 → EReal) : EReal := Ideal.div (∑ k, u k * u k) (Ideal.ofBits .f32 0x44800000#32) + Ideal.ofBits .f32 0x358637BD#32

/-- The normed row. -/
def unit (u : Fin 1024 → EReal) (j : Fin 1024) : EReal := u j * Ideal.rsqrt (msq u)

/-- The norm with its weight, its scale and its shift. -/
def modn (u n s b : Fin 1024 → EReal) (j : Fin 1024) : EReal := unit u j * n j * (1 + s j) + b j

/-- The cotangent before the scale, and before the weight. -/
def lin (h s : Fin 1024 → EReal) (j : Fin 1024) : EReal := h j * (1 + s j)
def dun (h s n : Fin 1024 → EReal) (j : Fin 1024) : EReal := lin h s j * n j

/-- The cotangent of the mean square, by two halves. -/
def half (u y : Fin 1024 → EReal) : EReal :=
  Ideal.div ((∑ k, u k * y k) * (Ideal.ofBits .f32 0xBF000000#32 * Ideal.div (Ideal.rsqrt (msq u)) (msq u))) (Ideal.ofBits .f32 0x44800000#32)

/-- The residual's cotangent. -/
def dres (u y d : Fin 1024 → EReal) (j : Fin 1024) : EReal := d j + y j * Ideal.rsqrt (msq u) + u j * half u y + half u y * u j

/-- A sum grown by parts of 512 terms. -/
theorem by_parts (f : ℕ → EReal) {N : ℕ} (A : ∀ n : ℕ, n < N → EReal) (h0 : ∀ h, A 0 h = ∑ r ∈ Finset.range 512, f (0 * 512 + r))
    (hs : ∀ (n : ℕ) (h : n + 1 < N), A (n + 1) h = A n (Nat.lt_of_succ_lt h) + ∑ r ∈ Finset.range 512, f ((n + 1) * 512 + r)) :
    ∀ (n : ℕ) (h : n < N), A n h = ∑ k ∈ Finset.range (n * 512 + 512), f k
  | 0, h => by simp only [h0, Nat.zero_mul, Nat.zero_add]
  | n + 1, h => by
    rw [hs n h, by_parts f A h0 hs n (Nat.lt_of_succ_lt h), Finset.sum_range_add _ ((n + 1) * 512) 512, show n * 512 + 512 = (n + 1) * 512 by omega]

/-- The terms of a sum over 4096 rows, at a row number. -/
def term (f : Fin 4096 → EReal) (k : ℕ) : EReal := if h : k < 4096 then f ⟨k, h⟩ else 0

theorem term_sum (f : Fin 4096 → EReal) : ∑ k ∈ Finset.range 4096, term f k = ∑ k : Fin 4096, f k := by
  rw [Finset.sum_range]
  exact Finset.sum_congr rfl fun k _ => dif_pos k.isLt

theorem term_part (f : Fin 4096 → EReal) (p : Fin 512 → EReal) (t : ℕ) (ht : t < 8)
    (h : ∀ (r : Fin 512) (Q : Fin 4096), Q.val = t * 512 + r.val → p r = f Q) :
    ∑ r : Fin 512, p r = ∑ r ∈ Finset.range 512, term f (t * 512 + r) := by
  rw [Finset.sum_range]
  refine Finset.sum_congr rfl fun r _ => ?_
  unfold term
  have hr := r.isLt
  rw [dif_pos (show t * 512 + r.val < 4096 by omega)]
  exact h r _ rfl

/-- A property of every row of 4096, from one of every row of every block of 512. -/
theorem by_rows {N : ℕ} (hN : N = 8) {P : Fin 4096 → Prop} (h : ∀ (t : Fin N) (r : Fin 512) (i : Fin 4096), i.val = t.val * 512 + r.val → P i)
    (i : Fin 4096) : P i :=
  h ⟨i.val / 512, by omega⟩ ⟨i.val % 512, by omega⟩ i (by show i.val = i.val / 512 * 512 + i.val % 512; omega)

end Cert.Proof.Norm
-- ==== Proof.Norm2.lean ====
/-
The call `norm2`: the residual and its modulated norm, block of rows by block of rows, and the two arrays the call leaves.
-/
module

public import proofs.«01_k».proof.Proof.Products
public import proofs.«01_k».proof.Proof.Steps
public import proofs.«01_k».proof.Proof.Norm
public import proofs.«01_k».proof.Proof.Gen.Kernel51Ideal.Value
public import proofs.«01_k».proof.Proof.Gen.Reference51Ideal.Run

@[expose] public section

noncomputable section

namespace Cert.Proof.Norm2

section Call

open Cert.Kernel51Ideal Cert.Kernel51Ideal.Gen Idealize.ShloMosaic Idealize.ShloMosaic.TcCoe Products Steps Norm

/-- A block's row, and a block of one row. -/
abbrev row (v : FVec Ideal S512x1024 .f32) (r : Fin 512) : Fin 1024 → EReal := fun k => v (ix2 r k)
abbrev line (v : FVec Ideal S1x1024 .f32) : Fin 1024 → EReal := fun k => v (ix2 0 k)

section Body

variable (x0 : FVec Ideal S512x1024 .f32) (x1 : FVec Ideal S512x1024 .bf16) (x2 x3 x4 x5 : FVec Ideal S1x1024 .f32) (r : Fin 512) (j : Fin 1024)

/-- The residual's block. -/
theorem res_at : k0_pay1 (F := Ideal) x0 x1 x2 (ix2 r j) = res (row x0 r) (row x1 r) (line x2) j := by
  unfold k0_pay1 res
  pointwise

theorem out6_at : out0_6 (F := Ideal) x0 x1 x2 x3 x4 x5 (ix2 r j) = res (row x0 r) (row x1 r) (line x2) j := by
  unfold out0_6
  rw [View.canon_unit_zero (S := S512x1024) hz2]
  simp only [View.ld_unit_zero (S := S512x1024) hz2, View.ld_unit_zero (S := S1x1024) hz2]
  exact res_at x0 x1 x2 r j

/-- The norm's block. -/
theorem out7_at : out0_7 (F := Ideal) x0 x1 x2 x3 x4 x5 (ix2 r j)
    = modn (res (row x0 r) (row x1 r) (line x2)) (line x3) (line x4) (line x5) j := by
  unfold out0_7
  rw [View.canon_unit_zero (S := S512x1024) hz2]
  simp only [View.ld_unit_zero (S := S512x1024) hz2, View.ld_unit_zero (S := S1x1024) hz2]
  rw [← funext (res_at x0 x1 x2 r)]
  unfold k0_pay2
  generalize k0_pay1 (F := Ideal) x0 x1 x2 = U
  unfold modn unit msq
  pointwise

end Body

variable (m : (ℓ : Loc nD τ sig) → Buf (Elt Ideal) ℓ) (c : Dev nD)

/-- The arguments' rows. -/
abbrev argX (i : Fin 4096) : Fin 1024 → EReal := fun k => (m ((c : Thread nD τ).loc main_arg0) : FVec Ideal S4096x1024 .f32) (ix2 i k)
abbrev argO (i : Fin 4096) : Fin 1024 → EReal := fun k => (m ((c : Thread nD τ).loc main_arg1) : FVec Ideal S4096x1024 .f32) (ix2 i k)
abbrev argG : Fin 1024 → EReal := fun k => (m ((c : Thread nD τ).loc main_arg2) : FVec Ideal S1024 .f32) (ix1 k)
abbrev argN : Fin 1024 → EReal := fun k => (m ((c : Thread nD τ).loc main_arg3) : FVec Ideal S1024 .f32) (ix1 k)
abbrev argS : Fin 1024 → EReal := fun k => (m ((c : Thread nD τ).loc main_arg4) : FVec Ideal S1024 .f32) (ix1 k)
abbrev argB : Fin 1024 → EReal := fun k => (m ((c : Thread nD τ).loc main_arg5) : FVec Ideal S1024 .f32) (ix1 k)

/-- The blocks a grid point reads. -/
theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel

theorem blk0 (t : Fin cfg0.N) (r : Fin 512) (i : Fin 4096) (h : i.val = t.val * 512 + r.val) : row (iblk m c 0 t) r = argX m c i := by
  funext k
  have e' : V m c main_arg0 (ix2 i k) = argX m c i k := by
    rw [V_main_arg0]
  rw [← e']
  show iblk m c 0 t (ix2 r k) = _
  unfold iblk
  rw [View.read_apply]
  exact at2 (V m c main_arg0) i k _ (moved (idx0 t).1 h) (whole (idx0 t).2)

theorem blk1 (t : Fin cfg0.N) (r : Fin 512) (i : Fin 4096) (h : i.val = t.val * 512 + r.val) : row (iblk m c 1 t) r = argO m c i := by
  funext k
  have e : V m c main_v0 = (truncf .bf16 (m ((c : Thread nD τ).loc main_arg1) : FVec Ideal S4096x1024 .f32) bitsLt_bf16_f32 : FVec Ideal S4096x1024 .bf16) := by
    unfold V; after_reads_simp
  have e' : V m c main_v0 (ix2 i k) = argO m c i k := by
    rw [e]; pointwise
  rw [← e']
  show iblk m c 1 t (ix2 r k) = _
  unfold iblk
  rw [View.read_apply]
  exact at2 (V m c main_v0) i k _ (moved (idx1 t).1 h) (whole (idx1 t).2)

theorem blk2 (t : Fin cfg0.N) : line (iblk m c 2 t) = argG m c := by
  funext k
  have e : V m c main_v1 = (shapeCast S1x1024 (m ((c : Thread nD τ).loc main_arg2) : FVec Ideal S1024 .f32) shapeCasts_S1024_S1x1024 : FVec Ideal S1x1024 .f32) := by
    unfold V; after_reads_simp; rfl
  have e' : V m c main_v1 (ix2 0 k) = argG m c k := by
    rw [e]; pointwise
  rw [← e']
  show iblk m c 2 t (ix2 0 k) = _
  unfold iblk
  rw [View.read_apply]
  exact at2 (V m c main_v1) 0 k _ (whole (idx2 t).1) (whole (idx2 t).2)

theorem blk3 (t : Fin cfg0.N) : line (iblk m c 3 t) = argN m c := by
  funext k
  have e : V m c main_v2 = (shapeCast S1x1024 (m ((c : Thread nD τ).loc main_arg3) : FVec Ideal S1024 .f32) shapeCasts_S1024_S1x1024 : FVec Ideal S1x1024 .f32) := by
    unfold V; after_reads_simp; rfl
  have e' : V m c main_v2 (ix2 0 k) = argN m c k := by
    rw [e]; pointwise
  rw [← e']
  show iblk m c 3 t (ix2 0 k) = _
  unfold iblk
  rw [View.read_apply]
  exact at2 (V m c main_v2) 0 k _ (whole (idx3 t).1) (whole (idx3 t).2)

theorem blk4 (t : Fin cfg0.N) : line (iblk m c 4 t) = argS m c := by
  funext k
  have e : V m c main_v3 = (shapeCast S1x1024 (m ((c : Thread nD τ).loc main_arg4) : FVec Ideal S1024 .f32) shapeCasts_S1024_S1x1024 : FVec Ideal S1x1024 .f32) := by
    unfold V; after_reads_simp; rfl
  have e' : V m c main_v3 (ix2 0 k) = argS m c k := by
    rw [e]; pointwise
  rw [← e']
  show iblk m c 4 t (ix2 0 k) = _
  unfold iblk
  rw [View.read_apply]
  exact at2 (V m c main_v3) 0 k _ (whole (idx4 t).1) (whole (idx4 t).2)

theorem blk5 (t : Fin cfg0.N) : line (iblk m c 5 t) = argB m c := by
  funext k
  have e : V m c main_v4 = (shapeCast S1x1024 (m ((c : Thread nD τ).loc main_arg5) : FVec Ideal S1024 .f32) shapeCasts_S1024_S1x1024 : FVec Ideal S1x1024 .f32) := by
    unfold V; after_reads_simp; rfl
  have e' : V m c main_v4 (ix2 0 k) = argB m c k := by
    rw [e]; pointwise
  rw [← e']
  show iblk m c 5 t (ix2 0 k) = _
  unfold iblk
  rw [View.read_apply]
  exact at2 (V m c main_v4) 0 k _ (whole (idx5 t).1) (whole (idx5 t).2)

theorem idx6 : ∀ t : Fin cfg0.N, win0_6.index t 0 = t.val ∧ win0_6.index t 1 = 0 := by decide +kernel
theorem flush6 : ∀ t : Fin cfg0.N, (cfg0.win 6).flush t = true := by decide +kernel

/-- The residual. -/
theorem result6 (i : Fin 4096) (j : Fin 1024) : (dats m 0 c).arrAt 6 cfg0.N (ix2 i j) = res (argX m c i) (argO m c i) (argG m c) j := by
  refine by_rows (N := cfg0.N) (by decide) (P := fun i => (dats m 0 c).arrAt 6 cfg0.N (ix2 i j) = res (argX m c i) (argO m c i) (argG m c) j) (fun t r i h => ?_) i
  have hb := congrFun (Value.blocks6 m c t (flush6 t)) (ix2 r j)
  rw [Value.flushed6, View.read_apply] at hb
  refine (at2 ((dats m 0 c).arrAt 6 cfg0.N) i j _ (moved (idx6 t).1 h) (whole (idx6 t).2)).symm.trans (hb.trans ?_)
  refine (out6_at (iblk m c 0 t) (iblk m c 1 t) (iblk m c 2 t) (iblk m c 3 t) (iblk m c 4 t) (iblk m c 5 t) r j).trans ?_
  rw [blk0 m c t r i h, blk1 m c t r i h, blk2 m c t]

theorem idx7 : ∀ t : Fin cfg0.N, win0_7.index t 0 = t.val ∧ win0_7.index t 1 = 0 := by decide +kernel
theorem flush7 : ∀ t : Fin cfg0.N, (cfg0.win 7).flush t = true := by decide +kernel

/-- The norm. -/
theorem result7 (i : Fin 4096) (j : Fin 1024) : (dats m 0 c).arrAt 7 cfg0.N (ix2 i j) = modn (res (argX m c i) (argO m c i) (argG m c)) (argN m c) (argS m c) (argB m c) j := by
  refine by_rows (N := cfg0.N) (by decide) (P := fun i => (dats m 0 c).arrAt 7 cfg0.N (ix2 i j) = modn (res (argX m c i) (argO m c i) (argG m c)) (argN m c) (argS m c) (argB m c) j) (fun t r i h => ?_) i
  have hb := congrFun (Value.blocks7 m c t (flush7 t)) (ix2 r j)
  rw [Value.flushed7, View.read_apply] at hb
  refine (at2 ((dats m 0 c).arrAt 7 cfg0.N) i j _ (moved (idx7 t).1 h) (whole (idx7 t).2)).symm.trans (hb.trans ?_)
  refine (out7_at (iblk m c 0 t) (iblk m c 1 t) (iblk m c 2 t) (iblk m c 3 t) (iblk m c 4 t) (iblk m c 5 t) r j).trans ?_
  rw [blk0 m c t r i h, blk1 m c t r i h, blk2 m c t, blk3 m c t, blk4 m c t, blk5 m c t]

end Call

section Reference

open Cert.Reference51Ideal Cert.Reference51Ideal.Gen Idealize.ShloMosaic Idealize.ShloMosaic.TcCoe Norm

/-- The reference's residual and mean square. -/
def rU (x o : FVec Ideal S4096x1024 .f32) (g : FVec Ideal S1024 .f32) : FVec Ideal S4096x1024 .f32 := addf x (mulf (broadcastInDim S4096x1024 ![0, 1] bcast_S1x1024_S4096x1024_0_1 (broadcastInDim S1x1024 ![1] bcast_S1024_S1x1024_1 g)) o)
def rM (u : FVec Ideal S4096x1024 .f32) : FVec Ideal S4096x1 .f32 := addf (Host.divf (broadcastInDim S4096x1 ![0] bcast_S4096_S4096x1_0 (Host.reduceAdd (mulf u u) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def rH (x o : FVec Ideal S4096x1024 .f32) (g n s b : FVec Ideal S1024 .f32) : FVec Ideal S4096x1024 .bf16 := truncf .bf16 (addf (mulf (mulf (mulf (rU x o g) (broadcastInDim S4096x1024 ![0, 1] bcast_S4096x1_S4096x1024_0_1 (Host.rsqrt (rM (rU x o g))))) (broadcastInDim S4096x1024 ![0, 1] bcast_S1x1024_S4096x1024_0_1 (broadcastInDim S1x1024 ![1] bcast_S1024_S1x1024_1 n))) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) s)))) (broadcastInDim S4096x1024 ![0, 1] bcast_S1x1024_S4096x1024_0_1 (broadcastInDim S1x1024 ![1] bcast_S1024_S1x1024_1 b))) bitsLt_bf16_f32

variable (x o : FVec Ideal S4096x1024 .f32) (g n s b : FVec Ideal S1024 .f32) (i : Fin 4096) (j : Fin 1024)

theorem rU_at : rU x o g (ix2 i j) = res (fun k => x (ix2 i k)) (fun k => o (ix2 i k)) (fun k => g (ix1 k)) j := by
  unfold rU res
  pointwise

theorem rM_at (u : FVec Ideal S4096x1024 .f32) : rM u (ix2 i 0) = msq (fun k => u (ix2 i k)) := by
  unfold rM msq
  pointwise

theorem rH_at : rH x o g n s b (ix2 i j) = modn (res (fun k => x (ix2 i k)) (fun k => o (ix2 i k)) (fun k => g (ix1 k))) (fun k => n (ix1 k)) (fun k => s (ix1 k)) (fun k => b (ix1 k)) j := by
  unfold rH modn unit
  rw [← funext (rU_at x o g i), ← rM_at]
  generalize rU x o g = u
  generalize rM u = M
  pointwise

/-- The reference ends, its arguments unchanged and every counter at zero. -/
theorem ref_frame : Cert.quiescent_Reference51Ideal := fun m ρ _ =>
  (θ_run defs _ _).mono (fun r h => ⟨fun c => (h c).2.2, Idealize.ShloMosaic.sem_eq_zero_of_no_sems (by decide) r.2⟩) (Value.run m ρ)

end Reference

open Idealize.ShloMosaic Idealize.ShloMosaic.TcCoe Cert.Kernel51Ideal.Gen in
/-- The call and its reference end with the same arrays, at every argument. -/
theorem algebraic : Cert.algebraic_Kernel51Ideal_Reference51Ideal := by
  intro m g m' g' _ heq
  refine ⟨fun c => (dats m 0 c).arrAt 6 Cert.Kernel51Ideal.cfg0.N, fun c => (dats m 0 c).arrAt 7 Cert.Kernel51Ideal.cfg0.N, Cert.Kernel51Ideal.Value.run_blocks m g,
    (θ_run Cert.Reference51Ideal.defs _ _).mono (fun r h c => ?_) (Cert.Reference51Ideal.Value.run m' g')⟩
  obtain ⟨h0, h1, ha⟩ := h c
  obtain ⟨e0, e1, e2, e3, e4, e5⟩ := heq c
  rw [e0, e1, e2] at h0
  rw [e0, e1, e2, e3, e4, e5] at h1
  refine ⟨h0.trans ?_, h1.trans ?_, ha⟩
  · funext y
    obtain ⟨i, j, rfl⟩ := Products.rowcol (n0 := 4096) (n1 := 1024) y
    exact (rU_at _ _ _ i j).trans (result6 m c i j).symm
  · funext y
    obtain ⟨i, j, rfl⟩ := Products.rowcol (n0 := 4096) (n1 := 1024) y
    exact (rH_at _ _ _ _ _ _ i j).trans (result7 m c i j).symm

end Cert.Proof.Norm2
-- ==== Proof.Norm2Bwd.lean ====
/-
The call `norm2_bwd`: the gradient of the residual and its modulated norm, block of rows by block of rows, with the four sums over the rows, and the six arrays the
call leaves.
-/
module

public import proofs.«01_k».proof.Proof.Products
public import proofs.«01_k».proof.Proof.Steps
public import proofs.«01_k».proof.Proof.Norm
public import proofs.«01_k».proof.Proof.Gen.Kernel52Ideal.Value
public import proofs.«01_k».proof.Proof.Gen.Reference52Ideal.Run

@[expose] public section

noncomputable section

namespace Cert.Proof.Norm2Bwd

section Call

open Cert.Kernel52Ideal Cert.Kernel52Ideal.Gen Idealize.ShloMosaic Idealize.ShloMosaic.TcCoe Products Steps Norm

/-- A block's row, and a block of one row. -/
abbrev row (v : FVec Ideal S512x1024 .f32) (r : Fin 512) : Fin 1024 → EReal := fun k => v (ix2 r k)
abbrev line (v : FVec Ideal S1x1024 .f32) : Fin 1024 → EReal := fun k => v (ix2 0 k)

section Body

variable (x0 : FVec Ideal S512x1024 .f32) (x1 x2 : FVec Ideal S512x1024 .bf16) (x3 : FVec Ideal S512x1024 .f32) (x4 x5 x6 x7 : FVec Ideal S1x1024 .f32) (r : Fin 512) (j : Fin 1024)

/-- The body's values at an element: the residual, its mean square, the factors of its gradient. -/
theorem u_at : k0_pay8 (F := Ideal) x0 x1 x4 (ix2 r j) = res (row x0 r) (row x1 r) (line x4) j := by
  unfold k0_pay8 k0_pay6 k0_pay4 res
  pointwise

theorem msq_at : k0_pay9 (F := Ideal) x0 x1 x4 (ix2 r 0) = msq (res (row x0 r) (row x1 r) (line x4)) := by
  rw [← funext (u_at x0 x1 x4 r)]
  unfold k0_pay9 msq
  generalize k0_pay8 (F := Ideal) x0 x1 x4 = U
  pointwise

theorem rs_at : k0_pay10 (F := Ideal) x0 x1 x4 (ix2 r 0) = Ideal.rsqrt (msq (res (row x0 r) (row x1 r) (line x4))) := by
  rw [← msq_at]
  unfold k0_pay10
  pointwise

theorem sl_at : k0_pay11 (F := Ideal) x0 x1 x4 (ix2 r 0)
    = Ideal.ofBits .f32 0xBF000000#32 * Ideal.div (Ideal.rsqrt (msq (res (row x0 r) (row x1 r) (line x4)))) (msq (res (row x0 r) (row x1 r) (line x4))) := by
  rw [← rs_at, ← msq_at]
  unfold k0_pay11
  pointwise

theorem unit_at : k0_pay12 (F := Ideal) x0 x1 x4 (ix2 r j) = unit (res (row x0 r) (row x1 r) (line x4)) j := by
  unfold unit
  rw [← rs_at, ← u_at]
  unfold k0_pay12
  pointwise

theorem lin_at : k0_pay17 (k0_pay5 (F := Ideal) x2) (k0_pay13 x6) (ix2 r j) = lin (row x2 r) (line x6) j := by
  unfold k0_pay17 k0_pay5 k0_pay13 lin
  pointwise

/-- The residual's cotangent, from its parts. -/
theorem parts_at (v6 v7 v16 : FVec Ideal S512x1024 .f32) (v11 v33 : FVec Ideal S1x1024 .f32) (v24 v27 : FVec Ideal S512x1 .f32) :
    k0_pay20 (F := Ideal) v6 v7 v11 v16 v24 v27 v33 (ix2 r j)
      = v7 (ix2 r j) + k0_pay17 v6 v33 (ix2 r j) * v11 (ix2 0 j) * v24 (ix2 r 0)
        + v16 (ix2 r j) * Ideal.div ((∑ k, v16 (ix2 r k) * (k0_pay17 v6 v33 (ix2 r k) * v11 (ix2 0 k))) * v27 (ix2 r 0)) (Ideal.ofBits .f32 0x44800000#32)
        + Ideal.div ((∑ k, v16 (ix2 r k) * (k0_pay17 v6 v33 (ix2 r k) * v11 (ix2 0 k))) * v27 (ix2 r 0)) (Ideal.ofBits .f32 0x44800000#32) * v16 (ix2 r j) := by
  unfold k0_pay20 k0_pay19
  generalize k0_pay17 (F := Ideal) v6 v33 = L
  pointwise
  simp only [Fin.sum_univ_one]

theorem dres_at : k0_pay20 (k0_pay5 (F := Ideal) x2) x3 (k0_pay7 x5) (k0_pay8 x0 x1 x4) (k0_pay10 x0 x1 x4) (k0_pay11 x0 x1 x4) (k0_pay13 x6) (ix2 r j) = dres (res (row x0 r) (row x1 r) (line x4)) (dun (row x2 r) (line x6) (line x5)) (row x3 r) j := by
  rw [parts_at, rs_at, sl_at, u_at, lin_at]
  simp only [u_at, lin_at]
  unfold k0_pay7 dres half dun
  pointwise

theorem d19_at : k0_pay19 (k0_pay5 (F := Ideal) x2) x3 (k0_pay7 x5) (k0_pay8 x0 x1 x4) (k0_pay10 x0 x1 x4) (k0_pay11 x0 x1 x4) (k0_pay13 x6) (ix2 r j) = dres (res (row x0 r) (row x1 r) (line x4)) (dun (row x2 r) (line x6) (line x5)) (row x3 r) j := by
  rw [← dres_at]
  unfold k0_pay20
  generalize k0_pay19 (F := Ideal) _ _ _ _ _ _ _ = D
  pointwise

theorem do_at : k0_pay21 (k0_pay5 (F := Ideal) x2) x3 (k0_pay6 x4) (k0_pay7 x5) (k0_pay8 x0 x1 x4) (k0_pay10 x0 x1 x4) (k0_pay11 x0 x1 x4) (k0_pay13 x6) (ix2 r j) = line x4 j * dres (res (row x0 r) (row x1 r) (line x4)) (dun (row x2 r) (line x6) (line x5)) (row x3 r) j := by
  rw [← dres_at]
  unfold k0_pay21
  generalize k0_pay20 (F := Ideal) _ _ _ _ _ _ _ = D
  unfold k0_pay6
  pointwise

/-- The four sums over the block's rows, added to what was there. -/
theorem dgate_at (a : FVec Ideal S1x1024 .f32) : k0_pay26 (k0_pay4 (F := Ideal) x1) (k0_pay5 (F := Ideal) x2) x3 (k0_pay7 x5) (k0_pay8 x0 x1 x4) (k0_pay10 x0 x1 x4) (k0_pay11 x0 x1 x4) (k0_pay13 x6) a (ix2 0 j)
    = a (ix2 0 j) + ∑ r : Fin 512, dres (res (row x0 r) (row x1 r) (line x4)) (dun (row x2 r) (line x6) (line x5)) (row x3 r) j * row x1 r j := by
  simp only [← dres_at]
  unfold k0_pay26
  generalize k0_pay20 (F := Ideal) _ _ _ _ _ _ _ = D
  unfold k0_pay4
  pointwise

theorem dnorm_at (a : FVec Ideal S1x1024 .f32) : k0_pay1 (k0_pay18 (k0_pay5 (F := Ideal) x2) (k0_pay12 x0 x1 x4) (k0_pay13 x6)) a (ix2 0 j)
    = a (ix2 0 j) + ∑ r : Fin 512, unit (res (row x0 r) (row x1 r) (line x4)) j * lin (row x2 r) (line x6) j := by
  simp only [← unit_at, ← lin_at]
  unfold k0_pay1 k0_pay18
  generalize k0_pay17 (F := Ideal) _ _ = L
  generalize k0_pay12 (F := Ideal) _ _ _ = U
  pointwise

theorem dscale_at (a : FVec Ideal S1x1024 .f32) : k0_pay2 (k0_pay16 (k0_pay15 (F := Ideal) x0 x1 x2 x4 x5)) a (ix2 0 j)
    = a (ix2 0 j) + ∑ r : Fin 512, unit (res (row x0 r) (row x1 r) (line x4)) j * line x5 j * row x2 r j := by
  simp only [← unit_at]
  unfold k0_pay2 k0_pay16 k0_pay15
  generalize k0_pay12 (F := Ideal) _ _ _ = U
  unfold k0_pay7 k0_pay5
  pointwise

theorem dshift_at (a : FVec Ideal S1x1024 .f32) : k0_pay3 (k0_pay14 (F := Ideal) x2) a (ix2 0 j) = a (ix2 0 j) + ∑ r : Fin 512, row x2 r j := by
  unfold k0_pay3 k0_pay14 k0_pay5
  pointwise

theorem zeros_at : k0_pay22 (F := Ideal) (ix2 0 j) = (0 : EReal) ∧ k0_pay23 (F := Ideal) (ix2 0 j) = (0 : EReal)
    ∧ k0_pay24 (F := Ideal) (ix2 0 j) = (0 : EReal) ∧ k0_pay25 (F := Ideal) (ix2 0 j) = (0 : EReal) := by
  unfold k0_pay22 k0_pay23 k0_pay24 k0_pay25
  refine ⟨?_, ?_, ?_, ?_⟩ <;> pointwise

variable (c : Dev nD) (i : grid0.Coords)
  (a1 : Memref sig .tc .vmem S512x1024 .f32) (h1 : a1.IsWhole)
  (a2 : Memref sig .tc .vmem S512x1024 .bf16) (h2 : a2.IsWhole)
  (a3 : Memref sig .tc .vmem S512x1024 .bf16) (h3 : a3.IsWhole)
  (a4 : Memref sig .tc .vmem S512x1024 .f32) (h4 : a4.IsWhole)
  (a5 : Memref sig .tc .vmem S1x1024 .f32) (h5 : a5.IsWhole)
  (a6 : Memref sig .tc .vmem S1x1024 .f32) (h6 : a6.IsWhole)
  (a7 : Memref sig .tc .vmem S1x1024 .f32) (h7 : a7.IsWhole)
  (a8 : Memref sig .tc .vmem S1x1024 .f32) (h8 : a8.IsWhole)
  (a9 : Memref sig .tc .vmem S512x1024 .f32) (h9 : a9.IsWhole)
  (a10 : Memref sig .tc .vmem S512x1024 .bf16) (h10 : a10.IsWhole)
  (a11 : Memref sig .tc .vmem S1x1024 .f32) (h11 : a11.IsWhole)
  (a12 : Memref sig .tc .vmem S1x1024 .f32) (h12 : a12.IsWhole)
  (a13 : Memref sig .tc .vmem S1x1024 .f32) (h13 : a13.IsWhole)
  (a14 : Memref sig .tc .vmem S1x1024 .f32) (h14 : a14.IsWhole)
  (y10 y11 y12 y13 : FVec Ideal S1x1024 .f32)

/-- What the body leaves in its six outputs at the first point. -/
theorem outs_A (hc : cond0_0 i) : out0_A_8 (F := Ideal) c i a1 h1 a2 h2 a3 h3 a4 h4 a5 h5 a6 h6 a7 h7 a8 h8 a9 h9 a10 h10 a11 h11 a12 h12 a13 h13 a14 h14 hc x0 x1 x2 x3 x4 x5 x6 x7
      = k0_pay19 (k0_pay5 (F := Ideal) x2) x3 (k0_pay7 x5) (k0_pay8 x0 x1 x4) (k0_pay10 x0 x1 x4) (k0_pay11 x0 x1 x4) (k0_pay13 x6)
    ∧ out0_A_9 (F := Ideal) c i a1 h1 a2 h2 a3 h3 a4 h4 a5 h5 a6 h6 a7 h7 a8 h8 a9 h9 a10 h10 a11 h11 a12 h12 a13 h13 a14 h14 hc x0 x1 x2 x3 x4 x5 x6 x7
      = k0_pay21 (k0_pay5 (F := Ideal) x2) x3 (k0_pay6 x4) (k0_pay7 x5) (k0_pay8 x0 x1 x4) (k0_pay10 x0 x1 x4) (k0_pay11 x0 x1 x4) (k0_pay13 x6)
    ∧ out0_A_10 (F := Ideal) c i a1 h1 a2 h2 a3 h3 a4 h4 a5 h5 a6 h6 a7 h7 a8 h8 a9 h9 a10 h10 a11 h11 a12 h12 a13 h13 a14 h14 hc x0 x1 x2 x3 x4 x5 x6 x7
      = k0_pay26 (k0_pay4 (F := Ideal) x1) (k0_pay5 (F := Ideal) x2) x3 (k0_pay7 x5) (k0_pay8 x0 x1 x4) (k0_pay10 x0 x1 x4) (k0_pay11 x0 x1 x4) (k0_pay13 x6) (k0_pay22 (F := Ideal))
    ∧ out0_A_11 (F := Ideal) c i a1 h1 a2 h2 a3 h3 a4 h4 a5 h5 a6 h6 a7 h7 a8 h8 a9 h9 a10 h10 a11 h11 a12 h12 a13 h13 a14 h14 hc x0 x1 x2 x3 x4 x5 x6 x7
      = k0_pay1 (k0_pay18 (k0_pay5 (F := Ideal) x2) (k0_pay12 x0 x1 x4) (k0_pay13 x6)) (k0_pay23 (F := Ideal))
    ∧ out0_A_12 (F := Ideal) c i a1 h1 a2 h2 a3 h3 a4 h4 a5 h5 a6 h6 a7 h7 a8 h8 a9 h9 a10 h10 a11 h11 a12 h12 a13 h13 a14 h14 hc x0 x1 x2 x3 x4 x5 x6 x7
      = k0_pay2 (k0_pay16 (k0_pay15 (F := Ideal) x0 x1 x2 x4 x5)) (k0_pay24 (F := Ideal))
    ∧ out0_A_13 (F := Ideal) c i a1 h1 a2 h2 a3 h3 a4 h4 a5 h5 a6 h6 a7 h7 a8 h8 a9 h9 a10 h10 a11 h11 a12 h12 a13 h13 a14 h14 hc x0 x1 x2 x3 x4 x5 x6 x7
      = k0_pay3 (k0_pay14 (F := Ideal) x2) (k0_pay25 (F := Ideal)) := by
  refine ⟨?_, ?_, ?_, ?_, ?_, ?_⟩ <;>
  · first | unfold out0_A_8 | unfold out0_A_9 | unfold out0_A_10 | unfold out0_A_11 | unfold out0_A_12 | unfold out0_A_13
    rw [View.read_writes_junk_eq_canon]
    unfold kernelRun0_A
    dsimp only
    sl_unfold_words
    simp only [View.readAt_eq_ld, h1.read_unread, h2.read_unread, h3.read_unread, h4.read_unread, h5.read_unread, h6.read_unread, h7.read_unread, h8.read_unread, h11.read_unread, h12.read_unread, h13.read_unread, h14.read_unread]
    first | rw [View.canon_unit_zero (S := S512x1024) hz2] | rw [View.canon_unit_zero (S := S1x1024) hz2] | rw [View.canon_cons_unit_zero (S := S1x1024) hz2]
    try simp only [View.readCov_unit_zero (S := S1x1024) _ hz2]
    try simp only [View.ld_unit_zero (S := S512x1024) hz2, View.ld_unit_zero (S := S1x1024) hz2]

/-- What the body leaves in its six outputs at a later point. -/
theorem outs_B (hc : ¬cond0_0 i) : out0_B_8 (F := Ideal) c i a1 h1 a2 h2 a3 h3 a4 h4 a5 h5 a6 h6 a7 h7 a8 h8 a9 h9 a10 h10 a11 h11 a12 h12 a13 h13 a14 h14 hc x0 x1 x2 x3 x4 x5 x6 x7 y10 y11 y12 y13
      = k0_pay19 (k0_pay5 (F := Ideal) x2) x3 (k0_pay7 x5) (k0_pay8 x0 x1 x4) (k0_pay10 x0 x1 x4) (k0_pay11 x0 x1 x4) (k0_pay13 x6)
    ∧ out0_B_9 (F := Ideal) c i a1 h1 a2 h2 a3 h3 a4 h4 a5 h5 a6 h6 a7 h7 a8 h8 a9 h9 a10 h10 a11 h11 a12 h12 a13 h13 a14 h14 hc x0 x1 x2 x3 x4 x5 x6 x7 y10 y11 y12 y13
      = k0_pay21 (k0_pay5 (F := Ideal) x2) x3 (k0_pay6 x4) (k0_pay7 x5) (k0_pay8 x0 x1 x4) (k0_pay10 x0 x1 x4) (k0_pay11 x0 x1 x4) (k0_pay13 x6)
    ∧ out0_B_10 (F := Ideal) c i a1 h1 a2 h2 a3 h3 a4 h4 a5 h5 a6 h6 a7 h7 a8 h8 a9 h9 a10 h10 a11 h11 a12 h12 a13 h13 a14 h14 hc x0 x1 x2 x3 x4 x5 x6 x7 y10 y11 y12 y13
      = k0_pay26 (k0_pay4 (F := Ideal) x1) (k0_pay5 (F := Ideal) x2) x3 (k0_pay7 x5) (k0_pay8 x0 x1 x4) (k0_pay10 x0 x1 x4) (k0_pay11 x0 x1 x4) (k0_pay13 x6) y10
    ∧ out0_B_11 (F := Ideal) c i a1 h1 a2 h2 a3 h3 a4 h4 a5 h5 a6 h6 a7 h7 a8 h8 a9 h9 a10 h10 a11 h11 a12 h12 a13 h13 a14 h14 hc x0 x1 x2 x3 x4 x5 x6 x7 y10 y11 y12 y13
      = k0_pay1 (k0_pay18 (k0_pay5 (F := Ideal) x2) (k0_pay12 x0 x1 x4) (k0_pay13 x6)) y11
    ∧ out0_B_12 (F := Ideal) c i a1 h1 a2 h2 a3 h3 a4 h4 a5 h5 a6 h6 a7 h7 a8 h8 a9 h9 a10 h10 a11 h11 a12 h12 a13 h13 a14 h14 hc x0 x1 x2 x3 x4 x5 x6 x7 y10 y11 y12 y13
      = k0_pay2 (k0_pay16 (k0_pay15 (F := Ideal) x0 x1 x2 x4 x5)) y12
    ∧ out0_B_13 (F := Ideal) c i a1 h1 a2 h2 a3 h3 a4 h4 a5 h5 a6 h6 a7 h7 a8 h8 a9 h9 a10 h10 a11 h11 a12 h12 a13 h13 a14 h14 hc x0 x1 x2 x3 x4 x5 x6 x7 y10 y11 y12 y13
      = k0_pay3 (k0_pay14 (F := Ideal) x2) y13 := by
  refine ⟨?_, ?_, ?_, ?_, ?_, ?_⟩ <;>
  · first | unfold out0_B_8 | unfold out0_B_9 | unfold out0_B_10 | unfold out0_B_11 | unfold out0_B_12 | unfold out0_B_13
    rw [View.read_writes_junk_eq_canon]
    unfold kernelRun0_B
    dsimp only
    sl_unfold_words
    simp only [View.readAt_eq_ld, h1.read_unread, h2.read_unread, h3.read_unread, h4.read_unread, h5.read_unread, h6.read_unread, h7.read_unread, h8.read_unread, h11.read_unread, h12.read_unread, h13.read_unread, h14.read_unread]
    first | rw [View.canon_unit_zero (S := S512x1024) hz2] | rw [View.canon_unit_zero (S := S1x1024) hz2] | rw [View.canon_cons_unit_zero (S := S1x1024) hz2]
    try simp only [View.readCov_unit_zero (S := S1x1024) _ hz2]
    try simp only [View.ld_unit_zero (S := S512x1024) hz2, View.ld_unit_zero (S := S1x1024) hz2]

end Body

variable (m : (ℓ : Loc nD τ sig) → Buf (Elt Ideal) ℓ) (c : Dev nD)

/-- The arguments' rows. -/
abbrev argX (i : Fin 4096) : Fin 1024 → EReal := fun k => (m ((c : Thread nD τ).loc main_arg0) : FVec Ideal S4096x1024 .f32) (ix2 i k)
abbrev argO (i : Fin 4096) : Fin 1024 → EReal := fun k => (m ((c : Thread nD τ).loc main_arg1) : FVec Ideal S4096x1024 .f32) (ix2 i k)
abbrev argH (i : Fin 4096) : Fin 1024 → EReal := fun k => (m ((c : Thread nD τ).loc main_arg6) : FVec Ideal S4096x1024 .f32) (ix2 i k)
abbrev argD (i : Fin 4096) : Fin 1024 → EReal := fun k => (m ((c : Thread nD τ).loc main_arg7) : FVec Ideal S4096x1024 .f32) (ix2 i k)
abbrev argG : Fin 1024 → EReal := fun k => (m ((c : Thread nD τ).loc main_arg2) : FVec Ideal S1024 .f32) (ix1 k)
abbrev argN : Fin 1024 → EReal := fun k => (m ((c : Thread nD τ).loc main_arg3) : FVec Ideal S1024 .f32) (ix1 k)
abbrev argS : Fin 1024 → EReal := fun k => (m ((c : Thread nD τ).loc main_arg4) : FVec Ideal S1024 .f32) (ix1 k)

/-- The blocks a grid point reads. -/
theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel

theorem blk0 (t : Fin cfg0.N) (r : Fin 512) (i : Fin 4096) (h : i.val = t.val * 512 + r.val) : row (iblk m c 0 t) r = argX m c i := by
  funext k
  have e' : V m c main_arg0 (ix2 i k) = argX m c i k := by
    rw [V_main_arg0]
  rw [← e']
  show iblk m c 0 t (ix2 r k) = _
  unfold iblk
  rw [View.read_apply]
  exact at2 (V m c main_arg0) i k _ (moved (idx0 t).1 h) (whole (idx0 t).2)

theorem blk1 (t : Fin cfg0.N) (r : Fin 512) (i : Fin 4096) (h : i.val = t.val * 512 + r.val) : row (iblk m c 1 t) r = argO m c i := by
  funext k
  have e : V m c main_v0 = (truncf .bf16 (m ((c : Thread nD τ).loc main_arg1) : FVec Ideal S4096x1024 .f32) bitsLt_bf16_f32 : FVec Ideal S4096x1024 .bf16) := by
    unfold V; after_reads_simp
  have e' : V m c main_v0 (ix2 i k) = argO m c i k := by
    rw [e]; pointwise
  rw [← e']
  show iblk m c 1 t (ix2 r k) = _
  unfold iblk
  rw [View.read_apply]
  exact at2 (V m c main_v0) i k _ (moved (idx1 t).1 h) (whole (idx1 t).2)

theorem blk2 (t : Fin cfg0.N) (r : Fin 512) (i : Fin 4096) (h : i.val = t.val * 512 + r.val) : row (iblk m c 2 t) r = argH m c i := by
  funext k
  have e : V m c main_v1 = (truncf .bf16 (m ((c : Thread nD τ).loc main_arg6) : FVec Ideal S4096x1024 .f32) bitsLt_bf16_f32 : FVec Ideal S4096x1024 .bf16) := by
    unfold V; after_reads_simp
  have e' : V m c main_v1 (ix2 i k) = argH m c i k := by
    rw [e]; pointwise
  rw [← e']
  show iblk m c 2 t (ix2 r k) = _
  unfold iblk
  rw [View.read_apply]
  exact at2 (V m c main_v1) i k _ (moved (idx2 t).1 h) (whole (idx2 t).2)

theorem blk3 (t : Fin cfg0.N) (r : Fin 512) (i : Fin 4096) (h : i.val = t.val * 512 + r.val) : row (iblk m c 3 t) r = argD m c i := by
  funext k
  have e' : V m c main_arg7 (ix2 i k) = argD m c i k := by
    rw [V_main_arg7]
  rw [← e']
  show iblk m c 3 t (ix2 r k) = _
  unfold iblk
  rw [View.read_apply]
  exact at2 (V m c main_arg7) i k _ (moved (idx3 t).1 h) (whole (idx3 t).2)

theorem blk4 (t : Fin cfg0.N) : line (iblk m c 4 t) = argG m c := by
  funext k
  have e : V m c main_v2 = (shapeCast S1x1024 (m ((c : Thread nD τ).loc main_arg2) : FVec Ideal S1024 .f32) shapeCasts_S1024_S1x1024 : FVec Ideal S1x1024 .f32) := by
    unfold V; after_reads_simp; rfl
  have e' : V m c main_v2 (ix2 0 k) = argG m c k := by
    rw [e]; pointwise
  rw [← e']
  show iblk m c 4 t (ix2 0 k) = _
  unfold iblk
  rw [View.read_apply]
  exact at2 (V m c main_v2) 0 k _ (whole (idx4 t).1) (whole (idx4 t).2)

theorem blk5 (t : Fin cfg0.N) : line (iblk m c 5 t) = argN m c := by
  funext k
  have e : V m c main_v3 = (shapeCast S1x1024 (m ((c : Thread nD τ).loc main_arg3) : FVec Ideal S1024 .f32) shapeCasts_S1024_S1x1024 : FVec Ideal S1x1024 .f32) := by
    unfold V; after_reads_simp; rfl
  have e' : V m c main_v3 (ix2 0 k) = argN m c k := by
    rw [e]; pointwise
  rw [← e']
  show iblk m c 5 t (ix2 0 k) = _
  unfold iblk
  rw [View.read_apply]
  exact at2 (V m c main_v3) 0 k _ (whole (idx5 t).1) (whole (idx5 t).2)

theorem blk6 (t : Fin cfg0.N) : line (iblk m c 6 t) = argS m c := by
  funext k
  have e : V m c main_v4 = (shapeCast S1x1024 (m ((c : Thread nD τ).loc main_arg4) : FVec Ideal S1024 .f32) shapeCasts_S1024_S1x1024 : FVec Ideal S1x1024 .f32) := by
    unfold V; after_reads_simp; rfl
  have e' : V m c main_v4 (ix2 0 k) = argS m c k := by
    rw [e]; pointwise
  rw [← e']
  show iblk m c 6 t (ix2 0 k) = _
  unfold iblk
  rw [View.read_apply]
  exact at2 (V m c main_v4) 0 k _ (whole (idx6 t).1) (whole (idx6 t).2)

/-- The residual's cotangent over the whole arrays. -/
def DX (i : Fin 4096) (j : Fin 1024) : EReal := dres (res (argX m c i) (argO m c i) (argG m c)) (dun (argH m c i) (argS m c) (argN m c)) (argD m c i) j
def UN (i : Fin 4096) (j : Fin 1024) : EReal := unit (res (argX m c i) (argO m c i) (argG m c)) j

/-- A later point is not the first of its eight. -/
theorem later (n : ℕ) (h : n + 1 < cfg0.N) : ¬(n + 1) % 8 = 0 := by
  have e : cfg0.N = 8 := by decide
  omega

theorem idx8 : ∀ t : Fin cfg0.N, win0_8.index t 0 = t.val ∧ win0_8.index t 1 = 0 := by decide +kernel
theorem flush8 : ∀ t : Fin cfg0.N, (cfg0.win 8).flush t = true := by decide +kernel

/-- The input's gradient. -/
theorem result8 (i : Fin 4096) (j : Fin 1024) : (dats m 0 c).arrAt 8 cfg0.N (ix2 i j) = DX m c i j := by
  refine by_rows (N := cfg0.N) (by decide) (P := fun i => (dats m 0 c).arrAt 8 cfg0.N (ix2 i j) = DX m c i j) (fun t r i h => ?_) i
  have hb := congrFun (Value.blocks8 m c t (flush8 t)) (ix2 r j)
  rw [Value.flushed8, View.read_apply] at hb
  refine (at2 ((dats m 0 c).arrAt 8 cfg0.N) i j _ (moved (idx8 t).1 h) (whole (idx8 t).2)).symm.trans (hb.trans ?_)
  show (outsAt0 m c t.val t.isLt).1 (ix2 r j) = _
  by_cases h0 : t.val % 8 = 0
  · rw [outsAt0_A m c t h0]
    dsimp only
    rw [(outs_A (iblk m c 0 t) (iblk m c 1 t) (iblk m c 2 t) (iblk m c 3 t) (iblk m c 4 t) (iblk m c 5 t) (iblk m c 6 t) (iblk m c 7 t) c _ _ _ _ _ _ _ _ _ _ _ _ _ _ _ _ _ _ _ _ _ _ _ _ _ _ _ _ _ _).1, d19_at, blk0 m c t r i h, blk1 m c t r i h, blk2 m c t r i h, blk3 m c t r i h, blk4 m c t, blk5 m c t, blk6 m c t]
    rfl
  · rw [outsAt0_B m c t h0]
    dsimp only
    rw [(outs_B (iblk m c 0 t) (iblk m c 1 t) (iblk m c 2 t) (iblk m c 3 t) (iblk m c 4 t) (iblk m c 5 t) (iblk m c 6 t) (iblk m c 7 t) c _ _ _ _ _ _ _ _ _ _ _ _ _ _ _ _ _ _ _ _ _ _ _ _ _ _ _ _ _ _ _ _ _ _).1, d19_at, blk0 m c t r i h, blk1 m c t r i h, blk2 m c t r i h, blk3 m c t r i h, blk4 m c t, blk5 m c t, blk6 m c t]
    rfl

theorem idx9 : ∀ t : Fin cfg0.N, win0_9.index t 0 = t.val ∧ win0_9.index t 1 = 0 := by decide +kernel
theorem flush9 : ∀ t : Fin cfg0.N, (cfg0.win 9).flush t = true := by decide +kernel

/-- The output's gradient. -/
theorem result9 (i : Fin 4096) (j : Fin 1024) : (dats m 0 c).arrAt 9 cfg0.N (ix2 i j) = argG m c j * DX m c i j := by
  refine by_rows (N := cfg0.N) (by decide) (P := fun i => (dats m 0 c).arrAt 9 cfg0.N (ix2 i j) = argG m c j * DX m c i j) (fun t r i h => ?_) i
  have hb := congrFun (Value.blocks9 m c t (flush9 t)) (ix2 r j)
  rw [Value.flushed9, View.read_apply] at hb
  refine (at2 ((dats m 0 c).arrAt 9 cfg0.N) i j _ (moved (idx9 t).1 h) (whole (idx9 t).2)).symm.trans (hb.trans ?_)
  show (outsAt0 m c t.val t.isLt).2.1 (ix2 r j) = _
  by_cases h0 : t.val % 8 = 0
  · rw [outsAt0_A m c t h0]
    dsimp only
    rw [(outs_A (iblk m c 0 t) (iblk m c 1 t) (iblk m c 2 t) (iblk m c 3 t) (iblk m c 4 t) (iblk m c 5 t) (iblk m c 6 t) (iblk m c 7 t) c _ _ _ _ _ _ _ _ _ _ _ _ _ _ _ _ _ _ _ _ _ _ _ _ _ _ _ _ _ _).2.1, do_at, blk0 m c t r i h, blk1 m c t r i h, blk2 m c t r i h, blk3 m c t r i h, blk4 m c t, blk5 m c t, blk6 m c t]
    rfl
  · rw [outsAt0_B m c t h0]
    dsimp only
    rw [(outs_B (iblk m c 0 t) (iblk m c 1 t) (iblk m c 2 t) (iblk m c 3 t) (iblk m c 4 t) (iblk m c 5 t) (iblk m c 6 t) (iblk m c 7 t) c _ _ _ _ _ _ _ _ _ _ _ _ _ _ _ _ _ _ _ _ _ _ _ _ _ _ _ _ _ _ _ _ _ _).2.1, do_at, blk0 m c t r i h, blk1 m c t r i h, blk2 m c t r i h, blk3 m c t r i h, blk4 m c t, blk5 m c t, blk6 m c t]
    rfl

theorem idx10 : ∀ t : Fin cfg0.N, win0_10.index t 0 = 0 ∧ win0_10.index t 1 = 0 := by decide +kernel
theorem flush10 : ∀ t : Fin cfg0.N, (cfg0.win 10).flush t = decide (t.val = 7) := by decide +kernel

theorem sum10 (j : Fin 1024) : ∀ (n : ℕ) (hn : n < cfg0.N), (outsAt0 m c n hn).2.2.1 (ix2 0 j) = ∑ k ∈ Finset.range (n * 512 + 512), term (fun k => DX m c k j * argO m c k j) k := by
  refine by_parts (term (fun k => DX m c k j * argO m c k j)) (N := cfg0.N) (fun n hn => (outsAt0 m c n hn).2.2.1 (ix2 0 j)) (fun h0 => ?_) (fun n hn => ?_)
  · refine (congrArg (fun p => p.2.2.1 (ix2 0 j)) (outsAt0_A m c ⟨0, h0⟩ (Nat.zero_mod 8))).trans ?_
    dsimp only
    rw [(outs_A _ _ _ _ _ _ _ _ c _ _ _ _ _ _ _ _ _ _ _ _ _ _ _ _ _ _ _ _ _ _ _ _ _ _ _ _ _ _).2.2.1, dgate_at, (zeros_at j).1, zero_add]
    refine term_part (fun k => DX m c k j * argO m c k j) _ 0 h0 fun r i h => ?_
    rw [blk0 m c ⟨0, h0⟩ r i h, blk1 m c ⟨0, h0⟩ r i h, blk2 m c ⟨0, h0⟩ r i h, blk3 m c ⟨0, h0⟩ r i h, blk4 m c ⟨0, h0⟩, blk5 m c ⟨0, h0⟩, blk6 m c ⟨0, h0⟩]
    rfl
  · refine (congrArg (fun p => p.2.2.1 (ix2 0 j)) (outsAt0_B m c ⟨n + 1, hn⟩ (later n hn))).trans ?_
    dsimp only
    rw [(outs_B _ _ _ _ _ _ _ _ c _ _ _ _ _ _ _ _ _ _ _ _ _ _ _ _ _ _ _ _ _ _ _ _ _ _ _ _ _ _ _ _ _ _).2.2.1, dgate_at]
    refine congrArg₂ (· + ·) rfl ?_
    refine term_part (fun k => DX m c k j * argO m c k j) _ (n + 1) hn fun r i h => ?_
    rw [blk0 m c ⟨n + 1, hn⟩ r i h, blk1 m c ⟨n + 1, hn⟩ r i h, blk2 m c ⟨n + 1, hn⟩ r i h, blk3 m c ⟨n + 1, hn⟩ r i h, blk4 m c ⟨n + 1, hn⟩, blk5 m c ⟨n + 1, hn⟩, blk6 m c ⟨n + 1, hn⟩]
    rfl

/-- The gate's gradient. -/
theorem result10 (j : Fin 1024) : (dats m 0 c).arrAt 10 cfg0.N (ix2 0 j) = ∑ k : Fin 4096, DX m c k j * argO m c k j := by
  obtain ⟨t, ht⟩ : ∃ t : Fin cfg0.N, t.val = 7 := ⟨⟨7, by show 7 < 8; omega⟩, rfl⟩
  have hb := congrFun ((dats m 0 c).read_blk_arrAt_eq_flushed 10 (fun t t' h h' hne => absurd (Fin.ext (by
    rw [flush10, decide_eq_true_eq] at h h'; omega)) hne) cfg0.N t t.isLt (by rw [flush10, ht]; rfl)) (ix2 0 j)
  rw [Value.flushed10, View.read_apply] at hb
  refine (at2 ((dats m 0 c).arrAt 10 cfg0.N) 0 j _ (whole (idx10 t).1) (whole (idx10 t).2)).symm.trans (hb.trans ?_)
  show (outsAt0 m c t.val t.isLt).2.2.1 (ix2 0 j) = _
  rw [sum10, ht]
  exact term_sum (fun k => DX m c k j * argO m c k j)

theorem idx11 : ∀ t : Fin cfg0.N, win0_11.index t 0 = 0 ∧ win0_11.index t 1 = 0 := by decide +kernel
theorem flush11 : ∀ t : Fin cfg0.N, (cfg0.win 11).flush t = decide (t.val = 7) := by decide +kernel

theorem sum11 (j : Fin 1024) : ∀ (n : ℕ) (hn : n < cfg0.N), (outsAt0 m c n hn).2.2.2.1 (ix2 0 j) = ∑ k ∈ Finset.range (n * 512 + 512), term (fun k => UN m c k j * lin (argH m c k) (argS m c) j) k := by
  refine by_parts (term (fun k => UN m c k j * lin (argH m c k) (argS m c) j)) (N := cfg0.N) (fun n hn => (outsAt0 m c n hn).2.2.2.1 (ix2 0 j)) (fun h0 => ?_) (fun n hn => ?_)
  · refine (congrArg (fun p => p.2.2.2.1 (ix2 0 j)) (outsAt0_A m c ⟨0, h0⟩ (Nat.zero_mod 8))).trans ?_
    dsimp only
    rw [(outs_A _ _ _ _ _ _ _ _ c _ _ _ _ _ _ _ _ _ _ _ _ _ _ _ _ _ _ _ _ _ _ _ _ _ _ _ _ _ _).2.2.2.1, dnorm_at, (zeros_at j).2.1, zero_add]
    refine term_part (fun k => UN m c k j * lin (argH m c k) (argS m c) j) _ 0 h0 fun r i h => ?_
    rw [blk0 m c ⟨0, h0⟩ r i h, blk1 m c ⟨0, h0⟩ r i h, blk2 m c ⟨0, h0⟩ r i h, blk4 m c ⟨0, h0⟩, blk6 m c ⟨0, h0⟩]
    rfl
  · refine (congrArg (fun p => p.2.2.2.1 (ix2 0 j)) (outsAt0_B m c ⟨n + 1, hn⟩ (later n hn))).trans ?_
    dsimp only
    rw [(outs_B _ _ _ _ _ _ _ _ c _ _ _ _ _ _ _ _ _ _ _ _ _ _ _ _ _ _ _ _ _ _ _ _ _ _ _ _ _ _ _ _ _ _).2.2.2.1, dnorm_at]
    refine congrArg₂ (· + ·) rfl ?_
    refine term_part (fun k => UN m c k j * lin (argH m c k) (argS m c) j) _ (n + 1) hn fun r i h => ?_
    rw [blk0 m c ⟨n + 1, hn⟩ r i h, blk1 m c ⟨n + 1, hn⟩ r i h, blk2 m c ⟨n + 1, hn⟩ r i h, blk4 m c ⟨n + 1, hn⟩, blk6 m c ⟨n + 1, hn⟩]
    rfl

/-- The norm's weight's gradient. -/
theorem result11 (j : Fin 1024) : (dats m 0 c).arrAt 11 cfg0.N (ix2 0 j) = ∑ k : Fin 4096, UN m c k j * lin (argH m c k) (argS m c) j := by
  obtain ⟨t, ht⟩ : ∃ t : Fin cfg0.N, t.val = 7 := ⟨⟨7, by show 7 < 8; omega⟩, rfl⟩
  have hb := congrFun ((dats m 0 c).read_blk_arrAt_eq_flushed 11 (fun t t' h h' hne => absurd (Fin.ext (by
    rw [flush11, decide_eq_true_eq] at h h'; omega)) hne) cfg0.N t t.isLt (by rw [flush11, ht]; rfl)) (ix2 0 j)
  rw [Value.flushed11, View.read_apply] at hb
  refine (at2 ((dats m 0 c).arrAt 11 cfg0.N) 0 j _ (whole (idx11 t).1) (whole (idx11 t).2)).symm.trans (hb.trans ?_)
  show (outsAt0 m c t.val t.isLt).2.2.2.1 (ix2 0 j) = _
  rw [sum11, ht]
  exact term_sum (fun k => UN m c k j * lin (argH m c k) (argS m c) j)

theorem idx12 : ∀ t : Fin cfg0.N, win0_12.index t 0 = 0 ∧ win0_12.index t 1 = 0 := by decide +kernel
theorem flush12 : ∀ t : Fin cfg0.N, (cfg0.win 12).flush t = decide (t.val = 7) := by decide +kernel

theorem sum12 (j : Fin 1024) : ∀ (n : ℕ) (hn : n < cfg0.N), (outsAt0 m c n hn).2.2.2.2.1 (ix2 0 j) = ∑ k ∈ Finset.range (n * 512 + 512), term (fun k => UN m c k j * argN m c j * argH m c k j) k := by
  refine by_parts (term (fun k => UN m c k j * argN m c j * argH m c k j)) (N := cfg0.N) (fun n hn => (outsAt0 m c n hn).2.2.2.2.1 (ix2 0 j)) (fun h0 => ?_) (fun n hn => ?_)
  · refine (congrArg (fun p => p.2.2.2.2.1 (ix2 0 j)) (outsAt0_A m c ⟨0, h0⟩ (Nat.zero_mod 8))).trans ?_
    dsimp only
    rw [(outs_A _ _ _ _ _ _ _ _ c _ _ _ _ _ _ _ _ _ _ _ _ _ _ _ _ _ _ _ _ _ _ _ _ _ _ _ _ _ _).2.2.2.2.1, dscale_at, (zeros_at j).2.2.1, zero_add]
    refine term_part (fun k => UN m c k j * argN m c j * argH m c k j) _ 0 h0 fun r i h => ?_
    rw [blk0 m c ⟨0, h0⟩ r i h, blk1 m c ⟨0, h0⟩ r i h, blk2 m c ⟨0, h0⟩ r i h, blk4 m c ⟨0, h0⟩, blk5 m c ⟨0, h0⟩]
    rfl
  · refine (congrArg (fun p => p.2.2.2.2.1 (ix2 0 j)) (outsAt0_B m c ⟨n + 1, hn⟩ (later n hn))).trans ?_
    dsimp only
    rw [(outs_B _ _ _ _ _ _ _ _ c _ _ _ _ _ _ _ _ _ _ _ _ _ _ _ _ _ _ _ _ _ _ _ _ _ _ _ _ _ _ _ _ _ _).2.2.2.2.1, dscale_at]
    refine congrArg₂ (· + ·) rfl ?_
    refine term_part (fun k => UN m c k j * argN m c j * argH m c k j) _ (n + 1) hn fun r i h => ?_
    rw [blk0 m c ⟨n + 1, hn⟩ r i h, blk1 m c ⟨n + 1, hn⟩ r i h, blk2 m c ⟨n + 1, hn⟩ r i h, blk4 m c ⟨n + 1, hn⟩, blk5 m c ⟨n + 1, hn⟩]
    rfl

/-- The scale's gradient. -/
theorem result12 (j : Fin 1024) : (dats m 0 c).arrAt 12 cfg0.N (ix2 0 j) = ∑ k : Fin 4096, UN m c k j * argN m c j * argH m c k j := by
  obtain ⟨t, ht⟩ : ∃ t : Fin cfg0.N, t.val = 7 := ⟨⟨7, by show 7 < 8; omega⟩, rfl⟩
  have hb := congrFun ((dats m 0 c).read_blk_arrAt_eq_flushed 12 (fun t t' h h' hne => absurd (Fin.ext (by
    rw [flush12, decide_eq_true_eq] at h h'; omega)) hne) cfg0.N t t.isLt (by rw [flush12, ht]; rfl)) (ix2 0 j)
  rw [Value.flushed12, View.read_apply] at hb
  refine (at2 ((dats m 0 c).arrAt 12 cfg0.N) 0 j _ (whole (idx12 t).1) (whole (idx12 t).2)).symm.trans (hb.trans ?_)
  show (outsAt0 m c t.val t.isLt).2.2.2.2.1 (ix2 0 j) = _
  rw [sum12, ht]
  exact term_sum (fun k => UN m c k j * argN m c j * argH m c k j)

theorem idx13 : ∀ t : Fin cfg0.N, win0_13.index t 0 = 0 ∧ win0_13.index t 1 = 0 := by decide +kernel
theorem flush13 : ∀ t : Fin cfg0.N, (cfg0.win 13).flush t = decide (t.val = 7) := by decide +kernel

theorem sum13 (j : Fin 1024) : ∀ (n : ℕ) (hn : n < cfg0.N), (outsAt0 m c n hn).2.2.2.2.2 (ix2 0 j) = ∑ k ∈ Finset.range (n * 512 + 512), term (fun k => argH m c k j) k := by
  refine by_parts (term (fun k => argH m c k j)) (N := cfg0.N) (fun n hn => (outsAt0 m c n hn).2.2.2.2.2 (ix2 0 j)) (fun h0 => ?_) (fun n hn => ?_)
  · refine (congrArg (fun p => p.2.2.2.2.2 (ix2 0 j)) (outsAt0_A m c ⟨0, h0⟩ (Nat.zero_mod 8))).trans ?_
    dsimp only
    rw [(outs_A _ _ _ _ _ _ _ _ c _ _ _ _ _ _ _ _ _ _ _ _ _ _ _ _ _ _ _ _ _ _ _ _ _ _ _ _ _ _).2.2.2.2.2, dshift_at, (zeros_at j).2.2.2, zero_add]
    refine term_part (fun k => argH m c k j) _ 0 h0 fun r i h => ?_
    rw [blk2 m c ⟨0, h0⟩ r i h]
  · refine (congrArg (fun p => p.2.2.2.2.2 (ix2 0 j)) (outsAt0_B m c ⟨n + 1, hn⟩ (later n hn))).trans ?_
    dsimp only
    rw [(outs_B _ _ _ _ _ _ _ _ c _ _ _ _ _ _ _ _ _ _ _ _ _ _ _ _ _ _ _ _ _ _ _ _ _ _ _ _ _ _ _ _ _ _).2.2.2.2.2, dshift_at]
    refine congrArg₂ (· + ·) rfl ?_
    refine term_part (fun k => argH m c k j) _ (n + 1) hn fun r i h => ?_
    rw [blk2 m c ⟨n + 1, hn⟩ r i h]

/-- The shift's gradient. -/
theorem result13 (j : Fin 1024) : (dats m 0 c).arrAt 13 cfg0.N (ix2 0 j) = ∑ k : Fin 4096, argH m c k j := by
  obtain ⟨t, ht⟩ : ∃ t : Fin cfg0.N, t.val = 7 := ⟨⟨7, by show 7 < 8; omega⟩, rfl⟩
  have hb := congrFun ((dats m 0 c).read_blk_arrAt_eq_flushed 13 (fun t t' h h' hne => absurd (Fin.ext (by
    rw [flush13, decide_eq_true_eq] at h h'; omega)) hne) cfg0.N t t.isLt (by rw [flush13, ht]; rfl)) (ix2 0 j)
  rw [Value.flushed13, View.read_apply] at hb
  refine (at2 ((dats m 0 c).arrAt 13 cfg0.N) 0 j _ (whole (idx13 t).1) (whole (idx13 t).2)).symm.trans (hb.trans ?_)
  show (outsAt0 m c t.val t.isLt).2.2.2.2.2 (ix2 0 j) = _
  rw [sum13, ht]
  exact term_sum (fun k => argH m c k j)

end Call

section Reference

open Cert.Reference52Ideal Cert.Reference52Ideal.Gen Idealize.ShloMosaic Idealize.ShloMosaic.TcCoe Norm

/-- The reference's residual and mean square. -/
def rU (x o : FVec Ideal S4096x1024 .f32) (g : FVec Ideal S1024 .f32) : FVec Ideal S4096x1024 .f32 := addf x (mulf (broadcastInDim S4096x1024 ![0, 1] bcast_S1x1024_S4096x1024_0_1 (broadcastInDim S1x1024 ![1] bcast_S1024_S1x1024_1 g)) o)
def rM (u : FVec Ideal S4096x1024 .f32) : FVec Ideal S4096x1 .f32 := addf (Host.divf (broadcastInDim S4096x1 ![0] bcast_S4096_S4096x1_0 (Host.reduceAdd (mulf u u) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def rL (h : FVec Ideal S4096x1024 .f32) (s : FVec Ideal S1024 .f32) : FVec Ideal S4096x1024 .f32 := mulf (shapeCast _ h shapeCasts_S4096x1024_S4096x1024) (broadcastInDim S4096x1024 ![0, 1] bcast_S1x1024_S4096x1024_0_1 (broadcastInDim S1x1024 ![1] bcast_S1024_S1x1024_1 (addf (broadcastInDim S1024 ![] bcast_S_S1024 (constant S_ .f32 0x3F800000#32)) s)))
def rY (h : FVec Ideal S4096x1024 .f32) (s n : FVec Ideal S1024 .f32) : FVec Ideal S4096x1024 .f32 := mulf (rL h s) (broadcastInDim S4096x1024 ![0, 1] bcast_S1x1024_S4096x1024_0_1 (broadcastInDim S1x1024 ![1] bcast_S1024_S1x1024_1 n))
def rN (u : FVec Ideal S4096x1024 .f32) : FVec Ideal S4096x1024 .f32 := mulf u (broadcastInDim S4096x1024 ![0, 1] bcast_S4096x1_S4096x1024_0_1 (Host.rsqrt (rM u)))

/-- The reference's six results. -/
def rD (x o : FVec Ideal S4096x1024 .f32) (g n s : FVec Ideal S1024 .f32) (h d : FVec Ideal S4096x1024 .f32) : FVec Ideal S4096x1024 .f32 := addf (addf (addf d (mulf (rY h s n) (broadcastInDim S4096x1024 ![0, 1] bcast_S4096x1_S4096x1024_0_1 (Host.rsqrt (rM (rU x o g)))))) (mulf (rU x o g) (broadcastInDim S4096x1024 ![0] bcast_S4096_S4096x1024_0 (Host.reduceAdd (Host.divf (mulf (shapeCast _ (Host.reduceAdd (mulf (rU x o g) (rY h s n)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (rM (rU x o g))) (rM (rU x o g))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (rU x o g) (rY h s n)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (rM (rU x o g))) (rM (rU x o g))))) (broadcastInDim S4096x1 ![] bcast_S_S4096x1 (constant S_ .f32 0x44800000#32))) (constant S_ .f32 0x00000000#32) reducesTo_S4096x1_S4096_d1 h_S_)) (rU x o g))
def rO (x o : FVec Ideal S4096x1024 .f32) (g n s : FVec Ideal S1024 .f32) (h d : FVec Ideal S4096x1024 .f32) : FVec Ideal S4096x1024 .bf16 := truncf .bf16 (mulf (broadcastInDim S4096x1024 ![0, 1] bcast_S1x1024_S4096x1024_0_1 (broadcastInDim S1x1024 ![1] bcast_S1024_S1x1024_1 g)) (shapeCast _ (rD x o g n s h d) shapeCasts_S4096x1024_S4096x1024)) bitsLt_bf16_f32
def rG (x o : FVec Ideal S4096x1024 .f32) (g n s : FVec Ideal S1024 .f32) (h d : FVec Ideal S4096x1024 .f32) : FVec Ideal S1x1024 .f32 := shapeCast _ (Host.reduceAdd (shapeCast _ (Host.reduceAdd (mulf (shapeCast _ (rD x o g n s h d) shapeCasts_S4096x1024_S4096x1024) o) (constant S_ .f32 0x00000000#32) reducesTo_S4096x1024_S1024_d0 h_S_) shapeCasts_S1024_S1x1024) (constant S_ .f32 0x00000000#32) reducesTo_S1x1024_S1024_d0 h_S_) shapeCasts_S1024_S1x1024
def rW (x o : FVec Ideal S4096x1024 .f32) (g s : FVec Ideal S1024 .f32) (h : FVec Ideal S4096x1024 .f32) : FVec Ideal S1x1024 .f32 := shapeCast _ (Host.reduceAdd (shapeCast _ (Host.reduceAdd (mulf (rN (rU x o g)) (rL h s)) (constant S_ .f32 0x00000000#32) reducesTo_S4096x1024_S1024_d0 h_S_) shapeCasts_S1024_S1x1024) (constant S_ .f32 0x00000000#32) reducesTo_S1x1024_S1024_d0 h_S_) shapeCasts_S1024_S1x1024
def rS (x o : FVec Ideal S4096x1024 .f32) (g n : FVec Ideal S1024 .f32) (h : FVec Ideal S4096x1024 .f32) : FVec Ideal S1x1024 .f32 := shapeCast _ (Host.reduceAdd (shapeCast _ (Host.reduceAdd (mulf (mulf (rN (rU x o g)) (broadcastInDim S4096x1024 ![0, 1] bcast_S1x1024_S4096x1024_0_1 (broadcastInDim S1x1024 ![1] bcast_S1024_S1x1024_1 n))) (shapeCast _ h shapeCasts_S4096x1024_S4096x1024)) (constant S_ .f32 0x00000000#32) reducesTo_S4096x1024_S1024_d0 h_S_) shapeCasts_S1024_S1x1024) (constant S_ .f32 0x00000000#32) reducesTo_S1x1024_S1024_d0 h_S_) shapeCasts_S1024_S1x1024
def rB (h : FVec Ideal S4096x1024 .f32) : FVec Ideal S1x1024 .f32 := shapeCast _ (Host.reduceAdd (shapeCast _ (Host.reduceAdd h (constant S_ .f32 0x00000000#32) reducesTo_S4096x1024_S1024_d0 h_S_) shapeCasts_S1024_S1x1024) (constant S_ .f32 0x00000000#32) reducesTo_S1x1024_S1024_d0 h_S_) shapeCasts_S1024_S1x1024

theorem one_row (f : Fin 4096 → EReal) : ∑ _x : Fin 1, ∑ k : Fin 4096, f k = ∑ k : Fin 4096, f k := Fin.sum_univ_one _

variable (x o : FVec Ideal S4096x1024 .f32) (g n s : FVec Ideal S1024 .f32) (h d : FVec Ideal S4096x1024 .f32) (i : Fin 4096) (j : Fin 1024)

theorem rU_at : rU x o g (ix2 i j) = res (fun k => x (ix2 i k)) (fun k => o (ix2 i k)) (fun k => g (ix1 k)) j := by
  unfold rU res
  pointwise

theorem rM_at (u : FVec Ideal S4096x1024 .f32) : rM u (ix2 i 0) = msq (fun k => u (ix2 i k)) := by
  unfold rM msq
  pointwise

theorem rL_at : rL h s (ix2 i j) = lin (fun k => h (ix2 i k)) (fun k => s (ix1 k)) j := by
  unfold rL lin
  pointwise

theorem rY_at : rY h s n (ix2 i j) = dun (fun k => h (ix2 i k)) (fun k => s (ix1 k)) (fun k => n (ix1 k)) j := by
  unfold rY dun
  rw [← rL_at]
  generalize rL h s = L
  pointwise

theorem rN_at : rN (rU x o g) (ix2 i j) = unit (res (fun k => x (ix2 i k)) (fun k => o (ix2 i k)) (fun k => g (ix1 k))) j := by
  unfold rN unit
  rw [← funext (rU_at x o g i), ← rM_at]
  generalize rU x o g = u
  generalize rM u = M
  pointwise

theorem rD_at : rD x o g n s h d (ix2 i j) = dres (res (fun k => x (ix2 i k)) (fun k => o (ix2 i k)) (fun k => g (ix1 k))) (dun (fun k => h (ix2 i k)) (fun k => s (ix1 k)) (fun k => n (ix1 k))) (fun k => d (ix2 i k)) j := by
  unfold rD dres half
  rw [← funext (rU_at x o g i), ← funext (rY_at n s h i), ← rM_at]
  generalize rY h s n = Y
  generalize rU x o g = u
  generalize rM u = M
  pointwise
  simp only [Fin.sum_univ_one]

theorem rO_at : rO x o g n s h d (ix2 i j) = g (ix1 j) * dres (res (fun k => x (ix2 i k)) (fun k => o (ix2 i k)) (fun k => g (ix1 k))) (dun (fun k => h (ix2 i k)) (fun k => s (ix1 k)) (fun k => n (ix1 k))) (fun k => d (ix2 i k)) j := by
  rw [← rD_at]
  unfold rO
  generalize rD x o g n s h d = D
  pointwise

theorem rG_at : rG x o g n s h d (ix2 0 j) = ∑ k : Fin 4096, dres (res (fun l => x (ix2 k l)) (fun l => o (ix2 k l)) (fun l => g (ix1 l))) (dun (fun l => h (ix2 k l)) (fun l => s (ix1 l)) (fun l => n (ix1 l))) (fun l => d (ix2 k l)) j * o (ix2 k j) := by
  simp only [← rD_at]
  unfold rG
  generalize rD x o g n s h d = D
  rw [← one_row]
  pointwise

theorem rW_at : rW x o g s h (ix2 0 j) = ∑ k : Fin 4096, unit (res (fun l => x (ix2 k l)) (fun l => o (ix2 k l)) (fun l => g (ix1 l))) j * lin (fun l => h (ix2 k l)) (fun k => s (ix1 k)) j := by
  simp only [← rN_at, ← rL_at]
  unfold rW
  generalize rN (rU x o g) = N
  generalize rL h s = L
  rw [← one_row]
  pointwise

theorem rS_at : rS x o g n h (ix2 0 j) = ∑ k : Fin 4096, unit (res (fun l => x (ix2 k l)) (fun l => o (ix2 k l)) (fun l => g (ix1 l))) j * n (ix1 j) * h (ix2 k j) := by
  simp only [← rN_at]
  unfold rS
  generalize rN (rU x o g) = N
  rw [← one_row]
  pointwise

theorem rB_at : rB h (ix2 0 j) = ∑ k : Fin 4096, h (ix2 k j) := by
  unfold rB
  rw [← one_row]
  pointwise

/-- The reference ends, its arguments unchanged and every counter at zero. -/
theorem ref_frame : Cert.quiescent_Reference52Ideal := fun m ρ _ =>
  (θ_run defs _ _).mono (fun r h => ⟨fun c => (h c).2.2.2.2.2.2, Idealize.ShloMosaic.sem_eq_zero_of_no_sems (by decide) r.2⟩) (Value.run m ρ)

end Reference

open Idealize.ShloMosaic Idealize.ShloMosaic.TcCoe Cert.Kernel52Ideal.Gen in
set_option maxHeartbeats 1600000 in
/-- The call and its reference end with the same arrays, at every argument. -/
theorem algebraic : Cert.algebraic_Kernel52Ideal_Reference52Ideal := by
  intro m g m' g' _ heq
  refine ⟨fun c => (dats m 0 c).arrAt 8 Cert.Kernel52Ideal.cfg0.N, fun c => (dats m 0 c).arrAt 9 Cert.Kernel52Ideal.cfg0.N, fun c => (dats m 0 c).arrAt 10 Cert.Kernel52Ideal.cfg0.N, fun c => (dats m 0 c).arrAt 11 Cert.Kernel52Ideal.cfg0.N, fun c => (dats m 0 c).arrAt 12 Cert.Kernel52Ideal.cfg0.N, fun c => (dats m 0 c).arrAt 13 Cert.Kernel52Ideal.cfg0.N, Cert.Kernel52Ideal.Value.run_blocks m g,
    (θ_run Cert.Reference52Ideal.defs _ _).mono (fun r h c => ?_) (Cert.Reference52Ideal.Value.run m' g')⟩
  obtain ⟨h0, h1, h2, h3, h4, h5, ha⟩ := h c
  obtain ⟨e0, e1, e2, e3, e4, e5, e6, e7⟩ := heq c
  unfold Cert.Reference52Ideal.Value.res_main_v67 at h2
  rw [e0, e1, e2, e3, e4, e6, e7] at h2
  unfold Cert.Reference52Ideal.Value.res_main_v66 at h1
  rw [e0, e1, e2, e3, e4, e6, e7] at h1
  unfold Cert.Reference52Ideal.Value.res_main_v58 at h0
  rw [e0, e1, e2, e3, e4, e6, e7] at h0
  rw [e0, e1, e2, e4, e6] at h3
  rw [e0, e1, e2, e3, e6] at h4
  rw [e6] at h5
  refine ⟨h0.trans (Eq.trans (b := rD _ _ _ _ _ _ _) rfl ?_), h1.trans (Eq.trans (b := rO _ _ _ _ _ _ _) rfl ?_), h2.trans (Eq.trans (b := rG _ _ _ _ _ _ _) rfl ?_), h3.trans (Eq.trans (b := rW _ _ _ _ _) rfl ?_), h4.trans (Eq.trans (b := rS _ _ _ _ _) rfl ?_), h5.trans (Eq.trans (b := rB _) rfl ?_), ha⟩
  · funext y
    obtain ⟨i, j, rfl⟩ := Products.rowcol (n0 := 4096) (n1 := 1024) y
    exact (rD_at _ _ _ _ _ _ _ i j).trans (result8 m c i j).symm
  · funext y
    obtain ⟨i, j, rfl⟩ := Products.rowcol (n0 := 4096) (n1 := 1024) y
    exact (rO_at _ _ _ _ _ _ _ i j).trans (result9 m c i j).symm
  · funext y
    obtain ⟨k, j, rfl⟩ : ∃ (k : Fin 1) (j : Fin 1024), y = ix2 k j := ⟨y 0, y 1, eq_ix2 (n0 := 1) (n1 := 1024) y⟩
    obtain rfl : k = 0 := Subsingleton.elim _ _
    exact (rG_at _ _ _ _ _ _ _ j).trans (result10 m c j).symm
  · funext y
    obtain ⟨k, j, rfl⟩ : ∃ (k : Fin 1) (j : Fin 1024), y = ix2 k j := ⟨y 0, y 1, eq_ix2 (n0 := 1) (n1 := 1024) y⟩
    obtain rfl : k = 0 := Subsingleton.elim _ _
    exact (rW_at _ _ _ _ _ j).trans (result11 m c j).symm
  · funext y
    obtain ⟨k, j, rfl⟩ : ∃ (k : Fin 1) (j : Fin 1024), y = ix2 k j := ⟨y 0, y 1, eq_ix2 (n0 := 1) (n1 := 1024) y⟩
    obtain rfl : k = 0 := Subsingleton.elim _ _
    exact (rS_at _ _ _ _ _ j).trans (result12 m c j).symm
  · funext y
    obtain ⟨k, j, rfl⟩ : ∃ (k : Fin 1) (j : Fin 1024), y = ix2 k j := ⟨y 0, y 1, eq_ix2 (n0 := 1) (n1 := 1024) y⟩
    obtain rfl : k = 0 := Subsingleton.elim _ _
    exact (rB_at _ j).trans (result13 m c j).symm

end Cert.Proof.Norm2Bwd
-- ==== Proof.lean ====
/- The certificate's claims, assembled: the generated frames of the kernel and of its ideal program, the reference's frame,
   the two named constants, and the equation of the two programs' results (`Proof/Algebra.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebra
public import proofs.«01_k».proof.Proof.RefFrame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.GWDown
public import proofs.«01_k».proof.Proof.DH2
public import proofs.«01_k».proof.Proof.GWUp
public import proofs.«01_k».proof.Proof.GWIn
public import proofs.«01_k».proof.Proof.DH
public import proofs.«01_k».proof.Proof.WUp
public import proofs.«01_k».proof.Proof.WDown
public import proofs.«01_k».proof.Proof.DF
public import proofs.«01_k».proof.Proof.WIn
public import proofs.«01_k».proof.Proof.WUq
public import proofs.«01_k».proof.Proof.WUkv
public import proofs.«01_k».proof.Proof.WOAttn
public import proofs.«01_k».proof.Proof.WOLru
public import proofs.«01_k».proof.Proof.WOut
public import proofs.«01_k».proof.Proof.DMerge
public import proofs.«01_k».proof.Proof.DAttn
public import proofs.«01_k».proof.Proof.DLruOut
public import proofs.«01_k».proof.Proof.DQn
public import proofs.«01_k».proof.Proof.GWOut
public import proofs.«01_k».proof.Proof.GWOAttn
public import proofs.«01_k».proof.Proof.GWOLru
public import proofs.«01_k».proof.Proof.GWUq
public import proofs.«01_k».proof.Proof.DKvn
public import proofs.«01_k».proof.Proof.GWUkv
public import proofs.«01_k».proof.Proof.Gen.Kernel27.Frame
public import proofs.«01_k».proof.Proof.Gen.Kernel28.Frame
public import proofs.«01_k».proof.Proof.Gen.Kernel31.Frame
public import proofs.«01_k».proof.Proof.Gen.Kernel32.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Gen.Kernel38.Frame
public import proofs.«01_k».proof.Proof.Gen.Kernel39.Frame
public import proofs.«01_k».proof.Proof.Gen.Kernel40.Frame
public import proofs.«01_k».proof.Proof.Gen.Kernel41.Frame
public import proofs.«01_k».proof.Proof.Gen.Kernel42.Frame
public import proofs.«01_k».proof.Proof.Gen.Kernel43.Frame
public import proofs.«01_k».proof.Proof.Gen.Kernel44.Frame
public import proofs.«01_k».proof.Proof.Gen.Kernel45.Frame
public import proofs.«01_k».proof.Proof.Gen.Kernel46.Frame
public import proofs.«01_k».proof.Proof.Gen.Kernel47.Frame
public import proofs.«01_k».proof.Proof.Gen.Kernel48.Frame
public import proofs.«01_k».proof.Proof.Gen.Kernel49.Frame
public import proofs.«01_k».proof.Proof.Gen.Kernel50.Frame
public import proofs.«01_k».proof.Proof.Gen.Kernel51.Frame
public import proofs.«01_k».proof.Proof.Gen.Kernel52.Frame
public import proofs.«01_k».proof.Proof.ConvGate
public import proofs.«01_k».proof.Proof.ConvGateBwd
public import proofs.«01_k».proof.Proof.Merge
public import proofs.«01_k».proof.Proof.MergeBwd
public import proofs.«01_k».proof.Proof.AdamWMod
public import proofs.«01_k».proof.Proof.AdamWUkv
public import proofs.«01_k».proof.Proof.AdamWOAttn
public import proofs.«01_k».proof.Proof.ModProj
public import proofs.«01_k».proof.Proof.GWMod
public import proofs.«01_k».proof.Proof.DCond
public import proofs.«01_k».proof.Proof.StepWIn
public import proofs.«01_k».proof.Proof.StepWUq
public import proofs.«01_k».proof.Proof.StepWOLru
public import proofs.«01_k».proof.Proof.StepWOut
public import proofs.«01_k».proof.Proof.StepWUp
public import proofs.«01_k».proof.Proof.StepWDown
public import proofs.«01_k».proof.Proof.SumWUkv
public import proofs.«01_k».proof.Proof.SumWOAttn
public import proofs.«01_k».proof.Proof.SumSmall
public import proofs.«01_k».proof.Proof.SumLruWA
public import proofs.«01_k».proof.Proof.SumLruWX
public import proofs.«01_k».proof.Proof.Norm2
public import proofs.«01_k».proof.Proof.Norm2Bwd
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Kernel43.Gen.facts, Cert.Kernel43Ideal.Gen.facts, Cert.Reference43Ideal.Gen.facts,
    Cert.Kernel44.Gen.facts, Cert.Kernel44Ideal.Gen.facts, Cert.Reference44Ideal.Gen.facts,
    Cert.Kernel45.Gen.facts, Cert.Kernel45Ideal.Gen.facts, Cert.Reference45Ideal.Gen.facts,
    Cert.Kernel46.Gen.facts, Cert.Kernel46Ideal.Gen.facts, Cert.Reference46Ideal.Gen.facts,
    Cert.Kernel47.Gen.facts, Cert.Kernel47Ideal.Gen.facts, Cert.Reference47Ideal.Gen.facts,
    Cert.Kernel48.Gen.facts, Cert.Kernel48Ideal.Gen.facts, Cert.Reference48Ideal.Gen.facts,
    Cert.Kernel49.Gen.facts, Cert.Kernel49Ideal.Gen.facts, Cert.Reference49Ideal.Gen.facts,
    Cert.Kernel50.Gen.facts, Cert.Kernel50Ideal.Gen.facts, Cert.Reference50Ideal.Gen.facts,
    Cert.Kernel51.Gen.facts, Cert.Kernel51Ideal.Gen.facts, Cert.Reference51Ideal.Gen.facts,
    Cert.Kernel52.Gen.facts, Cert.Kernel52Ideal.Gen.facts, Cert.Reference52Ideal.Gen.facts, Cert.Proof.Pre.facts, Cert.Proof.ConvGateBwd.facts,
    fun m ρ _ => Cert.Kernel.Gen.frame m ρ,
    fun m ρ _ => Cert.KernelIdeal.Gen.frame m ρ,
    fun m ρ _ => Cert.KernelIdeal.Gen.frame m ρ,
    fun m ρ _ => Cert.Proof.Ref.frame m ρ,
    fun m ρ _ => Cert.Proof.Ref.frame m ρ,
    fun m ρ _ => Cert.Kernel3.Gen.frame m ρ, fun m ρ _ => Cert.Kernel3Ideal.Gen.frame m ρ,
    Cert.Proof.GWDown.ref_frame,
    fun m ρ _ => Cert.Kernel4.Gen.frame m ρ, fun m ρ _ => Cert.Kernel4Ideal.Gen.frame m ρ,
    Cert.Proof.DH2.ref_frame,
    fun m ρ _ => Cert.Kernel5.Gen.frame m ρ, fun m ρ _ => Cert.Kernel5Ideal.Gen.frame m ρ,
    Cert.Proof.GWUp.ref_frame,
    fun m ρ _ => Cert.Kernel6.Gen.frame m ρ, fun m ρ _ => Cert.Kernel6Ideal.Gen.frame m ρ,
    Cert.Proof.GWIn.ref_frame,
    fun m ρ _ => Cert.Kernel7.Gen.frame m ρ, fun m ρ _ => Cert.Kernel7Ideal.Gen.frame m ρ,
    Cert.Proof.DH.ref_frame,
    fun m ρ _ => Cert.Kernel8.Gen.frame m ρ, fun m ρ _ => Cert.Kernel8Ideal.Gen.frame m ρ,
    Cert.Proof.WUp.ref_frame,
    fun m ρ _ => Cert.Kernel9.Gen.frame m ρ, fun m ρ _ => Cert.Kernel9Ideal.Gen.frame m ρ,
    Cert.Proof.WDown.ref_frame,
    fun m ρ _ => Cert.Kernel10.Gen.frame m ρ, fun m ρ _ => Cert.Kernel10Ideal.Gen.frame m ρ,
    Cert.Proof.DF.ref_frame,
    fun m ρ _ => Cert.Kernel11.Gen.frame m ρ, fun m ρ _ => Cert.Kernel11Ideal.Gen.frame m ρ,
    Cert.Proof.WIn.ref_frame,
    fun m ρ _ => Cert.Kernel12.Gen.frame m ρ, fun m ρ _ => Cert.Kernel12Ideal.Gen.frame m ρ,
    Cert.Proof.WUq.ref_frame,
    fun m ρ _ => Cert.Kernel13.Gen.frame m ρ, fun m ρ _ => Cert.Kernel13Ideal.Gen.frame m ρ,
    Cert.Proof.WUkv.ref_frame,
    fun m ρ _ => Cert.Kernel14.Gen.frame m ρ, fun m ρ _ => Cert.Kernel14Ideal.Gen.frame m ρ,
    Cert.Proof.WOAttn.ref_frame,
    fun m ρ _ => Cert.Kernel15.Gen.frame m ρ, fun m ρ _ => Cert.Kernel15Ideal.Gen.frame m ρ,
    Cert.Proof.WOLru.ref_frame,
    fun m ρ _ => Cert.Kernel16.Gen.frame m ρ, fun m ρ _ => Cert.Kernel16Ideal.Gen.frame m ρ,
    Cert.Proof.WOut.ref_frame,
    fun m ρ _ => Cert.Kernel17.Gen.frame m ρ, fun m ρ _ => Cert.Kernel17Ideal.Gen.frame m ρ,
    Cert.Proof.DMerge.ref_frame,
    fun m ρ _ => Cert.Kernel18.Gen.frame m ρ, fun m ρ _ => Cert.Kernel18Ideal.Gen.frame m ρ,
    Cert.Proof.DAttn.ref_frame,
    fun m ρ _ => Cert.Kernel19.Gen.frame m ρ, fun m ρ _ => Cert.Kernel19Ideal.Gen.frame m ρ,
    Cert.Proof.DLruOut.ref_frame,
    fun m ρ _ => Cert.Kernel20.Gen.frame m ρ, fun m ρ _ => Cert.Kernel20Ideal.Gen.frame m ρ,
    Cert.Proof.DQn.ref_frame,
    fun m ρ _ => Cert.Kernel21.Gen.frame m ρ, fun m ρ _ => Cert.Kernel21Ideal.Gen.frame m ρ,
    Cert.Proof.GWOut.ref_frame,
    fun m ρ _ => Cert.Kernel22.Gen.frame m ρ, fun m ρ _ => Cert.Kernel22Ideal.Gen.frame m ρ,
    Cert.Proof.GWOAttn.ref_frame,
    fun m ρ _ => Cert.Kernel23.Gen.frame m ρ, fun m ρ _ => Cert.Kernel23Ideal.Gen.frame m ρ,
    Cert.Proof.GWOLru.ref_frame,
    fun m ρ _ => Cert.Kernel24.Gen.frame m ρ, fun m ρ _ => Cert.Kernel24Ideal.Gen.frame m ρ,
    Cert.Proof.GWUq.ref_frame,
    fun m ρ _ => Cert.Kernel25.Gen.frame m ρ, fun m ρ _ => Cert.Kernel25Ideal.Gen.frame m ρ,
    Cert.Proof.DKvn.ref_frame,
    fun m ρ _ => Cert.Kernel26.Gen.frame m ρ, fun m ρ _ => Cert.Kernel26Ideal.Gen.frame m ρ,
    Cert.Proof.GWUkv.ref_frame,
    fun m ρ _ => Cert.Kernel27.Gen.frame m ρ, fun m ρ _ => Cert.Kernel27Ideal.Gen.frame m ρ,
    Cert.Proof.ConvGate.ref_frame,
    fun m ρ _ => Cert.Kernel28.Gen.frame m ρ, fun m ρ _ => Cert.Kernel28Ideal.Gen.frame m ρ, fun m ρ _ => Cert.Kernel28Ideal.Gen.frame m ρ,
    fun m ρ _ => Cert.Proof.ConvGateBwd.ref_frame m ρ, fun m ρ _ => Cert.Proof.ConvGateBwd.ref_frame m ρ,
    fun m ρ _ => Cert.Kernel31.Gen.frame m ρ, fun m ρ _ => Cert.Kernel31Ideal.Gen.frame m ρ,
    Cert.Proof.Merge.ref_frame,
    fun m ρ _ => Cert.Kernel32.Gen.frame m ρ, fun m ρ _ => Cert.Kernel32Ideal.Gen.frame m ρ,
    Cert.Proof.MergeBwd.ref_frame,
    fun m ρ _ => Cert.Kernel34.Gen.frame m ρ, fun m ρ _ => Cert.Kernel34Ideal.Gen.frame m ρ,
    Cert.Proof.AdamWMod.ref_frame,
    fun m ρ _ => Cert.Kernel35.Gen.frame m ρ, fun m ρ _ => Cert.Kernel35Ideal.Gen.frame m ρ,
    Cert.Proof.AdamWUkv.ref_frame,
    fun m ρ _ => Cert.Kernel36.Gen.frame m ρ, fun m ρ _ => Cert.Kernel36Ideal.Gen.frame m ρ,
    Cert.Proof.AdamWOAttn.ref_frame,
    fun m ρ _ => Cert.Kernel37.Gen.frame m ρ, fun m ρ _ => Cert.Kernel37Ideal.Gen.frame m ρ,
    Cert.Proof.ModProj.ref_frame,
    fun m ρ _ => Cert.Kernel38.Gen.frame m ρ, fun m ρ _ => Cert.Kernel38Ideal.Gen.frame m ρ,
    Cert.Proof.GWMod.ref_frame,
    fun m ρ _ => Cert.Kernel39.Gen.frame m ρ, fun m ρ _ => Cert.Kernel39Ideal.Gen.frame m ρ,
    Cert.Proof.DCond.ref_frame,
    fun m ρ _ => Cert.Kernel40.Gen.frame m ρ, fun m ρ _ => Cert.Kernel40Ideal.Gen.frame m ρ,
    Cert.Proof.StepWIn.ref_frame,
    fun m ρ _ => Cert.Kernel41.Gen.frame m ρ, fun m ρ _ => Cert.Kernel41Ideal.Gen.frame m ρ,
    Cert.Proof.StepWUq.ref_frame,
    fun m ρ _ => Cert.Kernel42.Gen.frame m ρ, fun m ρ _ => Cert.Kernel42Ideal.Gen.frame m ρ,
    Cert.Proof.StepWOLru.ref_frame,
    fun m ρ _ => Cert.Kernel43.Gen.frame m ρ, fun m ρ _ => Cert.Kernel43Ideal.Gen.frame m ρ,
    Cert.Proof.StepWOut.ref_frame,
    fun m ρ _ => Cert.Kernel44.Gen.frame m ρ, fun m ρ _ => Cert.Kernel44Ideal.Gen.frame m ρ,
    Cert.Proof.StepWUp.ref_frame,
    fun m ρ _ => Cert.Kernel45.Gen.frame m ρ, fun m ρ _ => Cert.Kernel45Ideal.Gen.frame m ρ,
    Cert.Proof.StepWDown.ref_frame,
    fun m ρ _ => Cert.Kernel46.Gen.frame m ρ, fun m ρ _ => Cert.Kernel46Ideal.Gen.frame m ρ,
    Cert.Proof.SumWUkv.ref_frame,
    fun m ρ _ => Cert.Kernel47.Gen.frame m ρ, fun m ρ _ => Cert.Kernel47Ideal.Gen.frame m ρ,
    Cert.Proof.SumWOAttn.ref_frame,
    fun m ρ _ => Cert.Kernel48.Gen.frame m ρ, fun m ρ _ => Cert.Kernel48Ideal.Gen.frame m ρ,
    Cert.Proof.SumSmall.ref_frame,
    fun m ρ _ => Cert.Kernel49.Gen.frame m ρ, fun m ρ _ => Cert.Kernel49Ideal.Gen.frame m ρ,
    Cert.Proof.SumLruWA.ref_frame,
    fun m ρ _ => Cert.Kernel50.Gen.frame m ρ, fun m ρ _ => Cert.Kernel50Ideal.Gen.frame m ρ,
    Cert.Proof.SumLruWX.ref_frame,
    fun m ρ _ => Cert.Kernel51.Gen.frame m ρ, fun m ρ _ => Cert.Kernel51Ideal.Gen.frame m ρ,
    Cert.Proof.Norm2.ref_frame,
    fun m ρ _ => Cert.Kernel52.Gen.frame m ρ, fun m ρ _ => Cert.Kernel52Ideal.Gen.frame m ρ,
    Cert.Proof.Norm2Bwd.ref_frame,
    ⟨IdealRules.named_const.statement Cert.KernelIdeal.κ "inv_ln2" .f32 0x3FB8AA3B#32 (((Real.log 2)⁻¹ : ℝ) : EReal) rfl,
     IdealRules.named_const.statement Cert.KernelIdeal.κ "ln2" .f32 0x3F317218#32 ((Real.log 2 : ℝ) : EReal) rfl⟩,
    Cert.Proof.algebraic,
    trivial, Cert.Proof.GWDown.algebraic,
    trivial, Cert.Proof.DH2.algebraic,
    trivial, Cert.Proof.GWUp.algebraic,
    trivial, Cert.Proof.GWIn.algebraic,
    trivial, Cert.Proof.DH.algebraic,
    trivial, Cert.Proof.WUp.algebraic,
    trivial, Cert.Proof.WDown.algebraic,
    trivial, Cert.Proof.DF.algebraic,
    trivial, Cert.Proof.WIn.algebraic,
    trivial, Cert.Proof.WUq.algebraic,
    trivial, Cert.Proof.WUkv.algebraic,
    trivial, Cert.Proof.WOAttn.algebraic,
    trivial, Cert.Proof.WOLru.algebraic,
    trivial, Cert.Proof.WOut.algebraic,
    trivial, Cert.Proof.DMerge.algebraic,
    trivial, Cert.Proof.DAttn.algebraic,
    trivial, Cert.Proof.DLruOut.algebraic,
    trivial, Cert.Proof.DQn.algebraic,
    trivial, Cert.Proof.GWOut.algebraic,
    trivial, Cert.Proof.GWOAttn.algebraic,
    trivial, Cert.Proof.GWOLru.algebraic,
    trivial, Cert.Proof.GWUq.algebraic,
    trivial, Cert.Proof.DKvn.algebraic,
    trivial, Cert.Proof.GWUkv.algebraic,
    trivial, Cert.Proof.ConvGate.algebraic,
    trivial, Cert.Proof.ConvGateBwd.algebraic,
    trivial, Cert.Proof.Merge.algebraic,
    trivial, Cert.Proof.MergeBwd.algebraic,
    trivial, Cert.Proof.AdamWMod.algebraic,
    trivial, Cert.Proof.AdamWUkv.algebraic,
    trivial, Cert.Proof.AdamWOAttn.algebraic,
    trivial, Cert.Proof.ModProj.algebraic,
    trivial, Cert.Proof.GWMod.algebraic,
    trivial, Cert.Proof.DCond.algebraic,
    trivial, Cert.Proof.StepWIn.algebraic,
    trivial, Cert.Proof.StepWUq.algebraic,
    trivial, Cert.Proof.StepWOLru.algebraic,
    trivial, Cert.Proof.StepWOut.algebraic,
    trivial, Cert.Proof.StepWUp.algebraic,
    trivial, Cert.Proof.StepWDown.algebraic,
    trivial, Cert.Proof.SumWUkv.algebraic,
    trivial, Cert.Proof.SumWOAttn.algebraic,
    trivial, Cert.Proof.SumSmall.algebraic,
    trivial, Cert.Proof.SumLruWA.algebraic,
    trivial, Cert.Proof.SumLruWX.algebraic,
    trivial, Cert.Proof.Norm2.algebraic,
    trivial, Cert.Proof.Norm2Bwd.algebraic⟩

end Cert.Proof

end
